-- ==== Defs.lean ====
def Pre_Dil1 (m : (ℓ : Loc Cert.Dil1.nD Cert.Dil1.τ Cert.Dil1.sig) → Buf (Elt Bits) ℓ) : Prop :=
  True

def Pre_Dil1Ideal (m : (ℓ : Loc Cert.Dil1Ideal.nD Cert.Dil1Ideal.τ Cert.Dil1Ideal.sig) → Buf (Elt Ideal) ℓ) : Prop :=
  True

def Pre_Ref1Ideal (m : (ℓ : Loc Cert.Ref1Ideal.nD Cert.Ref1Ideal.τ Cert.Ref1Ideal.sig) → Buf (Elt Ideal) ℓ) : Prop :=
  True

def Pre_Dil4 (m : (ℓ : Loc Cert.Dil4.nD Cert.Dil4.τ Cert.Dil4.sig) → Buf (Elt Bits) ℓ) : Prop :=
  True

def Pre_Dil4Ideal (m : (ℓ : Loc Cert.Dil4Ideal.nD Cert.Dil4Ideal.τ Cert.Dil4Ideal.sig) → Buf (Elt Ideal) ℓ) : Prop :=
  True

def Pre_Ref4Ideal (m : (ℓ : Loc Cert.Ref4Ideal.nD Cert.Ref4Ideal.τ Cert.Ref4Ideal.sig) → Buf (Elt Ideal) ℓ) : Prop :=
  True

def Pre_Dil16 (m : (ℓ : Loc Cert.Dil16.nD Cert.Dil16.τ Cert.Dil16.sig) → Buf (Elt Bits) ℓ) : Prop :=
  True

def Pre_Dil16Ideal (m : (ℓ : Loc Cert.Dil16Ideal.nD Cert.Dil16Ideal.τ Cert.Dil16Ideal.sig) → Buf (Elt Ideal) ℓ) : Prop :=
  True

def Pre_Ref16Ideal (m : (ℓ : Loc Cert.Ref16Ideal.nD Cert.Ref16Ideal.τ Cert.Ref16Ideal.sig) → Buf (Elt Ideal) ℓ) : Prop :=
  True

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_RefPostIdeal (m : (ℓ : Loc Cert.RefPostIdeal.nD Cert.RefPostIdeal.τ Cert.RefPostIdeal.sig) → Buf (Elt Ideal) ℓ) : Prop :=
  True

def Pre_PostS (m : (ℓ : Loc Cert.PostS.nD Cert.PostS.τ Cert.PostS.sig) → Buf (Elt Bits) ℓ) : Prop :=
  True

def Pre_PostSIdeal (m : (ℓ : Loc Cert.PostSIdeal.nD Cert.PostSIdeal.τ Cert.PostSIdeal.sig) → Buf (Elt Ideal) ℓ) : Prop :=
  True

def Pre_RefPostSIdeal (m : (ℓ : Loc Cert.RefPostSIdeal.nD Cert.RefPostSIdeal.τ Cert.RefPostSIdeal.sig) → Buf (Elt Ideal) ℓ) : Prop :=
  True

def Pre_ProjC (m : (ℓ : Loc Cert.ProjC.nD Cert.ProjC.τ Cert.ProjC.sig) → Buf (Elt Bits) ℓ) : Prop :=
  True

def Pre_ProjCIdeal (m : (ℓ : Loc Cert.ProjCIdeal.nD Cert.ProjCIdeal.τ Cert.ProjCIdeal.sig) → Buf (Elt Ideal) ℓ) : Prop :=
  True

def Pre_RefProjCIdeal (m : (ℓ : Loc Cert.RefProjCIdeal.nD Cert.RefProjCIdeal.τ Cert.RefProjCIdeal.sig) → Buf (Elt Ideal) ℓ) : Prop :=
  True

def Pre_ProjA (m : (ℓ : Loc Cert.ProjA.nD Cert.ProjA.τ Cert.ProjA.sig) → Buf (Elt Bits) ℓ) : Prop :=
  True

def Pre_ProjAIdeal (m : (ℓ : Loc Cert.ProjAIdeal.nD Cert.ProjAIdeal.τ Cert.ProjAIdeal.sig) → Buf (Elt Ideal) ℓ) : Prop :=
  True

def Pre_RefProjAIdeal (m : (ℓ : Loc Cert.RefProjAIdeal.nD Cert.RefProjAIdeal.τ Cert.RefProjAIdeal.sig) → Buf (Elt Ideal) ℓ) : Prop :=
  True

def quiescent_Dil1 [hDil1 : Cert.Dil1.Facts] : Prop :=
  ∀ (m : (ℓ : Loc Cert.Dil1.nD Cert.Dil1.τ Cert.Dil1.sig) → Buf (Elt Bits) ℓ) (g : Dev Cert.Dil1.nD → PrngReg), Pre_Dil1 m →
    θ_run (Cert.Dil1.defs (F := Bits)) (onTc (τ := Cert.Dil1.τ) (Cert.Dil1.main (F := Bits))) ⟨m, fun _ => 0, g⟩ (fun r => (∀ c : Dev Cert.Dil1.nD,
      r.2.mem ((c.tc : Thread Cert.Dil1.nD Cert.Dil1.τ).loc Cert.Dil1.main_arg0) = m ((c.tc : Thread Cert.Dil1.nD Cert.Dil1.τ).loc Cert.Dil1.main_arg0)
      ∧ r.2.mem ((c.tc : Thread Cert.Dil1.nD Cert.Dil1.τ).loc Cert.Dil1.main_arg1) = m ((c.tc : Thread Cert.Dil1.nD Cert.Dil1.τ).loc Cert.Dil1.main_arg1))
      ∧ r.2.sem = fun _ => 0)

def quiescent_Dil1Ideal [hDil1Ideal : Cert.Dil1Ideal.Facts] : Prop :=
  ∀ (m : (ℓ : Loc Cert.Dil1Ideal.nD Cert.Dil1Ideal.τ Cert.Dil1Ideal.sig) → Buf (Elt Ideal) ℓ) (g : Dev Cert.Dil1Ideal.nD → PrngReg), Pre_Dil1Ideal m →
    θ_run (Cert.Dil1Ideal.defs (F := Ideal)) (onTc (τ := Cert.Dil1Ideal.τ) (Cert.Dil1Ideal.main (F := Ideal))) ⟨m, fun _ => 0, g⟩ (fun r => (∀ c : Dev Cert.Dil1Ideal.nD,
      r.2.mem ((c.tc : Thread Cert.Dil1Ideal.nD Cert.Dil1Ideal.τ).loc Cert.Dil1Ideal.main_arg0) = m ((c.tc : Thread Cert.Dil1Ideal.nD Cert.Dil1Ideal.τ).loc Cert.Dil1Ideal.main_arg0)
      ∧ r.2.mem ((c.tc : Thread Cert.Dil1Ideal.nD Cert.Dil1Ideal.τ).loc Cert.Dil1Ideal.main_arg1) = m ((c.tc : Thread Cert.Dil1Ideal.nD Cert.Dil1Ideal.τ).loc Cert.Dil1Ideal.main_arg1))
      ∧ r.2.sem = fun _ => 0)

def quiescent_Ref1Ideal [hRef1Ideal : Cert.Ref1Ideal.Facts] : Prop :=
  ∀ (m : (ℓ : Loc Cert.Ref1Ideal.nD Cert.Ref1Ideal.τ Cert.Ref1Ideal.sig) → Buf (Elt Ideal) ℓ) (g : Dev Cert.Ref1Ideal.nD → PrngReg), Pre_Ref1Ideal m →
    θ_run (Cert.Ref1Ideal.defs (F := Ideal)) (onTc (τ := Cert.Ref1Ideal.τ) (Cert.Ref1Ideal.main (F := Ideal))) ⟨m, fun _ => 0, g⟩ (fun r => (∀ c : Dev Cert.Ref1Ideal.nD,
      r.2.mem ((c.tc : Thread Cert.Ref1Ideal.nD Cert.Ref1Ideal.τ).loc Cert.Ref1Ideal.main_arg0) = m ((c.tc : Thread Cert.Ref1Ideal.nD Cert.Ref1Ideal.τ).loc Cert.Ref1Ideal.main_arg0)
      ∧ r.2.mem ((c.tc : Thread Cert.Ref1Ideal.nD Cert.Ref1Ideal.τ).loc Cert.Ref1Ideal.main_arg1) = m ((c.tc : Thread Cert.Ref1Ideal.nD Cert.Ref1Ideal.τ).loc Cert.Ref1Ideal.main_arg1))
      ∧ r.2.sem = fun _ => 0)

def quiescent_Dil4 [hDil4 : Cert.Dil4.Facts] : Prop :=
  ∀ (m : (ℓ : Loc Cert.Dil4.nD Cert.Dil4.τ Cert.Dil4.sig) → Buf (Elt Bits) ℓ) (g : Dev Cert.Dil4.nD → PrngReg), Pre_Dil4 m →
    θ_run (Cert.Dil4.defs (F := Bits)) (onTc (τ := Cert.Dil4.τ) (Cert.Dil4.main (F := Bits))) ⟨m, fun _ => 0, g⟩ (fun r => (∀ c : Dev Cert.Dil4.nD,
      r.2.mem ((c.tc : Thread Cert.Dil4.nD Cert.Dil4.τ).loc Cert.Dil4.main_arg0) = m ((c.tc : Thread Cert.Dil4.nD Cert.Dil4.τ).loc Cert.Dil4.main_arg0)
      ∧ r.2.mem ((c.tc : Thread Cert.Dil4.nD Cert.Dil4.τ).loc Cert.Dil4.main_arg1) = m ((c.tc : Thread Cert.Dil4.nD Cert.Dil4.τ).loc Cert.Dil4.main_arg1))
      ∧ r.2.sem = fun _ => 0)

def quiescent_Dil4Ideal [hDil4Ideal : Cert.Dil4Ideal.Facts] : Prop :=
  ∀ (m : (ℓ : Loc Cert.Dil4Ideal.nD Cert.Dil4Ideal.τ Cert.Dil4Ideal.sig) → Buf (Elt Ideal) ℓ) (g : Dev Cert.Dil4Ideal.nD → PrngReg), Pre_Dil4Ideal m →
    θ_run (Cert.Dil4Ideal.defs (F := Ideal)) (onTc (τ := Cert.Dil4Ideal.τ) (Cert.Dil4Ideal.main (F := Ideal))) ⟨m, fun _ => 0, g⟩ (fun r => (∀ c : Dev Cert.Dil4Ideal.nD,
      r.2.mem ((c.tc : Thread Cert.Dil4Ideal.nD Cert.Dil4Ideal.τ).loc Cert.Dil4Ideal.main_arg0) = m ((c.tc : Thread Cert.Dil4Ideal.nD Cert.Dil4Ideal.τ).loc Cert.Dil4Ideal.main_arg0)
      ∧ r.2.mem ((c.tc : Thread Cert.Dil4Ideal.nD Cert.Dil4Ideal.τ).loc Cert.Dil4Ideal.main_arg1) = m ((c.tc : Thread Cert.Dil4Ideal.nD Cert.Dil4Ideal.τ).loc Cert.Dil4Ideal.main_arg1))
      ∧ r.2.sem = fun _ => 0)

def quiescent_Ref4Ideal [hRef4Ideal : Cert.Ref4Ideal.Facts] : Prop :=
  ∀ (m : (ℓ : Loc Cert.Ref4Ideal.nD Cert.Ref4Ideal.τ Cert.Ref4Ideal.sig) → Buf (Elt Ideal) ℓ) (g : Dev Cert.Ref4Ideal.nD → PrngReg), Pre_Ref4Ideal m →
    θ_run (Cert.Ref4Ideal.defs (F := Ideal)) (onTc (τ := Cert.Ref4Ideal.τ) (Cert.Ref4Ideal.main (F := Ideal))) ⟨m, fun _ => 0, g⟩ (fun r => (∀ c : Dev Cert.Ref4Ideal.nD,
      r.2.mem ((c.tc : Thread Cert.Ref4Ideal.nD Cert.Ref4Ideal.τ).loc Cert.Ref4Ideal.main_arg0) = m ((c.tc : Thread Cert.Ref4Ideal.nD Cert.Ref4Ideal.τ).loc Cert.Ref4Ideal.main_arg0)
      ∧ r.2.mem ((c.tc : Thread Cert.Ref4Ideal.nD Cert.Ref4Ideal.τ).loc Cert.Ref4Ideal.main_arg1) = m ((c.tc : Thread Cert.Ref4Ideal.nD Cert.Ref4Ideal.τ).loc Cert.Ref4Ideal.main_arg1))
      ∧ r.2.sem = fun _ => 0)

def quiescent_Dil16 [hDil16 : Cert.Dil16.Facts] : Prop :=
  ∀ (m : (ℓ : Loc Cert.Dil16.nD Cert.Dil16.τ Cert.Dil16.sig) → Buf (Elt Bits) ℓ) (g : Dev Cert.Dil16.nD → PrngReg), Pre_Dil16 m →
    θ_run (Cert.Dil16.defs (F := Bits)) (onTc (τ := Cert.Dil16.τ) (Cert.Dil16.main (F := Bits))) ⟨m, fun _ => 0, g⟩ (fun r => (∀ c : Dev Cert.Dil16.nD,
      r.2.mem ((c.tc : Thread Cert.Dil16.nD Cert.Dil16.τ).loc Cert.Dil16.main_arg0) = m ((c.tc : Thread Cert.Dil16.nD Cert.Dil16.τ).loc Cert.Dil16.main_arg0)
      ∧ r.2.mem ((c.tc : Thread Cert.Dil16.nD Cert.Dil16.τ).loc Cert.Dil16.main_arg1) = m ((c.tc : Thread Cert.Dil16.nD Cert.Dil16.τ).loc Cert.Dil16.main_arg1))
      ∧ r.2.sem = fun _ => 0)

def quiescent_Dil16Ideal [hDil16Ideal : Cert.Dil16Ideal.Facts] : Prop :=
  ∀ (m : (ℓ : Loc Cert.Dil16Ideal.nD Cert.Dil16Ideal.τ Cert.Dil16Ideal.sig) → Buf (Elt Ideal) ℓ) (g : Dev Cert.Dil16Ideal.nD → PrngReg), Pre_Dil16Ideal m →
    θ_run (Cert.Dil16Ideal.defs (F := Ideal)) (onTc (τ := Cert.Dil16Ideal.τ) (Cert.Dil16Ideal.main (F := Ideal))) ⟨m, fun _ => 0, g⟩ (fun r => (∀ c : Dev Cert.Dil16Ideal.nD,
      r.2.mem ((c.tc : Thread Cert.Dil16Ideal.nD Cert.Dil16Ideal.τ).loc Cert.Dil16Ideal.main_arg0) = m ((c.tc : Thread Cert.Dil16Ideal.nD Cert.Dil16Ideal.τ).loc Cert.Dil16Ideal.main_arg0)
      ∧ r.2.mem ((c.tc : Thread Cert.Dil16Ideal.nD Cert.Dil16Ideal.τ).loc Cert.Dil16Ideal.main_arg1) = m ((c.tc : Thread Cert.Dil16Ideal.nD Cert.Dil16Ideal.τ).loc Cert.Dil16Ideal.main_arg1))
      ∧ r.2.sem = fun _ => 0)

def quiescent_Ref16Ideal [hRef16Ideal : Cert.Ref16Ideal.Facts] : Prop :=
  ∀ (m : (ℓ : Loc Cert.Ref16Ideal.nD Cert.Ref16Ideal.τ Cert.Ref16Ideal.sig) → Buf (Elt Ideal) ℓ) (g : Dev Cert.Ref16Ideal.nD → PrngReg), Pre_Ref16Ideal m →
    θ_run (Cert.Ref16Ideal.defs (F := Ideal)) (onTc (τ := Cert.Ref16Ideal.τ) (Cert.Ref16Ideal.main (F := Ideal))) ⟨m, fun _ => 0, g⟩ (fun r => (∀ c : Dev Cert.Ref16Ideal.nD,
      r.2.mem ((c.tc : Thread Cert.Ref16Ideal.nD Cert.Ref16Ideal.τ).loc Cert.Ref16Ideal.main_arg0) = m ((c.tc : Thread Cert.Ref16Ideal.nD Cert.Ref16Ideal.τ).loc Cert.Ref16Ideal.main_arg0)
      ∧ r.2.mem ((c.tc : Thread Cert.Ref16Ideal.nD Cert.Ref16Ideal.τ).loc Cert.Ref16Ideal.main_arg1) = m ((c.tc : Thread Cert.Ref16Ideal.nD Cert.Ref16Ideal.τ).loc Cert.Ref16Ideal.main_arg1))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6)
      ∧ r.2.mem ((c.tc : Thread Cert.Post.nD Cert.Post.τ).loc Cert.Post.main_arg7) = m ((c.tc : Thread Cert.Post.nD Cert.Post.τ).loc Cert.Post.main_arg7)
      ∧ r.2.mem ((c.tc : Thread Cert.Post.nD Cert.Post.τ).loc Cert.Post.main_arg8) = m ((c.tc : Thread Cert.Post.nD Cert.Post.τ).loc Cert.Post.main_arg8)
      ∧ r.2.mem ((c.tc : Thread Cert.Post.nD Cert.Post.τ).loc Cert.Post.main_arg9) = m ((c.tc : Thread Cert.Post.nD Cert.Post.τ).loc Cert.Post.main_arg9)
      ∧ r.2.mem ((c.tc : Thread Cert.Post.nD Cert.Post.τ).loc Cert.Post.main_arg10) = m ((c.tc : Thread Cert.Post.nD Cert.Post.τ).loc Cert.Post.main_arg10)
      ∧ r.2.mem ((c.tc : Thread Cert.Post.nD Cert.Post.τ).loc Cert.Post.main_arg11) = m ((c.tc : Thread Cert.Post.nD Cert.Post.τ).loc Cert.Post.main_arg11)
      ∧ r.2.mem ((c.tc : Thread Cert.Post.nD Cert.Post.τ).loc Cert.Post.main_arg12) = m ((c.tc : Thread Cert.Post.nD Cert.Post.τ).loc Cert.Post.main_arg12)
      ∧ r.2.mem ((c.tc : Thread Cert.Post.nD Cert.Post.τ).loc Cert.Post.main_arg13) = m ((c.tc : Thread Cert.Post.nD Cert.Post.τ).loc Cert.Post.main_arg13)
      ∧ r.2.mem ((c.tc : Thread Cert.Post.nD Cert.Post.τ).loc Cert.Post.main_arg14) = m ((c.tc : Thread Cert.Post.nD Cert.Post.τ).loc Cert.Post.main_arg14))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
      ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
      ∧ r.2.mem ((c.tc : Thread Cert.PostIdeal.nD Cert.PostIdeal.τ).loc Cert.PostIdeal.main_arg10) = m ((c.tc : Thread Cert.PostIdeal.nD Cert.PostIdeal.τ).loc Cert.PostIdeal.main_arg10)
      ∧ r.2.mem ((c.tc : Thread Cert.PostIdeal.nD Cert.PostIdeal.τ).loc Cert.PostIdeal.main_arg11) = m ((c.tc : Thread Cert.PostIdeal.nD Cert.PostIdeal.τ).loc Cert.PostIdeal.main_arg11)
      ∧ r.2.mem ((c.tc : Thread Cert.PostIdeal.nD Cert.PostIdeal.τ).loc Cert.PostIdeal.main_arg12) = m ((c.tc : Thread Cert.PostIdeal.nD Cert.PostIdeal.τ).loc Cert.PostIdeal.main_arg12)
      ∧ r.2.mem ((c.tc : Thread Cert.PostIdeal.nD Cert.PostIdeal.τ).loc Cert.PostIdeal.main_arg13) = m ((c.tc : Thread Cert.PostIdeal.nD Cert.PostIdeal.τ).loc Cert.PostIdeal.main_arg13)
      ∧ r.2.mem ((c.tc : Thread Cert.PostIdeal.nD Cert.PostIdeal.τ).loc Cert.PostIdeal.main_arg14) = m ((c.tc : Thread Cert.PostIdeal.nD Cert.PostIdeal.τ).loc Cert.PostIdeal.main_arg14))
      ∧ r.2.sem = fun _ => 0)

def quiescent_RefPostIdeal [hRefPostIdeal : Cert.RefPostIdeal.Facts] : Prop :=
  ∀ (m : (ℓ : Loc Cert.RefPostIdeal.nD Cert.RefPostIdeal.τ Cert.RefPostIdeal.sig) → Buf (Elt Ideal) ℓ) (g : Dev Cert.RefPostIdeal.nD → PrngReg), Pre_RefPostIdeal m →
    θ_run (Cert.RefPostIdeal.defs (F := Ideal)) (onTc (τ := Cert.RefPostIdeal.τ) (Cert.RefPostIdeal.main (F := Ideal))) ⟨m, fun _ => 0, g⟩ (fun r => (∀ c : Dev Cert.RefPostIdeal.nD,
      r.2.mem ((c.tc : Thread Cert.RefPostIdeal.nD Cert.RefPostIdeal.τ).loc Cert.RefPostIdeal.main_arg0) = m ((c.tc : Thread Cert.RefPostIdeal.nD Cert.RefPostIdeal.τ).loc Cert.RefPostIdeal.main_arg0)
      ∧ r.2.mem ((c.tc : Thread Cert.RefPostIdeal.nD Cert.RefPostIdeal.τ).loc Cert.RefPostIdeal.main_arg1) = m ((c.tc : Thread Cert.RefPostIdeal.nD Cert.RefPostIdeal.τ).loc Cert.RefPostIdeal.main_arg1)
      ∧ r.2.mem ((c.tc : Thread Cert.RefPostIdeal.nD Cert.RefPostIdeal.τ).loc Cert.RefPostIdeal.main_arg2) = m ((c.tc : Thread Cert.RefPostIdeal.nD Cert.RefPostIdeal.τ).loc Cert.RefPostIdeal.main_arg2)
      ∧ r.2.mem ((c.tc : Thread Cert.RefPostIdeal.nD Cert.RefPostIdeal.τ).loc Cert.RefPostIdeal.main_arg3) = m ((c.tc : Thread Cert.RefPostIdeal.nD Cert.RefPostIdeal.τ).loc Cert.RefPostIdeal.main_arg3)
      ∧ r.2.mem ((c.tc : Thread Cert.RefPostIdeal.nD Cert.RefPostIdeal.τ).loc Cert.RefPostIdeal.main_arg4) = m ((c.tc : Thread Cert.RefPostIdeal.nD Cert.RefPostIdeal.τ).loc Cert.RefPostIdeal.main_arg4)
      ∧ r.2.mem ((c.tc : Thread Cert.RefPostIdeal.nD Cert.RefPostIdeal.τ).loc Cert.RefPostIdeal.main_arg5) = m ((c.tc : Thread Cert.RefPostIdeal.nD Cert.RefPostIdeal.τ).loc Cert.RefPostIdeal.main_arg5)
      ∧ r.2.mem ((c.tc : Thread Cert.RefPostIdeal.nD Cert.RefPostIdeal.τ).loc Cert.RefPostIdeal.main_arg6) = m ((c.tc : Thread Cert.RefPostIdeal.nD Cert.RefPostIdeal.τ).loc Cert.RefPostIdeal.main_arg6)
      ∧ r.2.mem ((c.tc : Thread Cert.RefPostIdeal.nD Cert.RefPostIdeal.τ).loc Cert.RefPostIdeal.main_arg7) = m ((c.tc : Thread Cert.RefPostIdeal.nD Cert.RefPostIdeal.τ).loc Cert.RefPostIdeal.main_arg7)
      ∧ r.2.mem ((c.tc : Thread Cert.RefPostIdeal.nD Cert.RefPostIdeal.τ).loc Cert.RefPostIdeal.main_arg8) = m ((c.tc : Thread Cert.RefPostIdeal.nD Cert.RefPostIdeal.τ).loc Cert.RefPostIdeal.main_arg8)
      ∧ r.2.mem ((c.tc : Thread Cert.RefPostIdeal.nD Cert.RefPostIdeal.τ).loc Cert.RefPostIdeal.main_arg9) = m ((c.tc : Thread Cert.RefPostIdeal.nD Cert.RefPostIdeal.τ).loc Cert.RefPostIdeal.main_arg9)
      ∧ r.2.mem ((c.tc : Thread Cert.RefPostIdeal.nD Cert.RefPostIdeal.τ).loc Cert.RefPostIdeal.main_arg10) = m ((c.tc : Thread Cert.RefPostIdeal.nD Cert.RefPostIdeal.τ).loc Cert.RefPostIdeal.main_arg10)
      ∧ r.2.mem ((c.tc : Thread Cert.RefPostIdeal.nD Cert.RefPostIdeal.τ).loc Cert.RefPostIdeal.main_arg11) = m ((c.tc : Thread Cert.RefPostIdeal.nD Cert.RefPostIdeal.τ).loc Cert.RefPostIdeal.main_arg11)
      ∧ r.2.mem ((c.tc : Thread Cert.RefPostIdeal.nD Cert.RefPostIdeal.τ).loc Cert.RefPostIdeal.main_arg12) = m ((c.tc : Thread Cert.RefPostIdeal.nD Cert.RefPostIdeal.τ).loc Cert.RefPostIdeal.main_arg12)
      ∧ r.2.mem ((c.tc : Thread Cert.RefPostIdeal.nD Cert.RefPostIdeal.τ).loc Cert.RefPostIdeal.main_arg13) = m ((c.tc : Thread Cert.RefPostIdeal.nD Cert.RefPostIdeal.τ).loc Cert.RefPostIdeal.main_arg13)
      ∧ r.2.mem ((c.tc : Thread Cert.RefPostIdeal.nD Cert.RefPostIdeal.τ).loc Cert.RefPostIdeal.main_arg14) = m ((c.tc : Thread Cert.RefPostIdeal.nD Cert.RefPostIdeal.τ).loc Cert.RefPostIdeal.main_arg14))
      ∧ r.2.sem = fun _ => 0)

def quiescent_PostS [hPostS : Cert.PostS.Facts] : Prop :=
  ∀ (m : (ℓ : Loc Cert.PostS.nD Cert.PostS.τ Cert.PostS.sig) → Buf (Elt Bits) ℓ) (g : Dev Cert.PostS.nD → PrngReg), Pre_PostS m →
    θ_run (Cert.PostS.defs (F := Bits)) (onTc (τ := Cert.PostS.τ) (Cert.PostS.main (F := Bits))) ⟨m, fun _ => 0, g⟩ (fun r => (∀ c : Dev Cert.PostS.nD,
      r.2.mem ((c.tc : Thread Cert.PostS.nD Cert.PostS.τ).loc Cert.PostS.main_arg0) = m ((c.tc : Thread Cert.PostS.nD Cert.PostS.τ).loc Cert.PostS.main_arg0)
      ∧ r.2.mem ((c.tc : Thread Cert.PostS.nD Cert.PostS.τ).loc Cert.PostS.main_arg1) = m ((c.tc : Thread Cert.PostS.nD Cert.PostS.τ).loc Cert.PostS.main_arg1)
      ∧ r.2.mem ((c.tc : Thread Cert.PostS.nD Cert.PostS.τ).loc Cert.PostS.main_arg2) = m ((c.tc : Thread Cert.PostS.nD Cert.PostS.τ).loc Cert.PostS.main_arg2)
      ∧ r.2.mem ((c.tc : Thread Cert.PostS.nD Cert.PostS.τ).loc Cert.PostS.main_arg3) = m ((c.tc : Thread Cert.PostS.nD Cert.PostS.τ).loc Cert.PostS.main_arg3)
      ∧ r.2.mem ((c.tc : Thread Cert.PostS.nD Cert.PostS.τ).loc Cert.PostS.main_arg4) = m ((c.tc : Thread Cert.PostS.nD Cert.PostS.τ).loc Cert.PostS.main_arg4)
      ∧ r.2.mem ((c.tc : Thread Cert.PostS.nD Cert.PostS.τ).loc Cert.PostS.main_arg5) = m ((c.tc : Thread Cert.PostS.nD Cert.PostS.τ).loc Cert.PostS.main_arg5)
      ∧ r.2.mem ((c.tc : Thread Cert.PostS.nD Cert.PostS.τ).loc Cert.PostS.main_arg6) = m ((c.tc : Thread Cert.PostS.nD Cert.PostS.τ).loc Cert.PostS.main_arg6)
      ∧ r.2.mem ((c.tc : Thread Cert.PostS.nD Cert.PostS.τ).loc Cert.PostS.main_arg7) = m ((c.tc : Thread Cert.PostS.nD Cert.PostS.τ).loc Cert.PostS.main_arg7)
      ∧ r.2.mem ((c.tc : Thread Cert.PostS.nD Cert.PostS.τ).loc Cert.PostS.main_arg8) = m ((c.tc : Thread Cert.PostS.nD Cert.PostS.τ).loc Cert.PostS.main_arg8)
      ∧ r.2.mem ((c.tc : Thread Cert.PostS.nD Cert.PostS.τ).loc Cert.PostS.main_arg9) = m ((c.tc : Thread Cert.PostS.nD Cert.PostS.τ).loc Cert.PostS.main_arg9))
      ∧ r.2.sem = fun _ => 0)

def quiescent_PostSIdeal [hPostSIdeal : Cert.PostSIdeal.Facts] : Prop :=
  ∀ (m : (ℓ : Loc Cert.PostSIdeal.nD Cert.PostSIdeal.τ Cert.PostSIdeal.sig) → Buf (Elt Ideal) ℓ) (g : Dev Cert.PostSIdeal.nD → PrngReg), Pre_PostSIdeal m →
    θ_run (Cert.PostSIdeal.defs (F := Ideal)) (onTc (τ := Cert.PostSIdeal.τ) (Cert.PostSIdeal.main (F := Ideal))) ⟨m, fun _ => 0, g⟩ (fun r => (∀ c : Dev Cert.PostSIdeal.nD,
      r.2.mem ((c.tc : Thread Cert.PostSIdeal.nD Cert.PostSIdeal.τ).loc Cert.PostSIdeal.main_arg0) = m ((c.tc : Thread Cert.PostSIdeal.nD Cert.PostSIdeal.τ).loc Cert.PostSIdeal.main_arg0)
      ∧ r.2.mem ((c.tc : Thread Cert.PostSIdeal.nD Cert.PostSIdeal.τ).loc Cert.PostSIdeal.main_arg1) = m ((c.tc : Thread Cert.PostSIdeal.nD Cert.PostSIdeal.τ).loc Cert.PostSIdeal.main_arg1)
      ∧ r.2.mem ((c.tc : Thread Cert.PostSIdeal.nD Cert.PostSIdeal.τ).loc Cert.PostSIdeal.main_arg2) = m ((c.tc : Thread Cert.PostSIdeal.nD Cert.PostSIdeal.τ).loc Cert.PostSIdeal.main_arg2)
      ∧ r.2.mem ((c.tc : Thread Cert.PostSIdeal.nD Cert.PostSIdeal.τ).loc Cert.PostSIdeal.main_arg3) = m ((c.tc : Thread Cert.PostSIdeal.nD Cert.PostSIdeal.τ).loc Cert.PostSIdeal.main_arg3)
      ∧ r.2.mem ((c.tc : Thread Cert.PostSIdeal.nD Cert.PostSIdeal.τ).loc Cert.PostSIdeal.main_arg4) = m ((c.tc : Thread Cert.PostSIdeal.nD Cert.PostSIdeal.τ).loc Cert.PostSIdeal.main_arg4)
      ∧ r.2.mem ((c.tc : Thread Cert.PostSIdeal.nD Cert.PostSIdeal.τ).loc Cert.PostSIdeal.main_arg5) = m ((c.tc : Thread Cert.PostSIdeal.nD Cert.PostSIdeal.τ).loc Cert.PostSIdeal.main_arg5)
      ∧ r.2.mem ((c.tc : Thread Cert.PostSIdeal.nD Cert.PostSIdeal.τ).loc Cert.PostSIdeal.main_arg6) = m ((c.tc : Thread Cert.PostSIdeal.nD Cert.PostSIdeal.τ).loc Cert.PostSIdeal.main_arg6)
      ∧ r.2.mem ((c.tc : Thread Cert.PostSIdeal.nD Cert.PostSIdeal.τ).loc Cert.PostSIdeal.main_arg7) = m ((c.tc : Thread Cert.PostSIdeal.nD Cert.PostSIdeal.τ).loc Cert.PostSIdeal.main_arg7)
      ∧ r.2.mem ((c.tc : Thread Cert.PostSIdeal.nD Cert.PostSIdeal.τ).loc Cert.PostSIdeal.main_arg8) = m ((c.tc : Thread Cert.PostSIdeal.nD Cert.PostSIdeal.τ).loc Cert.PostSIdeal.main_arg8)
      ∧ r.2.mem ((c.tc : Thread Cert.PostSIdeal.nD Cert.PostSIdeal.τ).loc Cert.PostSIdeal.main_arg9) = m ((c.tc : Thread Cert.PostSIdeal.nD Cert.PostSIdeal.τ).loc Cert.PostSIdeal.main_arg9))
      ∧ r.2.sem = fun _ => 0)

def quiescent_RefPostSIdeal [hRefPostSIdeal : Cert.RefPostSIdeal.Facts] : Prop :=
  ∀ (m : (ℓ : Loc Cert.RefPostSIdeal.nD Cert.RefPostSIdeal.τ Cert.RefPostSIdeal.sig) → Buf (Elt Ideal) ℓ) (g : Dev Cert.RefPostSIdeal.nD → PrngReg), Pre_RefPostSIdeal m →
    θ_run (Cert.RefPostSIdeal.defs (F := Ideal)) (onTc (τ := Cert.RefPostSIdeal.τ) (Cert.RefPostSIdeal.main (F := Ideal))) ⟨m, fun _ => 0, g⟩ (fun r => (∀ c : Dev Cert.RefPostSIdeal.nD,
      r.2.mem ((c.tc : Thread Cert.RefPostSIdeal.nD Cert.RefPostSIdeal.τ).loc Cert.RefPostSIdeal.main_arg0) = m ((c.tc : Thread Cert.RefPostSIdeal.nD Cert.RefPostSIdeal.τ).loc Cert.RefPostSIdeal.main_arg0)
      ∧ r.2.mem ((c.tc : Thread Cert.RefPostSIdeal.nD Cert.RefPostSIdeal.τ).loc Cert.RefPostSIdeal.main_arg1) = m ((c.tc : Thread Cert.RefPostSIdeal.nD Cert.RefPostSIdeal.τ).loc Cert.RefPostSIdeal.main_arg1)
      ∧ r.2.mem ((c.tc : Thread Cert.RefPostSIdeal.nD Cert.RefPostSIdeal.τ).loc Cert.RefPostSIdeal.main_arg2) = m ((c.tc : Thread Cert.RefPostSIdeal.nD Cert.RefPostSIdeal.τ).loc Cert.RefPostSIdeal.main_arg2)
      ∧ r.2.mem ((c.tc : Thread Cert.RefPostSIdeal.nD Cert.RefPostSIdeal.τ).loc Cert.RefPostSIdeal.main_arg3) = m ((c.tc : Thread Cert.RefPostSIdeal.nD Cert.RefPostSIdeal.τ).loc Cert.RefPostSIdeal.main_arg3)
      ∧ r.2.mem ((c.tc : Thread Cert.RefPostSIdeal.nD Cert.RefPostSIdeal.τ).loc Cert.RefPostSIdeal.main_arg4) = m ((c.tc : Thread Cert.RefPostSIdeal.nD Cert.RefPostSIdeal.τ).loc Cert.RefPostSIdeal.main_arg4)
      ∧ r.2.mem ((c.tc : Thread Cert.RefPostSIdeal.nD Cert.RefPostSIdeal.τ).loc Cert.RefPostSIdeal.main_arg5) = m ((c.tc : Thread Cert.RefPostSIdeal.nD Cert.RefPostSIdeal.τ).loc Cert.RefPostSIdeal.main_arg5)
      ∧ r.2.mem ((c.tc : Thread Cert.RefPostSIdeal.nD Cert.RefPostSIdeal.τ).loc Cert.RefPostSIdeal.main_arg6) = m ((c.tc : Thread Cert.RefPostSIdeal.nD Cert.RefPostSIdeal.τ).loc Cert.RefPostSIdeal.main_arg6)
      ∧ r.2.mem ((c.tc : Thread Cert.RefPostSIdeal.nD Cert.RefPostSIdeal.τ).loc Cert.RefPostSIdeal.main_arg7) = m ((c.tc : Thread Cert.RefPostSIdeal.nD Cert.RefPostSIdeal.τ).loc Cert.RefPostSIdeal.main_arg7)
      ∧ r.2.mem ((c.tc : Thread Cert.RefPostSIdeal.nD Cert.RefPostSIdeal.τ).loc Cert.RefPostSIdeal.main_arg8) = m ((c.tc : Thread Cert.RefPostSIdeal.nD Cert.RefPostSIdeal.τ).loc Cert.RefPostSIdeal.main_arg8)
      ∧ r.2.mem ((c.tc : Thread Cert.RefPostSIdeal.nD Cert.RefPostSIdeal.τ).loc Cert.RefPostSIdeal.main_arg9) = m ((c.tc : Thread Cert.RefPostSIdeal.nD Cert.RefPostSIdeal.τ).loc Cert.RefPostSIdeal.main_arg9))
      ∧ r.2.sem = fun _ => 0)

def quiescent_ProjC [hProjC : Cert.ProjC.Facts] : Prop :=
  ∀ (m : (ℓ : Loc Cert.ProjC.nD Cert.ProjC.τ Cert.ProjC.sig) → Buf (Elt Bits) ℓ) (g : Dev Cert.ProjC.nD → PrngReg), Pre_ProjC m →
    θ_run (Cert.ProjC.defs (F := Bits)) (onTc (τ := Cert.ProjC.τ) (Cert.ProjC.main (F := Bits))) ⟨m, fun _ => 0, g⟩ (fun r => (∀ c : Dev Cert.ProjC.nD,
      r.2.mem ((c.tc : Thread Cert.ProjC.nD Cert.ProjC.τ).loc Cert.ProjC.main_arg0) = m ((c.tc : Thread Cert.ProjC.nD Cert.ProjC.τ).loc Cert.ProjC.main_arg0)
      ∧ r.2.mem ((c.tc : Thread Cert.ProjC.nD Cert.ProjC.τ).loc Cert.ProjC.main_arg1) = m ((c.tc : Thread Cert.ProjC.nD Cert.ProjC.τ).loc Cert.ProjC.main_arg1)
      ∧ r.2.mem ((c.tc : Thread Cert.ProjC.nD Cert.ProjC.τ).loc Cert.ProjC.main_arg2) = m ((c.tc : Thread Cert.ProjC.nD Cert.ProjC.τ).loc Cert.ProjC.main_arg2)
      ∧ r.2.mem ((c.tc : Thread Cert.ProjC.nD Cert.ProjC.τ).loc Cert.ProjC.main_arg3) = m ((c.tc : Thread Cert.ProjC.nD Cert.ProjC.τ).loc Cert.ProjC.main_arg3))
      ∧ r.2.sem = fun _ => 0)

def quiescent_ProjCIdeal [hProjCIdeal : Cert.ProjCIdeal.Facts] : Prop :=
  ∀ (m : (ℓ : Loc Cert.ProjCIdeal.nD Cert.ProjCIdeal.τ Cert.ProjCIdeal.sig) → Buf (Elt Ideal) ℓ) (g : Dev Cert.ProjCIdeal.nD → PrngReg), Pre_ProjCIdeal m →
    θ_run (Cert.ProjCIdeal.defs (F := Ideal)) (onTc (τ := Cert.ProjCIdeal.τ) (Cert.ProjCIdeal.main (F := Ideal))) ⟨m, fun _ => 0, g⟩ (fun r => (∀ c : Dev Cert.ProjCIdeal.nD,
      r.2.mem ((c.tc : Thread Cert.ProjCIdeal.nD Cert.ProjCIdeal.τ).loc Cert.ProjCIdeal.main_arg0) = m ((c.tc : Thread Cert.ProjCIdeal.nD Cert.ProjCIdeal.τ).loc Cert.ProjCIdeal.main_arg0)
      ∧ r.2.mem ((c.tc : Thread Cert.ProjCIdeal.nD Cert.ProjCIdeal.τ).loc Cert.ProjCIdeal.main_arg1) = m ((c.tc : Thread Cert.ProjCIdeal.nD Cert.ProjCIdeal.τ).loc Cert.ProjCIdeal.main_arg1)
      ∧ r.2.mem ((c.tc : Thread Cert.ProjCIdeal.nD Cert.ProjCIdeal.τ).loc Cert.ProjCIdeal.main_arg2) = m ((c.tc : Thread Cert.ProjCIdeal.nD Cert.ProjCIdeal.τ).loc Cert.ProjCIdeal.main_arg2)
      ∧ r.2.mem ((c.tc : Thread Cert.ProjCIdeal.nD Cert.ProjCIdeal.τ).loc Cert.ProjCIdeal.main_arg3) = m ((c.tc : Thread Cert.ProjCIdeal.nD Cert.ProjCIdeal.τ).loc Cert.ProjCIdeal.main_arg3))
      ∧ r.2.sem = fun _ => 0)

def quiescent_RefProjCIdeal [hRefProjCIdeal : Cert.RefProjCIdeal.Facts] : Prop :=
  ∀ (m : (ℓ : Loc Cert.RefProjCIdeal.nD Cert.RefProjCIdeal.τ Cert.RefProjCIdeal.sig) → Buf (Elt Ideal) ℓ) (g : Dev Cert.RefProjCIdeal.nD → PrngReg), Pre_RefProjCIdeal m →
    θ_run (Cert.RefProjCIdeal.defs (F := Ideal)) (onTc (τ := Cert.RefProjCIdeal.τ) (Cert.RefProjCIdeal.main (F := Ideal))) ⟨m, fun _ => 0, g⟩ (fun r => (∀ c : Dev Cert.RefProjCIdeal.nD,
      r.2.mem ((c.tc : Thread Cert.RefProjCIdeal.nD Cert.RefProjCIdeal.τ).loc Cert.RefProjCIdeal.main_arg0) = m ((c.tc : Thread Cert.RefProjCIdeal.nD Cert.RefProjCIdeal.τ).loc Cert.RefProjCIdeal.main_arg0)
      ∧ r.2.mem ((c.tc : Thread Cert.RefProjCIdeal.nD Cert.RefProjCIdeal.τ).loc Cert.RefProjCIdeal.main_arg1) = m ((c.tc : Thread Cert.RefProjCIdeal.nD Cert.RefProjCIdeal.τ).loc Cert.RefProjCIdeal.main_arg1)
      ∧ r.2.mem ((c.tc : Thread Cert.RefProjCIdeal.nD Cert.RefProjCIdeal.τ).loc Cert.RefProjCIdeal.main_arg2) = m ((c.tc : Thread Cert.RefProjCIdeal.nD Cert.RefProjCIdeal.τ).loc Cert.RefProjCIdeal.main_arg2)
      ∧ r.2.mem ((c.tc : Thread Cert.RefProjCIdeal.nD Cert.RefProjCIdeal.τ).loc Cert.RefProjCIdeal.main_arg3) = m ((c.tc : Thread Cert.RefProjCIdeal.nD Cert.RefProjCIdeal.τ).loc Cert.RefProjCIdeal.main_arg3))
      ∧ r.2.sem = fun _ => 0)

def quiescent_ProjA [hProjA : Cert.ProjA.Facts] : Prop :=
  ∀ (m : (ℓ : Loc Cert.ProjA.nD Cert.ProjA.τ Cert.ProjA.sig) → Buf (Elt Bits) ℓ) (g : Dev Cert.ProjA.nD → PrngReg), Pre_ProjA m →
    θ_run (Cert.ProjA.defs (F := Bits)) (onTc (τ := Cert.ProjA.τ) (Cert.ProjA.main (F := Bits))) ⟨m, fun _ => 0, g⟩ (fun r => (∀ c : Dev Cert.ProjA.nD,
      r.2.mem ((c.tc : Thread Cert.ProjA.nD Cert.ProjA.τ).loc Cert.ProjA.main_arg0) = m ((c.tc : Thread Cert.ProjA.nD Cert.ProjA.τ).loc Cert.ProjA.main_arg0)
      ∧ r.2.mem ((c.tc : Thread Cert.ProjA.nD Cert.ProjA.τ).loc Cert.ProjA.main_arg1) = m ((c.tc : Thread Cert.ProjA.nD Cert.ProjA.τ).loc Cert.ProjA.main_arg1)
      ∧ r.2.mem ((c.tc : Thread Cert.ProjA.nD Cert.ProjA.τ).loc Cert.ProjA.main_arg2) = m ((c.tc : Thread Cert.ProjA.nD Cert.ProjA.τ).loc Cert.ProjA.main_arg2)
      ∧ r.2.mem ((c.tc : Thread Cert.ProjA.nD Cert.ProjA.τ).loc Cert.ProjA.main_arg3) = m ((c.tc : Thread Cert.ProjA.nD Cert.ProjA.τ).loc Cert.ProjA.main_arg3)
      ∧ r.2.mem ((c.tc : Thread Cert.ProjA.nD Cert.ProjA.τ).loc Cert.ProjA.main_arg4) = m ((c.tc : Thread Cert.ProjA.nD Cert.ProjA.τ).loc Cert.ProjA.main_arg4)
      ∧ r.2.mem ((c.tc : Thread Cert.ProjA.nD Cert.ProjA.τ).loc Cert.ProjA.main_arg5) = m ((c.tc : Thread Cert.ProjA.nD Cert.ProjA.τ).loc Cert.ProjA.main_arg5))
      ∧ r.2.sem = fun _ => 0)

def quiescent_ProjAIdeal [hProjAIdeal : Cert.ProjAIdeal.Facts] : Prop :=
  ∀ (m : (ℓ : Loc Cert.ProjAIdeal.nD Cert.ProjAIdeal.τ Cert.ProjAIdeal.sig) → Buf (Elt Ideal) ℓ) (g : Dev Cert.ProjAIdeal.nD → PrngReg), Pre_ProjAIdeal m →
    θ_run (Cert.ProjAIdeal.defs (F := Ideal)) (onTc (τ := Cert.ProjAIdeal.τ) (Cert.ProjAIdeal.main (F := Ideal))) ⟨m, fun _ => 0, g⟩ (fun r => (∀ c : Dev Cert.ProjAIdeal.nD,
      r.2.mem ((c.tc : Thread Cert.ProjAIdeal.nD Cert.ProjAIdeal.τ).loc Cert.ProjAIdeal.main_arg0) = m ((c.tc : Thread Cert.ProjAIdeal.nD Cert.ProjAIdeal.τ).loc Cert.ProjAIdeal.main_arg0)
      ∧ r.2.mem ((c.tc : Thread Cert.ProjAIdeal.nD Cert.ProjAIdeal.τ).loc Cert.ProjAIdeal.main_arg1) = m ((c.tc : Thread Cert.ProjAIdeal.nD Cert.ProjAIdeal.τ).loc Cert.ProjAIdeal.main_arg1)
      ∧ r.2.mem ((c.tc : Thread Cert.ProjAIdeal.nD Cert.ProjAIdeal.τ).loc Cert.ProjAIdeal.main_arg2) = m ((c.tc : Thread Cert.ProjAIdeal.nD Cert.ProjAIdeal.τ).loc Cert.ProjAIdeal.main_arg2)
      ∧ r.2.mem ((c.tc : Thread Cert.ProjAIdeal.nD Cert.ProjAIdeal.τ).loc Cert.ProjAIdeal.main_arg3) = m ((c.tc : Thread Cert.ProjAIdeal.nD Cert.ProjAIdeal.τ).loc Cert.ProjAIdeal.main_arg3)
      ∧ r.2.mem ((c.tc : Thread Cert.ProjAIdeal.nD Cert.ProjAIdeal.τ).loc Cert.ProjAIdeal.main_arg4) = m ((c.tc : Thread Cert.ProjAIdeal.nD Cert.ProjAIdeal.τ).loc Cert.ProjAIdeal.main_arg4)
      ∧ r.2.mem ((c.tc : Thread Cert.ProjAIdeal.nD Cert.ProjAIdeal.τ).loc Cert.ProjAIdeal.main_arg5) = m ((c.tc : Thread Cert.ProjAIdeal.nD Cert.ProjAIdeal.τ).loc Cert.ProjAIdeal.main_arg5))
      ∧ r.2.sem = fun _ => 0)

def quiescent_RefProjAIdeal [hRefProjAIdeal : Cert.RefProjAIdeal.Facts] : Prop :=
  ∀ (m : (ℓ : Loc Cert.RefProjAIdeal.nD Cert.RefProjAIdeal.τ Cert.RefProjAIdeal.sig) → Buf (Elt Ideal) ℓ) (g : Dev Cert.RefProjAIdeal.nD → PrngReg), Pre_RefProjAIdeal m →
    θ_run (Cert.RefProjAIdeal.defs (F := Ideal)) (onTc (τ := Cert.RefProjAIdeal.τ) (Cert.RefProjAIdeal.main (F := Ideal))) ⟨m, fun _ => 0, g⟩ (fun r => (∀ c : Dev Cert.RefProjAIdeal.nD,
      r.2.mem ((c.tc : Thread Cert.RefProjAIdeal.nD Cert.RefProjAIdeal.τ).loc Cert.RefProjAIdeal.main_arg0) = m ((c.tc : Thread Cert.RefProjAIdeal.nD Cert.RefProjAIdeal.τ).loc Cert.RefProjAIdeal.main_arg0)
      ∧ r.2.mem ((c.tc : Thread Cert.RefProjAIdeal.nD Cert.RefProjAIdeal.τ).loc Cert.RefProjAIdeal.main_arg1) = m ((c.tc : Thread Cert.RefProjAIdeal.nD Cert.RefProjAIdeal.τ).loc Cert.RefProjAIdeal.main_arg1)
      ∧ r.2.mem ((c.tc : Thread Cert.RefProjAIdeal.nD Cert.RefProjAIdeal.τ).loc Cert.RefProjAIdeal.main_arg2) = m ((c.tc : Thread Cert.RefProjAIdeal.nD Cert.RefProjAIdeal.τ).loc Cert.RefProjAIdeal.main_arg2)
      ∧ r.2.mem ((c.tc : Thread Cert.RefProjAIdeal.nD Cert.RefProjAIdeal.τ).loc Cert.RefProjAIdeal.main_arg3) = m ((c.tc : Thread Cert.RefProjAIdeal.nD Cert.RefProjAIdeal.τ).loc Cert.RefProjAIdeal.main_arg3)
      ∧ r.2.mem ((c.tc : Thread Cert.RefProjAIdeal.nD Cert.RefProjAIdeal.τ).loc Cert.RefProjAIdeal.main_arg4) = m ((c.tc : Thread Cert.RefProjAIdeal.nD Cert.RefProjAIdeal.τ).loc Cert.RefProjAIdeal.main_arg4)
      ∧ r.2.mem ((c.tc : Thread Cert.RefProjAIdeal.nD Cert.RefProjAIdeal.τ).loc Cert.RefProjAIdeal.main_arg5) = m ((c.tc : Thread Cert.RefProjAIdeal.nD Cert.RefProjAIdeal.τ).loc Cert.RefProjAIdeal.main_arg5))
      ∧ r.2.sem = fun _ => 0)

def preserves_Dil1_Dil1Ideal : Prop :=
  IdealRules.named_const.Statement Cert.Dil1Ideal.κ "mask" .f32 0xF149F2CA#32 ⊥

def algebraic_Dil1Ideal_Ref1Ideal [hDil1Ideal : Cert.Dil1Ideal.Facts] [hRef1Ideal : Cert.Ref1Ideal.Facts] : Prop :=
  ∀ (m : (ℓ : Loc Cert.Dil1Ideal.nD Cert.Dil1Ideal.τ Cert.Dil1Ideal.sig) → Buf (Elt Ideal) ℓ) (g : Dev Cert.Dil1Ideal.nD → PrngReg)
    (m' : (ℓ : Loc Cert.Ref1Ideal.nD Cert.Ref1Ideal.τ Cert.Ref1Ideal.sig) → Buf (Elt Ideal) ℓ) (g' : Dev Cert.Ref1Ideal.nD → PrngReg), Pre_Dil1Ideal m →
    (∀ c : Dev Cert.Dil1Ideal.nD,
      m' ((c.tc : Thread Cert.Ref1Ideal.nD Cert.Ref1Ideal.τ).loc Cert.Ref1Ideal.main_arg0) = m ((c.tc : Thread Cert.Dil1Ideal.nD Cert.Dil1Ideal.τ).loc Cert.Dil1Ideal.main_arg0)
      ∧ m' ((c.tc : Thread Cert.Ref1Ideal.nD Cert.Ref1Ideal.τ).loc Cert.Ref1Ideal.main_arg1) = m ((c.tc : Thread Cert.Dil1Ideal.nD Cert.Dil1Ideal.τ).loc Cert.Dil1Ideal.main_arg1)) →
    ∃ (v0 : (c : Dev Cert.Dil1Ideal.nD) → Buf (Elt Ideal) ((c.tc : Thread Cert.Dil1Ideal.nD Cert.Dil1Ideal.τ).loc Cert.Dil1Ideal.main_v0_0)) (v1 : (c : Dev Cert.Dil1Ideal.nD) → Buf (Elt Ideal) ((c.tc : Thread Cert.Dil1Ideal.nD Cert.Dil1Ideal.τ).loc Cert.Dil1Ideal.main_v0_1)),
      θ_run (Cert.Dil1Ideal.defs (F := Ideal)) (onTc (τ := Cert.Dil1Ideal.τ) (Cert.Dil1Ideal.main (F := Ideal))) ⟨m, fun _ => 0, g⟩ (fun r => ∀ c : Dev Cert.Dil1Ideal.nD,
          r.2.mem ((c.tc : Thread Cert.Dil1Ideal.nD Cert.Dil1Ideal.τ).loc Cert.Dil1Ideal.main_v0_0) = v0 c
          ∧ r.2.mem ((c.tc : Thread Cert.Dil1Ideal.nD Cert.Dil1Ideal.τ).loc Cert.Dil1Ideal.main_v0_1) = v1 c
          ∧ r.2.mem ((c.tc : Thread Cert.Dil1Ideal.nD Cert.Dil1Ideal.τ).loc Cert.Dil1Ideal.main_arg0) = m ((c.tc : Thread Cert.Dil1Ideal.nD Cert.Dil1Ideal.τ).loc Cert.Dil1Ideal.main_arg0)
          ∧ r.2.mem ((c.tc : Thread Cert.Dil1Ideal.nD Cert.Dil1Ideal.τ).loc Cert.Dil1Ideal.main_arg1) = m ((c.tc : Thread Cert.Dil1Ideal.nD Cert.Dil1Ideal.τ).loc Cert.Dil1Ideal.main_arg1))
      ∧ θ_run (Cert.Ref1Ideal.defs (F := Ideal)) (onTc (τ := Cert.Ref1Ideal.τ) (Cert.Ref1Ideal.main (F := Ideal))) ⟨m', fun _ => 0, g'⟩ (fun r => ∀ c : Dev Cert.Ref1Ideal.nD,
          r.2.mem ((c.tc : Thread Cert.Ref1Ideal.nD Cert.Ref1Ideal.τ).loc Cert.Ref1Ideal.main_v50) = v0 c
          ∧ r.2.mem ((c.tc : Thread Cert.Ref1Ideal.nD Cert.Ref1Ideal.τ).loc Cert.Ref1Ideal.main_v51) = v1 c
          ∧ r.2.mem ((c.tc : Thread Cert.Ref1Ideal.nD Cert.Ref1Ideal.τ).loc Cert.Ref1Ideal.main_arg0) = m' ((c.tc : Thread Cert.Ref1Ideal.nD Cert.Ref1Ideal.τ).loc Cert.Ref1Ideal.main_arg0)
          ∧ r.2.mem ((c.tc : Thread Cert.Ref1Ideal.nD Cert.Ref1Ideal.τ).loc Cert.Ref1Ideal.main_arg1) = m' ((c.tc : Thread Cert.Ref1Ideal.nD Cert.Ref1Ideal.τ).loc Cert.Ref1Ideal.main_arg1))

def preserves_Dil4_Dil4Ideal : Prop :=
  IdealRules.named_const.Statement Cert.Dil4Ideal.κ "mask" .f32 0xF149F2CA#32 ⊥

def algebraic_Dil4Ideal_Ref4Ideal [hDil4Ideal : Cert.Dil4Ideal.Facts] [hRef4Ideal : Cert.Ref4Ideal.Facts] : Prop :=
  ∀ (m : (ℓ : Loc Cert.Dil4Ideal.nD Cert.Dil4Ideal.τ Cert.Dil4Ideal.sig) → Buf (Elt Ideal) ℓ) (g : Dev Cert.Dil4Ideal.nD → PrngReg)
    (m' : (ℓ : Loc Cert.Ref4Ideal.nD Cert.Ref4Ideal.τ Cert.Ref4Ideal.sig) → Buf (Elt Ideal) ℓ) (g' : Dev Cert.Ref4Ideal.nD → PrngReg), Pre_Dil4Ideal m →
    (∀ c : Dev Cert.Dil4Ideal.nD,
      m' ((c.tc : Thread Cert.Ref4Ideal.nD Cert.Ref4Ideal.τ).loc Cert.Ref4Ideal.main_arg0) = m ((c.tc : Thread Cert.Dil4Ideal.nD Cert.Dil4Ideal.τ).loc Cert.Dil4Ideal.main_arg0)
      ∧ m' ((c.tc : Thread Cert.Ref4Ideal.nD Cert.Ref4Ideal.τ).loc Cert.Ref4Ideal.main_arg1) = m ((c.tc : Thread Cert.Dil4Ideal.nD Cert.Dil4Ideal.τ).loc Cert.Dil4Ideal.main_arg1)) →
    ∃ (v0 : (c : Dev Cert.Dil4Ideal.nD) → Buf (Elt Ideal) ((c.tc : Thread Cert.Dil4Ideal.nD Cert.Dil4Ideal.τ).loc Cert.Dil4Ideal.main_v2_0)) (v1 : (c : Dev Cert.Dil4Ideal.nD) → Buf (Elt Ideal) ((c.tc : Thread Cert.Dil4Ideal.nD Cert.Dil4Ideal.τ).loc Cert.Dil4Ideal.main_v2_1)),
      θ_run (Cert.Dil4Ideal.defs (F := Ideal)) (onTc (τ := Cert.Dil4Ideal.τ) (Cert.Dil4Ideal.main (F := Ideal))) ⟨m, fun _ => 0, g⟩ (fun r => ∀ c : Dev Cert.Dil4Ideal.nD,
          r.2.mem ((c.tc : Thread Cert.Dil4Ideal.nD Cert.Dil4Ideal.τ).loc Cert.Dil4Ideal.main_v2_0) = v0 c
          ∧ r.2.mem ((c.tc : Thread Cert.Dil4Ideal.nD Cert.Dil4Ideal.τ).loc Cert.Dil4Ideal.main_v2_1) = v1 c
          ∧ r.2.mem ((c.tc : Thread Cert.Dil4Ideal.nD Cert.Dil4Ideal.τ).loc Cert.Dil4Ideal.main_arg0) = m ((c.tc : Thread Cert.Dil4Ideal.nD Cert.Dil4Ideal.τ).loc Cert.Dil4Ideal.main_arg0)
          ∧ r.2.mem ((c.tc : Thread Cert.Dil4Ideal.nD Cert.Dil4Ideal.τ).loc Cert.Dil4Ideal.main_arg1) = m ((c.tc : Thread Cert.Dil4Ideal.nD Cert.Dil4Ideal.τ).loc Cert.Dil4Ideal.main_arg1))
      ∧ θ_run (Cert.Ref4Ideal.defs (F := Ideal)) (onTc (τ := Cert.Ref4Ideal.τ) (Cert.Ref4Ideal.main (F := Ideal))) ⟨m', fun _ => 0, g'⟩ (fun r => ∀ c : Dev Cert.Ref4Ideal.nD,
          r.2.mem ((c.tc : Thread Cert.Ref4Ideal.nD Cert.Ref4Ideal.τ).loc Cert.Ref4Ideal.main_v50) = v0 c
          ∧ r.2.mem ((c.tc : Thread Cert.Ref4Ideal.nD Cert.Ref4Ideal.τ).loc Cert.Ref4Ideal.main_v51) = v1 c
          ∧ r.2.mem ((c.tc : Thread Cert.Ref4Ideal.nD Cert.Ref4Ideal.τ).loc Cert.Ref4Ideal.main_arg0) = m' ((c.tc : Thread Cert.Ref4Ideal.nD Cert.Ref4Ideal.τ).loc Cert.Ref4Ideal.main_arg0)
          ∧ r.2.mem ((c.tc : Thread Cert.Ref4Ideal.nD Cert.Ref4Ideal.τ).loc Cert.Ref4Ideal.main_arg1) = m' ((c.tc : Thread Cert.Ref4Ideal.nD Cert.Ref4Ideal.τ).loc Cert.Ref4Ideal.main_arg1))

def preserves_Dil16_Dil16Ideal : Prop :=
  IdealRules.named_const.Statement Cert.Dil16Ideal.κ "mask" .f32 0xF149F2CA#32 ⊥

def algebraic_Dil16Ideal_Ref16Ideal [hDil16Ideal : Cert.Dil16Ideal.Facts] [hRef16Ideal : Cert.Ref16Ideal.Facts] : Prop :=
  ∀ (m : (ℓ : Loc Cert.Dil16Ideal.nD Cert.Dil16Ideal.τ Cert.Dil16Ideal.sig) → Buf (Elt Ideal) ℓ) (g : Dev Cert.Dil16Ideal.nD → PrngReg)
    (m' : (ℓ : Loc Cert.Ref16Ideal.nD Cert.Ref16Ideal.τ Cert.Ref16Ideal.sig) → Buf (Elt Ideal) ℓ) (g' : Dev Cert.Ref16Ideal.nD → PrngReg), Pre_Dil16Ideal m →
    (∀ c : Dev Cert.Dil16Ideal.nD,
      m' ((c.tc : Thread Cert.Ref16Ideal.nD Cert.Ref16Ideal.τ).loc Cert.Ref16Ideal.main_arg0) = m ((c.tc : Thread Cert.Dil16Ideal.nD Cert.Dil16Ideal.τ).loc Cert.Dil16Ideal.main_arg0)
      ∧ m' ((c.tc : Thread Cert.Ref16Ideal.nD Cert.Ref16Ideal.τ).loc Cert.Ref16Ideal.main_arg1) = m ((c.tc : Thread Cert.Dil16Ideal.nD Cert.Dil16Ideal.τ).loc Cert.Dil16Ideal.main_arg1)) →
    ∃ (v0 : (c : Dev Cert.Dil16Ideal.nD) → Buf (Elt Ideal) ((c.tc : Thread Cert.Dil16Ideal.nD Cert.Dil16Ideal.τ).loc Cert.Dil16Ideal.main_v2_0)) (v1 : (c : Dev Cert.Dil16Ideal.nD) → Buf (Elt Ideal) ((c.tc : Thread Cert.Dil16Ideal.nD Cert.Dil16Ideal.τ).loc Cert.Dil16Ideal.main_v2_1)),
      θ_run (Cert.Dil16Ideal.defs (F := Ideal)) (onTc (τ := Cert.Dil16Ideal.τ) (Cert.Dil16Ideal.main (F := Ideal))) ⟨m, fun _ => 0, g⟩ (fun r => ∀ c : Dev Cert.Dil16Ideal.nD,
          r.2.mem ((c.tc : Thread Cert.Dil16Ideal.nD Cert.Dil16Ideal.τ).loc Cert.Dil16Ideal.main_v2_0) = v0 c
          ∧ r.2.mem ((c.tc : Thread Cert.Dil16Ideal.nD Cert.Dil16Ideal.τ).loc Cert.Dil16Ideal.main_v2_1) = v1 c
          ∧ r.2.mem ((c.tc : Thread Cert.Dil16Ideal.nD Cert.Dil16Ideal.τ).loc Cert.Dil16Ideal.main_arg0) = m ((c.tc : Thread Cert.Dil16Ideal.nD Cert.Dil16Ideal.τ).loc Cert.Dil16Ideal.main_arg0)
          ∧ r.2.mem ((c.tc : Thread Cert.Dil16Ideal.nD Cert.Dil16Ideal.τ).loc Cert.Dil16Ideal.main_arg1) = m ((c.tc : Thread Cert.Dil16Ideal.nD Cert.Dil16Ideal.τ).loc Cert.Dil16Ideal.main_arg1))
      ∧ θ_run (Cert.Ref16Ideal.defs (F := Ideal)) (onTc (τ := Cert.Ref16Ideal.τ) (Cert.Ref16Ideal.main (F := Ideal))) ⟨m', fun _ => 0, g'⟩ (fun r => ∀ c : Dev Cert.Ref16Ideal.nD,
          r.2.mem ((c.tc : Thread Cert.Ref16Ideal.nD Cert.Ref16Ideal.τ).loc Cert.Ref16Ideal.main_v50) = v0 c
          ∧ r.2.mem ((c.tc : Thread Cert.Ref16Ideal.nD Cert.Ref16Ideal.τ).loc Cert.Ref16Ideal.main_v51) = v1 c
          ∧ r.2.mem ((c.tc : Thread Cert.Ref16Ideal.nD Cert.Ref16Ideal.τ).loc Cert.Ref16Ideal.main_arg0) = m' ((c.tc : Thread Cert.Ref16Ideal.nD Cert.Ref16Ideal.τ).loc Cert.Ref16Ideal.main_arg0)
          ∧ r.2.mem ((c.tc : Thread Cert.Ref16Ideal.nD Cert.Ref16Ideal.τ).loc Cert.Ref16Ideal.main_arg1) = m' ((c.tc : Thread Cert.Ref16Ideal.nD Cert.Ref16Ideal.τ).loc Cert.Ref16Ideal.main_arg1))

def preserves_Post_PostIdeal : Prop :=
  True

def algebraic_PostIdeal_RefPostIdeal [hPostIdeal : Cert.PostIdeal.Facts] [hRefPostIdeal : Cert.RefPostIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.RefPostIdeal.nD Cert.RefPostIdeal.τ Cert.RefPostIdeal.sig) → Buf (Elt Ideal) ℓ) (g' : Dev Cert.RefPostIdeal.nD → PrngReg), Pre_PostIdeal m →
    (∀ c : Dev Cert.PostIdeal.nD,
      m' ((c.tc : Thread Cert.RefPostIdeal.nD Cert.RefPostIdeal.τ).loc Cert.RefPostIdeal.main_arg0) = m ((c.tc : Thread Cert.PostIdeal.nD Cert.PostIdeal.τ).loc Cert.PostIdeal.main_arg0)
      ∧ m' ((c.tc : Thread Cert.RefPostIdeal.nD Cert.RefPostIdeal.τ).loc Cert.RefPostIdeal.main_arg1) = m ((c.tc : Thread Cert.PostIdeal.nD Cert.PostIdeal.τ).loc Cert.PostIdeal.main_arg1)
      ∧ m' ((c.tc : Thread Cert.RefPostIdeal.nD Cert.RefPostIdeal.τ).loc Cert.RefPostIdeal.main_arg2) = m ((c.tc : Thread Cert.PostIdeal.nD Cert.PostIdeal.τ).loc Cert.PostIdeal.main_arg2)
      ∧ m' ((c.tc : Thread Cert.RefPostIdeal.nD Cert.RefPostIdeal.τ).loc Cert.RefPostIdeal.main_arg3) = m ((c.tc : Thread Cert.PostIdeal.nD Cert.PostIdeal.τ).loc Cert.PostIdeal.main_arg3)
      ∧ m' ((c.tc : Thread Cert.RefPostIdeal.nD Cert.RefPostIdeal.τ).loc Cert.RefPostIdeal.main_arg4) = m ((c.tc : Thread Cert.PostIdeal.nD Cert.PostIdeal.τ).loc Cert.PostIdeal.main_arg4)
      ∧ m' ((c.tc : Thread Cert.RefPostIdeal.nD Cert.RefPostIdeal.τ).loc Cert.RefPostIdeal.main_arg5) = m ((c.tc : Thread Cert.PostIdeal.nD Cert.PostIdeal.τ).loc Cert.PostIdeal.main_arg5)
      ∧ m' ((c.tc : Thread Cert.RefPostIdeal.nD Cert.RefPostIdeal.τ).loc Cert.RefPostIdeal.main_arg6) = m ((c.tc : Thread Cert.PostIdeal.nD Cert.PostIdeal.τ).loc Cert.PostIdeal.main_arg6)
      ∧ m' ((c.tc : Thread Cert.RefPostIdeal.nD Cert.RefPostIdeal.τ).loc Cert.RefPostIdeal.main_arg7) = m ((c.tc : Thread Cert.PostIdeal.nD Cert.PostIdeal.τ).loc Cert.PostIdeal.main_arg7)
      ∧ m' ((c.tc : Thread Cert.RefPostIdeal.nD Cert.RefPostIdeal.τ).loc Cert.RefPostIdeal.main_arg8) = m ((c.tc : Thread Cert.PostIdeal.nD Cert.PostIdeal.τ).loc Cert.PostIdeal.main_arg8)
      ∧ m' ((c.tc : Thread Cert.RefPostIdeal.nD Cert.RefPostIdeal.τ).loc Cert.RefPostIdeal.main_arg9) = m ((c.tc : Thread Cert.PostIdeal.nD Cert.PostIdeal.τ).loc Cert.PostIdeal.main_arg9)
      ∧ m' ((c.tc : Thread Cert.RefPostIdeal.nD Cert.RefPostIdeal.τ).loc Cert.RefPostIdeal.main_arg10) = m ((c.tc : Thread Cert.PostIdeal.nD Cert.PostIdeal.τ).loc Cert.PostIdeal.main_arg10)
      ∧ m' ((c.tc : Thread Cert.RefPostIdeal.nD Cert.RefPostIdeal.τ).loc Cert.RefPostIdeal.main_arg11) = m ((c.tc : Thread Cert.PostIdeal.nD Cert.PostIdeal.τ).loc Cert.PostIdeal.main_arg11)
      ∧ m' ((c.tc : Thread Cert.RefPostIdeal.nD Cert.RefPostIdeal.τ).loc Cert.RefPostIdeal.main_arg12) = m ((c.tc : Thread Cert.PostIdeal.nD Cert.PostIdeal.τ).loc Cert.PostIdeal.main_arg12)
      ∧ m' ((c.tc : Thread Cert.RefPostIdeal.nD Cert.RefPostIdeal.τ).loc Cert.RefPostIdeal.main_arg13) = m ((c.tc : Thread Cert.PostIdeal.nD Cert.PostIdeal.τ).loc Cert.PostIdeal.main_arg13)
      ∧ m' ((c.tc : Thread Cert.RefPostIdeal.nD Cert.RefPostIdeal.τ).loc Cert.RefPostIdeal.main_arg14) = m ((c.tc : Thread Cert.PostIdeal.nD Cert.PostIdeal.τ).loc Cert.PostIdeal.main_arg14)) →
    ∃ (v0 : (c : Dev Cert.PostIdeal.nD) → Buf (Elt Ideal) ((c.tc : Thread Cert.PostIdeal.nD Cert.PostIdeal.τ).loc Cert.PostIdeal.main_v0)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v0) = v0 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
          ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
          ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
          ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
          ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
          ∧ r.2.mem ((c.tc : Thread Cert.PostIdeal.nD Cert.PostIdeal.τ).loc Cert.PostIdeal.main_arg10) = m ((c.tc : Thread Cert.PostIdeal.nD Cert.PostIdeal.τ).loc Cert.PostIdeal.main_arg10)
          ∧ r.2.mem ((c.tc : Thread Cert.PostIdeal.nD Cert.PostIdeal.τ).loc Cert.PostIdeal.main_arg11) = m ((c.tc : Thread Cert.PostIdeal.nD Cert.PostIdeal.τ).loc Cert.PostIdeal.main_arg11)
          ∧ r.2.mem ((c.tc : Thread Cert.PostIdeal.nD Cert.PostIdeal.τ).loc Cert.PostIdeal.main_arg12) = m ((c.tc : Thread Cert.PostIdeal.nD Cert.PostIdeal.τ).loc Cert.PostIdeal.main_arg12)
          ∧ r.2.mem ((c.tc : Thread Cert.PostIdeal.nD Cert.PostIdeal.τ).loc Cert.PostIdeal.main_arg13) = m ((c.tc : Thread Cert.PostIdeal.nD Cert.PostIdeal.τ).loc Cert.PostIdeal.main_arg13)
          ∧ r.2.mem ((c.tc : Thread Cert.PostIdeal.nD Cert.PostIdeal.τ).loc Cert.PostIdeal.main_arg14) = m ((c.tc : Thread Cert.PostIdeal.nD Cert.PostIdeal.τ).loc Cert.PostIdeal.main_arg14))
      ∧ θ_run (Cert.RefPostIdeal.defs (F := Ideal)) (onTc (τ := Cert.RefPostIdeal.τ) (Cert.RefPostIdeal.main (F := Ideal))) ⟨m', fun _ => 0, g'⟩ (fun r => ∀ c : Dev Cert.RefPostIdeal.nD,
          r.2.mem ((c.tc : Thread Cert.RefPostIdeal.nD Cert.RefPostIdeal.τ).loc Cert.RefPostIdeal.main_v101) = v0 c
          ∧ r.2.mem ((c.tc : Thread Cert.RefPostIdeal.nD Cert.RefPostIdeal.τ).loc Cert.RefPostIdeal.main_arg0) = m' ((c.tc : Thread Cert.RefPostIdeal.nD Cert.RefPostIdeal.τ).loc Cert.RefPostIdeal.main_arg0)
          ∧ r.2.mem ((c.tc : Thread Cert.RefPostIdeal.nD Cert.RefPostIdeal.τ).loc Cert.RefPostIdeal.main_arg1) = m' ((c.tc : Thread Cert.RefPostIdeal.nD Cert.RefPostIdeal.τ).loc Cert.RefPostIdeal.main_arg1)
          ∧ r.2.mem ((c.tc : Thread Cert.RefPostIdeal.nD Cert.RefPostIdeal.τ).loc Cert.RefPostIdeal.main_arg2) = m' ((c.tc : Thread Cert.RefPostIdeal.nD Cert.RefPostIdeal.τ).loc Cert.RefPostIdeal.main_arg2)
          ∧ r.2.mem ((c.tc : Thread Cert.RefPostIdeal.nD Cert.RefPostIdeal.τ).loc Cert.RefPostIdeal.main_arg3) = m' ((c.tc : Thread Cert.RefPostIdeal.nD Cert.RefPostIdeal.τ).loc Cert.RefPostIdeal.main_arg3)
          ∧ r.2.mem ((c.tc : Thread Cert.RefPostIdeal.nD Cert.RefPostIdeal.τ).loc Cert.RefPostIdeal.main_arg4) = m' ((c.tc : Thread Cert.RefPostIdeal.nD Cert.RefPostIdeal.τ).loc Cert.RefPostIdeal.main_arg4)
          ∧ r.2.mem ((c.tc : Thread Cert.RefPostIdeal.nD Cert.RefPostIdeal.τ).loc Cert.RefPostIdeal.main_arg5) = m' ((c.tc : Thread Cert.RefPostIdeal.nD Cert.RefPostIdeal.τ).loc Cert.RefPostIdeal.main_arg5)
          ∧ r.2.mem ((c.tc : Thread Cert.RefPostIdeal.nD Cert.RefPostIdeal.τ).loc Cert.RefPostIdeal.main_arg6) = m' ((c.tc : Thread Cert.RefPostIdeal.nD Cert.RefPostIdeal.τ).loc Cert.RefPostIdeal.main_arg6)
          ∧ r.2.mem ((c.tc : Thread Cert.RefPostIdeal.nD Cert.RefPostIdeal.τ).loc Cert.RefPostIdeal.main_arg7) = m' ((c.tc : Thread Cert.RefPostIdeal.nD Cert.RefPostIdeal.τ).loc Cert.RefPostIdeal.main_arg7)
          ∧ r.2.mem ((c.tc : Thread Cert.RefPostIdeal.nD Cert.RefPostIdeal.τ).loc Cert.RefPostIdeal.main_arg8) = m' ((c.tc : Thread Cert.RefPostIdeal.nD Cert.RefPostIdeal.τ).loc Cert.RefPostIdeal.main_arg8)
          ∧ r.2.mem ((c.tc : Thread Cert.RefPostIdeal.nD Cert.RefPostIdeal.τ).loc Cert.RefPostIdeal.main_arg9) = m' ((c.tc : Thread Cert.RefPostIdeal.nD Cert.RefPostIdeal.τ).loc Cert.RefPostIdeal.main_arg9)
          ∧ r.2.mem ((c.tc : Thread Cert.RefPostIdeal.nD Cert.RefPostIdeal.τ).loc Cert.RefPostIdeal.main_arg10) = m' ((c.tc : Thread Cert.RefPostIdeal.nD Cert.RefPostIdeal.τ).loc Cert.RefPostIdeal.main_arg10)
          ∧ r.2.mem ((c.tc : Thread Cert.RefPostIdeal.nD Cert.RefPostIdeal.τ).loc Cert.RefPostIdeal.main_arg11) = m' ((c.tc : Thread Cert.RefPostIdeal.nD Cert.RefPostIdeal.τ).loc Cert.RefPostIdeal.main_arg11)
          ∧ r.2.mem ((c.tc : Thread Cert.RefPostIdeal.nD Cert.RefPostIdeal.τ).loc Cert.RefPostIdeal.main_arg12) = m' ((c.tc : Thread Cert.RefPostIdeal.nD Cert.RefPostIdeal.τ).loc Cert.RefPostIdeal.main_arg12)
          ∧ r.2.mem ((c.tc : Thread Cert.RefPostIdeal.nD Cert.RefPostIdeal.τ).loc Cert.RefPostIdeal.main_arg13) = m' ((c.tc : Thread Cert.RefPostIdeal.nD Cert.RefPostIdeal.τ).loc Cert.RefPostIdeal.main_arg13)
          ∧ r.2.mem ((c.tc : Thread Cert.RefPostIdeal.nD Cert.RefPostIdeal.τ).loc Cert.RefPostIdeal.main_arg14) = m' ((c.tc : Thread Cert.RefPostIdeal.nD Cert.RefPostIdeal.τ).loc Cert.RefPostIdeal.main_arg14))

def preserves_PostS_PostSIdeal : Prop :=
  True

def algebraic_PostSIdeal_RefPostSIdeal [hPostSIdeal : Cert.PostSIdeal.Facts] [hRefPostSIdeal : Cert.RefPostSIdeal.Facts] : Prop :=
  ∀ (m : (ℓ : Loc Cert.PostSIdeal.nD Cert.PostSIdeal.τ Cert.PostSIdeal.sig) → Buf (Elt Ideal) ℓ) (g : Dev Cert.PostSIdeal.nD → PrngReg)
    (m' : (ℓ : Loc Cert.RefPostSIdeal.nD Cert.RefPostSIdeal.τ Cert.RefPostSIdeal.sig) → Buf (Elt Ideal) ℓ) (g' : Dev Cert.RefPostSIdeal.nD → PrngReg), Pre_PostSIdeal m →
    (∀ c : Dev Cert.PostSIdeal.nD,
      m' ((c.tc : Thread Cert.RefPostSIdeal.nD Cert.RefPostSIdeal.τ).loc Cert.RefPostSIdeal.main_arg0) = m ((c.tc : Thread Cert.PostSIdeal.nD Cert.PostSIdeal.τ).loc Cert.PostSIdeal.main_arg0)
      ∧ m' ((c.tc : Thread Cert.RefPostSIdeal.nD Cert.RefPostSIdeal.τ).loc Cert.RefPostSIdeal.main_arg1) = m ((c.tc : Thread Cert.PostSIdeal.nD Cert.PostSIdeal.τ).loc Cert.PostSIdeal.main_arg1)
      ∧ m' ((c.tc : Thread Cert.RefPostSIdeal.nD Cert.RefPostSIdeal.τ).loc Cert.RefPostSIdeal.main_arg2) = m ((c.tc : Thread Cert.PostSIdeal.nD Cert.PostSIdeal.τ).loc Cert.PostSIdeal.main_arg2)
      ∧ m' ((c.tc : Thread Cert.RefPostSIdeal.nD Cert.RefPostSIdeal.τ).loc Cert.RefPostSIdeal.main_arg3) = m ((c.tc : Thread Cert.PostSIdeal.nD Cert.PostSIdeal.τ).loc Cert.PostSIdeal.main_arg3)
      ∧ m' ((c.tc : Thread Cert.RefPostSIdeal.nD Cert.RefPostSIdeal.τ).loc Cert.RefPostSIdeal.main_arg4) = m ((c.tc : Thread Cert.PostSIdeal.nD Cert.PostSIdeal.τ).loc Cert.PostSIdeal.main_arg4)
      ∧ m' ((c.tc : Thread Cert.RefPostSIdeal.nD Cert.RefPostSIdeal.τ).loc Cert.RefPostSIdeal.main_arg5) = m ((c.tc : Thread Cert.PostSIdeal.nD Cert.PostSIdeal.τ).loc Cert.PostSIdeal.main_arg5)
      ∧ m' ((c.tc : Thread Cert.RefPostSIdeal.nD Cert.RefPostSIdeal.τ).loc Cert.RefPostSIdeal.main_arg6) = m ((c.tc : Thread Cert.PostSIdeal.nD Cert.PostSIdeal.τ).loc Cert.PostSIdeal.main_arg6)
      ∧ m' ((c.tc : Thread Cert.RefPostSIdeal.nD Cert.RefPostSIdeal.τ).loc Cert.RefPostSIdeal.main_arg7) = m ((c.tc : Thread Cert.PostSIdeal.nD Cert.PostSIdeal.τ).loc Cert.PostSIdeal.main_arg7)
      ∧ m' ((c.tc : Thread Cert.RefPostSIdeal.nD Cert.RefPostSIdeal.τ).loc Cert.RefPostSIdeal.main_arg8) = m ((c.tc : Thread Cert.PostSIdeal.nD Cert.PostSIdeal.τ).loc Cert.PostSIdeal.main_arg8)
      ∧ m' ((c.tc : Thread Cert.RefPostSIdeal.nD Cert.RefPostSIdeal.τ).loc Cert.RefPostSIdeal.main_arg9) = m ((c.tc : Thread Cert.PostSIdeal.nD Cert.PostSIdeal.τ).loc Cert.PostSIdeal.main_arg9)) →
    ∃ (v0 : (c : Dev Cert.PostSIdeal.nD) → Buf (Elt Ideal) ((c.tc : Thread Cert.PostSIdeal.nD Cert.PostSIdeal.τ).loc Cert.PostSIdeal.main_v0)),
      θ_run (Cert.PostSIdeal.defs (F := Ideal)) (onTc (τ := Cert.PostSIdeal.τ) (Cert.PostSIdeal.main (F := Ideal))) ⟨m, fun _ => 0, g⟩ (fun r => ∀ c : Dev Cert.PostSIdeal.nD,
          r.2.mem ((c.tc : Thread Cert.PostSIdeal.nD Cert.PostSIdeal.τ).loc Cert.PostSIdeal.main_v0) = v0 c
          ∧ r.2.mem ((c.tc : Thread Cert.PostSIdeal.nD Cert.PostSIdeal.τ).loc Cert.PostSIdeal.main_arg0) = m ((c.tc : Thread Cert.PostSIdeal.nD Cert.PostSIdeal.τ).loc Cert.PostSIdeal.main_arg0)
          ∧ r.2.mem ((c.tc : Thread Cert.PostSIdeal.nD Cert.PostSIdeal.τ).loc Cert.PostSIdeal.main_arg1) = m ((c.tc : Thread Cert.PostSIdeal.nD Cert.PostSIdeal.τ).loc Cert.PostSIdeal.main_arg1)
          ∧ r.2.mem ((c.tc : Thread Cert.PostSIdeal.nD Cert.PostSIdeal.τ).loc Cert.PostSIdeal.main_arg2) = m ((c.tc : Thread Cert.PostSIdeal.nD Cert.PostSIdeal.τ).loc Cert.PostSIdeal.main_arg2)
          ∧ r.2.mem ((c.tc : Thread Cert.PostSIdeal.nD Cert.PostSIdeal.τ).loc Cert.PostSIdeal.main_arg3) = m ((c.tc : Thread Cert.PostSIdeal.nD Cert.PostSIdeal.τ).loc Cert.PostSIdeal.main_arg3)
          ∧ r.2.mem ((c.tc : Thread Cert.PostSIdeal.nD Cert.PostSIdeal.τ).loc Cert.PostSIdeal.main_arg4) = m ((c.tc : Thread Cert.PostSIdeal.nD Cert.PostSIdeal.τ).loc Cert.PostSIdeal.main_arg4)
          ∧ r.2.mem ((c.tc : Thread Cert.PostSIdeal.nD Cert.PostSIdeal.τ).loc Cert.PostSIdeal.main_arg5) = m ((c.tc : Thread Cert.PostSIdeal.nD Cert.PostSIdeal.τ).loc Cert.PostSIdeal.main_arg5)
          ∧ r.2.mem ((c.tc : Thread Cert.PostSIdeal.nD Cert.PostSIdeal.τ).loc Cert.PostSIdeal.main_arg6) = m ((c.tc : Thread Cert.PostSIdeal.nD Cert.PostSIdeal.τ).loc Cert.PostSIdeal.main_arg6)
          ∧ r.2.mem ((c.tc : Thread Cert.PostSIdeal.nD Cert.PostSIdeal.τ).loc Cert.PostSIdeal.main_arg7) = m ((c.tc : Thread Cert.PostSIdeal.nD Cert.PostSIdeal.τ).loc Cert.PostSIdeal.main_arg7)
          ∧ r.2.mem ((c.tc : Thread Cert.PostSIdeal.nD Cert.PostSIdeal.τ).loc Cert.PostSIdeal.main_arg8) = m ((c.tc : Thread Cert.PostSIdeal.nD Cert.PostSIdeal.τ).loc Cert.PostSIdeal.main_arg8)
          ∧ r.2.mem ((c.tc : Thread Cert.PostSIdeal.nD Cert.PostSIdeal.τ).loc Cert.PostSIdeal.main_arg9) = m ((c.tc : Thread Cert.PostSIdeal.nD Cert.PostSIdeal.τ).loc Cert.PostSIdeal.main_arg9))
      ∧ θ_run (Cert.RefPostSIdeal.defs (F := Ideal)) (onTc (τ := Cert.RefPostSIdeal.τ) (Cert.RefPostSIdeal.main (F := Ideal))) ⟨m', fun _ => 0, g'⟩ (fun r => ∀ c : Dev Cert.RefPostSIdeal.nD,
          r.2.mem ((c.tc : Thread Cert.RefPostSIdeal.nD Cert.RefPostSIdeal.τ).loc Cert.RefPostSIdeal.main_v49) = v0 c
          ∧ r.2.mem ((c.tc : Thread Cert.RefPostSIdeal.nD Cert.RefPostSIdeal.τ).loc Cert.RefPostSIdeal.main_arg0) = m' ((c.tc : Thread Cert.RefPostSIdeal.nD Cert.RefPostSIdeal.τ).loc Cert.RefPostSIdeal.main_arg0)
          ∧ r.2.mem ((c.tc : Thread Cert.RefPostSIdeal.nD Cert.RefPostSIdeal.τ).loc Cert.RefPostSIdeal.main_arg1) = m' ((c.tc : Thread Cert.RefPostSIdeal.nD Cert.RefPostSIdeal.τ).loc Cert.RefPostSIdeal.main_arg1)
          ∧ r.2.mem ((c.tc : Thread Cert.RefPostSIdeal.nD Cert.RefPostSIdeal.τ).loc Cert.RefPostSIdeal.main_arg2) = m' ((c.tc : Thread Cert.RefPostSIdeal.nD Cert.RefPostSIdeal.τ).loc Cert.RefPostSIdeal.main_arg2)
          ∧ r.2.mem ((c.tc : Thread Cert.RefPostSIdeal.nD Cert.RefPostSIdeal.τ).loc Cert.RefPostSIdeal.main_arg3) = m' ((c.tc : Thread Cert.RefPostSIdeal.nD Cert.RefPostSIdeal.τ).loc Cert.RefPostSIdeal.main_arg3)
          ∧ r.2.mem ((c.tc : Thread Cert.RefPostSIdeal.nD Cert.RefPostSIdeal.τ).loc Cert.RefPostSIdeal.main_arg4) = m' ((c.tc : Thread Cert.RefPostSIdeal.nD Cert.RefPostSIdeal.τ).loc Cert.RefPostSIdeal.main_arg4)
          ∧ r.2.mem ((c.tc : Thread Cert.RefPostSIdeal.nD Cert.RefPostSIdeal.τ).loc Cert.RefPostSIdeal.main_arg5) = m' ((c.tc : Thread Cert.RefPostSIdeal.nD Cert.RefPostSIdeal.τ).loc Cert.RefPostSIdeal.main_arg5)
          ∧ r.2.mem ((c.tc : Thread Cert.RefPostSIdeal.nD Cert.RefPostSIdeal.τ).loc Cert.RefPostSIdeal.main_arg6) = m' ((c.tc : Thread Cert.RefPostSIdeal.nD Cert.RefPostSIdeal.τ).loc Cert.RefPostSIdeal.main_arg6)
          ∧ r.2.mem ((c.tc : Thread Cert.RefPostSIdeal.nD Cert.RefPostSIdeal.τ).loc Cert.RefPostSIdeal.main_arg7) = m' ((c.tc : Thread Cert.RefPostSIdeal.nD Cert.RefPostSIdeal.τ).loc Cert.RefPostSIdeal.main_arg7)
          ∧ r.2.mem ((c.tc : Thread Cert.RefPostSIdeal.nD Cert.RefPostSIdeal.τ).loc Cert.RefPostSIdeal.main_arg8) = m' ((c.tc : Thread Cert.RefPostSIdeal.nD Cert.RefPostSIdeal.τ).loc Cert.RefPostSIdeal.main_arg8)
          ∧ r.2.mem ((c.tc : Thread Cert.RefPostSIdeal.nD Cert.RefPostSIdeal.τ).loc Cert.RefPostSIdeal.main_arg9) = m' ((c.tc : Thread Cert.RefPostSIdeal.nD Cert.RefPostSIdeal.τ).loc Cert.RefPostSIdeal.main_arg9))

def preserves_ProjC_ProjCIdeal : Prop :=
  True

def algebraic_ProjCIdeal_RefProjCIdeal [hProjCIdeal : Cert.ProjCIdeal.Facts] [hRefProjCIdeal : Cert.RefProjCIdeal.Facts] : Prop :=
  ∀ (m : (ℓ : Loc Cert.ProjCIdeal.nD Cert.ProjCIdeal.τ Cert.ProjCIdeal.sig) → Buf (Elt Ideal) ℓ) (g : Dev Cert.ProjCIdeal.nD → PrngReg)
    (m' : (ℓ : Loc Cert.RefProjCIdeal.nD Cert.RefProjCIdeal.τ Cert.RefProjCIdeal.sig) → Buf (Elt Ideal) ℓ) (g' : Dev Cert.RefProjCIdeal.nD → PrngReg), Pre_ProjCIdeal m →
    (∀ c : Dev Cert.ProjCIdeal.nD,
      m' ((c.tc : Thread Cert.RefProjCIdeal.nD Cert.RefProjCIdeal.τ).loc Cert.RefProjCIdeal.main_arg0) = m ((c.tc : Thread Cert.ProjCIdeal.nD Cert.ProjCIdeal.τ).loc Cert.ProjCIdeal.main_arg0)
      ∧ m' ((c.tc : Thread Cert.RefProjCIdeal.nD Cert.RefProjCIdeal.τ).loc Cert.RefProjCIdeal.main_arg1) = m ((c.tc : Thread Cert.ProjCIdeal.nD Cert.ProjCIdeal.τ).loc Cert.ProjCIdeal.main_arg1)
      ∧ m' ((c.tc : Thread Cert.RefProjCIdeal.nD Cert.RefProjCIdeal.τ).loc Cert.RefProjCIdeal.main_arg2) = m ((c.tc : Thread Cert.ProjCIdeal.nD Cert.ProjCIdeal.τ).loc Cert.ProjCIdeal.main_arg2)
      ∧ m' ((c.tc : Thread Cert.RefProjCIdeal.nD Cert.RefProjCIdeal.τ).loc Cert.RefProjCIdeal.main_arg3) = m ((c.tc : Thread Cert.ProjCIdeal.nD Cert.ProjCIdeal.τ).loc Cert.ProjCIdeal.main_arg3)) →
    ∃ (v0 : (c : Dev Cert.ProjCIdeal.nD) → Buf (Elt Ideal) ((c.tc : Thread Cert.ProjCIdeal.nD Cert.ProjCIdeal.τ).loc Cert.ProjCIdeal.main_v34_0)) (v1 : (c : Dev Cert.ProjCIdeal.nD) → Buf (Elt Ideal) ((c.tc : Thread Cert.ProjCIdeal.nD Cert.ProjCIdeal.τ).loc Cert.ProjCIdeal.main_v34_1)) (v2 : (c : Dev Cert.ProjCIdeal.nD) → Buf (Elt Ideal) ((c.tc : Thread Cert.ProjCIdeal.nD Cert.ProjCIdeal.τ).loc Cert.ProjCIdeal.main_v34_2)) (v3 : (c : Dev Cert.ProjCIdeal.nD) → Buf (Elt Ideal) ((c.tc : Thread Cert.ProjCIdeal.nD Cert.ProjCIdeal.τ).loc Cert.ProjCIdeal.main_v34_3)) (v4 : (c : Dev Cert.ProjCIdeal.nD) → Buf (Elt Ideal) ((c.tc : Thread Cert.ProjCIdeal.nD Cert.ProjCIdeal.τ).loc Cert.ProjCIdeal.main_v34_4)) (v5 : (c : Dev Cert.ProjCIdeal.nD) → Buf (Elt Ideal) ((c.tc : Thread Cert.ProjCIdeal.nD Cert.ProjCIdeal.τ).loc Cert.ProjCIdeal.main_v34_5)) (v6 : (c : Dev Cert.ProjCIdeal.nD) → Buf (Elt Ideal) ((c.tc : Thread Cert.ProjCIdeal.nD Cert.ProjCIdeal.τ).loc Cert.ProjCIdeal.main_v34_6)) (v7 : (c : Dev Cert.ProjCIdeal.nD) → Buf (Elt Ideal) ((c.tc : Thread Cert.ProjCIdeal.nD Cert.ProjCIdeal.τ).loc Cert.ProjCIdeal.main_v34_7)) (v8 : (c : Dev Cert.ProjCIdeal.nD) → Buf (Elt Ideal) ((c.tc : Thread Cert.ProjCIdeal.nD Cert.ProjCIdeal.τ).loc Cert.ProjCIdeal.main_v34_8)),
      θ_run (Cert.ProjCIdeal.defs (F := Ideal)) (onTc (τ := Cert.ProjCIdeal.τ) (Cert.ProjCIdeal.main (F := Ideal))) ⟨m, fun _ => 0, g⟩ (fun r => ∀ c : Dev Cert.ProjCIdeal.nD,
          r.2.mem ((c.tc : Thread Cert.ProjCIdeal.nD Cert.ProjCIdeal.τ).loc Cert.ProjCIdeal.main_v34_0) = v0 c
          ∧ r.2.mem ((c.tc : Thread Cert.ProjCIdeal.nD Cert.ProjCIdeal.τ).loc Cert.ProjCIdeal.main_v34_1) = v1 c
          ∧ r.2.mem ((c.tc : Thread Cert.ProjCIdeal.nD Cert.ProjCIdeal.τ).loc Cert.ProjCIdeal.main_v34_2) = v2 c
          ∧ r.2.mem ((c.tc : Thread Cert.ProjCIdeal.nD Cert.ProjCIdeal.τ).loc Cert.ProjCIdeal.main_v34_3) = v3 c
          ∧ r.2.mem ((c.tc : Thread Cert.ProjCIdeal.nD Cert.ProjCIdeal.τ).loc Cert.ProjCIdeal.main_v34_4) = v4 c
          ∧ r.2.mem ((c.tc : Thread Cert.ProjCIdeal.nD Cert.ProjCIdeal.τ).loc Cert.ProjCIdeal.main_v34_5) = v5 c
          ∧ r.2.mem ((c.tc : Thread Cert.ProjCIdeal.nD Cert.ProjCIdeal.τ).loc Cert.ProjCIdeal.main_v34_6) = v6 c
          ∧ r.2.mem ((c.tc : Thread Cert.ProjCIdeal.nD Cert.ProjCIdeal.τ).loc Cert.ProjCIdeal.main_v34_7) = v7 c
          ∧ r.2.mem ((c.tc : Thread Cert.ProjCIdeal.nD Cert.ProjCIdeal.τ).loc Cert.ProjCIdeal.main_v34_8) = v8 c
          ∧ r.2.mem ((c.tc : Thread Cert.ProjCIdeal.nD Cert.ProjCIdeal.τ).loc Cert.ProjCIdeal.main_arg0) = m ((c.tc : Thread Cert.ProjCIdeal.nD Cert.ProjCIdeal.τ).loc Cert.ProjCIdeal.main_arg0)
          ∧ r.2.mem ((c.tc : Thread Cert.ProjCIdeal.nD Cert.ProjCIdeal.τ).loc Cert.ProjCIdeal.main_arg1) = m ((c.tc : Thread Cert.ProjCIdeal.nD Cert.ProjCIdeal.τ).loc Cert.ProjCIdeal.main_arg1)
          ∧ r.2.mem ((c.tc : Thread Cert.ProjCIdeal.nD Cert.ProjCIdeal.τ).loc Cert.ProjCIdeal.main_arg2) = m ((c.tc : Thread Cert.ProjCIdeal.nD Cert.ProjCIdeal.τ).loc Cert.ProjCIdeal.main_arg2)
          ∧ r.2.mem ((c.tc : Thread Cert.ProjCIdeal.nD Cert.ProjCIdeal.τ).loc Cert.ProjCIdeal.main_arg3) = m ((c.tc : Thread Cert.ProjCIdeal.nD Cert.ProjCIdeal.τ).loc Cert.ProjCIdeal.main_arg3))
      ∧ θ_run (Cert.RefProjCIdeal.defs (F := Ideal)) (onTc (τ := Cert.RefProjCIdeal.τ) (Cert.RefProjCIdeal.main (F := Ideal))) ⟨m', fun _ => 0, g'⟩ (fun r => ∀ c : Dev Cert.RefProjCIdeal.nD,
          r.2.mem ((c.tc : Thread Cert.RefProjCIdeal.nD Cert.RefProjCIdeal.τ).loc Cert.RefProjCIdeal.main_v340) = v0 c
          ∧ r.2.mem ((c.tc : Thread Cert.RefProjCIdeal.nD Cert.RefProjCIdeal.τ).loc Cert.RefProjCIdeal.main_v344) = v1 c
          ∧ r.2.mem ((c.tc : Thread Cert.RefProjCIdeal.nD Cert.RefProjCIdeal.τ).loc Cert.RefProjCIdeal.main_v348) = v2 c
          ∧ r.2.mem ((c.tc : Thread Cert.RefProjCIdeal.nD Cert.RefProjCIdeal.τ).loc Cert.RefProjCIdeal.main_v349) = v3 c
          ∧ r.2.mem ((c.tc : Thread Cert.RefProjCIdeal.nD Cert.RefProjCIdeal.τ).loc Cert.RefProjCIdeal.main_v350) = v4 c
          ∧ r.2.mem ((c.tc : Thread Cert.RefProjCIdeal.nD Cert.RefProjCIdeal.τ).loc Cert.RefProjCIdeal.main_v351) = v5 c
          ∧ r.2.mem ((c.tc : Thread Cert.RefProjCIdeal.nD Cert.RefProjCIdeal.τ).loc Cert.RefProjCIdeal.main_v353) = v6 c
          ∧ r.2.mem ((c.tc : Thread Cert.RefProjCIdeal.nD Cert.RefProjCIdeal.τ).loc Cert.RefProjCIdeal.main_v355) = v7 c
          ∧ r.2.mem ((c.tc : Thread Cert.RefProjCIdeal.nD Cert.RefProjCIdeal.τ).loc Cert.RefProjCIdeal.main_v357) = v8 c
          ∧ r.2.mem ((c.tc : Thread Cert.RefProjCIdeal.nD Cert.RefProjCIdeal.τ).loc Cert.RefProjCIdeal.main_arg0) = m' ((c.tc : Thread Cert.RefProjCIdeal.nD Cert.RefProjCIdeal.τ).loc Cert.RefProjCIdeal.main_arg0)
          ∧ r.2.mem ((c.tc : Thread Cert.RefProjCIdeal.nD Cert.RefProjCIdeal.τ).loc Cert.RefProjCIdeal.main_arg1) = m' ((c.tc : Thread Cert.RefProjCIdeal.nD Cert.RefProjCIdeal.τ).loc Cert.RefProjCIdeal.main_arg1)
          ∧ r.2.mem ((c.tc : Thread Cert.RefProjCIdeal.nD Cert.RefProjCIdeal.τ).loc Cert.RefProjCIdeal.main_arg2) = m' ((c.tc : Thread Cert.RefProjCIdeal.nD Cert.RefProjCIdeal.τ).loc Cert.RefProjCIdeal.main_arg2)
          ∧ r.2.mem ((c.tc : Thread Cert.RefProjCIdeal.nD Cert.RefProjCIdeal.τ).loc Cert.RefProjCIdeal.main_arg3) = m' ((c.tc : Thread Cert.RefProjCIdeal.nD Cert.RefProjCIdeal.τ).loc Cert.RefProjCIdeal.main_arg3))

def preserves_ProjA_ProjAIdeal : Prop :=
  True

def algebraic_ProjAIdeal_RefProjAIdeal [hProjAIdeal : Cert.ProjAIdeal.Facts] [hRefProjAIdeal : Cert.RefProjAIdeal.Facts] : Prop :=
  ∀ (m : (ℓ : Loc Cert.ProjAIdeal.nD Cert.ProjAIdeal.τ Cert.ProjAIdeal.sig) → Buf (Elt Ideal) ℓ) (g : Dev Cert.ProjAIdeal.nD → PrngReg)
    (m' : (ℓ : Loc Cert.RefProjAIdeal.nD Cert.RefProjAIdeal.τ Cert.RefProjAIdeal.sig) → Buf (Elt Ideal) ℓ) (g' : Dev Cert.RefProjAIdeal.nD → PrngReg), Pre_ProjAIdeal m →
    (∀ c : Dev Cert.ProjAIdeal.nD,
      m' ((c.tc : Thread Cert.RefProjAIdeal.nD Cert.RefProjAIdeal.τ).loc Cert.RefProjAIdeal.main_arg0) = m ((c.tc : Thread Cert.ProjAIdeal.nD Cert.ProjAIdeal.τ).loc Cert.ProjAIdeal.main_arg0)
      ∧ m' ((c.tc : Thread Cert.RefProjAIdeal.nD Cert.RefProjAIdeal.τ).loc Cert.RefProjAIdeal.main_arg1) = m ((c.tc : Thread Cert.ProjAIdeal.nD Cert.ProjAIdeal.τ).loc Cert.ProjAIdeal.main_arg1)
      ∧ m' ((c.tc : Thread Cert.RefProjAIdeal.nD Cert.RefProjAIdeal.τ).loc Cert.RefProjAIdeal.main_arg2) = m ((c.tc : Thread Cert.ProjAIdeal.nD Cert.ProjAIdeal.τ).loc Cert.ProjAIdeal.main_arg2)
      ∧ m' ((c.tc : Thread Cert.RefProjAIdeal.nD Cert.RefProjAIdeal.τ).loc Cert.RefProjAIdeal.main_arg3) = m ((c.tc : Thread Cert.ProjAIdeal.nD Cert.ProjAIdeal.τ).loc Cert.ProjAIdeal.main_arg3)
      ∧ m' ((c.tc : Thread Cert.RefProjAIdeal.nD Cert.RefProjAIdeal.τ).loc Cert.RefProjAIdeal.main_arg4) = m ((c.tc : Thread Cert.ProjAIdeal.nD Cert.ProjAIdeal.τ).loc Cert.ProjAIdeal.main_arg4)
      ∧ m' ((c.tc : Thread Cert.RefProjAIdeal.nD Cert.RefProjAIdeal.τ).loc Cert.RefProjAIdeal.main_arg5) = m ((c.tc : Thread Cert.ProjAIdeal.nD Cert.ProjAIdeal.τ).loc Cert.ProjAIdeal.main_arg5)) →
    ∃ (v0 : (c : Dev Cert.ProjAIdeal.nD) → Buf (Elt Ideal) ((c.tc : Thread Cert.ProjAIdeal.nD Cert.ProjAIdeal.τ).loc Cert.ProjAIdeal.main_v37_0)) (v1 : (c : Dev Cert.ProjAIdeal.nD) → Buf (Elt Ideal) ((c.tc : Thread Cert.ProjAIdeal.nD Cert.ProjAIdeal.τ).loc Cert.ProjAIdeal.main_v37_1)) (v2 : (c : Dev Cert.ProjAIdeal.nD) → Buf (Elt Ideal) ((c.tc : Thread Cert.ProjAIdeal.nD Cert.ProjAIdeal.τ).loc Cert.ProjAIdeal.main_v37_2)) (v3 : (c : Dev Cert.ProjAIdeal.nD) → Buf (Elt Ideal) ((c.tc : Thread Cert.ProjAIdeal.nD Cert.ProjAIdeal.τ).loc Cert.ProjAIdeal.main_v37_3)) (v4 : (c : Dev Cert.ProjAIdeal.nD) → Buf (Elt Ideal) ((c.tc : Thread Cert.ProjAIdeal.nD Cert.ProjAIdeal.τ).loc Cert.ProjAIdeal.main_v37_4)) (v5 : (c : Dev Cert.ProjAIdeal.nD) → Buf (Elt Ideal) ((c.tc : Thread Cert.ProjAIdeal.nD Cert.ProjAIdeal.τ).loc Cert.ProjAIdeal.main_v37_5)) (v6 : (c : Dev Cert.ProjAIdeal.nD) → Buf (Elt Ideal) ((c.tc : Thread Cert.ProjAIdeal.nD Cert.ProjAIdeal.τ).loc Cert.ProjAIdeal.main_v37_6)) (v7 : (c : Dev Cert.ProjAIdeal.nD) → Buf (Elt Ideal) ((c.tc : Thread Cert.ProjAIdeal.nD Cert.ProjAIdeal.τ).loc Cert.ProjAIdeal.main_v37_7)) (v8 : (c : Dev Cert.ProjAIdeal.nD) → Buf (Elt Ideal) ((c.tc : Thread Cert.ProjAIdeal.nD Cert.ProjAIdeal.τ).loc Cert.ProjAIdeal.main_v37_8)) (v9 : (c : Dev Cert.ProjAIdeal.nD) → Buf (Elt Ideal) ((c.tc : Thread Cert.ProjAIdeal.nD Cert.ProjAIdeal.τ).loc Cert.ProjAIdeal.main_v37_9)) (v10 : (c : Dev Cert.ProjAIdeal.nD) → Buf (Elt Ideal) ((c.tc : Thread Cert.ProjAIdeal.nD Cert.ProjAIdeal.τ).loc Cert.ProjAIdeal.main_v37_10)) (v11 : (c : Dev Cert.ProjAIdeal.nD) → Buf (Elt Ideal) ((c.tc : Thread Cert.ProjAIdeal.nD Cert.ProjAIdeal.τ).loc Cert.ProjAIdeal.main_v37_11)),
      θ_run (Cert.ProjAIdeal.defs (F := Ideal)) (onTc (τ := Cert.ProjAIdeal.τ) (Cert.ProjAIdeal.main (F := Ideal))) ⟨m, fun _ => 0, g⟩ (fun r => ∀ c : Dev Cert.ProjAIdeal.nD,
          r.2.mem ((c.tc : Thread Cert.ProjAIdeal.nD Cert.ProjAIdeal.τ).loc Cert.ProjAIdeal.main_v37_0) = v0 c
          ∧ r.2.mem ((c.tc : Thread Cert.ProjAIdeal.nD Cert.ProjAIdeal.τ).loc Cert.ProjAIdeal.main_v37_1) = v1 c
          ∧ r.2.mem ((c.tc : Thread Cert.ProjAIdeal.nD Cert.ProjAIdeal.τ).loc Cert.ProjAIdeal.main_v37_2) = v2 c
          ∧ r.2.mem ((c.tc : Thread Cert.ProjAIdeal.nD Cert.ProjAIdeal.τ).loc Cert.ProjAIdeal.main_v37_3) = v3 c
          ∧ r.2.mem ((c.tc : Thread Cert.ProjAIdeal.nD Cert.ProjAIdeal.τ).loc Cert.ProjAIdeal.main_v37_4) = v4 c
          ∧ r.2.mem ((c.tc : Thread Cert.ProjAIdeal.nD Cert.ProjAIdeal.τ).loc Cert.ProjAIdeal.main_v37_5) = v5 c
          ∧ r.2.mem ((c.tc : Thread Cert.ProjAIdeal.nD Cert.ProjAIdeal.τ).loc Cert.ProjAIdeal.main_v37_6) = v6 c
          ∧ r.2.mem ((c.tc : Thread Cert.ProjAIdeal.nD Cert.ProjAIdeal.τ).loc Cert.ProjAIdeal.main_v37_7) = v7 c
          ∧ r.2.mem ((c.tc : Thread Cert.ProjAIdeal.nD Cert.ProjAIdeal.τ).loc Cert.ProjAIdeal.main_v37_8) = v8 c
          ∧ r.2.mem ((c.tc : Thread Cert.ProjAIdeal.nD Cert.ProjAIdeal.τ).loc Cert.ProjAIdeal.main_v37_9) = v9 c
          ∧ r.2.mem ((c.tc : Thread Cert.ProjAIdeal.nD Cert.ProjAIdeal.τ).loc Cert.ProjAIdeal.main_v37_10) = v10 c
          ∧ r.2.mem ((c.tc : Thread Cert.ProjAIdeal.nD Cert.ProjAIdeal.τ).loc Cert.ProjAIdeal.main_v37_11) = v11 c
          ∧ r.2.mem ((c.tc : Thread Cert.ProjAIdeal.nD Cert.ProjAIdeal.τ).loc Cert.ProjAIdeal.main_arg0) = m ((c.tc : Thread Cert.ProjAIdeal.nD Cert.ProjAIdeal.τ).loc Cert.ProjAIdeal.main_arg0)
          ∧ r.2.mem ((c.tc : Thread Cert.ProjAIdeal.nD Cert.ProjAIdeal.τ).loc Cert.ProjAIdeal.main_arg1) = m ((c.tc : Thread Cert.ProjAIdeal.nD Cert.ProjAIdeal.τ).loc Cert.ProjAIdeal.main_arg1)
          ∧ r.2.mem ((c.tc : Thread Cert.ProjAIdeal.nD Cert.ProjAIdeal.τ).loc Cert.ProjAIdeal.main_arg2) = m ((c.tc : Thread Cert.ProjAIdeal.nD Cert.ProjAIdeal.τ).loc Cert.ProjAIdeal.main_arg2)
          ∧ r.2.mem ((c.tc : Thread Cert.ProjAIdeal.nD Cert.ProjAIdeal.τ).loc Cert.ProjAIdeal.main_arg3) = m ((c.tc : Thread Cert.ProjAIdeal.nD Cert.ProjAIdeal.τ).loc Cert.ProjAIdeal.main_arg3)
          ∧ r.2.mem ((c.tc : Thread Cert.ProjAIdeal.nD Cert.ProjAIdeal.τ).loc Cert.ProjAIdeal.main_arg4) = m ((c.tc : Thread Cert.ProjAIdeal.nD Cert.ProjAIdeal.τ).loc Cert.ProjAIdeal.main_arg4)
          ∧ r.2.mem ((c.tc : Thread Cert.ProjAIdeal.nD Cert.ProjAIdeal.τ).loc Cert.ProjAIdeal.main_arg5) = m ((c.tc : Thread Cert.ProjAIdeal.nD Cert.ProjAIdeal.τ).loc Cert.ProjAIdeal.main_arg5))
      ∧ θ_run (Cert.RefProjAIdeal.defs (F := Ideal)) (onTc (τ := Cert.RefProjAIdeal.τ) (Cert.RefProjAIdeal.main (F := Ideal))) ⟨m', fun _ => 0, g'⟩ (fun r => ∀ c : Dev Cert.RefProjAIdeal.nD,
          r.2.mem ((c.tc : Thread Cert.RefProjAIdeal.nD Cert.RefProjAIdeal.τ).loc Cert.RefProjAIdeal.main_v236) = v0 c
          ∧ r.2.mem ((c.tc : Thread Cert.RefProjAIdeal.nD Cert.RefProjAIdeal.τ).loc Cert.RefProjAIdeal.main_v228) = v1 c
          ∧ r.2.mem ((c.tc : Thread Cert.RefProjAIdeal.nD Cert.RefProjAIdeal.τ).loc Cert.RefProjAIdeal.main_v232) = v2 c
          ∧ r.2.mem ((c.tc : Thread Cert.RefProjAIdeal.nD Cert.RefProjAIdeal.τ).loc Cert.RefProjAIdeal.main_v237) = v3 c
          ∧ r.2.mem ((c.tc : Thread Cert.RefProjAIdeal.nD Cert.RefProjAIdeal.τ).loc Cert.RefProjAIdeal.main_v233) = v4 c
          ∧ r.2.mem ((c.tc : Thread Cert.RefProjAIdeal.nD Cert.RefProjAIdeal.τ).loc Cert.RefProjAIdeal.main_v234) = v5 c
          ∧ r.2.mem ((c.tc : Thread Cert.RefProjAIdeal.nD Cert.RefProjAIdeal.τ).loc Cert.RefProjAIdeal.main_v235) = v6 c
          ∧ r.2.mem ((c.tc : Thread Cert.RefProjAIdeal.nD Cert.RefProjAIdeal.τ).loc Cert.RefProjAIdeal.main_v238) = v7 c
          ∧ r.2.mem ((c.tc : Thread Cert.RefProjAIdeal.nD Cert.RefProjAIdeal.τ).loc Cert.RefProjAIdeal.main_v239) = v8 c
          ∧ r.2.mem ((c.tc : Thread Cert.RefProjAIdeal.nD Cert.RefProjAIdeal.τ).loc Cert.RefProjAIdeal.main_v241) = v9 c
          ∧ r.2.mem ((c.tc : Thread Cert.RefProjAIdeal.nD Cert.RefProjAIdeal.τ).loc Cert.RefProjAIdeal.main_v243) = v10 c
          ∧ r.2.mem ((c.tc : Thread Cert.RefProjAIdeal.nD Cert.RefProjAIdeal.τ).loc Cert.RefProjAIdeal.main_v245) = v11 c
          ∧ r.2.mem ((c.tc : Thread Cert.RefProjAIdeal.nD Cert.RefProjAIdeal.τ).loc Cert.RefProjAIdeal.main_arg0) = m' ((c.tc : Thread Cert.RefProjAIdeal.nD Cert.RefProjAIdeal.τ).loc Cert.RefProjAIdeal.main_arg0)
          ∧ r.2.mem ((c.tc : Thread Cert.RefProjAIdeal.nD Cert.RefProjAIdeal.τ).loc Cert.RefProjAIdeal.main_arg1) = m' ((c.tc : Thread Cert.RefProjAIdeal.nD Cert.RefProjAIdeal.τ).loc Cert.RefProjAIdeal.main_arg1)
          ∧ r.2.mem ((c.tc : Thread Cert.RefProjAIdeal.nD Cert.RefProjAIdeal.τ).loc Cert.RefProjAIdeal.main_arg2) = m' ((c.tc : Thread Cert.RefProjAIdeal.nD Cert.RefProjAIdeal.τ).loc Cert.RefProjAIdeal.main_arg2)
          ∧ r.2.mem ((c.tc : Thread Cert.RefProjAIdeal.nD Cert.RefProjAIdeal.τ).loc Cert.RefProjAIdeal.main_arg3) = m' ((c.tc : Thread Cert.RefProjAIdeal.nD Cert.RefProjAIdeal.τ).loc Cert.RefProjAIdeal.main_arg3)
          ∧ r.2.mem ((c.tc : Thread Cert.RefProjAIdeal.nD Cert.RefProjAIdeal.τ).loc Cert.RefProjAIdeal.main_arg4) = m' ((c.tc : Thread Cert.RefProjAIdeal.nD Cert.RefProjAIdeal.τ).loc Cert.RefProjAIdeal.main_arg4)
          ∧ r.2.mem ((c.tc : Thread Cert.RefProjAIdeal.nD Cert.RefProjAIdeal.τ).loc Cert.RefProjAIdeal.main_arg5) = m' ((c.tc : Thread Cert.RefProjAIdeal.nD Cert.RefProjAIdeal.τ).loc Cert.RefProjAIdeal.main_arg5))

def Claim : Prop :=
  ∃ (hDil1 : Cert.Dil1.Facts) (hDil1Ideal : Cert.Dil1Ideal.Facts) (hRef1Ideal : Cert.Ref1Ideal.Facts) (hDil4 : Cert.Dil4.Facts) (hDil4Ideal : Cert.Dil4Ideal.Facts) (hRef4Ideal : Cert.Ref4Ideal.Facts) (hDil16 : Cert.Dil16.Facts) (hDil16Ideal : Cert.Dil16Ideal.Facts) (hRef16Ideal : Cert.Ref16Ideal.Facts) (hPost : Cert.Post.Facts) (hPostIdeal : Cert.PostIdeal.Facts) (hRefPostIdeal : Cert.RefPostIdeal.Facts) (hPostS : Cert.PostS.Facts) (hPostSIdeal : Cert.PostSIdeal.Facts) (hRefPostSIdeal : Cert.RefPostSIdeal.Facts) (hProjC : Cert.ProjC.Facts) (hProjCIdeal : Cert.ProjCIdeal.Facts) (hRefProjCIdeal : Cert.RefProjCIdeal.Facts) (hProjA : Cert.ProjA.Facts) (hProjAIdeal : Cert.ProjAIdeal.Facts) (hRefProjAIdeal : Cert.RefProjAIdeal.Facts),
    quiescent_Dil1 (hDil1 := hDil1)
    ∧ quiescent_Dil1Ideal (hDil1Ideal := hDil1Ideal)
    ∧ quiescent_Ref1Ideal (hRef1Ideal := hRef1Ideal)
    ∧ quiescent_Dil4 (hDil4 := hDil4)
    ∧ quiescent_Dil4Ideal (hDil4Ideal := hDil4Ideal)
    ∧ quiescent_Ref4Ideal (hRef4Ideal := hRef4Ideal)
    ∧ quiescent_Dil16 (hDil16 := hDil16)
    ∧ quiescent_Dil16Ideal (hDil16Ideal := hDil16Ideal)
    ∧ quiescent_Ref16Ideal (hRef16Ideal := hRef16Ideal)
    ∧ quiescent_Post (hPost := hPost)
    ∧ quiescent_PostIdeal (hPostIdeal := hPostIdeal)
    ∧ quiescent_RefPostIdeal (hRefPostIdeal := hRefPostIdeal)
    ∧ quiescent_PostS (hPostS := hPostS)
    ∧ quiescent_PostSIdeal (hPostSIdeal := hPostSIdeal)
    ∧ quiescent_RefPostSIdeal (hRefPostSIdeal := hRefPostSIdeal)
    ∧ quiescent_ProjC (hProjC := hProjC)
    ∧ quiescent_ProjCIdeal (hProjCIdeal := hProjCIdeal)
    ∧ quiescent_RefProjCIdeal (hRefProjCIdeal := hRefProjCIdeal)
    ∧ quiescent_ProjA (hProjA := hProjA)
    ∧ quiescent_ProjAIdeal (hProjAIdeal := hProjAIdeal)
    ∧ quiescent_RefProjAIdeal (hRefProjAIdeal := hRefProjAIdeal)
    ∧ preserves_Dil1_Dil1Ideal
    ∧ algebraic_Dil1Ideal_Ref1Ideal (hDil1Ideal := hDil1Ideal) (hRef1Ideal := hRef1Ideal)
    ∧ preserves_Dil4_Dil4Ideal
    ∧ algebraic_Dil4Ideal_Ref4Ideal (hDil4Ideal := hDil4Ideal) (hRef4Ideal := hRef4Ideal)
    ∧ preserves_Dil16_Dil16Ideal
    ∧ algebraic_Dil16Ideal_Ref16Ideal (hDil16Ideal := hDil16Ideal) (hRef16Ideal := hRef16Ideal)
    ∧ preserves_Post_PostIdeal
    ∧ algebraic_PostIdeal_RefPostIdeal (hPostIdeal := hPostIdeal) (hRefPostIdeal := hRefPostIdeal)
    ∧ preserves_PostS_PostSIdeal
    ∧ algebraic_PostSIdeal_RefPostSIdeal (hPostSIdeal := hPostSIdeal) (hRefPostSIdeal := hRefPostSIdeal)
    ∧ preserves_ProjC_ProjCIdeal
    ∧ algebraic_ProjCIdeal_RefProjCIdeal (hProjCIdeal := hProjCIdeal) (hRefProjCIdeal := hRefProjCIdeal)
    ∧ preserves_ProjA_ProjAIdeal
    ∧ algebraic_ProjAIdeal_RefProjAIdeal (hProjAIdeal := hProjAIdeal) (hRefProjAIdeal := hRefProjAIdeal)
-- ==== Dil1.lean ====
abbrev S16384x512 : Shape := ⟨2, ![16384, 512]⟩
abbrev S16384x1024 : Shape := ⟨2, ![16384, 1024]⟩
abbrev S16384x128 : Shape := ⟨2, ![16384, 128]⟩
abbrev S128x512 : Shape := ⟨2, ![128, 512]⟩
abbrev S128x128 : Shape := ⟨2, ![128, 128]⟩
abbrev S128x256 : Shape := ⟨2, ![128, 256]⟩
abbrev S256x512 : Shape := ⟨2, ![256, 512]⟩
abbrev S256x128 : Shape := ⟨2, ![256, 128]⟩
abbrev S128 : Shape := ⟨1, ![128]⟩
abbrev S128x1 : Shape := ⟨2, ![128, 1]⟩

abbrev nBuf : Space → Nat
  | .hbm => 4
  | .vmem => 14
  | .smem => 0
  | _ => 0

abbrev bufTy : (tb : Table) → Fin (tcTables nBuf tb) → BufTy
  | .hbm, ⟨0, _⟩ => ⟨S16384x512, .bf16⟩
  | .hbm, ⟨1, _⟩ => ⟨S16384x1024, .f32⟩
  | .hbm, ⟨2, _⟩ => ⟨S16384x512, .f32⟩
  | .hbm, ⟨3, _⟩ => ⟨S16384x128, .f32⟩
  | .local _ .vmem, ⟨0, _⟩ => ⟨S128x512, .bf16⟩
  | .local _ .vmem, ⟨1, _⟩ => ⟨S128x512, .bf16⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S128x512, .f32⟩
  | .local _ .vmem, ⟨9, _⟩ => ⟨S128x512, .f32⟩
  | .local _ .vmem, ⟨10, _⟩ => ⟨S128x512, .f32⟩
  | .local _ .vmem, ⟨11, _⟩ => ⟨S128x512, .f32⟩
  | .local _ .vmem, ⟨12, _⟩ => ⟨S128x128, .f32⟩
  | .local _ .vmem, ⟨13, _⟩ => ⟨S128x128, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 1, 64], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let c1_i32 : BitVec 32 := 1#32
  let v1 : BitVec 32 := Scalar.subi arg2 c1_i32
  let c0_i32 : BitVec 32 := 0#32
  let v2 : BitVec 32 := Scalar.maxsi v1 c0_i32
  let v3 : BitVec 32 := Scalar.addi v0 v2
  let c2_i32 : BitVec 32 := 2#32
  let v4 : BitVec 32 := Scalar.muli c2_i32 arg1
  let c0_i32_0 : BitVec 32 := 0#32
  let v5 : BitVec 32 := Scalar.addi v4 c0_i32_0
  let c0_i32_1 : BitVec 32 := 0#32
  ![v3.toNat, v5.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let c1_i32 : BitVec 32 := 1#32
  let v1 : BitVec 32 := Scalar.subi arg2 c1_i32
  let c0_i32 : BitVec 32 := 0#32
  let v2 : BitVec 32 := Scalar.maxsi v1 c0_i32
  let v3 : BitVec 32 := Scalar.addi v0 v2
  let c2_i32 : BitVec 32 := 2#32
  let v4 : BitVec 32 := Scalar.muli c2_i32 arg1
  let c1_i32_0 : BitVec 32 := 1#32
  let v5 : BitVec 32 := Scalar.addi v4 c1_i32_0
  let c0_i32_1 : BitVec 32 := 0#32
  ![v3.toNat, v5.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let v1 : BitVec 32 := Scalar.addi v0 arg2
  let c2_i32 : BitVec 32 := 2#32
  let v2 : BitVec 32 := Scalar.muli c2_i32 arg1
  let c0_i32 : BitVec 32 := 0#32
  let v3 : BitVec 32 := Scalar.addi v2 c0_i32
  let c0_i32_0 : BitVec 32 := 0#32
  ![v1.toNat, v3.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let v1 : BitVec 32 := Scalar.addi v0 arg2
  let c2_i32 : BitVec 32 := 2#32
  let v2 : BitVec 32 := Scalar.muli c2_i32 arg1
  let c1_i32 : BitVec 32 := 1#32
  let v3 : BitVec 32 := Scalar.addi v2 c1_i32
  let c0_i32 : BitVec 32 := 0#32
  ![v1.toNat, v3.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let v1 : BitVec 32 := Scalar.addi v0 arg2
  let c0_i32 : BitVec 32 := 0#32
  ![v1.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let v1 : BitVec 32 := Scalar.addi v0 arg2
  let c0_i32 : BitVec 32 := 0#32
  ![v1.toNat, arg1.toNat]

abbrev stage0_0 : Fin 2 → Memref sig .tc .vmem S128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== Dil1Ideal.lean ====
abbrev S16384x512 : Shape := ⟨2, ![16384, 512]⟩
abbrev S16384x1024 : Shape := ⟨2, ![16384, 1024]⟩
abbrev S16384x128 : Shape := ⟨2, ![16384, 128]⟩
abbrev S128x512 : Shape := ⟨2, ![128, 512]⟩
abbrev S128x128 : Shape := ⟨2, ![128, 128]⟩
abbrev S128x256 : Shape := ⟨2, ![128, 256]⟩
abbrev S256x512 : Shape := ⟨2, ![256, 512]⟩
abbrev S256x128 : Shape := ⟨2, ![256, 128]⟩
abbrev S128 : Shape := ⟨1, ![128]⟩
abbrev S128x1 : Shape := ⟨2, ![128, 1]⟩

abbrev nBuf : Space → Nat
  | .hbm => 4
  | .vmem => 14
  | .smem => 0
  | _ => 0

abbrev bufTy : (tb : Table) → Fin (tcTables nBuf tb) → BufTy
  | .hbm, ⟨0, _⟩ => ⟨S16384x512, .bf16⟩
  | .hbm, ⟨1, _⟩ => ⟨S16384x1024, .f32⟩
  | .hbm, ⟨2, _⟩ => ⟨S16384x512, .f32⟩
  | .hbm, ⟨3, _⟩ => ⟨S16384x128, .f32⟩
  | .local _ .vmem, ⟨0, _⟩ => ⟨S128x512, .bf16⟩
  | .local _ .vmem, ⟨1, _⟩ => ⟨S128x512, .bf16⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S128x512, .f32⟩
  | .local _ .vmem, ⟨9, _⟩ => ⟨S128x512, .f32⟩
  | .local _ .vmem, ⟨10, _⟩ => ⟨S128x512, .f32⟩
  | .local _ .vmem, ⟨11, _⟩ => ⟨S128x512, .f32⟩
  | .local _ .vmem, ⟨12, _⟩ => ⟨S128x128, .f32⟩
  | .local _ .vmem, ⟨13, _⟩ => ⟨S128x128, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F] [Named F]

def κ : String → Option EReal := fun
  | "mask" => some ⊥
  | _ => none

abbrev grid0 : Pipeline.Grid := ⟨3, ![2, 1, 64], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let c1_i32 : BitVec 32 := 1#32
  let v1 : BitVec 32 := Scalar.subi arg2 c1_i32
  let c0_i32 : BitVec 32 := 0#32
  let v2 : BitVec 32 := Scalar.maxsi v1 c0_i32
  let v3 : BitVec 32 := Scalar.addi v0 v2
  let c2_i32 : BitVec 32 := 2#32
  let v4 : BitVec 32 := Scalar.muli c2_i32 arg1
  let c0_i32_0 : BitVec 32 := 0#32
  let v5 : BitVec 32 := Scalar.addi v4 c0_i32_0
  let c0_i32_1 : BitVec 32 := 0#32
  ![v3.toNat, v5.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let c1_i32 : BitVec 32 := 1#32
  let v1 : BitVec 32 := Scalar.subi arg2 c1_i32
  let c0_i32 : BitVec 32 := 0#32
  let v2 : BitVec 32 := Scalar.maxsi v1 c0_i32
  let v3 : BitVec 32 := Scalar.addi v0 v2
  let c2_i32 : BitVec 32 := 2#32
  let v4 : BitVec 32 := Scalar.muli c2_i32 arg1
  let c1_i32_0 : BitVec 32 := 1#32
  let v5 : BitVec 32 := Scalar.addi v4 c1_i32_0
  let c0_i32_1 : BitVec 32 := 0#32
  ![v3.toNat, v5.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let v1 : BitVec 32 := Scalar.addi v0 arg2
  let c2_i32 : BitVec 32 := 2#32
  let v2 : BitVec 32 := Scalar.muli c2_i32 arg1
  let c0_i32 : BitVec 32 := 0#32
  let v3 : BitVec 32 := Scalar.addi v2 c0_i32
  let c0_i32_0 : BitVec 32 := 0#32
  ![v1.toNat, v3.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let v1 : BitVec 32 := Scalar.addi v0 arg2
  let c2_i32 : BitVec 32 := 2#32
  let v2 : BitVec 32 := Scalar.muli c2_i32 arg1
  let c1_i32 : BitVec 32 := 1#32
  let v3 : BitVec 32 := Scalar.addi v2 c1_i32
  let c0_i32 : BitVec 32 := 0#32
  ![v1.toNat, v3.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let v1 : BitVec 32 := Scalar.addi v0 arg2
  let c0_i32 : BitVec 32 := 0#32
  ![v1.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let v1 : BitVec 32 := Scalar.addi v0 arg2
  let c0_i32 : BitVec 32 := 0#32
  ![v1.toNat, arg1.toNat]

abbrev stage0_0 : Fin 2 → Memref sig .tc .vmem S128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== Ref1Ideal.lean ====
abbrev S16384x512 : Shape := ⟨2, ![16384, 512]⟩
abbrev S16384x1024 : Shape := ⟨2, ![16384, 1024]⟩
abbrev S2x8192x8x64 : Shape := ⟨4, ![2, 8192, 8, 64]⟩
abbrev S2x8192x2x8x64 : Shape := ⟨5, ![2, 8192, 2, 8, 64]⟩
abbrev S2x8192x1x8x64 : Shape := ⟨5, ![2, 8192, 1, 8, 64]⟩
abbrev S8192 : Shape := ⟨1, ![8192]⟩
abbrev S8192x1 : Shape := ⟨2, ![8192, 1]⟩
abbrev S129 : Shape := ⟨1, ![129]⟩
abbrev S1x129 : Shape := ⟨2, ![1, 129]⟩
abbrev S_ : Shape := ⟨0, ![]⟩
abbrev S8192x129 : Shape := ⟨2, ![8192, 129]⟩
abbrev S8192x129x1 : Shape := ⟨3, ![8192, 129, 1]⟩
abbrev S2x8192x129x8x64 : Shape := ⟨5, ![2, 8192, 129, 8, 64]⟩
abbrev S2x8192x8x129 : Shape := ⟨4, ![2, 8192, 8, 129]⟩
abbrev S1x8192x1x129 : Shape := ⟨4, ![1, 8192, 1, 129]⟩
abbrev S2x8192x8 : Shape := ⟨3, ![2, 8192, 8]⟩
abbrev S2x8192x8x1 : Shape := ⟨4, ![2, 8192, 8, 1]⟩
abbrev S2x8192x112 : Shape := ⟨3, ![2, 8192, 112]⟩
abbrev S2x8192x128 : Shape := ⟨3, ![2, 8192, 128]⟩
abbrev S16384x128 : Shape := ⟨2, ![16384, 128]⟩

abbrev nBuf : Space → Nat
  | .hbm => 72
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x1024, .f32⟩
  | .hbm, ⟨2, _⟩ => ⟨S2x8192x8x64, .bf16⟩
  | .hbm, ⟨3, _⟩ => ⟨S2x8192x2x8x64, .f32⟩
  | .hbm, ⟨4, _⟩ => ⟨S2x8192x1x8x64, .f32⟩
  | .hbm, ⟨5, _⟩ => ⟨S2x8192x8x64, .f32⟩
  | .hbm, ⟨6, _⟩ => ⟨S2x8192x1x8x64, .f32⟩
  | .hbm, ⟨7, _⟩ => ⟨S2x8192x8x64, .f32⟩
  | .hbm, ⟨8, _⟩ => ⟨S8192, .i32⟩
  | .hbm, ⟨9, _⟩ => ⟨S8192x1, .i32⟩
  | .hbm, ⟨10, _⟩ => ⟨S129, .i32⟩
  | .hbm, ⟨11, _⟩ => ⟨S1x129, .i32⟩
  | .hbm, ⟨12, _⟩ => ⟨S_, .i32⟩
  | .hbm, ⟨13, _⟩ => ⟨S1x129, .i32⟩
  | .hbm, ⟨14, _⟩ => ⟨S1x129, .i32⟩
  | .hbm, ⟨15, _⟩ => ⟨S8192x129, .i32⟩
  | .hbm, ⟨16, _⟩ => ⟨S8192x129, .i32⟩
  | .hbm, ⟨17, _⟩ => ⟨S8192x129, .i32⟩
  | .hbm, ⟨18, _⟩ => ⟨S_, .i32⟩
  | .hbm, ⟨19, _⟩ => ⟨S8192x129, .i32⟩
  | .hbm, ⟨20, _⟩ => ⟨S8192x129, .i1⟩
  | .hbm, ⟨21, _⟩ => ⟨S_, .i32⟩
  | .hbm, ⟨22, _⟩ => ⟨S8192x129, .i32⟩
  | .hbm, ⟨23, _⟩ => ⟨S8192x129, .i32⟩
  | .hbm, ⟨24, _⟩ => ⟨S_, .i32⟩
  | .hbm, ⟨25, _⟩ => ⟨S8192x129, .i32⟩
  | .hbm, ⟨26, _⟩ => ⟨S8192x129, .i1⟩
  | .hbm, ⟨27, _⟩ => ⟨S_, .i32⟩
  | .hbm, ⟨28, _⟩ => ⟨S8192x129, .i32⟩
  | .hbm, ⟨29, _⟩ => ⟨S8192x129, .i32⟩
  | .hbm, ⟨30, _⟩ => ⟨S8192x129, .i32⟩
  | .hbm, ⟨31, _⟩ => ⟨S8192x129x1, .i32⟩
  | .hbm, ⟨32, _⟩ => ⟨S2x8192x129x8x64, .f32⟩
  | .hbm, ⟨33, _⟩ => ⟨S_, .i32⟩
  | .hbm, ⟨34, _⟩ => ⟨S8192x129, .i32⟩
  | .hbm, ⟨35, _⟩ => ⟨S8192x129, .i1⟩
  | .hbm, ⟨36, _⟩ => ⟨S_, .i32⟩
  | .hbm, ⟨37, _⟩ => ⟨S8192x129, .i32⟩
  | .hbm, ⟨38, _⟩ => ⟨S8192x129, .i32⟩
  | .hbm, ⟨39, _⟩ => ⟨S8192x129, .i32⟩
  | .hbm, ⟨40, _⟩ => ⟨S8192x129x1, .i32⟩
  | .hbm, ⟨41, _⟩ => ⟨S2x8192x129x8x64, .f32⟩
  | .hbm, ⟨42, _⟩ => ⟨S2x8192x8x64, .f32⟩
  | .hbm, ⟨43, _⟩ => ⟨S2x8192x8x129, .f32⟩
  | .hbm, ⟨44, _⟩ => ⟨S1x8192x1x129, .i1⟩
  | .hbm, ⟨45, _⟩ => ⟨S_, .f32⟩
  | .hbm, ⟨46, _⟩ => ⟨S_, .f32⟩
  | .hbm, ⟨47, _⟩ => ⟨S2x8192x8x129, .i1⟩
  | .hbm, ⟨48, _⟩ => ⟨S2x8192x8x129, .f32⟩
  | .hbm, ⟨49, _⟩ => ⟨S2x8192x8x129, .f32⟩
  | .hbm, ⟨50, _⟩ => ⟨S_, .f32⟩
  | .hbm, ⟨51, _⟩ => ⟨S2x8192x8, .f32⟩
  | .hbm, ⟨52, _⟩ => ⟨S2x8192x8x1, .f32⟩
  | .hbm, ⟨53, _⟩ => ⟨S2x8192x8x129, .f32⟩
  | .hbm, ⟨54, _⟩ => ⟨S2x8192x8x129, .f32⟩
  | .hbm, ⟨55, _⟩ => ⟨S2x8192x8x129, .f32⟩
  | .hbm, ⟨56, _⟩ => ⟨S_, .f32⟩
  | .hbm, ⟨57, _⟩ => ⟨S_, .f32⟩
  | .hbm, ⟨58, _⟩ => ⟨S2x8192x8x129, .i1⟩
  | .hbm, ⟨59, _⟩ => ⟨S2x8192x8x129, .f32⟩
  | .hbm, ⟨60, _⟩ => ⟨S2x8192x8x129, .f32⟩
  | .hbm, ⟨61, _⟩ => ⟨S_, .f32⟩
  | .hbm, ⟨62, _⟩ => ⟨S2x8192x8, .f32⟩
  | .hbm, ⟨63, _⟩ => ⟨S2x8192x8x1, .f32⟩
  | .hbm, ⟨64, _⟩ => ⟨S2x8192x8x64, .f32⟩
  | .hbm, ⟨65, _⟩ => ⟨S2x8192x8, .f32⟩
  | .hbm, ⟨66, _⟩ => ⟨S2x8192x8, .f32⟩
  | .hbm, ⟨67, _⟩ => ⟨S_, .f32⟩
  | .hbm, ⟨68, _⟩ => ⟨S2x8192x112, .f32⟩
  | .hbm, ⟨69, _⟩ => ⟨S2x8192x128, .f32⟩
  | .hbm, ⟨70, _⟩ => ⟨S16384x512, .f32⟩
  | .hbm, ⟨71, _⟩ => ⟨S16384x128, .f32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_c : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_c_0 : Ref sig .tc := ⟨.hbm, 18, rfl⟩
abbrev main_v15 : Ref sig .tc := ⟨.hbm, 19, rfl⟩
abbrev main_v16 : Ref sig .tc := ⟨.hbm, 20, rfl⟩
abbrev main_c_1 : Ref sig .tc := ⟨.hbm, 21, rfl⟩
abbrev main_v17 : Ref sig .tc := ⟨.hbm, 22, rfl⟩
abbrev main_v18 : Ref sig .tc := ⟨.hbm, 23, rfl⟩
abbrev main_c_2 : Ref sig .tc := ⟨.hbm, 24, rfl⟩
abbrev main_v19 : Ref sig .tc := ⟨.hbm, 25, rfl⟩
abbrev main_v20 : Ref sig .tc := ⟨.hbm, 26, rfl⟩
abbrev main_c_3 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_c_4 : Ref sig .tc := ⟨.hbm, 33, rfl⟩
abbrev main_v26 : Ref sig .tc := ⟨.hbm, 34, rfl⟩
abbrev main_v27 : Ref sig .tc := ⟨.hbm, 35, rfl⟩
abbrev main_c_5 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst : Ref sig .tc := ⟨.hbm, 45, rfl⟩
abbrev main_call0_v0 : Ref sig .tc := ⟨.hbm, 46, rfl⟩
abbrev main_call0_v1 : Ref sig .tc := ⟨.hbm, 47, rfl⟩
abbrev main_call0_v2 : Ref sig .tc := ⟨.hbm, 48, rfl⟩
abbrev main_v36 : Ref sig .tc := ⟨.hbm, 49, rfl⟩
abbrev main_cst_6 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_7 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_v42 : Ref sig .tc := ⟨.hbm, 60, rfl⟩
abbrev main_cst_8 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_9 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩

abbrev nD : Nat := 1
abbrev τ : Topo := Topo.v7x

variable {F : FTy → Type} [FloatOps F]
-- ==== Dil4.lean ====
abbrev S16384x512 : Shape := ⟨2, ![16384, 512]⟩
abbrev S16384x1024 : Shape := ⟨2, ![16384, 1024]⟩
abbrev S4096x2048 : Shape := ⟨2, ![4096, 2048]⟩
abbrev S4096x4096 : Shape := ⟨2, ![4096, 4096]⟩
abbrev S4096x512 : Shape := ⟨2, ![4096, 512]⟩
abbrev S128x512 : Shape := ⟨2, ![128, 512]⟩
abbrev S128x128 : Shape := ⟨2, ![128, 128]⟩
abbrev S128x256 : Shape := ⟨2, ![128, 256]⟩
abbrev S256x512 : Shape := ⟨2, ![256, 512]⟩
abbrev S256x128 : Shape := ⟨2, ![256, 128]⟩
abbrev S128 : Shape := ⟨1, ![128]⟩
abbrev S128x1 : Shape := ⟨2, ![128, 1]⟩

abbrev nBuf : Space → Nat
  | .hbm => 6
  | .vmem => 14
  | .smem => 0
  | _ => 0

abbrev bufTy : (tb : Table) → Fin (tcTables nBuf tb) → BufTy
  | .hbm, ⟨0, _⟩ => ⟨S16384x512, .bf16⟩
  | .hbm, ⟨1, _⟩ => ⟨S16384x1024, .f32⟩
  | .hbm, ⟨2, _⟩ => ⟨S4096x2048, .bf16⟩
  | .hbm, ⟨3, _⟩ => ⟨S4096x4096, .f32⟩
  | .hbm, ⟨4, _⟩ => ⟨S4096x2048, .f32⟩
  | .hbm, ⟨5, _⟩ => ⟨S4096x512, .f32⟩
  | .local _ .vmem, ⟨0, _⟩ => ⟨S128x512, .bf16⟩
  | .local _ .vmem, ⟨1, _⟩ => ⟨S128x512, .bf16⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S128x512, .f32⟩
  | .local _ .vmem, ⟨9, _⟩ => ⟨S128x512, .f32⟩
  | .local _ .vmem, ⟨10, _⟩ => ⟨S128x512, .f32⟩
  | .local _ .vmem, ⟨11, _⟩ => ⟨S128x512, .f32⟩
  | .local _ .vmem, ⟨12, _⟩ => ⟨S128x128, .f32⟩
  | .local _ .vmem, ⟨13, _⟩ => ⟨S128x128, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 4, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let c1_i32 : BitVec 32 := 1#32
  let v1 : BitVec 32 := Scalar.subi arg2 c1_i32
  let c0_i32 : BitVec 32 := 0#32
  let v2 : BitVec 32 := Scalar.maxsi v1 c0_i32
  let v3 : BitVec 32 := Scalar.addi v0 v2
  let c2_i32 : BitVec 32 := 2#32
  let v4 : BitVec 32 := Scalar.muli c2_i32 arg1
  let c0_i32_0 : BitVec 32 := 0#32
  let v5 : BitVec 32 := Scalar.addi v4 c0_i32_0
  let c0_i32_1 : BitVec 32 := 0#32
  ![v3.toNat, v5.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let c1_i32 : BitVec 32 := 1#32
  let v1 : BitVec 32 := Scalar.subi arg2 c1_i32
  let c0_i32 : BitVec 32 := 0#32
  let v2 : BitVec 32 := Scalar.maxsi v1 c0_i32
  let v3 : BitVec 32 := Scalar.addi v0 v2
  let c2_i32 : BitVec 32 := 2#32
  let v4 : BitVec 32 := Scalar.muli c2_i32 arg1
  let c1_i32_0 : BitVec 32 := 1#32
  let v5 : BitVec 32 := Scalar.addi v4 c1_i32_0
  let c0_i32_1 : BitVec 32 := 0#32
  ![v3.toNat, v5.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c2_i32 : BitVec 32 := 2#32
  let v2 : BitVec 32 := Scalar.muli c2_i32 arg1
  let c0_i32 : BitVec 32 := 0#32
  let v3 : BitVec 32 := Scalar.addi v2 c0_i32
  let c0_i32_0 : BitVec 32 := 0#32
  ![v1.toNat, v3.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c2_i32 : BitVec 32 := 2#32
  let v2 : BitVec 32 := Scalar.muli c2_i32 arg1
  let c1_i32 : BitVec 32 := 1#32
  let v3 : BitVec 32 := Scalar.addi v2 c1_i32
  let c0_i32 : BitVec 32 := 0#32
  ![v1.toNat, v3.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== Dil4Ideal.lean ====
abbrev S16384x512 : Shape := ⟨2, ![16384, 512]⟩
abbrev S16384x1024 : Shape := ⟨2, ![16384, 1024]⟩
abbrev S4096x2048 : Shape := ⟨2, ![4096, 2048]⟩
abbrev S4096x4096 : Shape := ⟨2, ![4096, 4096]⟩
abbrev S4096x512 : Shape := ⟨2, ![4096, 512]⟩
abbrev S128x512 : Shape := ⟨2, ![128, 512]⟩
abbrev S128x128 : Shape := ⟨2, ![128, 128]⟩
abbrev S128x256 : Shape := ⟨2, ![128, 256]⟩
abbrev S256x512 : Shape := ⟨2, ![256, 512]⟩
abbrev S256x128 : Shape := ⟨2, ![256, 128]⟩
abbrev S128 : Shape := ⟨1, ![128]⟩
abbrev S128x1 : Shape := ⟨2, ![128, 1]⟩

abbrev nBuf : Space → Nat
  | .hbm => 6
  | .vmem => 14
  | .smem => 0
  | _ => 0

abbrev bufTy : (tb : Table) → Fin (tcTables nBuf tb) → BufTy
  | .hbm, ⟨0, _⟩ => ⟨S16384x512, .bf16⟩
  | .hbm, ⟨1, _⟩ => ⟨S16384x1024, .f32⟩
  | .hbm, ⟨2, _⟩ => ⟨S4096x2048, .bf16⟩
  | .hbm, ⟨3, _⟩ => ⟨S4096x4096, .f32⟩
  | .hbm, ⟨4, _⟩ => ⟨S4096x2048, .f32⟩
  | .hbm, ⟨5, _⟩ => ⟨S4096x512, .f32⟩
  | .local _ .vmem, ⟨0, _⟩ => ⟨S128x512, .bf16⟩
  | .local _ .vmem, ⟨1, _⟩ => ⟨S128x512, .bf16⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S128x512, .f32⟩
  | .local _ .vmem, ⟨9, _⟩ => ⟨S128x512, .f32⟩
  | .local _ .vmem, ⟨10, _⟩ => ⟨S128x512, .f32⟩
  | .local _ .vmem, ⟨11, _⟩ => ⟨S128x512, .f32⟩
  | .local _ .vmem, ⟨12, _⟩ => ⟨S128x128, .f32⟩
  | .local _ .vmem, ⟨13, _⟩ => ⟨S128x128, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F] [Named F]

def κ : String → Option EReal := fun
  | "mask" => some ⊥
  | _ => none

abbrev grid0 : Pipeline.Grid := ⟨3, ![2, 4, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let c1_i32 : BitVec 32 := 1#32
  let v1 : BitVec 32 := Scalar.subi arg2 c1_i32
  let c0_i32 : BitVec 32 := 0#32
  let v2 : BitVec 32 := Scalar.maxsi v1 c0_i32
  let v3 : BitVec 32 := Scalar.addi v0 v2
  let c2_i32 : BitVec 32 := 2#32
  let v4 : BitVec 32 := Scalar.muli c2_i32 arg1
  let c0_i32_0 : BitVec 32 := 0#32
  let v5 : BitVec 32 := Scalar.addi v4 c0_i32_0
  let c0_i32_1 : BitVec 32 := 0#32
  ![v3.toNat, v5.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let c1_i32 : BitVec 32 := 1#32
  let v1 : BitVec 32 := Scalar.subi arg2 c1_i32
  let c0_i32 : BitVec 32 := 0#32
  let v2 : BitVec 32 := Scalar.maxsi v1 c0_i32
  let v3 : BitVec 32 := Scalar.addi v0 v2
  let c2_i32 : BitVec 32 := 2#32
  let v4 : BitVec 32 := Scalar.muli c2_i32 arg1
  let c1_i32_0 : BitVec 32 := 1#32
  let v5 : BitVec 32 := Scalar.addi v4 c1_i32_0
  let c0_i32_1 : BitVec 32 := 0#32
  ![v3.toNat, v5.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c2_i32 : BitVec 32 := 2#32
  let v2 : BitVec 32 := Scalar.muli c2_i32 arg1
  let c0_i32 : BitVec 32 := 0#32
  let v3 : BitVec 32 := Scalar.addi v2 c0_i32
  let c0_i32_0 : BitVec 32 := 0#32
  ![v1.toNat, v3.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c2_i32 : BitVec 32 := 2#32
  let v2 : BitVec 32 := Scalar.muli c2_i32 arg1
  let c1_i32 : BitVec 32 := 1#32
  let v3 : BitVec 32 := Scalar.addi v2 c1_i32
  let c0_i32 : BitVec 32 := 0#32
  ![v1.toNat, v3.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== Ref4Ideal.lean ====
abbrev S16384x512 : Shape := ⟨2, ![16384, 512]⟩
abbrev S16384x1024 : Shape := ⟨2, ![16384, 1024]⟩
abbrev S2x8192x8x64 : Shape := ⟨4, ![2, 8192, 8, 64]⟩
abbrev S2x8192x2x8x64 : Shape := ⟨5, ![2, 8192, 2, 8, 64]⟩
abbrev S2x8192x1x8x64 : Shape := ⟨5, ![2, 8192, 1, 8, 64]⟩
abbrev S8192 : Shape := ⟨1, ![8192]⟩
abbrev S8192x1 : Shape := ⟨2, ![8192, 1]⟩
abbrev S129 : Shape := ⟨1, ![129]⟩
abbrev S1x129 : Shape := ⟨2, ![1, 129]⟩
abbrev S_ : Shape := ⟨0, ![]⟩
abbrev S8192x129 : Shape := ⟨2, ![8192, 129]⟩
abbrev S8192x129x1 : Shape := ⟨3, ![8192, 129, 1]⟩
abbrev S2x8192x129x8x64 : Shape := ⟨5, ![2, 8192, 129, 8, 64]⟩
abbrev S2x8192x8x129 : Shape := ⟨4, ![2, 8192, 8, 129]⟩
abbrev S1x8192x1x129 : Shape := ⟨4, ![1, 8192, 1, 129]⟩
abbrev S2x8192x8 : Shape := ⟨3, ![2, 8192, 8]⟩
abbrev S2x8192x8x1 : Shape := ⟨4, ![2, 8192, 8, 1]⟩
abbrev S2x8192x112 : Shape := ⟨3, ![2, 8192, 112]⟩
abbrev S2x8192x128 : Shape := ⟨3, ![2, 8192, 128]⟩
abbrev S4096x2048 : Shape := ⟨2, ![4096, 2048]⟩
abbrev S4096x512 : Shape := ⟨2, ![4096, 512]⟩

abbrev nBuf : Space → Nat
  | .hbm => 72
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x1024, .f32⟩
  | .hbm, ⟨2, _⟩ => ⟨S2x8192x8x64, .bf16⟩
  | .hbm, ⟨3, _⟩ => ⟨S2x8192x2x8x64, .f32⟩
  | .hbm, ⟨4, _⟩ => ⟨S2x8192x1x8x64, .f32⟩
  | .hbm, ⟨5, _⟩ => ⟨S2x8192x8x64, .f32⟩
  | .hbm, ⟨6, _⟩ => ⟨S2x8192x1x8x64, .f32⟩
  | .hbm, ⟨7, _⟩ => ⟨S2x8192x8x64, .f32⟩
  | .hbm, ⟨8, _⟩ => ⟨S8192, .i32⟩
  | .hbm, ⟨9, _⟩ => ⟨S8192x1, .i32⟩
  | .hbm, ⟨10, _⟩ => ⟨S129, .i32⟩
  | .hbm, ⟨11, _⟩ => ⟨S1x129, .i32⟩
  | .hbm, ⟨12, _⟩ => ⟨S_, .i32⟩
  | .hbm, ⟨13, _⟩ => ⟨S1x129, .i32⟩
  | .hbm, ⟨14, _⟩ => ⟨S1x129, .i32⟩
  | .hbm, ⟨15, _⟩ => ⟨S8192x129, .i32⟩
  | .hbm, ⟨16, _⟩ => ⟨S8192x129, .i32⟩
  | .hbm, ⟨17, _⟩ => ⟨S8192x129, .i32⟩
  | .hbm, ⟨18, _⟩ => ⟨S_, .i32⟩
  | .hbm, ⟨19, _⟩ => ⟨S8192x129, .i32⟩
  | .hbm, ⟨20, _⟩ => ⟨S8192x129, .i1⟩
  | .hbm, ⟨21, _⟩ => ⟨S_, .i32⟩
  | .hbm, ⟨22, _⟩ => ⟨S8192x129, .i32⟩
  | .hbm, ⟨23, _⟩ => ⟨S8192x129, .i32⟩
  | .hbm, ⟨24, _⟩ => ⟨S_, .i32⟩
  | .hbm, ⟨25, _⟩ => ⟨S8192x129, .i32⟩
  | .hbm, ⟨26, _⟩ => ⟨S8192x129, .i1⟩
  | .hbm, ⟨27, _⟩ => ⟨S_, .i32⟩
  | .hbm, ⟨28, _⟩ => ⟨S8192x129, .i32⟩
  | .hbm, ⟨29, _⟩ => ⟨S8192x129, .i32⟩
  | .hbm, ⟨30, _⟩ => ⟨S8192x129, .i32⟩
  | .hbm, ⟨31, _⟩ => ⟨S8192x129x1, .i32⟩
  | .hbm, ⟨32, _⟩ => ⟨S2x8192x129x8x64, .f32⟩
  | .hbm, ⟨33, _⟩ => ⟨S_, .i32⟩
  | .hbm, ⟨34, _⟩ => ⟨S8192x129, .i32⟩
  | .hbm, ⟨35, _⟩ => ⟨S8192x129, .i1⟩
  | .hbm, ⟨36, _⟩ => ⟨S_, .i32⟩
  | .hbm, ⟨37, _⟩ => ⟨S8192x129, .i32⟩
  | .hbm, ⟨38, _⟩ => ⟨S8192x129, .i32⟩
  | .hbm, ⟨39, _⟩ => ⟨S8192x129, .i32⟩
  | .hbm, ⟨40, _⟩ => ⟨S8192x129x1, .i32⟩
  | .hbm, ⟨41, _⟩ => ⟨S2x8192x129x8x64, .f32⟩
  | .hbm, ⟨42, _⟩ => ⟨S2x8192x8x64, .f32⟩
  | .hbm, ⟨43, _⟩ => ⟨S2x8192x8x129, .f32⟩
  | .hbm, ⟨44, _⟩ => ⟨S1x8192x1x129, .i1⟩
  | .hbm, ⟨45, _⟩ => ⟨S_, .f32⟩
  | .hbm, ⟨46, _⟩ => ⟨S_, .f32⟩
  | .hbm, ⟨47, _⟩ => ⟨S2x8192x8x129, .i1⟩
  | .hbm, ⟨48, _⟩ => ⟨S2x8192x8x129, .f32⟩
  | .hbm, ⟨49, _⟩ => ⟨S2x8192x8x129, .f32⟩
  | .hbm, ⟨50, _⟩ => ⟨S_, .f32⟩
  | .hbm, ⟨51, _⟩ => ⟨S2x8192x8, .f32⟩
  | .hbm, ⟨52, _⟩ => ⟨S2x8192x8x1, .f32⟩
  | .hbm, ⟨53, _⟩ => ⟨S2x8192x8x129, .f32⟩
  | .hbm, ⟨54, _⟩ => ⟨S2x8192x8x129, .f32⟩
  | .hbm, ⟨55, _⟩ => ⟨S2x8192x8x129, .f32⟩
  | .hbm, ⟨56, _⟩ => ⟨S_, .f32⟩
  | .hbm, ⟨57, _⟩ => ⟨S_, .f32⟩
  | .hbm, ⟨58, _⟩ => ⟨S2x8192x8x129, .i1⟩
  | .hbm, ⟨59, _⟩ => ⟨S2x8192x8x129, .f32⟩
  | .hbm, ⟨60, _⟩ => ⟨S2x8192x8x129, .f32⟩
  | .hbm, ⟨61, _⟩ => ⟨S_, .f32⟩
  | .hbm, ⟨62, _⟩ => ⟨S2x8192x8, .f32⟩
  | .hbm, ⟨63, _⟩ => ⟨S2x8192x8x1, .f32⟩
  | .hbm, ⟨64, _⟩ => ⟨S2x8192x8x64, .f32⟩
  | .hbm, ⟨65, _⟩ => ⟨S2x8192x8, .f32⟩
  | .hbm, ⟨66, _⟩ => ⟨S2x8192x8, .f32⟩
  | .hbm, ⟨67, _⟩ => ⟨S_, .f32⟩
  | .hbm, ⟨68, _⟩ => ⟨S2x8192x112, .f32⟩
  | .hbm, ⟨69, _⟩ => ⟨S2x8192x128, .f32⟩
  | .hbm, ⟨70, _⟩ => ⟨S4096x2048, .f32⟩
  | .hbm, ⟨71, _⟩ => ⟨S4096x512, .f32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_c : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_c_0 : Ref sig .tc := ⟨.hbm, 18, rfl⟩
abbrev main_v15 : Ref sig .tc := ⟨.hbm, 19, rfl⟩
abbrev main_v16 : Ref sig .tc := ⟨.hbm, 20, rfl⟩
abbrev main_c_1 : Ref sig .tc := ⟨.hbm, 21, rfl⟩
abbrev main_v17 : Ref sig .tc := ⟨.hbm, 22, rfl⟩
abbrev main_v18 : Ref sig .tc := ⟨.hbm, 23, rfl⟩
abbrev main_c_2 : Ref sig .tc := ⟨.hbm, 24, rfl⟩
abbrev main_v19 : Ref sig .tc := ⟨.hbm, 25, rfl⟩
abbrev main_v20 : Ref sig .tc := ⟨.hbm, 26, rfl⟩
abbrev main_c_3 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_c_4 : Ref sig .tc := ⟨.hbm, 33, rfl⟩
abbrev main_v26 : Ref sig .tc := ⟨.hbm, 34, rfl⟩
abbrev main_v27 : Ref sig .tc := ⟨.hbm, 35, rfl⟩
abbrev main_c_5 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst : Ref sig .tc := ⟨.hbm, 45, rfl⟩
abbrev main_call0_v0 : Ref sig .tc := ⟨.hbm, 46, rfl⟩
abbrev main_call0_v1 : Ref sig .tc := ⟨.hbm, 47, rfl⟩
abbrev main_call0_v2 : Ref sig .tc := ⟨.hbm, 48, rfl⟩
abbrev main_v36 : Ref sig .tc := ⟨.hbm, 49, rfl⟩
abbrev main_cst_6 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_7 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_v42 : Ref sig .tc := ⟨.hbm, 60, rfl⟩
abbrev main_cst_8 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_9 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩

abbrev nD : Nat := 1
abbrev τ : Topo := Topo.v7x

variable {F : FTy → Type} [FloatOps F]
-- ==== Dil16.lean ====
abbrev S16384x512 : Shape := ⟨2, ![16384, 512]⟩
abbrev S16384x1024 : Shape := ⟨2, ![16384, 1024]⟩
abbrev S1024x8192 : Shape := ⟨2, ![1024, 8192]⟩
abbrev S1024x16384 : Shape := ⟨2, ![1024, 16384]⟩
abbrev S1024x2048 : Shape := ⟨2, ![1024, 2048]⟩
abbrev S128x512 : Shape := ⟨2, ![128, 512]⟩
abbrev S128x128 : Shape := ⟨2, ![128, 128]⟩
abbrev S128x256 : Shape := ⟨2, ![128, 256]⟩
abbrev S256x512 : Shape := ⟨2, ![256, 512]⟩
abbrev S256x128 : Shape := ⟨2, ![256, 128]⟩
abbrev S128 : Shape := ⟨1, ![128]⟩
abbrev S128x1 : Shape := ⟨2, ![128, 1]⟩

abbrev nBuf : Space → Nat
  | .hbm => 6
  | .vmem => 14
  | .smem => 0
  | _ => 0

abbrev bufTy : (tb : Table) → Fin (tcTables nBuf tb) → BufTy
  | .hbm, ⟨0, _⟩ => ⟨S16384x512, .bf16⟩
  | .hbm, ⟨1, _⟩ => ⟨S16384x1024, .f32⟩
  | .hbm, ⟨2, _⟩ => ⟨S1024x8192, .bf16⟩
  | .hbm, ⟨3, _⟩ => ⟨S1024x16384, .f32⟩
  | .hbm, ⟨4, _⟩ => ⟨S1024x8192, .f32⟩
  | .hbm, ⟨5, _⟩ => ⟨S1024x2048, .f32⟩
  | .local _ .vmem, ⟨0, _⟩ => ⟨S128x512, .bf16⟩
  | .local _ .vmem, ⟨1, _⟩ => ⟨S128x512, .bf16⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S128x512, .f32⟩
  | .local _ .vmem, ⟨9, _⟩ => ⟨S128x512, .f32⟩
  | .local _ .vmem, ⟨10, _⟩ => ⟨S128x512, .f32⟩
  | .local _ .vmem, ⟨11, _⟩ => ⟨S128x512, .f32⟩
  | .local _ .vmem, ⟨12, _⟩ => ⟨S128x128, .f32⟩
  | .local _ .vmem, ⟨13, _⟩ => ⟨S128x128, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 16, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c1_i32 : BitVec 32 := 1#32
  let v1 : BitVec 32 := Scalar.subi arg2 c1_i32
  let c0_i32 : BitVec 32 := 0#32
  let v2 : BitVec 32 := Scalar.maxsi v1 c0_i32
  let v3 : BitVec 32 := Scalar.addi v0 v2
  let c2_i32 : BitVec 32 := 2#32
  let v4 : BitVec 32 := Scalar.muli c2_i32 arg1
  let c0_i32_0 : BitVec 32 := 0#32
  let v5 : BitVec 32 := Scalar.addi v4 c0_i32_0
  let c0_i32_1 : BitVec 32 := 0#32
  ![v3.toNat, v5.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c1_i32 : BitVec 32 := 1#32
  let v1 : BitVec 32 := Scalar.subi arg2 c1_i32
  let c0_i32 : BitVec 32 := 0#32
  let v2 : BitVec 32 := Scalar.maxsi v1 c0_i32
  let v3 : BitVec 32 := Scalar.addi v0 v2
  let c2_i32 : BitVec 32 := 2#32
  let v4 : BitVec 32 := Scalar.muli c2_i32 arg1
  let c1_i32_0 : BitVec 32 := 1#32
  let v5 : BitVec 32 := Scalar.addi v4 c1_i32_0
  let c0_i32_1 : BitVec 32 := 0#32
  ![v3.toNat, v5.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c2_i32 : BitVec 32 := 2#32
  let v2 : BitVec 32 := Scalar.muli c2_i32 arg1
  let c0_i32 : BitVec 32 := 0#32
  let v3 : BitVec 32 := Scalar.addi v2 c0_i32
  let c0_i32_0 : BitVec 32 := 0#32
  ![v1.toNat, v3.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c2_i32 : BitVec 32 := 2#32
  let v2 : BitVec 32 := Scalar.muli c2_i32 arg1
  let c1_i32 : BitVec 32 := 1#32
  let v3 : BitVec 32 := Scalar.addi v2 c1_i32
  let c0_i32 : BitVec 32 := 0#32
  ![v1.toNat, v3.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== Dil16Ideal.lean ====
variable {F : FTy → Type} [FloatOps F] [Named F]
def κ : String → Option EReal := fun
  | "mask" => some ⊥
  | _ => none
-- ==== Ref16Ideal.lean ====
abbrev S16384x512 : Shape := ⟨2, ![16384, 512]⟩
abbrev S16384x1024 : Shape := ⟨2, ![16384, 1024]⟩
abbrev S2x8192x8x64 : Shape := ⟨4, ![2, 8192, 8, 64]⟩
abbrev S2x8192x2x8x64 : Shape := ⟨5, ![2, 8192, 2, 8, 64]⟩
abbrev S2x8192x1x8x64 : Shape := ⟨5, ![2, 8192, 1, 8, 64]⟩
abbrev S8192 : Shape := ⟨1, ![8192]⟩
abbrev S8192x1 : Shape := ⟨2, ![8192, 1]⟩
abbrev S129 : Shape := ⟨1, ![129]⟩
abbrev S1x129 : Shape := ⟨2, ![1, 129]⟩
abbrev S_ : Shape := ⟨0, ![]⟩
abbrev S8192x129 : Shape := ⟨2, ![8192, 129]⟩
abbrev S8192x129x1 : Shape := ⟨3, ![8192, 129, 1]⟩
abbrev S2x8192x129x8x64 : Shape := ⟨5, ![2, 8192, 129, 8, 64]⟩
abbrev S2x8192x8x129 : Shape := ⟨4, ![2, 8192, 8, 129]⟩
abbrev S1x8192x1x129 : Shape := ⟨4, ![1, 8192, 1, 129]⟩
abbrev S2x8192x8 : Shape := ⟨3, ![2, 8192, 8]⟩
abbrev S2x8192x8x1 : Shape := ⟨4, ![2, 8192, 8, 1]⟩
abbrev S2x8192x112 : Shape := ⟨3, ![2, 8192, 112]⟩
abbrev S2x8192x128 : Shape := ⟨3, ![2, 8192, 128]⟩
abbrev S1024x8192 : Shape := ⟨2, ![1024, 8192]⟩
abbrev S1024x2048 : Shape := ⟨2, ![1024, 2048]⟩

abbrev nBuf : Space → Nat
  | .hbm => 72
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x1024, .f32⟩
  | .hbm, ⟨2, _⟩ => ⟨S2x8192x8x64, .bf16⟩
  | .hbm, ⟨3, _⟩ => ⟨S2x8192x2x8x64, .f32⟩
  | .hbm, ⟨4, _⟩ => ⟨S2x8192x1x8x64, .f32⟩
  | .hbm, ⟨5, _⟩ => ⟨S2x8192x8x64, .f32⟩
  | .hbm, ⟨6, _⟩ => ⟨S2x8192x1x8x64, .f32⟩
  | .hbm, ⟨7, _⟩ => ⟨S2x8192x8x64, .f32⟩
  | .hbm, ⟨8, _⟩ => ⟨S8192, .i32⟩
  | .hbm, ⟨9, _⟩ => ⟨S8192x1, .i32⟩
  | .hbm, ⟨10, _⟩ => ⟨S129, .i32⟩
  | .hbm, ⟨11, _⟩ => ⟨S1x129, .i32⟩
  | .hbm, ⟨12, _⟩ => ⟨S_, .i32⟩
  | .hbm, ⟨13, _⟩ => ⟨S1x129, .i32⟩
  | .hbm, ⟨14, _⟩ => ⟨S1x129, .i32⟩
  | .hbm, ⟨15, _⟩ => ⟨S8192x129, .i32⟩
  | .hbm, ⟨16, _⟩ => ⟨S8192x129, .i32⟩
  | .hbm, ⟨17, _⟩ => ⟨S8192x129, .i32⟩
  | .hbm, ⟨18, _⟩ => ⟨S_, .i32⟩
  | .hbm, ⟨19, _⟩ => ⟨S8192x129, .i32⟩
  | .hbm, ⟨20, _⟩ => ⟨S8192x129, .i1⟩
  | .hbm, ⟨21, _⟩ => ⟨S_, .i32⟩
  | .hbm, ⟨22, _⟩ => ⟨S8192x129, .i32⟩
  | .hbm, ⟨23, _⟩ => ⟨S8192x129, .i32⟩
  | .hbm, ⟨24, _⟩ => ⟨S_, .i32⟩
  | .hbm, ⟨25, _⟩ => ⟨S8192x129, .i32⟩
  | .hbm, ⟨26, _⟩ => ⟨S8192x129, .i1⟩
  | .hbm, ⟨27, _⟩ => ⟨S_, .i32⟩
  | .hbm, ⟨28, _⟩ => ⟨S8192x129, .i32⟩
  | .hbm, ⟨29, _⟩ => ⟨S8192x129, .i32⟩
  | .hbm, ⟨30, _⟩ => ⟨S8192x129, .i32⟩
  | .hbm, ⟨31, _⟩ => ⟨S8192x129x1, .i32⟩
  | .hbm, ⟨32, _⟩ => ⟨S2x8192x129x8x64, .f32⟩
  | .hbm, ⟨33, _⟩ => ⟨S_, .i32⟩
  | .hbm, ⟨34, _⟩ => ⟨S8192x129, .i32⟩
  | .hbm, ⟨35, _⟩ => ⟨S8192x129, .i1⟩
  | .hbm, ⟨36, _⟩ => ⟨S_, .i32⟩
  | .hbm, ⟨37, _⟩ => ⟨S8192x129, .i32⟩
  | .hbm, ⟨38, _⟩ => ⟨S8192x129, .i32⟩
  | .hbm, ⟨39, _⟩ => ⟨S8192x129, .i32⟩
  | .hbm, ⟨40, _⟩ => ⟨S8192x129x1, .i32⟩
  | .hbm, ⟨41, _⟩ => ⟨S2x8192x129x8x64, .f32⟩
  | .hbm, ⟨42, _⟩ => ⟨S2x8192x8x64, .f32⟩
  | .hbm, ⟨43, _⟩ => ⟨S2x8192x8x129, .f32⟩
  | .hbm, ⟨44, _⟩ => ⟨S1x8192x1x129, .i1⟩
  | .hbm, ⟨45, _⟩ => ⟨S_, .f32⟩
  | .hbm, ⟨46, _⟩ => ⟨S_, .f32⟩
  | .hbm, ⟨47, _⟩ => ⟨S2x8192x8x129, .i1⟩
  | .hbm, ⟨48, _⟩ => ⟨S2x8192x8x129, .f32⟩
  | .hbm, ⟨49, _⟩ => ⟨S2x8192x8x129, .f32⟩
  | .hbm, ⟨50, _⟩ => ⟨S_, .f32⟩
  | .hbm, ⟨51, _⟩ => ⟨S2x8192x8, .f32⟩
  | .hbm, ⟨52, _⟩ => ⟨S2x8192x8x1, .f32⟩
  | .hbm, ⟨53, _⟩ => ⟨S2x8192x8x129, .f32⟩
  | .hbm, ⟨54, _⟩ => ⟨S2x8192x8x129, .f32⟩
  | .hbm, ⟨55, _⟩ => ⟨S2x8192x8x129, .f32⟩
  | .hbm, ⟨56, _⟩ => ⟨S_, .f32⟩
  | .hbm, ⟨57, _⟩ => ⟨S_, .f32⟩
  | .hbm, ⟨58, _⟩ => ⟨S2x8192x8x129, .i1⟩
  | .hbm, ⟨59, _⟩ => ⟨S2x8192x8x129, .f32⟩
  | .hbm, ⟨60, _⟩ => ⟨S2x8192x8x129, .f32⟩
  | .hbm, ⟨61, _⟩ => ⟨S_, .f32⟩
  | .hbm, ⟨62, _⟩ => ⟨S2x8192x8, .f32⟩
  | .hbm, ⟨63, _⟩ => ⟨S2x8192x8x1, .f32⟩
  | .hbm, ⟨64, _⟩ => ⟨S2x8192x8x64, .f32⟩
  | .hbm, ⟨65, _⟩ => ⟨S2x8192x8, .f32⟩
  | .hbm, ⟨66, _⟩ => ⟨S2x8192x8, .f32⟩
  | .hbm, ⟨67, _⟩ => ⟨S_, .f32⟩
  | .hbm, ⟨68, _⟩ => ⟨S2x8192x112, .f32⟩
  | .hbm, ⟨69, _⟩ => ⟨S2x8192x128, .f32⟩
  | .hbm, ⟨70, _⟩ => ⟨S1024x8192, .f32⟩
  | .hbm, ⟨71, _⟩ => ⟨S1024x2048, .f32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_c : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_c_0 : Ref sig .tc := ⟨.hbm, 18, rfl⟩
abbrev main_v15 : Ref sig .tc := ⟨.hbm, 19, rfl⟩
abbrev main_v16 : Ref sig .tc := ⟨.hbm, 20, rfl⟩
abbrev main_c_1 : Ref sig .tc := ⟨.hbm, 21, rfl⟩
abbrev main_v17 : Ref sig .tc := ⟨.hbm, 22, rfl⟩
abbrev main_v18 : Ref sig .tc := ⟨.hbm, 23, rfl⟩
abbrev main_c_2 : Ref sig .tc := ⟨.hbm, 24, rfl⟩
abbrev main_v19 : Ref sig .tc := ⟨.hbm, 25, rfl⟩
abbrev main_v20 : Ref sig .tc := ⟨.hbm, 26, rfl⟩
abbrev main_c_3 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_c_4 : Ref sig .tc := ⟨.hbm, 33, rfl⟩
abbrev main_v26 : Ref sig .tc := ⟨.hbm, 34, rfl⟩
abbrev main_v27 : Ref sig .tc := ⟨.hbm, 35, rfl⟩
abbrev main_c_5 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst : Ref sig .tc := ⟨.hbm, 45, rfl⟩
abbrev main_call0_v0 : Ref sig .tc := ⟨.hbm, 46, rfl⟩
abbrev main_call0_v1 : Ref sig .tc := ⟨.hbm, 47, rfl⟩
abbrev main_call0_v2 : Ref sig .tc := ⟨.hbm, 48, rfl⟩
abbrev main_v36 : Ref sig .tc := ⟨.hbm, 49, rfl⟩
abbrev main_cst_6 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_7 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_v42 : Ref sig .tc := ⟨.hbm, 60, rfl⟩
abbrev main_cst_8 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_9 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩

abbrev nD : Nat := 1
abbrev τ : Topo := Topo.v7x

variable {F : FTy → Type} [FloatOps F]
-- ==== Post.lean ====
abbrev S16384x1024 : Shape := ⟨2, ![16384, 1024]⟩
abbrev S16384x512 : Shape := ⟨2, ![16384, 512]⟩
abbrev S16384x128 : Shape := ⟨2, ![16384, 128]⟩
abbrev S512x1024 : Shape := ⟨2, ![512, 1024]⟩
abbrev S1x1024 : Shape := ⟨2, ![1, 1024]⟩
abbrev S1024x4096 : Shape := ⟨2, ![1024, 4096]⟩
abbrev S4096x1024 : Shape := ⟨2, ![4096, 1024]⟩
abbrev S1024x1024 : Shape := ⟨2, ![1024, 1024]⟩
abbrev S16384x256 : Shape := ⟨2, ![16384, 256]⟩
abbrev S256x1024 : Shape := ⟨2, ![256, 1024]⟩
abbrev S256x512 : Shape := ⟨2, ![256, 512]⟩
abbrev S256x128 : Shape := ⟨2, ![256, 128]⟩
abbrev S256x256 : Shape := ⟨2, ![256, 256]⟩
abbrev S256x1 : Shape := ⟨2, ![256, 1]⟩
abbrev S256x64 : Shape := ⟨2, ![256, 64]⟩
abbrev S256 : Shape := ⟨1, ![256]⟩

abbrev nBuf : Space → Nat
  | .hbm => 16
  | .vmem => 26
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S16384x128, .f32⟩
  | .hbm, ⟨5, _⟩ => ⟨S16384x128, .f32⟩
  | .hbm, ⟨6, _⟩ => ⟨S16384x128, .f32⟩
  | .hbm, ⟨7, _⟩ => ⟨S512x1024, .bf16⟩
  | .hbm, ⟨8, _⟩ => ⟨S1x1024, .f32⟩
  | .hbm, ⟨9, _⟩ => ⟨S1024x4096, .bf16⟩
  | .hbm, ⟨10, _⟩ => ⟨S4096x1024, .bf16⟩
  | .hbm, ⟨11, _⟩ => ⟨S1x1024, .f32⟩
  | .hbm, ⟨12, _⟩ => ⟨S1024x1024, .bf16⟩
  | .hbm, ⟨13, _⟩ => ⟨S16384x256, .f32⟩
  | .hbm, ⟨14, _⟩ => ⟨S256x1024, .bf16⟩
  | .hbm, ⟨15, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S512x1024, .bf16⟩
  | .local _ .vmem, ⟨15, _⟩ => ⟨S1x1024, .f32⟩
  | .local _ .vmem, ⟨16, _⟩ => ⟨S1024x4096, .bf16⟩
  | .local _ .vmem, ⟨17, _⟩ => ⟨S4096x1024, .bf16⟩
  | .local _ .vmem, ⟨18, _⟩ => ⟨S1x1024, .f32⟩
  | .local _ .vmem, ⟨19, _⟩ => ⟨S1024x1024, .bf16⟩
  | .local _ .vmem, ⟨20, _⟩ => ⟨S256x256, .f32⟩
  | .local _ .vmem, ⟨21, _⟩ => ⟨S256x256, .f32⟩
  | .local _ .vmem, ⟨22, _⟩ => ⟨S256x1024, .bf16⟩
  | .local _ .vmem, ⟨23, _⟩ => ⟨S256x1024, .f32⟩
  | .local _ .vmem, ⟨24, _⟩ => ⟨S256x1024, .f32⟩
  | .local _ .vmem, ⟨25, _⟩ => ⟨S256x512, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg15_1 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem13_1 : DmaSem sig := 21
abbrev cc0_sem14_0 : DmaSem sig := 22
abbrev cc0_sem15_0 : DmaSem sig := 23
abbrev cc0_sem15_1 : DmaSem sig := 24

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x4096 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4096x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S256x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== RefPostIdeal.lean ====
abbrev S16384x1024 : Shape := ⟨2, ![16384, 1024]⟩
abbrev S16384x512 : Shape := ⟨2, ![16384, 512]⟩
abbrev S16384x128 : Shape := ⟨2, ![16384, 128]⟩
abbrev S512x1024 : Shape := ⟨2, ![512, 1024]⟩
abbrev S1x1024 : Shape := ⟨2, ![1, 1024]⟩
abbrev S1024x4096 : Shape := ⟨2, ![1024, 4096]⟩
abbrev S4096x1024 : Shape := ⟨2, ![4096, 1024]⟩
abbrev S1024x1024 : Shape := ⟨2, ![1024, 1024]⟩
abbrev S16384x256 : Shape := ⟨2, ![16384, 256]⟩
abbrev S256x1024 : Shape := ⟨2, ![256, 1024]⟩
abbrev S16384x8x64 : Shape := ⟨3, ![16384, 8, 64]⟩
abbrev S16384x8 : Shape := ⟨2, ![16384, 8]⟩
abbrev S16384x8x1 : Shape := ⟨3, ![16384, 8, 1]⟩
abbrev S1x16384x8x1 : Shape := ⟨4, ![1, 16384, 8, 1]⟩
abbrev S3x16384x8x1 : Shape := ⟨4, ![3, 16384, 8, 1]⟩
abbrev S_ : Shape := ⟨0, ![]⟩
abbrev S1024 : Shape := ⟨1, ![1024]⟩
abbrev S16384 : Shape := ⟨1, ![16384]⟩
abbrev S16384x1 : Shape := ⟨2, ![16384, 1]⟩
abbrev S16384x4096 : Shape := ⟨2, ![16384, 4096]⟩

abbrev nBuf : Space → Nat
  | .hbm => 130
  | .vmem => 0
  | .smem => 0
  | _ => 0

abbrev hbmTy0_0 (i : Nat) : BufTy := match i % 128 with
  | 0 => ⟨S16384x1024, .f32⟩
  | 1 => ⟨S16384x512, .f32⟩
  | 2 => ⟨S16384x512, .f32⟩
  | 3 => ⟨S16384x512, .f32⟩
  | 4 => ⟨S16384x128, .f32⟩
  | 5 => ⟨S16384x128, .f32⟩
  | 6 => ⟨S16384x128, .f32⟩
  | 7 => ⟨S512x1024, .bf16⟩
  | 8 => ⟨S1x1024, .f32⟩
  | 9 => ⟨S1024x4096, .bf16⟩
  | 10 => ⟨S4096x1024, .bf16⟩
  | 11 => ⟨S1x1024, .f32⟩
  | 12 => ⟨S1024x1024, .bf16⟩
  | 13 => ⟨S16384x256, .f32⟩
  | 14 => ⟨S256x1024, .bf16⟩
  | 15 => ⟨S16384x8x64, .f32⟩
  | 16 => ⟨S16384x8, .f32⟩
  | 17 => ⟨S16384x8x1, .f32⟩
  | 18 => ⟨S16384x8, .f32⟩
  | 19 => ⟨S16384x8x1, .f32⟩
  | 20 => ⟨S16384x8x64, .f32⟩
  | 21 => ⟨S16384x8, .f32⟩
  | 22 => ⟨S16384x8x1, .f32⟩
  | 23 => ⟨S16384x8, .f32⟩
  | 24 => ⟨S16384x8x1, .f32⟩
  | 25 => ⟨S16384x8x64, .f32⟩
  | 26 => ⟨S16384x8, .f32⟩
  | 27 => ⟨S16384x8x1, .f32⟩
  | 28 => ⟨S16384x8, .f32⟩
  | 29 => ⟨S16384x8x1, .f32⟩
  | 30 => ⟨S1x16384x8x1, .f32⟩
  | 31 => ⟨S1x16384x8x1, .f32⟩
  | 32 => ⟨S1x16384x8x1, .f32⟩
  | 33 => ⟨S3x16384x8x1, .f32⟩
  | 34 => ⟨S_, .f32⟩
  | 35 => ⟨S16384x8x1, .f32⟩
  | 36 => ⟨S16384x8x1, .f32⟩
  | 37 => ⟨S16384x8x1, .f32⟩
  | 38 => ⟨S16384x8x64, .f32⟩
  | 39 => ⟨S16384x8x64, .f32⟩
  | 40 => ⟨S_, .f32⟩
  | 41 => ⟨S16384x8x64, .f32⟩
  | 42 => ⟨S16384x8x64, .f32⟩
  | 43 => ⟨S16384x8x1, .f32⟩
  | 44 => ⟨S16384x8x1, .f32⟩
  | 45 => ⟨S16384x8x64, .f32⟩
  | 46 => ⟨S16384x8x64, .f32⟩
  | 47 => ⟨S16384x8x64, .f32⟩
  | 48 => ⟨S16384x8x1, .f32⟩
  | 49 => ⟨S16384x8x1, .f32⟩
  | 50 => ⟨S16384x8x64, .f32⟩
  | 51 => ⟨S16384x8x64, .f32⟩
  | 52 => ⟨S16384x8x64, .f32⟩
  | 53 => ⟨S16384x8x1, .f32⟩
  | 54 => ⟨S16384x8x1, .f32⟩
  | 55 => ⟨S16384x8x1, .f32⟩
  | 56 => ⟨S_, .f32⟩
  | 57 => ⟨S16384x8x1, .f32⟩
  | 58 => ⟨S16384x8x1, .f32⟩
  | 59 => ⟨S16384x8x1, .f32⟩
  | 60 => ⟨S16384x8x1, .f32⟩
  | 61 => ⟨S16384x8x1, .f32⟩
  | 62 => ⟨S16384x8x1, .f32⟩
  | 63 => ⟨S16384x8x1, .f32⟩
  | 64 => ⟨S16384x8x1, .f32⟩
  | 65 => ⟨S16384x8x1, .f32⟩
  | 66 => ⟨S16384x8x1, .f32⟩
  | 67 => ⟨S16384x8x64, .f32⟩
  | 68 => ⟨S16384x8x64, .f32⟩
  | 69 => ⟨S16384x512, .f32⟩
  | 70 => ⟨S512x1024, .f32⟩
  | 71 => ⟨S16384x1024, .f32⟩
  | 72 => ⟨S16384x1024, .f32⟩
  | 73 => ⟨S1024, .f32⟩
  | 74 => ⟨S1024, .f32⟩
  | 75 => ⟨S1024x4096, .f32⟩
  | 76 => ⟨S4096x1024, .f32⟩
  | 77 => ⟨S256x1024, .f32⟩
  | 78 => ⟨S1024x1024, .f32⟩
  | 79 => ⟨S16384x1024, .f32⟩
  | 80 => ⟨S_, .f32⟩
  | 81 => ⟨S16384, .f32⟩
  | 82 => ⟨S16384x1, .f32⟩
  | 83 => ⟨S_, .f32⟩
  | 84 => ⟨S16384x1, .f32⟩
  | 85 => ⟨S16384x1, .f32⟩
  | 86 => ⟨S_, .f32⟩
  | 87 => ⟨S16384x1, .f32⟩
  | 88 => ⟨S16384x1, .f32⟩
  | 89 => ⟨S16384x1, .f32⟩
  | 90 => ⟨S16384x1024, .f32⟩
  | 91 => ⟨S16384x1024, .f32⟩
  | 92 => ⟨S1x1024, .f32⟩
  | 93 => ⟨S16384x1024, .f32⟩
  | 94 => ⟨S16384x1024, .f32⟩
  | 95 => ⟨S16384x4096, .f32⟩
  | 96 => ⟨S_, .f32⟩
  | 97 => ⟨S16384x4096, .f32⟩
  | 98 => ⟨S16384x4096, .f32⟩
  | 99 => ⟨S16384x4096, .f32⟩
  | 100 => ⟨S16384x1024, .f32⟩
  | 101 => ⟨S16384x1024, .f32⟩
  | 102 => ⟨S16384x1024, .f32⟩
  | 103 => ⟨S_, .f32⟩
  | 104 => ⟨S16384, .f32⟩
  | 105 => ⟨S16384x1, .f32⟩
  | 106 => ⟨S_, .f32⟩
  | 107 => ⟨S16384x1, .f32⟩
  | 108 => ⟨S16384x1, .f32⟩
  | 109 => ⟨S_, .f32⟩
  | 110 => ⟨S16384x1, .f32⟩
  | 111 => ⟨S16384x1, .f32⟩
  | 112 => ⟨S16384x1, .f32⟩
  | 113 => ⟨S16384x1024, .f32⟩
  | 114 => ⟨S16384x1024, .f32⟩
  | 115 => ⟨S1x1024, .f32⟩
  | 116 => ⟨S16384x1024, .f32⟩
  | 117 => ⟨S16384x1024, .f32⟩
  | 118 => ⟨S16384x1024, .f32⟩
  | 119 => ⟨S16384x1024, .f32⟩
  | 120 => ⟨S16384x1024, .f32⟩
  | 121 => ⟨S_, .f32⟩
  | 122 => ⟨S16384x1024, .f32⟩
  | 123 => ⟨S16384x1024, .f32⟩
  | 124 => ⟨S_, .f32⟩
  | 125 => ⟨S16384x1024, .f32⟩
  | 126 => ⟨S16384x1024, .f32⟩
  | 127 => ⟨S16384x1024, .f32⟩
  | _ => ⟨S16384x1024, .f32⟩

abbrev hbmTy0_1 (i : Nat) : BufTy := match i % 128 with
  | 0 => ⟨S16384x1024, .f32⟩
  | 1 => ⟨S16384x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_0 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_1 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_cst_2 : Ref sig .tc := ⟨.hbm, 80, rfl⟩
abbrev main_v62 : Ref sig .tc := ⟨.hbm, 81, rfl⟩
abbrev main_v63 : Ref sig .tc := ⟨.hbm, 82, rfl⟩
abbrev main_cst_3 : Ref sig .tc := ⟨.hbm, 83, rfl⟩
abbrev main_v64 : Ref sig .tc := ⟨.hbm, 84, rfl⟩
abbrev main_v65 : Ref sig .tc := ⟨.hbm, 85, rfl⟩
abbrev main_cst_4 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_call0_cst : Ref sig .tc := ⟨.hbm, 96, rfl⟩
abbrev main_call0_v0 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_cst_5 : Ref sig .tc := ⟨.hbm, 103, rfl⟩
abbrev main_v80 : Ref sig .tc := ⟨.hbm, 104, rfl⟩
abbrev main_v81 : Ref sig .tc := ⟨.hbm, 105, rfl⟩
abbrev main_cst_6 : Ref sig .tc := ⟨.hbm, 106, rfl⟩
abbrev main_v82 : Ref sig .tc := ⟨.hbm, 107, rfl⟩
abbrev main_v83 : Ref sig .tc := ⟨.hbm, 108, rfl⟩
abbrev main_cst_7 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_cst_8 : Ref sig .tc := ⟨.hbm, 121, rfl⟩
abbrev main_v95 : Ref sig .tc := ⟨.hbm, 122, rfl⟩
abbrev main_v96 : Ref sig .tc := ⟨.hbm, 123, rfl⟩
abbrev main_cst_9 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩

abbrev nD : Nat := 1
abbrev τ : Topo := Topo.v7x

variable {F : FTy → Type} [FloatOps F]
-- ==== PostS.lean ====
abbrev S512x1024 : Shape := ⟨2, ![512, 1024]⟩
abbrev S512x512 : Shape := ⟨2, ![512, 512]⟩
abbrev S1x1024 : Shape := ⟨2, ![1, 1024]⟩
abbrev S1024x4096 : Shape := ⟨2, ![1024, 4096]⟩
abbrev S4096x1024 : Shape := ⟨2, ![4096, 1024]⟩
abbrev S1024x1024 : Shape := ⟨2, ![1024, 1024]⟩
abbrev S512x256 : Shape := ⟨2, ![512, 256]⟩
abbrev S256x1024 : Shape := ⟨2, ![256, 1024]⟩
abbrev S256x512 : Shape := ⟨2, ![256, 512]⟩
abbrev S256x256 : Shape := ⟨2, ![256, 256]⟩
abbrev S256 : Shape := ⟨1, ![256]⟩
abbrev S256x1 : Shape := ⟨2, ![256, 1]⟩

abbrev nBuf : Space → Nat
  | .hbm => 11
  | .vmem => 15
  | .smem => 0
  | _ => 0

abbrev bufTy : (tb : Table) → Fin (tcTables nBuf tb) → BufTy
  | .hbm, ⟨0, _⟩ => ⟨S512x1024, .f32⟩
  | .hbm, ⟨1, _⟩ => ⟨S512x512, .f32⟩
  | .hbm, ⟨2, _⟩ => ⟨S512x1024, .bf16⟩
  | .hbm, ⟨3, _⟩ => ⟨S1x1024, .f32⟩
  | .hbm, ⟨4, _⟩ => ⟨S1024x4096, .bf16⟩
  | .hbm, ⟨5, _⟩ => ⟨S4096x1024, .bf16⟩
  | .hbm, ⟨6, _⟩ => ⟨S1x1024, .f32⟩
  | .hbm, ⟨7, _⟩ => ⟨S1024x1024, .bf16⟩
  | .hbm, ⟨8, _⟩ => ⟨S512x256, .f32⟩
  | .hbm, ⟨9, _⟩ => ⟨S256x1024, .bf16⟩
  | .hbm, ⟨10, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x512, .f32⟩
  | .local _ .vmem, ⟨3, _⟩ => ⟨S256x512, .f32⟩
  | .local _ .vmem, ⟨4, _⟩ => ⟨S512x1024, .bf16⟩
  | .local _ .vmem, ⟨5, _⟩ => ⟨S1x1024, .f32⟩
  | .local _ .vmem, ⟨6, _⟩ => ⟨S1024x4096, .bf16⟩
  | .local _ .vmem, ⟨7, _⟩ => ⟨S4096x1024, .bf16⟩
  | .local _ .vmem, ⟨8, _⟩ => ⟨S1x1024, .f32⟩
  | .local _ .vmem, ⟨9, _⟩ => ⟨S1024x1024, .bf16⟩
  | .local _ .vmem, ⟨10, _⟩ => ⟨S256x256, .f32⟩
  | .local _ .vmem, ⟨11, _⟩ => ⟨S256x256, .f32⟩
  | .local _ .vmem, ⟨12, _⟩ => ⟨S256x1024, .bf16⟩
  | .local _ .vmem, ⟨13, _⟩ => ⟨S256x1024, .f32⟩
  | .local _ .vmem, ⟨14, _⟩ => ⟨S256x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== RefPostSIdeal.lean ====
abbrev S512x1024 : Shape := ⟨2, ![512, 1024]⟩
abbrev S512x512 : Shape := ⟨2, ![512, 512]⟩
abbrev S1x1024 : Shape := ⟨2, ![1, 1024]⟩
abbrev S1024x4096 : Shape := ⟨2, ![1024, 4096]⟩
abbrev S4096x1024 : Shape := ⟨2, ![4096, 1024]⟩
abbrev S1024x1024 : Shape := ⟨2, ![1024, 1024]⟩
abbrev S512x256 : Shape := ⟨2, ![512, 256]⟩
abbrev S256x1024 : Shape := ⟨2, ![256, 1024]⟩
abbrev S1024 : Shape := ⟨1, ![1024]⟩
abbrev S_ : Shape := ⟨0, ![]⟩
abbrev S512 : Shape := ⟨1, ![512]⟩
abbrev S512x1 : Shape := ⟨2, ![512, 1]⟩
abbrev S512x4096 : Shape := ⟨2, ![512, 4096]⟩

abbrev nBuf : Space → Nat
  | .hbm => 70
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x512, .f32⟩
  | .hbm, ⟨2, _⟩ => ⟨S512x1024, .bf16⟩
  | .hbm, ⟨3, _⟩ => ⟨S1x1024, .f32⟩
  | .hbm, ⟨4, _⟩ => ⟨S1024x4096, .bf16⟩
  | .hbm, ⟨5, _⟩ => ⟨S4096x1024, .bf16⟩
  | .hbm, ⟨6, _⟩ => ⟨S1x1024, .f32⟩
  | .hbm, ⟨7, _⟩ => ⟨S1024x1024, .bf16⟩
  | .hbm, ⟨8, _⟩ => ⟨S512x256, .f32⟩
  | .hbm, ⟨9, _⟩ => ⟨S256x1024, .bf16⟩
  | .hbm, ⟨10, _⟩ => ⟨S512x1024, .f32⟩
  | .hbm, ⟨11, _⟩ => ⟨S512x1024, .f32⟩
  | .hbm, ⟨12, _⟩ => ⟨S512x1024, .f32⟩
  | .hbm, ⟨13, _⟩ => ⟨S1024, .f32⟩
  | .hbm, ⟨14, _⟩ => ⟨S1024, .f32⟩
  | .hbm, ⟨15, _⟩ => ⟨S1024x4096, .f32⟩
  | .hbm, ⟨16, _⟩ => ⟨S4096x1024, .f32⟩
  | .hbm, ⟨17, _⟩ => ⟨S256x1024, .f32⟩
  | .hbm, ⟨18, _⟩ => ⟨S1024x1024, .f32⟩
  | .hbm, ⟨19, _⟩ => ⟨S512x1024, .f32⟩
  | .hbm, ⟨20, _⟩ => ⟨S_, .f32⟩
  | .hbm, ⟨21, _⟩ => ⟨S512, .f32⟩
  | .hbm, ⟨22, _⟩ => ⟨S512x1, .f32⟩
  | .hbm, ⟨23, _⟩ => ⟨S_, .f32⟩
  | .hbm, ⟨24, _⟩ => ⟨S512x1, .f32⟩
  | .hbm, ⟨25, _⟩ => ⟨S512x1, .f32⟩
  | .hbm, ⟨26, _⟩ => ⟨S_, .f32⟩
  | .hbm, ⟨27, _⟩ => ⟨S512x1, .f32⟩
  | .hbm, ⟨28, _⟩ => ⟨S512x1, .f32⟩
  | .hbm, ⟨29, _⟩ => ⟨S512x1, .f32⟩
  | .hbm, ⟨30, _⟩ => ⟨S512x1024, .f32⟩
  | .hbm, ⟨31, _⟩ => ⟨S512x1024, .f32⟩
  | .hbm, ⟨32, _⟩ => ⟨S1x1024, .f32⟩
  | .hbm, ⟨33, _⟩ => ⟨S512x1024, .f32⟩
  | .hbm, ⟨34, _⟩ => ⟨S512x1024, .f32⟩
  | .hbm, ⟨35, _⟩ => ⟨S512x4096, .f32⟩
  | .hbm, ⟨36, _⟩ => ⟨S_, .f32⟩
  | .hbm, ⟨37, _⟩ => ⟨S512x4096, .f32⟩
  | .hbm, ⟨38, _⟩ => ⟨S512x4096, .f32⟩
  | .hbm, ⟨39, _⟩ => ⟨S512x4096, .f32⟩
  | .hbm, ⟨40, _⟩ => ⟨S512x1024, .f32⟩
  | .hbm, ⟨41, _⟩ => ⟨S512x1024, .f32⟩
  | .hbm, ⟨42, _⟩ => ⟨S512x1024, .f32⟩
  | .hbm, ⟨43, _⟩ => ⟨S_, .f32⟩
  | .hbm, ⟨44, _⟩ => ⟨S512, .f32⟩
  | .hbm, ⟨45, _⟩ => ⟨S512x1, .f32⟩
  | .hbm, ⟨46, _⟩ => ⟨S_, .f32⟩
  | .hbm, ⟨47, _⟩ => ⟨S512x1, .f32⟩
  | .hbm, ⟨48, _⟩ => ⟨S512x1, .f32⟩
  | .hbm, ⟨49, _⟩ => ⟨S_, .f32⟩
  | .hbm, ⟨50, _⟩ => ⟨S512x1, .f32⟩
  | .hbm, ⟨51, _⟩ => ⟨S512x1, .f32⟩
  | .hbm, ⟨52, _⟩ => ⟨S512x1, .f32⟩
  | .hbm, ⟨53, _⟩ => ⟨S512x1024, .f32⟩
  | .hbm, ⟨54, _⟩ => ⟨S512x1024, .f32⟩
  | .hbm, ⟨55, _⟩ => ⟨S1x1024, .f32⟩
  | .hbm, ⟨56, _⟩ => ⟨S512x1024, .f32⟩
  | .hbm, ⟨57, _⟩ => ⟨S512x1024, .f32⟩
  | .hbm, ⟨58, _⟩ => ⟨S512x1024, .f32⟩
  | .hbm, ⟨59, _⟩ => ⟨S512x1024, .f32⟩
  | .hbm, ⟨60, _⟩ => ⟨S512x1024, .f32⟩
  | .hbm, ⟨61, _⟩ => ⟨S_, .f32⟩
  | .hbm, ⟨62, _⟩ => ⟨S512x1024, .f32⟩
  | .hbm, ⟨63, _⟩ => ⟨S512x1024, .f32⟩
  | .hbm, ⟨64, _⟩ => ⟨S_, .f32⟩
  | .hbm, ⟨65, _⟩ => ⟨S512x1024, .f32⟩
  | .hbm, ⟨66, _⟩ => ⟨S512x1024, .f32⟩
  | .hbm, ⟨67, _⟩ => ⟨S512x1024, .f32⟩
  | .hbm, ⟨68, _⟩ => ⟨S512x1024, .f32⟩
  | .hbm, ⟨69, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_call0_cst : Ref sig .tc := ⟨.hbm, 36, rfl⟩
abbrev main_call0_v0 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_2 : Ref sig .tc := ⟨.hbm, 43, rfl⟩
abbrev main_v28 : Ref sig .tc := ⟨.hbm, 44, rfl⟩
abbrev main_v29 : Ref sig .tc := ⟨.hbm, 45, rfl⟩
abbrev main_cst_3 : Ref sig .tc := ⟨.hbm, 46, rfl⟩
abbrev main_v30 : Ref sig .tc := ⟨.hbm, 47, rfl⟩
abbrev main_v31 : Ref sig .tc := ⟨.hbm, 48, rfl⟩
abbrev main_cst_4 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_5 : Ref sig .tc := ⟨.hbm, 61, rfl⟩
abbrev main_v43 : Ref sig .tc := ⟨.hbm, 62, rfl⟩
abbrev main_v44 : Ref sig .tc := ⟨.hbm, 63, rfl⟩
abbrev main_cst_6 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩

abbrev nD : Nat := 1
abbrev τ : Topo := Topo.v7x

variable {F : FTy → Type} [FloatOps F]
-- ==== ProjC.lean ====
abbrev S16384x1024 : Shape := ⟨2, ![16384, 1024]⟩
abbrev S1x1024 : Shape := ⟨2, ![1, 1024]⟩
abbrev S1024x4608 : Shape := ⟨2, ![1024, 4608]⟩
abbrev S3x2x64 : Shape := ⟨3, ![3, 2, 64]⟩
abbrev S3x1x64 : Shape := ⟨3, ![3, 1, 64]⟩
abbrev S3x64 : Shape := ⟨2, ![3, 64]⟩
abbrev S1x3x1x64 : Shape := ⟨4, ![1, 3, 1, 64]⟩
abbrev S1x3x8x64 : Shape := ⟨4, ![1, 3, 8, 64]⟩
abbrev S3x512 : Shape := ⟨2, ![3, 512]⟩
abbrev S8192 : Shape := ⟨1, ![8192]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S16384x512 : Shape := ⟨2, ![16384, 512]⟩
abbrev S2x1024x128 : Shape := ⟨3, ![2, 1024, 128]⟩
abbrev S2x1024x512 : Shape := ⟨3, ![2, 1024, 512]⟩
abbrev S2x1024x2048 : Shape := ⟨3, ![2, 1024, 2048]⟩
abbrev S256x1024 : Shape := ⟨2, ![256, 1024]⟩
abbrev S256x128 : Shape := ⟨2, ![256, 128]⟩
abbrev S256x512 : Shape := ⟨2, ![256, 512]⟩
abbrev S1x1024x128 : Shape := ⟨3, ![1, 1024, 128]⟩
abbrev S1x1024x256 : Shape := ⟨3, ![1, 1024, 256]⟩
abbrev S256 : Shape := ⟨1, ![256]⟩
abbrev S256x1 : Shape := ⟨2, ![256, 1]⟩
abbrev S1024x1536 : Shape := ⟨2, ![1024, 1536]⟩
abbrev S256x1536 : Shape := ⟨2, ![256, 1536]⟩
abbrev S1x512 : Shape := ⟨2, ![1, 512]⟩
abbrev S1x128 : Shape := ⟨2, ![1, 128]⟩
abbrev S128x1024 : Shape := ⟨2, ![128, 1024]⟩
abbrev S1024x128 : Shape := ⟨2, ![1024, 128]⟩
abbrev S1024x256 : Shape := ⟨2, ![1024, 256]⟩

abbrev nBuf : Space → Nat
  | .hbm => 49
  | .vmem => 28
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x4608, .bf16⟩
  | .hbm, ⟨3, _⟩ => ⟨S3x2x64, .f32⟩
  | .hbm, ⟨4, _⟩ => ⟨S3x1x64, .f32⟩
  | .hbm, ⟨5, _⟩ => ⟨S3x64, .f32⟩
  | .hbm, ⟨6, _⟩ => ⟨S1x3x1x64, .f32⟩
  | .hbm, ⟨7, _⟩ => ⟨S1x3x8x64, .f32⟩
  | .hbm, ⟨8, _⟩ => ⟨S3x512, .f32⟩
  | .hbm, ⟨9, _⟩ => ⟨S3x1x64, .f32⟩
  | .hbm, ⟨10, _⟩ => ⟨S3x64, .f32⟩
  | .hbm, ⟨11, _⟩ => ⟨S1x3x1x64, .f32⟩
  | .hbm, ⟨12, _⟩ => ⟨S1x3x8x64, .f32⟩
  | .hbm, ⟨13, _⟩ => ⟨S3x512, .f32⟩
  | .hbm, ⟨14, _⟩ => ⟨S8192, .i32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S8192, .f32⟩
  | .hbm, ⟨24, _⟩ => ⟨S8192x1, .f32⟩
  | .hbm, ⟨25, _⟩ => ⟨S1x32, .f32⟩
  | .hbm, ⟨26, _⟩ => ⟨S8192x32, .f32⟩
  | .hbm, ⟨27, _⟩ => ⟨S8192x32, .f32⟩
  | .hbm, ⟨28, _⟩ => ⟨S8192x32, .f32⟩
  | .hbm, ⟨29, _⟩ => ⟨S8192x32, .f32⟩
  | .hbm, ⟨30, _⟩ => ⟨S8192x32, .f32⟩
  | .hbm, ⟨31, _⟩ => ⟨S8192x64, .f32⟩
  | .hbm, ⟨32, _⟩ => ⟨S1x8192x1x64, .f32⟩
  | .hbm, ⟨33, _⟩ => ⟨S1x8192x2x64, .f32⟩
  | .hbm, ⟨34, _⟩ => ⟨S8192x128, .f32⟩
  | .hbm, ⟨35, _⟩ => ⟨S8192x32, .f32⟩
  | .hbm, ⟨36, _⟩ => ⟨S8192x64, .f32⟩
  | .hbm, ⟨37, _⟩ => ⟨S1x8192x1x64, .f32⟩
  | .hbm, ⟨38, _⟩ => ⟨S1x8192x2x64, .f32⟩
  | .hbm, ⟨39, _⟩ => ⟨S8192x128, .f32⟩
  | .hbm, ⟨40, _⟩ => ⟨S16384x512, .bf16⟩
  | .hbm, ⟨41, _⟩ => ⟨S16384x512, .bf16⟩
  | .hbm, ⟨42, _⟩ => ⟨S16384x512, .bf16⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S2x1024x128, .f32⟩
  | .hbm, ⟨47, _⟩ => ⟨S2x1024x512, .f32⟩
  | .hbm, ⟨48, _⟩ => ⟨S2x1024x2048, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x4608, .bf16⟩
  | .local _ .vmem, ⟨4, _⟩ => ⟨S3x512, .f32⟩
  | .local _ .vmem, ⟨5, _⟩ => ⟨S3x512, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S256x512, .bf16⟩
  | .local _ .vmem, ⟨15, _⟩ => ⟨S256x512, .bf16⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S1x1024x128, .f32⟩
  | .local _ .vmem, ⟨23, _⟩ => ⟨S1x1024x128, .f32⟩
  | .local _ .vmem, ⟨24, _⟩ => ⟨S1x1024x256, .f32⟩
  | .local _ .vmem, ⟨25, _⟩ => ⟨S1x1024x256, .f32⟩
  | .local _ .vmem, ⟨26, _⟩ => ⟨S1x1024x256, .f32⟩
  | .local _ .vmem, ⟨27, _⟩ => ⟨S1x1024x256, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34_0 : Ref sig .tc := ⟨.hbm, 40, rfl⟩
abbrev main_v34_1 : Ref sig .tc := ⟨.hbm, 41, rfl⟩
abbrev main_v34_2 : Ref sig .tc := ⟨.hbm, 42, rfl⟩
abbrev main_v34_3 : Ref sig .tc := ⟨.hbm, 43, rfl⟩
abbrev main_v34_4 : Ref sig .tc := ⟨.hbm, 44, rfl⟩
abbrev main_v34_5 : Ref sig .tc := ⟨.hbm, 45, rfl⟩
abbrev main_v34_6 : Ref sig .tc := ⟨.hbm, 46, rfl⟩
abbrev main_v34_7 : Ref sig .tc := ⟨.hbm, 47, rfl⟩
abbrev main_v34_8 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27

abbrev nD : Nat := 1
abbrev τ : Topo := Topo.v7x

variable {F : FTy → Type} [FloatOps F]

abbrev grid0 : Pipeline.Grid := ⟨1, ![64], ![false]⟩

def k0_cond1 (i : grid0.Coords) : BitVec 1 :=
  let arg0 : BitVec 32 := BitVec.ofNat 32 (i 0).val
  let c32_i32_106 : BitVec 32 := 32#32
  let c0_i32_107 : BitVec 32 := 0#32
  let v350 : BitVec 1 := Scalar.cmpi .eq c32_i32_106 c0_i32_107
  let c1_i32 : BitVec 32 := 1#32
  let v351 : BitVec 32 := Scalar.select v350 c1_i32 c32_i32_106
  let v352 : BitVec 32 := Scalar.remsi arg0 v351
  let c0_i32_109 : BitVec 32 := 0#32
  let v354 : BitVec 1 := Scalar.cmpi .slt v352 c0_i32_109
  let c0_i32_110 : BitVec 32 := 0#32
  let v355 : BitVec 1 := Scalar.cmpi .slt v351 c0_i32_110
  let v356 : BitVec 1 := Scalar.xori v354 v355
  let c0_i32_108 : BitVec 32 := 0#32
  let v353 : BitVec 1 := Scalar.cmpi .ne v352 c0_i32_108
  let v357 : BitVec 1 := Scalar.andi v356 v353
  let v358 : BitVec 32 := Scalar.addi v352 v351
  let v359 : BitVec 32 := Scalar.select v357 v358 v352
  let c31_i32 : BitVec 32 := 31#32
  let v360 : BitVec 1 := Scalar.cmpi .sge v359 c31_i32
  let v361 : BitVec 32 := Scalar.extui v360
  let c0_i32_111 : BitVec 32 := 0#32
  let v362 : BitVec 1 := Scalar.cmpi .ne v361 c0_i32_111
  v362

def k0_cond2 (i : grid0.Coords) : BitVec 1 :=
  let arg0 : BitVec 32 := BitVec.ofNat 32 (i 0).val
  let c32_i32_106 : BitVec 32 := 32#32
  let c0_i32_107 : BitVec 32 := 0#32
  let v350 : BitVec 1 := Scalar.cmpi .eq c32_i32_106 c0_i32_107
  let c1_i32 : BitVec 32 := 1#32
  let v351 : BitVec 32 := Scalar.select v350 c1_i32 c32_i32_106
  let v352 : BitVec 32 := Scalar.remsi arg0 v351
  let c0_i32_109 : BitVec 32 := 0#32
  let v354 : BitVec 1 := Scalar.cmpi .slt v352 c0_i32_109
  let c0_i32_110 : BitVec 32 := 0#32
  let v355 : BitVec 1 := Scalar.cmpi .slt v351 c0_i32_110
  let v356 : BitVec 1 := Scalar.xori v354 v355
  let c0_i32_108 : BitVec 32 := 0#32
  let v353 : BitVec 1 := Scalar.cmpi .ne v352 c0_i32_108
  let v357 : BitVec 1 := Scalar.andi v356 v353
  let v358 : BitVec 32 := Scalar.addi v352 v351
  let v359 : BitVec 32 := Scalar.select v357 v358 v352
  let c0_i32_112 : BitVec 32 := 0#32
  let v363 : BitVec 1 := Scalar.cmpi .eq v359 c0_i32_112
  let v364 : BitVec 32 := Scalar.extui v363
  let c0_i32_113 : BitVec 32 := 0#32
  let v365 : BitVec 1 := Scalar.cmpi .ne v364 c0_i32_113
  v365

def k0_cond3 (i : grid0.Coords) : BitVec 1 :=
  let arg0 : BitVec 32 := BitVec.ofNat 32 (i 0).val
  let c32_i32_214 : BitVec 32 := 32#32
  let c0_i32_215 : BitVec 32 := 0#32
  let v697 : BitVec 1 := Scalar.cmpi .eq c32_i32_214 c0_i32_215
  let c1_i32_216 : BitVec 32 := 1#32
  let v698 : BitVec 32 := Scalar.select v697 c1_i32_216 c32_i32_214
  let v699 : BitVec 32 := Scalar.remsi arg0 v698
  let c0_i32_218 : BitVec 32 := 0#32
  let v701 : BitVec 1 := Scalar.cmpi .slt v699 c0_i32_218
  let c0_i32_219 : BitVec 32 := 0#32
  let v702 : BitVec 1 := Scalar.cmpi .slt v698 c0_i32_219
  let v703 : BitVec 1 := Scalar.xori v701 v702
  let c0_i32_217 : BitVec 32 := 0#32
  let v700 : BitVec 1 := Scalar.cmpi .ne v699 c0_i32_217
  let v704 : BitVec 1 := Scalar.andi v703 v700
  let v705 : BitVec 32 := Scalar.addi v699 v698
  let v706 : BitVec 32 := Scalar.select v704 v705 v699
  let c30_i32 : BitVec 32 := 30#32
  let v707 : BitVec 1 := Scalar.cmpi .sge v706 c30_i32
  let v708 : BitVec 32 := Scalar.extui v707
  let c0_i32_220 : BitVec 32 := 0#32
  let v709 : BitVec 1 := Scalar.cmpi .ne v708 c0_i32_220
  v709

def k0_cond4 (i : grid0.Coords) : BitVec 1 :=
  let arg0 : BitVec 32 := BitVec.ofNat 32 (i 0).val
  let c32_i32_214 : BitVec 32 := 32#32
  let c0_i32_215 : BitVec 32 := 0#32
  let v697 : BitVec 1 := Scalar.cmpi .eq c32_i32_214 c0_i32_215
  let c1_i32_216 : BitVec 32 := 1#32
  let v698 : BitVec 32 := Scalar.select v697 c1_i32_216 c32_i32_214
  let v699 : BitVec 32 := Scalar.remsi arg0 v698
  let c0_i32_218 : BitVec 32 := 0#32
  let v701 : BitVec 1 := Scalar.cmpi .slt v699 c0_i32_218
  let c0_i32_219 : BitVec 32 := 0#32
  let v702 : BitVec 1 := Scalar.cmpi .slt v698 c0_i32_219
  let v703 : BitVec 1 := Scalar.xori v701 v702
  let c0_i32_217 : BitVec 32 := 0#32
  let v700 : BitVec 1 := Scalar.cmpi .ne v699 c0_i32_217
  let v704 : BitVec 1 := Scalar.andi v703 v700
  let v705 : BitVec 32 := Scalar.addi v699 v698
  let v706 : BitVec 32 := Scalar.select v704 v705 v699
  let c0_i32_221 : BitVec 32 := 0#32
  let v710 : BitVec 1 := Scalar.cmpi .eq v706 c0_i32_221
  let v711 : BitVec 32 := Scalar.extui v710
  let c0_i32_222 : BitVec 32 := 0#32
  let v712 : BitVec 1 := Scalar.cmpi .ne v711 c0_i32_222
  v712

def k0_cond5 (i : grid0.Coords) : BitVec 1 :=
  let arg0 : BitVec 32 := BitVec.ofNat 32 (i 0).val
  let c32_i32_323 : BitVec 32 := 32#32
  let c0_i32_324 : BitVec 32 := 0#32
  let v1044 : BitVec 1 := Scalar.cmpi .eq c32_i32_323 c0_i32_324
  let c1_i32_325 : BitVec 32 := 1#32
  let v1045 : BitVec 32 := Scalar.select v1044 c1_i32_325 c32_i32_323
  let v1046 : BitVec 32 := Scalar.remsi arg0 v1045
  let c0_i32_327 : BitVec 32 := 0#32
  let v1048 : BitVec 1 := Scalar.cmpi .slt v1046 c0_i32_327
  let c0_i32_328 : BitVec 32 := 0#32
  let v1049 : BitVec 1 := Scalar.cmpi .slt v1045 c0_i32_328
  let v1050 : BitVec 1 := Scalar.xori v1048 v1049
  let c0_i32_326 : BitVec 32 := 0#32
  let v1047 : BitVec 1 := Scalar.cmpi .ne v1046 c0_i32_326
  let v1051 : BitVec 1 := Scalar.andi v1050 v1047
  let v1052 : BitVec 32 := Scalar.addi v1046 v1045
  let v1053 : BitVec 32 := Scalar.select v1051 v1052 v1046
  let c24_i32 : BitVec 32 := 24#32
  let v1054 : BitVec 1 := Scalar.cmpi .sge v1053 c24_i32
  let v1055 : BitVec 32 := Scalar.extui v1054
  let c0_i32_329 : BitVec 32 := 0#32
  let v1056 : BitVec 1 := Scalar.cmpi .ne v1055 c0_i32_329
  v1056

def k0_cond6 (i : grid0.Coords) : BitVec 1 :=
  let arg0 : BitVec 32 := BitVec.ofNat 32 (i 0).val
  let c32_i32_323 : BitVec 32 := 32#32
  let c0_i32_324 : BitVec 32 := 0#32
  let v1044 : BitVec 1 := Scalar.cmpi .eq c32_i32_323 c0_i32_324
  let c1_i32_325 : BitVec 32 := 1#32
  let v1045 : BitVec 32 := Scalar.select v1044 c1_i32_325 c32_i32_323
  let v1046 : BitVec 32 := Scalar.remsi arg0 v1045
  let c0_i32_327 : BitVec 32 := 0#32
  let v1048 : BitVec 1 := Scalar.cmpi .slt v1046 c0_i32_327
  let c0_i32_328 : BitVec 32 := 0#32
  let v1049 : BitVec 1 := Scalar.cmpi .slt v1045 c0_i32_328
  let v1050 : BitVec 1 := Scalar.xori v1048 v1049
  let c0_i32_326 : BitVec 32 := 0#32
  let v1047 : BitVec 1 := Scalar.cmpi .ne v1046 c0_i32_326
  let v1051 : BitVec 1 := Scalar.andi v1050 v1047
  let v1052 : BitVec 32 := Scalar.addi v1046 v1045
  let v1053 : BitVec 32 := Scalar.select v1051 v1052 v1046
  let c0_i32_330 : BitVec 32 := 0#32
  let v1057 : BitVec 1 := Scalar.cmpi .eq v1053 c0_i32_330
  let v1058 : BitVec 32 := Scalar.extui v1057
  let c0_i32_331 : BitVec 32 := 0#32
  let v1059 : BitVec 1 := Scalar.cmpi .ne v1058 c0_i32_331
  v1059

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c31_i32 : BitVec 32 := 31#32
  let v27 : BitVec 32 := Scalar.subi v26 c31_i32
  let c0_i32_10 : BitVec 32 := 0#32
  let v28 : BitVec 32 := Scalar.maxsi v27 c0_i32_10
  let c0_i32_11 : BitVec 32 := 0#32
  let c0_i32_12 : BitVec 32 := 0#32
  ![v16.toNat, c0_i32_11.toNat, v28.toNat]

def cc0_transform_14 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c30_i32 : BitVec 32 := 30#32
  let v27 : BitVec 32 := Scalar.subi v26 c30_i32
  let c0_i32_10 : BitVec 32 := 0#32
  let v28 : BitVec 32 := Scalar.maxsi v27 c0_i32_10
  let c0_i32_11 : BitVec 32 := 0#32
  let c0_i32_12 : BitVec 32 := 0#32
  ![v16.toNat, c0_i32_11.toNat, v28.toNat]

def cc0_transform_15 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c24_i32 : BitVec 32 := 24#32
  let v27 : BitVec 32 := Scalar.subi v26 c24_i32
  let c0_i32_10 : BitVec 32 := 0#32
  let v28 : BitVec 32 := Scalar.maxsi v27 c0_i32_10
  let c0_i32_11 : BitVec 32 := 0#32
  let c0_i32_12 : BitVec 32 := 0#32
  ![v16.toNat, c0_i32_11.toNat, v28.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4608 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x1024x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x1024x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x1024x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== RefProjCIdeal.lean ====
abbrev S16384x1024 : Shape := ⟨2, ![16384, 1024]⟩
abbrev S1x1024 : Shape := ⟨2, ![1, 1024]⟩
abbrev S1024x4608 : Shape := ⟨2, ![1024, 4608]⟩
abbrev S3x2x64 : Shape := ⟨3, ![3, 2, 64]⟩
abbrev S2x8192x1024 : Shape := ⟨3, ![2, 8192, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S8192 : Shape := ⟨1, ![8192]⟩
abbrev S2x8192x4608 : Shape := ⟨3, ![2, 8192, 4608]⟩
abbrev S2x8192x3x3x8x64 : Shape := ⟨6, ![2, 8192, 3, 3, 8, 64]⟩
abbrev S2x8192x1x1x8x64 : Shape := ⟨6, ![2, 8192, 1, 1, 8, 64]⟩
abbrev S2x8192x8x64 : Shape := ⟨4, ![2, 8192, 8, 64]⟩
abbrev S1x1x64 : Shape := ⟨3, ![1, 1, 64]⟩
abbrev S64 : Shape := ⟨1, ![64]⟩
abbrev S2x8192x8 : Shape := ⟨3, ![2, 8192, 8]⟩
abbrev S2x8192x8x1 : Shape := ⟨4, ![2, 8192, 8, 1]⟩
abbrev S1x1x1x64 : Shape := ⟨4, ![1, 1, 1, 64]⟩
abbrev S32 : Shape := ⟨1, ![32]⟩
abbrev S8192x1 : Shape := ⟨2, ![8192, 1]⟩
abbrev S1x32 : Shape := ⟨2, ![1, 32]⟩
abbrev S8192x32 : Shape := ⟨2, ![8192, 32]⟩
abbrev S8192x1x32 : Shape := ⟨3, ![8192, 1, 32]⟩
abbrev S2x8192x8x32 : Shape := ⟨4, ![2, 8192, 8, 32]⟩
abbrev S1x8192x1x32 : Shape := ⟨4, ![1, 8192, 1, 32]⟩
abbrev S2x8192x1x8x64 : Shape := ⟨5, ![2, 8192, 1, 8, 64]⟩
abbrev S2x8192x2x8x64 : Shape := ⟨5, ![2, 8192, 2, 8, 64]⟩
abbrev S2x128x2x8x64 : Shape := ⟨5, ![2, 128, 2, 8, 64]⟩
abbrev S2x512x2x8x64 : Shape := ⟨5, ![2, 512, 2, 8, 64]⟩
abbrev S2x2048x2x8x64 : Shape := ⟨5, ![2, 2048, 2, 8, 64]⟩
abbrev S16384x512 : Shape := ⟨2, ![16384, 512]⟩
abbrev S2x128x1024 : Shape := ⟨3, ![2, 128, 1024]⟩
abbrev S2x1024x128 : Shape := ⟨3, ![2, 1024, 128]⟩
abbrev S2x512x1024 : Shape := ⟨3, ![2, 512, 1024]⟩
abbrev S2x1024x512 : Shape := ⟨3, ![2, 1024, 512]⟩
abbrev S2x2048x1024 : Shape := ⟨3, ![2, 2048, 1024]⟩
abbrev S2x1024x2048 : Shape := ⟨3, ![2, 1024, 2048]⟩

abbrev nBuf : Space → Nat
  | .hbm => 398
  | .vmem => 0
  | .smem => 0
  | _ => 0

abbrev hbmTy0_0 (i : Nat) : BufTy := match i % 128 with
  | 0 => ⟨S16384x1024, .f32⟩
  | 1 => ⟨S1x1024, .f32⟩
  | 2 => ⟨S1024x4608, .bf16⟩
  | 3 => ⟨S3x2x64, .f32⟩
  | 4 => ⟨S2x8192x1024, .f32⟩
  | 5 => ⟨S1024, .f32⟩
  | 6 => ⟨S2x8192x1024, .f32⟩
  | 7 => ⟨S_, .f32⟩
  | 8 => ⟨S2x8192, .f32⟩
  | 9 => ⟨S2x8192x1, .f32⟩
  | 10 => ⟨S_, .f32⟩
  | 11 => ⟨S2x8192x1, .f32⟩
  | 12 => ⟨S2x8192x1, .f32⟩
  | 13 => ⟨S_, .f32⟩
  | 14 => ⟨S2x8192x1, .f32⟩
  | 15 => ⟨S2x8192x1, .f32⟩
  | 16 => ⟨S2x8192x1, .f32⟩
  | 17 => ⟨S2x8192x1024, .f32⟩
  | 18 => ⟨S2x8192x1024, .f32⟩
  | 19 => ⟨S1x1x1024, .f32⟩
  | 20 => ⟨S2x8192x1024, .f32⟩
  | 21 => ⟨S2x8192x1024, .f32⟩
  | 22 => ⟨S8192, .i32⟩
  | 23 => ⟨S1024x4608, .f32⟩
  | 24 => ⟨S2x8192x4608, .f32⟩
  | 25 => ⟨S2x8192x3x3x8x64, .f32⟩
  | 26 => ⟨S2x8192x1x1x8x64, .f32⟩
  | 27 => ⟨S2x8192x8x64, .f32⟩
  | 28 => ⟨S1x1x64, .f32⟩
  | 29 => ⟨S64, .f32⟩
  | 30 => ⟨S2x8192x8x64, .f32⟩
  | 31 => ⟨S_, .f32⟩
  | 32 => ⟨S2x8192x8, .f32⟩
  | 33 => ⟨S2x8192x8x1, .f32⟩
  | 34 => ⟨S_, .f32⟩
  | 35 => ⟨S2x8192x8x1, .f32⟩
  | 36 => ⟨S2x8192x8x1, .f32⟩
  | 37 => ⟨S_, .f32⟩
  | 38 => ⟨S2x8192x8x1, .f32⟩
  | 39 => ⟨S2x8192x8x1, .f32⟩
  | 40 => ⟨S2x8192x8x1, .f32⟩
  | 41 => ⟨S2x8192x8x64, .f32⟩
  | 42 => ⟨S2x8192x8x64, .f32⟩
  | 43 => ⟨S1x1x1x64, .f32⟩
  | 44 => ⟨S2x8192x8x64, .f32⟩
  | 45 => ⟨S2x8192x8x64, .f32⟩
  | 46 => ⟨S32, .f32⟩
  | 47 => ⟨S32, .f32⟩
  | 48 => ⟨S_, .f32⟩
  | 49 => ⟨S32, .f32⟩
  | 50 => ⟨S32, .f32⟩
  | 51 => ⟨S_, .f32⟩
  | 52 => ⟨S32, .f32⟩
  | 53 => ⟨S32, .f32⟩
  | 54 => ⟨S8192, .f32⟩
  | 55 => ⟨S8192x1, .f32⟩
  | 56 => ⟨S1x32, .f32⟩
  | 57 => ⟨S8192x32, .f32⟩
  | 58 => ⟨S8192x32, .f32⟩
  | 59 => ⟨S8192x32, .f32⟩
  | 60 => ⟨S8192x32, .f32⟩
  | 61 => ⟨S8192x1x32, .f32⟩
  | 62 => ⟨S8192x32, .f32⟩
  | 63 => ⟨S8192x1x32, .f32⟩
  | 64 => ⟨S2x8192x8x32, .f32⟩
  | 65 => ⟨S2x8192x8x32, .f32⟩
  | 66 => ⟨S1x8192x1x32, .f32⟩
  | 67 => ⟨S2x8192x8x32, .f32⟩
  | 68 => ⟨S2x8192x8x32, .f32⟩
  | 69 => ⟨S1x8192x1x32, .f32⟩
  | 70 => ⟨S2x8192x8x32, .f32⟩
  | 71 => ⟨S2x8192x8x32, .f32⟩
  | 72 => ⟨S2x8192x8x32, .f32⟩
  | 73 => ⟨S1x8192x1x32, .f32⟩
  | 74 => ⟨S2x8192x8x32, .f32⟩
  | 75 => ⟨S2x8192x8x32, .f32⟩
  | 76 => ⟨S1x8192x1x32, .f32⟩
  | 77 => ⟨S2x8192x8x32, .f32⟩
  | 78 => ⟨S2x8192x8x32, .f32⟩
  | 79 => ⟨S2x8192x8x32, .f32⟩
  | 80 => ⟨S2x8192x8x64, .f32⟩
  | 81 => ⟨S2x8192x1x1x8x64, .f32⟩
  | 82 => ⟨S2x8192x8x64, .f32⟩
  | 83 => ⟨S1x1x64, .f32⟩
  | 84 => ⟨S64, .f32⟩
  | 85 => ⟨S2x8192x8x64, .f32⟩
  | 86 => ⟨S_, .f32⟩
  | 87 => ⟨S2x8192x8, .f32⟩
  | 88 => ⟨S2x8192x8x1, .f32⟩
  | 89 => ⟨S_, .f32⟩
  | 90 => ⟨S2x8192x8x1, .f32⟩
  | 91 => ⟨S2x8192x8x1, .f32⟩
  | 92 => ⟨S_, .f32⟩
  | 93 => ⟨S2x8192x8x1, .f32⟩
  | 94 => ⟨S2x8192x8x1, .f32⟩
  | 95 => ⟨S2x8192x8x1, .f32⟩
  | 96 => ⟨S2x8192x8x64, .f32⟩
  | 97 => ⟨S2x8192x8x64, .f32⟩
  | 98 => ⟨S1x1x1x64, .f32⟩
  | 99 => ⟨S2x8192x8x64, .f32⟩
  | 100 => ⟨S2x8192x8x64, .f32⟩
  | 101 => ⟨S32, .f32⟩
  | 102 => ⟨S32, .f32⟩
  | 103 => ⟨S_, .f32⟩
  | 104 => ⟨S32, .f32⟩
  | 105 => ⟨S32, .f32⟩
  | 106 => ⟨S_, .f32⟩
  | 107 => ⟨S32, .f32⟩
  | 108 => ⟨S32, .f32⟩
  | 109 => ⟨S8192, .f32⟩
  | 110 => ⟨S8192x1, .f32⟩
  | 111 => ⟨S1x32, .f32⟩
  | 112 => ⟨S8192x32, .f32⟩
  | 113 => ⟨S8192x32, .f32⟩
  | 114 => ⟨S8192x32, .f32⟩
  | 115 => ⟨S8192x32, .f32⟩
  | 116 => ⟨S8192x1x32, .f32⟩
  | 117 => ⟨S8192x32, .f32⟩
  | 118 => ⟨S8192x1x32, .f32⟩
  | 119 => ⟨S2x8192x8x32, .f32⟩
  | 120 => ⟨S2x8192x8x32, .f32⟩
  | 121 => ⟨S1x8192x1x32, .f32⟩
  | 122 => ⟨S2x8192x8x32, .f32⟩
  | 123 => ⟨S2x8192x8x32, .f32⟩
  | 124 => ⟨S1x8192x1x32, .f32⟩
  | 125 => ⟨S2x8192x8x32, .f32⟩
  | 126 => ⟨S2x8192x8x32, .f32⟩
  | 127 => ⟨S2x8192x8x32, .f32⟩
  | _ => ⟨S16384x1024, .f32⟩

abbrev hbmTy0_1 (i : Nat) : BufTy := match i % 128 with
  | 0 => ⟨S1x8192x1x32, .f32⟩
  | 1 => ⟨S2x8192x8x32, .f32⟩
  | 2 => ⟨S2x8192x8x32, .f32⟩
  | 3 => ⟨S1x8192x1x32, .f32⟩
  | 4 => ⟨S2x8192x8x32, .f32⟩
  | 5 => ⟨S2x8192x8x32, .f32⟩
  | 6 => ⟨S2x8192x8x32, .f32⟩
  | 7 => ⟨S2x8192x8x64, .f32⟩
  | 8 => ⟨S2x8192x1x1x8x64, .f32⟩
  | 9 => ⟨S2x8192x8x64, .f32⟩
  | 10 => ⟨S2x8192x1x8x64, .f32⟩
  | 11 => ⟨S2x8192x1x8x64, .f32⟩
  | 12 => ⟨S2x8192x2x8x64, .f32⟩
  | 13 => ⟨S2x8192x1x1x8x64, .f32⟩
  | 14 => ⟨S2x8192x8x64, .f32⟩
  | 15 => ⟨S1x1x64, .f32⟩
  | 16 => ⟨S64, .f32⟩
  | 17 => ⟨S2x8192x8x64, .f32⟩
  | 18 => ⟨S_, .f32⟩
  | 19 => ⟨S2x8192x8, .f32⟩
  | 20 => ⟨S2x8192x8x1, .f32⟩
  | 21 => ⟨S_, .f32⟩
  | 22 => ⟨S2x8192x8x1, .f32⟩
  | 23 => ⟨S2x8192x8x1, .f32⟩
  | 24 => ⟨S_, .f32⟩
  | 25 => ⟨S2x8192x8x1, .f32⟩
  | 26 => ⟨S2x8192x8x1, .f32⟩
  | 27 => ⟨S2x8192x8x1, .f32⟩
  | 28 => ⟨S2x8192x8x64, .f32⟩
  | 29 => ⟨S2x8192x8x64, .f32⟩
  | 30 => ⟨S1x1x1x64, .f32⟩
  | 31 => ⟨S2x8192x8x64, .f32⟩
  | 32 => ⟨S2x8192x8x64, .f32⟩
  | 33 => ⟨S32, .f32⟩
  | 34 => ⟨S32, .f32⟩
  | 35 => ⟨S_, .f32⟩
  | 36 => ⟨S32, .f32⟩
  | 37 => ⟨S32, .f32⟩
  | 38 => ⟨S_, .f32⟩
  | 39 => ⟨S32, .f32⟩
  | 40 => ⟨S32, .f32⟩
  | 41 => ⟨S8192, .f32⟩
  | 42 => ⟨S8192x1, .f32⟩
  | 43 => ⟨S1x32, .f32⟩
  | 44 => ⟨S8192x32, .f32⟩
  | 45 => ⟨S8192x32, .f32⟩
  | 46 => ⟨S8192x32, .f32⟩
  | 47 => ⟨S8192x32, .f32⟩
  | 48 => ⟨S8192x1x32, .f32⟩
  | 49 => ⟨S8192x32, .f32⟩
  | 50 => ⟨S8192x1x32, .f32⟩
  | 51 => ⟨S2x8192x8x32, .f32⟩
  | 52 => ⟨S2x8192x8x32, .f32⟩
  | 53 => ⟨S1x8192x1x32, .f32⟩
  | 54 => ⟨S2x8192x8x32, .f32⟩
  | 55 => ⟨S2x8192x8x32, .f32⟩
  | 56 => ⟨S1x8192x1x32, .f32⟩
  | 57 => ⟨S2x8192x8x32, .f32⟩
  | 58 => ⟨S2x8192x8x32, .f32⟩
  | 59 => ⟨S2x8192x8x32, .f32⟩
  | 60 => ⟨S1x8192x1x32, .f32⟩
  | 61 => ⟨S2x8192x8x32, .f32⟩
  | 62 => ⟨S2x8192x8x32, .f32⟩
  | 63 => ⟨S1x8192x1x32, .f32⟩
  | 64 => ⟨S2x8192x8x32, .f32⟩
  | 65 => ⟨S2x8192x8x32, .f32⟩
  | 66 => ⟨S2x8192x8x32, .f32⟩
  | 67 => ⟨S2x8192x8x64, .f32⟩
  | 68 => ⟨S2x8192x1x1x8x64, .f32⟩
  | 69 => ⟨S2x8192x8x64, .f32⟩
  | 70 => ⟨S1x1x64, .f32⟩
  | 71 => ⟨S64, .f32⟩
  | 72 => ⟨S2x8192x8x64, .f32⟩
  | 73 => ⟨S_, .f32⟩
  | 74 => ⟨S2x8192x8, .f32⟩
  | 75 => ⟨S2x8192x8x1, .f32⟩
  | 76 => ⟨S_, .f32⟩
  | 77 => ⟨S2x8192x8x1, .f32⟩
  | 78 => ⟨S2x8192x8x1, .f32⟩
  | 79 => ⟨S_, .f32⟩
  | 80 => ⟨S2x8192x8x1, .f32⟩
  | 81 => ⟨S2x8192x8x1, .f32⟩
  | 82 => ⟨S2x8192x8x1, .f32⟩
  | 83 => ⟨S2x8192x8x64, .f32⟩
  | 84 => ⟨S2x8192x8x64, .f32⟩
  | 85 => ⟨S1x1x1x64, .f32⟩
  | 86 => ⟨S2x8192x8x64, .f32⟩
  | 87 => ⟨S2x8192x8x64, .f32⟩
  | 88 => ⟨S32, .f32⟩
  | 89 => ⟨S32, .f32⟩
  | 90 => ⟨S_, .f32⟩
  | 91 => ⟨S32, .f32⟩
  | 92 => ⟨S32, .f32⟩
  | 93 => ⟨S_, .f32⟩
  | 94 => ⟨S32, .f32⟩
  | 95 => ⟨S32, .f32⟩
  | 96 => ⟨S8192, .f32⟩
  | 97 => ⟨S8192x1, .f32⟩
  | 98 => ⟨S1x32, .f32⟩
  | 99 => ⟨S8192x32, .f32⟩
  | 100 => ⟨S8192x32, .f32⟩
  | 101 => ⟨S8192x32, .f32⟩
  | 102 => ⟨S8192x32, .f32⟩
  | 103 => ⟨S8192x1x32, .f32⟩
  | 104 => ⟨S8192x32, .f32⟩
  | 105 => ⟨S8192x1x32, .f32⟩
  | 106 => ⟨S2x8192x8x32, .f32⟩
  | 107 => ⟨S2x8192x8x32, .f32⟩
  | 108 => ⟨S1x8192x1x32, .f32⟩
  | 109 => ⟨S2x8192x8x32, .f32⟩
  | 110 => ⟨S2x8192x8x32, .f32⟩
  | 111 => ⟨S1x8192x1x32, .f32⟩
  | 112 => ⟨S2x8192x8x32, .f32⟩
  | 113 => ⟨S2x8192x8x32, .f32⟩
  | 114 => ⟨S2x8192x8x32, .f32⟩
  | 115 => ⟨S1x8192x1x32, .f32⟩
  | 116 => ⟨S2x8192x8x32, .f32⟩
  | 117 => ⟨S2x8192x8x32, .f32⟩
  | 118 => ⟨S1x8192x1x32, .f32⟩
  | 119 => ⟨S2x8192x8x32, .f32⟩
  | 120 => ⟨S2x8192x8x32, .f32⟩
  | 121 => ⟨S2x8192x8x32, .f32⟩
  | 122 => ⟨S2x8192x8x64, .f32⟩
  | 123 => ⟨S2x8192x1x1x8x64, .f32⟩
  | 124 => ⟨S2x8192x8x64, .f32⟩
  | 125 => ⟨S2x8192x1x8x64, .f32⟩
  | 126 => ⟨S2x8192x1x8x64, .f32⟩
  | 127 => ⟨S2x8192x2x8x64, .f32⟩
  | _ => ⟨S16384x1024, .f32⟩

abbrev hbmTy0_2 (i : Nat) : BufTy := match i % 128 with
  | 0 => ⟨S2x8192x1x1x8x64, .f32⟩
  | 1 => ⟨S2x8192x8x64, .f32⟩
  | 2 => ⟨S1x1x64, .f32⟩
  | 3 => ⟨S64, .f32⟩
  | 4 => ⟨S2x8192x8x64, .f32⟩
  | 5 => ⟨S_, .f32⟩
  | 6 => ⟨S2x8192x8, .f32⟩
  | 7 => ⟨S2x8192x8x1, .f32⟩
  | 8 => ⟨S_, .f32⟩
  | 9 => ⟨S2x8192x8x1, .f32⟩
  | 10 => ⟨S2x8192x8x1, .f32⟩
  | 11 => ⟨S_, .f32⟩
  | 12 => ⟨S2x8192x8x1, .f32⟩
  | 13 => ⟨S2x8192x8x1, .f32⟩
  | 14 => ⟨S2x8192x8x1, .f32⟩
  | 15 => ⟨S2x8192x8x64, .f32⟩
  | 16 => ⟨S2x8192x8x64, .f32⟩
  | 17 => ⟨S1x1x1x64, .f32⟩
  | 18 => ⟨S2x8192x8x64, .f32⟩
  | 19 => ⟨S2x8192x8x64, .f32⟩
  | 20 => ⟨S32, .f32⟩
  | 21 => ⟨S32, .f32⟩
  | 22 => ⟨S_, .f32⟩
  | 23 => ⟨S32, .f32⟩
  | 24 => ⟨S32, .f32⟩
  | 25 => ⟨S_, .f32⟩
  | 26 => ⟨S32, .f32⟩
  | 27 => ⟨S32, .f32⟩
  | 28 => ⟨S8192, .f32⟩
  | 29 => ⟨S8192x1, .f32⟩
  | 30 => ⟨S1x32, .f32⟩
  | 31 => ⟨S8192x32, .f32⟩
  | 32 => ⟨S8192x32, .f32⟩
  | 33 => ⟨S8192x32, .f32⟩
  | 34 => ⟨S8192x32, .f32⟩
  | 35 => ⟨S8192x1x32, .f32⟩
  | 36 => ⟨S8192x32, .f32⟩
  | 37 => ⟨S8192x1x32, .f32⟩
  | 38 => ⟨S2x8192x8x32, .f32⟩
  | 39 => ⟨S2x8192x8x32, .f32⟩
  | 40 => ⟨S1x8192x1x32, .f32⟩
  | 41 => ⟨S2x8192x8x32, .f32⟩
  | 42 => ⟨S2x8192x8x32, .f32⟩
  | 43 => ⟨S1x8192x1x32, .f32⟩
  | 44 => ⟨S2x8192x8x32, .f32⟩
  | 45 => ⟨S2x8192x8x32, .f32⟩
  | 46 => ⟨S2x8192x8x32, .f32⟩
  | 47 => ⟨S1x8192x1x32, .f32⟩
  | 48 => ⟨S2x8192x8x32, .f32⟩
  | 49 => ⟨S2x8192x8x32, .f32⟩
  | 50 => ⟨S1x8192x1x32, .f32⟩
  | 51 => ⟨S2x8192x8x32, .f32⟩
  | 52 => ⟨S2x8192x8x32, .f32⟩
  | 53 => ⟨S2x8192x8x32, .f32⟩
  | 54 => ⟨S2x8192x8x64, .f32⟩
  | 55 => ⟨S2x8192x1x1x8x64, .f32⟩
  | 56 => ⟨S2x8192x8x64, .f32⟩
  | 57 => ⟨S1x1x64, .f32⟩
  | 58 => ⟨S64, .f32⟩
  | 59 => ⟨S2x8192x8x64, .f32⟩
  | 60 => ⟨S_, .f32⟩
  | 61 => ⟨S2x8192x8, .f32⟩
  | 62 => ⟨S2x8192x8x1, .f32⟩
  | 63 => ⟨S_, .f32⟩
  | 64 => ⟨S2x8192x8x1, .f32⟩
  | 65 => ⟨S2x8192x8x1, .f32⟩
  | 66 => ⟨S_, .f32⟩
  | 67 => ⟨S2x8192x8x1, .f32⟩
  | 68 => ⟨S2x8192x8x1, .f32⟩
  | 69 => ⟨S2x8192x8x1, .f32⟩
  | 70 => ⟨S2x8192x8x64, .f32⟩
  | 71 => ⟨S2x8192x8x64, .f32⟩
  | 72 => ⟨S1x1x1x64, .f32⟩
  | 73 => ⟨S2x8192x8x64, .f32⟩
  | 74 => ⟨S2x8192x8x64, .f32⟩
  | 75 => ⟨S32, .f32⟩
  | 76 => ⟨S32, .f32⟩
  | 77 => ⟨S_, .f32⟩
  | 78 => ⟨S32, .f32⟩
  | 79 => ⟨S32, .f32⟩
  | 80 => ⟨S_, .f32⟩
  | 81 => ⟨S32, .f32⟩
  | 82 => ⟨S32, .f32⟩
  | 83 => ⟨S8192, .f32⟩
  | 84 => ⟨S8192x1, .f32⟩
  | 85 => ⟨S1x32, .f32⟩
  | 86 => ⟨S8192x32, .f32⟩
  | 87 => ⟨S8192x32, .f32⟩
  | 88 => ⟨S8192x32, .f32⟩
  | 89 => ⟨S8192x32, .f32⟩
  | 90 => ⟨S8192x1x32, .f32⟩
  | 91 => ⟨S8192x32, .f32⟩
  | 92 => ⟨S8192x1x32, .f32⟩
  | 93 => ⟨S2x8192x8x32, .f32⟩
  | 94 => ⟨S2x8192x8x32, .f32⟩
  | 95 => ⟨S1x8192x1x32, .f32⟩
  | 96 => ⟨S2x8192x8x32, .f32⟩
  | 97 => ⟨S2x8192x8x32, .f32⟩
  | 98 => ⟨S1x8192x1x32, .f32⟩
  | 99 => ⟨S2x8192x8x32, .f32⟩
  | 100 => ⟨S2x8192x8x32, .f32⟩
  | 101 => ⟨S2x8192x8x32, .f32⟩
  | 102 => ⟨S1x8192x1x32, .f32⟩
  | 103 => ⟨S2x8192x8x32, .f32⟩
  | 104 => ⟨S2x8192x8x32, .f32⟩
  | 105 => ⟨S1x8192x1x32, .f32⟩
  | 106 => ⟨S2x8192x8x32, .f32⟩
  | 107 => ⟨S2x8192x8x32, .f32⟩
  | 108 => ⟨S2x8192x8x32, .f32⟩
  | 109 => ⟨S2x8192x8x64, .f32⟩
  | 110 => ⟨S2x8192x1x1x8x64, .f32⟩
  | 111 => ⟨S2x8192x8x64, .f32⟩
  | 112 => ⟨S2x8192x1x8x64, .f32⟩
  | 113 => ⟨S2x8192x1x8x64, .f32⟩
  | 114 => ⟨S2x8192x2x8x64, .f32⟩
  | 115 => ⟨S2x128x2x8x64, .f32⟩
  | 116 => ⟨S2x512x2x8x64, .f32⟩
  | 117 => ⟨S2x2048x2x8x64, .f32⟩
  | 118 => ⟨S_, .f32⟩
  | 119 => ⟨S2x8192x8x64, .f32⟩
  | 120 => ⟨S2x8192x8x64, .f32⟩
  | 121 => ⟨S2x8192x8x64, .bf16⟩
  | 122 => ⟨S16384x512, .bf16⟩
  | 123 => ⟨S_, .f32⟩
  | 124 => ⟨S2x8192x8x64, .f32⟩
  | 125 => ⟨S2x8192x8x64, .f32⟩
  | 126 => ⟨S2x8192x8x64, .bf16⟩
  | 127 => ⟨S16384x512, .bf16⟩
  | _ => ⟨S16384x1024, .f32⟩

abbrev hbmTy0_3 (i : Nat) : BufTy := match i % 128 with
  | 0 => ⟨S_, .f32⟩
  | 1 => ⟨S2x8192x8x64, .f32⟩
  | 2 => ⟨S2x8192x8x64, .f32⟩
  | 3 => ⟨S2x8192x8x64, .bf16⟩
  | 4 => ⟨S16384x512, .bf16⟩
  | 5 => ⟨S16384x1024, .f32⟩
  | 6 => ⟨S16384x1024, .f32⟩
  | 7 => ⟨S16384x1024, .f32⟩
  | 8 => ⟨S2x128x1024, .f32⟩
  | 9 => ⟨S2x1024x128, .f32⟩
  | 10 => ⟨S2x512x1024, .f32⟩
  | 11 => ⟨S2x1024x512, .f32⟩
  | 12 => ⟨S2x2048x1024, .f32⟩
  | 13 => ⟨S2x1024x2048, .f32⟩
  | _ => ⟨S16384x1024, .f32⟩

abbrev hbmTy (i : Nat) : BufTy := match i / 128 with
  | 0 => hbmTy0_0 i
  | 1 => hbmTy0_1 i
  | 2 => hbmTy0_2 i
  | 3 => hbmTy0_3 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_v27 : Ref sig .tc := ⟨.hbm, 36, rfl⟩
abbrev main_cst_4 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_5 : Ref sig .tc := ⟨.hbm, 48, rfl⟩
abbrev main_v38 : Ref sig .tc := ⟨.hbm, 49, rfl⟩
abbrev main_v39 : Ref sig .tc := ⟨.hbm, 50, rfl⟩
abbrev main_cst_6 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_cst_7 : Ref sig .tc := ⟨.hbm, 86, rfl⟩
abbrev main_v74 : Ref sig .tc := ⟨.hbm, 87, rfl⟩
abbrev main_v75 : Ref sig .tc := ⟨.hbm, 88, rfl⟩
abbrev main_cst_8 : Ref sig .tc := ⟨.hbm, 89, rfl⟩
abbrev main_v76 : Ref sig .tc := ⟨.hbm, 90, rfl⟩
abbrev main_v77 : Ref sig .tc := ⟨.hbm, 91, rfl⟩
abbrev main_cst_9 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_cst_10 : Ref sig .tc := ⟨.hbm, 103, rfl⟩
abbrev main_v88 : Ref sig .tc := ⟨.hbm, 104, rfl⟩
abbrev main_v89 : Ref sig .tc := ⟨.hbm, 105, rfl⟩
abbrev main_cst_11 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_v125 : Ref sig .tc := ⟨.hbm, 142, rfl⟩
abbrev main_v126 : Ref sig .tc := ⟨.hbm, 143, rfl⟩
abbrev main_v127 : Ref sig .tc := ⟨.hbm, 144, rfl⟩
abbrev main_v128 : Ref sig .tc := ⟨.hbm, 145, rfl⟩
abbrev main_cst_12 : Ref sig .tc := ⟨.hbm, 146, rfl⟩
abbrev main_v129 : Ref sig .tc := ⟨.hbm, 147, rfl⟩
abbrev main_v130 : Ref sig .tc := ⟨.hbm, 148, rfl⟩
abbrev main_cst_13 : Ref sig .tc := ⟨.hbm, 149, rfl⟩
abbrev main_v131 : Ref sig .tc := ⟨.hbm, 150, rfl⟩
abbrev main_v132 : Ref sig .tc := ⟨.hbm, 151, rfl⟩
abbrev main_cst_14 : Ref sig .tc := ⟨.hbm, 152, rfl⟩
abbrev main_v133 : Ref sig .tc := ⟨.hbm, 153, rfl⟩
abbrev main_v134 : Ref sig .tc := ⟨.hbm, 154, rfl⟩
abbrev main_v135 : Ref sig .tc := ⟨.hbm, 155, rfl⟩
abbrev main_v136 : Ref sig .tc := ⟨.hbm, 156, rfl⟩
abbrev main_v137 : Ref sig .tc := ⟨.hbm, 157, rfl⟩
abbrev main_v138 : Ref sig .tc := ⟨.hbm, 158, rfl⟩
abbrev main_v139 : Ref sig .tc := ⟨.hbm, 159, rfl⟩
abbrev main_v140 : Ref sig .tc := ⟨.hbm, 160, rfl⟩
abbrev main_v141 : Ref sig .tc := ⟨.hbm, 161, rfl⟩
abbrev main_v142 : Ref sig .tc := ⟨.hbm, 162, rfl⟩
abbrev main_cst_15 : Ref sig .tc := ⟨.hbm, 163, rfl⟩
abbrev main_v143 : Ref sig .tc := ⟨.hbm, 164, rfl⟩
abbrev main_v144 : Ref sig .tc := ⟨.hbm, 165, rfl⟩
abbrev main_cst_16 : Ref sig .tc := ⟨.hbm, 166, rfl⟩
abbrev main_v145 : Ref sig .tc := ⟨.hbm, 167, rfl⟩
abbrev main_v146 : Ref sig .tc := ⟨.hbm, 168, rfl⟩
abbrev main_v147 : Ref sig .tc := ⟨.hbm, 169, rfl⟩
abbrev main_v148 : Ref sig .tc := ⟨.hbm, 170, rfl⟩
abbrev main_v149 : Ref sig .tc := ⟨.hbm, 171, rfl⟩
abbrev main_v150 : Ref sig .tc := ⟨.hbm, 172, rfl⟩
abbrev main_v151 : Ref sig .tc := ⟨.hbm, 173, rfl⟩
abbrev main_v152 : Ref sig .tc := ⟨.hbm, 174, rfl⟩
abbrev main_v153 : Ref sig .tc := ⟨.hbm, 175, rfl⟩
abbrev main_v154 : Ref sig .tc := ⟨.hbm, 176, rfl⟩
abbrev main_v155 : Ref sig .tc := ⟨.hbm, 177, rfl⟩
abbrev main_v156 : Ref sig .tc := ⟨.hbm, 178, rfl⟩
abbrev main_v157 : Ref sig .tc := ⟨.hbm, 179, rfl⟩
abbrev main_v158 : Ref sig .tc := ⟨.hbm, 180, rfl⟩
abbrev main_v159 : Ref sig .tc := ⟨.hbm, 181, rfl⟩
abbrev main_v160 : Ref sig .tc := ⟨.hbm, 182, rfl⟩
abbrev main_v161 : Ref sig .tc := ⟨.hbm, 183, rfl⟩
abbrev main_v162 : Ref sig .tc := ⟨.hbm, 184, rfl⟩
abbrev main_v163 : Ref sig .tc := ⟨.hbm, 185, rfl⟩
abbrev main_v164 : Ref sig .tc := ⟨.hbm, 186, rfl⟩
abbrev main_v165 : Ref sig .tc := ⟨.hbm, 187, rfl⟩
abbrev main_v166 : Ref sig .tc := ⟨.hbm, 188, rfl⟩
abbrev main_v167 : Ref sig .tc := ⟨.hbm, 189, rfl⟩
abbrev main_v168 : Ref sig .tc := ⟨.hbm, 190, rfl⟩
abbrev main_v169 : Ref sig .tc := ⟨.hbm, 191, rfl⟩
abbrev main_v170 : Ref sig .tc := ⟨.hbm, 192, rfl⟩
abbrev main_v171 : Ref sig .tc := ⟨.hbm, 193, rfl⟩
abbrev main_v172 : Ref sig .tc := ⟨.hbm, 194, rfl⟩
abbrev main_v173 : Ref sig .tc := ⟨.hbm, 195, rfl⟩
abbrev main_v174 : Ref sig .tc := ⟨.hbm, 196, rfl⟩
abbrev main_v175 : Ref sig .tc := ⟨.hbm, 197, rfl⟩
abbrev main_v176 : Ref sig .tc := ⟨.hbm, 198, rfl⟩
abbrev main_v177 : Ref sig .tc := ⟨.hbm, 199, rfl⟩
abbrev main_v178 : Ref sig .tc := ⟨.hbm, 200, rfl⟩
abbrev main_cst_17 : Ref sig .tc := ⟨.hbm, 201, rfl⟩
abbrev main_v179 : Ref sig .tc := ⟨.hbm, 202, rfl⟩
abbrev main_v180 : Ref sig .tc := ⟨.hbm, 203, rfl⟩
abbrev main_cst_18 : Ref sig .tc := ⟨.hbm, 204, rfl⟩
abbrev main_v181 : Ref sig .tc := ⟨.hbm, 205, rfl⟩
abbrev main_v182 : Ref sig .tc := ⟨.hbm, 206, rfl⟩
abbrev main_cst_19 : Ref sig .tc := ⟨.hbm, 207, rfl⟩
abbrev main_v183 : Ref sig .tc := ⟨.hbm, 208, rfl⟩
abbrev main_v184 : Ref sig .tc := ⟨.hbm, 209, rfl⟩
abbrev main_v185 : Ref sig .tc := ⟨.hbm, 210, rfl⟩
abbrev main_v186 : Ref sig .tc := ⟨.hbm, 211, rfl⟩
abbrev main_v187 : Ref sig .tc := ⟨.hbm, 212, rfl⟩
abbrev main_v188 : Ref sig .tc := ⟨.hbm, 213, rfl⟩
abbrev main_v189 : Ref sig .tc := ⟨.hbm, 214, rfl⟩
abbrev main_v190 : Ref sig .tc := ⟨.hbm, 215, rfl⟩
abbrev main_v191 : Ref sig .tc := ⟨.hbm, 216, rfl⟩
abbrev main_v192 : Ref sig .tc := ⟨.hbm, 217, rfl⟩
abbrev main_cst_20 : Ref sig .tc := ⟨.hbm, 218, rfl⟩
abbrev main_v193 : Ref sig .tc := ⟨.hbm, 219, rfl⟩
abbrev main_v194 : Ref sig .tc := ⟨.hbm, 220, rfl⟩
abbrev main_cst_21 : Ref sig .tc := ⟨.hbm, 221, rfl⟩
abbrev main_v195 : Ref sig .tc := ⟨.hbm, 222, rfl⟩
abbrev main_v196 : Ref sig .tc := ⟨.hbm, 223, rfl⟩
abbrev main_v197 : Ref sig .tc := ⟨.hbm, 224, rfl⟩
abbrev main_v198 : Ref sig .tc := ⟨.hbm, 225, rfl⟩
abbrev main_v199 : Ref sig .tc := ⟨.hbm, 226, rfl⟩
abbrev main_v200 : Ref sig .tc := ⟨.hbm, 227, rfl⟩
abbrev main_v201 : Ref sig .tc := ⟨.hbm, 228, rfl⟩
abbrev main_v202 : Ref sig .tc := ⟨.hbm, 229, rfl⟩
abbrev main_v203 : Ref sig .tc := ⟨.hbm, 230, rfl⟩
abbrev main_v204 : Ref sig .tc := ⟨.hbm, 231, rfl⟩
abbrev main_v205 : Ref sig .tc := ⟨.hbm, 232, rfl⟩
abbrev main_v206 : Ref sig .tc := ⟨.hbm, 233, rfl⟩
abbrev main_v207 : Ref sig .tc := ⟨.hbm, 234, rfl⟩
abbrev main_v208 : Ref sig .tc := ⟨.hbm, 235, rfl⟩
abbrev main_v209 : Ref sig .tc := ⟨.hbm, 236, rfl⟩
abbrev main_v210 : Ref sig .tc := ⟨.hbm, 237, rfl⟩
abbrev main_v211 : Ref sig .tc := ⟨.hbm, 238, rfl⟩
abbrev main_v212 : Ref sig .tc := ⟨.hbm, 239, rfl⟩
abbrev main_v213 : Ref sig .tc := ⟨.hbm, 240, rfl⟩
abbrev main_v214 : Ref sig .tc := ⟨.hbm, 241, rfl⟩
abbrev main_v215 : Ref sig .tc := ⟨.hbm, 242, rfl⟩
abbrev main_v216 : Ref sig .tc := ⟨.hbm, 243, rfl⟩
abbrev main_v217 : Ref sig .tc := ⟨.hbm, 244, rfl⟩
abbrev main_v218 : Ref sig .tc := ⟨.hbm, 245, rfl⟩
abbrev main_v219 : Ref sig .tc := ⟨.hbm, 246, rfl⟩
abbrev main_v220 : Ref sig .tc := ⟨.hbm, 247, rfl⟩
abbrev main_v221 : Ref sig .tc := ⟨.hbm, 248, rfl⟩
abbrev main_v222 : Ref sig .tc := ⟨.hbm, 249, rfl⟩
abbrev main_v223 : Ref sig .tc := ⟨.hbm, 250, rfl⟩
abbrev main_v224 : Ref sig .tc := ⟨.hbm, 251, rfl⟩
abbrev main_v225 : Ref sig .tc := ⟨.hbm, 252, rfl⟩
abbrev main_v226 : Ref sig .tc := ⟨.hbm, 253, rfl⟩
abbrev main_v227 : Ref sig .tc := ⟨.hbm, 254, rfl⟩
abbrev main_v228 : Ref sig .tc := ⟨.hbm, 255, rfl⟩
abbrev main_v229 : Ref sig .tc := ⟨.hbm, 256, rfl⟩
abbrev main_v230 : Ref sig .tc := ⟨.hbm, 257, rfl⟩
abbrev main_v231 : Ref sig .tc := ⟨.hbm, 258, rfl⟩
abbrev main_v232 : Ref sig .tc := ⟨.hbm, 259, rfl⟩
abbrev main_v233 : Ref sig .tc := ⟨.hbm, 260, rfl⟩
abbrev main_cst_22 : Ref sig .tc := ⟨.hbm, 261, rfl⟩
abbrev main_v234 : Ref sig .tc := ⟨.hbm, 262, rfl⟩
abbrev main_v235 : Ref sig .tc := ⟨.hbm, 263, rfl⟩
abbrev main_cst_23 : Ref sig .tc := ⟨.hbm, 264, rfl⟩
abbrev main_v236 : Ref sig .tc := ⟨.hbm, 265, rfl⟩
abbrev main_v237 : Ref sig .tc := ⟨.hbm, 266, rfl⟩
abbrev main_cst_24 : Ref sig .tc := ⟨.hbm, 267, rfl⟩
abbrev main_v238 : Ref sig .tc := ⟨.hbm, 268, rfl⟩
abbrev main_v239 : Ref sig .tc := ⟨.hbm, 269, rfl⟩
abbrev main_v240 : Ref sig .tc := ⟨.hbm, 270, rfl⟩
abbrev main_v241 : Ref sig .tc := ⟨.hbm, 271, rfl⟩
abbrev main_v242 : Ref sig .tc := ⟨.hbm, 272, rfl⟩
abbrev main_v243 : Ref sig .tc := ⟨.hbm, 273, rfl⟩
abbrev main_v244 : Ref sig .tc := ⟨.hbm, 274, rfl⟩
abbrev main_v245 : Ref sig .tc := ⟨.hbm, 275, rfl⟩
abbrev main_v246 : Ref sig .tc := ⟨.hbm, 276, rfl⟩
abbrev main_v247 : Ref sig .tc := ⟨.hbm, 277, rfl⟩
abbrev main_cst_25 : Ref sig .tc := ⟨.hbm, 278, rfl⟩
abbrev main_v248 : Ref sig .tc := ⟨.hbm, 279, rfl⟩
abbrev main_v249 : Ref sig .tc := ⟨.hbm, 280, rfl⟩
abbrev main_cst_26 : Ref sig .tc := ⟨.hbm, 281, rfl⟩
abbrev main_v250 : Ref sig .tc := ⟨.hbm, 282, rfl⟩
abbrev main_v251 : Ref sig .tc := ⟨.hbm, 283, rfl⟩
abbrev main_v252 : Ref sig .tc := ⟨.hbm, 284, rfl⟩
abbrev main_v253 : Ref sig .tc := ⟨.hbm, 285, rfl⟩
abbrev main_v254 : Ref sig .tc := ⟨.hbm, 286, rfl⟩
abbrev main_v255 : Ref sig .tc := ⟨.hbm, 287, rfl⟩
abbrev main_v256 : Ref sig .tc := ⟨.hbm, 288, rfl⟩
abbrev main_v257 : Ref sig .tc := ⟨.hbm, 289, rfl⟩
abbrev main_v258 : Ref sig .tc := ⟨.hbm, 290, rfl⟩
abbrev main_v259 : Ref sig .tc := ⟨.hbm, 291, rfl⟩
abbrev main_v260 : Ref sig .tc := ⟨.hbm, 292, rfl⟩
abbrev main_v261 : Ref sig .tc := ⟨.hbm, 293, rfl⟩
abbrev main_v262 : Ref sig .tc := ⟨.hbm, 294, rfl⟩
abbrev main_v263 : Ref sig .tc := ⟨.hbm, 295, rfl⟩
abbrev main_v264 : Ref sig .tc := ⟨.hbm, 296, rfl⟩
abbrev main_v265 : Ref sig .tc := ⟨.hbm, 297, rfl⟩
abbrev main_v266 : Ref sig .tc := ⟨.hbm, 298, rfl⟩
abbrev main_v267 : Ref sig .tc := ⟨.hbm, 299, rfl⟩
abbrev main_v268 : Ref sig .tc := ⟨.hbm, 300, rfl⟩
abbrev main_v269 : Ref sig .tc := ⟨.hbm, 301, rfl⟩
abbrev main_v270 : Ref sig .tc := ⟨.hbm, 302, rfl⟩
abbrev main_v271 : Ref sig .tc := ⟨.hbm, 303, rfl⟩
abbrev main_v272 : Ref sig .tc := ⟨.hbm, 304, rfl⟩
abbrev main_v273 : Ref sig .tc := ⟨.hbm, 305, rfl⟩
abbrev main_v274 : Ref sig .tc := ⟨.hbm, 306, rfl⟩
abbrev main_v275 : Ref sig .tc := ⟨.hbm, 307, rfl⟩
abbrev main_v276 : Ref sig .tc := ⟨.hbm, 308, rfl⟩
abbrev main_v277 : Ref sig .tc := ⟨.hbm, 309, rfl⟩
abbrev main_v278 : Ref sig .tc := ⟨.hbm, 310, rfl⟩
abbrev main_v279 : Ref sig .tc := ⟨.hbm, 311, rfl⟩
abbrev main_v280 : Ref sig .tc := ⟨.hbm, 312, rfl⟩
abbrev main_v281 : Ref sig .tc := ⟨.hbm, 313, rfl⟩
abbrev main_v282 : Ref sig .tc := ⟨.hbm, 314, rfl⟩
abbrev main_v283 : Ref sig .tc := ⟨.hbm, 315, rfl⟩
abbrev main_cst_27 : Ref sig .tc := ⟨.hbm, 316, rfl⟩
abbrev main_v284 : Ref sig .tc := ⟨.hbm, 317, rfl⟩
abbrev main_v285 : Ref sig .tc := ⟨.hbm, 318, rfl⟩
abbrev main_cst_28 : Ref sig .tc := ⟨.hbm, 319, rfl⟩
abbrev main_v286 : Ref sig .tc := ⟨.hbm, 320, rfl⟩
abbrev main_v287 : Ref sig .tc := ⟨.hbm, 321, rfl⟩
abbrev main_cst_29 : Ref sig .tc := ⟨.hbm, 322, rfl⟩
abbrev main_v288 : Ref sig .tc := ⟨.hbm, 323, rfl⟩
abbrev main_v289 : Ref sig .tc := ⟨.hbm, 324, rfl⟩
abbrev main_v290 : Ref sig .tc := ⟨.hbm, 325, rfl⟩
abbrev main_v291 : Ref sig .tc := ⟨.hbm, 326, rfl⟩
abbrev main_v292 : Ref sig .tc := ⟨.hbm, 327, rfl⟩
abbrev main_v293 : Ref sig .tc := ⟨.hbm, 328, rfl⟩
abbrev main_v294 : Ref sig .tc := ⟨.hbm, 329, rfl⟩
abbrev main_v295 : Ref sig .tc := ⟨.hbm, 330, rfl⟩
abbrev main_v296 : Ref sig .tc := ⟨.hbm, 331, rfl⟩
abbrev main_v297 : Ref sig .tc := ⟨.hbm, 332, rfl⟩
abbrev main_cst_30 : Ref sig .tc := ⟨.hbm, 333, rfl⟩
abbrev main_v298 : Ref sig .tc := ⟨.hbm, 334, rfl⟩
abbrev main_v299 : Ref sig .tc := ⟨.hbm, 335, rfl⟩
abbrev main_cst_31 : Ref sig .tc := ⟨.hbm, 336, rfl⟩
abbrev main_v300 : Ref sig .tc := ⟨.hbm, 337, rfl⟩
abbrev main_v301 : Ref sig .tc := ⟨.hbm, 338, rfl⟩
abbrev main_v302 : Ref sig .tc := ⟨.hbm, 339, rfl⟩
abbrev main_v303 : Ref sig .tc := ⟨.hbm, 340, rfl⟩
abbrev main_v304 : Ref sig .tc := ⟨.hbm, 341, rfl⟩
abbrev main_v305 : Ref sig .tc := ⟨.hbm, 342, rfl⟩
abbrev main_v306 : Ref sig .tc := ⟨.hbm, 343, rfl⟩
abbrev main_v307 : Ref sig .tc := ⟨.hbm, 344, rfl⟩
abbrev main_v308 : Ref sig .tc := ⟨.hbm, 345, rfl⟩
abbrev main_v309 : Ref sig .tc := ⟨.hbm, 346, rfl⟩
abbrev main_v310 : Ref sig .tc := ⟨.hbm, 347, rfl⟩
abbrev main_v311 : Ref sig .tc := ⟨.hbm, 348, rfl⟩
abbrev main_v312 : Ref sig .tc := ⟨.hbm, 349, rfl⟩
abbrev main_v313 : Ref sig .tc := ⟨.hbm, 350, rfl⟩
abbrev main_v314 : Ref sig .tc := ⟨.hbm, 351, rfl⟩
abbrev main_v315 : Ref sig .tc := ⟨.hbm, 352, rfl⟩
abbrev main_v316 : Ref sig .tc := ⟨.hbm, 353, rfl⟩
abbrev main_v317 : Ref sig .tc := ⟨.hbm, 354, rfl⟩
abbrev main_v318 : Ref sig .tc := ⟨.hbm, 355, rfl⟩
abbrev main_v319 : Ref sig .tc := ⟨.hbm, 356, rfl⟩
abbrev main_v320 : Ref sig .tc := ⟨.hbm, 357, rfl⟩
abbrev main_v321 : Ref sig .tc := ⟨.hbm, 358, rfl⟩
abbrev main_v322 : Ref sig .tc := ⟨.hbm, 359, rfl⟩
abbrev main_v323 : Ref sig .tc := ⟨.hbm, 360, rfl⟩
abbrev main_v324 : Ref sig .tc := ⟨.hbm, 361, rfl⟩
abbrev main_v325 : Ref sig .tc := ⟨.hbm, 362, rfl⟩
abbrev main_v326 : Ref sig .tc := ⟨.hbm, 363, rfl⟩
abbrev main_v327 : Ref sig .tc := ⟨.hbm, 364, rfl⟩
abbrev main_v328 : Ref sig .tc := ⟨.hbm, 365, rfl⟩
abbrev main_v329 : Ref sig .tc := ⟨.hbm, 366, rfl⟩
abbrev main_v330 : Ref sig .tc := ⟨.hbm, 367, rfl⟩
abbrev main_v331 : Ref sig .tc := ⟨.hbm, 368, rfl⟩
abbrev main_v332 : Ref sig .tc := ⟨.hbm, 369, rfl⟩
abbrev main_v333 : Ref sig .tc := ⟨.hbm, 370, rfl⟩
abbrev main_v334 : Ref sig .tc := ⟨.hbm, 371, rfl⟩
abbrev main_v335 : Ref sig .tc := ⟨.hbm, 372, rfl⟩
abbrev main_v336 : Ref sig .tc := ⟨.hbm, 373, rfl⟩
abbrev main_cst_32 : Ref sig .tc := ⟨.hbm, 374, rfl⟩
abbrev main_v337 : Ref sig .tc := ⟨.hbm, 375, rfl⟩
abbrev main_v338 : Ref sig .tc := ⟨.hbm, 376, rfl⟩
abbrev main_v339 : Ref sig .tc := ⟨.hbm, 377, rfl⟩
abbrev main_v340 : Ref sig .tc := ⟨.hbm, 378, rfl⟩
abbrev main_cst_33 : Ref sig .tc := ⟨.hbm, 379, rfl⟩
abbrev main_v341 : Ref sig .tc := ⟨.hbm, 380, rfl⟩
abbrev main_v342 : Ref sig .tc := ⟨.hbm, 381, rfl⟩
abbrev main_v343 : Ref sig .tc := ⟨.hbm, 382, rfl⟩
abbrev main_v344 : Ref sig .tc := ⟨.hbm, 383, rfl⟩
abbrev main_cst_34 : Ref sig .tc := ⟨.hbm, 384, rfl⟩
abbrev main_v345 : Ref sig .tc := ⟨.hbm, 385, rfl⟩
abbrev main_v346 : Ref sig .tc := ⟨.hbm, 386, rfl⟩
abbrev main_v347 : Ref sig .tc := ⟨.hbm, 387, rfl⟩
abbrev main_v348 : Ref sig .tc := ⟨.hbm, 388, rfl⟩
abbrev main_v349 : Ref sig .tc := ⟨.hbm, 389, rfl⟩
abbrev main_v350 : Ref sig .tc := ⟨.hbm, 390, rfl⟩
abbrev main_v351 : Ref sig .tc := ⟨.hbm, 391, rfl⟩
abbrev main_v352 : Ref sig .tc := ⟨.hbm, 392, rfl⟩
abbrev main_v353 : Ref sig .tc := ⟨.hbm, 393, rfl⟩
abbrev main_v354 : Ref sig .tc := ⟨.hbm, 394, rfl⟩
abbrev main_v355 : Ref sig .tc := ⟨.hbm, 395, rfl⟩
abbrev main_v356 : Ref sig .tc := ⟨.hbm, 396, rfl⟩
abbrev main_v357 : Ref sig .tc := ⟨.hbm, 397, rfl⟩

abbrev nD : Nat := 1
abbrev τ : Topo := Topo.v7x

variable {F : FTy → Type} [FloatOps F]
-- ==== ProjA.lean ====
abbrev S16384x1024 : Shape := ⟨2, ![16384, 1024]⟩
abbrev S1x1024 : Shape := ⟨2, ![1, 1024]⟩
abbrev S1024x2856 : Shape := ⟨2, ![1024, 2856]⟩
abbrev S16x256 : Shape := ⟨2, ![16, 256]⟩
abbrev S1x256 : Shape := ⟨2, ![1, 256]⟩
abbrev S4x64 : Shape := ⟨2, ![4, 64]⟩
abbrev S1024x1536 : Shape := ⟨2, ![1024, 1536]⟩
abbrev S1024x16 : Shape := ⟨2, ![1024, 16]⟩
abbrev S_ : Shape := ⟨0, ![]⟩
abbrev S1024x128 : Shape := ⟨2, ![1024, 128]⟩
abbrev S1024x1280 : Shape := ⟨2, ![1024, 1280]⟩
abbrev S1024x24 : Shape := ⟨2, ![1024, 24]⟩
abbrev S1024x3072 : Shape := ⟨2, ![1024, 3072]⟩
abbrev S128x256 : Shape := ⟨2, ![128, 256]⟩
abbrev S1x4x1x64 : Shape := ⟨4, ![1, 4, 1, 64]⟩
abbrev S1x4x8x64 : Shape := ⟨4, ![1, 4, 8, 64]⟩
abbrev S4x512 : Shape := ⟨2, ![4, 512]⟩
abbrev S8192 : Shape := ⟨1, ![8192]⟩
abbrev S32 : Shape := ⟨1, ![32]⟩
abbrev S8192x1 : Shape := ⟨2, ![8192, 1]⟩
abbrev S1x32 : Shape := ⟨2, ![1, 32]⟩
abbrev S8192x32 : Shape := ⟨2, ![8192, 32]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S16384x1792 : Shape := ⟨2, ![16384, 1792]⟩
abbrev S16384x512 : Shape := ⟨2, ![16384, 512]⟩
abbrev S16384x128 : Shape := ⟨2, ![16384, 128]⟩
abbrev S16384x256 : Shape := ⟨2, ![16384, 256]⟩
abbrev S2x256x8192 : Shape := ⟨3, ![2, 256, 8192]⟩
abbrev S256x1024 : Shape := ⟨2, ![256, 1024]⟩
abbrev S256x128 : Shape := ⟨2, ![256, 128]⟩
abbrev S256x1792 : Shape := ⟨2, ![256, 1792]⟩
abbrev S256x512 : Shape := ⟨2, ![256, 512]⟩
abbrev S256x256 : Shape := ⟨2, ![256, 256]⟩
abbrev S1x256x256 : Shape := ⟨3, ![1, 256, 256]⟩
abbrev S256 : Shape := ⟨1, ![256]⟩
abbrev S256x1 : Shape := ⟨2, ![256, 1]⟩
abbrev S256x3072 : Shape := ⟨2, ![256, 3072]⟩
abbrev S256x1280 : Shape := ⟨2, ![256, 1280]⟩
abbrev S1x512 : Shape := ⟨2, ![1, 512]⟩
abbrev S1x128 : Shape := ⟨2, ![1, 128]⟩

abbrev nBuf : Space → Nat
  | .hbm => 63
  | .vmem => 35
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x2856, .f32⟩
  | .hbm, ⟨3, _⟩ => ⟨S16x256, .f32⟩
  | .hbm, ⟨4, _⟩ => ⟨S1x256, .f32⟩
  | .hbm, ⟨5, _⟩ => ⟨S4x64, .f32⟩
  | .hbm, ⟨6, _⟩ => ⟨S1024x1536, .f32⟩
  | .hbm, ⟨7, _⟩ => ⟨S1024x16, .f32⟩
  | .hbm, ⟨8, _⟩ => ⟨S_, .i32⟩
  | .hbm, ⟨9, _⟩ => ⟨S_, .f32⟩
  | .hbm, ⟨10, _⟩ => ⟨S1024x128, .f32⟩
  | .hbm, ⟨11, _⟩ => ⟨S1024x1280, .f32⟩
  | .hbm, ⟨12, _⟩ => ⟨S1024x24, .f32⟩
  | .hbm, ⟨13, _⟩ => ⟨S_, .i32⟩
  | .hbm, ⟨14, _⟩ => ⟨S_, .f32⟩
  | .hbm, ⟨15, _⟩ => ⟨S1024x128, .f32⟩
  | .hbm, ⟨16, _⟩ => ⟨S1024x3072, .f32⟩
  | .hbm, ⟨17, _⟩ => ⟨S1024x3072, .bf16⟩
  | .hbm, ⟨18, _⟩ => ⟨S_, .i32⟩
  | .hbm, ⟨19, _⟩ => ⟨S_, .f32⟩
  | .hbm, ⟨20, _⟩ => ⟨S128x256, .f32⟩
  | .hbm, ⟨21, _⟩ => ⟨S128x256, .bf16⟩
  | .hbm, ⟨22, _⟩ => ⟨S1x4x1x64, .f32⟩
  | .hbm, ⟨23, _⟩ => ⟨S1x4x8x64, .f32⟩
  | .hbm, ⟨24, _⟩ => ⟨S4x512, .f32⟩
  | .hbm, ⟨25, _⟩ => ⟨S8192, .i32⟩
  | .hbm, ⟨26, _⟩ => ⟨S32, .f32⟩
  | .hbm, ⟨27, _⟩ => ⟨S32, .f32⟩
  | .hbm, ⟨28, _⟩ => ⟨S_, .f32⟩
  | .hbm, ⟨29, _⟩ => ⟨S32, .f32⟩
  | .hbm, ⟨30, _⟩ => ⟨S32, .f32⟩
  | .hbm, ⟨31, _⟩ => ⟨S_, .f32⟩
  | .hbm, ⟨32, _⟩ => ⟨S32, .f32⟩
  | .hbm, ⟨33, _⟩ => ⟨S32, .f32⟩
  | .hbm, ⟨34, _⟩ => ⟨S8192, .f32⟩
  | .hbm, ⟨35, _⟩ => ⟨S8192x1, .f32⟩
  | .hbm, ⟨36, _⟩ => ⟨S1x32, .f32⟩
  | .hbm, ⟨37, _⟩ => ⟨S8192x32, .f32⟩
  | .hbm, ⟨38, _⟩ => ⟨S8192x32, .f32⟩
  | .hbm, ⟨39, _⟩ => ⟨S8192x32, .f32⟩
  | .hbm, ⟨40, _⟩ => ⟨S8192x32, .f32⟩
  | .hbm, ⟨41, _⟩ => ⟨S8192x32, .f32⟩
  | .hbm, ⟨42, _⟩ => ⟨S8192x64, .f32⟩
  | .hbm, ⟨43, _⟩ => ⟨S1x8192x1x64, .f32⟩
  | .hbm, ⟨44, _⟩ => ⟨S1x8192x2x64, .f32⟩
  | .hbm, ⟨45, _⟩ => ⟨S8192x128, .f32⟩
  | .hbm, ⟨46, _⟩ => ⟨S8192x32, .f32⟩
  | .hbm, ⟨47, _⟩ => ⟨S8192x64, .f32⟩
  | .hbm, ⟨48, _⟩ => ⟨S1x8192x1x64, .f32⟩
  | .hbm, ⟨49, _⟩ => ⟨S1x8192x2x64, .f32⟩
  | .hbm, ⟨50, _⟩ => ⟨S8192x128, .f32⟩
  | .hbm, ⟨51, _⟩ => ⟨S16384x1792, .f32⟩
  | .hbm, ⟨52, _⟩ => ⟨S16384x512, .bf16⟩
  | .hbm, ⟨53, _⟩ => ⟨S16384x512, .bf16⟩
  | .hbm, ⟨54, _⟩ => ⟨S16384x128, .f32⟩
  | .hbm, ⟨55, _⟩ => ⟨S16384x256, .f32⟩
  | .hbm, ⟨56, _⟩ => ⟨S16384x256, .f32⟩
  | .hbm, ⟨57, _⟩ => ⟨S16384x256, .f32⟩
  | .hbm, ⟨58, _⟩ => ⟨S16384x256, .bf16⟩
  | .hbm, ⟨59, _⟩ => ⟨S16384x256, .bf16⟩
  | .hbm, ⟨60, _⟩ => ⟨S2x256x8192, .f32⟩
  | .hbm, ⟨61, _⟩ => ⟨S2x256x8192, .f32⟩
  | .hbm, ⟨62, _⟩ => ⟨S2x256x8192, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x3072, .bf16⟩
  | .local _ .vmem, ⟨4, _⟩ => ⟨S128x256, .bf16⟩
  | .local _ .vmem, ⟨5, _⟩ => ⟨S1x256, .f32⟩
  | .local _ .vmem, ⟨6, _⟩ => ⟨S4x512, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x1792, .f32⟩
  | .local _ .vmem, ⟨12, _⟩ => ⟨S256x1792, .f32⟩
  | .local _ .vmem, ⟨13, _⟩ => ⟨S256x512, .bf16⟩
  | .local _ .vmem, ⟨14, _⟩ => ⟨S256x512, .bf16⟩
  | .local _ .vmem, ⟨15, _⟩ => ⟨S256x512, .bf16⟩
  | .local _ .vmem, ⟨16, _⟩ => ⟨S256x512, .bf16⟩
  | .local _ .vmem, ⟨17, _⟩ => ⟨S256x128, .f32⟩
  | .local _ .vmem, ⟨18, _⟩ => ⟨S256x128, .f32⟩
  | .local _ .vmem, ⟨19, _⟩ => ⟨S256x256, .f32⟩
  | .local _ .vmem, ⟨20, _⟩ => ⟨S256x256, .f32⟩
  | .local _ .vmem, ⟨21, _⟩ => ⟨S256x256, .f32⟩
  | .local _ .vmem, ⟨22, _⟩ => ⟨S256x256, .f32⟩
  | .local _ .vmem, ⟨23, _⟩ => ⟨S256x256, .f32⟩
  | .local _ .vmem, ⟨24, _⟩ => ⟨S256x256, .f32⟩
  | .local _ .vmem, ⟨25, _⟩ => ⟨S256x256, .bf16⟩
  | .local _ .vmem, ⟨26, _⟩ => ⟨S256x256, .bf16⟩
  | .local _ .vmem, ⟨27, _⟩ => ⟨S256x256, .bf16⟩
  | .local _ .vmem, ⟨28, _⟩ => ⟨S256x256, .bf16⟩
  | .local _ .vmem, ⟨29, _⟩ => ⟨S1x256x256, .f32⟩
  | .local _ .vmem, ⟨30, _⟩ => ⟨S1x256x256, .f32⟩
  | .local _ .vmem, ⟨31, _⟩ => ⟨S1x256x256, .f32⟩
  | .local _ .vmem, ⟨32, _⟩ => ⟨S1x256x256, .f32⟩
  | .local _ .vmem, ⟨33, _⟩ => ⟨S1x256x256, .f32⟩
  | .local _ .vmem, ⟨34, _⟩ => ⟨S1x256x256, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_call1_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_1 : Ref sig .tc := ⟨.hbm, 18, rfl⟩
abbrev main_call2_v0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37_0 : Ref sig .tc := ⟨.hbm, 51, rfl⟩
abbrev main_v37_1 : Ref sig .tc := ⟨.hbm, 52, rfl⟩
abbrev main_v37_2 : Ref sig .tc := ⟨.hbm, 53, rfl⟩
abbrev main_v37_3 : Ref sig .tc := ⟨.hbm, 54, rfl⟩
abbrev main_v37_4 : Ref sig .tc := ⟨.hbm, 55, rfl⟩
abbrev main_v37_5 : Ref sig .tc := ⟨.hbm, 56, rfl⟩
abbrev main_v37_6 : Ref sig .tc := ⟨.hbm, 57, rfl⟩
abbrev main_v37_7 : Ref sig .tc := ⟨.hbm, 58, rfl⟩
abbrev main_v37_8 : Ref sig .tc := ⟨.hbm, 59, rfl⟩
abbrev main_v37_9 : Ref sig .tc := ⟨.hbm, 60, rfl⟩
abbrev main_v37_10 : Ref sig .tc := ⟨.hbm, 61, rfl⟩
abbrev main_v37_11 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg18_1 : Ref sig .tc := ⟨.vmem, 32, rfl⟩
abbrev cc0_stg19_0 : Ref sig .tc := ⟨.vmem, 33, rfl⟩
abbrev cc0_stg19_1 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem18_1 : DmaSem sig := 32
abbrev cc0_sem19_0 : DmaSem sig := 33
abbrev cc0_sem19_1 : DmaSem sig := 34

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_18 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_19 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1792 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x256x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x256x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x256x256 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== RefProjAIdeal.lean ====
abbrev S16384x1024 : Shape := ⟨2, ![16384, 1024]⟩
abbrev S1x1024 : Shape := ⟨2, ![1, 1024]⟩
abbrev S1024x2856 : Shape := ⟨2, ![1024, 2856]⟩
abbrev S16x256 : Shape := ⟨2, ![16, 256]⟩
abbrev S1x256 : Shape := ⟨2, ![1, 256]⟩
abbrev S4x64 : Shape := ⟨2, ![4, 64]⟩
abbrev S8192 : Shape := ⟨1, ![8192]⟩
abbrev S2x8192x1024 : Shape := ⟨3, ![2, 8192, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x2856 : Shape := ⟨3, ![2, 8192, 2856]⟩
abbrev S2x8192x256 : Shape := ⟨3, ![2, 8192, 256]⟩
abbrev S2x8192x512 : Shape := ⟨3, ![2, 8192, 512]⟩
abbrev S2x8192x16 : Shape := ⟨3, ![2, 8192, 16]⟩
abbrev S2x8192x768 : Shape := ⟨3, ![2, 8192, 768]⟩
abbrev S2x8192x24 : Shape := ⟨3, ![2, 8192, 24]⟩
abbrev S2x8192x8x64 : Shape := ⟨4, ![2, 8192, 8, 64]⟩
abbrev S1x64 : Shape := ⟨2, ![1, 64]⟩
abbrev S64 : Shape := ⟨1, ![64]⟩
abbrev S2x8192x8 : Shape := ⟨3, ![2, 8192, 8]⟩
abbrev S2x8192x8x1 : Shape := ⟨4, ![2, 8192, 8, 1]⟩
abbrev S1x1x1x64 : Shape := ⟨4, ![1, 1, 1, 64]⟩
abbrev S2x8192x6x2x64 : Shape := ⟨5, ![2, 8192, 6, 2, 64]⟩
abbrev S2x8192x1x2x64 : Shape := ⟨5, ![2, 8192, 1, 2, 64]⟩
abbrev S2x8192x2x64 : Shape := ⟨4, ![2, 8192, 2, 64]⟩
abbrev S2x8192x2 : Shape := ⟨3, ![2, 8192, 2]⟩
abbrev S2x8192x2x1 : Shape := ⟨4, ![2, 8192, 2, 1]⟩
abbrev S32 : Shape := ⟨1, ![32]⟩
abbrev S8192x1 : Shape := ⟨2, ![8192, 1]⟩
abbrev S1x32 : Shape := ⟨2, ![1, 32]⟩
abbrev S8192x32 : Shape := ⟨2, ![8192, 32]⟩
abbrev S8192x1x32 : Shape := ⟨3, ![8192, 1, 32]⟩
abbrev S2x8192x2x32 : Shape := ⟨4, ![2, 8192, 2, 32]⟩
abbrev S1x8192x1x32 : Shape := ⟨4, ![1, 8192, 1, 32]⟩
abbrev S2x8192x2x2x64 : Shape := ⟨5, ![2, 8192, 2, 2, 64]⟩
abbrev S256 : Shape := ⟨1, ![256]⟩
abbrev S1x1x256 : Shape := ⟨3, ![1, 1, 256]⟩
abbrev S2x8192x1792 : Shape := ⟨3, ![2, 8192, 1792]⟩
abbrev S2x8192x128 : Shape := ⟨3, ![2, 8192, 128]⟩
abbrev S2x8192x8x32 : Shape := ⟨4, ![2, 8192, 8, 32]⟩
abbrev S16384x512 : Shape := ⟨2, ![16384, 512]⟩
abbrev S16384x256 : Shape := ⟨2, ![16384, 256]⟩
abbrev S16384x1792 : Shape := ⟨2, ![16384, 1792]⟩
abbrev S16384x128 : Shape := ⟨2, ![16384, 128]⟩
abbrev S2x256x8192 : Shape := ⟨3, ![2, 256, 8192]⟩

abbrev nBuf : Space → Nat
  | .hbm => 296
  | .vmem => 0
  | .smem => 0
  | _ => 0

abbrev hbmTy0_0 (i : Nat) : BufTy := match i % 128 with
  | 0 => ⟨S16384x1024, .f32⟩
  | 1 => ⟨S1x1024, .f32⟩
  | 2 => ⟨S1024x2856, .f32⟩
  | 3 => ⟨S16x256, .f32⟩
  | 4 => ⟨S1x256, .f32⟩
  | 5 => ⟨S4x64, .f32⟩
  | 6 => ⟨S8192, .i32⟩
  | 7 => ⟨S2x8192x1024, .f32⟩
  | 8 => ⟨S1024, .f32⟩
  | 9 => ⟨S2x8192x1024, .f32⟩
  | 10 => ⟨S_, .f32⟩
  | 11 => ⟨S2x8192, .f32⟩
  | 12 => ⟨S2x8192x1, .f32⟩
  | 13 => ⟨S_, .f32⟩
  | 14 => ⟨S2x8192x1, .f32⟩
  | 15 => ⟨S2x8192x1, .f32⟩
  | 16 => ⟨S_, .f32⟩
  | 17 => ⟨S2x8192x1, .f32⟩
  | 18 => ⟨S2x8192x1, .f32⟩
  | 19 => ⟨S2x8192x1, .f32⟩
  | 20 => ⟨S2x8192x1024, .f32⟩
  | 21 => ⟨S2x8192x1024, .f32⟩
  | 22 => ⟨S1x1x1024, .f32⟩
  | 23 => ⟨S2x8192x1024, .f32⟩
  | 24 => ⟨S2x8192x1024, .f32⟩
  | 25 => ⟨S2x8192x2856, .f32⟩
  | 26 => ⟨S2x8192x256, .f32⟩
  | 27 => ⟨S2x8192x256, .f32⟩
  | 28 => ⟨S2x8192x512, .f32⟩
  | 29 => ⟨S2x8192x512, .f32⟩
  | 30 => ⟨S2x8192x16, .f32⟩
  | 31 => ⟨S2x8192x512, .f32⟩
  | 32 => ⟨S2x8192x768, .f32⟩
  | 33 => ⟨S2x8192x24, .f32⟩
  | 34 => ⟨S2x8192x8x64, .f32⟩
  | 35 => ⟨S1x64, .f32⟩
  | 36 => ⟨S64, .f32⟩
  | 37 => ⟨S2x8192x8x64, .f32⟩
  | 38 => ⟨S_, .f32⟩
  | 39 => ⟨S2x8192x8, .f32⟩
  | 40 => ⟨S2x8192x8x1, .f32⟩
  | 41 => ⟨S_, .f32⟩
  | 42 => ⟨S2x8192x8x1, .f32⟩
  | 43 => ⟨S2x8192x8x1, .f32⟩
  | 44 => ⟨S_, .f32⟩
  | 45 => ⟨S2x8192x8x1, .f32⟩
  | 46 => ⟨S2x8192x8x1, .f32⟩
  | 47 => ⟨S2x8192x8x1, .f32⟩
  | 48 => ⟨S2x8192x8x64, .f32⟩
  | 49 => ⟨S2x8192x8x64, .f32⟩
  | 50 => ⟨S1x1x1x64, .f32⟩
  | 51 => ⟨S2x8192x8x64, .f32⟩
  | 52 => ⟨S2x8192x8x64, .f32⟩
  | 53 => ⟨S2x8192x6x2x64, .f32⟩
  | 54 => ⟨S2x8192x1x2x64, .f32⟩
  | 55 => ⟨S2x8192x2x64, .f32⟩
  | 56 => ⟨S1x64, .f32⟩
  | 57 => ⟨S64, .f32⟩
  | 58 => ⟨S2x8192x2x64, .f32⟩
  | 59 => ⟨S_, .f32⟩
  | 60 => ⟨S2x8192x2, .f32⟩
  | 61 => ⟨S2x8192x2x1, .f32⟩
  | 62 => ⟨S_, .f32⟩
  | 63 => ⟨S2x8192x2x1, .f32⟩
  | 64 => ⟨S2x8192x2x1, .f32⟩
  | 65 => ⟨S_, .f32⟩
  | 66 => ⟨S2x8192x2x1, .f32⟩
  | 67 => ⟨S2x8192x2x1, .f32⟩
  | 68 => ⟨S2x8192x2x1, .f32⟩
  | 69 => ⟨S2x8192x2x64, .f32⟩
  | 70 => ⟨S2x8192x2x64, .f32⟩
  | 71 => ⟨S1x1x1x64, .f32⟩
  | 72 => ⟨S2x8192x2x64, .f32⟩
  | 73 => ⟨S2x8192x2x64, .f32⟩
  | 74 => ⟨S2x8192x1x2x64, .f32⟩
  | 75 => ⟨S2x8192x2x64, .f32⟩
  | 76 => ⟨S1x64, .f32⟩
  | 77 => ⟨S64, .f32⟩
  | 78 => ⟨S2x8192x2x64, .f32⟩
  | 79 => ⟨S_, .f32⟩
  | 80 => ⟨S2x8192x2, .f32⟩
  | 81 => ⟨S2x8192x2x1, .f32⟩
  | 82 => ⟨S_, .f32⟩
  | 83 => ⟨S2x8192x2x1, .f32⟩
  | 84 => ⟨S2x8192x2x1, .f32⟩
  | 85 => ⟨S_, .f32⟩
  | 86 => ⟨S2x8192x2x1, .f32⟩
  | 87 => ⟨S2x8192x2x1, .f32⟩
  | 88 => ⟨S2x8192x2x1, .f32⟩
  | 89 => ⟨S2x8192x2x64, .f32⟩
  | 90 => ⟨S2x8192x2x64, .f32⟩
  | 91 => ⟨S1x1x1x64, .f32⟩
  | 92 => ⟨S2x8192x2x64, .f32⟩
  | 93 => ⟨S2x8192x2x64, .f32⟩
  | 94 => ⟨S32, .f32⟩
  | 95 => ⟨S32, .f32⟩
  | 96 => ⟨S_, .f32⟩
  | 97 => ⟨S32, .f32⟩
  | 98 => ⟨S32, .f32⟩
  | 99 => ⟨S_, .f32⟩
  | 100 => ⟨S32, .f32⟩
  | 101 => ⟨S32, .f32⟩
  | 102 => ⟨S8192, .f32⟩
  | 103 => ⟨S8192x1, .f32⟩
  | 104 => ⟨S1x32, .f32⟩
  | 105 => ⟨S8192x32, .f32⟩
  | 106 => ⟨S8192x32, .f32⟩
  | 107 => ⟨S8192x32, .f32⟩
  | 108 => ⟨S8192x32, .f32⟩
  | 109 => ⟨S8192x1x32, .f32⟩
  | 110 => ⟨S8192x32, .f32⟩
  | 111 => ⟨S8192x1x32, .f32⟩
  | 112 => ⟨S2x8192x2x32, .f32⟩
  | 113 => ⟨S2x8192x2x32, .f32⟩
  | 114 => ⟨S1x8192x1x32, .f32⟩
  | 115 => ⟨S2x8192x2x32, .f32⟩
  | 116 => ⟨S2x8192x2x32, .f32⟩
  | 117 => ⟨S1x8192x1x32, .f32⟩
  | 118 => ⟨S2x8192x2x32, .f32⟩
  | 119 => ⟨S2x8192x2x32, .f32⟩
  | 120 => ⟨S2x8192x2x32, .f32⟩
  | 121 => ⟨S1x8192x1x32, .f32⟩
  | 122 => ⟨S2x8192x2x32, .f32⟩
  | 123 => ⟨S2x8192x2x32, .f32⟩
  | 124 => ⟨S1x8192x1x32, .f32⟩
  | 125 => ⟨S2x8192x2x32, .f32⟩
  | 126 => ⟨S2x8192x2x32, .f32⟩
  | 127 => ⟨S2x8192x2x32, .f32⟩
  | _ => ⟨S16384x1024, .f32⟩

abbrev hbmTy0_1 (i : Nat) : BufTy := match i % 128 with
  | 0 => ⟨S2x8192x2x64, .f32⟩
  | 1 => ⟨S2x8192x1x2x64, .f32⟩
  | 2 => ⟨S2x8192x2x64, .f32⟩
  | 3 => ⟨S1x64, .f32⟩
  | 4 => ⟨S64, .f32⟩
  | 5 => ⟨S2x8192x2x64, .f32⟩
  | 6 => ⟨S_, .f32⟩
  | 7 => ⟨S2x8192x2, .f32⟩
  | 8 => ⟨S2x8192x2x1, .f32⟩
  | 9 => ⟨S_, .f32⟩
  | 10 => ⟨S2x8192x2x1, .f32⟩
  | 11 => ⟨S2x8192x2x1, .f32⟩
  | 12 => ⟨S_, .f32⟩
  | 13 => ⟨S2x8192x2x1, .f32⟩
  | 14 => ⟨S2x8192x2x1, .f32⟩
  | 15 => ⟨S2x8192x2x1, .f32⟩
  | 16 => ⟨S2x8192x2x64, .f32⟩
  | 17 => ⟨S2x8192x2x64, .f32⟩
  | 18 => ⟨S1x1x1x64, .f32⟩
  | 19 => ⟨S2x8192x2x64, .f32⟩
  | 20 => ⟨S2x8192x2x64, .f32⟩
  | 21 => ⟨S32, .f32⟩
  | 22 => ⟨S32, .f32⟩
  | 23 => ⟨S_, .f32⟩
  | 24 => ⟨S32, .f32⟩
  | 25 => ⟨S32, .f32⟩
  | 26 => ⟨S_, .f32⟩
  | 27 => ⟨S32, .f32⟩
  | 28 => ⟨S32, .f32⟩
  | 29 => ⟨S8192, .f32⟩
  | 30 => ⟨S8192x1, .f32⟩
  | 31 => ⟨S1x32, .f32⟩
  | 32 => ⟨S8192x32, .f32⟩
  | 33 => ⟨S8192x32, .f32⟩
  | 34 => ⟨S8192x32, .f32⟩
  | 35 => ⟨S8192x32, .f32⟩
  | 36 => ⟨S8192x1x32, .f32⟩
  | 37 => ⟨S8192x32, .f32⟩
  | 38 => ⟨S8192x1x32, .f32⟩
  | 39 => ⟨S2x8192x2x32, .f32⟩
  | 40 => ⟨S2x8192x2x32, .f32⟩
  | 41 => ⟨S1x8192x1x32, .f32⟩
  | 42 => ⟨S2x8192x2x32, .f32⟩
  | 43 => ⟨S2x8192x2x32, .f32⟩
  | 44 => ⟨S1x8192x1x32, .f32⟩
  | 45 => ⟨S2x8192x2x32, .f32⟩
  | 46 => ⟨S2x8192x2x32, .f32⟩
  | 47 => ⟨S2x8192x2x32, .f32⟩
  | 48 => ⟨S1x8192x1x32, .f32⟩
  | 49 => ⟨S2x8192x2x32, .f32⟩
  | 50 => ⟨S2x8192x2x32, .f32⟩
  | 51 => ⟨S1x8192x1x32, .f32⟩
  | 52 => ⟨S2x8192x2x32, .f32⟩
  | 53 => ⟨S2x8192x2x32, .f32⟩
  | 54 => ⟨S2x8192x2x32, .f32⟩
  | 55 => ⟨S2x8192x2x64, .f32⟩
  | 56 => ⟨S2x8192x1x2x64, .f32⟩
  | 57 => ⟨S2x8192x2x64, .f32⟩
  | 58 => ⟨S2x8192x1x2x64, .f32⟩
  | 59 => ⟨S2x8192x1x2x64, .f32⟩
  | 60 => ⟨S2x8192x2x2x64, .f32⟩
  | 61 => ⟨S2x8192x1x2x64, .f32⟩
  | 62 => ⟨S2x8192x2x64, .f32⟩
  | 63 => ⟨S2x8192x1x2x64, .f32⟩
  | 64 => ⟨S2x8192x1x2x64, .f32⟩
  | 65 => ⟨S2x8192x2x2x64, .f32⟩
  | 66 => ⟨S2x8192x1x2x64, .f32⟩
  | 67 => ⟨S2x8192x2x64, .f32⟩
  | 68 => ⟨S2x8192x1x2x64, .f32⟩
  | 69 => ⟨S2x8192x1x2x64, .f32⟩
  | 70 => ⟨S2x8192x2x2x64, .f32⟩
  | 71 => ⟨S2x8192x24, .f32⟩
  | 72 => ⟨S2x8192x24, .f32⟩
  | 73 => ⟨S_, .f32⟩
  | 74 => ⟨S2x8192x24, .f32⟩
  | 75 => ⟨S2x8192x24, .f32⟩
  | 76 => ⟨S_, .f32⟩
  | 77 => ⟨S2x8192x24, .f32⟩
  | 78 => ⟨S2x8192x24, .f32⟩
  | 79 => ⟨S2x8192x256, .f32⟩
  | 80 => ⟨S256, .f32⟩
  | 81 => ⟨S1x1x256, .f32⟩
  | 82 => ⟨S2x8192x256, .f32⟩
  | 83 => ⟨S2x8192x256, .f32⟩
  | 84 => ⟨S2x8192x256, .f32⟩
  | 85 => ⟨S_, .f32⟩
  | 86 => ⟨S2x8192x256, .f32⟩
  | 87 => ⟨S2x8192x256, .f32⟩
  | 88 => ⟨S2x8192x256, .f32⟩
  | 89 => ⟨S2x8192x256, .f32⟩
  | 90 => ⟨S2x8192x256, .i1⟩
  | 91 => ⟨S2x8192x256, .f32⟩
  | 92 => ⟨S2x8192x256, .f32⟩
  | 93 => ⟨S2x8192x256, .f32⟩
  | 94 => ⟨S2x8192x256, .f32⟩
  | 95 => ⟨S2x8192x256, .f32⟩
  | 96 => ⟨S2x8192x256, .f32⟩
  | 97 => ⟨S2x8192x256, .f32⟩
  | 98 => ⟨S2x8192x256, .f32⟩
  | 99 => ⟨S2x8192x256, .f32⟩
  | 100 => ⟨S_, .f32⟩
  | 101 => ⟨S2x8192x256, .f32⟩
  | 102 => ⟨S2x8192x256, .f32⟩
  | 103 => ⟨S_, .f32⟩
  | 104 => ⟨S2x8192x256, .f32⟩
  | 105 => ⟨S2x8192x256, .f32⟩
  | 106 => ⟨S2x8192x1792, .f32⟩
  | 107 => ⟨S_, .f32⟩
  | 108 => ⟨S_, .f32⟩
  | 109 => ⟨S2x8192x128, .f32⟩
  | 110 => ⟨S32, .f32⟩
  | 111 => ⟨S32, .f32⟩
  | 112 => ⟨S_, .f32⟩
  | 113 => ⟨S32, .f32⟩
  | 114 => ⟨S32, .f32⟩
  | 115 => ⟨S_, .f32⟩
  | 116 => ⟨S32, .f32⟩
  | 117 => ⟨S32, .f32⟩
  | 118 => ⟨S8192, .f32⟩
  | 119 => ⟨S8192x1, .f32⟩
  | 120 => ⟨S1x32, .f32⟩
  | 121 => ⟨S8192x32, .f32⟩
  | 122 => ⟨S8192x32, .f32⟩
  | 123 => ⟨S8192x32, .f32⟩
  | 124 => ⟨S8192x32, .f32⟩
  | 125 => ⟨S8192x1x32, .f32⟩
  | 126 => ⟨S8192x32, .f32⟩
  | 127 => ⟨S8192x1x32, .f32⟩
  | _ => ⟨S16384x1024, .f32⟩

abbrev hbmTy0_2 (i : Nat) : BufTy := match i % 128 with
  | 0 => ⟨S2x8192x8x32, .f32⟩
  | 1 => ⟨S2x8192x8x32, .f32⟩
  | 2 => ⟨S1x8192x1x32, .f32⟩
  | 3 => ⟨S2x8192x8x32, .f32⟩
  | 4 => ⟨S2x8192x8x32, .f32⟩
  | 5 => ⟨S1x8192x1x32, .f32⟩
  | 6 => ⟨S2x8192x8x32, .f32⟩
  | 7 => ⟨S2x8192x8x32, .f32⟩
  | 8 => ⟨S2x8192x8x32, .f32⟩
  | 9 => ⟨S1x8192x1x32, .f32⟩
  | 10 => ⟨S2x8192x8x32, .f32⟩
  | 11 => ⟨S2x8192x8x32, .f32⟩
  | 12 => ⟨S1x8192x1x32, .f32⟩
  | 13 => ⟨S2x8192x8x32, .f32⟩
  | 14 => ⟨S2x8192x8x32, .f32⟩
  | 15 => ⟨S2x8192x8x32, .f32⟩
  | 16 => ⟨S2x8192x8x64, .f32⟩
  | 17 => ⟨S_, .f32⟩
  | 18 => ⟨S2x8192x8x64, .f32⟩
  | 19 => ⟨S2x8192x8x64, .f32⟩
  | 20 => ⟨S2x8192x8x64, .bf16⟩
  | 21 => ⟨S16384x512, .bf16⟩
  | 22 => ⟨S_, .f32⟩
  | 23 => ⟨S2x8192x8x64, .f32⟩
  | 24 => ⟨S2x8192x8x64, .f32⟩
  | 25 => ⟨S2x8192x8x64, .bf16⟩
  | 26 => ⟨S16384x512, .bf16⟩
  | 27 => ⟨S16384x256, .f32⟩
  | 28 => ⟨S16384x256, .f32⟩
  | 29 => ⟨S16384x256, .f32⟩
  | 30 => ⟨S16384x1792, .f32⟩
  | 31 => ⟨S16384x128, .f32⟩
  | 32 => ⟨S16384x256, .bf16⟩
  | 33 => ⟨S16384x256, .bf16⟩
  | 34 => ⟨S2x8192x256, .f32⟩
  | 35 => ⟨S2x256x8192, .f32⟩
  | 36 => ⟨S2x8192x256, .f32⟩
  | 37 => ⟨S2x256x8192, .f32⟩
  | 38 => ⟨S2x8192x256, .f32⟩
  | 39 => ⟨S2x256x8192, .f32⟩
  | _ => ⟨S16384x1024, .f32⟩

abbrev hbmTy (i : Nat) : BufTy := match i / 128 with
  | 0 => hbmTy0_0 i
  | 1 => hbmTy0_1 i
  | 2 => hbmTy0_2 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_2 : Ref sig .tc := ⟨.hbm, 38, rfl⟩
abbrev main_v29 : Ref sig .tc := ⟨.hbm, 39, rfl⟩
abbrev main_v30 : Ref sig .tc := ⟨.hbm, 40, rfl⟩
abbrev main_cst_3 : Ref sig .tc := ⟨.hbm, 41, rfl⟩
abbrev main_v31 : Ref sig .tc := ⟨.hbm, 42, rfl⟩
abbrev main_v32 : Ref sig .tc := ⟨.hbm, 43, rfl⟩
abbrev main_cst_4 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_5 : Ref sig .tc := ⟨.hbm, 59, rfl⟩
abbrev main_v47 : Ref sig .tc := ⟨.hbm, 60, rfl⟩
abbrev main_v48 : Ref sig .tc := ⟨.hbm, 61, rfl⟩
abbrev main_cst_6 : Ref sig .tc := ⟨.hbm, 62, rfl⟩
abbrev main_v49 : Ref sig .tc := ⟨.hbm, 63, rfl⟩
abbrev main_v50 : Ref sig .tc := ⟨.hbm, 64, rfl⟩
abbrev main_cst_7 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_cst_8 : Ref sig .tc := ⟨.hbm, 79, rfl⟩
abbrev main_v64 : Ref sig .tc := ⟨.hbm, 80, rfl⟩
abbrev main_v65 : Ref sig .tc := ⟨.hbm, 81, rfl⟩
abbrev main_cst_9 : Ref sig .tc := ⟨.hbm, 82, rfl⟩
abbrev main_v66 : Ref sig .tc := ⟨.hbm, 83, rfl⟩
abbrev main_v67 : Ref sig .tc := ⟨.hbm, 84, rfl⟩
abbrev main_cst_10 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_cst_11 : Ref sig .tc := ⟨.hbm, 96, rfl⟩
abbrev main_v78 : Ref sig .tc := ⟨.hbm, 97, rfl⟩
abbrev main_v79 : Ref sig .tc := ⟨.hbm, 98, rfl⟩
abbrev main_cst_12 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_cst_13 : Ref sig .tc := ⟨.hbm, 134, rfl⟩
abbrev main_v114 : Ref sig .tc := ⟨.hbm, 135, rfl⟩
abbrev main_v115 : Ref sig .tc := ⟨.hbm, 136, rfl⟩
abbrev main_cst_14 : Ref sig .tc := ⟨.hbm, 137, rfl⟩
abbrev main_v116 : Ref sig .tc := ⟨.hbm, 138, rfl⟩
abbrev main_v117 : Ref sig .tc := ⟨.hbm, 139, rfl⟩
abbrev main_cst_15 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_cst_16 : Ref sig .tc := ⟨.hbm, 151, rfl⟩
abbrev main_v128 : Ref sig .tc := ⟨.hbm, 152, rfl⟩
abbrev main_v129 : Ref sig .tc := ⟨.hbm, 153, rfl⟩
abbrev main_cst_17 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_v137 : Ref sig .tc := ⟨.hbm, 162, rfl⟩
abbrev main_v138 : Ref sig .tc := ⟨.hbm, 163, rfl⟩
abbrev main_v139 : Ref sig .tc := ⟨.hbm, 164, rfl⟩
abbrev main_v140 : Ref sig .tc := ⟨.hbm, 165, rfl⟩
abbrev main_v141 : Ref sig .tc := ⟨.hbm, 166, rfl⟩
abbrev main_v142 : Ref sig .tc := ⟨.hbm, 167, rfl⟩
abbrev main_v143 : Ref sig .tc := ⟨.hbm, 168, rfl⟩
abbrev main_v144 : Ref sig .tc := ⟨.hbm, 169, rfl⟩
abbrev main_v145 : Ref sig .tc := ⟨.hbm, 170, rfl⟩
abbrev main_v146 : Ref sig .tc := ⟨.hbm, 171, rfl⟩
abbrev main_v147 : Ref sig .tc := ⟨.hbm, 172, rfl⟩
abbrev main_v148 : Ref sig .tc := ⟨.hbm, 173, rfl⟩
abbrev main_v149 : Ref sig .tc := ⟨.hbm, 174, rfl⟩
abbrev main_v150 : Ref sig .tc := ⟨.hbm, 175, rfl⟩
abbrev main_v151 : Ref sig .tc := ⟨.hbm, 176, rfl⟩
abbrev main_v152 : Ref sig .tc := ⟨.hbm, 177, rfl⟩
abbrev main_v153 : Ref sig .tc := ⟨.hbm, 178, rfl⟩
abbrev main_v154 : Ref sig .tc := ⟨.hbm, 179, rfl⟩
abbrev main_v155 : Ref sig .tc := ⟨.hbm, 180, rfl⟩
abbrev main_v156 : Ref sig .tc := ⟨.hbm, 181, rfl⟩
abbrev main_v157 : Ref sig .tc := ⟨.hbm, 182, rfl⟩
abbrev main_v158 : Ref sig .tc := ⟨.hbm, 183, rfl⟩
abbrev main_v159 : Ref sig .tc := ⟨.hbm, 184, rfl⟩
abbrev main_v160 : Ref sig .tc := ⟨.hbm, 185, rfl⟩
abbrev main_v161 : Ref sig .tc := ⟨.hbm, 186, rfl⟩
abbrev main_v162 : Ref sig .tc := ⟨.hbm, 187, rfl⟩
abbrev main_v163 : Ref sig .tc := ⟨.hbm, 188, rfl⟩
abbrev main_v164 : Ref sig .tc := ⟨.hbm, 189, rfl⟩
abbrev main_v165 : Ref sig .tc := ⟨.hbm, 190, rfl⟩
abbrev main_v166 : Ref sig .tc := ⟨.hbm, 191, rfl⟩
abbrev main_v167 : Ref sig .tc := ⟨.hbm, 192, rfl⟩
abbrev main_v168 : Ref sig .tc := ⟨.hbm, 193, rfl⟩
abbrev main_v169 : Ref sig .tc := ⟨.hbm, 194, rfl⟩
abbrev main_v170 : Ref sig .tc := ⟨.hbm, 195, rfl⟩
abbrev main_v171 : Ref sig .tc := ⟨.hbm, 196, rfl⟩
abbrev main_v172 : Ref sig .tc := ⟨.hbm, 197, rfl⟩
abbrev main_v173 : Ref sig .tc := ⟨.hbm, 198, rfl⟩
abbrev main_v174 : Ref sig .tc := ⟨.hbm, 199, rfl⟩
abbrev main_v175 : Ref sig .tc := ⟨.hbm, 200, rfl⟩
abbrev main_cst_18 : Ref sig .tc := ⟨.hbm, 201, rfl⟩
abbrev main_v176 : Ref sig .tc := ⟨.hbm, 202, rfl⟩
abbrev main_v177 : Ref sig .tc := ⟨.hbm, 203, rfl⟩
abbrev main_cst_19 : Ref sig .tc := ⟨.hbm, 204, rfl⟩
abbrev main_v178 : Ref sig .tc := ⟨.hbm, 205, rfl⟩
abbrev main_v179 : Ref sig .tc := ⟨.hbm, 206, rfl⟩
abbrev main_v180 : Ref sig .tc := ⟨.hbm, 207, rfl⟩
abbrev main_v181 : Ref sig .tc := ⟨.hbm, 208, rfl⟩
abbrev main_v182 : Ref sig .tc := ⟨.hbm, 209, rfl⟩
abbrev main_v183 : Ref sig .tc := ⟨.hbm, 210, rfl⟩
abbrev main_v184 : Ref sig .tc := ⟨.hbm, 211, rfl⟩
abbrev main_call0_v0 : Ref sig .tc := ⟨.hbm, 212, rfl⟩
abbrev main_call0_call0_cst : Ref sig .tc := ⟨.hbm, 213, rfl⟩
abbrev main_call0_call0_v0 : Ref sig .tc := ⟨.hbm, 214, rfl⟩
abbrev main_call0_call0_v1 : Ref sig .tc := ⟨.hbm, 215, rfl⟩
abbrev main_call0_call0_v2 : Ref sig .tc := ⟨.hbm, 216, rfl⟩
abbrev main_call0_call0_v3 : Ref sig .tc := ⟨.hbm, 217, rfl⟩
abbrev main_call0_call0_v4 : Ref sig .tc := ⟨.hbm, 218, rfl⟩
abbrev main_call0_call0_v5 : Ref sig .tc := ⟨.hbm, 219, rfl⟩
abbrev main_call0_call0_v6 : Ref sig .tc := ⟨.hbm, 220, rfl⟩
abbrev main_call0_call0_v7 : Ref sig .tc := ⟨.hbm, 221, rfl⟩
abbrev main_call0_call0_v8 : Ref sig .tc := ⟨.hbm, 222, rfl⟩
abbrev main_call0_call0_v9 : Ref sig .tc := ⟨.hbm, 223, rfl⟩
abbrev main_call0_call0_v10 : Ref sig .tc := ⟨.hbm, 224, rfl⟩
abbrev main_call0_call0_v11 : Ref sig .tc := ⟨.hbm, 225, rfl⟩
abbrev main_call0_v1 : Ref sig .tc := ⟨.hbm, 226, rfl⟩
abbrev main_v185 : Ref sig .tc := ⟨.hbm, 227, rfl⟩
abbrev main_cst_20 : Ref sig .tc := ⟨.hbm, 228, rfl⟩
abbrev main_v186 : Ref sig .tc := ⟨.hbm, 229, rfl⟩
abbrev main_v187 : Ref sig .tc := ⟨.hbm, 230, rfl⟩
abbrev main_cst_21 : Ref sig .tc := ⟨.hbm, 231, rfl⟩
abbrev main_v188 : Ref sig .tc := ⟨.hbm, 232, rfl⟩
abbrev main_v189 : Ref sig .tc := ⟨.hbm, 233, rfl⟩
abbrev main_v190 : Ref sig .tc := ⟨.hbm, 234, rfl⟩
abbrev main_cst_22 : Ref sig .tc := ⟨.hbm, 235, rfl⟩
abbrev main_call1_v0 : Ref sig .tc := ⟨.hbm, 236, rfl⟩
abbrev main_v191 : Ref sig .tc := ⟨.hbm, 237, rfl⟩
abbrev main_v192 : Ref sig .tc := ⟨.hbm, 238, rfl⟩
abbrev main_v193 : Ref sig .tc := ⟨.hbm, 239, rfl⟩
abbrev main_cst_23 : Ref sig .tc := ⟨.hbm, 240, rfl⟩
abbrev main_v194 : Ref sig .tc := ⟨.hbm, 241, rfl⟩
abbrev main_v195 : Ref sig .tc := ⟨.hbm, 242, rfl⟩
abbrev main_cst_24 : Ref sig .tc := ⟨.hbm, 243, rfl⟩
abbrev main_v196 : Ref sig .tc := ⟨.hbm, 244, rfl⟩
abbrev main_v197 : Ref sig .tc := ⟨.hbm, 245, rfl⟩
abbrev main_v198 : Ref sig .tc := ⟨.hbm, 246, rfl⟩
abbrev main_v199 : Ref sig .tc := ⟨.hbm, 247, rfl⟩
abbrev main_v200 : Ref sig .tc := ⟨.hbm, 248, rfl⟩
abbrev main_v201 : Ref sig .tc := ⟨.hbm, 249, rfl⟩
abbrev main_v202 : Ref sig .tc := ⟨.hbm, 250, rfl⟩
abbrev main_v203 : Ref sig .tc := ⟨.hbm, 251, rfl⟩
abbrev main_v204 : Ref sig .tc := ⟨.hbm, 252, rfl⟩
abbrev main_v205 : Ref sig .tc := ⟨.hbm, 253, rfl⟩
abbrev main_v206 : Ref sig .tc := ⟨.hbm, 254, rfl⟩
abbrev main_v207 : Ref sig .tc := ⟨.hbm, 255, rfl⟩
abbrev main_v208 : Ref sig .tc := ⟨.hbm, 256, rfl⟩
abbrev main_v209 : Ref sig .tc := ⟨.hbm, 257, rfl⟩
abbrev main_v210 : Ref sig .tc := ⟨.hbm, 258, rfl⟩
abbrev main_v211 : Ref sig .tc := ⟨.hbm, 259, rfl⟩
abbrev main_v212 : Ref sig .tc := ⟨.hbm, 260, rfl⟩
abbrev main_v213 : Ref sig .tc := ⟨.hbm, 261, rfl⟩
abbrev main_v214 : Ref sig .tc := ⟨.hbm, 262, rfl⟩
abbrev main_v215 : Ref sig .tc := ⟨.hbm, 263, rfl⟩
abbrev main_v216 : Ref sig .tc := ⟨.hbm, 264, rfl⟩
abbrev main_v217 : Ref sig .tc := ⟨.hbm, 265, rfl⟩
abbrev main_v218 : Ref sig .tc := ⟨.hbm, 266, rfl⟩
abbrev main_v219 : Ref sig .tc := ⟨.hbm, 267, rfl⟩
abbrev main_v220 : Ref sig .tc := ⟨.hbm, 268, rfl⟩
abbrev main_v221 : Ref sig .tc := ⟨.hbm, 269, rfl⟩
abbrev main_v222 : Ref sig .tc := ⟨.hbm, 270, rfl⟩
abbrev main_v223 : Ref sig .tc := ⟨.hbm, 271, rfl⟩
abbrev main_v224 : Ref sig .tc := ⟨.hbm, 272, rfl⟩
abbrev main_cst_25 : Ref sig .tc := ⟨.hbm, 273, rfl⟩
abbrev main_v225 : Ref sig .tc := ⟨.hbm, 274, rfl⟩
abbrev main_v226 : Ref sig .tc := ⟨.hbm, 275, rfl⟩
abbrev main_v227 : Ref sig .tc := ⟨.hbm, 276, rfl⟩
abbrev main_v228 : Ref sig .tc := ⟨.hbm, 277, rfl⟩
abbrev main_cst_26 : Ref sig .tc := ⟨.hbm, 278, rfl⟩
abbrev main_v229 : Ref sig .tc := ⟨.hbm, 279, rfl⟩
abbrev main_v230 : Ref sig .tc := ⟨.hbm, 280, rfl⟩
abbrev main_v231 : Ref sig .tc := ⟨.hbm, 281, rfl⟩
abbrev main_v232 : Ref sig .tc := ⟨.hbm, 282, rfl⟩
abbrev main_v233 : Ref sig .tc := ⟨.hbm, 283, rfl⟩
abbrev main_v234 : Ref sig .tc := ⟨.hbm, 284, rfl⟩
abbrev main_v235 : Ref sig .tc := ⟨.hbm, 285, rfl⟩
abbrev main_v236 : Ref sig .tc := ⟨.hbm, 286, rfl⟩
abbrev main_v237 : Ref sig .tc := ⟨.hbm, 287, rfl⟩
abbrev main_v238 : Ref sig .tc := ⟨.hbm, 288, rfl⟩
abbrev main_v239 : Ref sig .tc := ⟨.hbm, 289, rfl⟩
abbrev main_v240 : Ref sig .tc := ⟨.hbm, 290, rfl⟩
abbrev main_v241 : Ref sig .tc := ⟨.hbm, 291, rfl⟩
abbrev main_v242 : Ref sig .tc := ⟨.hbm, 292, rfl⟩
abbrev main_v243 : Ref sig .tc := ⟨.hbm, 293, rfl⟩
abbrev main_v244 : Ref sig .tc := ⟨.hbm, 294, rfl⟩
abbrev main_v245 : Ref sig .tc := ⟨.hbm, 295, rfl⟩

abbrev nD : Nat := 1
abbrev τ : Topo := Topo.v7x

variable {F : FTy → Type} [FloatOps F]
-- ==== Proof.DilMath.lean ====
/-
  The dilated sliding-window attention in plain extended reals: one query row against the keys at distances
  `0 … 128` steps behind it. The definitions are the mathematics both programs compute; the lemmas carry a sum and a
  maximum over a 256-wide block of keys with a window mask to the sum and the maximum over the distances.
-/
module

public import Idealize.ShloMosaic.Lib.Pipeline.Value
public import Idealize.ShloMosaic.Lib.Pointwise

@[expose] public section

noncomputable section

namespace Cert.Dil

open Idealize.ShloMosaic

/-- The element of a matrix at natural-number coordinates (taken modulo the extents, so that it needs no proofs). -/
def at2 {α : Type} {a b : ℕ} [NeZero a] [NeZero b] (X : (⟨2, ![a, b]⟩ : Shape).Idx → α) (r c : ℕ) : α :=
  X (ix2 (Fin.ofNat a r) (Fin.ofNat b c))

/-- A matrix read at an index is `at2` at the index's coordinates. -/
theorem eq_at2 {α : Type} {a b : ℕ} [NeZero a] [NeZero b] (X : (⟨2, ![a, b]⟩ : Shape).Idx → α)
    (i : (⟨2, ![a, b]⟩ : Shape).Idx) : X i = at2 X (i 0).val (i 1).val := by
  have h0 : Fin.ofNat a (i 0).val = i 0 := Fin.ext (Nat.mod_eq_of_lt (i 0).isLt)
  have h1 : Fin.ofNat b (i 1).val = i 1 := Fin.ext (Nat.mod_eq_of_lt (i 1).isLt)
  unfold at2
  rw [h0, h1]
  exact congrArg X (eq_ix2 i)

/-- A matrix read at an index whose coordinates are known. -/
theorem at2_of {α : Type} {a b : ℕ} [NeZero a] [NeZero b] (X : (⟨2, ![a, b]⟩ : Shape).Idx → α)
    (i : (⟨2, ![a, b]⟩ : Shape).Idx) (r c : ℕ) (h0 : (i 0).val = r) (h1 : (i 1).val = c) : X i = at2 X r c := by
  rw [eq_at2 X i, h0, h1]

/-- The score of the query against the key at distance `m`. -/
def score (q : ℕ → EReal) (k : ℕ → ℕ → EReal) (m : ℕ) : EReal := ∑ d : Fin 64, q d.val * k m d.val

/-- The score, `-∞` where the distance reaches before the sequence's first row. -/
def mscore (q : ℕ → EReal) (k : ℕ → ℕ → EReal) (u m : ℕ) : EReal := if m ≤ u then score q k m else ⊥

/-- The largest masked score over the window. -/
def smax (q : ℕ → EReal) (k : ℕ → ℕ → EReal) (u : ℕ) : EReal :=
  (Finset.univ : Finset (Fin 129)).fold max ⊥ fun m => mscore q k u m.val

/-- The unnormalised weight of the key at distance `m`. -/
def weight (q : ℕ → EReal) (k : ℕ → ℕ → EReal) (u m : ℕ) : EReal :=
  if m ≤ u then Ideal.exp (score q k m - smax q k u) else 0

/-- The sum of the weights. -/
def denom (q : ℕ → EReal) (k : ℕ → ℕ → EReal) (u : ℕ) : EReal := ∑ m : Fin 129, weight q k u m.val

/-- The weighted sum of the values' component `d`. -/
def mix (q : ℕ → EReal) (k v : ℕ → ℕ → EReal) (u d : ℕ) : EReal := ∑ m : Fin 129, weight q k u m.val * v m.val d

/-- Whether column `c` of the 256 keys beside row `t` lies in the row's window (`i` the block of rows). -/
def inWin (i t c : ℕ) : Prop := t ≤ c ∧ c ≤ 128 + t ∧ (128 ≤ c ∨ 0 < i)

instance (i t c : ℕ) : Decidable (inWin i t c) := by unfold inWin; infer_instance

/-- A sum over the 256 columns under the window mask is the sum over the distances under the start mask. -/
theorem sum_window (i t : ℕ) (ht : t < 128) (F : ℕ → EReal) :
    (∑ c : Fin 256, if inWin i t c.val then F (128 + t - c.val) else 0)
      = ∑ m : Fin 129, if m.val ≤ i * 128 + t then F m.val else 0 := by
  rw [← Finset.sum_filter, ← Finset.sum_filter]
  refine Finset.sum_bij' (fun c _ => (Fin.ofNat 129 (128 + t - c.val))) (fun m _ => (Fin.ofNat 256 (128 + t - m.val)))
    ?_ ?_ ?_ ?_ ?_
  · intro c hc
    replace hc : inWin i t c.val := (Finset.mem_filter.mp hc).2
    refine Finset.mem_filter.mpr ⟨Finset.mem_univ _, ?_⟩
    obtain ⟨h1, h2, h3⟩ := hc
    have : (Fin.ofNat 129 (128 + t - c.val)).val = 128 + t - c.val := Nat.mod_eq_of_lt (by omega)
    rw [this]; omega
  · intro m hm
    replace hm : m.val ≤ i * 128 + t := (Finset.mem_filter.mp hm).2
    refine Finset.mem_filter.mpr ⟨Finset.mem_univ _, ?_⟩
    show inWin i t (Fin.ofNat 256 (128 + t - m.val)).val
    have hl := m.isLt
    have : (Fin.ofNat 256 (128 + t - m.val)).val = 128 + t - m.val := Nat.mod_eq_of_lt (by omega)
    rw [this]; refine ⟨by omega, by omega, ?_⟩
    rcases Nat.eq_zero_or_pos i with h | h
    · subst h; left; omega
    · right; exact h
  · intro c hc
    obtain ⟨h1', h2', h3'⟩ : inWin i t c.val := (Finset.mem_filter.mp hc).2
    have h1 : (Fin.ofNat 129 (128 + t - c.val)).val = 128 + t - c.val := Nat.mod_eq_of_lt (by omega)
    refine Fin.ext ?_
    show (128 + t - (Fin.ofNat 129 (128 + t - c.val)).val) % 256 = c.val
    rw [h1, Nat.mod_eq_of_lt (by omega)]; omega
  · intro m hm
    have hl := m.isLt
    have h1 : (Fin.ofNat 256 (128 + t - m.val)).val = 128 + t - m.val := Nat.mod_eq_of_lt (by omega)
    refine Fin.ext ?_
    show (128 + t - (Fin.ofNat 256 (128 + t - m.val)).val) % 129 = m.val
    rw [h1, Nat.mod_eq_of_lt (by omega)]; omega
  · intro c hc
    obtain ⟨h1', h2', h3'⟩ : inWin i t c.val := (Finset.mem_filter.mp hc).2
    have h1 : (Fin.ofNat 129 (128 + t - c.val)).val = 128 + t - c.val := Nat.mod_eq_of_lt (by omega)
    show F _ = F (Fin.ofNat 129 (128 + t - c.val)).val
    rw [h1]

/-- The fold of `max` from `-∞` lies below a bound exactly when every element does. -/
theorem fold_max_le {n : ℕ} (f : Fin n → EReal) (b : EReal) :
    (Finset.univ : Finset (Fin n)).fold max ⊥ f ≤ b ↔ ∀ x, f x ≤ b := by
  rw [Finset.fold_max_le]; simp

/-- The maximum over the 256 columns under the window mask is the maximum over the distances under the start mask. -/
theorem max_window (i t : ℕ) (ht : t < 128) (F : ℕ → EReal) :
    ((Finset.univ : Finset (Fin 256)).fold max ⊥ fun c => if inWin i t c.val then F (128 + t - c.val) else ⊥)
      = (Finset.univ : Finset (Fin 129)).fold max ⊥ fun m => if m.val ≤ i * 128 + t then F m.val else ⊥ := by
  refine eq_of_forall_ge_iff fun b => ?_
  rw [fold_max_le, fold_max_le]
  constructor
  · intro h m
    have hl := m.isLt
    split
    · rename_i hm
      have := h ⟨128 + t - m.val, by omega⟩
      have hw : inWin i t (128 + t - m.val) := by
        refine ⟨by omega, by omega, ?_⟩
        rcases Nat.eq_zero_or_pos i with h | h
        · subst h; left; omega
        · right; exact h
      simp only [hw, if_true] at this
      rwa [show 128 + t - (128 + t - m.val) = m.val by omega] at this
    · exact bot_le
  · intro h c
    split
    · rename_i hc
      obtain ⟨h1, h2, h3⟩ := hc
      have := h ⟨128 + t - c.val, by omega⟩
      have hm : 128 + t - c.val ≤ i * 128 + t := by omega
      simp only [hm, if_true] at this
      exact this
    · exact bot_le

/-- A sum over the 128 lanes of two heads in which one head's 64 lanes are kept is the sum over those 64 lanes. -/
theorem sum_half (e : ℕ) (he : e < 2) (f g : ℕ → EReal) :
    (∑ j : Fin 128, (if j.val / 64 = e then f j.val else 0) * g j.val)
      = ∑ d : Fin 64, f (e * 64 + d.val) * g (e * 64 + d.val) := by
  rw [show (∑ j : Fin 128, (if j.val / 64 = e then f j.val else 0) * g j.val)
      = ∑ j : Fin (64 + 64), (if j.val / 64 = e then f j.val else 0) * g j.val from rfl, Fin.sum_univ_add]
  have hA : ∀ d : Fin 64, d.val / 64 = 0 := fun d => Nat.div_eq_of_lt d.isLt
  have hB : ∀ d : Fin 64, (64 + d.val) / 64 = 1 := fun d => by
    have := d.isLt; omega
  simp only [Fin.val_castAdd, Fin.val_natAdd, hA, hB]
  interval_cases e <;> simp

end Cert.Dil

end
-- ==== Proof.DilBlock.lean ====
/-
  One block of the dilated attention as the kernel's vector operations compute it, at the ideal values, stated once for
  every dilation: the window mask, a head's scores, their maximum, weights and weighted values, and what each of them is
  at an index.
-/
module

public import proofs.«01_k».proof.Proof.DilMath
public import Idealize.ShloMosaic.Lib.Tactic.WordOmega

@[expose] public section

noncomputable section

namespace Cert.Dil

open Idealize.ShloMosaic

abbrev T128 : Shape := ⟨2, ![128, 128]⟩
abbrev T256 : Shape := ⟨2, ![128, 256]⟩
abbrev K512 : Shape := ⟨2, ![256, 512]⟩
abbrev K128 : Shape := ⟨2, ![256, 128]⟩
abbrev R512 : Shape := ⟨2, ![128, 512]⟩
abbrev V128 : Shape := ⟨1, ![128]⟩
abbrev C128 : Shape := ⟨2, ![128, 1]⟩

/-- Queries against keys: both operands contract their lanes. -/
def dotNT : DotDims T128 K128 T256 where
  lhsContracting := [1]
  rhsContracting := [1]
  lhsNonContracting := [0]
  rhsNonContracting := [0]
  lhsBatch := []
  rhsBatch := []
  wf := by decide

/-- Weights against values. -/
def dotNN : DotDims T256 K128 T128 where
  lhsContracting := [1]
  rhsContracting := [0]
  lhsNonContracting := [0]
  rhsNonContracting := [1]
  lhsBatch := []
  rhsBatch := []
  wf := by decide

/-- The window mask of a block, `w` the block's number as a word. -/
def maskOp (w : BitVec 32) : IVec T256 1 :=
  andi (andi (cmpi .sge (subi (addi (broadcast T256 128#32) (iota .tc T256 32 [0] (by decide))) (iota .tc T256 32 [1] (by decide))) (broadcast T256 0#32))
      (cmpi .slt (subi (addi (broadcast T256 128#32) (iota .tc T256 32 [0] (by decide))) (iota .tc T256 32 [1] (by decide))) (broadcast T256 129#32)))
    (ori (cmpi .sge (iota .tc T256 32 [1] (by decide)) (broadcast T256 128#32)) (broadcast T256 (Scalar.cmpi .sgt w 0#32)))

/-- The lane number. -/
def laneOp : IVec T128 32 := iota .tc T128 32 [1] (by decide)

/-- The lanes of a pair's first head. -/
def lowOp : IVec T128 1 := cmpi .slt laneOp (broadcast T128 64#32)

/-- The lanes of a pair's second head. -/
def highOp : IVec T128 1 := xori lowOp (constantI T128 1 1#1)

/-- Two blocks of 128 rows make one of 256. -/
theorem catFits : Shape.Concatenates [R512, R512] K512 0 := by decide

/-- A block of 128 rows keeps its shape. -/
theorem castFits : R512.ShapeCasts R512 := by decide

/-- Previous and current block, one below the other. -/
def catOp (a b : FVec Ideal R512 .f32) : FVec Ideal K512 .bf16 :=
  truncf .bf16 (concatenate K512 0 [⟨R512, shapeCast R512 a castFits⟩, ⟨R512, shapeCast R512 b castFits⟩] catFits) (by decide)

/-- A head's masked scores. -/
def scoreOp (mask : IVec T256 1) (sel : IVec T128 1) (bot : EReal) (Q : FVec Ideal T128 .bf16) (Ks : FVec Ideal K128 .bf16) : FVec Ideal T256 .f32 :=
  select mask (matmul dotNT none (select sel (shapeCast T128 Q (by decide)) (broadcast T128 (Scalar.ofBits (F := Ideal) .bf16 0x0000#16))) Ks
    (constant T256 .f32 0x00000000#32)) (broadcast T256 bot)

/-- A head's largest score per row. -/
def maxOp (s : FVec Ideal T256 .f32) : FVec Ideal C128 .f32 :=
  shapeCast C128 (multiReduction .maximumf [1] V128 s 0xFF800000#32 (by decide) (.inl rfl) rfl) (by decide)

/-- A head's weights. -/
def weightOp (mask : IVec T256 1) (s : FVec Ideal T256 .f32) : FVec Ideal T256 .f32 :=
  select mask (exp (subf s (broadcastTo T256 (maxOp s) (by decide)))) (broadcast T256 (Scalar.ofBits (F := Ideal) .f32 0x00000000#32))

/-- A head's sum of weights per row. -/
def denomOp (mask : IVec T256 1) (s : FVec Ideal T256 .f32) : FVec Ideal C128 .f32 :=
  shapeCast C128 (multiReduction .add [1] V128 (weightOp mask s) 0x00000000#32 (by decide) (.inl rfl) rfl) (by decide)

/-- A head's weights against the values of both heads of the pair. -/
def mixOp (mask : IVec T256 1) (s : FVec Ideal T256 .f32) (Vs : FVec Ideal K128 .bf16) : FVec Ideal T128 .f32 :=
  matmul dotNN none (truncf .bf16 (weightOp mask s) (by decide)) Vs (constant T128 .f32 0x00000000#32)

/-- One head's two lanes of the statistics, over the other lanes. -/
def statOp (h h8 : BitVec 32) (mx dn : FVec Ideal C128 .f32) (prev : FVec Ideal T128 .f32) : FVec Ideal T128 .f32 :=
  select (cmpi .eq laneOp (broadcast T128 h)) (broadcastTo T128 (shapeCast C128 mx (by decide)) (by decide))
    (select (cmpi .eq laneOp (broadcast T128 h8)) (broadcastTo T128 (shapeCast C128 dn (by decide)) (by decide)) prev)

/-! ## Each of them at an index -/

/-- The mask marks the keys of the window. -/
theorem maskOp_apply (n : ℕ) (hn : n < 1024) (t : Fin 128) (c : Fin 256) :
    maskOp (BitVec.ofNat 32 n) (ix2 t c) = 1#1 ↔ inWin n t.val c.val := by
  pointwise [maskOp]
  have ht := t.isLt
  have hc := c.isLt
  unfold inWin
  have hs : IntOp.subi (IntOp.addi (128#32) (BitVec.ofNat 32 t.val)) (BitVec.ofNat 32 c.val)
      = BitVec.ofNat 32 (if c.val ≤ 128 + t.val then 128 + t.val - c.val else 2 ^ 32 + 128 + t.val - c.val) := by
    apply BitVec.eq_of_toNat_eq
    simp only [IntOp.subi, IntOp.addi, BitVec.toNat_sub, BitVec.toNat_add, BitVec.toNat_ofNat]
    split <;> omega
  rw [hs]
  split <;> word_omega

/-- The lanes of the first head. -/
theorem lowOp_apply (t j : Fin 128) : lowOp (ix2 t j) = 1#1 ↔ j.val / 64 = 0 := by
  pointwise [lowOp, laneOp]
  have hj := j.isLt
  word_omega

/-- The lanes of the second head. -/
theorem highOp_apply (t j : Fin 128) : highOp (ix2 t j) = 1#1 ↔ j.val / 64 = 1 := by
  have h := lowOp_apply t j
  have hj := j.isLt
  have e : highOp (ix2 t j) = IntOp.xori (lowOp (ix2 t j)) 1#1 := by pointwise [highOp]
  rw [e]
  rcases (by decide : ∀ x : BitVec 1, x = 0#1 ∨ x = 1#1) (lowOp (ix2 t j)) with h0 | h0
  · rw [h0] at h ⊢
    have : ¬ j.val / 64 = 0 := fun hh => absurd (h.mpr hh) (by decide)
    exact ⟨fun _ => by omega, fun _ => by decide⟩
  · rw [h0] at h ⊢
    have : j.val / 64 = 0 := h.mp rfl
    exact ⟨fun hh => absurd hh (by decide), fun hh => by omega⟩

/-- A score is a product over the head's lanes, or the mask's value. -/
theorem scoreOp_apply (mask : IVec T256 1) (sel : IVec T128 1) (bot : EReal) (Q : FVec Ideal T128 .bf16) (Ks : FVec Ideal K128 .bf16)
    (t : Fin 128) (c : Fin 256) : scoreOp mask sel bot Q Ks (ix2 t c)
      = if mask (ix2 t c) = 1#1 then ∑ j : Fin 128, (if sel (ix2 t j) = 1#1 then Q (ix2 t j) else 0) * Ks (ix2 c j) else bot := by
  pointwise [scoreOp, dotNT]
  show (if mask (ix2 t c) = 1#1 then _ else bot) = _
  refine if_congr Iff.rfl (Finset.sum_congr rfl fun j _ => ?_) rfl
  show (if sel (ix2 t j) = 1#1 then Q (ix2 t j) * Ks (ix2 c j) else 0) = _
  rw [ite_mul, zero_mul]

/-- The pattern of `-∞` denotes `-∞`. -/
theorem ofBits_negInf : Ideal.ofBits .f32 0xFF800000#32 = ⊥ := by
  simp [Ideal.ofBits, Ideal.ieee]

/-- The largest score of a row. -/
theorem maxOp_apply (s : FVec Ideal T256 .f32) (t : Fin 128) (z : Fin 1) :
    maxOp s (ix2 t z) = (Finset.univ : Finset (Fin 256)).fold max ⊥ fun c => s (ix2 t c) := by
  pointwise [maxOp]
  rw [ofBits_negInf]

/-- A weight is the exponential of the score less the largest, or zero where masked. -/
theorem weightOp_apply (mask : IVec T256 1) (s : FVec Ideal T256 .f32) (t : Fin 128) (c : Fin 256) :
    weightOp mask s (ix2 t c)
      = if mask (ix2 t c) = 1#1 then Ideal.exp (s (ix2 t c) - maxOp s (ix2 t 0)) else 0 := by
  pointwise [weightOp]
  rfl

/-- A denominator is the sum of the weights. -/
theorem denomOp_apply (mask : IVec T256 1) (s : FVec Ideal T256 .f32) (t : Fin 128) (z : Fin 1) :
    denomOp mask s (ix2 t z) = ∑ c : Fin 256, weightOp mask s (ix2 t c) := by
  pointwise [denomOp]

/-- The values mixed by the weights. -/
theorem mixOp_apply (mask : IVec T256 1) (s : FVec Ideal T256 .f32) (Vs : FVec Ideal K128 .bf16) (t j : Fin 128) :
    mixOp mask s Vs (ix2 t j) = ∑ c : Fin 256, weightOp mask s (ix2 t c) * Vs (ix2 c j) := by
  pointwise [mixOp, dotNN]

/-- A head's maximum and denominator are put in two lanes; the other lanes stay. -/
theorem statOp_apply (h h8 : ℕ) (hh : h < 128) (hh8 : h8 < 128) (mx dn : FVec Ideal C128 .f32) (prev : FVec Ideal T128 .f32) (t j : Fin 128) :
    statOp (BitVec.ofNat 32 h) (BitVec.ofNat 32 h8) mx dn prev (ix2 t j)
      = if j.val = h then mx (ix2 t 0) else if j.val = h8 then dn (ix2 t 0) else prev (ix2 t j) := by
  pointwise [statOp, laneOp]
  have hj := j.isLt
  have e (k : ℕ) (hk : k < 128) : IntOp.cmpi .eq (BitVec.ofNat 32 j.val) (BitVec.ofNat 32 k) = 1#1 ↔ j.val = k := by word_omega
  show (if _ = 1#1 then _ else if _ = 1#1 then _ else _) = _
  exact if_congr (e h hh) rfl (if_congr (e h8 hh8) rfl rfl)

/-- Two blocks of rows, one below the other. -/
theorem catOp_apply (a b : FVec Ideal R512 .f32) (c : Fin 256) (j : Fin 512) :
    catOp a b (ix2 c j) = if h : c.val < 128 then a (ix2 ⟨c.val, h⟩ j) else b (ix2 ⟨c.val - 128, by omega⟩ j) := by
  pointwise [catOp]

/-! ## One head of one block -/

section Head

variable {i : ℕ} {t : Fin 128} {e : ℕ} {mask : IVec T256 1} {sel : IVec T128 1} {Q : FVec Ideal T128 .bf16} {Ks Vs : FVec Ideal K128 .bf16}
  {q : ℕ → EReal} {k v : ℕ → ℕ → EReal}

/-- A masked score is the score at the distance of the column's key. -/
theorem head_score (he : e < 2) (hmask : ∀ c, mask (ix2 t c) = 1#1 ↔ inWin i t.val c.val) (hsel : ∀ j, sel (ix2 t j) = 1#1 ↔ j.val / 64 = e)
    (hQ : ∀ d : Fin 64, Q (ix2 t ⟨e * 64 + d.val, by omega⟩) = q d.val)
    (hK : ∀ (c : Fin 256) (d : Fin 64), inWin i t.val c.val → Ks (ix2 c ⟨e * 64 + d.val, by omega⟩) = k (128 + t.val - c.val) d.val)
    (c : Fin 256) : scoreOp mask sel ⊥ Q Ks (ix2 t c) = if inWin i t.val c.val then score q k (128 + t.val - c.val) else ⊥ := by
  rw [scoreOp_apply]
  by_cases hw : inWin i t.val c.val
  · rw [if_pos ((hmask c).mpr hw), if_pos hw]
    have h := sum_half e he (fun j => if hj : j < 128 then Q (ix2 t ⟨j, hj⟩) else 0) (fun j => if hj : j < 128 then Ks (ix2 c ⟨j, hj⟩) else 0)
    refine Eq.trans (Finset.sum_congr rfl fun j _ => ?_) (h.trans (Finset.sum_congr rfl fun d _ => ?_))
    · simp only [hsel, j.isLt, dif_pos]
    · have hd : e * 64 + d.val < 128 := by omega
      simp only [hd, dif_pos]
      rw [hQ d, hK c d hw]
  · rw [if_neg fun h => hw ((hmask c).mp h), if_neg hw]

/-- The row's maximum. -/
theorem head_max (he : e < 2) (hmask : ∀ c, mask (ix2 t c) = 1#1 ↔ inWin i t.val c.val) (hsel : ∀ j, sel (ix2 t j) = 1#1 ↔ j.val / 64 = e)
    (hQ : ∀ d : Fin 64, Q (ix2 t ⟨e * 64 + d.val, by omega⟩) = q d.val)
    (hK : ∀ (c : Fin 256) (d : Fin 64), inWin i t.val c.val → Ks (ix2 c ⟨e * 64 + d.val, by omega⟩) = k (128 + t.val - c.val) d.val) (z : Fin 1) :
    maxOp (scoreOp mask sel ⊥ Q Ks) (ix2 t z) = smax q k (i * 128 + t.val) := by
  rw [maxOp_apply]
  simp only [head_score he hmask hsel hQ hK]
  exact max_window i t.val t.isLt (score q k)

/-- A weight. -/
theorem head_weight (he : e < 2) (hmask : ∀ c, mask (ix2 t c) = 1#1 ↔ inWin i t.val c.val) (hsel : ∀ j, sel (ix2 t j) = 1#1 ↔ j.val / 64 = e)
    (hQ : ∀ d : Fin 64, Q (ix2 t ⟨e * 64 + d.val, by omega⟩) = q d.val)
    (hK : ∀ (c : Fin 256) (d : Fin 64), inWin i t.val c.val → Ks (ix2 c ⟨e * 64 + d.val, by omega⟩) = k (128 + t.val - c.val) d.val) (c : Fin 256) :
    weightOp mask (scoreOp mask sel ⊥ Q Ks) (ix2 t c)
      = if inWin i t.val c.val then Ideal.exp (score q k (128 + t.val - c.val) - smax q k (i * 128 + t.val)) else 0 := by
  rw [weightOp_apply, head_max he hmask hsel hQ hK, head_score he hmask hsel hQ hK]
  by_cases hw : inWin i t.val c.val
  · rw [if_pos ((hmask c).mpr hw), if_pos hw, if_pos hw]
  · rw [if_neg fun h => hw ((hmask c).mp h), if_neg hw]

/-- The row's sum of weights. -/
theorem head_denom (he : e < 2) (hmask : ∀ c, mask (ix2 t c) = 1#1 ↔ inWin i t.val c.val) (hsel : ∀ j, sel (ix2 t j) = 1#1 ↔ j.val / 64 = e)
    (hQ : ∀ d : Fin 64, Q (ix2 t ⟨e * 64 + d.val, by omega⟩) = q d.val)
    (hK : ∀ (c : Fin 256) (d : Fin 64), inWin i t.val c.val → Ks (ix2 c ⟨e * 64 + d.val, by omega⟩) = k (128 + t.val - c.val) d.val) (z : Fin 1) :
    denomOp mask (scoreOp mask sel ⊥ Q Ks) (ix2 t z) = denom q k (i * 128 + t.val) := by
  rw [denomOp_apply]
  simp only [head_weight he hmask hsel hQ hK]
  exact sum_window i t.val t.isLt fun m => Ideal.exp (score q k m - smax q k (i * 128 + t.val))

/-- The row's weighted values, at a lane of the head. -/
theorem head_mix (he : e < 2) (hmask : ∀ c, mask (ix2 t c) = 1#1 ↔ inWin i t.val c.val) (hsel : ∀ j, sel (ix2 t j) = 1#1 ↔ j.val / 64 = e)
    (hQ : ∀ d : Fin 64, Q (ix2 t ⟨e * 64 + d.val, by omega⟩) = q d.val)
    (hK : ∀ (c : Fin 256) (d : Fin 64), inWin i t.val c.val → Ks (ix2 c ⟨e * 64 + d.val, by omega⟩) = k (128 + t.val - c.val) d.val)
    (d : ℕ) (j : Fin 128) (hV : ∀ c : Fin 256, inWin i t.val c.val → Vs (ix2 c j) = v (128 + t.val - c.val) d) :
    mixOp mask (scoreOp mask sel ⊥ Q Ks) Vs (ix2 t j) = mix q k v (i * 128 + t.val) d := by
  rw [mixOp_apply]
  simp only [head_weight he hmask hsel hQ hK]
  have h := sum_window i t.val t.isLt fun m => Ideal.exp (score q k m - smax q k (i * 128 + t.val)) * v m d
  refine Eq.trans (Finset.sum_congr rfl fun c _ => ?_) (h.trans (Finset.sum_congr rfl fun m _ => ?_))
  · by_cases hw : inWin i t.val c.val
    · rw [if_pos hw, if_pos hw, hV c hw]
    · rw [if_neg hw, if_neg hw, zero_mul]
  · unfold weight
    rw [ite_mul, zero_mul]

end Head

end Cert.Dil

end
-- ==== Proof.DilTile.lean ====
/-
  One tile of the dilated attention: 128 queries of eight heads against 256 keys, at the ideal values. A tile's inputs
  are given as functions of the row within the residue's sequence and of the column; the tile's two outputs are then
  the attention and its statistics of those functions.
-/
module

public import proofs.«01_k».proof.Proof.DilBlock

@[expose] public section

noncomputable section

namespace Cert.Dil

open Idealize.ShloMosaic

/-! ## Reshaped matrices -/

/-- A matrix reshaped to another matrix, read at natural-number coordinates: the element with the same row-major place. -/
theorem at2_reshape {α : Type} {a b a' b' : ℕ} [NeZero a] [NeZero b] [NeZero a'] [NeZero b'] (X : (⟨2, ![a, b]⟩ : Shape).Idx → α)
    (h : (⟨2, ![a, b]⟩ : Shape).ShapeCasts ⟨2, ![a', b']⟩) (hn : a' * b' = a * b) (i : (⟨2, ![a', b']⟩ : Shape).Idx) :
    shapeCast ⟨2, ![a', b']⟩ X h i = at2 X (((i 0).val * b' + (i 1).val) / b) (((i 0).val * b' + (i 1).val) % b) := by
  have h0 : (i 0).val < a' := (i 0).isLt
  have h1 : (i 1).val < b' := (i 1).isLt
  have hb : 0 < b := Nat.pos_of_ne_zero (NeZero.ne b)
  have hlt : (i 0).val * b' + (i 1).val < a * b := by
    rw [← hn]
    calc (i 0).val * b' + (i 1).val < (i 0).val * b' + b' := by omega
      _ = ((i 0).val + 1) * b' := by ring
      _ ≤ a' * b' := Nat.mul_le_mul_right _ h0
  have hr : ((i 0).val * b' + (i 1).val) / b < a := Nat.div_lt_of_lt_mul (by rw [Nat.mul_comm b a]; exact hlt)
  refine (shapeCast_apply X h i (ix2 ⟨_, hr⟩ ⟨_, Nat.mod_lt _ hb⟩) ?_).trans (at2_of X _ _ _ rfl rfl)
  rw [rowMajor_val2 _ b rfl, rowMajor_val2 _ b' rfl]
  show ((i 0).val * b' + (i 1).val) / b * b + ((i 0).val * b' + (i 1).val) % b = _
  rw [Nat.mul_comm]; exact Nat.div_add_mod _ _

/-! ## The mathematics of a tile -/

/-- The query rows of sequence `b` at residue `r`, in steps of the dilation. -/
def rowsQ (dil : ℕ) (X : (⟨2, ![16384, 512]⟩ : Shape).Idx → EReal) (b r : ℕ) : ℕ → ℕ → EReal :=
  fun u c => at2 X (b * 8192 + u * dil + r) c

/-- The key rows of sequence `b` at residue `r`. -/
def rowsK (dil : ℕ) (X : (⟨2, ![16384, 1024]⟩ : Shape).Idx → EReal) (b r : ℕ) : ℕ → ℕ → EReal :=
  fun u c => at2 X (b * 8192 + u * dil + r) c

/-- The value rows of sequence `b` at residue `r`. -/
def rowsV (dil : ℕ) (X : (⟨2, ![16384, 1024]⟩ : Shape).Idx → EReal) (b r : ℕ) : ℕ → ℕ → EReal :=
  fun u c => at2 X (b * 8192 + u * dil + r) (512 + c)

/-- The attention's value at row `u` and column `c` (head `c / 64`, component `c % 64`). -/
def attnAt (Q K V : ℕ → ℕ → EReal) (u c : ℕ) : EReal :=
  mix (fun d => Q u (c / 64 * 64 + d)) (fun m d => K (u - m) (c / 64 * 64 + d)) (fun m d => V (u - m) (c / 64 * 64 + d)) u (c % 64)

/-- The largest score of head `h` at row `u`. -/
def maxAt (Q K : ℕ → ℕ → EReal) (u h : ℕ) : EReal :=
  smax (fun d => Q u (h * 64 + d)) (fun m d => K (u - m) (h * 64 + d)) u

/-- The sum of the weights of head `h` at row `u`. -/
def denomAt (Q K : ℕ → ℕ → EReal) (u h : ℕ) : EReal :=
  denom (fun d => Q u (h * 64 + d)) (fun m d => K (u - m) (h * 64 + d)) u

/-- The statistics' lane `j` at row `u`: eight maxima, eight sums, then zeros. -/
def statAt (Q K : ℕ → ℕ → EReal) (u j : ℕ) : EReal :=
  if j < 8 then maxAt Q K u j else if j < 16 then denomAt Q K u (j - 8) else 0

/-- The attention at row `R` and column `C` of the result whose rows hold `dil` tokens side by side. -/
def attnRes (dil : ℕ) (Xq : (⟨2, ![16384, 512]⟩ : Shape).Idx → EReal) (Xr : (⟨2, ![16384, 1024]⟩ : Shape).Idx → EReal) (R C : ℕ) : EReal :=
  attnAt (rowsQ dil Xq (R / (8192 / dil)) (C / 512)) (rowsK dil Xr (R / (8192 / dil)) (C / 512)) (rowsV dil Xr (R / (8192 / dil)) (C / 512))
    (R % (8192 / dil)) (C % 512)

/-- The statistics at row `R` and column `C` of the result whose rows hold `dil` tokens side by side. -/
def statRes (dil : ℕ) (Xq : (⟨2, ![16384, 512]⟩ : Shape).Idx → EReal) (Xr : (⟨2, ![16384, 1024]⟩ : Shape).Idx → EReal) (R C : ℕ) : EReal :=
  statAt (rowsQ dil Xq (R / (8192 / dil)) (C / 128)) (rowsK dil Xr (R / (8192 / dil)) (C / 128)) (R % (8192 / dil)) (C % 128)

/-- A tile's blocks hold rows `n · 128 …` of the three sequences, and the preceding rows' blocks where there are any. -/
structure Tile (n : ℕ) (Q K V : ℕ → ℕ → EReal) (x0 : FVec Ideal R512 .bf16) (x1 x2 x3 x4 : FVec Ideal R512 .f32) : Prop where
  small : n < 1024
  q : ∀ (t : Fin 128) (c : Fin 512), x0 (ix2 t c) = Q (n * 128 + t.val) c.val
  kp : 0 < n → ∀ (t : Fin 128) (c : Fin 512), x1 (ix2 t c) = K ((n - 1) * 128 + t.val) c.val
  vp : 0 < n → ∀ (t : Fin 128) (c : Fin 512), x2 (ix2 t c) = V ((n - 1) * 128 + t.val) c.val
  kc : ∀ (t : Fin 128) (c : Fin 512), x3 (ix2 t c) = K (n * 128 + t.val) c.val
  vc : ∀ (t : Fin 128) (c : Fin 512), x4 (ix2 t c) = V (n * 128 + t.val) c.val

/-! ## The tile's operations -/

/-- The lanes of one pair of heads. -/
def pairOf (o : ℕ) (ho : K512.Slices ![0, o] K128) (K : FVec Ideal K512 .bf16) : FVec Ideal K128 .bf16 :=
  extractStridedSlice K128 ![0, o] K ho

/-- Scores of a pair's first head. -/
def scoreLo (mask : IVec T256 1) (bot : EReal) (Q : FVec Ideal T128 .bf16) (K : FVec Ideal K512 .bf16) (o : ℕ)
    (ho : K512.Slices ![0, o] K128) : FVec Ideal T256 .f32 := scoreOp mask lowOp bot Q (pairOf o ho K)

/-- Scores of a pair's second head. -/
def scoreHi (mask : IVec T256 1) (bot : EReal) (Q : FVec Ideal T128 .bf16) (K : FVec Ideal K512 .bf16) (o : ℕ)
    (ho : K512.Slices ![0, o] K128) : FVec Ideal T256 .f32 := scoreOp mask highOp bot Q (pairOf o ho K)

/-- A pair's 128 lanes of the attention. -/
def pairOp (mask : IVec T256 1) (bot : EReal) (Q : FVec Ideal T128 .bf16) (K V : FVec Ideal K512 .bf16) (o : ℕ)
    (ho : K512.Slices ![0, o] K128) : FVec Ideal T128 .f32 :=
  select lowOp (mixOp mask (scoreLo mask bot Q K o ho) (pairOf o ho V)) (mixOp mask (scoreHi mask bot Q K o ho) (pairOf o ho V))

/-- The statistics' lanes of one pair, over the other lanes. -/
def pairStats (h0 h1 h8 h9 : BitVec 32) (mask : IVec T256 1) (bot : EReal) (Q : FVec Ideal T128 .bf16) (K : FVec Ideal K512 .bf16) (o : ℕ)
    (ho : K512.Slices ![0, o] K128) (prev : FVec Ideal T128 .f32) : FVec Ideal T128 .f32 :=
  statOp h1 h9 (maxOp (scoreHi mask bot Q K o ho)) (denomOp mask (scoreHi mask bot Q K o ho))
    (statOp h0 h8 (maxOp (scoreLo mask bot Q K o ho)) (denomOp mask (scoreLo mask bot Q K o ho)) prev)

/-- Pair 0 of heads lies within the keys' lanes. -/
theorem slices0 : K512.Slices ![0, 0] K128 := by decide
/-- Pair 1 of heads lies within the keys' lanes. -/
theorem slices1 : K512.Slices ![0, 128] K128 := by decide
/-- Pair 2 of heads lies within the keys' lanes. -/
theorem slices2 : K512.Slices ![0, 256] K128 := by decide
/-- Pair 3 of heads lies within the keys' lanes. -/
theorem slices3 : K512.Slices ![0, 384] K128 := by decide

/-- The statistics of the four pairs. -/
def statsOp (mask : IVec T256 1) (bot : EReal) (Q0 Q1 Q2 Q3 : FVec Ideal T128 .bf16) (K : FVec Ideal K512 .bf16) : FVec Ideal T128 .f32 :=
  pairStats 6#32 7#32 14#32 15#32 mask bot Q3 K 384 slices3
    (pairStats 4#32 5#32 12#32 13#32 mask bot Q2 K 256 slices2
      (pairStats 2#32 3#32 10#32 11#32 mask bot Q1 K 128 slices1
        (pairStats 0#32 1#32 8#32 9#32 mask bot Q0 K 0 slices0
          (broadcast T128 (Scalar.ofBits (F := Ideal) .f32 0x00000000#32)))))

/-! ## Four stores side by side -/

/-- Pair 0 of heads lies within the tile's lanes. -/
theorem lanes0 : ∀ a, (![0, 0] : Fin 2 → Nat) a + T128.size a ≤ R512.size a := by decide
/-- Pair 1 of heads lies within the tile's lanes. -/
theorem lanes1 : ∀ a, (![0, 128] : Fin 2 → Nat) a + T128.size a ≤ R512.size a := by decide
/-- Pair 2 of heads lies within the tile's lanes. -/
theorem lanes2 : ∀ a, (![0, 256] : Fin 2 → Nat) a + T128.size a ≤ R512.size a := by decide
/-- Pair 3 of heads lies within the tile's lanes. -/
theorem lanes3 : ∀ a, (![0, 384] : Fin 2 → Nat) a + T128.size a ≤ R512.size a := by decide

/-- A store of 128 lanes at lane `o`, read at one of its lanes. -/
theorem lane_hit (o : ℕ) (h : ∀ a, (![0, o] : Fin 2 → Nat) a + T128.size a ≤ R512.size a) (w : T128.Idx → Elt Ideal .f32)
    (L : List (View.Piece (Elt Ideal) R512 .f32)) (a : Fin 128) (c : Fin 512) (j : Fin 128) (hj : c.val = o + j.val) :
    View.canon (⟨Rect.unit (s := R512) ![0, o] T128.size h, w⟩ :: L) (ix2 a c) = w (ix2 a j) := by
  have e : ix2 a c = (Rect.unit (s := R512) ![0, o] T128.size h).emb (ix2 a j) := by
    funext z
    apply Fin.ext
    match z with
    | ⟨0, _⟩ => show a.val = 0 + 1 * a.val; omega
    | ⟨1, _⟩ => show c.val = o + 1 * j.val; omega
  rw [e]
  exact View.canon_cons_emb _ _ _ _

/-- Read at a lane before it, the earlier stores show. -/
theorem lane_miss (o : ℕ) (h : ∀ a, (![0, o] : Fin 2 → Nat) a + T128.size a ≤ R512.size a) (w : T128.Idx → Elt Ideal .f32)
    (L : List (View.Piece (Elt Ideal) R512 .f32)) (a : Fin 128) (c : Fin 512) (hc : c.val < o) :
    View.canon (⟨Rect.unit (s := R512) ![0, o] T128.size h, w⟩ :: L) (ix2 a c) = View.canon L (ix2 a c) := by
  refine View.canon_cons_of_not_mem _ _ fun hm => ?_
  rw [Rect.mem_set_unit] at hm
  have : o ≤ c.val := (hm 1).1
  omega

/-- The four stores of 128 lanes, read at a lane. -/
theorem lanes_apply (w0 w1 w2 w3 : T128.Idx → Elt Ideal .f32) (a : Fin 128) (c : Fin 512) (G : ℕ → EReal)
    (h0 : ∀ j : Fin 128, w0 (ix2 a j) = G (0 * 128 + j.val)) (h1 : ∀ j : Fin 128, w1 (ix2 a j) = G (1 * 128 + j.val))
    (h2 : ∀ j : Fin 128, w2 (ix2 a j) = G (2 * 128 + j.val)) (h3 : ∀ j : Fin 128, w3 (ix2 a j) = G (3 * 128 + j.val)) :
    View.canon [⟨Rect.unit (s := R512) ![0, 384] T128.size lanes3, w3⟩, ⟨Rect.unit (s := R512) ![0, 256] T128.size lanes2, w2⟩,
      ⟨Rect.unit (s := R512) ![0, 128] T128.size lanes1, w1⟩, ⟨Rect.unit (s := R512) ![0, 0] T128.size lanes0, w0⟩] (ix2 a c) = G c.val := by
  have hc := c.isLt
  by_cases c3 : 384 ≤ c.val
  · refine (lane_hit 384 lanes3 w3 _ a c ⟨c.val - 384, by omega⟩ (by show c.val = 384 + (c.val - 384); omega)).trans ((h3 _).trans (congrArg G ?_))
    show 3 * 128 + (c.val - 384) = c.val; omega
  refine (lane_miss 384 lanes3 w3 _ a c (by omega)).trans ?_
  by_cases c2 : 256 ≤ c.val
  · refine (lane_hit 256 lanes2 w2 _ a c ⟨c.val - 256, by omega⟩ (by show c.val = 256 + (c.val - 256); omega)).trans ((h2 _).trans (congrArg G ?_))
    show 2 * 128 + (c.val - 256) = c.val; omega
  refine (lane_miss 256 lanes2 w2 _ a c (by omega)).trans ?_
  by_cases c1 : 128 ≤ c.val
  · refine (lane_hit 128 lanes1 w1 _ a c ⟨c.val - 128, by omega⟩ (by show c.val = 128 + (c.val - 128); omega)).trans ((h1 _).trans (congrArg G ?_))
    show 1 * 128 + (c.val - 128) = c.val; omega
  refine (lane_miss 128 lanes1 w1 _ a c (by omega)).trans ?_
  refine (lane_hit 0 lanes0 w0 _ a c ⟨c.val, by omega⟩ (by show c.val = 0 + c.val; omega)).trans ((h0 _).trans (congrArg G ?_))
  show 0 * 128 + c.val = c.val; omega

/-! ## Their values -/

/-- The keys of a pair of heads, read. -/
theorem pairOf_apply (o : ℕ) (ho : K512.Slices ![0, o] K128) (hl : o + 128 ≤ 512) (K : FVec Ideal K512 .bf16) (c : Fin 256) (j : Fin 128) :
    pairOf o ho K (ix2 c j) = K (ix2 c ⟨o + j.val, by omega⟩) := by
  pointwise [pairOf]

section Values

variable {n : ℕ} {Q K V : ℕ → ℕ → EReal} {x0 : FVec Ideal R512 .bf16} {x1 x2 x3 x4 : FVec Ideal R512 .f32}

/-- The keys beside a row, in the window, are the sequence's rows at their distances. -/
theorem Tile.cat {n : ℕ} {G : ℕ → ℕ → EReal} {a b : FVec Ideal R512 .f32}
    (ha : 0 < n → ∀ (t : Fin 128) (c : Fin 512), a (ix2 t c) = G ((n - 1) * 128 + t.val) c.val)
    (hb : ∀ (t : Fin 128) (c : Fin 512), b (ix2 t c) = G (n * 128 + t.val) c.val)
    (t : Fin 128) (c : Fin 256) (j : Fin 512) (hw : inWin n t.val c.val) :
    catOp a b (ix2 c j) = G (n * 128 + t.val - (128 + t.val - c.val)) j.val := by
  obtain ⟨h1, h2, h3⟩ := hw
  rw [catOp_apply]
  by_cases hc : c.val < 128
  · have hn : 0 < n := by omega
    rw [dif_pos hc, ha hn]
    congr 1
    show (n - 1) * 128 + c.val = _
    obtain ⟨k, rfl⟩ : ∃ k, n = k + 1 := ⟨n - 1, by omega⟩
    rw [Nat.add_sub_cancel]; omega
  · rw [dif_neg hc, hb]
    congr 1
    show n * 128 + (c.val - 128) = _
    omega

variable (T : Tile n Q K V x0 x1 x2 x3 x4) {p : ℕ} (hp : p < 4) (ho : K512.Slices ![0, p * 128] K128) (Qp : FVec Ideal T128 .bf16)
  (hQp : ∀ (t j : Fin 128) (h : p * 128 + j.val < 512), Qp (ix2 t j) = x0 (ix2 t ⟨p * 128 + j.val, h⟩))

include T hp hQp

/-- The pair's query lanes of one head. -/
theorem Tile.query (t : Fin 128) (e : ℕ) (he : e < 2) (d : Fin 64) :
    Qp (ix2 t ⟨e * 64 + d.val, by omega⟩) = Q (n * 128 + t.val) ((2 * p + e) * 64 + d.val) := by
  rw [hQp t _ (by show p * 128 + (e * 64 + d.val) < 512; omega), T.q]
  congr 1
  show p * 128 + (e * 64 + d.val) = _
  omega

/-- The pair's key lanes of one head. -/
theorem Tile.key (t : Fin 128) (e : ℕ) (he : e < 2) (c : Fin 256) (d : Fin 64) (hw : inWin n t.val c.val) :
    pairOf (p * 128) ho (catOp x1 x3) (ix2 c ⟨e * 64 + d.val, by omega⟩)
      = K (n * 128 + t.val - (128 + t.val - c.val)) ((2 * p + e) * 64 + d.val) := by
  rw [pairOf_apply _ _ (by omega), Tile.cat T.kp T.kc t c _ hw]
  congr 1
  show p * 128 + (e * 64 + d.val) = _
  omega

/-- A pair's attention. -/
theorem Tile.pair_apply (t j : Fin 128) :
    pairOp (maskOp (BitVec.ofNat 32 n)) ⊥ Qp (catOp x1 x3) (catOp x2 x4) (p * 128) ho (ix2 t j)
      = attnAt Q K V (n * 128 + t.val) (p * 128 + j.val) := by
  have hv (e : ℕ) (he : j.val / 64 = e) (c : Fin 256) (hw : inWin n t.val c.val) :
      pairOf (p * 128) ho (catOp x2 x4) (ix2 c j)
        = (fun m d => V (n * 128 + t.val - m) ((2 * p + e) * 64 + d)) (128 + t.val - c.val) (j.val % 64) := by
    rw [pairOf_apply _ _ (by omega), Tile.cat T.vp T.vc t c _ hw]
    congr 1
    show p * 128 + j.val = _
    omega
  have key (e : ℕ) (he : j.val / 64 = e) : mix (fun d => Q (n * 128 + t.val) ((2 * p + e) * 64 + d)) (fun m d => K (n * 128 + t.val - m) ((2 * p + e) * 64 + d))
      (fun m d => V (n * 128 + t.val - m) ((2 * p + e) * 64 + d)) (n * 128 + t.val) (j.val % 64) = attnAt Q K V (n * 128 + t.val) (p * 128 + j.val) := by
    unfold attnAt
    rw [show (p * 128 + j.val) / 64 = 2 * p + e by omega, show (p * 128 + j.val) % 64 = j.val % 64 by omega]
  show (if lowOp (ix2 t j) = 1#1 then _ else _) = _
  have hj := j.isLt
  by_cases h0 : j.val / 64 = 0
  · rw [if_pos ((lowOp_apply t j).mpr h0), ← key 0 h0]
    exact head_mix (e := 0) (by omega) (maskOp_apply n T.small t) (lowOp_apply t) (T.query hp Qp hQp t 0 (by omega))
      (T.key hp ho Qp hQp t 0 (by omega)) (j.val % 64) j (hv 0 h0)
  · have h1 : j.val / 64 = 1 := by omega
    rw [if_neg fun h => h0 ((lowOp_apply t j).mp h), ← key 1 h1]
    exact head_mix (e := 1) (by omega) (maskOp_apply n T.small t) (highOp_apply t) (T.query hp Qp hQp t 1 (by omega))
      (T.key hp ho Qp hQp t 1 (by omega)) (j.val % 64) j (hv 1 h1)

/-- A pair's statistics. -/
theorem Tile.stats_apply (prev : FVec Ideal T128 .f32) (t j : Fin 128) :
    pairStats (BitVec.ofNat 32 (2 * p)) (BitVec.ofNat 32 (2 * p + 1)) (BitVec.ofNat 32 (8 + 2 * p)) (BitVec.ofNat 32 (8 + 2 * p + 1))
        (maskOp (BitVec.ofNat 32 n)) ⊥ Qp (catOp x1 x3) (p * 128) ho prev (ix2 t j)
      = if j.val / 2 = p then maxAt Q K (n * 128 + t.val) j.val
        else if j.val / 2 = 4 + p then denomAt Q K (n * 128 + t.val) (j.val - 8) else prev (ix2 t j) := by
  unfold pairStats
  rw [statOp_apply _ _ (by omega) (by omega), statOp_apply _ _ (by omega) (by omega)]
  unfold scoreHi scoreLo
  have hM (e : ℕ) (he : e < 2) (sel : IVec T128 1) (hs : ∀ j, sel (ix2 t j) = 1#1 ↔ j.val / 64 = e) :
      maxOp (scoreOp (maskOp (BitVec.ofNat 32 n)) sel ⊥ Qp (pairOf (p * 128) ho (catOp x1 x3))) (ix2 t 0) = maxAt Q K (n * 128 + t.val) (2 * p + e) :=
    head_max (q := fun d => Q (n * 128 + t.val) ((2 * p + e) * 64 + d)) (k := fun m d => K (n * 128 + t.val - m) ((2 * p + e) * 64 + d)) he
      (maskOp_apply n T.small t) hs (T.query hp Qp hQp t e he) (T.key hp ho Qp hQp t e he) 0
  have hD (e : ℕ) (he : e < 2) (sel : IVec T128 1) (hs : ∀ j, sel (ix2 t j) = 1#1 ↔ j.val / 64 = e) :
      denomOp (maskOp (BitVec.ofNat 32 n)) (scoreOp (maskOp (BitVec.ofNat 32 n)) sel ⊥ Qp (pairOf (p * 128) ho (catOp x1 x3))) (ix2 t 0)
        = denomAt Q K (n * 128 + t.val) (2 * p + e) :=
    head_denom (q := fun d => Q (n * 128 + t.val) ((2 * p + e) * 64 + d)) (k := fun m d => K (n * 128 + t.val - m) ((2 * p + e) * 64 + d)) he
      (maskOp_apply n T.small t) hs (T.query hp Qp hQp t e he) (T.key hp ho Qp hQp t e he) 0
  rw [hM 1 (by omega) highOp (highOp_apply t), hM 0 (by omega) lowOp (lowOp_apply t), hD 1 (by omega) highOp (highOp_apply t),
    hD 0 (by omega) lowOp (lowOp_apply t)]
  by_cases h1 : j.val = 2 * p + 1
  · rw [if_pos h1, if_pos (by omega), h1]
  rw [if_neg h1]
  by_cases h2 : j.val = 8 + 2 * p + 1
  · rw [if_pos h2, if_neg (by omega), if_pos (by omega), show j.val - 8 = 2 * p + 1 by omega]
  rw [if_neg h2]
  by_cases h3 : j.val = 2 * p
  · rw [if_pos h3, if_pos (by omega), h3, Nat.add_zero]
  rw [if_neg h3]
  by_cases h4 : j.val = 8 + 2 * p
  · rw [if_pos h4, if_neg (by omega), if_pos (by omega), show j.val - 8 = 2 * p + 0 by omega]
  rw [if_neg h4, if_neg (by omega), if_neg (by omega)]

end Values

/-- The tile's statistics. -/
theorem Tile.statsOp_apply {n : ℕ} {Q K V : ℕ → ℕ → EReal} {x0 : FVec Ideal R512 .bf16} {x1 x2 x3 x4 : FVec Ideal R512 .f32}
    (T : Tile n Q K V x0 x1 x2 x3 x4) (Q0 Q1 Q2 Q3 : FVec Ideal T128 .bf16)
    (h0 : ∀ (t j : Fin 128) (h : 0 * 128 + j.val < 512), Q0 (ix2 t j) = x0 (ix2 t ⟨0 * 128 + j.val, h⟩))
    (h1 : ∀ (t j : Fin 128) (h : 1 * 128 + j.val < 512), Q1 (ix2 t j) = x0 (ix2 t ⟨1 * 128 + j.val, h⟩))
    (h2 : ∀ (t j : Fin 128) (h : 2 * 128 + j.val < 512), Q2 (ix2 t j) = x0 (ix2 t ⟨2 * 128 + j.val, h⟩))
    (h3 : ∀ (t j : Fin 128) (h : 3 * 128 + j.val < 512), Q3 (ix2 t j) = x0 (ix2 t ⟨3 * 128 + j.val, h⟩)) (t j : Fin 128) :
    statsOp (maskOp (BitVec.ofNat 32 n)) ⊥ Q0 Q1 Q2 Q3 (catOp x1 x3) (ix2 t j) = statAt Q K (n * 128 + t.val) j.val := by
  have hj := j.isLt
  unfold statsOp
  refine (T.stats_apply (p := 3) (by omega) slices3 Q3 h3 _ t j).trans ?_
  rw [T.stats_apply (p := 2) (by omega) slices2 Q2 h2 _ t j, T.stats_apply (p := 1) (by omega) slices1 Q1 h1 _ t j,
    T.stats_apply (p := 0) (by omega) slices0 Q0 h0 _ t j]
  have hz : (broadcast T128 (Scalar.ofBits (F := Ideal) .f32 0x00000000#32) : FVec Ideal T128 .f32) (ix2 t j) = 0 := by pointwise []
  rw [hz]
  unfold statAt
  by_cases a : j.val < 8
  · rw [if_pos a]
    split_ifs <;> first | rfl | omega
  rw [if_neg a]
  by_cases b : j.val < 16
  · rw [if_pos b]
    split_ifs <;> first | rfl | omega
  rw [if_neg b]
  split_ifs <;> first | rfl | omega

end Cert.Dil

end
-- ==== Proof.DilHost.lean ====
module

public import proofs.«01_k».proof.Proof.DilTile
public import Idealize.ShloMosaic.Lib.Tactic.WordOmega

@[expose] public section

noncomputable section

/-! The host operations of the reference that act on whole axes: the gather of one earlier token
per distance, the maximum over the distances, and the join of the statistics. -/

namespace Cert.Dil

open Idealize.ShloMosaic

/-- The shape of the keys or values: batch, token, head, feature. -/
abbrev Tok : Shape := ⟨4, ![2, 8192, 8, 64]⟩
/-- The shape of the token numbers to read: token, distance. -/
abbrev Pick : Shape := ⟨3, ![8192, 129, 1]⟩
/-- The shape of the gathered rows: batch, token, distance, head, feature. -/
abbrev Rows : Shape := ⟨5, ![2, 8192, 129, 8, 64]⟩

/-- The gather's dimension numbers: one token per start index, all of the other axes. -/
abbrev pickDims (wf : GatherDims.WF Tok Pick Rows [0, 3, 4] [1] [] [1] [] 2 ![2, 1, 8, 64]) :
    GatherDims Tok Pick Rows where
  offsetDims := [0, 3, 4]
  collapsedSliceDims := [1]
  operandBatchingDims := []
  startIndicesBatchingDims := []
  startIndexMap := [1]
  indexVectorDim := 2
  sliceSizes := ![2, 1, 8, 64]
  wf := wf

/-- The gathered row is the row at the start index, read signed and clamped to the last token. -/
theorem pick_apply (wf : GatherDims.WF Tok Pick Rows [0, 3, 4] [1] [] [1] [] 2 ![2, 1, 8, 64])
    (x : FVec Ideal Tok .f32) (idx : IVec Pick 32) (b : Fin 2) (t : Fin 8192) (m : Fin 129) (h : Fin 8) (d : Fin 64)
    (p : Fin 8192) (hp : (idx (ix3 t m 0)).toInt.toNat = p.val) :
    Host.gather (pickDims wf) x idx (ix5 b t m h d) = x (ix4 b p h d) := by
  unfold Host.gather
  congr 1
  funext a
  refine Fin.ext ?_
  show (pickDims wf).start (ix5 b t m h d) idx a + (pickDims wf).batchCoord (ix5 b t m h d) a
      + (pickDims wf).offCoord (ix5 b t m h d) a = _
  rw [GatherDims.batchCoord_eq_zero _ _ _ List.not_mem_nil]
  match a with
  | ⟨0, hk⟩ =>
    have hn : ¬(⟨0, hk⟩ : Fin Tok.rank) ∈ (pickDims wf).startIndexMap :=
      (by decide : ¬(0 : Fin 4) ∈ ([1] : List (Fin 4)))
    unfold GatherDims.start GatherDims.offCoord
    rw [dif_neg hn, dif_pos ((GatherDims.mem_sKept (pickDims wf) _).mpr ⟨hn, List.not_mem_nil⟩)]
    simp only [Nat.zero_add]
    rfl
  | ⟨2, hk⟩ =>
    have hn : ¬(⟨2, hk⟩ : Fin Tok.rank) ∈ (pickDims wf).startIndexMap :=
      (by decide : ¬(2 : Fin 4) ∈ ([1] : List (Fin 4)))
    unfold GatherDims.start GatherDims.offCoord
    rw [dif_neg hn, dif_pos ((GatherDims.mem_sKept (pickDims wf) _).mpr ⟨hn, List.not_mem_nil⟩)]
    simp only [Nat.zero_add]
    rfl
  | ⟨3, hk⟩ =>
    have hn : ¬(⟨3, hk⟩ : Fin Tok.rank) ∈ (pickDims wf).startIndexMap :=
      (by decide : ¬(3 : Fin 4) ∈ ([1] : List (Fin 4)))
    unfold GatherDims.start GatherDims.offCoord
    rw [dif_neg hn, dif_pos ((GatherDims.mem_sKept (pickDims wf) _).mpr ⟨hn, List.not_mem_nil⟩)]
    simp only [Nat.zero_add]
    rfl
  | ⟨1, h1⟩ =>
    rw [GatherDims.offCoord_eq_zero _ _ _ (fun h => ((GatherDims.mem_sKept _ _).mp h).1 (List.mem_singleton.mpr rfl))]
    unfold GatherDims.start
    rw [dif_pos (show (⟨1, h1⟩ : Fin 4) ∈ (pickDims wf).startIndexMap from List.mem_singleton.mpr rfl)]
    have hsi : (pickDims wf).siIdx (ix5 b t m h d) ⟨List.idxOf (⟨1, h1⟩ : Fin 4) (pickDims wf).startIndexMap,
        List.idxOf_lt_length_iff.2 (List.mem_singleton.mpr rfl)⟩ = ix3 t m 0 := by
      funext b; refine Fin.ext ?_
      match b with
      | ⟨0, _⟩ => rfl
      | ⟨1, _⟩ => rfl
      | ⟨2, _⟩ => rfl
    rw [hsi, hp]
    show min p.val 8191 + 0 + 0 = p.val
    have := p.isLt
    omega

/-- The maximum over the last axis, from a start value. -/
theorem lastMax_apply (x : FVec Ideal ⟨4, ![2, 8192, 8, 129]⟩ .f32) (z : FVec Ideal ⟨0, ![]⟩ .f32)
    (hr : Shape.ReducesTo ⟨4, ![2, 8192, 8, 129]⟩ [3] ⟨3, ![2, 8192, 8]⟩) (hu : 0 < (⟨0, ![]⟩ : Shape).numel)
    (hz : z (Shape.Idx.first hu) = ⊥) (b : Fin 2) (t : Fin 8192) (h : Fin 8) :
    Host.reduce FloatOps.maximumf x z hr hu (ix3 b t h)
      = (Finset.univ : Finset (Fin 129)).fold max ⊥ fun m => x (ix4 b t h m) := by
  rw [← hz]
  pointwise

/-- The statistics of a token: its eight maxima, its eight denominators, then zeros. -/
theorem join_apply (x y : FVec Ideal ⟨3, ![2, 8192, 8]⟩ .f32) (z : FVec Ideal ⟨3, ![2, 8192, 112]⟩ .f32)
    (hc : Shape.Concatenates [⟨3, ![2, 8192, 8]⟩, ⟨3, ![2, 8192, 8]⟩, ⟨3, ![2, 8192, 112]⟩] ⟨3, ![2, 8192, 128]⟩ 2)
    (b : Fin 2) (t : Fin 8192) (j : Fin 128) :
    concatenate ⟨3, ![2, 8192, 128]⟩ 2 [⟨_, x⟩, ⟨_, y⟩, ⟨_, z⟩] hc (ix3 b t j)
      = if h : j.val < 8 then x (ix3 b t ⟨j.val, h⟩)
        else if h' : j.val - 8 < 8 then y (ix3 b t ⟨j.val - 8, h'⟩)
        else z (ix3 b t ⟨j.val - 8 - 8, by omega⟩) := by
  pointwise

/-! ## Token numbers as words -/

/-- The product of a dilation and a distance, as a word. -/
theorem stride_word (dil m : ℕ) : IntOp.muli (BitVec.ofNat 32 dil) (BitVec.ofNat 32 m) = BitVec.ofNat 32 (dil * m) := by
  simp only [IntOp.muli, BitVec.ofNat_mul]

/-- The difference of two numbers in order, as a word. -/
theorem back_word {t n : ℕ} (h : n ≤ t) (ht : t < 8192) :
    IntOp.subi (BitVec.ofNat 32 t) (BitVec.ofNat 32 n) = BitVec.ofNat 32 (t - n) := by
  refine BitVec.eq_of_toNat_eq ?_
  simp only [IntOp.subi, BitVec.toNat_sub, BitVec.toNat_ofNat]
  omega

/-- The difference of two numbers out of order, as a word. -/
theorem wrap_word {t n : ℕ} (h : t < n) (hn : n < 8192) :
    IntOp.subi (BitVec.ofNat 32 t) (BitVec.ofNat 32 n) = BitVec.ofNat 32 (4294967296 + t - n) := by
  refine BitVec.eq_of_toNat_eq ?_
  simp only [IntOp.subi, BitVec.toNat_sub, BitVec.toNat_ofNat]
  omega

/-- The mask bit: whether the token before by `n` is there. -/
theorem back_mask {t n : ℕ} (ht : t < 8192) (hn : n < 8192) :
    IntOp.cmpi .sge (IntOp.subi (BitVec.ofNat 32 t) (BitVec.ofNat 32 n)) 0#32 = if n ≤ t then 1#1 else 0#1 := by
  by_cases h : n ≤ t
  · rw [if_pos h, back_word h ht]
    have : t - n < 8192 := by omega
    word_omega
  · rw [if_neg h, wrap_word (by omega) hn]
    have : 4294967296 + t - n < 4294967296 := by omega
    have : 4294967296 - 8192 < 4294967296 + t - n := by omega
    word_omega

/-- The number of a token that is there: neither raised to zero nor wrapped. -/
theorem back_token {t n : ℕ} (h : n ≤ t) (ht : t < 8192) :
    (Scalar.select (IntOp.cmpi .slt (IntOp.maxsi (IntOp.subi (BitVec.ofNat 32 t) (BitVec.ofNat 32 n)) 0#32) 0#32)
      (IntOp.addi (IntOp.maxsi (IntOp.subi (BitVec.ofNat 32 t) (BitVec.ofNat 32 n)) 0#32) 8192#32)
      (IntOp.maxsi (IntOp.subi (BitVec.ofNat 32 t) (BitVec.ofNat 32 n)) 0#32)).toInt.toNat = t - n := by
  rw [back_word h ht]
  have hb : t - n < 8192 := by omega
  generalize t - n = p at hb ⊢
  have hm : IntOp.maxsi (BitVec.ofNat 32 p) 0#32 = BitVec.ofNat 32 p := by
    have h0 : (0#32).slt (BitVec.ofNat 32 p) = true ∨ p = 0 := by
      rcases Nat.eq_zero_or_pos p with h | h
      · exact Or.inr h
      · refine Or.inl (BitVec.slt_iff_toInt_lt.mpr ?_)
        rw [BitVec.toInt_eq_toNat_of_lt (by simp only [BitVec.toNat_ofNat]; omega),
          BitVec.toInt_eq_toNat_of_lt (by simp only [BitVec.toNat_ofNat]; omega)]
        simp only [BitVec.toNat_ofNat]
        omega
    unfold IntOp.maxsi
    rcases h0 with h | h
    · rw [if_pos h]
    · subst h; rfl
  have hc : IntOp.cmpi .slt (BitVec.ofNat 32 p) 0#32 = 0#1 := by word_omega
  rw [hm, hc]
  show (BitVec.ofNat 32 p).toInt.toNat = p
  rw [BitVec.toInt_eq_toNat_of_lt (by simp only [BitVec.toNat_ofNat]; omega)]
  simp only [BitVec.toNat_ofNat, Int.toNat_natCast]
  omega

end Cert.Dil

end
-- ==== Proof.Dil4Kernel.lean ====
/-
  The dilated attention's kernel at dilation 4: what its two result arrays hold after the run, at the ideal values, as the
  attention and its statistics of the argument arrays.
-/
module

public import proofs.«01_k».proof.Proof.DilHost
public import proofs.«01_k».proof.Proof.Gen.Dil4Ideal.Value
public import Idealize.ShloMosaic.Lib.StableHlo.ReadAt

@[expose] public section

set_option maxRecDepth 16384

noncomputable section

namespace Cert.Dil4Ideal.Own

open Idealize.ShloMosaic Idealize.ShloMosaic.TcCoe Idealize.SL.Sem
open Idealize.ShloMosaic.Pipeline (Dat)
open Cert.Dil4Ideal Cert.Dil4Ideal.Gen Cert.Dil

/-! ## The body's outputs are the tile's operations -/

/-- The value that stands for the masked scores. -/
def bot : EReal := (Named.named (F := Ideal) (φ := .f32) κ "mask" 0xF149F2CA#32 : Ideal .f32)

/-- It is `-∞`. -/
theorem bot_eq : bot = ⊥ := IdealRules.named_const.ideal_named_scalar _ _ _ _ rfl

variable (i : grid0.Coords) (x0 : Vec Ideal S128x512 .bf16) (x1 x2 x3 x4 : Vec Ideal S128x512 .f32)

/-- The mask of the grid point's block of rows. -/
abbrev msk : IVec T256 1 := maskOp (BitVec.ofNat 32 (i 2).val)

/-- The attention's staged block: four pairs of heads side by side. -/
theorem out5_eq : out0_5 i x0 x1 x2 x3 x4 = View.canon
    [⟨r0_4, pairOp (msk i) bot (View.ld x0 r0_4) (catOp (View.ld x1 r0_0) (View.ld x3 r0_0)) (catOp (View.ld x2 r0_0) (View.ld x4 r0_0)) 384 slices3⟩,
     ⟨r0_3, pairOp (msk i) bot (View.ld x0 r0_3) (catOp (View.ld x1 r0_0) (View.ld x3 r0_0)) (catOp (View.ld x2 r0_0) (View.ld x4 r0_0)) 256 slices2⟩,
     ⟨r0_2, pairOp (msk i) bot (View.ld x0 r0_2) (catOp (View.ld x1 r0_0) (View.ld x3 r0_0)) (catOp (View.ld x2 r0_0) (View.ld x4 r0_0)) 128 slices1⟩,
     ⟨r0_1, pairOp (msk i) bot (View.ld x0 r0_1) (catOp (View.ld x1 r0_0) (View.ld x3 r0_0)) (catOp (View.ld x2 r0_0) (View.ld x4 r0_0)) 0 slices0⟩] := rfl

/-- The statistics' staged block. -/
theorem out6_eq : out0_6 i x0 x1 x2 x3 x4 = View.canon
    [⟨r0_5, statsOp (msk i) bot (View.ld x0 r0_1) (View.ld x0 r0_2) (View.ld x0 r0_3) (View.ld x0 r0_4) (catOp (View.ld x1 r0_0) (View.ld x3 r0_0))⟩] := rfl

/-- The offset of a whole block. -/
theorem hz : (![0, 0] : Fin 2 → Nat) = fun _ => 0 := funext fun a => by fin_cases a <;> rfl

/-- A load of the queries' lanes from lane `o`. -/
theorem ld_lanes (o : ℕ) (h : ∀ a, (![0, o] : Fin 2 → Nat) a + S128x128.size a ≤ S128x512.size a) (t j : Fin 128) (hl : o + j.val < 512) :
    View.ld x0 (Rect.unit (s := S128x512) ![0, o] S128x128.size h) (ix2 t j) = x0 (ix2 t ⟨o + j.val, hl⟩) := by
  refine congrArg x0 (funext fun z => Fin.ext ?_)
  match z with
  | ⟨0, _⟩ => show 0 + 1 * t.val = t.val; omega
  | ⟨1, _⟩ => show o + 1 * j.val = o + j.val; omega

variable {i x0 x1 x2 x3 x4} {n : ℕ} {Qf Kf Vf : ℕ → ℕ → EReal}

/-- The attention's staged block, read. -/
theorem out5_apply (hi : (i 2).val = n) (T : Tile n Qf Kf Vf x0 x1 x2 x3 x4) (a : Fin 128) (c : Fin 512) :
    out0_5 i x0 x1 x2 x3 x4 (ix2 a c) = attnAt Qf Kf Vf (n * 128 + a.val) c.val := by
  rw [out5_eq, bot_eq]
  unfold msk
  rw [hi]
  simp only [View.ld_unit_zero (S := S128x512) hz]
  exact lanes_apply _ _ _ _ a c (attnAt Qf Kf Vf (n * 128 + a.val))
    (fun j => T.pair_apply (p := 0) (by omega) slices0 _ (fun t j h => ld_lanes x0 _ _ t j h) a j)
    (fun j => T.pair_apply (p := 1) (by omega) slices1 _ (fun t j h => ld_lanes x0 _ _ t j h) a j)
    (fun j => T.pair_apply (p := 2) (by omega) slices2 _ (fun t j h => ld_lanes x0 _ _ t j h) a j)
    (fun j => T.pair_apply (p := 3) (by omega) slices3 _ (fun t j h => ld_lanes x0 _ _ t j h) a j)

/-- The statistics' staged block, read. -/
theorem out6_apply (hi : (i 2).val = n) (T : Tile n Qf Kf Vf x0 x1 x2 x3 x4) (a j : Fin 128) :
    out0_6 i x0 x1 x2 x3 x4 (ix2 a j) = statAt Qf Kf (n * 128 + a.val) j.val := by
  rw [out6_eq, bot_eq]
  unfold msk
  rw [hi]
  simp only [View.ld_unit_zero (S := S128x512) hz]
  rw [View.canon_unit_zero (S := S128x128) hz]
  exact T.statsOp_apply _ _ _ _ (fun t j h => ld_lanes x0 _ _ t j h) (fun t j h => ld_lanes x0 _ _ t j h)
    (fun t j h => ld_lanes x0 _ _ t j h) (fun t j h => ld_lanes x0 _ _ t j h) a j

/-! ## The staged blocks are a tile of the arguments -/

variable (m : (ℓ : Loc nD τ sig) → Buf (Elt Ideal) ℓ) (ρ : Dev nD → PrngReg) (c : Dev nD)

/-- The queries and the rows as launched. -/
abbrev argQ : S16384x512.Idx → EReal := m ((c : Thread nD τ).loc main_arg0)
abbrev argR : S16384x1024.Idx → EReal := m ((c : Thread nD τ).loc main_arg1)

/-- The region finds the queries reshaped, `4` tokens to a row. -/
theorem V_v0 : V m c main_v0 = shapeCast S4096x2048 (argQ m c) shapeCasts_S16384x512_S4096x2048 := by
  unfold V
  after_reads_simp
  rfl

/-- The region finds the rows reshaped, `4` tokens to a row. -/
theorem V_v1 : V m c main_v1 = shapeCast S4096x4096 (argR m c) shapeCasts_S16384x1024_S4096x4096 := by
  unfold V
  after_reads_simp
  rfl

/-- The sequence, the residue and the block of rows of a grid point. -/
abbrev pb (t : ℕ) : ℕ := t / 64
abbrev pr (t : ℕ) : ℕ := t / 16 % 4
abbrev pn (t : ℕ) : ℕ := t % 16

/-- The last coordinate of a grid point is its block of rows. -/
theorem coord2 : ∀ t : Fin cfg0.N, (grid0.coords t 2).val = pn t.val :=
  by change ∀ t : Fin grid0.N, _; decide +kernel
/-- The block of queries a grid point reads. -/
theorem index0 : ∀ t : Fin cfg0.N, win0_0.index t 0 = pb t.val * 16 + pn t.val ∧ win0_0.index t 1 = pr t.val :=
  by change ∀ t : Fin grid0.N, _; decide +kernel
/-- The block of keys before the queries' block. -/
theorem index1 : ∀ t : Fin cfg0.N, win0_1.index t 0 = pb t.val * 16 + (pn t.val - 1) ∧ win0_1.index t 1 = 2 * pr t.val :=
  by change ∀ t : Fin grid0.N, _; decide +kernel
/-- The block of values before the queries' block. -/
theorem index2 : ∀ t : Fin cfg0.N, win0_2.index t 0 = pb t.val * 16 + (pn t.val - 1) ∧ win0_2.index t 1 = 2 * pr t.val + 1 :=
  by change ∀ t : Fin grid0.N, _; decide +kernel
/-- The block of keys beside the queries. -/
theorem index3 : ∀ t : Fin cfg0.N, win0_3.index t 0 = pb t.val * 16 + pn t.val ∧ win0_3.index t 1 = 2 * pr t.val :=
  by change ∀ t : Fin grid0.N, _; decide +kernel
/-- The block of values beside the queries. -/
theorem index4 : ∀ t : Fin cfg0.N, win0_4.index t 0 = pb t.val * 16 + pn t.val ∧ win0_4.index t 1 = 2 * pr t.val + 1 :=
  by change ∀ t : Fin grid0.N, _; decide +kernel
/-- The block of attention a grid point writes. -/
theorem index5 : ∀ t : Fin cfg0.N, win0_5.index t 0 = pb t.val * 16 + pn t.val ∧ win0_5.index t 1 = pr t.val :=
  by change ∀ t : Fin grid0.N, _; decide +kernel
/-- The block of maxima and denominators a grid point writes. -/
theorem index6 : ∀ t : Fin cfg0.N, win0_6.index t 0 = pb t.val * 16 + pn t.val ∧ win0_6.index t 1 = pr t.val :=
  by change ∀ t : Fin grid0.N, _; decide +kernel

/-- An element of a staged block of queries. -/
theorem blockQ (X : S4096x2048.Idx → EReal) (hX : X = shapeCast S4096x2048 (argQ m c) shapeCasts_S16384x512_S4096x2048)
    (k : S4096x2048.Idx) (b r u l : ℕ) (hr : r < 4) (hl : l < 512) (h0 : (k 0).val = b * 2048 + u) (h1 : (k 1).val = r * 512 + l) :
    X k = rowsQ 4 (argQ m c) b r u l := by
  subst hX
  refine (at2_reshape (argQ m c) _ (by decide) k).trans ?_
  rw [h0, h1]
  unfold rowsQ
  congr 1 <;> omega

/-- An element of a staged block of keys or values, `o` the column where they begin. -/
theorem blockR (X : S4096x4096.Idx → EReal) (hX : X = shapeCast S4096x4096 (argR m c) shapeCasts_S16384x1024_S4096x4096)
    (k : S4096x4096.Idx) (b r u l : ℕ) (hr : r < 4) (hl : l < 1024) (h0 : (k 0).val = b * 2048 + u) (h1 : (k 1).val = r * 1024 + l) :
    X k = at2 (argR m c) (b * 8192 + u * 4 + r) l := by
  subst hX
  refine (at2_reshape (argR m c) _ (by decide) k).trans ?_
  rw [h0, h1]
  congr 1 <;> omega

/-- At every grid point the staged blocks are the tile of its sequence, residue and block of rows. -/
theorem tile (t : Fin cfg0.N) : Tile (pn t.val) (rowsQ 4 (argQ m c) (pb t.val) (pr t.val)) (rowsK 4 (argR m c) (pb t.val) (pr t.val))
    (rowsV 4 (argR m c) (pb t.val) (pr t.val)) (iblk m c 0 t) (iblk m c 1 t) (iblk m c 2 t) (iblk m c 3 t) (iblk m c 4 t) where
  small := by unfold pn; omega
  q a l := by
    unfold iblk
    rw [View.read_apply]
    refine blockQ m c _ (V_v0 m c) _ (pb t.val) (pr t.val) (pn t.val * 128 + a.val) l.val (by unfold pr; omega) l.isLt ?_ ?_
    · show win0_0.index t 0 * 128 + 1 * a.val = _
      rw [(index0 t).1]; ring
    · show win0_0.index t 1 * 512 + 1 * l.val = _
      rw [(index0 t).2]; omega
  kp _ a l := by
    unfold iblk
    rw [View.read_apply]
    refine blockR m c _ (V_v1 m c) _ (pb t.val) (pr t.val) ((pn t.val - 1) * 128 + a.val) l.val (by unfold pr; omega) (by omega) ?_ ?_
    · show win0_1.index t 0 * 128 + 1 * a.val = _
      rw [(index1 t).1]; ring
    · show win0_1.index t 1 * 512 + 1 * l.val = _
      rw [(index1 t).2]; omega
  vp _ a l := by
    unfold iblk
    rw [View.read_apply]
    refine blockR m c _ (V_v1 m c) _ (pb t.val) (pr t.val) ((pn t.val - 1) * 128 + a.val) (512 + l.val) (by unfold pr; omega) (by omega) ?_ ?_
    · show win0_2.index t 0 * 128 + 1 * a.val = _
      rw [(index2 t).1]; ring
    · show win0_2.index t 1 * 512 + 1 * l.val = _
      rw [(index2 t).2]; omega
  kc a l := by
    unfold iblk
    rw [View.read_apply]
    refine blockR m c _ (V_v1 m c) _ (pb t.val) (pr t.val) (pn t.val * 128 + a.val) l.val (by unfold pr; omega) (by omega) ?_ ?_
    · show win0_3.index t 0 * 128 + 1 * a.val = _
      rw [(index3 t).1]; ring
    · show win0_3.index t 1 * 512 + 1 * l.val = _
      rw [(index3 t).2]; omega
  vc a l := by
    unfold iblk
    rw [View.read_apply]
    refine blockR m c _ (V_v1 m c) _ (pb t.val) (pr t.val) (pn t.val * 128 + a.val) (512 + l.val) (by unfold pr; omega) (by omega) ?_ ?_
    · show win0_4.index t 0 * 128 + 1 * a.val = _
      rw [(index4 t).1]; ring
    · show win0_4.index t 1 * 512 + 1 * l.val = _
      rw [(index4 t).2]; omega

/-! ## The result arrays -/

/-- The attention's array. -/
def res5 : S4096x2048.Idx → EReal := fun k => attnRes 4 (argQ m c) (argR m c) (k 0).val (k 1).val

/-- The statistics' array. -/
def res6 : S4096x512.Idx → EReal := fun k => statRes 4 (argQ m c) (argR m c) (k 0).val (k 1).val

/-- The attention's result at a row of a residue. -/
theorem res5_of (k : S4096x2048.Idx) (b r u l : ℕ) (hu : u < 2048) (hl : l < 512) (h0 : (k 0).val = b * 2048 + u) (h1 : (k 1).val = r * 512 + l) :
    res5 m c k = attnAt (rowsQ 4 (argQ m c) b r) (rowsK 4 (argR m c) b r) (rowsV 4 (argR m c) b r) u l := by
  unfold res5 attnRes
  rw [h0, h1, show (b * 2048 + u) / (8192 / 4) = b by omega, show (b * 2048 + u) % (8192 / 4) = u by omega,
    show (r * 512 + l) / 512 = r by omega, show (r * 512 + l) % 512 = l by omega]

/-- The packed maxima and denominators at a row of a residue. -/
theorem res6_of (k : S4096x512.Idx) (b r u l : ℕ) (hu : u < 2048) (hl : l < 128) (h0 : (k 0).val = b * 2048 + u) (h1 : (k 1).val = r * 128 + l) :
    res6 m c k = statAt (rowsQ 4 (argQ m c) b r) (rowsK 4 (argR m c) b r) u l := by
  unfold res6 statRes
  rw [h0, h1, show (b * 2048 + u) / (8192 / 4) = b by omega, show (b * 2048 + u) % (8192 / 4) = u by omega,
    show (r * 128 + l) / 128 = r by omega, show (r * 128 + l) % 128 = l by omega]

/-- Each grid point writes back its block of the attention's array. -/
theorem flushed5_eq (t : Fin cfg0.N) : (dats m 0 c).flushed 5 t = ((cfg0.win 5).blk t).view.read (Elt Ideal) (res5 m c) := by
  rw [Value.flushed5]
  refine funext fun y => ?_
  have hy0 : (y 0).val < 128 := (y 0).isLt
  have hy1 : (y 1).val < 512 := (y 1).isLt
  rw [View.read_apply]
  refine ((congrArg (out0_5 (grid0.coords t) (iblk m c 0 t) (iblk m c 1 t) (iblk m c 2 t) (iblk m c 3 t) (iblk m c 4 t))
    (eq_ix2 (n0 := 128) (n1 := 512) y)).trans (out5_apply (coord2 t) (tile m c t) (y 0) (y 1))).trans ?_
  refine (res5_of m c _ _ _ _ _ (by have := t.isLt; unfold pn; omega) hy1 ?_ ?_).symm
  · show win0_5.index t 0 * 128 + 1 * (y 0).val = _
    rw [(index5 t).1]; ring
  · show win0_5.index t 1 * 512 + 1 * (y 1).val = _
    rw [(index5 t).2]; ring

/-- Each grid point writes back its block of the statistics' array. -/
theorem flushed6_eq (t : Fin cfg0.N) : (dats m 0 c).flushed 6 t = ((cfg0.win 6).blk t).view.read (Elt Ideal) (res6 m c) := by
  rw [Value.flushed6]
  refine funext fun y => ?_
  have hy0 : (y 0).val < 128 := (y 0).isLt
  have hy1 : (y 1).val < 128 := (y 1).isLt
  rw [View.read_apply]
  refine ((congrArg (out0_6 (grid0.coords t) (iblk m c 0 t) (iblk m c 1 t) (iblk m c 2 t) (iblk m c 3 t) (iblk m c 4 t))
    (eq_ix2 (n0 := 128) (n1 := 128) y)).trans (out6_apply (coord2 t) (tile m c t) (y 0) (y 1))).trans ?_
  refine (res6_of m c _ _ _ _ _ (by have := t.isLt; unfold pn; omega) hy1 ?_ ?_).symm
  · show win0_6.index t 0 * 128 + 1 * (y 0).val = _
    rw [(index6 t).1]; ring
  · show win0_6.index t 1 * 128 + 1 * (y 1).val = _
    rw [(index6 t).2]; ring

/-- Every grid point writes its blocks back. -/
theorem flush5 : ∀ t : Fin cfg0.N, (cfg0.win 5).flush t = true := (by decide +kernel : ∀ t : Fin grid0.N, win0_5.flush t = true)
/-- Every grid point writes its maxima and denominators back. -/
theorem flush6 : ∀ t : Fin cfg0.N, (cfg0.win 6).flush t = true := (by decide +kernel : ∀ t : Fin grid0.N, win0_6.flush t = true)

/-- The grid point whose block holds row `R` and the residue `r`. -/
def ptOf (R r : ℕ) (hR : R < 4096) (hr : r < 4) : Fin cfg0.N :=
  ⟨R / 2048 * 64 + r * 16 + R % 2048 / 128, by rw [show cfg0.N = 128 from N_0]; omega⟩

/-- The attention's array after the run. -/
theorem final5 : (dats m 0 c).arrAt 5 cfg0.N = res5 m c :=
  (dats m 0 c).arrAt_eq_of_cover 5 (res5 m c) (fun t _ => flushed5_eq m c t) fun k => by
    have h0 : (k 0).val < 4096 := (k 0).isLt
    have h1 : (k 1).val < 2048 := (k 1).isLt
    refine ⟨ptOf (k 0).val ((k 1).val / 512) h0 (by omega), flush5 _, ?_⟩
    have hi := index5 (ptOf (k 0).val ((k 1).val / 512) h0 (by omega))
    have hv : (ptOf (k 0).val ((k 1).val / 512) h0 (by omega)).val = (k 0).val / 2048 * 64 + (k 1).val / 512 * 16 + (k 0).val % 2048 / 128 := rfl
    generalize ptOf (k 0).val ((k 1).val / 512) h0 (by omega) = t at hi hv ⊢
    rw [hv] at hi
    show k ∈ ((View.whole main_v2_0).slice (win0_5.rect t)).set
    rw [View.set_slice_whole, Rect.mem_set_unit]
    intro a
    match a with
    | ⟨0, _⟩ =>
      show win0_5.index t 0 * 128 ≤ (k 0).val ∧ (k 0).val < win0_5.index t 0 * 128 + 128
      rw [hi.1]; unfold pb pn; omega
    | ⟨1, _⟩ =>
      show win0_5.index t 1 * 512 ≤ (k 1).val ∧ (k 1).val < win0_5.index t 1 * 512 + 512
      rw [hi.2]; unfold pr; omega

/-- The statistics' array after the run. -/
theorem final6 : (dats m 0 c).arrAt 6 cfg0.N = res6 m c :=
  (dats m 0 c).arrAt_eq_of_cover 6 (res6 m c) (fun t _ => flushed6_eq m c t) fun k => by
    have h0 : (k 0).val < 4096 := (k 0).isLt
    have h1 : (k 1).val < 512 := (k 1).isLt
    refine ⟨ptOf (k 0).val ((k 1).val / 128) h0 (by omega), flush6 _, ?_⟩
    have hi := index6 (ptOf (k 0).val ((k 1).val / 128) h0 (by omega))
    have hv : (ptOf (k 0).val ((k 1).val / 128) h0 (by omega)).val = (k 0).val / 2048 * 64 + (k 1).val / 128 * 16 + (k 0).val % 2048 / 128 := rfl
    generalize ptOf (k 0).val ((k 1).val / 128) h0 (by omega) = t at hi hv ⊢
    rw [hv] at hi
    show k ∈ ((View.whole main_v2_1).slice (win0_6.rect t)).set
    rw [View.set_slice_whole, Rect.mem_set_unit]
    intro a
    match a with
    | ⟨0, _⟩ =>
      show win0_6.index t 0 * 128 ≤ (k 0).val ∧ (k 0).val < win0_6.index t 0 * 128 + 128
      rw [hi.1]; unfold pb pn; omega
    | ⟨1, _⟩ =>
      show win0_6.index t 1 * 128 ≤ (k 1).val ∧ (k 1).val < win0_6.index t 1 * 128 + 128
      rw [hi.2]; unfold pr; omega

/-- The run: the two result arrays, the arguments unchanged. -/
theorem run : θ_run defs (onTc (τ := τ) (main (F := Ideal))) ⟨m, fun _ => 0, ρ⟩ fun r => ∀ c : Dev nD,
      r.2.mem ((c : Thread nD τ).loc main_v2_0) = res5 m c
      ∧ r.2.mem ((c : Thread nD τ).loc main_v2_1) = res6 m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final5 m c), (h c).2.1.trans (final6 m c), (h c).2.2⟩) (Value.run_blocks m ρ)

end Cert.Dil4Ideal.Own

end
-- ==== Proof.Dil4Ref.lean ====
/-
  The dilated attention's reference at dilation 4: its two results, at the ideal values, as the attention and its
  statistics of the argument arrays.
-/
module

public import proofs.«01_k».proof.Proof.Dil4Kernel
public import proofs.«01_k».proof.Proof.Gen.Ref4Ideal.Read

@[expose] public section

noncomputable section

namespace Cert.Ref4Ideal.Own

open Idealize.ShloMosaic Idealize.ShloMosaic.TcCoe Idealize.SL.Sem
open Cert.Ref4Ideal Cert.Ref4Ideal.Gen Cert.Ref4Ideal.Read Cert.Dil

/-! ## The mask and the token numbers -/

/-- The mask of token `t` and distance `m`. -/
theorem mask_at (t : Fin 8192) (m : Fin 129) :
    val_main_v16 (F := Ideal) (ix2 t m) = if 4 * m.val ≤ t.val then 1#1 else 0#1 := by
  have h : val_main_v16 (F := Ideal) (ix2 t m)
      = IntOp.cmpi .sge (IntOp.subi (BitVec.ofNat 32 t.val) (IntOp.muli (BitVec.ofNat 32 4) (BitVec.ofNat 32 m.val))) 0#32 := by
    simp only [val_main_v16_apply, val_main_v14_apply, val_main_v12_apply, val_main_v13_apply, val_main_v7_apply, val_main_v6_apply,
      val_main_v11_apply, val_main_v10_apply, val_main_v9_apply, val_main_v8_apply, val_main_v15_apply, val_main_c_apply, val_main_c_0_apply]
    rfl
  rw [h, stride_word]
  exact back_mask t.isLt (by omega)

/-- The token number the keys' gather reads. -/
theorem key_token (t : Fin 8192) (m : Fin 129) (h : 4 * m.val ≤ t.val) :
    (val_main_v24 (F := Ideal) (ix3 t m 0)).toInt.toNat = t.val - 4 * m.val := by
  rw [← back_token h t.isLt, ← stride_word]
  simp only [val_main_v24_apply, val_main_v23_apply, val_main_v22_apply, val_main_v21_apply, val_main_v20_apply, val_main_v19_apply,
    val_main_v18_apply, val_main_v17_apply, val_main_v14_apply, val_main_v12_apply, val_main_v13_apply, val_main_v7_apply,
    val_main_v6_apply, val_main_v11_apply, val_main_v10_apply, val_main_v9_apply, val_main_v8_apply, val_main_c_apply,
    val_main_c_1_apply, val_main_c_2_apply, val_main_c_3_apply]
  rfl

/-- The token number the values' gather reads. -/
theorem value_token (t : Fin 8192) (m : Fin 129) (h : 4 * m.val ≤ t.val) :
    (val_main_v31 (F := Ideal) (ix3 t m 0)).toInt.toNat = t.val - 4 * m.val := by
  rw [← back_token h t.isLt, ← stride_word]
  simp only [val_main_v31_apply, val_main_v30_apply, val_main_v29_apply, val_main_v28_apply, val_main_v27_apply, val_main_v26_apply,
    val_main_v18_apply, val_main_v17_apply, val_main_v14_apply, val_main_v12_apply, val_main_v13_apply, val_main_v7_apply,
    val_main_v6_apply, val_main_v11_apply, val_main_v10_apply, val_main_v9_apply, val_main_v8_apply, val_main_c_apply,
    val_main_c_1_apply, val_main_c_4_apply, val_main_c_5_apply]
  rfl

/-! ## The rows -/

variable (x0 : (⟨S16384x512, .bf16⟩ : BufTy).Contents (Elt Ideal)) (x1 : (⟨S16384x1024, .f32⟩ : BufTy).Contents (Elt Ideal))

/-- The queries by batch, token, head and component. -/
theorem query_at (b : Fin 2) (t : Fin 8192) (h : Fin 8) (d : Fin 64) :
    val_main_v33 (F := Ideal) x0 (ix4 b t h d) = at2 x0 (b.val * 8192 + t.val) (h.val * 64 + d.val) := by
  rw [val_main_v33_apply, val_main_v0_apply]
  refine at2_of x0 (idx_main_v0 (ix4 b t h d)) _ _ ?_ ?_
  · show (((b.val * 8192 + t.val) * 8 + h.val) * 64 + d.val) / 512 = b.val * 8192 + t.val
    omega
  · show (((b.val * 8192 + t.val) * 8 + h.val) * 64 + d.val) % 512 = h.val * 64 + d.val
    omega

/-- The keys by batch, token, head and component. -/
theorem key_at (b : Fin 2) (t : Fin 8192) (h : Fin 8) (d : Fin 64) :
    val_main_v3 (F := Ideal) x1 (ix4 b t h d) = at2 x1 (b.val * 8192 + t.val) (h.val * 64 + d.val) := by
  rw [val_main_v3_apply, val_main_v2_apply, val_main_v1_apply]
  have e : idx_main_v3 (ix4 b t h d) = ix5 b t 0 h d := funext fun a => Fin.ext (by
    match a with
    | ⟨0, _⟩ => show (((b.val * 8192 + t.val) * 8 + h.val) * 64 + d.val) / 4194304 = b.val; omega
    | ⟨1, _⟩ => show (((b.val * 8192 + t.val) * 8 + h.val) * 64 + d.val) / 512 % 8192 = t.val; omega
    | ⟨2, _⟩ => rfl
    | ⟨3, _⟩ => show (((b.val * 8192 + t.val) * 8 + h.val) * 64 + d.val) / 64 % 8 = h.val; omega
    | ⟨4, _⟩ => show (((b.val * 8192 + t.val) * 8 + h.val) * 64 + d.val) % 64 = d.val; omega)
  rw [e]
  refine at2_of x1 (idx_main_v1 (idx_main_v2 (ix5 b t 0 h d))) _ _ ?_ ?_
  · show ((((b.val * 8192 + t.val) * 2 + 0) * 8 + h.val) * 64 + d.val) / 1024 = b.val * 8192 + t.val
    omega
  · show ((((b.val * 8192 + t.val) * 2 + 0) * 8 + h.val) * 64 + d.val) % 1024 = h.val * 64 + d.val
    omega

/-- The values by batch, token, head and component. -/
theorem value_at (b : Fin 2) (t : Fin 8192) (h : Fin 8) (d : Fin 64) :
    val_main_v5 (F := Ideal) x1 (ix4 b t h d) = at2 x1 (b.val * 8192 + t.val) (512 + (h.val * 64 + d.val)) := by
  rw [val_main_v5_apply, val_main_v4_apply, val_main_v1_apply]
  have e : idx_main_v5 (ix4 b t h d) = ix5 b t 0 h d := funext fun a => Fin.ext (by
    match a with
    | ⟨0, _⟩ => show (((b.val * 8192 + t.val) * 8 + h.val) * 64 + d.val) / 4194304 = b.val; omega
    | ⟨1, _⟩ => show (((b.val * 8192 + t.val) * 8 + h.val) * 64 + d.val) / 512 % 8192 = t.val; omega
    | ⟨2, _⟩ => rfl
    | ⟨3, _⟩ => show (((b.val * 8192 + t.val) * 8 + h.val) * 64 + d.val) / 64 % 8 = h.val; omega
    | ⟨4, _⟩ => show (((b.val * 8192 + t.val) * 8 + h.val) * 64 + d.val) % 64 = d.val; omega)
  rw [e]
  refine at2_of x1 (idx_main_v1 (idx_main_v4 (ix5 b t 0 h d))) _ _ ?_ ?_
  · show ((((b.val * 8192 + t.val) * 2 + (1 + 0)) * 8 + h.val) * 64 + d.val) / 1024 = b.val * 8192 + t.val
    omega
  · show ((((b.val * 8192 + t.val) * 2 + (1 + 0)) * 8 + h.val) * 64 + d.val) % 1024 = 512 + (h.val * 64 + d.val)
    omega

variable {r u : ℕ}

/-- The gathered key at a distance that is there. -/
theorem key_back (b : Fin 2) (t : Fin 8192) (m : Fin 129) (h : Fin 8) (d : Fin 64) (ht : t.val = u * 4 + r) (hm : m.val ≤ u) :
    val_main_v25 (F := Ideal) x1 (ix5 b t m h d) = rowsK 4 x1 b.val r (u - m.val) (h.val * 64 + d.val) := by
  have hb : 4 * m.val ≤ t.val := by omega
  refine (pick_apply _ (val_main_v3 x1) (val_main_v24 (F := Ideal)) b t m h d ⟨t.val - 4 * m.val, by omega⟩ (key_token t m hb)).trans ?_
  rw [key_at]
  unfold rowsK
  refine congrArg (fun z => at2 x1 z _) ?_
  show b.val * 8192 + (t.val - 4 * m.val) = _
  omega

/-- The gathered value at a distance that is there. -/
theorem value_back (b : Fin 2) (t : Fin 8192) (m : Fin 129) (h : Fin 8) (d : Fin 64) (ht : t.val = u * 4 + r) (hm : m.val ≤ u) :
    val_main_v32 (F := Ideal) x1 (ix5 b t m h d) = rowsV 4 x1 b.val r (u - m.val) (h.val * 64 + d.val) := by
  have hb : 4 * m.val ≤ t.val := by omega
  refine (pick_apply _ (val_main_v5 x1) (val_main_v31 (F := Ideal)) b t m h d ⟨t.val - 4 * m.val, by omega⟩ (value_token t m hb)).trans ?_
  rw [value_at]
  unfold rowsV
  refine congrArg (fun z => at2 x1 z _) ?_
  show b.val * 8192 + (t.val - 4 * m.val) = _
  omega

/-! ## The scores, their maximum and the weights -/

/-- The queries of head `h` at row `u`. -/
abbrev qs (b r u h : ℕ) : ℕ → EReal := fun d => rowsQ 4 x0 b r u (h * 64 + d)

/-- The keys of head `h` before row `u`. -/
abbrev ks (b r u h : ℕ) : ℕ → ℕ → EReal := fun m d => rowsK 4 x1 b r (u - m) (h * 64 + d)

/-- The values of head `h` before row `u`. -/
abbrev vs (b r u h : ℕ) : ℕ → ℕ → EReal := fun m d => rowsV 4 x1 b r (u - m) (h * 64 + d)

/-- The score at a distance that is there. -/
theorem score_at (b : Fin 2) (t : Fin 8192) (h : Fin 8) (m : Fin 129) (ht : t.val = u * 4 + r) (hm : m.val ≤ u) :
    val_main_v34 (F := Ideal) x0 x1 (ix4 b t h m) = score (qs x0 b r u h) (ks x1 b r u h) m.val := by
  rw [val_main_v34_apply]
  unfold score
  refine Finset.sum_congr rfl fun d _ => ?_
  have el : lidx_main_v34 (ix4 b t h m) d = ix4 b t h d := funext fun a => by
    match a with | ⟨0, _⟩ => rfl | ⟨1, _⟩ => rfl | ⟨2, _⟩ => rfl | ⟨3, _⟩ => rfl
  have er : ridx_main_v34 (ix4 b t h m) d = ix5 b t m h d := funext fun a => by
    match a with | ⟨0, _⟩ => rfl | ⟨1, _⟩ => rfl | ⟨2, _⟩ => rfl | ⟨3, _⟩ => rfl | ⟨4, _⟩ => rfl
  rw [el, er, query_at, key_back x1 b t m h d ht hm]
  refine congrArg (· * _) ?_
  show _ = at2 x0 _ _
  refine congrArg (fun z => at2 x0 z _) ?_
  omega

/-- A distance is there when its row is. -/
theorem there {t m : ℕ} (ht : t = u * 4 + r) (hr : r < 4) : 4 * m ≤ t ↔ m ≤ u := by omega

/-- The masked score. -/
theorem mscore_at (b : Fin 2) (t : Fin 8192) (h : Fin 8) (m : Fin 129) (ht : t.val = u * 4 + r) (hr : r < 4) :
    val_main_v36 (F := Ideal) x0 x1 (ix4 b t h m) = mscore (qs x0 b r u h) (ks x1 b r u h) u m.val := by
  rw [val_main_v36_apply, val_main_call0_v1_apply, val_main_v35_apply, val_main_call0_v2_apply, val_main_call0_v0_apply, val_main_cst_apply]
  have e : idx_main_v35 (idx_main_call0_v1 (ix4 b t h m)) = ix2 t m := funext fun a => by
    match a with | ⟨0, _⟩ => rfl | ⟨1, _⟩ => rfl
  rw [e, mask_at]
  unfold mscore
  by_cases hm : m.val ≤ u
  · rw [if_pos hm, if_pos ((there ht hr).mpr hm), ← score_at x0 x1 b t h m ht hm]; rfl
  · rw [if_neg hm, if_neg (fun h' => hm ((there ht hr).mp h'))]; exact ofBits_negInf

/-- The largest masked score. -/
theorem smax_at (b : Fin 2) (t : Fin 8192) (h : Fin 8) (ht : t.val = u * 4 + r) (hr : r < 4) :
    val_main_v37 (F := Ideal) x0 x1 (ix3 b t h) = smax (qs x0 b r u h) (ks x1 b r u h) u := by
  refine (lastMax_apply _ _ _ _ ofBits_negInf b t h).trans ?_
  unfold smax
  exact congrArg (fun f => Finset.fold max ⊥ f Finset.univ) (funext fun m => mscore_at x0 x1 b t h m ht hr)

/-- The weight. -/
theorem weight_at (b : Fin 2) (t : Fin 8192) (h : Fin 8) (m : Fin 129) (ht : t.val = u * 4 + r) (hr : r < 4) :
    val_main_v42 (F := Ideal) x0 x1 (ix4 b t h m) = weight (qs x0 b r u h) (ks x1 b r u h) u m.val := by
  rw [val_main_v42_apply, val_main_call1_v1_apply, val_main_v35_apply, val_main_call1_v2_apply, val_main_call1_v0_apply, val_main_cst_7_apply,
    val_main_v41_apply, val_main_v40_apply, val_main_v39_apply, val_main_v38_apply]
  have e : idx_main_v35 (idx_main_call1_v1 (ix4 b t h m)) = ix2 t m := funext fun a => by
    match a with | ⟨0, _⟩ => rfl | ⟨1, _⟩ => rfl
  have e' : idx_main_v38 (idx_main_v39 (ix4 b t h m)) = ix3 b t h := funext fun a => by
    match a with | ⟨0, _⟩ => rfl | ⟨1, _⟩ => rfl | ⟨2, _⟩ => rfl
  rw [e, e', mask_at, smax_at x0 x1 b t h ht hr, mscore_at x0 x1 b t h m ht hr]
  unfold weight
  by_cases hm : m.val ≤ u
  · rw [if_pos hm, if_pos ((there ht hr).mpr hm)]; unfold mscore; rw [if_pos hm]; rfl
  · rw [if_neg hm, if_neg (fun h' => hm ((there ht hr).mp h'))]; exact Ideal.ofBits_zero_f32

/-- The sum of the weights. -/
theorem denom_at (b : Fin 2) (t : Fin 8192) (h : Fin 8) (ht : t.val = u * 4 + r) (hr : r < 4) :
    val_main_v43 (F := Ideal) x0 x1 (ix3 b t h) = denom (qs x0 b r u h) (ks x1 b r u h) u := by
  rw [val_main_v43_apply, val_main_cst_8_apply]
  have z : (FloatOps.ofBits .f32 0x00000000#32 : Ideal .f32) = 0 := Ideal.ofBits_zero_f32
  rw [z, zero_add]
  unfold denom
  refine Finset.sum_congr rfl fun m _ => ?_
  have e : idx_main_v43 (ix3 b t h) m = ix4 b t h m := funext fun a => by
    match a with | ⟨0, _⟩ => rfl | ⟨1, _⟩ => rfl | ⟨2, _⟩ => rfl | ⟨3, _⟩ => rfl
  rw [e, weight_at x0 x1 b t h m ht hr]

/-- The weighted sum of the values. -/
theorem mix_at (b : Fin 2) (t : Fin 8192) (h : Fin 8) (d : Fin 64) (ht : t.val = u * 4 + r) (hr : r < 4) :
    val_main_v45 (F := Ideal) x0 x1 (ix4 b t h d) = mix (qs x0 b r u h) (ks x1 b r u h) (vs x1 b r u h) u d.val := by
  rw [val_main_v45_apply]
  unfold mix
  refine Finset.sum_congr rfl fun m _ => ?_
  have el : lidx_main_v45 (ix4 b t h d) m = ix4 b t h m := funext fun a => by
    match a with | ⟨0, _⟩ => rfl | ⟨1, _⟩ => rfl | ⟨2, _⟩ => rfl | ⟨3, _⟩ => rfl
  have er : ridx_main_v45 (ix4 b t h d) m = ix5 b t m h d := funext fun a => by
    match a with | ⟨0, _⟩ => rfl | ⟨1, _⟩ => rfl | ⟨2, _⟩ => rfl | ⟨3, _⟩ => rfl | ⟨4, _⟩ => rfl
  rw [el, er, weight_at x0 x1 b t h m ht hr]
  by_cases hm : m.val ≤ u
  · rw [value_back x1 b t m h d ht hm]
  · have : weight (qs x0 b r u h) (ks x1 b r u h) u m.val = 0 := by unfold weight; rw [if_neg hm]
    rw [this, zero_mul, zero_mul]

/-! ## The results -/

/-- The attention's result. -/
theorem attn_at (i : S4096x2048.Idx) : val_main_v50 (F := Ideal) x0 x1 i = attnRes 4 x0 x1 (i 0).val (i 1).val := by
  have h0 : (i 0).val < 4096 := (i 0).isLt
  have h1 : (i 1).val < 2048 := (i 1).isLt
  generalize hR : (i 0).val = R at h0
  generalize hC : (i 1).val = C at h1
  have e : idx_main_v50 i = ix4 ⟨R / 2048, by omega⟩ ⟨R % 2048 * 4 + C / 512, by omega⟩ ⟨C % 512 / 64, by omega⟩ ⟨C % 64, by omega⟩ :=
    funext fun a => Fin.ext (by
      match a with
      | ⟨0, _⟩ => show ((i 0).val * 2048 + (i 1).val) / 4194304 = R / 2048; rw [hR, hC]; omega
      | ⟨1, _⟩ => show ((i 0).val * 2048 + (i 1).val) / 512 % 8192 = R % 2048 * 4 + C / 512; rw [hR, hC]; omega
      | ⟨2, _⟩ => show ((i 0).val * 2048 + (i 1).val) / 64 % 8 = C % 512 / 64; rw [hR, hC]; omega
      | ⟨3, _⟩ => show ((i 0).val * 2048 + (i 1).val) % 64 = C % 64; rw [hR, hC]; omega)
  rw [val_main_v50_apply, e, mix_at x0 x1 _ _ _ _ (u := R % 2048) (r := C / 512) rfl (by omega)]
  unfold attnRes attnAt
  have hd : C % 512 % 64 = C % 64 := by omega
  rw [hd]

/-- The statistics' result. -/
theorem stat_at (i : S4096x512.Idx) : val_main_v51 (F := Ideal) x0 x1 i = statRes 4 x0 x1 (i 0).val (i 1).val := by
  have h0 : (i 0).val < 4096 := (i 0).isLt
  have h1 : (i 1).val < 512 := (i 1).isLt
  generalize hR : (i 0).val = R at h0
  generalize hC : (i 1).val = C at h1
  have e : idx_main_v51 i = ix3 ⟨R / 2048, by omega⟩ ⟨R % 2048 * 4 + C / 128, by omega⟩ ⟨C % 128, by omega⟩ :=
    funext fun a => Fin.ext (by
      match a with
      | ⟨0, _⟩ => show ((i 0).val * 512 + (i 1).val) / 1048576 = R / 2048; rw [hR, hC]; omega
      | ⟨1, _⟩ => show ((i 0).val * 512 + (i 1).val) / 128 % 8192 = R % 2048 * 4 + C / 128; rw [hR, hC]; omega
      | ⟨2, _⟩ => show ((i 0).val * 512 + (i 1).val) % 128 = C % 128; rw [hR, hC]; omega)
  rw [val_main_v51_apply, e]
  refine (join_apply _ _ _ _ _ _ _).trans ?_
  unfold statRes statAt
  dsimp only
  by_cases h8 : C % 128 < 8
  · rw [dif_pos h8, if_pos h8, val_main_v46_apply, val_main_v38_apply]
    have e' : ∀ (b : Fin 2) (t : Fin 8192) (h : Fin 8), idx_main_v38 (idx_main_v46 (ix3 b t h)) = ix3 b t h := fun b t h =>
      funext fun a => Fin.ext (by
        match a with
        | ⟨0, _⟩ => show ((b.val * 8192 + t.val) * 8 + h.val) / 65536 = b.val; omega
        | ⟨1, _⟩ => show ((b.val * 8192 + t.val) * 8 + h.val) / 8 % 8192 = t.val; omega
        | ⟨2, _⟩ => show ((b.val * 8192 + t.val) * 8 + h.val) / 1 % 8 = h.val; omega)
    rw [e', smax_at x0 x1 _ _ _ (u := R % 2048) (r := C / 128) rfl (by omega)]
    rfl
  · rw [dif_neg h8, if_neg h8]
    by_cases h16 : C % 128 - 8 < 8
    · rw [dif_pos h16, if_pos (by omega), val_main_v47_apply, val_main_v44_apply]
      have e' : ∀ (b : Fin 2) (t : Fin 8192) (h : Fin 8), idx_main_v44 (idx_main_v47 (ix3 b t h)) = ix3 b t h := fun b t h =>
        funext fun a => Fin.ext (by
          match a with
          | ⟨0, _⟩ => show ((b.val * 8192 + t.val) * 8 + h.val) / 65536 = b.val; omega
          | ⟨1, _⟩ => show ((b.val * 8192 + t.val) * 8 + h.val) / 8 % 8192 = t.val; omega
          | ⟨2, _⟩ => show ((b.val * 8192 + t.val) * 8 + h.val) / 1 % 8 = h.val; omega)
      rw [e', denom_at x0 x1 _ _ _ (u := R % 2048) (r := C / 128) rfl (by omega)]
      rfl
    · rw [dif_neg h16, if_neg (by omega), val_main_v48_apply, val_main_cst_9_apply]
      exact Ideal.ofBits_zero_f32

/-- The run: the two results as the attention and its statistics, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v50) = (fun k => attnRes 4 (m ((c.tc : Thread nD τ).loc main_arg0)) (m ((c.tc : Thread nD τ).loc main_arg1)) (k 0).val (k 1).val)
      ∧ r.2.mem ((c.tc : Thread nD τ).loc main_v51) = (fun k => statRes 4 (m ((c.tc : Thread nD τ).loc main_arg0)) (m ((c.tc : Thread nD τ).loc main_arg1)) (k 0).val (k 1).val)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans ((val_main_v50_eq m c).trans (funext fun k => attn_at _ _ k)),
    (h c).2.1.trans ((val_main_v51_eq m c).trans (funext fun k => stat_at _ _ k)), (h c).2.2⟩) (Value.run m ρ)

end Cert.Ref4Ideal.Own

end
-- ==== Proof.Dil16Kernel.lean ====
/-
  The dilated attention's kernel at dilation 16: what its two result arrays hold after the run, at the ideal values, as the
  attention and its statistics of the argument arrays.
-/
module

public import proofs.«01_k».proof.Proof.Dil4Ref
public import proofs.«01_k».proof.Proof.Gen.Dil16Ideal.Value
public import Idealize.ShloMosaic.Lib.StableHlo.ReadAt

@[expose] public section

set_option maxRecDepth 16384

noncomputable section

namespace Cert.Dil16Ideal.Own

open Idealize.ShloMosaic Idealize.ShloMosaic.TcCoe Idealize.SL.Sem
open Idealize.ShloMosaic.Pipeline (Dat)
open Cert.Dil16Ideal Cert.Dil16Ideal.Gen Cert.Dil

/-! ## The body's outputs are the tile's operations -/

/-- The value that stands for the masked scores. -/
def bot : EReal := (Named.named (F := Ideal) (φ := .f32) κ "mask" 0xF149F2CA#32 : Ideal .f32)

/-- It is `-∞`. -/
theorem bot_eq : bot = ⊥ := IdealRules.named_const.ideal_named_scalar _ _ _ _ rfl

variable (i : grid0.Coords) (x0 : Vec Ideal S128x512 .bf16) (x1 x2 x3 x4 : Vec Ideal S128x512 .f32)

/-- The mask of the grid point's block of rows. -/
abbrev msk : IVec T256 1 := maskOp (BitVec.ofNat 32 (i 2).val)

/-- The attention's staged block: four pairs of heads side by side. -/
theorem out5_eq : out0_5 i x0 x1 x2 x3 x4 = View.canon
    [⟨r0_4, pairOp (msk i) bot (View.ld x0 r0_4) (catOp (View.ld x1 r0_0) (View.ld x3 r0_0)) (catOp (View.ld x2 r0_0) (View.ld x4 r0_0)) 384 slices3⟩,
     ⟨r0_3, pairOp (msk i) bot (View.ld x0 r0_3) (catOp (View.ld x1 r0_0) (View.ld x3 r0_0)) (catOp (View.ld x2 r0_0) (View.ld x4 r0_0)) 256 slices2⟩,
     ⟨r0_2, pairOp (msk i) bot (View.ld x0 r0_2) (catOp (View.ld x1 r0_0) (View.ld x3 r0_0)) (catOp (View.ld x2 r0_0) (View.ld x4 r0_0)) 128 slices1⟩,
     ⟨r0_1, pairOp (msk i) bot (View.ld x0 r0_1) (catOp (View.ld x1 r0_0) (View.ld x3 r0_0)) (catOp (View.ld x2 r0_0) (View.ld x4 r0_0)) 0 slices0⟩] := rfl

/-- The statistics' staged block. -/
theorem out6_eq : out0_6 i x0 x1 x2 x3 x4 = View.canon
    [⟨r0_5, statsOp (msk i) bot (View.ld x0 r0_1) (View.ld x0 r0_2) (View.ld x0 r0_3) (View.ld x0 r0_4) (catOp (View.ld x1 r0_0) (View.ld x3 r0_0))⟩] := rfl

/-- The offset of a whole block. -/
theorem hz : (![0, 0] : Fin 2 → Nat) = fun _ => 0 := funext fun a => by fin_cases a <;> rfl

/-- A load of the queries' lanes from lane `o`. -/
theorem ld_lanes (o : ℕ) (h : ∀ a, (![0, o] : Fin 2 → Nat) a + S128x128.size a ≤ S128x512.size a) (t j : Fin 128) (hl : o + j.val < 512) :
    View.ld x0 (Rect.unit (s := S128x512) ![0, o] S128x128.size h) (ix2 t j) = x0 (ix2 t ⟨o + j.val, hl⟩) := by
  refine congrArg x0 (funext fun z => Fin.ext ?_)
  match z with
  | ⟨0, _⟩ => show 0 + 1 * t.val = t.val; omega
  | ⟨1, _⟩ => show o + 1 * j.val = o + j.val; omega

variable {i x0 x1 x2 x3 x4} {n : ℕ} {Qf Kf Vf : ℕ → ℕ → EReal}

/-- The attention's staged block, read. -/
theorem out5_apply (hi : (i 2).val = n) (T : Tile n Qf Kf Vf x0 x1 x2 x3 x4) (a : Fin 128) (c : Fin 512) :
    out0_5 i x0 x1 x2 x3 x4 (ix2 a c) = attnAt Qf Kf Vf (n * 128 + a.val) c.val := by
  rw [out5_eq, bot_eq]
  unfold msk
  rw [hi]
  simp only [View.ld_unit_zero (S := S128x512) hz]
  exact lanes_apply _ _ _ _ a c (attnAt Qf Kf Vf (n * 128 + a.val))
    (fun j => T.pair_apply (p := 0) (by omega) slices0 _ (fun t j h => ld_lanes x0 _ _ t j h) a j)
    (fun j => T.pair_apply (p := 1) (by omega) slices1 _ (fun t j h => ld_lanes x0 _ _ t j h) a j)
    (fun j => T.pair_apply (p := 2) (by omega) slices2 _ (fun t j h => ld_lanes x0 _ _ t j h) a j)
    (fun j => T.pair_apply (p := 3) (by omega) slices3 _ (fun t j h => ld_lanes x0 _ _ t j h) a j)

/-- The statistics' staged block, read. -/
theorem out6_apply (hi : (i 2).val = n) (T : Tile n Qf Kf Vf x0 x1 x2 x3 x4) (a j : Fin 128) :
    out0_6 i x0 x1 x2 x3 x4 (ix2 a j) = statAt Qf Kf (n * 128 + a.val) j.val := by
  rw [out6_eq, bot_eq]
  unfold msk
  rw [hi]
  simp only [View.ld_unit_zero (S := S128x512) hz]
  rw [View.canon_unit_zero (S := S128x128) hz]
  exact T.statsOp_apply _ _ _ _ (fun t j h => ld_lanes x0 _ _ t j h) (fun t j h => ld_lanes x0 _ _ t j h)
    (fun t j h => ld_lanes x0 _ _ t j h) (fun t j h => ld_lanes x0 _ _ t j h) a j

/-! ## The staged blocks are a tile of the arguments -/

variable (m : (ℓ : Loc nD τ sig) → Buf (Elt Ideal) ℓ) (ρ : Dev nD → PrngReg) (c : Dev nD)

/-- The queries and the rows as launched. -/
abbrev argQ : S16384x512.Idx → EReal := m ((c : Thread nD τ).loc main_arg0)
abbrev argR : S16384x1024.Idx → EReal := m ((c : Thread nD τ).loc main_arg1)

/-- The region finds the queries reshaped, `16` tokens to a row. -/
theorem V_v0 : V m c main_v0 = shapeCast S1024x8192 (argQ m c) shapeCasts_S16384x512_S1024x8192 := by
  unfold V
  after_reads_simp
  rfl

/-- The region finds the rows reshaped, `16` tokens to a row. -/
theorem V_v1 : V m c main_v1 = shapeCast S1024x16384 (argR m c) shapeCasts_S16384x1024_S1024x16384 := by
  unfold V
  after_reads_simp
  rfl

/-- The sequence, the residue and the block of rows of a grid point. -/
abbrev pb (t : ℕ) : ℕ := t / 64
abbrev pr (t : ℕ) : ℕ := t / 4 % 16
abbrev pn (t : ℕ) : ℕ := t % 4

/-- The last coordinate of a grid point is its block of rows. -/
theorem coord2 : ∀ t : Fin cfg0.N, (grid0.coords t 2).val = pn t.val :=
  by change ∀ t : Fin grid0.N, _; decide +kernel
/-- The block of queries a grid point reads. -/
theorem index0 : ∀ t : Fin cfg0.N, win0_0.index t 0 = pb t.val * 4 + pn t.val ∧ win0_0.index t 1 = pr t.val :=
  by change ∀ t : Fin grid0.N, _; decide +kernel
/-- The block of keys before the queries' block. -/
theorem index1 : ∀ t : Fin cfg0.N, win0_1.index t 0 = pb t.val * 4 + (pn t.val - 1) ∧ win0_1.index t 1 = 2 * pr t.val :=
  by change ∀ t : Fin grid0.N, _; decide +kernel
/-- The block of values before the queries' block. -/
theorem index2 : ∀ t : Fin cfg0.N, win0_2.index t 0 = pb t.val * 4 + (pn t.val - 1) ∧ win0_2.index t 1 = 2 * pr t.val + 1 :=
  by change ∀ t : Fin grid0.N, _; decide +kernel
/-- The block of keys beside the queries. -/
theorem index3 : ∀ t : Fin cfg0.N, win0_3.index t 0 = pb t.val * 4 + pn t.val ∧ win0_3.index t 1 = 2 * pr t.val :=
  by change ∀ t : Fin grid0.N, _; decide +kernel
/-- The block of values beside the queries. -/
theorem index4 : ∀ t : Fin cfg0.N, win0_4.index t 0 = pb t.val * 4 + pn t.val ∧ win0_4.index t 1 = 2 * pr t.val + 1 :=
  by change ∀ t : Fin grid0.N, _; decide +kernel
/-- The block of attention a grid point writes. -/
theorem index5 : ∀ t : Fin cfg0.N, win0_5.index t 0 = pb t.val * 4 + pn t.val ∧ win0_5.index t 1 = pr t.val :=
  by change ∀ t : Fin grid0.N, _; decide +kernel
/-- The block of maxima and denominators a grid point writes. -/
theorem index6 : ∀ t : Fin cfg0.N, win0_6.index t 0 = pb t.val * 4 + pn t.val ∧ win0_6.index t 1 = pr t.val :=
  by change ∀ t : Fin grid0.N, _; decide +kernel

/-- An element of a staged block of queries. -/
theorem blockQ (X : S1024x8192.Idx → EReal) (hX : X = shapeCast S1024x8192 (argQ m c) shapeCasts_S16384x512_S1024x8192)
    (k : S1024x8192.Idx) (b r u l : ℕ) (hr : r < 16) (hl : l < 512) (h0 : (k 0).val = b * 512 + u) (h1 : (k 1).val = r * 512 + l) :
    X k = rowsQ 16 (argQ m c) b r u l := by
  subst hX
  refine (at2_reshape (argQ m c) _ (by decide) k).trans ?_
  rw [h0, h1]
  unfold rowsQ
  congr 1 <;> omega

/-- An element of a staged block of keys or values, `o` the column where they begin. -/
theorem blockR (X : S1024x16384.Idx → EReal) (hX : X = shapeCast S1024x16384 (argR m c) shapeCasts_S16384x1024_S1024x16384)
    (k : S1024x16384.Idx) (b r u l : ℕ) (hr : r < 16) (hl : l < 1024) (h0 : (k 0).val = b * 512 + u) (h1 : (k 1).val = r * 1024 + l) :
    X k = at2 (argR m c) (b * 8192 + u * 16 + r) l := by
  subst hX
  refine (at2_reshape (argR m c) _ (by decide) k).trans ?_
  rw [h0, h1]
  congr 1 <;> omega

/-- At every grid point the staged blocks are the tile of its sequence, residue and block of rows. -/
theorem tile (t : Fin cfg0.N) : Tile (pn t.val) (rowsQ 16 (argQ m c) (pb t.val) (pr t.val)) (rowsK 16 (argR m c) (pb t.val) (pr t.val))
    (rowsV 16 (argR m c) (pb t.val) (pr t.val)) (iblk m c 0 t) (iblk m c 1 t) (iblk m c 2 t) (iblk m c 3 t) (iblk m c 4 t) where
  small := by unfold pn; omega
  q a l := by
    unfold iblk
    rw [View.read_apply]
    refine blockQ m c _ (V_v0 m c) _ (pb t.val) (pr t.val) (pn t.val * 128 + a.val) l.val (by unfold pr; omega) l.isLt ?_ ?_
    · show win0_0.index t 0 * 128 + 1 * a.val = _
      rw [(index0 t).1]; ring
    · show win0_0.index t 1 * 512 + 1 * l.val = _
      rw [(index0 t).2]; omega
  kp _ a l := by
    unfold iblk
    rw [View.read_apply]
    refine blockR m c _ (V_v1 m c) _ (pb t.val) (pr t.val) ((pn t.val - 1) * 128 + a.val) l.val (by unfold pr; omega) (by omega) ?_ ?_
    · show win0_1.index t 0 * 128 + 1 * a.val = _
      rw [(index1 t).1]; ring
    · show win0_1.index t 1 * 512 + 1 * l.val = _
      rw [(index1 t).2]; omega
  vp _ a l := by
    unfold iblk
    rw [View.read_apply]
    refine blockR m c _ (V_v1 m c) _ (pb t.val) (pr t.val) ((pn t.val - 1) * 128 + a.val) (512 + l.val) (by unfold pr; omega) (by omega) ?_ ?_
    · show win0_2.index t 0 * 128 + 1 * a.val = _
      rw [(index2 t).1]; ring
    · show win0_2.index t 1 * 512 + 1 * l.val = _
      rw [(index2 t).2]; omega
  kc a l := by
    unfold iblk
    rw [View.read_apply]
    refine blockR m c _ (V_v1 m c) _ (pb t.val) (pr t.val) (pn t.val * 128 + a.val) l.val (by unfold pr; omega) (by omega) ?_ ?_
    · show win0_3.index t 0 * 128 + 1 * a.val = _
      rw [(index3 t).1]; ring
    · show win0_3.index t 1 * 512 + 1 * l.val = _
      rw [(index3 t).2]; omega
  vc a l := by
    unfold iblk
    rw [View.read_apply]
    refine blockR m c _ (V_v1 m c) _ (pb t.val) (pr t.val) (pn t.val * 128 + a.val) (512 + l.val) (by unfold pr; omega) (by omega) ?_ ?_
    · show win0_4.index t 0 * 128 + 1 * a.val = _
      rw [(index4 t).1]; ring
    · show win0_4.index t 1 * 512 + 1 * l.val = _
      rw [(index4 t).2]; omega

/-! ## The result arrays -/

/-- The attention's array. -/
def res5 : S1024x8192.Idx → EReal := fun k => attnRes 16 (argQ m c) (argR m c) (k 0).val (k 1).val

/-- The statistics' array. -/
def res6 : S1024x2048.Idx → EReal := fun k => statRes 16 (argQ m c) (argR m c) (k 0).val (k 1).val

/-- The attention's result at a row of a residue. -/
theorem res5_of (k : S1024x8192.Idx) (b r u l : ℕ) (hu : u < 512) (hl : l < 512) (h0 : (k 0).val = b * 512 + u) (h1 : (k 1).val = r * 512 + l) :
    res5 m c k = attnAt (rowsQ 16 (argQ m c) b r) (rowsK 16 (argR m c) b r) (rowsV 16 (argR m c) b r) u l := by
  unfold res5 attnRes
  rw [h0, h1, show (b * 512 + u) / (8192 / 16) = b by omega, show (b * 512 + u) % (8192 / 16) = u by omega,
    show (r * 512 + l) / 512 = r by omega, show (r * 512 + l) % 512 = l by omega]

/-- The packed maxima and denominators at a row of a residue. -/
theorem res6_of (k : S1024x2048.Idx) (b r u l : ℕ) (hu : u < 512) (hl : l < 128) (h0 : (k 0).val = b * 512 + u) (h1 : (k 1).val = r * 128 + l) :
    res6 m c k = statAt (rowsQ 16 (argQ m c) b r) (rowsK 16 (argR m c) b r) u l := by
  unfold res6 statRes
  rw [h0, h1, show (b * 512 + u) / (8192 / 16) = b by omega, show (b * 512 + u) % (8192 / 16) = u by omega,
    show (r * 128 + l) / 128 = r by omega, show (r * 128 + l) % 128 = l by omega]

/-- Each grid point writes back its block of the attention's array. -/
theorem flushed5_eq (t : Fin cfg0.N) : (dats m 0 c).flushed 5 t = ((cfg0.win 5).blk t).view.read (Elt Ideal) (res5 m c) := by
  rw [Value.flushed5]
  refine funext fun y => ?_
  have hy0 : (y 0).val < 128 := (y 0).isLt
  have hy1 : (y 1).val < 512 := (y 1).isLt
  rw [View.read_apply]
  refine ((congrArg (out0_5 (grid0.coords t) (iblk m c 0 t) (iblk m c 1 t) (iblk m c 2 t) (iblk m c 3 t) (iblk m c 4 t))
    (eq_ix2 (n0 := 128) (n1 := 512) y)).trans (out5_apply (coord2 t) (tile m c t) (y 0) (y 1))).trans ?_
  refine (res5_of m c _ _ _ _ _ (by have := t.isLt; unfold pn; omega) hy1 ?_ ?_).symm
  · show win0_5.index t 0 * 128 + 1 * (y 0).val = _
    rw [(index5 t).1]; ring
  · show win0_5.index t 1 * 512 + 1 * (y 1).val = _
    rw [(index5 t).2]; ring

/-- Each grid point writes back its block of the statistics' array. -/
theorem flushed6_eq (t : Fin cfg0.N) : (dats m 0 c).flushed 6 t = ((cfg0.win 6).blk t).view.read (Elt Ideal) (res6 m c) := by
  rw [Value.flushed6]
  refine funext fun y => ?_
  have hy0 : (y 0).val < 128 := (y 0).isLt
  have hy1 : (y 1).val < 128 := (y 1).isLt
  rw [View.read_apply]
  refine ((congrArg (out0_6 (grid0.coords t) (iblk m c 0 t) (iblk m c 1 t) (iblk m c 2 t) (iblk m c 3 t) (iblk m c 4 t))
    (eq_ix2 (n0 := 128) (n1 := 128) y)).trans (out6_apply (coord2 t) (tile m c t) (y 0) (y 1))).trans ?_
  refine (res6_of m c _ _ _ _ _ (by have := t.isLt; unfold pn; omega) hy1 ?_ ?_).symm
  · show win0_6.index t 0 * 128 + 1 * (y 0).val = _
    rw [(index6 t).1]; ring
  · show win0_6.index t 1 * 128 + 1 * (y 1).val = _
    rw [(index6 t).2]; ring

/-- Every grid point writes its blocks back. -/
theorem flush5 : ∀ t : Fin cfg0.N, (cfg0.win 5).flush t = true := (by decide +kernel : ∀ t : Fin grid0.N, win0_5.flush t = true)
/-- Every grid point writes its maxima and denominators back. -/
theorem flush6 : ∀ t : Fin cfg0.N, (cfg0.win 6).flush t = true := (by decide +kernel : ∀ t : Fin grid0.N, win0_6.flush t = true)

/-- The grid point whose block holds row `R` and the residue `r`. -/
def ptOf (R r : ℕ) (hR : R < 1024) (hr : r < 16) : Fin cfg0.N :=
  ⟨R / 512 * 64 + r * 4 + R % 512 / 128, by rw [show cfg0.N = 128 from N_0]; omega⟩

/-- The attention's array after the run. -/
theorem final5 : (dats m 0 c).arrAt 5 cfg0.N = res5 m c :=
  (dats m 0 c).arrAt_eq_of_cover 5 (res5 m c) (fun t _ => flushed5_eq m c t) fun k => by
    have h0 : (k 0).val < 1024 := (k 0).isLt
    have h1 : (k 1).val < 8192 := (k 1).isLt
    refine ⟨ptOf (k 0).val ((k 1).val / 512) h0 (by omega), flush5 _, ?_⟩
    have hi := index5 (ptOf (k 0).val ((k 1).val / 512) h0 (by omega))
    have hv : (ptOf (k 0).val ((k 1).val / 512) h0 (by omega)).val = (k 0).val / 512 * 64 + (k 1).val / 512 * 4 + (k 0).val % 512 / 128 := rfl
    generalize ptOf (k 0).val ((k 1).val / 512) h0 (by omega) = t at hi hv ⊢
    rw [hv] at hi
    show k ∈ ((View.whole main_v2_0).slice (win0_5.rect t)).set
    rw [View.set_slice_whole, Rect.mem_set_unit]
    intro a
    match a with
    | ⟨0, _⟩ =>
      show win0_5.index t 0 * 128 ≤ (k 0).val ∧ (k 0).val < win0_5.index t 0 * 128 + 128
      rw [hi.1]; unfold pb pn; omega
    | ⟨1, _⟩ =>
      show win0_5.index t 1 * 512 ≤ (k 1).val ∧ (k 1).val < win0_5.index t 1 * 512 + 512
      rw [hi.2]; unfold pr; omega

/-- The statistics' array after the run. -/
theorem final6 : (dats m 0 c).arrAt 6 cfg0.N = res6 m c :=
  (dats m 0 c).arrAt_eq_of_cover 6 (res6 m c) (fun t _ => flushed6_eq m c t) fun k => by
    have h0 : (k 0).val < 1024 := (k 0).isLt
    have h1 : (k 1).val < 2048 := (k 1).isLt
    refine ⟨ptOf (k 0).val ((k 1).val / 128) h0 (by omega), flush6 _, ?_⟩
    have hi := index6 (ptOf (k 0).val ((k 1).val / 128) h0 (by omega))
    have hv : (ptOf (k 0).val ((k 1).val / 128) h0 (by omega)).val = (k 0).val / 512 * 64 + (k 1).val / 128 * 4 + (k 0).val % 512 / 128 := rfl
    generalize ptOf (k 0).val ((k 1).val / 128) h0 (by omega) = t at hi hv ⊢
    rw [hv] at hi
    show k ∈ ((View.whole main_v2_1).slice (win0_6.rect t)).set
    rw [View.set_slice_whole, Rect.mem_set_unit]
    intro a
    match a with
    | ⟨0, _⟩ =>
      show win0_6.index t 0 * 128 ≤ (k 0).val ∧ (k 0).val < win0_6.index t 0 * 128 + 128
      rw [hi.1]; unfold pb pn; omega
    | ⟨1, _⟩ =>
      show win0_6.index t 1 * 128 ≤ (k 1).val ∧ (k 1).val < win0_6.index t 1 * 128 + 128
      rw [hi.2]; unfold pr; omega

/-- The run: the two result arrays, the arguments unchanged. -/
theorem run : θ_run defs (onTc (τ := τ) (main (F := Ideal))) ⟨m, fun _ => 0, ρ⟩ fun r => ∀ c : Dev nD,
      r.2.mem ((c : Thread nD τ).loc main_v2_0) = res5 m c
      ∧ r.2.mem ((c : Thread nD τ).loc main_v2_1) = res6 m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final5 m c), (h c).2.1.trans (final6 m c), (h c).2.2⟩) (Value.run_blocks m ρ)

end Cert.Dil16Ideal.Own

end
-- ==== Proof.Dil16Ref.lean ====
/-
  The dilated attention's reference at dilation 16: its two results, at the ideal values, as the attention and its
  statistics of the argument arrays.
-/
module

public import proofs.«01_k».proof.Proof.Dil16Kernel
public import proofs.«01_k».proof.Proof.Gen.Ref16Ideal.Read

@[expose] public section

noncomputable section

namespace Cert.Ref16Ideal.Own

open Idealize.ShloMosaic Idealize.ShloMosaic.TcCoe Idealize.SL.Sem
open Cert.Ref16Ideal Cert.Ref16Ideal.Gen Cert.Ref16Ideal.Read Cert.Dil

/-! ## The mask and the token numbers -/

/-- The mask of token `t` and distance `m`. -/
theorem mask_at (t : Fin 8192) (m : Fin 129) :
    val_main_v16 (F := Ideal) (ix2 t m) = if 16 * m.val ≤ t.val then 1#1 else 0#1 := by
  have h : val_main_v16 (F := Ideal) (ix2 t m)
      = IntOp.cmpi .sge (IntOp.subi (BitVec.ofNat 32 t.val) (IntOp.muli (BitVec.ofNat 32 16) (BitVec.ofNat 32 m.val))) 0#32 := by
    simp only [val_main_v16_apply, val_main_v14_apply, val_main_v12_apply, val_main_v13_apply, val_main_v7_apply, val_main_v6_apply,
      val_main_v11_apply, val_main_v10_apply, val_main_v9_apply, val_main_v8_apply, val_main_v15_apply, val_main_c_apply, val_main_c_0_apply]
    rfl
  rw [h, stride_word]
  exact back_mask t.isLt (by omega)

/-- The token number the keys' gather reads. -/
theorem key_token (t : Fin 8192) (m : Fin 129) (h : 16 * m.val ≤ t.val) :
    (val_main_v24 (F := Ideal) (ix3 t m 0)).toInt.toNat = t.val - 16 * m.val := by
  rw [← back_token h t.isLt, ← stride_word]
  simp only [val_main_v24_apply, val_main_v23_apply, val_main_v22_apply, val_main_v21_apply, val_main_v20_apply, val_main_v19_apply,
    val_main_v18_apply, val_main_v17_apply, val_main_v14_apply, val_main_v12_apply, val_main_v13_apply, val_main_v7_apply,
    val_main_v6_apply, val_main_v11_apply, val_main_v10_apply, val_main_v9_apply, val_main_v8_apply, val_main_c_apply,
    val_main_c_1_apply, val_main_c_2_apply, val_main_c_3_apply]
  rfl

/-- The token number the values' gather reads. -/
theorem value_token (t : Fin 8192) (m : Fin 129) (h : 16 * m.val ≤ t.val) :
    (val_main_v31 (F := Ideal) (ix3 t m 0)).toInt.toNat = t.val - 16 * m.val := by
  rw [← back_token h t.isLt, ← stride_word]
  simp only [val_main_v31_apply, val_main_v30_apply, val_main_v29_apply, val_main_v28_apply, val_main_v27_apply, val_main_v26_apply,
    val_main_v18_apply, val_main_v17_apply, val_main_v14_apply, val_main_v12_apply, val_main_v13_apply, val_main_v7_apply,
    val_main_v6_apply, val_main_v11_apply, val_main_v10_apply, val_main_v9_apply, val_main_v8_apply, val_main_c_apply,
    val_main_c_1_apply, val_main_c_4_apply, val_main_c_5_apply]
  rfl

/-! ## The rows -/

variable (x0 : (⟨S16384x512, .bf16⟩ : BufTy).Contents (Elt Ideal)) (x1 : (⟨S16384x1024, .f32⟩ : BufTy).Contents (Elt Ideal))

/-- The queries by batch, token, head and component. -/
theorem query_at (b : Fin 2) (t : Fin 8192) (h : Fin 8) (d : Fin 64) :
    val_main_v33 (F := Ideal) x0 (ix4 b t h d) = at2 x0 (b.val * 8192 + t.val) (h.val * 64 + d.val) := by
  rw [val_main_v33_apply, val_main_v0_apply]
  refine at2_of x0 (idx_main_v0 (ix4 b t h d)) _ _ ?_ ?_
  · show (((b.val * 8192 + t.val) * 8 + h.val) * 64 + d.val) / 512 = b.val * 8192 + t.val
    omega
  · show (((b.val * 8192 + t.val) * 8 + h.val) * 64 + d.val) % 512 = h.val * 64 + d.val
    omega

/-- The keys by batch, token, head and component. -/
theorem key_at (b : Fin 2) (t : Fin 8192) (h : Fin 8) (d : Fin 64) :
    val_main_v3 (F := Ideal) x1 (ix4 b t h d) = at2 x1 (b.val * 8192 + t.val) (h.val * 64 + d.val) := by
  rw [val_main_v3_apply, val_main_v2_apply, val_main_v1_apply]
  have e : idx_main_v3 (ix4 b t h d) = ix5 b t 0 h d := funext fun a => Fin.ext (by
    match a with
    | ⟨0, _⟩ => show (((b.val * 8192 + t.val) * 8 + h.val) * 64 + d.val) / 4194304 = b.val; omega
    | ⟨1, _⟩ => show (((b.val * 8192 + t.val) * 8 + h.val) * 64 + d.val) / 512 % 8192 = t.val; omega
    | ⟨2, _⟩ => rfl
    | ⟨3, _⟩ => show (((b.val * 8192 + t.val) * 8 + h.val) * 64 + d.val) / 64 % 8 = h.val; omega
    | ⟨4, _⟩ => show (((b.val * 8192 + t.val) * 8 + h.val) * 64 + d.val) % 64 = d.val; omega)
  rw [e]
  refine at2_of x1 (idx_main_v1 (idx_main_v2 (ix5 b t 0 h d))) _ _ ?_ ?_
  · show ((((b.val * 8192 + t.val) * 2 + 0) * 8 + h.val) * 64 + d.val) / 1024 = b.val * 8192 + t.val
    omega
  · show ((((b.val * 8192 + t.val) * 2 + 0) * 8 + h.val) * 64 + d.val) % 1024 = h.val * 64 + d.val
    omega

/-- The values by batch, token, head and component. -/
theorem value_at (b : Fin 2) (t : Fin 8192) (h : Fin 8) (d : Fin 64) :
    val_main_v5 (F := Ideal) x1 (ix4 b t h d) = at2 x1 (b.val * 8192 + t.val) (512 + (h.val * 64 + d.val)) := by
  rw [val_main_v5_apply, val_main_v4_apply, val_main_v1_apply]
  have e : idx_main_v5 (ix4 b t h d) = ix5 b t 0 h d := funext fun a => Fin.ext (by
    match a with
    | ⟨0, _⟩ => show (((b.val * 8192 + t.val) * 8 + h.val) * 64 + d.val) / 4194304 = b.val; omega
    | ⟨1, _⟩ => show (((b.val * 8192 + t.val) * 8 + h.val) * 64 + d.val) / 512 % 8192 = t.val; omega
    | ⟨2, _⟩ => rfl
    | ⟨3, _⟩ => show (((b.val * 8192 + t.val) * 8 + h.val) * 64 + d.val) / 64 % 8 = h.val; omega
    | ⟨4, _⟩ => show (((b.val * 8192 + t.val) * 8 + h.val) * 64 + d.val) % 64 = d.val; omega)
  rw [e]
  refine at2_of x1 (idx_main_v1 (idx_main_v4 (ix5 b t 0 h d))) _ _ ?_ ?_
  · show ((((b.val * 8192 + t.val) * 2 + (1 + 0)) * 8 + h.val) * 64 + d.val) / 1024 = b.val * 8192 + t.val
    omega
  · show ((((b.val * 8192 + t.val) * 2 + (1 + 0)) * 8 + h.val) * 64 + d.val) % 1024 = 512 + (h.val * 64 + d.val)
    omega

variable {r u : ℕ}

/-- The gathered key at a distance that is there. -/
theorem key_back (b : Fin 2) (t : Fin 8192) (m : Fin 129) (h : Fin 8) (d : Fin 64) (ht : t.val = u * 16 + r) (hm : m.val ≤ u) :
    val_main_v25 (F := Ideal) x1 (ix5 b t m h d) = rowsK 16 x1 b.val r (u - m.val) (h.val * 64 + d.val) := by
  have hb : 16 * m.val ≤ t.val := by omega
  refine (pick_apply _ (val_main_v3 x1) (val_main_v24 (F := Ideal)) b t m h d ⟨t.val - 16 * m.val, by omega⟩ (key_token t m hb)).trans ?_
  rw [key_at]
  unfold rowsK
  refine congrArg (fun z => at2 x1 z _) ?_
  show b.val * 8192 + (t.val - 16 * m.val) = _
  omega

/-- The gathered value at a distance that is there. -/
theorem value_back (b : Fin 2) (t : Fin 8192) (m : Fin 129) (h : Fin 8) (d : Fin 64) (ht : t.val = u * 16 + r) (hm : m.val ≤ u) :
    val_main_v32 (F := Ideal) x1 (ix5 b t m h d) = rowsV 16 x1 b.val r (u - m.val) (h.val * 64 + d.val) := by
  have hb : 16 * m.val ≤ t.val := by omega
  refine (pick_apply _ (val_main_v5 x1) (val_main_v31 (F := Ideal)) b t m h d ⟨t.val - 16 * m.val, by omega⟩ (value_token t m hb)).trans ?_
  rw [value_at]
  unfold rowsV
  refine congrArg (fun z => at2 x1 z _) ?_
  show b.val * 8192 + (t.val - 16 * m.val) = _
  omega

/-! ## The scores, their maximum and the weights -/

/-- The queries of head `h` at row `u`. -/
abbrev qs (b r u h : ℕ) : ℕ → EReal := fun d => rowsQ 16 x0 b r u (h * 64 + d)

/-- The keys of head `h` before row `u`. -/
abbrev ks (b r u h : ℕ) : ℕ → ℕ → EReal := fun m d => rowsK 16 x1 b r (u - m) (h * 64 + d)

/-- The values of head `h` before row `u`. -/
abbrev vs (b r u h : ℕ) : ℕ → ℕ → EReal := fun m d => rowsV 16 x1 b r (u - m) (h * 64 + d)

/-- The score at a distance that is there. -/
theorem score_at (b : Fin 2) (t : Fin 8192) (h : Fin 8) (m : Fin 129) (ht : t.val = u * 16 + r) (hm : m.val ≤ u) :
    val_main_v34 (F := Ideal) x0 x1 (ix4 b t h m) = score (qs x0 b r u h) (ks x1 b r u h) m.val := by
  rw [val_main_v34_apply]
  unfold score
  refine Finset.sum_congr rfl fun d _ => ?_
  have el : lidx_main_v34 (ix4 b t h m) d = ix4 b t h d := funext fun a => by
    match a with | ⟨0, _⟩ => rfl | ⟨1, _⟩ => rfl | ⟨2, _⟩ => rfl | ⟨3, _⟩ => rfl
  have er : ridx_main_v34 (ix4 b t h m) d = ix5 b t m h d := funext fun a => by
    match a with | ⟨0, _⟩ => rfl | ⟨1, _⟩ => rfl | ⟨2, _⟩ => rfl | ⟨3, _⟩ => rfl | ⟨4, _⟩ => rfl
  rw [el, er, query_at, key_back x1 b t m h d ht hm]
  refine congrArg (· * _) ?_
  show _ = at2 x0 _ _
  refine congrArg (fun z => at2 x0 z _) ?_
  omega

/-- A distance is there when its row is. -/
theorem there {t m : ℕ} (ht : t = u * 16 + r) (hr : r < 16) : 16 * m ≤ t ↔ m ≤ u := by omega

/-- The masked score. -/
theorem mscore_at (b : Fin 2) (t : Fin 8192) (h : Fin 8) (m : Fin 129) (ht : t.val = u * 16 + r) (hr : r < 16) :
    val_main_v36 (F := Ideal) x0 x1 (ix4 b t h m) = mscore (qs x0 b r u h) (ks x1 b r u h) u m.val := by
  rw [val_main_v36_apply, val_main_call0_v1_apply, val_main_v35_apply, val_main_call0_v2_apply, val_main_call0_v0_apply, val_main_cst_apply]
  have e : idx_main_v35 (idx_main_call0_v1 (ix4 b t h m)) = ix2 t m := funext fun a => by
    match a with | ⟨0, _⟩ => rfl | ⟨1, _⟩ => rfl
  rw [e, mask_at]
  unfold mscore
  by_cases hm : m.val ≤ u
  · rw [if_pos hm, if_pos ((there ht hr).mpr hm), ← score_at x0 x1 b t h m ht hm]; rfl
  · rw [if_neg hm, if_neg (fun h' => hm ((there ht hr).mp h'))]; exact ofBits_negInf

/-- The largest masked score. -/
theorem smax_at (b : Fin 2) (t : Fin 8192) (h : Fin 8) (ht : t.val = u * 16 + r) (hr : r < 16) :
    val_main_v37 (F := Ideal) x0 x1 (ix3 b t h) = smax (qs x0 b r u h) (ks x1 b r u h) u := by
  refine (lastMax_apply _ _ _ _ ofBits_negInf b t h).trans ?_
  unfold smax
  exact congrArg (fun f => Finset.fold max ⊥ f Finset.univ) (funext fun m => mscore_at x0 x1 b t h m ht hr)

/-- The weight. -/
theorem weight_at (b : Fin 2) (t : Fin 8192) (h : Fin 8) (m : Fin 129) (ht : t.val = u * 16 + r) (hr : r < 16) :
    val_main_v42 (F := Ideal) x0 x1 (ix4 b t h m) = weight (qs x0 b r u h) (ks x1 b r u h) u m.val := by
  rw [val_main_v42_apply, val_main_call1_v1_apply, val_main_v35_apply, val_main_call1_v2_apply, val_main_call1_v0_apply, val_main_cst_7_apply,
    val_main_v41_apply, val_main_v40_apply, val_main_v39_apply, val_main_v38_apply]
  have e : idx_main_v35 (idx_main_call1_v1 (ix4 b t h m)) = ix2 t m := funext fun a => by
    match a with | ⟨0, _⟩ => rfl | ⟨1, _⟩ => rfl
  have e' : idx_main_v38 (idx_main_v39 (ix4 b t h m)) = ix3 b t h := funext fun a => by
    match a with | ⟨0, _⟩ => rfl | ⟨1, _⟩ => rfl | ⟨2, _⟩ => rfl
  rw [e, e', mask_at, smax_at x0 x1 b t h ht hr, mscore_at x0 x1 b t h m ht hr]
  unfold weight
  by_cases hm : m.val ≤ u
  · rw [if_pos hm, if_pos ((there ht hr).mpr hm)]; unfold mscore; rw [if_pos hm]; rfl
  · rw [if_neg hm, if_neg (fun h' => hm ((there ht hr).mp h'))]; exact Ideal.ofBits_zero_f32

/-- The sum of the weights. -/
theorem denom_at (b : Fin 2) (t : Fin 8192) (h : Fin 8) (ht : t.val = u * 16 + r) (hr : r < 16) :
    val_main_v43 (F := Ideal) x0 x1 (ix3 b t h) = denom (qs x0 b r u h) (ks x1 b r u h) u := by
  rw [val_main_v43_apply, val_main_cst_8_apply]
  have z : (FloatOps.ofBits .f32 0x00000000#32 : Ideal .f32) = 0 := Ideal.ofBits_zero_f32
  rw [z, zero_add]
  unfold denom
  refine Finset.sum_congr rfl fun m _ => ?_
  have e : idx_main_v43 (ix3 b t h) m = ix4 b t h m := funext fun a => by
    match a with | ⟨0, _⟩ => rfl | ⟨1, _⟩ => rfl | ⟨2, _⟩ => rfl | ⟨3, _⟩ => rfl
  rw [e, weight_at x0 x1 b t h m ht hr]

/-- The weighted sum of the values. -/
theorem mix_at (b : Fin 2) (t : Fin 8192) (h : Fin 8) (d : Fin 64) (ht : t.val = u * 16 + r) (hr : r < 16) :
    val_main_v45 (F := Ideal) x0 x1 (ix4 b t h d) = mix (qs x0 b r u h) (ks x1 b r u h) (vs x1 b r u h) u d.val := by
  rw [val_main_v45_apply]
  unfold mix
  refine Finset.sum_congr rfl fun m _ => ?_
  have el : lidx_main_v45 (ix4 b t h d) m = ix4 b t h m := funext fun a => by
    match a with | ⟨0, _⟩ => rfl | ⟨1, _⟩ => rfl | ⟨2, _⟩ => rfl | ⟨3, _⟩ => rfl
  have er : ridx_main_v45 (ix4 b t h d) m = ix5 b t m h d := funext fun a => by
    match a with | ⟨0, _⟩ => rfl | ⟨1, _⟩ => rfl | ⟨2, _⟩ => rfl | ⟨3, _⟩ => rfl | ⟨4, _⟩ => rfl
  rw [el, er, weight_at x0 x1 b t h m ht hr]
  by_cases hm : m.val ≤ u
  · rw [value_back x1 b t m h d ht hm]
  · have : weight (qs x0 b r u h) (ks x1 b r u h) u m.val = 0 := by unfold weight; rw [if_neg hm]
    rw [this, zero_mul, zero_mul]

/-! ## The results -/

/-- The attention's result. -/
theorem attn_at (i : S1024x8192.Idx) : val_main_v50 (F := Ideal) x0 x1 i = attnRes 16 x0 x1 (i 0).val (i 1).val := by
  have h0 : (i 0).val < 1024 := (i 0).isLt
  have h1 : (i 1).val < 8192 := (i 1).isLt
  generalize hR : (i 0).val = R at h0
  generalize hC : (i 1).val = C at h1
  have e : idx_main_v50 i = ix4 ⟨R / 512, by omega⟩ ⟨R % 512 * 16 + C / 512, by omega⟩ ⟨C % 512 / 64, by omega⟩ ⟨C % 64, by omega⟩ :=
    funext fun a => Fin.ext (by
      match a with
      | ⟨0, _⟩ => show ((i 0).val * 8192 + (i 1).val) / 4194304 = R / 512; rw [hR, hC]; omega
      | ⟨1, _⟩ => show ((i 0).val * 8192 + (i 1).val) / 512 % 8192 = R % 512 * 16 + C / 512; rw [hR, hC]; omega
      | ⟨2, _⟩ => show ((i 0).val * 8192 + (i 1).val) / 64 % 8 = C % 512 / 64; rw [hR, hC]; omega
      | ⟨3, _⟩ => show ((i 0).val * 8192 + (i 1).val) % 64 = C % 64; rw [hR, hC]; omega)
  rw [val_main_v50_apply, e, mix_at x0 x1 _ _ _ _ (u := R % 512) (r := C / 512) rfl (by omega)]
  unfold attnRes attnAt
  have hd : C % 512 % 64 = C % 64 := by omega
  rw [hd]

/-- The statistics' result. -/
theorem stat_at (i : S1024x2048.Idx) : val_main_v51 (F := Ideal) x0 x1 i = statRes 16 x0 x1 (i 0).val (i 1).val := by
  have h0 : (i 0).val < 1024 := (i 0).isLt
  have h1 : (i 1).val < 2048 := (i 1).isLt
  generalize hR : (i 0).val = R at h0
  generalize hC : (i 1).val = C at h1
  have e : idx_main_v51 i = ix3 ⟨R / 512, by omega⟩ ⟨R % 512 * 16 + C / 128, by omega⟩ ⟨C % 128, by omega⟩ :=
    funext fun a => Fin.ext (by
      match a with
      | ⟨0, _⟩ => show ((i 0).val * 2048 + (i 1).val) / 1048576 = R / 512; rw [hR, hC]; omega
      | ⟨1, _⟩ => show ((i 0).val * 2048 + (i 1).val) / 128 % 8192 = R % 512 * 16 + C / 128; rw [hR, hC]; omega
      | ⟨2, _⟩ => show ((i 0).val * 2048 + (i 1).val) % 128 = C % 128; rw [hR, hC]; omega)
  rw [val_main_v51_apply, e]
  refine (join_apply _ _ _ _ _ _ _).trans ?_
  unfold statRes statAt
  dsimp only
  by_cases h8 : C % 128 < 8
  · rw [dif_pos h8, if_pos h8, val_main_v46_apply, val_main_v38_apply]
    have e' : ∀ (b : Fin 2) (t : Fin 8192) (h : Fin 8), idx_main_v38 (idx_main_v46 (ix3 b t h)) = ix3 b t h := fun b t h =>
      funext fun a => Fin.ext (by
        match a with
        | ⟨0, _⟩ => show ((b.val * 8192 + t.val) * 8 + h.val) / 65536 = b.val; omega
        | ⟨1, _⟩ => show ((b.val * 8192 + t.val) * 8 + h.val) / 8 % 8192 = t.val; omega
        | ⟨2, _⟩ => show ((b.val * 8192 + t.val) * 8 + h.val) / 1 % 8 = h.val; omega)
    rw [e', smax_at x0 x1 _ _ _ (u := R % 512) (r := C / 128) rfl (by omega)]
    rfl
  · rw [dif_neg h8, if_neg h8]
    by_cases h16 : C % 128 - 8 < 8
    · rw [dif_pos h16, if_pos (by omega), val_main_v47_apply, val_main_v44_apply]
      have e' : ∀ (b : Fin 2) (t : Fin 8192) (h : Fin 8), idx_main_v44 (idx_main_v47 (ix3 b t h)) = ix3 b t h := fun b t h =>
        funext fun a => Fin.ext (by
          match a with
          | ⟨0, _⟩ => show ((b.val * 8192 + t.val) * 8 + h.val) / 65536 = b.val; omega
          | ⟨1, _⟩ => show ((b.val * 8192 + t.val) * 8 + h.val) / 8 % 8192 = t.val; omega
          | ⟨2, _⟩ => show ((b.val * 8192 + t.val) * 8 + h.val) / 1 % 8 = h.val; omega)
      rw [e', denom_at x0 x1 _ _ _ (u := R % 512) (r := C / 128) rfl (by omega)]
      rfl
    · rw [dif_neg h16, if_neg (by omega), val_main_v48_apply, val_main_cst_9_apply]
      exact Ideal.ofBits_zero_f32

/-- The run: the two results as the attention and its statistics, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v50) = (fun k => attnRes 16 (m ((c.tc : Thread nD τ).loc main_arg0)) (m ((c.tc : Thread nD τ).loc main_arg1)) (k 0).val (k 1).val)
      ∧ r.2.mem ((c.tc : Thread nD τ).loc main_v51) = (fun k => statRes 16 (m ((c.tc : Thread nD τ).loc main_arg0)) (m ((c.tc : Thread nD τ).loc main_arg1)) (k 0).val (k 1).val)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans ((val_main_v50_eq m c).trans (funext fun k => attn_at _ _ k)),
    (h c).2.1.trans ((val_main_v51_eq m c).trans (funext fun k => stat_at _ _ k)), (h c).2.2⟩) (Value.run m ρ)

end Cert.Ref16Ideal.Own

end
-- ==== Proof.PostMath.lean ====
/-
  The channel block that ends a layer, one row of activations at a time, at the ideal values: the dilations' attentions combined by
  their denominators, the residual with the output projection, the squared-ReLU channel block behind its RMS norm, and the gate on
  the per-layer embedding. And the one sum the kernel takes in four pieces.
-/
module

public import proofs.«01_k».proof.Proof.Dil16Ref

@[expose] public section

noncomputable section

namespace Cert.Post

open Idealize.ShloMosaic

/-! ## One row -/

/-- The RMS norm of a row, scaled by `g`. -/
def rms (x g : Fin 1024 → EReal) (j : Fin 1024) : EReal :=
  x j * Ideal.rsqrt (Ideal.div (∑ k, x k * x k) (Ideal.ofBits .f32 0x44800000#32) + Ideal.ofBits .f32 0x358637BD#32) * g j

/-- The largest of three maxima. -/
def top (m0 m1 m2 : EReal) : EReal := max (max m0 m1) m2

/-- Three attentions `o` with their maxima `m` and sums of weights `l`, combined by their denominators. -/
def comb (m0 m1 m2 l0 l1 l2 o0 o1 o2 : EReal) : EReal :=
  Ideal.div (Ideal.exp (m0 - top m0 m1 m2) * o0 + Ideal.exp (m1 - top m0 m1 m2) * o1 + Ideal.exp (m2 - top m0 m1 m2) * o2)
    (Ideal.exp (m0 - top m0 m1 m2) * l0 + Ideal.exp (m1 - top m0 m1 m2) * l1 + Ideal.exp (m2 - top m0 m1 m2) * l2)

/-- The residual with the projected mix. -/
def mixed (h : Fin 1024 → EReal) (y : Fin 512 → EReal) (wo : Fin 512 → Fin 1024 → EReal) (j : Fin 1024) : EReal :=
  h j + ∑ k, y k * wo k j

/-- The channel block's hidden value: the ReLU of the normed row against a column of the first weights. -/
def hidden (h g : Fin 1024 → EReal) (w1 : Fin 1024 → Fin 4096 → EReal) (f : Fin 4096) : EReal := max (∑ k, rms h g k * w1 k f) 0

/-- The residual with the channel block. -/
def channel (h g : Fin 1024 → EReal) (w1 : Fin 1024 → Fin 4096 → EReal) (w2 : Fin 4096 → Fin 1024 → EReal) (j : Fin 1024) : EReal :=
  h j + ∑ f, hidden h g w1 f * hidden h g w1 f * w2 f j

/-- The residual with the gated embedding. -/
def gated (h g : Fin 1024 → EReal) (wg : Fin 1024 → Fin 1024 → EReal) (p : Fin 256 → EReal) (wp : Fin 256 → Fin 1024 → EReal)
    (j : Fin 1024) : EReal :=
  h j + Ideal.logistic (∑ k, rms h g k * wg k j) * ∑ k, p k * wp k j

/-- All of it behind the mix: channel block, then gated embedding. -/
def tail (h gm : Fin 1024 → EReal) (w1 : Fin 1024 → Fin 4096 → EReal) (w2 : Fin 4096 → Fin 1024 → EReal) (gp : Fin 1024 → EReal)
    (wg : Fin 1024 → Fin 1024 → EReal) (p : Fin 256 → EReal) (wp : Fin 256 → Fin 1024 → EReal) : Fin 1024 → EReal :=
  gated (channel h gm w1 w2) gp wg p wp

/-- The row of combined attentions: lane `c` of head `c / 64`, whose maxima are lane `c / 64` of the statistics and whose sums are
    lane `8 + c / 64`. -/
def combined (o0 o1 o2 : Fin 512 → EReal) (s0 s1 s2 : Fin 128 → EReal) (c : Fin 512) : EReal :=
  comb (s0 ⟨c.val / 64, by omega⟩) (s1 ⟨c.val / 64, by omega⟩) (s2 ⟨c.val / 64, by omega⟩)
    (s0 ⟨8 + c.val / 64, by omega⟩) (s1 ⟨8 + c.val / 64, by omega⟩) (s2 ⟨8 + c.val / 64, by omega⟩) (o0 c) (o1 c) (o2 c)

/-- A row of an array. -/
abbrev rowOf {n w : ℕ} (X : (⟨2, ![n, w]⟩ : Shape).Idx → EReal) (r : Fin n) : Fin w → EReal := fun k => X (ix2 r k)

/-- A matrix by its two indices. -/
abbrev matOf {n w : ℕ} (X : (⟨2, ![n, w]⟩ : Shape).Idx → EReal) : Fin n → Fin w → EReal := fun k j => X (ix2 k j)

/-- The whole block for one row of `n`: combine, project, channel block, gated embedding. -/
def postRow {n : ℕ} (h : (⟨2, ![n, 1024]⟩ : Shape).Idx → EReal) (o0 o1 o2 : (⟨2, ![n, 512]⟩ : Shape).Idx → EReal)
    (s0 s1 s2 : (⟨2, ![n, 128]⟩ : Shape).Idx → EReal) (wo : (⟨2, ![512, 1024]⟩ : Shape).Idx → EReal)
    (gm : (⟨2, ![1, 1024]⟩ : Shape).Idx → EReal) (w1 : (⟨2, ![1024, 4096]⟩ : Shape).Idx → EReal)
    (w2 : (⟨2, ![4096, 1024]⟩ : Shape).Idx → EReal) (gp : (⟨2, ![1, 1024]⟩ : Shape).Idx → EReal)
    (wg : (⟨2, ![1024, 1024]⟩ : Shape).Idx → EReal) (p : (⟨2, ![n, 256]⟩ : Shape).Idx → EReal)
    (wp : (⟨2, ![256, 1024]⟩ : Shape).Idx → EReal) (r : Fin n) : Fin 1024 → EReal :=
  tail (mixed (rowOf h r) (combined (rowOf o0 r) (rowOf o1 r) (rowOf o2 r) (rowOf s0 r) (rowOf s1 r) (rowOf s2 r)) (matOf wo))
    (rowOf gm 0) (matOf w1) (matOf w2) (rowOf gp 0) (matOf wg) (rowOf p r) (matOf wp)

/-! ## The sum in four pieces -/

/-- Lane `k` of the chunk that begins at `o`. -/
abbrev lane (o : ℕ) (ho : o + 1024 ≤ 4096) (k : Fin 1024) : Fin 4096 := ⟨o + k.val, by omega⟩

/-- A sum over 4096 lanes, taken in four chunks of 1024. -/
theorem sum_chunks (f : Fin 4096 → EReal) :
    ∑ k, f k = ∑ k, f (lane 0 (by decide) k) + ∑ k, f (lane 1024 (by decide) k) + ∑ k, f (lane 2048 (by decide) k)
      + ∑ k, f (lane 3072 (by decide) k) := by
  have h1 := Fin.sum_univ_add (a := 1024 + 1024 + 1024) (b := 1024) f
  have h2 := Fin.sum_univ_add (a := 1024 + 1024) (b := 1024) fun i => f (Fin.castAdd 1024 i)
  have h3 := Fin.sum_univ_add (a := 1024) (b := 1024) fun i => f (Fin.castAdd 1024 (Fin.castAdd 1024 i))
  refine (h1.trans (congrArg (· + _) (h2.trans (congrArg (· + _) h3)))).trans ?_
  refine congrArg₂ (· + ·) (congrArg₂ (· + ·) (congrArg₂ (· + ·) ?_ ?_) ?_) ?_ <;>
    refine Finset.sum_congr rfl fun k _ => congrArg f (Fin.ext ?_)
  · show k.val = 0 + k.val; omega
  · rfl
  · rfl
  · rfl

/-- The largest of three, folded from `-∞`. -/
theorem fold_three (f : Fin 3 → EReal) : (Finset.univ : Finset (Fin 3)).fold max ⊥ f = top (f 0) (f 1) (f 2) := by
  have e : (Finset.univ : Finset (Fin 3)) = {0, 1, 2} := by decide
  rw [e, Finset.fold_insert (by decide), Finset.fold_insert (by decide), Finset.fold_singleton]
  unfold top
  rw [max_eq_left (bot_le : (⊥ : EReal) ≤ f 2), max_assoc]

end Cert.Post

end
-- ==== Proof.PostBlock.lean ====
/-
  A block of 256 rows of the channel block: the vector operations the kernel's body is made of, and each of them at an index as the
  row-wise mathematics.
-/
module

public import proofs.«01_k».proof.Proof.PostMath

@[expose] public section

set_option maxRecDepth 16384

noncomputable section

namespace Cert.Post

open Idealize.ShloMosaic

abbrev B1024 : Shape := ⟨2, ![256, 1024]⟩
abbrev B512 : Shape := ⟨2, ![256, 512]⟩
abbrev B256 : Shape := ⟨2, ![256, 256]⟩
abbrev B128 : Shape := ⟨2, ![256, 128]⟩
abbrev B64 : Shape := ⟨2, ![256, 64]⟩
abbrev B1 : Shape := ⟨2, ![256, 1]⟩
abbrev V256 : Shape := ⟨1, ![256]⟩
abbrev G1024 : Shape := ⟨2, ![1, 1024]⟩
abbrev M512 : Shape := ⟨2, ![512, 1024]⟩
abbrev M1024 : Shape := ⟨2, ![1024, 1024]⟩

/-- A block of 512 lanes against a matrix. -/
def dot512 : DotDims B512 M512 B1024 where
  lhsContracting := [1]
  rhsContracting := [0]
  lhsNonContracting := [0]
  rhsNonContracting := [1]
  lhsBatch := []
  rhsBatch := []
  wf := by decide

/-- A block of 1024 lanes against a matrix. -/
def dot1024 : DotDims B1024 M1024 B1024 where
  lhsContracting := [1]
  rhsContracting := [0]
  lhsNonContracting := [0]
  rhsNonContracting := [1]
  lhsBatch := []
  rhsBatch := []
  wf := by decide

/-- A block of 256 lanes against a matrix. -/
def dot256 : DotDims B256 B1024 B1024 where
  lhsContracting := [1]
  rhsContracting := [0]
  lhsNonContracting := [0]
  rhsNonContracting := [1]
  lhsBatch := []
  rhsBatch := []
  wf := by decide

/-- The largest of three maxima, per row. -/
def topOp (m0 m1 m2 : FVec Ideal B1 .f32) : FVec Ideal B1 .f32 := maximumf (maximumf m0 m1) m2

/-- A weight between dilations, per row. -/
def wOp (m m0 m1 m2 : FVec Ideal B1 .f32) : FVec Ideal B1 .f32 := exp (subf m (topOp m0 m1 m2))

/-- One head of the combination. -/
def headOp (m0 m1 m2 l0 l1 l2 : FVec Ideal B1 .f32) (o0 o1 o2 : FVec Ideal B64 .f32) : FVec Ideal B64 .bf16 :=
  shapeCast B64 (truncf .bf16 (divf
    (addf (addf (addf (broadcast B64 (Scalar.ofBits (F := Ideal) .f32 0x00000000#32)) (mulf (broadcastTo B64 (wOp m0 m0 m1 m2) (by decide)) o0))
      (mulf (broadcastTo B64 (wOp m1 m0 m1 m2) (by decide)) o1)) (mulf (broadcastTo B64 (wOp m2 m0 m1 m2) (by decide)) o2))
    (broadcastTo B64 (addf (addf (addf (broadcast B1 (Scalar.ofBits (F := Ideal) .f32 0x00000000#32)) (mulf (wOp m0 m0 m1 m2) l0))
      (mulf (wOp m1 m0 m1 m2) l1)) (mulf (wOp m2 m0 m1 m2) l2)) (by decide))) (by decide)) (by decide)

/-- The residual with the projected mix. -/
def mixedOp (h : FVec Ideal B1024 .f32) (y : FVec Ideal B512 .bf16) (wo : FVec Ideal M512 .bf16) : FVec Ideal B1024 .f32 :=
  addf h (matmul dot512 none y wo (constant B1024 .f32 0x00000000#32))

/-- The RMS norm of each row. -/
def rmsOp (x : FVec Ideal B1024 .f32) (g : FVec Ideal G1024 .f32) : FVec Ideal B1024 .bf16 :=
  truncf .bf16 (mulf (mulf x (broadcastTo B1024 (rsqrt (addf (divf
    (shapeCast B1 (multiReduction .add [1] V256 (mulf x x) 0x00000000#32 (by decide) (.inl rfl) rfl) (by decide))
    (broadcast B1 (Scalar.ofBits (F := Ideal) .f32 0x44800000#32))) (broadcast B1 (Scalar.ofBits (F := Ideal) .f32 0x358637BD#32)))) (by decide)))
    (broadcastTo B1024 g (by decide))) (by decide)

/-- The squared ReLU of a chunk of hidden lanes. -/
def hiddenOp (n : FVec Ideal B1024 .bf16) (w : FVec Ideal M1024 .bf16) : FVec Ideal B1024 .f32 :=
  maximumf (matmul dot1024 none n w (constant B1024 .f32 0x00000000#32)) (broadcast B1024 (Scalar.ofBits (F := Ideal) .f32 0x00000000#32))

/-- A chunk of hidden lanes against the second weights. -/
def chunkOp (n : FVec Ideal B1024 .bf16) (w v : FVec Ideal M1024 .bf16) : FVec Ideal B1024 .f32 :=
  matmul dot1024 none (truncf .bf16 (mulf (hiddenOp n w) (hiddenOp n w)) (by decide)) v (constant B1024 .f32 0x00000000#32)

/-- The residual with the channel block's four chunks. -/
def channelOp (h : FVec Ideal B1024 .f32) (n : FVec Ideal B1024 .bf16) (w0 w1 w2 w3 v0 v1 v2 v3 : FVec Ideal M1024 .bf16) : FVec Ideal B1024 .f32 :=
  addf h (addf (addf (addf (addf (broadcast B1024 (Scalar.ofBits (F := Ideal) .f32 0x00000000#32)) (chunkOp n w0 v0)) (chunkOp n w1 v1))
    (chunkOp n w2 v2)) (chunkOp n w3 v3))

/-- The residual with the gated embedding. -/
def gatedOp (h : FVec Ideal B1024 .f32) (g : FVec Ideal G1024 .f32) (wg : FVec Ideal M1024 .bf16) (p : FVec Ideal B256 .f32)
    (wp : FVec Ideal B1024 .bf16) : FVec Ideal B1024 .f32 :=
  addf h (mulf (logistic (matmul dot1024 none (rmsOp h g) wg (constant B1024 .f32 0x00000000#32)))
    (matmul dot256 none (truncf .bf16 p (by decide)) wp (constant B1024 .f32 0x00000000#32)))

/-! ## Each of them at an index -/

/-- The largest of the three maxima. -/
theorem topOp_apply (m0 m1 m2 : FVec Ideal B1 .f32) (a : Fin 256) (z : Fin 1) :
    topOp m0 m1 m2 (ix2 a z) = top (m0 (ix2 a z)) (m1 (ix2 a z)) (m2 (ix2 a z)) := rfl

/-- A dilation's weight. -/
theorem wOp_apply (m m0 m1 m2 : FVec Ideal B1 .f32) (a : Fin 256) (z : Fin 1) :
    wOp m m0 m1 m2 (ix2 a z) = Ideal.exp (m (ix2 a z) - top (m0 (ix2 a z)) (m1 (ix2 a z)) (m2 (ix2 a z))) := rfl

/-- A head's combination, per lane. -/
theorem headOp_apply (m0 m1 m2 l0 l1 l2 : FVec Ideal B1 .f32) (o0 o1 o2 : FVec Ideal B64 .f32) (a : Fin 256) (j : Fin 64) :
    headOp m0 m1 m2 l0 l1 l2 o0 o1 o2 (ix2 a j) = comb (m0 (ix2 a 0)) (m1 (ix2 a 0)) (m2 (ix2 a 0)) (l0 (ix2 a 0)) (l1 (ix2 a 0))
      (l2 (ix2 a 0)) (o0 (ix2 a j)) (o1 (ix2 a j)) (o2 (ix2 a j)) := by
  pointwise [headOp]
  simp only [wOp_apply, Ideal.ofBits_zero_f32, zero_add]
  rfl

/-- The residual with the projected mix, per lane. -/
theorem mixedOp_apply (h : FVec Ideal B1024 .f32) (y : FVec Ideal B512 .bf16) (wo : FVec Ideal M512 .bf16) (a : Fin 256) (j : Fin 1024) :
    mixedOp h y wo (ix2 a j) = mixed (fun k => h (ix2 a k)) (fun k => y (ix2 a k)) (fun k j => wo (ix2 k j)) j := by
  pointwise [mixedOp, dot512]
  rfl

/-- The RMS norm of a row, per lane. -/
theorem rmsOp_apply (x : FVec Ideal B1024 .f32) (g : FVec Ideal G1024 .f32) (a : Fin 256) (j : Fin 1024) :
    rmsOp x g (ix2 a j) = rms (fun k => x (ix2 a k)) (fun k => g (ix2 0 k)) j := by
  pointwise [rmsOp]
  rfl

/-- The positive part of the first channel product. -/
theorem hiddenOp_apply (n : FVec Ideal B1024 .bf16) (w : FVec Ideal M1024 .bf16) (a : Fin 256) (f : Fin 1024) :
    hiddenOp n w (ix2 a f) = max (∑ k : Fin 1024, n (ix2 a k) * w (ix2 k f)) 0 := by
  pointwise [hiddenOp, dot1024]

/-- A chunk's squared positive parts times the second weights. -/
theorem chunkOp_apply (n : FVec Ideal B1024 .bf16) (w v : FVec Ideal M1024 .bf16) (a : Fin 256) (j : Fin 1024) :
    chunkOp n w v (ix2 a j) = ∑ f : Fin 1024, hiddenOp n w (ix2 a f) * hiddenOp n w (ix2 a f) * v (ix2 f j) := by
  pointwise [chunkOp, dot1024]

/-- The channel block of a row, its weights read in chunks. -/
theorem channelOp_apply (h : FVec Ideal B1024 .f32) (n : FVec Ideal B1024 .bf16) (w0 w1 w2 w3 v0 v1 v2 v3 : FVec Ideal M1024 .bf16)
    (a : Fin 256) (j : Fin 1024) (H g : Fin 1024 → EReal) (W1 : Fin 1024 → Fin 4096 → EReal) (W2 : Fin 4096 → Fin 1024 → EReal)
    (hh : ∀ k, h (ix2 a k) = H k) (hn : ∀ k, n (ix2 a k) = rms H g k)
    (e0 : ∀ k f, w0 (ix2 k f) = W1 k (lane 0 (by decide) f)) (e1 : ∀ k f, w1 (ix2 k f) = W1 k (lane 1024 (by decide) f))
    (e2 : ∀ k f, w2 (ix2 k f) = W1 k (lane 2048 (by decide) f)) (e3 : ∀ k f, w3 (ix2 k f) = W1 k (lane 3072 (by decide) f))
    (d0 : ∀ f k, v0 (ix2 f k) = W2 (lane 0 (by decide) f) k) (d1 : ∀ f k, v1 (ix2 f k) = W2 (lane 1024 (by decide) f) k)
    (d2 : ∀ f k, v2 (ix2 f k) = W2 (lane 2048 (by decide) f) k) (d3 : ∀ f k, v3 (ix2 f k) = W2 (lane 3072 (by decide) f) k) :
    channelOp h n w0 w1 w2 w3 v0 v1 v2 v3 (ix2 a j) = channel H g W1 W2 j := by
  pointwise [channelOp]
  unfold channel
  rw [sum_chunks]
  simp only [chunkOp_apply, hiddenOp_apply, hh, hn, e0, e1, e2, e3, d0, d1, d2, d3, Ideal.ofBits_zero_f32, zero_add]
  rfl

/-- The gated embedding added, per lane. -/
theorem gatedOp_apply (h : FVec Ideal B1024 .f32) (g : FVec Ideal G1024 .f32) (wg : FVec Ideal M1024 .bf16) (p : FVec Ideal B256 .f32)
    (wp : FVec Ideal B1024 .bf16) (a : Fin 256) (j : Fin 1024) : gatedOp h g wg p wp (ix2 a j)
      = gated (fun k => h (ix2 a k)) (fun k => g (ix2 0 k)) (fun k j => wg (ix2 k j)) (fun k => p (ix2 a k)) (fun k j => wp (ix2 k j)) j := by
  pointwise [gatedOp, dot1024, dot256]
  unfold gated
  simp only [rmsOp_apply]

/-! ## Eight heads side by side -/

/-- A head's lanes lie within the block. -/
theorem inHead (o : ℕ) (ho : o + 64 ≤ 512) : ∀ a, (![0, o] : Fin 2 → Nat) a + B64.size a ≤ B512.size a := fun a => by
  match a with
  | ⟨0, _⟩ => show 0 + 256 ≤ 256; omega
  | ⟨1, _⟩ => exact ho

/-- A store of 64 lanes at lane `o`, read at one of its lanes. -/
theorem head_hit (o : ℕ) (h : ∀ a, (![0, o] : Fin 2 → Nat) a + B64.size a ≤ B512.size a) (w : B64.Idx → Elt Ideal .bf16)
    (L : List (View.Piece (Elt Ideal) B512 .bf16)) (a : Fin 256) (c : Fin 512) (j : Fin 64) (hj : c.val = o + j.val) :
    View.canon (⟨Rect.unit (s := B512) ![0, o] B64.size h, w⟩ :: L) (ix2 a c) = w (ix2 a j) := by
  have e : ix2 a c = (Rect.unit (s := B512) ![0, o] B64.size h).emb (ix2 a j) := by
    funext z
    apply Fin.ext
    match z with
    | ⟨0, _⟩ => show a.val = 0 + 1 * a.val; omega
    | ⟨1, _⟩ => show c.val = o + 1 * j.val; omega
  rw [e]
  exact View.canon_cons_emb _ _ _ _

/-- Read at a lane before it, the earlier stores show. -/
theorem head_miss (o : ℕ) (h : ∀ a, (![0, o] : Fin 2 → Nat) a + B64.size a ≤ B512.size a) (w : B64.Idx → Elt Ideal .bf16)
    (L : List (View.Piece (Elt Ideal) B512 .bf16)) (a : Fin 256) (c : Fin 512) (hc : c.val < o) :
    View.canon (⟨Rect.unit (s := B512) ![0, o] B64.size h, w⟩ :: L) (ix2 a c) = View.canon L (ix2 a c) := by
  refine View.canon_cons_of_not_mem _ _ fun hm => ?_
  rw [Rect.mem_set_unit] at hm
  have : o ≤ c.val := (hm 1).1
  omega

/-- One more store of 64 lanes above lanes already known. -/
theorem head_step (o : ℕ) (h : ∀ a, (![0, o] : Fin 2 → Nat) a + B64.size a ≤ B512.size a) (w : B64.Idx → Elt Ideal .bf16)
    (L : List (View.Piece (Elt Ideal) B512 .bf16)) (a : Fin 256) (G : Fin 512 → EReal) (ho : o + 64 ≤ 512)
    (hw : ∀ j : Fin 64, w (ix2 a j) = G ⟨o + j.val, by omega⟩) (hL : ∀ c : Fin 512, c.val < o → View.canon L (ix2 a c) = G c)
    (c : Fin 512) (hc : c.val < o + 64) :
    View.canon (⟨Rect.unit (s := B512) ![0, o] B64.size h, w⟩ :: L) (ix2 a c) = G c := by
  by_cases hlt : c.val < o
  · exact (head_miss o h w L a c hlt).trans (hL c hlt)
  · refine (head_hit o h w L a c ⟨c.val - o, by omega⟩ (by show c.val = o + (c.val - o); omega)).trans ((hw _).trans (congrArg G (Fin.ext ?_)))
    show o + (c.val - o) = c.val; omega

end Cert.Post

end
-- ==== Proof.PostKernel.lean ====
/-
  The channel block's kernel: what its result array holds after the run, at the ideal values, row by row as the mathematics of the
  argument arrays.
-/
module

public import proofs.«01_k».proof.Proof.PostBlock
public import proofs.«01_k».proof.Proof.Gen.PostIdeal.Value

@[expose] public section

set_option maxRecDepth 16384

noncomputable section

namespace Cert.PostIdeal.Own

open Idealize.ShloMosaic Idealize.ShloMosaic.TcCoe Idealize.SL.Sem
open Idealize.ShloMosaic.Pipeline (Dat)
open Cert.PostIdeal Cert.PostIdeal.Gen Cert.Post

/-! ## The body's output is the block's operations -/

/-- The offset of a whole block. -/
theorem hz : (![0, 0] : Fin 2 → Nat) = fun _ => 0 := funext fun a => by fin_cases a <;> rfl

/-- A load through a whole buffer that reads `X` reads `X` at the rectangle's indices. -/
theorem load {s : Shape} {e : EltTy} {m : Memref sig .tc .vmem s e} (h : m.IsWhole) (X : s.Idx → Elt Ideal e) (r : Rect s) :
    View.readAt (Elt Ideal) m.view r.toLoadRect (h.unread X) = View.ld X r := by
  rw [View.readAt_eq_ld, h.read_unread]

/-- What one store of a whole block leaves reads as the block. -/
theorem stored {S : Shape} {e : EltTy} {sg : RefSig} {κ : Kind} {sp : Space} (v : View sg κ sp S e) (f : v.ty.Contents (Elt Ideal))
    {off : Fin S.rank → Nat} (ho : off = fun _ => 0) (h : ∀ a, off a + S.size a ≤ S.size a) (P : S.Idx → Elt Ideal e) :
    v.read (Elt Ideal) (v.writes (Elt Ideal) f [(⟨Rect.unit off S.size h, P⟩ : View.Piece (Elt Ideal) S e)]) = P := by
  rw [View.read_writes_eq_canon v f _ (fun y => ⟨_, List.mem_singleton_self _, View.mem_set_unit_zero ho h y⟩), View.canon_unit_zero ho]

variable (x0 : Vec Ideal S256x1024 .f32) (x1 : Vec Ideal S256x512 .f32) (x2 : Vec Ideal S256x512 .f32) (x3 : Vec Ideal S256x512 .f32) (x4 : Vec Ideal S256x128 .f32) (x5 : Vec Ideal S256x128 .f32) (x6 : Vec Ideal S256x128 .f32) (x7 : Vec Ideal S512x1024 .bf16) (x8 : Vec Ideal S1x1024 .f32) (x9 : Vec Ideal S1024x4096 .bf16) (x10 : Vec Ideal S4096x1024 .bf16) (x11 : Vec Ideal S1x1024 .f32) (x12 : Vec Ideal S1024x1024 .bf16) (x13 : Vec Ideal S256x256 .f32) (x14 : Vec Ideal S256x1024 .bf16)

/-- The mix: each head of the three dilations combined, side by side. -/
def mixPieces : List (View.Piece (Elt Ideal) S256x512 .bf16) :=
  [⟨Rect.unit (s := S256x512) ![0, 448] S256x64.size (inHead 448 (by decide)), headOp (View.ld x4 (Rect.unit (s := S256x128) ![0, 7] S256x1.size (by decide))) (View.ld x5 (Rect.unit (s := S256x128) ![0, 7] S256x1.size (by decide))) (View.ld x6 (Rect.unit (s := S256x128) ![0, 7] S256x1.size (by decide))) (View.ld x4 (Rect.unit (s := S256x128) ![0, 15] S256x1.size (by decide))) (View.ld x5 (Rect.unit (s := S256x128) ![0, 15] S256x1.size (by decide))) (View.ld x6 (Rect.unit (s := S256x128) ![0, 15] S256x1.size (by decide))) (View.ld x1 (Rect.unit (s := S256x512) ![0, 448] S256x64.size (by decide))) (View.ld x2 (Rect.unit (s := S256x512) ![0, 448] S256x64.size (by decide))) (View.ld x3 (Rect.unit (s := S256x512) ![0, 448] S256x64.size (by decide)))⟩,
   ⟨Rect.unit (s := S256x512) ![0, 384] S256x64.size (inHead 384 (by decide)), headOp (View.ld x4 (Rect.unit (s := S256x128) ![0, 6] S256x1.size (by decide))) (View.ld x5 (Rect.unit (s := S256x128) ![0, 6] S256x1.size (by decide))) (View.ld x6 (Rect.unit (s := S256x128) ![0, 6] S256x1.size (by decide))) (View.ld x4 (Rect.unit (s := S256x128) ![0, 14] S256x1.size (by decide))) (View.ld x5 (Rect.unit (s := S256x128) ![0, 14] S256x1.size (by decide))) (View.ld x6 (Rect.unit (s := S256x128) ![0, 14] S256x1.size (by decide))) (View.ld x1 (Rect.unit (s := S256x512) ![0, 384] S256x64.size (by decide))) (View.ld x2 (Rect.unit (s := S256x512) ![0, 384] S256x64.size (by decide))) (View.ld x3 (Rect.unit (s := S256x512) ![0, 384] S256x64.size (by decide)))⟩,
   ⟨Rect.unit (s := S256x512) ![0, 320] S256x64.size (inHead 320 (by decide)), headOp (View.ld x4 (Rect.unit (s := S256x128) ![0, 5] S256x1.size (by decide))) (View.ld x5 (Rect.unit (s := S256x128) ![0, 5] S256x1.size (by decide))) (View.ld x6 (Rect.unit (s := S256x128) ![0, 5] S256x1.size (by decide))) (View.ld x4 (Rect.unit (s := S256x128) ![0, 13] S256x1.size (by decide))) (View.ld x5 (Rect.unit (s := S256x128) ![0, 13] S256x1.size (by decide))) (View.ld x6 (Rect.unit (s := S256x128) ![0, 13] S256x1.size (by decide))) (View.ld x1 (Rect.unit (s := S256x512) ![0, 320] S256x64.size (by decide))) (View.ld x2 (Rect.unit (s := S256x512) ![0, 320] S256x64.size (by decide))) (View.ld x3 (Rect.unit (s := S256x512) ![0, 320] S256x64.size (by decide)))⟩,
   ⟨Rect.unit (s := S256x512) ![0, 256] S256x64.size (inHead 256 (by decide)), headOp (View.ld x4 (Rect.unit (s := S256x128) ![0, 4] S256x1.size (by decide))) (View.ld x5 (Rect.unit (s := S256x128) ![0, 4] S256x1.size (by decide))) (View.ld x6 (Rect.unit (s := S256x128) ![0, 4] S256x1.size (by decide))) (View.ld x4 (Rect.unit (s := S256x128) ![0, 12] S256x1.size (by decide))) (View.ld x5 (Rect.unit (s := S256x128) ![0, 12] S256x1.size (by decide))) (View.ld x6 (Rect.unit (s := S256x128) ![0, 12] S256x1.size (by decide))) (View.ld x1 (Rect.unit (s := S256x512) ![0, 256] S256x64.size (by decide))) (View.ld x2 (Rect.unit (s := S256x512) ![0, 256] S256x64.size (by decide))) (View.ld x3 (Rect.unit (s := S256x512) ![0, 256] S256x64.size (by decide)))⟩,
   ⟨Rect.unit (s := S256x512) ![0, 192] S256x64.size (inHead 192 (by decide)), headOp (View.ld x4 (Rect.unit (s := S256x128) ![0, 3] S256x1.size (by decide))) (View.ld x5 (Rect.unit (s := S256x128) ![0, 3] S256x1.size (by decide))) (View.ld x6 (Rect.unit (s := S256x128) ![0, 3] S256x1.size (by decide))) (View.ld x4 (Rect.unit (s := S256x128) ![0, 11] S256x1.size (by decide))) (View.ld x5 (Rect.unit (s := S256x128) ![0, 11] S256x1.size (by decide))) (View.ld x6 (Rect.unit (s := S256x128) ![0, 11] S256x1.size (by decide))) (View.ld x1 (Rect.unit (s := S256x512) ![0, 192] S256x64.size (by decide))) (View.ld x2 (Rect.unit (s := S256x512) ![0, 192] S256x64.size (by decide))) (View.ld x3 (Rect.unit (s := S256x512) ![0, 192] S256x64.size (by decide)))⟩,
   ⟨Rect.unit (s := S256x512) ![0, 128] S256x64.size (inHead 128 (by decide)), headOp (View.ld x4 (Rect.unit (s := S256x128) ![0, 2] S256x1.size (by decide))) (View.ld x5 (Rect.unit (s := S256x128) ![0, 2] S256x1.size (by decide))) (View.ld x6 (Rect.unit (s := S256x128) ![0, 2] S256x1.size (by decide))) (View.ld x4 (Rect.unit (s := S256x128) ![0, 10] S256x1.size (by decide))) (View.ld x5 (Rect.unit (s := S256x128) ![0, 10] S256x1.size (by decide))) (View.ld x6 (Rect.unit (s := S256x128) ![0, 10] S256x1.size (by decide))) (View.ld x1 (Rect.unit (s := S256x512) ![0, 128] S256x64.size (by decide))) (View.ld x2 (Rect.unit (s := S256x512) ![0, 128] S256x64.size (by decide))) (View.ld x3 (Rect.unit (s := S256x512) ![0, 128] S256x64.size (by decide)))⟩,
   ⟨Rect.unit (s := S256x512) ![0, 64] S256x64.size (inHead 64 (by decide)), headOp (View.ld x4 (Rect.unit (s := S256x128) ![0, 1] S256x1.size (by decide))) (View.ld x5 (Rect.unit (s := S256x128) ![0, 1] S256x1.size (by decide))) (View.ld x6 (Rect.unit (s := S256x128) ![0, 1] S256x1.size (by decide))) (View.ld x4 (Rect.unit (s := S256x128) ![0, 9] S256x1.size (by decide))) (View.ld x5 (Rect.unit (s := S256x128) ![0, 9] S256x1.size (by decide))) (View.ld x6 (Rect.unit (s := S256x128) ![0, 9] S256x1.size (by decide))) (View.ld x1 (Rect.unit (s := S256x512) ![0, 64] S256x64.size (by decide))) (View.ld x2 (Rect.unit (s := S256x512) ![0, 64] S256x64.size (by decide))) (View.ld x3 (Rect.unit (s := S256x512) ![0, 64] S256x64.size (by decide)))⟩,
   ⟨Rect.unit (s := S256x512) ![0, 0] S256x64.size (inHead 0 (by decide)), headOp (View.ld x4 (Rect.unit (s := S256x128) ![0, 0] S256x1.size (by decide))) (View.ld x5 (Rect.unit (s := S256x128) ![0, 0] S256x1.size (by decide))) (View.ld x6 (Rect.unit (s := S256x128) ![0, 0] S256x1.size (by decide))) (View.ld x4 (Rect.unit (s := S256x128) ![0, 8] S256x1.size (by decide))) (View.ld x5 (Rect.unit (s := S256x128) ![0, 8] S256x1.size (by decide))) (View.ld x6 (Rect.unit (s := S256x128) ![0, 8] S256x1.size (by decide))) (View.ld x1 (Rect.unit (s := S256x512) ![0, 0] S256x64.size (by decide))) (View.ld x2 (Rect.unit (s := S256x512) ![0, 0] S256x64.size (by decide))) (View.ld x3 (Rect.unit (s := S256x512) ![0, 0] S256x64.size (by decide)))⟩]

/-- The mix, as the block the projection reads. -/
def mixVal : FVec Ideal S256x512 .bf16 := View.canon (mixPieces x1 x2 x3 x4 x5 x6)

/-- A chunk of the first weights and one of the second. -/
def upW (o : ℕ) (h : ∀ a, (![0, o] : Fin 2 → Nat) a + S1024x1024.size a ≤ S1024x4096.size a) : FVec Ideal S1024x1024 .bf16 :=
  View.ld x9 (Rect.unit (s := S1024x4096) ![0, o] S1024x1024.size h)
def downW (o : ℕ) (h : ∀ a, (![o, 0] : Fin 2 → Nat) a + S1024x1024.size a ≤ S4096x1024.size a) : FVec Ideal S1024x1024 .bf16 :=
  View.ld x10 (Rect.unit (s := S4096x1024) ![o, 0] S1024x1024.size h)

/-- The residual with the projected mix. -/
def resid : FVec Ideal S256x1024 .f32 := mixedOp x0 (mixVal x1 x2 x3 x4 x5 x6) x7

/-- The staged block the body leaves. -/
def blockVal : FVec Ideal S256x1024 .f32 :=
  gatedOp (channelOp (resid x0 x1 x2 x3 x4 x5 x6 x7) (rmsOp (resid x0 x1 x2 x3 x4 x5 x6 x7) x8)
    (upW x9 0 (by decide)) (upW x9 1024 (by decide)) (upW x9 2048 (by decide)) (upW x9 3072 (by decide))
    (downW x10 0 (by decide)) (downW x10 1024 (by decide)) (downW x10 2048 (by decide)) (downW x10 3072 (by decide))) x11 x12 x13 x14

/-- The printed residual is the mixed one. -/
theorem mixed_eq (y : Vec Ideal S256x512 .bf16) (w : Vec Ideal S512x1024 .bf16) (h : Vec Ideal S256x1024 .f32) :
    k0_pay48 y w h = mixedOp h y w := rfl

/-- The printed norm is that of the mixed residual. -/
theorem norm_eq (y : Vec Ideal S256x512 .bf16) (w : Vec Ideal S512x1024 .bf16) (h : Vec Ideal S256x1024 .f32) (g : Vec Ideal S1x1024 .f32) :
    k0_pay49 y w h g = rmsOp (mixedOp h y w) g := rfl

/-- The printed end is the channel block and the gated embedding. -/
theorem end_eq (h : FVec Ideal S256x1024 .f32) (n : FVec Ideal S256x1024 .bf16) (w0 w1 w2 w3 v0 v1 v2 v3 : FVec Ideal S1024x1024 .bf16)
    (g : Vec Ideal S1x1024 .f32) (wg : Vec Ideal S1024x1024 .bf16) (p : Vec Ideal S256x256 .f32) (wp : Vec Ideal S256x1024 .bf16) :
    k0_pay1 h (k0_pay51 n k0_pay50 w0 v0 w1 v1 w2 v2) (k0_pay52 n w3) v3 (constant S256x1024 .f32 0x00000000#32) g wg p wp
      = gatedOp (channelOp h n w0 w1 w2 w3 v0 v1 v2 v3) g wg p wp := rfl

/-- The eight stores of the mix are the heads. -/
theorem pieces_eq (c : Dev nD) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S256x128 .f32) (harg7 : arg7.IsWhole) :
    kernelRun0_A.sl.HS0_8 c arg2 harg2 arg3 harg3 arg4 harg4 arg5 harg5 arg6 harg6 arg7 harg7 x1 x2 x3 x4 x5 x6 = mixPieces x1 x2 x3 x4 x5 x6 := by
  simp only [kernelRun0_A.sl.HS0_8, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, load]
  rfl

/-- The mix read back. -/
theorem mix_eq (c : Dev nD) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S256x128 .f32) (harg7 : arg7.IsWhole) (arg17 : Memref sig .tc .vmem S256x512 .bf16) :
    kernelRun0_A.sl.v320 c arg2 harg2 arg3 harg3 arg4 harg4 arg5 harg5 arg6 harg6 arg7 harg7 arg17 x1 x2 x3 x4 x5 x6 = mixVal x1 x2 x3 x4 x5 x6 := by
  show arg17.view.readCov (kernelRun0_A.sl.HS0_8 c arg2 harg2 arg3 harg3 arg4 harg4 arg5 harg5 arg6 harg6 arg7 harg7 x1 x2 x3 x4 x5 x6) _ = _
  rw [pieces_eq]
  refine (View.readAt_writes_junk_eq_canon arg17.view _ _).trans ?_
  exact View.ld_unit_zero (S := S256x512) hz _ _

/-- What the run leaves in the output's staging buffer is that block. -/
theorem out_eq  (c : Dev nD) (i : grid0.Coords) (arg1 : Memref sig .tc .vmem S256x1024 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S1024x4096 .bf16) (harg10 : arg10.IsWhole) (arg11 : Memref sig .tc .vmem S4096x1024 .bf16) (harg11 : arg11.IsWhole) (arg12 : Memref sig .tc .vmem S1x1024 .f32) (harg12 : arg12.IsWhole) (arg13 : Memref sig .tc .vmem S1024x1024 .bf16) (harg13 : arg13.IsWhole) (arg14 : Memref sig .tc .vmem S256x256 .f32) (harg14 : arg14.IsWhole) (arg15 : Memref sig .tc .vmem S256x1024 .bf16) (harg15 : arg15.IsWhole) (arg16 : Memref sig .tc .vmem S256x1024 .f32) (harg16 : arg16.IsWhole) (arg17 : Memref sig .tc .vmem S256x512 .bf16) (harg17 : arg17.IsWhole)
     : out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 x14 = blockVal x0 x1 x2 x3 x4 x5 x6 x7 x8 x9 x10 x11 x12 x13 x14 := by
  unfold out0_A_15
  dsimp only [kernelRun0_A]
  refine (stored (S := S256x1024) _ _ hz _ _).trans ?_
  simp only [kernelRun0_A.sl.r_42, kernelRun0_A.sl.r_43, kernelRun0_A.sl.r_44, kernelRun0_A.sl.r_45, kernelRun0_A.sl.r_46, load, mix_eq]
  simp only [View.ld_unit_zero (S := S256x1024) hz, View.ld_unit_zero (S := S512x1024) hz, View.ld_unit_zero (S := S1x1024) hz,
    View.ld_unit_zero (S := S1024x1024) hz, View.ld_unit_zero (S := S256x256) hz, mixed_eq, norm_eq]
  exact end_eq _ _ _ _ _ _ _ _ _ _ _ _ _ _

/-! ## The staged block, read -/

/-- A load of 64 lanes of a mix from lane `o`. -/
theorem ld_head (X : Vec Ideal S256x512 .f32) (o : ℕ) (h : ∀ a, (![0, o] : Fin 2 → Nat) a + S256x64.size a ≤ S256x512.size a)
    (a : Fin 256) (j : Fin 64) (hl : o + j.val < 512) :
    View.ld X (Rect.unit (s := S256x512) ![0, o] S256x64.size h) (ix2 a j) = X (ix2 a ⟨o + j.val, hl⟩) := by
  refine congrArg X (funext fun z => Fin.ext ?_)
  match z with
  | ⟨0, _⟩ => show 0 + 1 * a.val = a.val; omega
  | ⟨1, _⟩ => show o + 1 * j.val = o + j.val; omega

/-- A load of one lane of the statistics. -/
theorem ld_stat (X : Vec Ideal S256x128 .f32) (o : ℕ) (h : ∀ a, (![0, o] : Fin 2 → Nat) a + S256x1.size a ≤ S256x128.size a)
    (a : Fin 256) (hl : o < 128) :
    View.ld X (Rect.unit (s := S256x128) ![0, o] S256x1.size h) (ix2 a 0) = X (ix2 a ⟨o, hl⟩) := by
  refine congrArg X (funext fun z => Fin.ext ?_)
  match z with
  | ⟨0, _⟩ => show 0 + 1 * a.val = a.val; omega
  | ⟨1, _⟩ => show o + 1 * 0 = o; omega

/-- One head of the mix is its 64 lanes of the combined row. -/
theorem head_at (h : ℕ) (hh : h < 8) (b0 b1 b2) (c0 c1 c2) (d0 d1 d2) (a : Fin 256) (j : Fin 64) :
    headOp (View.ld x4 (Rect.unit (s := S256x128) ![0, h] S256x1.size b0)) (View.ld x5 (Rect.unit (s := S256x128) ![0, h] S256x1.size b1))
      (View.ld x6 (Rect.unit (s := S256x128) ![0, h] S256x1.size b2)) (View.ld x4 (Rect.unit (s := S256x128) ![0, 8 + h] S256x1.size c0))
      (View.ld x5 (Rect.unit (s := S256x128) ![0, 8 + h] S256x1.size c1)) (View.ld x6 (Rect.unit (s := S256x128) ![0, 8 + h] S256x1.size c2))
      (View.ld x1 (Rect.unit (s := S256x512) ![0, 64 * h] S256x64.size d0)) (View.ld x2 (Rect.unit (s := S256x512) ![0, 64 * h] S256x64.size d1))
      (View.ld x3 (Rect.unit (s := S256x512) ![0, 64 * h] S256x64.size d2)) (ix2 a j)
      = combined (rowOf x1 a) (rowOf x2 a) (rowOf x3 a) (rowOf x4 a) (rowOf x5 a) (rowOf x6 a) ⟨64 * h + j.val, by omega⟩ := by
  rw [headOp_apply, ld_stat x4 h b0 a (by omega), ld_stat x5 h b1 a (by omega), ld_stat x6 h b2 a (by omega),
    ld_stat x4 (8 + h) c0 a (by omega), ld_stat x5 (8 + h) c1 a (by omega), ld_stat x6 (8 + h) c2 a (by omega),
    ld_head x1 (64 * h) d0 a j (by omega), ld_head x2 (64 * h) d1 a j (by omega), ld_head x3 (64 * h) d2 a j (by omega)]
  have e : (64 * h + j.val) / 64 = h := by omega
  unfold combined
  simp only [e]

/-- The mix at a lane. -/
theorem mix_at (a : Fin 256) (c : Fin 512) : mixVal x1 x2 x3 x4 x5 x6 (ix2 a c)
    = combined (rowOf x1 a) (rowOf x2 a) (rowOf x3 a) (rowOf x4 a) (rowOf x5 a) (rowOf x6 a) c := by
  unfold mixVal mixPieces
  have S := fun (h : ℕ) (hh : h < 8) b0 b1 b2 c0 c1 c2 d0 d1 d2 j => head_at x1 x2 x3 x4 x5 x6 h hh b0 b1 b2 c0 c1 c2 d0 d1 d2 a j
  have hc := c.isLt
  refine head_step 448 _ _ _ a _ (by decide) (S 7 (by decide) _ _ _ _ _ _ _ _ _) (fun c hc => ?_) c (by omega)
  refine head_step 384 _ _ _ a _ (by decide) (S 6 (by decide) _ _ _ _ _ _ _ _ _) (fun c hc => ?_) c (by omega)
  refine head_step 320 _ _ _ a _ (by decide) (S 5 (by decide) _ _ _ _ _ _ _ _ _) (fun c hc => ?_) c (by omega)
  refine head_step 256 _ _ _ a _ (by decide) (S 4 (by decide) _ _ _ _ _ _ _ _ _) (fun c hc => ?_) c (by omega)
  refine head_step 192 _ _ _ a _ (by decide) (S 3 (by decide) _ _ _ _ _ _ _ _ _) (fun c hc => ?_) c (by omega)
  refine head_step 128 _ _ _ a _ (by decide) (S 2 (by decide) _ _ _ _ _ _ _ _ _) (fun c hc => ?_) c (by omega)
  refine head_step 64 _ _ _ a _ (by decide) (S 1 (by decide) _ _ _ _ _ _ _ _ _) (fun c hc => ?_) c (by omega)
  refine head_step 0 _ _ _ a _ (by decide) (S 0 (by decide) _ _ _ _ _ _ _ _ _) (fun c hc => absurd hc (by omega)) c (by omega)

/-- A chunk of the first weights, read. -/
theorem upW_at (o : ℕ) (h) (ho : o + 1024 ≤ 4096) (k f : Fin 1024) : upW x9 o h (ix2 k f) = matOf x9 k (lane o ho f) := by
  refine congrArg x9 (funext fun z => Fin.ext ?_)
  match z with
  | ⟨0, _⟩ => show 0 + 1 * k.val = k.val; omega
  | ⟨1, _⟩ => show o + 1 * f.val = o + f.val; omega

/-- A chunk of the second weights, read. -/
theorem downW_at (o : ℕ) (h) (ho : o + 1024 ≤ 4096) (f k : Fin 1024) : downW x10 o h (ix2 f k) = matOf x10 (lane o ho f) k := by
  refine congrArg x10 (funext fun z => Fin.ext ?_)
  match z with
  | ⟨0, _⟩ => show o + 1 * f.val = o + f.val; omega
  | ⟨1, _⟩ => show 0 + 1 * k.val = k.val; omega

/-- The residual with the projected mix, read. -/
theorem resid_at (a : Fin 256) (j : Fin 1024) : resid x0 x1 x2 x3 x4 x5 x6 x7 (ix2 a j)
    = mixed (rowOf x0 a) (combined (rowOf x1 a) (rowOf x2 a) (rowOf x3 a) (rowOf x4 a) (rowOf x5 a) (rowOf x6 a)) (matOf x7) j := by
  unfold resid
  rw [mixedOp_apply]
  simp only [mix_at]

/-- The staged block is the rows of the block. -/
theorem block_at (a : Fin 256) (j : Fin 1024) : blockVal x0 x1 x2 x3 x4 x5 x6 x7 x8 x9 x10 x11 x12 x13 x14 (ix2 a j)
    = postRow x0 x1 x2 x3 x4 x5 x6 x7 x8 x9 x10 x11 x12 x13 x14 a j := by
  unfold blockVal postRow tail
  rw [gatedOp_apply]
  congr 1
  refine funext fun k => ?_
  refine channelOp_apply _ _ _ _ _ _ _ _ _ _ a k _ (rowOf x8 0) (matOf x9) (matOf x10) (fun k => resid_at x0 x1 x2 x3 x4 x5 x6 x7 a k) (fun k => ?_)
    (upW_at x9 _ _ _) (upW_at x9 _ _ _) (upW_at x9 _ _ _) (upW_at x9 _ _ _) (downW_at x10 _ _ _) (downW_at x10 _ _ _) (downW_at x10 _ _ _) (downW_at x10 _ _ _)
  rw [rmsOp_apply]
  simp only [resid_at]

/-! ## The result array -/

variable (m : (ℓ : Loc nD τ sig) → Buf (Elt Ideal) ℓ) (ρ : Dev nD → PrngReg) (c : Dev nD)

/-- The result: every row of the launched arrays through the block. -/
def res : S16384x1024.Idx → EReal := fun k =>
  postRow (n := 16384) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12)) (m ((c : Thread nD τ).loc main_arg13)) (m ((c : Thread nD τ).loc main_arg14)) (k 0) (k 1)

/-- Window 0's blocks are bands of 256 rows. -/
theorem index0 : ∀ t : Fin cfg0.N, win0_0.index t 0 = t.val ∧ win0_0.index t 1 = 0 :=
  by change ∀ t : Fin grid0.N, _; decide +kernel

/-- Window 1's blocks are bands of 256 rows. -/
theorem index1 : ∀ t : Fin cfg0.N, win0_1.index t 0 = t.val ∧ win0_1.index t 1 = 0 :=
  by change ∀ t : Fin grid0.N, _; decide +kernel

/-- Window 2's blocks are bands of 256 rows. -/
theorem index2 : ∀ t : Fin cfg0.N, win0_2.index t 0 = t.val ∧ win0_2.index t 1 = 0 :=
  by change ∀ t : Fin grid0.N, _; decide +kernel

/-- Window 3's blocks are bands of 256 rows. -/
theorem index3 : ∀ t : Fin cfg0.N, win0_3.index t 0 = t.val ∧ win0_3.index t 1 = 0 :=
  by change ∀ t : Fin grid0.N, _; decide +kernel

/-- Window 4's blocks are bands of 256 rows. -/
theorem index4 : ∀ t : Fin cfg0.N, win0_4.index t 0 = t.val ∧ win0_4.index t 1 = 0 :=
  by change ∀ t : Fin grid0.N, _; decide +kernel

/-- Window 5's blocks are bands of 256 rows. -/
theorem index5 : ∀ t : Fin cfg0.N, win0_5.index t 0 = t.val ∧ win0_5.index t 1 = 0 :=
  by change ∀ t : Fin grid0.N, _; decide +kernel

/-- Window 6's blocks are bands of 256 rows. -/
theorem index6 : ∀ t : Fin cfg0.N, win0_6.index t 0 = t.val ∧ win0_6.index t 1 = 0 :=
  by change ∀ t : Fin grid0.N, _; decide +kernel

/-- Window 13's blocks are bands of 256 rows. -/
theorem index13 : ∀ t : Fin cfg0.N, win0_13.index t 0 = t.val ∧ win0_13.index t 1 = 0 :=
  by change ∀ t : Fin grid0.N, _; decide +kernel

/-- Window 15's blocks are bands of 256 rows. -/
theorem index15 : ∀ t : Fin cfg0.N, win0_15.index t 0 = t.val ∧ win0_15.index t 1 = 0 :=
  by change ∀ t : Fin grid0.N, _; decide +kernel

/-- Window 7 is its whole array. -/
theorem index7 : ∀ t : Fin cfg0.N, win0_7.index t 0 = 0 ∧ win0_7.index t 1 = 0 :=
  by change ∀ t : Fin grid0.N, _; decide +kernel

/-- Window 8 is its whole array. -/
theorem index8 : ∀ t : Fin cfg0.N, win0_8.index t 0 = 0 ∧ win0_8.index t 1 = 0 :=
  by change ∀ t : Fin grid0.N, _; decide +kernel

/-- Window 9 is its whole array. -/
theorem index9 : ∀ t : Fin cfg0.N, win0_9.index t 0 = 0 ∧ win0_9.index t 1 = 0 :=
  by change ∀ t : Fin grid0.N, _; decide +kernel

/-- Window 10 is its whole array. -/
theorem index10 : ∀ t : Fin cfg0.N, win0_10.index t 0 = 0 ∧ win0_10.index t 1 = 0 :=
  by change ∀ t : Fin grid0.N, _; decide +kernel

/-- Window 11 is its whole array. -/
theorem index11 : ∀ t : Fin cfg0.N, win0_11.index t 0 = 0 ∧ win0_11.index t 1 = 0 :=
  by change ∀ t : Fin grid0.N, _; decide +kernel

/-- Window 12 is its whole array. -/
theorem index12 : ∀ t : Fin cfg0.N, win0_12.index t 0 = 0 ∧ win0_12.index t 1 = 0 :=
  by change ∀ t : Fin grid0.N, _; decide +kernel

/-- Window 14 is its whole array. -/
theorem index14 : ∀ t : Fin cfg0.N, win0_14.index t 0 = 0 ∧ win0_14.index t 1 = 0 :=
  by change ∀ t : Fin grid0.N, _; decide +kernel

/-- The row of the array that row `a` of point `t`'s band is. -/
def rowAt (t : Fin cfg0.N) (a : Fin 256) : Fin 16384 := ⟨t.val * 256 + a.val, by
  have h : t.val < 64 := lt_of_lt_of_eq t.isLt N_0
  omega⟩

/-- A grid point's block of the residual. -/
theorem blk0 (t : Fin cfg0.N) (a : Fin 256) (l : Fin 1024) :
    iblk m c 0 t (ix2 a l) = (m ((c : Thread nD τ).loc main_arg0) : S16384x1024.Idx → EReal) (ix2 (rowAt t a) l) := by
  unfold iblk
  rw [View.read_apply]
  refine congrArg (m ((c : Thread nD τ).loc main_arg0)) (funext fun z => Fin.ext ?_)
  match z with
  | ⟨0, _⟩ =>
    show win0_0.index t 0 * 256 + 1 * a.val = t.val * 256 + a.val
    rw [(index0 t).1]; omega
  | ⟨1, _⟩ =>
    show win0_0.index t 1 * 1024 + 1 * l.val = l.val
    rw [(index0 t).2]; omega

/-- A grid point's block of the first dilation's attention. -/
theorem blk1 (t : Fin cfg0.N) (a : Fin 256) (l : Fin 512) :
    iblk m c 1 t (ix2 a l) = (m ((c : Thread nD τ).loc main_arg1) : S16384x512.Idx → EReal) (ix2 (rowAt t a) l) := by
  unfold iblk
  rw [View.read_apply]
  refine congrArg (m ((c : Thread nD τ).loc main_arg1)) (funext fun z => Fin.ext ?_)
  match z with
  | ⟨0, _⟩ =>
    show win0_1.index t 0 * 256 + 1 * a.val = t.val * 256 + a.val
    rw [(index1 t).1]; omega
  | ⟨1, _⟩ =>
    show win0_1.index t 1 * 512 + 1 * l.val = l.val
    rw [(index1 t).2]; omega

/-- A grid point's block of the second dilation's attention. -/
theorem blk2 (t : Fin cfg0.N) (a : Fin 256) (l : Fin 512) :
    iblk m c 2 t (ix2 a l) = (m ((c : Thread nD τ).loc main_arg2) : S16384x512.Idx → EReal) (ix2 (rowAt t a) l) := by
  unfold iblk
  rw [View.read_apply]
  refine congrArg (m ((c : Thread nD τ).loc main_arg2)) (funext fun z => Fin.ext ?_)
  match z with
  | ⟨0, _⟩ =>
    show win0_2.index t 0 * 256 + 1 * a.val = t.val * 256 + a.val
    rw [(index2 t).1]; omega
  | ⟨1, _⟩ =>
    show win0_2.index t 1 * 512 + 1 * l.val = l.val
    rw [(index2 t).2]; omega

/-- A grid point's block of the third dilation's attention. -/
theorem blk3 (t : Fin cfg0.N) (a : Fin 256) (l : Fin 512) :
    iblk m c 3 t (ix2 a l) = (m ((c : Thread nD τ).loc main_arg3) : S16384x512.Idx → EReal) (ix2 (rowAt t a) l) := by
  unfold iblk
  rw [View.read_apply]
  refine congrArg (m ((c : Thread nD τ).loc main_arg3)) (funext fun z => Fin.ext ?_)
  match z with
  | ⟨0, _⟩ =>
    show win0_3.index t 0 * 256 + 1 * a.val = t.val * 256 + a.val
    rw [(index3 t).1]; omega
  | ⟨1, _⟩ =>
    show win0_3.index t 1 * 512 + 1 * l.val = l.val
    rw [(index3 t).2]; omega

/-- A grid point's block of the first dilation's maxima and denominators. -/
theorem blk4 (t : Fin cfg0.N) (a : Fin 256) (l : Fin 128) :
    iblk m c 4 t (ix2 a l) = (m ((c : Thread nD τ).loc main_arg4) : S16384x128.Idx → EReal) (ix2 (rowAt t a) l) := by
  unfold iblk
  rw [View.read_apply]
  refine congrArg (m ((c : Thread nD τ).loc main_arg4)) (funext fun z => Fin.ext ?_)
  match z with
  | ⟨0, _⟩ =>
    show win0_4.index t 0 * 256 + 1 * a.val = t.val * 256 + a.val
    rw [(index4 t).1]; omega
  | ⟨1, _⟩ =>
    show win0_4.index t 1 * 128 + 1 * l.val = l.val
    rw [(index4 t).2]; omega

/-- A grid point's block of the second dilation's maxima and denominators. -/
theorem blk5 (t : Fin cfg0.N) (a : Fin 256) (l : Fin 128) :
    iblk m c 5 t (ix2 a l) = (m ((c : Thread nD τ).loc main_arg5) : S16384x128.Idx → EReal) (ix2 (rowAt t a) l) := by
  unfold iblk
  rw [View.read_apply]
  refine congrArg (m ((c : Thread nD τ).loc main_arg5)) (funext fun z => Fin.ext ?_)
  match z with
  | ⟨0, _⟩ =>
    show win0_5.index t 0 * 256 + 1 * a.val = t.val * 256 + a.val
    rw [(index5 t).1]; omega
  | ⟨1, _⟩ =>
    show win0_5.index t 1 * 128 + 1 * l.val = l.val
    rw [(index5 t).2]; omega

/-- A grid point's block of the third dilation's maxima and denominators. -/
theorem blk6 (t : Fin cfg0.N) (a : Fin 256) (l : Fin 128) :
    iblk m c 6 t (ix2 a l) = (m ((c : Thread nD τ).loc main_arg6) : S16384x128.Idx → EReal) (ix2 (rowAt t a) l) := by
  unfold iblk
  rw [View.read_apply]
  refine congrArg (m ((c : Thread nD τ).loc main_arg6)) (funext fun z => Fin.ext ?_)
  match z with
  | ⟨0, _⟩ =>
    show win0_6.index t 0 * 256 + 1 * a.val = t.val * 256 + a.val
    rw [(index6 t).1]; omega
  | ⟨1, _⟩ =>
    show win0_6.index t 1 * 128 + 1 * l.val = l.val
    rw [(index6 t).2]; omega

/-- A grid point's block of the embedding. -/
theorem blk13 (t : Fin cfg0.N) (a : Fin 256) (l : Fin 256) :
    iblk m c 13 t (ix2 a l) = (m ((c : Thread nD τ).loc main_arg13) : S16384x256.Idx → EReal) (ix2 (rowAt t a) l) := by
  unfold iblk
  rw [View.read_apply]
  refine congrArg (m ((c : Thread nD τ).loc main_arg13)) (funext fun z => Fin.ext ?_)
  match z with
  | ⟨0, _⟩ =>
    show win0_13.index t 0 * 256 + 1 * a.val = t.val * 256 + a.val
    rw [(index13 t).1]; omega
  | ⟨1, _⟩ =>
    show win0_13.index t 1 * 256 + 1 * l.val = l.val
    rw [(index13 t).2]; omega

/-- The whole of the output weights. -/
theorem blk7 (t : Fin cfg0.N) (a : Fin 512) (l : Fin 1024) :
    iblk m c 7 t (ix2 a l) = (m ((c : Thread nD τ).loc main_arg7) : S512x1024.Idx → EReal) (ix2 a l) := by
  unfold iblk
  rw [View.read_apply]
  refine congrArg (m ((c : Thread nD τ).loc main_arg7)) (funext fun z => Fin.ext ?_)
  match z with
  | ⟨0, _⟩ =>
    show win0_7.index t 0 * 512 + 1 * a.val = a.val
    rw [(index7 t).1]; omega
  | ⟨1, _⟩ =>
    show win0_7.index t 1 * 1024 + 1 * l.val = l.val
    rw [(index7 t).2]; omega

/-- The whole of the channel gains. -/
theorem blk8 (t : Fin cfg0.N) (a : Fin 1) (l : Fin 1024) :
    iblk m c 8 t (ix2 a l) = (m ((c : Thread nD τ).loc main_arg8) : S1x1024.Idx → EReal) (ix2 a l) := by
  unfold iblk
  rw [View.read_apply]
  refine congrArg (m ((c : Thread nD τ).loc main_arg8)) (funext fun z => Fin.ext ?_)
  match z with
  | ⟨0, _⟩ =>
    show win0_8.index t 0 * 1 + 1 * a.val = a.val
    rw [(index8 t).1]; omega
  | ⟨1, _⟩ =>
    show win0_8.index t 1 * 1024 + 1 * l.val = l.val
    rw [(index8 t).2]; omega

/-- The whole of the first channel weights. -/
theorem blk9 (t : Fin cfg0.N) (a : Fin 1024) (l : Fin 4096) :
    iblk m c 9 t (ix2 a l) = (m ((c : Thread nD τ).loc main_arg9) : S1024x4096.Idx → EReal) (ix2 a l) := by
  unfold iblk
  rw [View.read_apply]
  refine congrArg (m ((c : Thread nD τ).loc main_arg9)) (funext fun z => Fin.ext ?_)
  match z with
  | ⟨0, _⟩ =>
    show win0_9.index t 0 * 1024 + 1 * a.val = a.val
    rw [(index9 t).1]; omega
  | ⟨1, _⟩ =>
    show win0_9.index t 1 * 4096 + 1 * l.val = l.val
    rw [(index9 t).2]; omega

/-- The whole of the second channel weights. -/
theorem blk10 (t : Fin cfg0.N) (a : Fin 4096) (l : Fin 1024) :
    iblk m c 10 t (ix2 a l) = (m ((c : Thread nD τ).loc main_arg10) : S4096x1024.Idx → EReal) (ix2 a l) := by
  unfold iblk
  rw [View.read_apply]
  refine congrArg (m ((c : Thread nD τ).loc main_arg10)) (funext fun z => Fin.ext ?_)
  match z with
  | ⟨0, _⟩ =>
    show win0_10.index t 0 * 4096 + 1 * a.val = a.val
    rw [(index10 t).1]; omega
  | ⟨1, _⟩ =>
    show win0_10.index t 1 * 1024 + 1 * l.val = l.val
    rw [(index10 t).2]; omega

/-- The whole of the embedding's gains. -/
theorem blk11 (t : Fin cfg0.N) (a : Fin 1) (l : Fin 1024) :
    iblk m c 11 t (ix2 a l) = (m ((c : Thread nD τ).loc main_arg11) : S1x1024.Idx → EReal) (ix2 a l) := by
  unfold iblk
  rw [View.read_apply]
  refine congrArg (m ((c : Thread nD τ).loc main_arg11)) (funext fun z => Fin.ext ?_)
  match z with
  | ⟨0, _⟩ =>
    show win0_11.index t 0 * 1 + 1 * a.val = a.val
    rw [(index11 t).1]; omega
  | ⟨1, _⟩ =>
    show win0_11.index t 1 * 1024 + 1 * l.val = l.val
    rw [(index11 t).2]; omega

/-- The whole of the gate's weights. -/
theorem blk12 (t : Fin cfg0.N) (a : Fin 1024) (l : Fin 1024) :
    iblk m c 12 t (ix2 a l) = (m ((c : Thread nD τ).loc main_arg12) : S1024x1024.Idx → EReal) (ix2 a l) := by
  unfold iblk
  rw [View.read_apply]
  refine congrArg (m ((c : Thread nD τ).loc main_arg12)) (funext fun z => Fin.ext ?_)
  match z with
  | ⟨0, _⟩ =>
    show win0_12.index t 0 * 1024 + 1 * a.val = a.val
    rw [(index12 t).1]; omega
  | ⟨1, _⟩ =>
    show win0_12.index t 1 * 1024 + 1 * l.val = l.val
    rw [(index12 t).2]; omega

/-- The whole of the embedding's weights. -/
theorem blk14 (t : Fin cfg0.N) (a : Fin 256) (l : Fin 1024) :
    iblk m c 14 t (ix2 a l) = (m ((c : Thread nD τ).loc main_arg14) : S256x1024.Idx → EReal) (ix2 a l) := by
  unfold iblk
  rw [View.read_apply]
  refine congrArg (m ((c : Thread nD τ).loc main_arg14)) (funext fun z => Fin.ext ?_)
  match z with
  | ⟨0, _⟩ =>
    show win0_14.index t 0 * 256 + 1 * a.val = a.val
    rw [(index14 t).1]; omega
  | ⟨1, _⟩ =>
    show win0_14.index t 1 * 1024 + 1 * l.val = l.val
    rw [(index14 t).2]; omega

/-- A row of the staged blocks through the block is a row of the arrays through it. -/
theorem rows_eq (t : Fin cfg0.N) (a : Fin 256) (j : Fin 1024) :
    postRow (n := 256) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) a j
      = postRow (n := 16384) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (rowAt t a) j := by
  unfold postRow rowOf matOf
  simp only [blk0, blk1, blk2, blk3, blk4, blk5, blk6, blk7, blk8, blk9, blk10, blk11, blk12, blk13, blk14]

/-- What a grid point writes back is its band of the result. -/
theorem flushed_eq (t : Fin cfg0.N) : (dats m 0 c).flushed 15 t = ((cfg0.win 15).blk t).view.read (Elt Ideal) (res m c) := by
  rw [Value.flushed15_A]
  refine funext fun y => ?_
  rw [View.read_apply]
  refine ((congrFun (out_eq _ _ _ _ _ _ _ _ _ _ _ _ _ _ _ c _ _ _ _ _ _ _ _ _ _ _ _ _ _ _ _ _ _ _ _ _ _ _ _ _ _ _ _ _ _ _ _ _ _ _) y).trans
    ((congrArg (blockVal _ _ _ _ _ _ _ _ _ _ _ _ _ _ _) (eq_ix2 (n0 := 256) (n1 := 1024) y)).trans (block_at _ _ _ _ _ _ _ _ _ _ _ _ _ _ _ (y 0) (y 1)))).trans ?_
  have ek : ((cfg0.win 15).blk t).view.emb y = ix2 (rowAt t (y 0)) (y 1) := funext fun z => Fin.ext (by
    match z with
    | ⟨0, _⟩ =>
      show win0_15.index t 0 * 256 + 1 * (y 0).val = t.val * 256 + (y 0).val
      rw [(index15 t).1]; omega
    | ⟨1, _⟩ =>
      show win0_15.index t 1 * 1024 + 1 * (y 1).val = (y 1).val
      rw [(index15 t).2]; omega)
  rw [ek]
  unfold res
  exact rows_eq m c t (y 0) (y 1)

/-- Every grid point writes its block back. -/
theorem flush : ∀ t : Fin cfg0.N, (cfg0.win 15).flush t = true := (by decide +kernel : ∀ t : Fin grid0.N, win0_15.flush t = true)

/-- The result array after the run. -/
theorem final : (dats m 0 c).arrAt 15 cfg0.N = res m c :=
  (dats m 0 c).arrAt_eq_of_cover 15 (res m c) (fun t _ => flushed_eq m c t) fun k => by
    have h0 : (k 0).val < 16384 := (k 0).isLt
    have h1 : (k 1).val < 1024 := (k 1).isLt
    have hN : cfg0.N = 64 := N_0
    refine ⟨⟨(k 0).val / 256, by omega⟩, flush _, ?_⟩
    have hi := index15 ⟨(k 0).val / 256, by omega⟩
    generalize ht : (⟨(k 0).val / 256, by omega⟩ : Fin cfg0.N) = t at hi ⊢
    have hv : t.val = (k 0).val / 256 := by rw [← ht]
    rw [hv] at hi
    show k ∈ ((View.whole main_v0).slice (win0_15.rect t)).set
    rw [View.set_slice_whole, Rect.mem_set_unit]
    intro a
    match a with
    | ⟨0, _⟩ =>
      show win0_15.index t 0 * 256 ≤ (k 0).val ∧ (k 0).val < win0_15.index t 0 * 256 + 256
      rw [hi.1]; omega
    | ⟨1, _⟩ =>
      show win0_15.index t 1 * 1024 ≤ (k 1).val ∧ (k 1).val < win0_15.index t 1 * 1024 + 1024
      rw [hi.2]; omega

/-- The run: the result array, the arguments unchanged. -/
theorem run : θ_run defs (onTc (τ := τ) (main (F := Ideal))) ⟨m, fun _ => 0, ρ⟩ fun r => ∀ c : Dev nD,
      r.2.mem ((c : Thread nD τ).loc main_v0) = res m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun _ h c => ⟨(h c).1.trans (final m c), (h c).2⟩) (Value.run_blocks m ρ)

end Cert.PostIdeal.Own

end
-- ==== Proof.PostRef.lean ====
/-
  The reference of the block that ends a layer: its result, at the ideal values, as the block of each row of the argument arrays.
-/
module

public import proofs.«01_k».proof.Proof.PostKernel
public import proofs.«01_k».proof.Proof.Gen.RefPostIdeal.Run
public import proofs.«01_k».proof.Proof.Gen.RefPostIdeal.Read

@[expose] public section

noncomputable section

namespace Cert.RefPostIdeal.Own

open Idealize.ShloMosaic Idealize.ShloMosaic.TcCoe Idealize.SL.Sem
open Cert.RefPostIdeal Cert.RefPostIdeal.Gen Cert.RefPostIdeal.Read Cert.Post

/-! ## The arrays by head -/

variable (x0 : (⟨S16384x1024, .f32⟩ : BufTy).Contents (Elt Ideal)) (x1 : (⟨S16384x512, .f32⟩ : BufTy).Contents (Elt Ideal)) (x2 : (⟨S16384x512, .f32⟩ : BufTy).Contents (Elt Ideal)) (x3 : (⟨S16384x512, .f32⟩ : BufTy).Contents (Elt Ideal)) (x4 : (⟨S16384x128, .f32⟩ : BufTy).Contents (Elt Ideal)) (x5 : (⟨S16384x128, .f32⟩ : BufTy).Contents (Elt Ideal)) (x6 : (⟨S16384x128, .f32⟩ : BufTy).Contents (Elt Ideal)) (x7 : (⟨S512x1024, .bf16⟩ : BufTy).Contents (Elt Ideal)) (x8 : (⟨S1x1024, .f32⟩ : BufTy).Contents (Elt Ideal)) (x9 : (⟨S1024x4096, .bf16⟩ : BufTy).Contents (Elt Ideal)) (x10 : (⟨S4096x1024, .bf16⟩ : BufTy).Contents (Elt Ideal)) (x11 : (⟨S1x1024, .f32⟩ : BufTy).Contents (Elt Ideal)) (x12 : (⟨S1024x1024, .bf16⟩ : BufTy).Contents (Elt Ideal)) (x13 : (⟨S16384x256, .f32⟩ : BufTy).Contents (Elt Ideal)) (x14 : (⟨S256x1024, .bf16⟩ : BufTy).Contents (Elt Ideal))

/-- The first attention by row, head and component. -/
theorem head1_at (r : Fin 16384) (h : Fin 8) (d : Fin 64) :
    val_main_v0 (F := Ideal) x1 (ix3 r h d) = x1 (ix2 r ⟨h.val * 64 + d.val, by omega⟩) := by
  rw [val_main_v0_apply]
  refine congrArg x1 (funext fun a => Fin.ext ?_)
  match a with
  | ⟨0, _⟩ => show ((r.val * 8 + h.val) * 64 + d.val) / 512 = r.val; omega
  | ⟨1, _⟩ => show ((r.val * 8 + h.val) * 64 + d.val) % 512 = h.val * 64 + d.val; omega

/-- The second attention by row, head and component. -/
theorem head2_at (r : Fin 16384) (h : Fin 8) (d : Fin 64) :
    val_main_v5 (F := Ideal) x2 (ix3 r h d) = x2 (ix2 r ⟨h.val * 64 + d.val, by omega⟩) := by
  rw [val_main_v5_apply]
  refine congrArg x2 (funext fun a => Fin.ext ?_)
  match a with
  | ⟨0, _⟩ => show ((r.val * 8 + h.val) * 64 + d.val) / 512 = r.val; omega
  | ⟨1, _⟩ => show ((r.val * 8 + h.val) * 64 + d.val) % 512 = h.val * 64 + d.val; omega

/-- The third attention by row, head and component. -/
theorem head3_at (r : Fin 16384) (h : Fin 8) (d : Fin 64) :
    val_main_v10 (F := Ideal) x3 (ix3 r h d) = x3 (ix2 r ⟨h.val * 64 + d.val, by omega⟩) := by
  rw [val_main_v10_apply]
  refine congrArg x3 (funext fun a => Fin.ext ?_)
  match a with
  | ⟨0, _⟩ => show ((r.val * 8 + h.val) * 64 + d.val) / 512 = r.val; omega
  | ⟨1, _⟩ => show ((r.val * 8 + h.val) * 64 + d.val) % 512 = h.val * 64 + d.val; omega

/-- The first attention's maxima by row and head. -/
theorem maxima4_at (r : Fin 16384) (h : Fin 8) :
    val_main_v2 (F := Ideal) x4 (ix3 r h 0) = x4 (ix2 r ⟨h.val, by omega⟩) := by
  rw [val_main_v2_apply, val_main_v1_apply]
  refine congrArg x4 (funext fun a => Fin.ext ?_)
  match a with
  | ⟨0, _⟩ => show ((r.val * 8 + h.val) * 1 + 0) / 8 = r.val; omega
  | ⟨1, _⟩ => show ((r.val * 8 + h.val) * 1 + 0) % 8 = h.val; omega

/-- The first attention's sums by row and head. -/
theorem sums4_at (r : Fin 16384) (h : Fin 8) :
    val_main_v4 (F := Ideal) x4 (ix3 r h 0) = x4 (ix2 r ⟨8 + h.val, by omega⟩) := by
  rw [val_main_v4_apply, val_main_v3_apply]
  refine congrArg x4 (funext fun a => Fin.ext ?_)
  match a with
  | ⟨0, _⟩ => show ((r.val * 8 + h.val) * 1 + 0) / 8 = r.val; omega
  | ⟨1, _⟩ => show 8 + ((r.val * 8 + h.val) * 1 + 0) % 8 = 8 + h.val; omega

/-- The second attention's maxima by row and head. -/
theorem maxima5_at (r : Fin 16384) (h : Fin 8) :
    val_main_v7 (F := Ideal) x5 (ix3 r h 0) = x5 (ix2 r ⟨h.val, by omega⟩) := by
  rw [val_main_v7_apply, val_main_v6_apply]
  refine congrArg x5 (funext fun a => Fin.ext ?_)
  match a with
  | ⟨0, _⟩ => show ((r.val * 8 + h.val) * 1 + 0) / 8 = r.val; omega
  | ⟨1, _⟩ => show ((r.val * 8 + h.val) * 1 + 0) % 8 = h.val; omega

/-- The second attention's sums by row and head. -/
theorem sums5_at (r : Fin 16384) (h : Fin 8) :
    val_main_v9 (F := Ideal) x5 (ix3 r h 0) = x5 (ix2 r ⟨8 + h.val, by omega⟩) := by
  rw [val_main_v9_apply, val_main_v8_apply]
  refine congrArg x5 (funext fun a => Fin.ext ?_)
  match a with
  | ⟨0, _⟩ => show ((r.val * 8 + h.val) * 1 + 0) / 8 = r.val; omega
  | ⟨1, _⟩ => show 8 + ((r.val * 8 + h.val) * 1 + 0) % 8 = 8 + h.val; omega

/-- The third attention's maxima by row and head. -/
theorem maxima6_at (r : Fin 16384) (h : Fin 8) :
    val_main_v12 (F := Ideal) x6 (ix3 r h 0) = x6 (ix2 r ⟨h.val, by omega⟩) := by
  rw [val_main_v12_apply, val_main_v11_apply]
  refine congrArg x6 (funext fun a => Fin.ext ?_)
  match a with
  | ⟨0, _⟩ => show ((r.val * 8 + h.val) * 1 + 0) / 8 = r.val; omega
  | ⟨1, _⟩ => show ((r.val * 8 + h.val) * 1 + 0) % 8 = h.val; omega

/-- The third attention's sums by row and head. -/
theorem sums6_at (r : Fin 16384) (h : Fin 8) :
    val_main_v14 (F := Ideal) x6 (ix3 r h 0) = x6 (ix2 r ⟨8 + h.val, by omega⟩) := by
  rw [val_main_v14_apply, val_main_v13_apply]
  refine congrArg x6 (funext fun a => Fin.ext ?_)
  match a with
  | ⟨0, _⟩ => show ((r.val * 8 + h.val) * 1 + 0) / 8 = r.val; omega
  | ⟨1, _⟩ => show 8 + ((r.val * 8 + h.val) * 1 + 0) % 8 = 8 + h.val; omega

/-! ## The attentions combined -/

/-- The stack of three arrays, at each of its leading places. -/
theorem stack_apply (x y z : FVec Ideal ⟨4, ![1, 16384, 8, 1]⟩ .f32)
    (hc : Shape.Concatenates [⟨4, ![1, 16384, 8, 1]⟩, ⟨4, ![1, 16384, 8, 1]⟩, ⟨4, ![1, 16384, 8, 1]⟩] ⟨4, ![3, 16384, 8, 1]⟩ 0)
    (i : Fin 3) (r : Fin 16384) (h : Fin 8) :
    concatenate ⟨4, ![3, 16384, 8, 1]⟩ 0 [⟨_, x⟩, ⟨_, y⟩, ⟨_, z⟩] hc (ix4 i r h 0)
      = if h1 : i.val < 1 then x (ix4 ⟨i.val, h1⟩ r h 0) else if h2 : i.val - 1 < 1 then y (ix4 ⟨i.val - 1, h2⟩ r h 0)
        else z (ix4 ⟨i.val - 1 - 1, by omega⟩ r h 0) := by
  pointwise

/-- The largest over the stack's leading axis. -/
theorem stackMax_apply (x : FVec Ideal ⟨4, ![3, 16384, 8, 1]⟩ .f32) (z : FVec Ideal ⟨0, ![]⟩ .f32)
    (hr : Shape.ReducesTo ⟨4, ![3, 16384, 8, 1]⟩ [0] ⟨3, ![16384, 8, 1]⟩) (hu : 0 < (⟨0, ![]⟩ : Shape).numel)
    (hz : z (Shape.Idx.first hu) = ⊥) (r : Fin 16384) (h : Fin 8) :
    Host.reduce FloatOps.maximumf x z hr hu (ix3 r h 0)
      = (Finset.univ : Finset (Fin 3)).fold max ⊥ fun i => x (ix4 i r h 0) := by
  rw [← hz]
  pointwise

/-- The largest of the three maxima of a row and head. -/
theorem top_at (r : Fin 16384) (h : Fin 8) :
    val_main_v19 (F := Ideal) x4 x5 x6 (ix3 r h 0)
      = top (x4 (ix2 r ⟨h.val, by omega⟩)) (x5 (ix2 r ⟨h.val, by omega⟩)) (x6 (ix2 r ⟨h.val, by omega⟩)) := by
  unfold val_main_v19
  refine ((stackMax_apply _ _ _ _ Cert.Dil.ofBits_negInf r h).trans (fold_three _)).trans ?_
  unfold val_main_v18
  refine congr (congr (congrArg top ((stack_apply _ _ _ _ 0 r h).trans ?_)) ((stack_apply _ _ _ _ 1 r h).trans ?_))
    ((stack_apply _ _ _ _ 2 r h).trans ?_)
  · exact (val_main_v15_apply x4 _).trans ((congrArg _ (funext fun a => by match a with | ⟨0, _⟩ => rfl | ⟨1, _⟩ => rfl | ⟨2, _⟩ => rfl)).trans (maxima4_at x4 r h))
  · exact (val_main_v16_apply x5 _).trans ((congrArg _ (funext fun a => by match a with | ⟨0, _⟩ => rfl | ⟨1, _⟩ => rfl | ⟨2, _⟩ => rfl)).trans (maxima5_at x5 r h))
  · exact (val_main_v17_apply x6 _).trans ((congrArg _ (funext fun a => by match a with | ⟨0, _⟩ => rfl | ⟨1, _⟩ => rfl | ⟨2, _⟩ => rfl)).trans (maxima6_at x6 r h))

/-- The place a broadcast over a head's components reads. -/
theorem spread22 (r : Fin 16384) (h : Fin 8) (d : Fin 64) : idx_main_v22 (ix3 r h d) = ix3 r h 0 :=
  funext fun a => by match a with | ⟨0, _⟩ => rfl | ⟨1, _⟩ => rfl | ⟨2, _⟩ => rfl

/-- The place a broadcast over a head's components reads. -/
theorem spread28 (r : Fin 16384) (h : Fin 8) (d : Fin 64) : idx_main_v28 (ix3 r h d) = ix3 r h 0 :=
  funext fun a => by match a with | ⟨0, _⟩ => rfl | ⟨1, _⟩ => rfl | ⟨2, _⟩ => rfl

/-- The place a broadcast over a head's components reads. -/
theorem spread33 (r : Fin 16384) (h : Fin 8) (d : Fin 64) : idx_main_v33 (ix3 r h d) = ix3 r h 0 :=
  funext fun a => by match a with | ⟨0, _⟩ => rfl | ⟨1, _⟩ => rfl | ⟨2, _⟩ => rfl

/-- The place a broadcast over a head's components reads. -/
theorem spread49 (r : Fin 16384) (h : Fin 8) (d : Fin 64) : idx_main_v49 (ix3 r h d) = ix3 r h 0 :=
  funext fun a => by match a with | ⟨0, _⟩ => rfl | ⟨1, _⟩ => rfl | ⟨2, _⟩ => rfl

/-- The combined attention by row, head and component. -/
theorem comb_at (r : Fin 16384) (h : Fin 8) (d : Fin 64) :
    val_main_v50 (F := Ideal) x1 x2 x3 x4 x5 x6 (ix3 r h d)
      = comb (x4 (ix2 r ⟨h.val, by omega⟩)) (x5 (ix2 r ⟨h.val, by omega⟩)) (x6 (ix2 r ⟨h.val, by omega⟩)) (x4 (ix2 r ⟨8 + h.val, by omega⟩)) (x5 (ix2 r ⟨8 + h.val, by omega⟩)) (x6 (ix2 r ⟨8 + h.val, by omega⟩)) (x1 (ix2 r ⟨h.val * 64 + d.val, by omega⟩)) (x2 (ix2 r ⟨h.val * 64 + d.val, by omega⟩)) (x3 (ix2 r ⟨h.val * 64 + d.val, by omega⟩)) := by
  simp only [val_main_v50_apply, val_main_v35_apply, val_main_v34_apply, val_main_v33_apply, val_main_v32_apply, val_main_v31_apply, val_main_v30_apply,
    val_main_v29_apply, val_main_v28_apply, val_main_v27_apply, val_main_v26_apply, val_main_v25_apply, val_main_v24_apply, val_main_cst_0_apply,
    val_main_v23_apply, val_main_v22_apply, val_main_v21_apply, val_main_v20_apply, val_main_v49_apply, val_main_v48_apply, val_main_v47_apply,
    val_main_v46_apply, val_main_v45_apply, val_main_v44_apply, val_main_v43_apply, val_main_v42_apply, val_main_v41_apply, val_main_v40_apply,
    val_main_v39_apply, val_main_cst_1_apply, val_main_v38_apply, val_main_v37_apply, val_main_v36_apply,
    spread22, spread28, spread33, spread49, top_at, maxima4_at, maxima5_at, maxima6_at, sums4_at, sums5_at, sums6_at, head1_at, head2_at, head3_at]
  show Ideal.div (Ideal.ofBits .f32 0x00000000#32 + _ + _ + _) (Ideal.ofBits .f32 0x00000000#32 + _ + _ + _) = _
  rw [Ideal.ofBits_zero_f32, zero_add, zero_add]
  rfl

/-- The combined attention by row and lane. -/
theorem combined_at (r : Fin 16384) (k : Fin 512) :
    val_main_v51 (F := Ideal) x1 x2 x3 x4 x5 x6 (ix2 r k)
      = combined (rowOf x1 r) (rowOf x2 r) (rowOf x3 r) (rowOf x4 r) (rowOf x5 r) (rowOf x6 r) k := by
  rw [val_main_v51_apply]
  have e : idx_main_v51 (ix2 r k) = ix3 r ⟨k.val / 64, by omega⟩ ⟨k.val % 64, by omega⟩ := funext fun a => Fin.ext (by
    match a with
    | ⟨0, _⟩ => show (r.val * 512 + k.val) / 512 = r.val; omega
    | ⟨1, _⟩ => show (r.val * 512 + k.val) / 64 % 8 = k.val / 64; omega
    | ⟨2, _⟩ => show (r.val * 512 + k.val) % 64 = k.val % 64; omega)
  rw [e, comb_at]
  have ec : (⟨k.val / 64 * 64 + k.val % 64, by omega⟩ : Fin 512) = k := Fin.ext (by show k.val / 64 * 64 + k.val % 64 = k.val; omega)
  simp only [ec]
  rfl

/-! ## The block -/

/-- The left place product 53 reads. -/
theorem left53 (r : Fin 16384) (j : Fin 1024) (k : Fin 512) : lidx_main_v53 (ix2 r j) k = ix2 r k :=
  funext fun a => by match a with | ⟨0, _⟩ => rfl | ⟨1, _⟩ => rfl

/-- The right place product 53 reads. -/
theorem right53 (r : Fin 16384) (j : Fin 1024) (k : Fin 512) : ridx_main_v53 (ix2 r j) k = ix2 k j :=
  funext fun a => by match a with | ⟨0, _⟩ => rfl | ⟨1, _⟩ => rfl

/-- The left place product 74 reads. -/
theorem left74 (r : Fin 16384) (j : Fin 4096) (k : Fin 1024) : lidx_main_v74 (ix2 r j) k = ix2 r k :=
  funext fun a => by match a with | ⟨0, _⟩ => rfl | ⟨1, _⟩ => rfl

/-- The right place product 74 reads. -/
theorem right74 (r : Fin 16384) (j : Fin 4096) (k : Fin 1024) : ridx_main_v74 (ix2 r j) k = ix2 k j :=
  funext fun a => by match a with | ⟨0, _⟩ => rfl | ⟨1, _⟩ => rfl

/-- The left place product 77 reads. -/
theorem left77 (r : Fin 16384) (j : Fin 1024) (k : Fin 4096) : lidx_main_v77 (ix2 r j) k = ix2 r k :=
  funext fun a => by match a with | ⟨0, _⟩ => rfl | ⟨1, _⟩ => rfl

/-- The right place product 77 reads. -/
theorem right77 (r : Fin 16384) (j : Fin 1024) (k : Fin 4096) : ridx_main_v77 (ix2 r j) k = ix2 k j :=
  funext fun a => by match a with | ⟨0, _⟩ => rfl | ⟨1, _⟩ => rfl

/-- The left place product 92 reads. -/
theorem left92 (r : Fin 16384) (j : Fin 1024) (k : Fin 1024) : lidx_main_v92 (ix2 r j) k = ix2 r k :=
  funext fun a => by match a with | ⟨0, _⟩ => rfl | ⟨1, _⟩ => rfl

/-- The right place product 92 reads. -/
theorem right92 (r : Fin 16384) (j : Fin 1024) (k : Fin 1024) : ridx_main_v92 (ix2 r j) k = ix2 k j :=
  funext fun a => by match a with | ⟨0, _⟩ => rfl | ⟨1, _⟩ => rfl

/-- The left place product 99 reads. -/
theorem left99 (r : Fin 16384) (j : Fin 1024) (k : Fin 256) : lidx_main_v99 (ix2 r j) k = ix2 r k :=
  funext fun a => by match a with | ⟨0, _⟩ => rfl | ⟨1, _⟩ => rfl

/-- The right place product 99 reads. -/
theorem right99 (r : Fin 16384) (j : Fin 1024) (k : Fin 256) : ridx_main_v99 (ix2 r j) k = ix2 k j :=
  funext fun a => by match a with | ⟨0, _⟩ => rfl | ⟨1, _⟩ => rfl

/-- The residual with the projected mix. -/
theorem mixed_at (r : Fin 16384) (j : Fin 1024) :
    val_main_v54 (F := Ideal) x0 x1 x2 x3 x4 x5 x6 x7 (ix2 r j) = mixed (rowOf x0 r) (combined (rowOf x1 r) (rowOf x2 r) (rowOf x3 r) (rowOf x4 r) (rowOf x5 r) (rowOf x6 r)) (matOf x7) j := by
  rw [val_main_v54_apply, val_main_v53_apply]
  refine congrArg (x0 (ix2 r j) + ·) (Finset.sum_congr rfl fun k _ => ?_)
  rw [left53, right53, combined_at, val_main_v52_apply]
  rfl

/-- The sum of squares of a row, before the channel block. -/
theorem squares61_at (r : Fin 16384) :
    val_main_v62 (F := Ideal) x0 x1 x2 x3 x4 x5 x6 x7 (ix1 r)
      = ∑ k : Fin 1024, val_main_v54 (F := Ideal) x0 x1 x2 x3 x4 x5 x6 x7 (ix2 r k) * val_main_v54 (F := Ideal) x0 x1 x2 x3 x4 x5 x6 x7 (ix2 r k) := by
  rw [val_main_v62_apply, val_main_cst_2_apply]
  refine (congrArg (· + _) Ideal.ofBits_zero_f32).trans ((zero_add _).trans (Finset.sum_congr rfl fun k _ => ?_))
  have e : idx_main_v62 (ix1 r) k = ix2 r k := funext fun a => by match a with | ⟨0, _⟩ => rfl | ⟨1, _⟩ => rfl
  rw [val_main_v61_apply, e]
  rfl

/-- The gain of a lane, before the channel block. -/
theorem gain61_at (r : Fin 16384) (k : Fin 1024) : val_main_v72 (F := Ideal) x8 (ix2 r k) = x8 (ix2 0 k) := by
  rw [val_main_v72_apply, val_main_v71_apply, val_main_v55_apply]
  refine congrArg x8 (funext fun a => Fin.ext ?_)
  match a with
  | ⟨0, _⟩ => rfl
  | ⟨1, _⟩ => show k.val % 1024 = k.val; omega

/-- The RMS norm of a row, before the channel block. -/
theorem norm_at (r : Fin 16384) (k : Fin 1024) :
    val_main_v73 (F := Ideal) x0 x1 x2 x3 x4 x5 x6 x7 x8 (ix2 r k) = rms (mixed (rowOf x0 r) (combined (rowOf x1 r) (rowOf x2 r) (rowOf x3 r) (rowOf x4 r) (rowOf x5 r) (rowOf x6 r)) (matOf x7)) (rowOf x8 0) k := by
  rw [val_main_v73_apply, gain61_at, val_main_v70_apply, val_main_v69_apply]
  have e : idx_main_v69 (ix2 r k) = ix2 r 0 := funext fun a => by match a with | ⟨0, _⟩ => rfl | ⟨1, _⟩ => rfl
  have e' : idx_main_v63 (ix2 r 0) = ix1 r := funext fun a => by match a with | ⟨0, _⟩ => rfl
  rw [e, val_main_v68_apply, val_main_v67_apply, val_main_v65_apply, val_main_v63_apply, val_main_v64_apply, val_main_v66_apply,
    val_main_cst_3_apply, val_main_cst_4_apply, e', squares61_at]
  simp only [mixed_at]
  rfl

/-- The hidden value of a row. -/
theorem hidden_at (r : Fin 16384) (f : Fin 4096) :
    val_main_v75 (F := Ideal) x0 x1 x2 x3 x4 x5 x6 x7 x8 x9 (ix2 r f) = hidden (mixed (rowOf x0 r) (combined (rowOf x1 r) (rowOf x2 r) (rowOf x3 r) (rowOf x4 r) (rowOf x5 r) (rowOf x6 r)) (matOf x7)) (rowOf x8 0) (matOf x9) f := by
  rw [val_main_v75_apply, val_main_v74_apply, val_main_call0_v0_apply, val_main_call0_cst_apply]
  refine congrArg₂ max (Finset.sum_congr rfl fun k _ => ?_) Ideal.ofBits_zero_f32
  rw [left74, right74, norm_at, val_main_v57_apply]
  rfl

/-- The residual with the channel block. -/
theorem channel_at (r : Fin 16384) (j : Fin 1024) :
    val_main_v78 (F := Ideal) x0 x1 x2 x3 x4 x5 x6 x7 x8 x9 x10 (ix2 r j) = channel (mixed (rowOf x0 r) (combined (rowOf x1 r) (rowOf x2 r) (rowOf x3 r) (rowOf x4 r) (rowOf x5 r) (rowOf x6 r)) (matOf x7)) (rowOf x8 0) (matOf x9) (matOf x10) j := by
  rw [val_main_v78_apply, mixed_at, val_main_v77_apply]
  refine congrArg₂ (· + ·) rfl (Finset.sum_congr rfl fun k _ => ?_)
  rw [left77, right77, val_main_v76_apply, hidden_at, val_main_v58_apply]
  rfl

/-- The sum of squares of a row, before the gate. -/
theorem squares79_at (r : Fin 16384) :
    val_main_v80 (F := Ideal) x0 x1 x2 x3 x4 x5 x6 x7 x8 x9 x10 (ix1 r)
      = ∑ k : Fin 1024, val_main_v78 (F := Ideal) x0 x1 x2 x3 x4 x5 x6 x7 x8 x9 x10 (ix2 r k) * val_main_v78 (F := Ideal) x0 x1 x2 x3 x4 x5 x6 x7 x8 x9 x10 (ix2 r k) := by
  rw [val_main_v80_apply, val_main_cst_5_apply]
  refine (congrArg (· + _) Ideal.ofBits_zero_f32).trans ((zero_add _).trans (Finset.sum_congr rfl fun k _ => ?_))
  have e : idx_main_v80 (ix1 r) k = ix2 r k := funext fun a => by match a with | ⟨0, _⟩ => rfl | ⟨1, _⟩ => rfl
  rw [val_main_v79_apply, e]
  rfl

/-- The gain of a lane, before the gate. -/
theorem gain79_at (r : Fin 16384) (k : Fin 1024) : val_main_v90 (F := Ideal) x11 (ix2 r k) = x11 (ix2 0 k) := by
  rw [val_main_v90_apply, val_main_v89_apply, val_main_v56_apply]
  refine congrArg x11 (funext fun a => Fin.ext ?_)
  match a with
  | ⟨0, _⟩ => rfl
  | ⟨1, _⟩ => show k.val % 1024 = k.val; omega

/-- The RMS norm of a row, before the gate. -/
theorem norm2_at (r : Fin 16384) (k : Fin 1024) :
    val_main_v91 (F := Ideal) x0 x1 x2 x3 x4 x5 x6 x7 x8 x9 x10 x11 (ix2 r k) = rms (channel (mixed (rowOf x0 r) (combined (rowOf x1 r) (rowOf x2 r) (rowOf x3 r) (rowOf x4 r) (rowOf x5 r) (rowOf x6 r)) (matOf x7)) (rowOf x8 0) (matOf x9) (matOf x10)) (rowOf x11 0) k := by
  rw [val_main_v91_apply, gain79_at, val_main_v88_apply, val_main_v87_apply]
  have e : idx_main_v87 (ix2 r k) = ix2 r 0 := funext fun a => by match a with | ⟨0, _⟩ => rfl | ⟨1, _⟩ => rfl
  have e' : idx_main_v81 (ix2 r 0) = ix1 r := funext fun a => by match a with | ⟨0, _⟩ => rfl
  rw [e, val_main_v86_apply, val_main_v85_apply, val_main_v83_apply, val_main_v81_apply, val_main_v82_apply, val_main_v84_apply,
    val_main_cst_6_apply, val_main_cst_7_apply, e', squares79_at]
  simp only [channel_at]
  rfl

/-- The gate's argument. -/
theorem gate_at (r : Fin 16384) (j : Fin 1024) :
    val_main_v92 (F := Ideal) x0 x1 x2 x3 x4 x5 x6 x7 x8 x9 x10 x11 x12 (ix2 r j) = ∑ k, rms (channel (mixed (rowOf x0 r) (combined (rowOf x1 r) (rowOf x2 r) (rowOf x3 r) (rowOf x4 r) (rowOf x5 r) (rowOf x6 r)) (matOf x7)) (rowOf x8 0) (matOf x9) (matOf x10)) (rowOf x11 0) k * matOf x12 k j := by
  rw [val_main_v92_apply]
  refine Finset.sum_congr rfl fun k _ => ?_
  rw [left92, right92, norm2_at, val_main_v60_apply]
  rfl

/-- The embedding's product. -/
theorem embed_at (r : Fin 16384) (j : Fin 1024) :
    val_main_v99 (F := Ideal) x13 x14 (ix2 r j) = ∑ k, rowOf x13 r k * matOf x14 k j := by
  rw [val_main_v99_apply]
  refine Finset.sum_congr rfl fun k _ => ?_
  rw [left99, right99, val_main_v59_apply]
  rfl

/-- The result by row and lane. -/
theorem result_at (r : Fin 16384) (j : Fin 1024) :
    val_main_v101 (F := Ideal) x0 x1 x2 x3 x4 x5 x6 x7 x8 x9 x10 x11 x12 x13 x14 (ix2 r j) = postRow (n := 16384) x0 x1 x2 x3 x4 x5 x6 x7 x8 x9 x10 x11 x12 x13 x14 r j := by
  rw [val_main_v101_apply, channel_at, val_main_v100_apply, embed_at, val_main_v98_apply, val_main_v97_apply, val_main_cst_9_apply,
    val_main_v96_apply, val_main_v95_apply, val_main_cst_8_apply, val_main_v94_apply, val_main_v93_apply, gate_at]
  show _ + Ideal.div (Ideal.ofBits .f32 0x3F800000#32) (Ideal.ofBits .f32 0x3F800000#32 + Ideal.exp (- _)) * _ = _
  rw [Ideal.ofBits_one_f32]
  rfl

/-! ## The run -/

/-- The run: the result array, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v101) = (fun k => postRow (n := 16384) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (k 0) (k 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => ⟨(h c).1.trans ((val_main_v101_eq _).trans (funext fun k =>
    (congrArg _ (eq_ix2 (n0 := 16384) (n1 := 1024) k)).trans (result_at _ _ _ _ _ _ _ _ _ _ _ _ _ _ _ (k 0) (k 1)))), (h c).2⟩) (Value.run m ρ)

end Cert.RefPostIdeal.Own

end
-- ==== Proof.Dil1Kernel.lean ====
/-
  The dilated attention's kernel at dilation 1: what its two result arrays hold after the run, at the ideal values, as the
  attention and its statistics of the argument arrays.
-/
module

public import proofs.«01_k».proof.Proof.PostRef
public import proofs.«01_k».proof.Proof.Gen.Dil1Ideal.Value
public import Idealize.ShloMosaic.Lib.StableHlo.ReadAt

@[expose] public section

set_option maxRecDepth 16384

noncomputable section

namespace Cert.Dil1Ideal.Own

open Idealize.ShloMosaic Idealize.ShloMosaic.TcCoe Idealize.SL.Sem
open Idealize.ShloMosaic.Pipeline (Dat)
open Cert.Dil1Ideal Cert.Dil1Ideal.Gen Cert.Dil

/-! ## The body's outputs are the tile's operations -/

/-- The value that stands for the masked scores. -/
def bot : EReal := (Named.named (F := Ideal) (φ := .f32) κ "mask" 0xF149F2CA#32 : Ideal .f32)

/-- It is `-∞`. -/
theorem bot_eq : bot = ⊥ := IdealRules.named_const.ideal_named_scalar _ _ _ _ rfl

variable (i : grid0.Coords) (x0 : Vec Ideal S128x512 .bf16) (x1 x2 x3 x4 : Vec Ideal S128x512 .f32)

/-- The mask of the grid point's block of rows. -/
abbrev msk : IVec T256 1 := maskOp (BitVec.ofNat 32 (i 2).val)

/-- A block of queries in its own shape is itself. -/
theorem castT (Q : FVec Ideal T128 .bf16) (h : T128.ShapeCasts T128) : shapeCast T128 Q h = Q := shapeCast_self Q h

/-- A block of keys or values in its own shape is itself. -/
theorem castR (R : FVec Ideal R512 .f32) (h : R512.ShapeCasts R512) : shapeCast R512 R h = R := shapeCast_self R h

/-- Previous and current block, one below the other, as the body prints them here. -/
def cat1 (a b : FVec Ideal R512 .f32) : FVec Ideal K512 .bf16 :=
  truncf .bf16 (concatenate K512 0 [⟨R512, a⟩, ⟨R512, b⟩] catFits) (by decide)

/-- A head's masked scores, as the body prints them here. -/
def score1 (mask : IVec T256 1) (sel : IVec T128 1) (bot : EReal) (Q : FVec Ideal T128 .bf16) (Ks : FVec Ideal K128 .bf16) : FVec Ideal T256 .f32 :=
  select mask (matmul dotNT none (select sel Q (broadcast T128 (Scalar.ofBits (F := Ideal) .bf16 0x0000#16))) Ks
    (constant T256 .f32 0x00000000#32)) (broadcast T256 bot)

/-- A pair's 128 lanes of the attention, from these scores. -/
def pair1 (mask : IVec T256 1) (bot : EReal) (Q : FVec Ideal T128 .bf16) (K V : FVec Ideal K512 .bf16) (o : ℕ)
    (ho : K512.Slices ![0, o] K128) : FVec Ideal T128 .f32 :=
  select lowOp (mixOp mask (score1 mask lowOp bot Q (pairOf o ho K)) (pairOf o ho V))
    (mixOp mask (score1 mask highOp bot Q (pairOf o ho K)) (pairOf o ho V))

/-- The statistics' lanes of one pair, from these scores. -/
def lanes1 (h0 h1 h8 h9 : BitVec 32) (mask : IVec T256 1) (bot : EReal) (Q : FVec Ideal T128 .bf16) (K : FVec Ideal K512 .bf16) (o : ℕ)
    (ho : K512.Slices ![0, o] K128) (prev : FVec Ideal T128 .f32) : FVec Ideal T128 .f32 :=
  statOp h1 h9 (maxOp (score1 mask highOp bot Q (pairOf o ho K))) (denomOp mask (score1 mask highOp bot Q (pairOf o ho K)))
    (statOp h0 h8 (maxOp (score1 mask lowOp bot Q (pairOf o ho K))) (denomOp mask (score1 mask lowOp bot Q (pairOf o ho K))) prev)

/-- The statistics of the four pairs, from these scores. -/
def stats1 (mask : IVec T256 1) (bot : EReal) (Q0 Q1 Q2 Q3 : FVec Ideal T128 .bf16) (K : FVec Ideal K512 .bf16) : FVec Ideal T128 .f32 :=
  lanes1 6#32 7#32 14#32 15#32 mask bot Q3 K 384 slices3
    (lanes1 4#32 5#32 12#32 13#32 mask bot Q2 K 256 slices2
      (lanes1 2#32 3#32 10#32 11#32 mask bot Q1 K 128 slices1
        (lanes1 0#32 1#32 8#32 9#32 mask bot Q0 K 0 slices0
          (broadcast T128 (Scalar.ofBits (F := Ideal) .f32 0x00000000#32)))))

/-- The blocks are those of the other dilations. -/
theorem cat1_eq (a b : FVec Ideal R512 .f32) : cat1 a b = catOp a b := by
  unfold cat1 catOp
  rw [castR, castR]

/-- The scores are those of the other dilations. -/
theorem score1_eq (mask : IVec T256 1) (sel : IVec T128 1) (bot : EReal) (Q : FVec Ideal T128 .bf16) (Ks : FVec Ideal K128 .bf16) :
    score1 mask sel bot Q Ks = scoreOp mask sel bot Q Ks := by
  unfold score1 scoreOp
  rw [castT]

/-- The pair's attention is that of the other dilations. -/
theorem pair1_eq (mask : IVec T256 1) (bot : EReal) (Q : FVec Ideal T128 .bf16) (K V : FVec Ideal K512 .bf16) (o : ℕ)
    (ho : K512.Slices ![0, o] K128) : pair1 mask bot Q K V o ho = pairOp mask bot Q K V o ho := by
  unfold pair1 pairOp scoreLo scoreHi
  rw [score1_eq, score1_eq]

/-- The statistics are those of the other dilations. -/
theorem stats1_eq (mask : IVec T256 1) (bot : EReal) (Q0 Q1 Q2 Q3 : FVec Ideal T128 .bf16) (K : FVec Ideal K512 .bf16) :
    stats1 mask bot Q0 Q1 Q2 Q3 K = statsOp mask bot Q0 Q1 Q2 Q3 K := by
  unfold stats1 statsOp lanes1 pairStats scoreLo scoreHi
  simp only [score1_eq]

/-- The attention's staged block: four pairs of heads side by side. -/
theorem out5_raw : out0_5 i x0 x1 x2 x3 x4 = View.canon
    [⟨r0_4, pair1 (msk i) bot (View.ld x0 r0_4) (cat1 (View.ld x1 r0_0) (View.ld x3 r0_0)) (cat1 (View.ld x2 r0_0) (View.ld x4 r0_0)) 384 slices3⟩,
     ⟨r0_3, pair1 (msk i) bot (View.ld x0 r0_3) (cat1 (View.ld x1 r0_0) (View.ld x3 r0_0)) (cat1 (View.ld x2 r0_0) (View.ld x4 r0_0)) 256 slices2⟩,
     ⟨r0_2, pair1 (msk i) bot (View.ld x0 r0_2) (cat1 (View.ld x1 r0_0) (View.ld x3 r0_0)) (cat1 (View.ld x2 r0_0) (View.ld x4 r0_0)) 128 slices1⟩,
     ⟨r0_1, pair1 (msk i) bot (View.ld x0 r0_1) (cat1 (View.ld x1 r0_0) (View.ld x3 r0_0)) (cat1 (View.ld x2 r0_0) (View.ld x4 r0_0)) 0 slices0⟩] := rfl

/-- The statistics' staged block. -/
theorem out6_raw : out0_6 i x0 x1 x2 x3 x4 = View.canon
    [⟨r0_5, stats1 (msk i) bot (View.ld x0 r0_1) (View.ld x0 r0_2) (View.ld x0 r0_3) (View.ld x0 r0_4) (cat1 (View.ld x1 r0_0) (View.ld x3 r0_0))⟩] := rfl

/-- The attention's staged block, in the operations of the other dilations: four pairs of heads side by side. -/
theorem out5_eq : out0_5 i x0 x1 x2 x3 x4 = View.canon
    [⟨r0_4, pairOp (msk i) bot (View.ld x0 r0_4) (catOp (View.ld x1 r0_0) (View.ld x3 r0_0)) (catOp (View.ld x2 r0_0) (View.ld x4 r0_0)) 384 slices3⟩,
     ⟨r0_3, pairOp (msk i) bot (View.ld x0 r0_3) (catOp (View.ld x1 r0_0) (View.ld x3 r0_0)) (catOp (View.ld x2 r0_0) (View.ld x4 r0_0)) 256 slices2⟩,
     ⟨r0_2, pairOp (msk i) bot (View.ld x0 r0_2) (catOp (View.ld x1 r0_0) (View.ld x3 r0_0)) (catOp (View.ld x2 r0_0) (View.ld x4 r0_0)) 128 slices1⟩,
     ⟨r0_1, pairOp (msk i) bot (View.ld x0 r0_1) (catOp (View.ld x1 r0_0) (View.ld x3 r0_0)) (catOp (View.ld x2 r0_0) (View.ld x4 r0_0)) 0 slices0⟩] := by
  rw [out5_raw]
  simp only [pair1_eq, cat1_eq]

/-- The statistics' staged block, in the operations of the other dilations. -/
theorem out6_eq : out0_6 i x0 x1 x2 x3 x4 = View.canon
    [⟨r0_5, statsOp (msk i) bot (View.ld x0 r0_1) (View.ld x0 r0_2) (View.ld x0 r0_3) (View.ld x0 r0_4) (catOp (View.ld x1 r0_0) (View.ld x3 r0_0))⟩] := by
  rw [out6_raw, stats1_eq, cat1_eq]

/-- The offset of a whole block. -/
theorem hz : (![0, 0] : Fin 2 → Nat) = fun _ => 0 := funext fun a => by fin_cases a <;> rfl

/-- A load of the queries' lanes from lane `o`. -/
theorem ld_lanes (o : ℕ) (h : ∀ a, (![0, o] : Fin 2 → Nat) a + S128x128.size a ≤ S128x512.size a) (t j : Fin 128) (hl : o + j.val < 512) :
    View.ld x0 (Rect.unit (s := S128x512) ![0, o] S128x128.size h) (ix2 t j) = x0 (ix2 t ⟨o + j.val, hl⟩) := by
  refine congrArg x0 (funext fun z => Fin.ext ?_)
  match z with
  | ⟨0, _⟩ => show 0 + 1 * t.val = t.val; omega
  | ⟨1, _⟩ => show o + 1 * j.val = o + j.val; omega

variable {i x0 x1 x2 x3 x4} {n : ℕ} {Qf Kf Vf : ℕ → ℕ → EReal}

/-- The attention's staged block, read. -/
theorem out5_apply (hi : (i 2).val = n) (T : Tile n Qf Kf Vf x0 x1 x2 x3 x4) (a : Fin 128) (c : Fin 512) :
    out0_5 i x0 x1 x2 x3 x4 (ix2 a c) = attnAt Qf Kf Vf (n * 128 + a.val) c.val := by
  rw [out5_eq, bot_eq]
  unfold msk
  rw [hi]
  simp only [View.ld_unit_zero (S := S128x512) hz]
  exact lanes_apply _ _ _ _ a c (attnAt Qf Kf Vf (n * 128 + a.val))
    (fun j => T.pair_apply (p := 0) (by omega) slices0 _ (fun t j h => ld_lanes x0 _ _ t j h) a j)
    (fun j => T.pair_apply (p := 1) (by omega) slices1 _ (fun t j h => ld_lanes x0 _ _ t j h) a j)
    (fun j => T.pair_apply (p := 2) (by omega) slices2 _ (fun t j h => ld_lanes x0 _ _ t j h) a j)
    (fun j => T.pair_apply (p := 3) (by omega) slices3 _ (fun t j h => ld_lanes x0 _ _ t j h) a j)

/-- The statistics' staged block, read. -/
theorem out6_apply (hi : (i 2).val = n) (T : Tile n Qf Kf Vf x0 x1 x2 x3 x4) (a j : Fin 128) :
    out0_6 i x0 x1 x2 x3 x4 (ix2 a j) = statAt Qf Kf (n * 128 + a.val) j.val := by
  rw [out6_eq, bot_eq]
  unfold msk
  rw [hi]
  simp only [View.ld_unit_zero (S := S128x512) hz]
  rw [View.canon_unit_zero (S := S128x128) hz]
  exact T.statsOp_apply _ _ _ _ (fun t j h => ld_lanes x0 _ _ t j h) (fun t j h => ld_lanes x0 _ _ t j h)
    (fun t j h => ld_lanes x0 _ _ t j h) (fun t j h => ld_lanes x0 _ _ t j h) a j

/-! ## The staged blocks are a tile of the arguments -/

variable (m : (ℓ : Loc nD τ sig) → Buf (Elt Ideal) ℓ) (ρ : Dev nD → PrngReg) (c : Dev nD)

/-- The queries and the rows as launched. -/
abbrev argQ : S16384x512.Idx → EReal := m ((c : Thread nD τ).loc main_arg0)
abbrev argR : S16384x1024.Idx → EReal := m ((c : Thread nD τ).loc main_arg1)

/-- The region finds the queries as launched. -/
theorem V_v0 : V m c main_arg0 = argQ m c := rfl

/-- The region finds the rows as launched. -/
theorem V_v1 : V m c main_arg1 = argR m c := rfl

/-- The sequence, the residue and the block of rows of a grid point. -/
abbrev pb (t : ℕ) : ℕ := t / 64
abbrev pr (t : ℕ) : ℕ := t / 64 % 1
abbrev pn (t : ℕ) : ℕ := t % 64

/-- The last coordinate of a grid point is its block of rows. -/
theorem coord2 : ∀ t : Fin cfg0.N, (grid0.coords t 2).val = pn t.val :=
  by change ∀ t : Fin grid0.N, _; decide +kernel
/-- The block of queries a grid point reads. -/
theorem index0 : ∀ t : Fin cfg0.N, win0_0.index t 0 = pb t.val * 64 + pn t.val ∧ win0_0.index t 1 = pr t.val :=
  by change ∀ t : Fin grid0.N, _; decide +kernel
/-- The block of keys before the queries' block. -/
theorem index1 : ∀ t : Fin cfg0.N, win0_1.index t 0 = pb t.val * 64 + (pn t.val - 1) ∧ win0_1.index t 1 = 2 * pr t.val :=
  by change ∀ t : Fin grid0.N, _; decide +kernel
/-- The block of values before the queries' block. -/
theorem index2 : ∀ t : Fin cfg0.N, win0_2.index t 0 = pb t.val * 64 + (pn t.val - 1) ∧ win0_2.index t 1 = 2 * pr t.val + 1 :=
  by change ∀ t : Fin grid0.N, _; decide +kernel
/-- The block of keys beside the queries. -/
theorem index3 : ∀ t : Fin cfg0.N, win0_3.index t 0 = pb t.val * 64 + pn t.val ∧ win0_3.index t 1 = 2 * pr t.val :=
  by change ∀ t : Fin grid0.N, _; decide +kernel
/-- The block of values beside the queries. -/
theorem index4 : ∀ t : Fin cfg0.N, win0_4.index t 0 = pb t.val * 64 + pn t.val ∧ win0_4.index t 1 = 2 * pr t.val + 1 :=
  by change ∀ t : Fin grid0.N, _; decide +kernel
/-- The block of attention a grid point writes. -/
theorem index5 : ∀ t : Fin cfg0.N, win0_5.index t 0 = pb t.val * 64 + pn t.val ∧ win0_5.index t 1 = pr t.val :=
  by change ∀ t : Fin grid0.N, _; decide +kernel
/-- The block of maxima and denominators a grid point writes. -/
theorem index6 : ∀ t : Fin cfg0.N, win0_6.index t 0 = pb t.val * 64 + pn t.val ∧ win0_6.index t 1 = pr t.val :=
  by change ∀ t : Fin grid0.N, _; decide +kernel

/-- An element of a staged block of queries. -/
theorem blockQ (X : S16384x512.Idx → EReal) (hX : X = argQ m c)
    (k : S16384x512.Idx) (b r u l : ℕ) (hr : r < 1) (hl : l < 512) (h0 : (k 0).val = b * 8192 + u) (h1 : (k 1).val = r * 512 + l) :
    X k = rowsQ 1 (argQ m c) b r u l := by
  subst hX
  refine (at2_of (argQ m c) k _ _ h0 h1).trans ?_
  unfold rowsQ
  rw [show r = 0 by omega, Nat.mul_one, Nat.add_zero, Nat.zero_mul, Nat.zero_add]

/-- An element of a staged block of keys or values, `o` the column where they begin. -/
theorem blockR (X : S16384x1024.Idx → EReal) (hX : X = argR m c)
    (k : S16384x1024.Idx) (b r u l : ℕ) (hr : r < 1) (hl : l < 1024) (h0 : (k 0).val = b * 8192 + u) (h1 : (k 1).val = r * 1024 + l) :
    X k = at2 (argR m c) (b * 8192 + u * 1 + r) l := by
  subst hX
  refine (at2_of (argR m c) k _ _ h0 h1).trans ?_
  rw [show r = 0 by omega, Nat.mul_one, Nat.add_zero, Nat.zero_mul, Nat.zero_add]

/-- At every grid point the staged blocks are the tile of its sequence, residue and block of rows. -/
theorem tile (t : Fin cfg0.N) : Tile (pn t.val) (rowsQ 1 (argQ m c) (pb t.val) (pr t.val)) (rowsK 1 (argR m c) (pb t.val) (pr t.val))
    (rowsV 1 (argR m c) (pb t.val) (pr t.val)) (iblk m c 0 t) (iblk m c 1 t) (iblk m c 2 t) (iblk m c 3 t) (iblk m c 4 t) where
  small := by unfold pn; omega
  q a l := by
    unfold iblk
    rw [View.read_apply]
    refine blockQ m c _ (V_v0 m c) _ (pb t.val) (pr t.val) (pn t.val * 128 + a.val) l.val (by unfold pr; omega) l.isLt ?_ ?_
    · show win0_0.index t 0 * 128 + 1 * a.val = _
      rw [(index0 t).1]; ring
    · show win0_0.index t 1 * 512 + 1 * l.val = _
      rw [(index0 t).2]; omega
  kp _ a l := by
    unfold iblk
    rw [View.read_apply]
    refine blockR m c _ (V_v1 m c) _ (pb t.val) (pr t.val) ((pn t.val - 1) * 128 + a.val) l.val (by unfold pr; omega) (by omega) ?_ ?_
    · show win0_1.index t 0 * 128 + 1 * a.val = _
      rw [(index1 t).1]; ring
    · show win0_1.index t 1 * 512 + 1 * l.val = _
      rw [(index1 t).2]; omega
  vp _ a l := by
    unfold iblk
    rw [View.read_apply]
    refine blockR m c _ (V_v1 m c) _ (pb t.val) (pr t.val) ((pn t.val - 1) * 128 + a.val) (512 + l.val) (by unfold pr; omega) (by omega) ?_ ?_
    · show win0_2.index t 0 * 128 + 1 * a.val = _
      rw [(index2 t).1]; ring
    · show win0_2.index t 1 * 512 + 1 * l.val = _
      rw [(index2 t).2]; omega
  kc a l := by
    unfold iblk
    rw [View.read_apply]
    refine blockR m c _ (V_v1 m c) _ (pb t.val) (pr t.val) (pn t.val * 128 + a.val) l.val (by unfold pr; omega) (by omega) ?_ ?_
    · show win0_3.index t 0 * 128 + 1 * a.val = _
      rw [(index3 t).1]; ring
    · show win0_3.index t 1 * 512 + 1 * l.val = _
      rw [(index3 t).2]; omega
  vc a l := by
    unfold iblk
    rw [View.read_apply]
    refine blockR m c _ (V_v1 m c) _ (pb t.val) (pr t.val) (pn t.val * 128 + a.val) (512 + l.val) (by unfold pr; omega) (by omega) ?_ ?_
    · show win0_4.index t 0 * 128 + 1 * a.val = _
      rw [(index4 t).1]; ring
    · show win0_4.index t 1 * 512 + 1 * l.val = _
      rw [(index4 t).2]; omega

/-! ## The result arrays -/

/-- The attention's array. -/
def res5 : S16384x512.Idx → EReal := fun k => attnRes 1 (argQ m c) (argR m c) (k 0).val (k 1).val

/-- The statistics' array. -/
def res6 : S16384x128.Idx → EReal := fun k => statRes 1 (argQ m c) (argR m c) (k 0).val (k 1).val

/-- The attention's result at a row of a residue. -/
theorem res5_of (k : S16384x512.Idx) (b r u l : ℕ) (hu : u < 8192) (hl : l < 512) (h0 : (k 0).val = b * 8192 + u) (h1 : (k 1).val = r * 512 + l) :
    res5 m c k = attnAt (rowsQ 1 (argQ m c) b r) (rowsK 1 (argR m c) b r) (rowsV 1 (argR m c) b r) u l := by
  unfold res5 attnRes
  rw [h0, h1, show (b * 8192 + u) / (8192 / 1) = b by omega, show (b * 8192 + u) % (8192 / 1) = u by omega,
    show (r * 512 + l) / 512 = r by omega, show (r * 512 + l) % 512 = l by omega]

/-- The packed maxima and denominators at a row of a residue. -/
theorem res6_of (k : S16384x128.Idx) (b r u l : ℕ) (hu : u < 8192) (hl : l < 128) (h0 : (k 0).val = b * 8192 + u) (h1 : (k 1).val = r * 128 + l) :
    res6 m c k = statAt (rowsQ 1 (argQ m c) b r) (rowsK 1 (argR m c) b r) u l := by
  unfold res6 statRes
  rw [h0, h1, show (b * 8192 + u) / (8192 / 1) = b by omega, show (b * 8192 + u) % (8192 / 1) = u by omega,
    show (r * 128 + l) / 128 = r by omega, show (r * 128 + l) % 128 = l by omega]

/-- Each grid point writes back its block of the attention's array. -/
theorem flushed5_eq (t : Fin cfg0.N) : (dats m 0 c).flushed 5 t = ((cfg0.win 5).blk t).view.read (Elt Ideal) (res5 m c) := by
  rw [Value.flushed5]
  refine funext fun y => ?_
  have hy0 : (y 0).val < 128 := (y 0).isLt
  have hy1 : (y 1).val < 512 := (y 1).isLt
  rw [View.read_apply]
  refine ((congrArg (out0_5 (grid0.coords t) (iblk m c 0 t) (iblk m c 1 t) (iblk m c 2 t) (iblk m c 3 t) (iblk m c 4 t))
    (eq_ix2 (n0 := 128) (n1 := 512) y)).trans (out5_apply (coord2 t) (tile m c t) (y 0) (y 1))).trans ?_
  refine (res5_of m c _ _ _ _ _ (by have := t.isLt; unfold pn; omega) hy1 ?_ ?_).symm
  · show win0_5.index t 0 * 128 + 1 * (y 0).val = _
    rw [(index5 t).1]; ring
  · show win0_5.index t 1 * 512 + 1 * (y 1).val = _
    rw [(index5 t).2]; ring

/-- Each grid point writes back its block of the statistics' array. -/
theorem flushed6_eq (t : Fin cfg0.N) : (dats m 0 c).flushed 6 t = ((cfg0.win 6).blk t).view.read (Elt Ideal) (res6 m c) := by
  rw [Value.flushed6]
  refine funext fun y => ?_
  have hy0 : (y 0).val < 128 := (y 0).isLt
  have hy1 : (y 1).val < 128 := (y 1).isLt
  rw [View.read_apply]
  refine ((congrArg (out0_6 (grid0.coords t) (iblk m c 0 t) (iblk m c 1 t) (iblk m c 2 t) (iblk m c 3 t) (iblk m c 4 t))
    (eq_ix2 (n0 := 128) (n1 := 128) y)).trans (out6_apply (coord2 t) (tile m c t) (y 0) (y 1))).trans ?_
  refine (res6_of m c _ _ _ _ _ (by have := t.isLt; unfold pn; omega) hy1 ?_ ?_).symm
  · show win0_6.index t 0 * 128 + 1 * (y 0).val = _
    rw [(index6 t).1]; ring
  · show win0_6.index t 1 * 128 + 1 * (y 1).val = _
    rw [(index6 t).2]; ring

/-- Every grid point writes its blocks back. -/
theorem flush5 : ∀ t : Fin cfg0.N, (cfg0.win 5).flush t = true := (by decide +kernel : ∀ t : Fin grid0.N, win0_5.flush t = true)
/-- Every grid point writes its maxima and denominators back. -/
theorem flush6 : ∀ t : Fin cfg0.N, (cfg0.win 6).flush t = true := (by decide +kernel : ∀ t : Fin grid0.N, win0_6.flush t = true)

/-- The grid point whose block holds row `R` and the residue `r`. -/
def ptOf (R r : ℕ) (hR : R < 16384) (hr : r < 1) : Fin cfg0.N :=
  ⟨R / 8192 * 64 + r * 64 + R % 8192 / 128, by rw [show cfg0.N = 128 from N_0]; omega⟩

/-- The attention's array after the run. -/
theorem final5 : (dats m 0 c).arrAt 5 cfg0.N = res5 m c :=
  (dats m 0 c).arrAt_eq_of_cover 5 (res5 m c) (fun t _ => flushed5_eq m c t) fun k => by
    have h0 : (k 0).val < 16384 := (k 0).isLt
    have h1 : (k 1).val < 512 := (k 1).isLt
    refine ⟨ptOf (k 0).val ((k 1).val / 512) h0 (by omega), flush5 _, ?_⟩
    have hi := index5 (ptOf (k 0).val ((k 1).val / 512) h0 (by omega))
    have hv : (ptOf (k 0).val ((k 1).val / 512) h0 (by omega)).val = (k 0).val / 8192 * 64 + (k 1).val / 512 * 64 + (k 0).val % 8192 / 128 := rfl
    generalize ptOf (k 0).val ((k 1).val / 512) h0 (by omega) = t at hi hv ⊢
    rw [hv] at hi
    show k ∈ ((View.whole main_v0_0).slice (win0_5.rect t)).set
    rw [View.set_slice_whole, Rect.mem_set_unit]
    intro a
    match a with
    | ⟨0, _⟩ =>
      show win0_5.index t 0 * 128 ≤ (k 0).val ∧ (k 0).val < win0_5.index t 0 * 128 + 128
      rw [hi.1]; unfold pb pn; omega
    | ⟨1, _⟩ =>
      show win0_5.index t 1 * 512 ≤ (k 1).val ∧ (k 1).val < win0_5.index t 1 * 512 + 512
      rw [hi.2]; unfold pr; omega

/-- The statistics' array after the run. -/
theorem final6 : (dats m 0 c).arrAt 6 cfg0.N = res6 m c :=
  (dats m 0 c).arrAt_eq_of_cover 6 (res6 m c) (fun t _ => flushed6_eq m c t) fun k => by
    have h0 : (k 0).val < 16384 := (k 0).isLt
    have h1 : (k 1).val < 128 := (k 1).isLt
    refine ⟨ptOf (k 0).val ((k 1).val / 128) h0 (by omega), flush6 _, ?_⟩
    have hi := index6 (ptOf (k 0).val ((k 1).val / 128) h0 (by omega))
    have hv : (ptOf (k 0).val ((k 1).val / 128) h0 (by omega)).val = (k 0).val / 8192 * 64 + (k 1).val / 128 * 64 + (k 0).val % 8192 / 128 := rfl
    generalize ptOf (k 0).val ((k 1).val / 128) h0 (by omega) = t at hi hv ⊢
    rw [hv] at hi
    show k ∈ ((View.whole main_v0_1).slice (win0_6.rect t)).set
    rw [View.set_slice_whole, Rect.mem_set_unit]
    intro a
    match a with
    | ⟨0, _⟩ =>
      show win0_6.index t 0 * 128 ≤ (k 0).val ∧ (k 0).val < win0_6.index t 0 * 128 + 128
      rw [hi.1]; unfold pb pn; omega
    | ⟨1, _⟩ =>
      show win0_6.index t 1 * 128 ≤ (k 1).val ∧ (k 1).val < win0_6.index t 1 * 128 + 128
      rw [hi.2]; unfold pr; omega

/-- The run: the two result arrays, the arguments unchanged. -/
theorem run : θ_run defs (onTc (τ := τ) (main (F := Ideal))) ⟨m, fun _ => 0, ρ⟩ fun r => ∀ c : Dev nD,
      r.2.mem ((c : Thread nD τ).loc main_v0_0) = res5 m c
      ∧ r.2.mem ((c : Thread nD τ).loc main_v0_1) = res6 m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final5 m c), (h c).2.1.trans (final6 m c), (h c).2.2⟩) (Value.run_blocks m ρ)

end Cert.Dil1Ideal.Own

end
-- ==== Proof.Dil1Ref.lean ====
/-
  The dilated attention's reference at dilation 1: its two results, at the ideal values, as the attention and its
  statistics of the argument arrays.
-/
module

public import proofs.«01_k».proof.Proof.Dil1Kernel
public import proofs.«01_k».proof.Proof.Gen.Ref1Ideal.Read

@[expose] public section

noncomputable section

namespace Cert.Ref1Ideal.Own

open Idealize.ShloMosaic Idealize.ShloMosaic.TcCoe Idealize.SL.Sem
open Cert.Ref1Ideal Cert.Ref1Ideal.Gen Cert.Ref1Ideal.Read Cert.Dil

/-! ## The mask and the token numbers -/

/-- The mask of token `t` and distance `m`. -/
theorem mask_at (t : Fin 8192) (m : Fin 129) :
    val_main_v16 (F := Ideal) (ix2 t m) = if 1 * m.val ≤ t.val then 1#1 else 0#1 := by
  have h : val_main_v16 (F := Ideal) (ix2 t m)
      = IntOp.cmpi .sge (IntOp.subi (BitVec.ofNat 32 t.val) (IntOp.muli (BitVec.ofNat 32 1) (BitVec.ofNat 32 m.val))) 0#32 := by
    simp only [val_main_v16_apply, val_main_v14_apply, val_main_v12_apply, val_main_v13_apply, val_main_v7_apply, val_main_v6_apply,
      val_main_v11_apply, val_main_v10_apply, val_main_v9_apply, val_main_v8_apply, val_main_v15_apply, val_main_c_apply, val_main_c_0_apply]
    rfl
  rw [h, stride_word]
  exact back_mask t.isLt (by omega)

/-- The token number the keys' gather reads. -/
theorem key_token (t : Fin 8192) (m : Fin 129) (h : 1 * m.val ≤ t.val) :
    (val_main_v24 (F := Ideal) (ix3 t m 0)).toInt.toNat = t.val - 1 * m.val := by
  rw [← back_token h t.isLt, ← stride_word]
  simp only [val_main_v24_apply, val_main_v23_apply, val_main_v22_apply, val_main_v21_apply, val_main_v20_apply, val_main_v19_apply,
    val_main_v18_apply, val_main_v17_apply, val_main_v14_apply, val_main_v12_apply, val_main_v13_apply, val_main_v7_apply,
    val_main_v6_apply, val_main_v11_apply, val_main_v10_apply, val_main_v9_apply, val_main_v8_apply, val_main_c_apply,
    val_main_c_1_apply, val_main_c_2_apply, val_main_c_3_apply]
  rfl

/-- The token number the values' gather reads. -/
theorem value_token (t : Fin 8192) (m : Fin 129) (h : 1 * m.val ≤ t.val) :
    (val_main_v31 (F := Ideal) (ix3 t m 0)).toInt.toNat = t.val - 1 * m.val := by
  rw [← back_token h t.isLt, ← stride_word]
  simp only [val_main_v31_apply, val_main_v30_apply, val_main_v29_apply, val_main_v28_apply, val_main_v27_apply, val_main_v26_apply,
    val_main_v18_apply, val_main_v17_apply, val_main_v14_apply, val_main_v12_apply, val_main_v13_apply, val_main_v7_apply,
    val_main_v6_apply, val_main_v11_apply, val_main_v10_apply, val_main_v9_apply, val_main_v8_apply, val_main_c_apply,
    val_main_c_1_apply, val_main_c_4_apply, val_main_c_5_apply]
  rfl

/-! ## The rows -/

variable (x0 : (⟨S16384x512, .bf16⟩ : BufTy).Contents (Elt Ideal)) (x1 : (⟨S16384x1024, .f32⟩ : BufTy).Contents (Elt Ideal))

/-- The queries by batch, token, head and component. -/
theorem query_at (b : Fin 2) (t : Fin 8192) (h : Fin 8) (d : Fin 64) :
    val_main_v33 (F := Ideal) x0 (ix4 b t h d) = at2 x0 (b.val * 8192 + t.val) (h.val * 64 + d.val) := by
  rw [val_main_v33_apply, val_main_v0_apply]
  refine at2_of x0 (idx_main_v0 (ix4 b t h d)) _ _ ?_ ?_
  · show (((b.val * 8192 + t.val) * 8 + h.val) * 64 + d.val) / 512 = b.val * 8192 + t.val
    omega
  · show (((b.val * 8192 + t.val) * 8 + h.val) * 64 + d.val) % 512 = h.val * 64 + d.val
    omega

/-- The keys by batch, token, head and component. -/
theorem key_at (b : Fin 2) (t : Fin 8192) (h : Fin 8) (d : Fin 64) :
    val_main_v3 (F := Ideal) x1 (ix4 b t h d) = at2 x1 (b.val * 8192 + t.val) (h.val * 64 + d.val) := by
  rw [val_main_v3_apply, val_main_v2_apply, val_main_v1_apply]
  have e : idx_main_v3 (ix4 b t h d) = ix5 b t 0 h d := funext fun a => Fin.ext (by
    match a with
    | ⟨0, _⟩ => show (((b.val * 8192 + t.val) * 8 + h.val) * 64 + d.val) / 4194304 = b.val; omega
    | ⟨1, _⟩ => show (((b.val * 8192 + t.val) * 8 + h.val) * 64 + d.val) / 512 % 8192 = t.val; omega
    | ⟨2, _⟩ => rfl
    | ⟨3, _⟩ => show (((b.val * 8192 + t.val) * 8 + h.val) * 64 + d.val) / 64 % 8 = h.val; omega
    | ⟨4, _⟩ => show (((b.val * 8192 + t.val) * 8 + h.val) * 64 + d.val) % 64 = d.val; omega)
  rw [e]
  refine at2_of x1 (idx_main_v1 (idx_main_v2 (ix5 b t 0 h d))) _ _ ?_ ?_
  · show ((((b.val * 8192 + t.val) * 2 + 0) * 8 + h.val) * 64 + d.val) / 1024 = b.val * 8192 + t.val
    omega
  · show ((((b.val * 8192 + t.val) * 2 + 0) * 8 + h.val) * 64 + d.val) % 1024 = h.val * 64 + d.val
    omega

/-- The values by batch, token, head and component. -/
theorem value_at (b : Fin 2) (t : Fin 8192) (h : Fin 8) (d : Fin 64) :
    val_main_v5 (F := Ideal) x1 (ix4 b t h d) = at2 x1 (b.val * 8192 + t.val) (512 + (h.val * 64 + d.val)) := by
  rw [val_main_v5_apply, val_main_v4_apply, val_main_v1_apply]
  have e : idx_main_v5 (ix4 b t h d) = ix5 b t 0 h d := funext fun a => Fin.ext (by
    match a with
    | ⟨0, _⟩ => show (((b.val * 8192 + t.val) * 8 + h.val) * 64 + d.val) / 4194304 = b.val; omega
    | ⟨1, _⟩ => show (((b.val * 8192 + t.val) * 8 + h.val) * 64 + d.val) / 512 % 8192 = t.val; omega
    | ⟨2, _⟩ => rfl
    | ⟨3, _⟩ => show (((b.val * 8192 + t.val) * 8 + h.val) * 64 + d.val) / 64 % 8 = h.val; omega
    | ⟨4, _⟩ => show (((b.val * 8192 + t.val) * 8 + h.val) * 64 + d.val) % 64 = d.val; omega)
  rw [e]
  refine at2_of x1 (idx_main_v1 (idx_main_v4 (ix5 b t 0 h d))) _ _ ?_ ?_
  · show ((((b.val * 8192 + t.val) * 2 + (1 + 0)) * 8 + h.val) * 64 + d.val) / 1024 = b.val * 8192 + t.val
    omega
  · show ((((b.val * 8192 + t.val) * 2 + (1 + 0)) * 8 + h.val) * 64 + d.val) % 1024 = 512 + (h.val * 64 + d.val)
    omega

variable {r u : ℕ}

/-- The gathered key at a distance that is there. -/
theorem key_back (b : Fin 2) (t : Fin 8192) (m : Fin 129) (h : Fin 8) (d : Fin 64) (ht : t.val = u * 1 + r) (hm : m.val ≤ u) :
    val_main_v25 (F := Ideal) x1 (ix5 b t m h d) = rowsK 1 x1 b.val r (u - m.val) (h.val * 64 + d.val) := by
  have hb : 1 * m.val ≤ t.val := by omega
  refine (pick_apply _ (val_main_v3 x1) (val_main_v24 (F := Ideal)) b t m h d ⟨t.val - 1 * m.val, by omega⟩ (key_token t m hb)).trans ?_
  rw [key_at]
  unfold rowsK
  refine congrArg (fun z => at2 x1 z _) ?_
  show b.val * 8192 + (t.val - 1 * m.val) = _
  omega

/-- The gathered value at a distance that is there. -/
theorem value_back (b : Fin 2) (t : Fin 8192) (m : Fin 129) (h : Fin 8) (d : Fin 64) (ht : t.val = u * 1 + r) (hm : m.val ≤ u) :
    val_main_v32 (F := Ideal) x1 (ix5 b t m h d) = rowsV 1 x1 b.val r (u - m.val) (h.val * 64 + d.val) := by
  have hb : 1 * m.val ≤ t.val := by omega
  refine (pick_apply _ (val_main_v5 x1) (val_main_v31 (F := Ideal)) b t m h d ⟨t.val - 1 * m.val, by omega⟩ (value_token t m hb)).trans ?_
  rw [value_at]
  unfold rowsV
  refine congrArg (fun z => at2 x1 z _) ?_
  show b.val * 8192 + (t.val - 1 * m.val) = _
  omega

/-! ## The scores, their maximum and the weights -/

/-- The queries of head `h` at row `u`. -/
abbrev qs (b r u h : ℕ) : ℕ → EReal := fun d => rowsQ 1 x0 b r u (h * 64 + d)

/-- The keys of head `h` before row `u`. -/
abbrev ks (b r u h : ℕ) : ℕ → ℕ → EReal := fun m d => rowsK 1 x1 b r (u - m) (h * 64 + d)

/-- The values of head `h` before row `u`. -/
abbrev vs (b r u h : ℕ) : ℕ → ℕ → EReal := fun m d => rowsV 1 x1 b r (u - m) (h * 64 + d)

/-- The score at a distance that is there. -/
theorem score_at (b : Fin 2) (t : Fin 8192) (h : Fin 8) (m : Fin 129) (ht : t.val = u * 1 + r) (hm : m.val ≤ u) :
    val_main_v34 (F := Ideal) x0 x1 (ix4 b t h m) = score (qs x0 b r u h) (ks x1 b r u h) m.val := by
  rw [val_main_v34_apply]
  unfold score
  refine Finset.sum_congr rfl fun d _ => ?_
  have el : lidx_main_v34 (ix4 b t h m) d = ix4 b t h d := funext fun a => by
    match a with | ⟨0, _⟩ => rfl | ⟨1, _⟩ => rfl | ⟨2, _⟩ => rfl | ⟨3, _⟩ => rfl
  have er : ridx_main_v34 (ix4 b t h m) d = ix5 b t m h d := funext fun a => by
    match a with | ⟨0, _⟩ => rfl | ⟨1, _⟩ => rfl | ⟨2, _⟩ => rfl | ⟨3, _⟩ => rfl | ⟨4, _⟩ => rfl
  rw [el, er, query_at, key_back x1 b t m h d ht hm]
  refine congrArg (· * _) ?_
  show _ = at2 x0 _ _
  refine congrArg (fun z => at2 x0 z _) ?_
  omega

/-- A distance is there when its row is. -/
theorem there {t m : ℕ} (ht : t = u * 1 + r) (hr : r < 1) : 1 * m ≤ t ↔ m ≤ u := by omega

/-- The masked score. -/
theorem mscore_at (b : Fin 2) (t : Fin 8192) (h : Fin 8) (m : Fin 129) (ht : t.val = u * 1 + r) (hr : r < 1) :
    val_main_v36 (F := Ideal) x0 x1 (ix4 b t h m) = mscore (qs x0 b r u h) (ks x1 b r u h) u m.val := by
  rw [val_main_v36_apply, val_main_call0_v1_apply, val_main_v35_apply, val_main_call0_v2_apply, val_main_call0_v0_apply, val_main_cst_apply]
  have e : idx_main_v35 (idx_main_call0_v1 (ix4 b t h m)) = ix2 t m := funext fun a => by
    match a with | ⟨0, _⟩ => rfl | ⟨1, _⟩ => rfl
  rw [e, mask_at]
  unfold mscore
  by_cases hm : m.val ≤ u
  · rw [if_pos hm, if_pos ((there ht hr).mpr hm), ← score_at x0 x1 b t h m ht hm]; rfl
  · rw [if_neg hm, if_neg (fun h' => hm ((there ht hr).mp h'))]; exact ofBits_negInf

/-- The largest masked score. -/
theorem smax_at (b : Fin 2) (t : Fin 8192) (h : Fin 8) (ht : t.val = u * 1 + r) (hr : r < 1) :
    val_main_v37 (F := Ideal) x0 x1 (ix3 b t h) = smax (qs x0 b r u h) (ks x1 b r u h) u := by
  refine (lastMax_apply _ _ _ _ ofBits_negInf b t h).trans ?_
  unfold smax
  exact congrArg (fun f => Finset.fold max ⊥ f Finset.univ) (funext fun m => mscore_at x0 x1 b t h m ht hr)

/-- The weight. -/
theorem weight_at (b : Fin 2) (t : Fin 8192) (h : Fin 8) (m : Fin 129) (ht : t.val = u * 1 + r) (hr : r < 1) :
    val_main_v42 (F := Ideal) x0 x1 (ix4 b t h m) = weight (qs x0 b r u h) (ks x1 b r u h) u m.val := by
  rw [val_main_v42_apply, val_main_call1_v1_apply, val_main_v35_apply, val_main_call1_v2_apply, val_main_call1_v0_apply, val_main_cst_7_apply,
    val_main_v41_apply, val_main_v40_apply, val_main_v39_apply, val_main_v38_apply]
  have e : idx_main_v35 (idx_main_call1_v1 (ix4 b t h m)) = ix2 t m := funext fun a => by
    match a with | ⟨0, _⟩ => rfl | ⟨1, _⟩ => rfl
  have e' : idx_main_v38 (idx_main_v39 (ix4 b t h m)) = ix3 b t h := funext fun a => by
    match a with | ⟨0, _⟩ => rfl | ⟨1, _⟩ => rfl | ⟨2, _⟩ => rfl
  rw [e, e', mask_at, smax_at x0 x1 b t h ht hr, mscore_at x0 x1 b t h m ht hr]
  unfold weight
  by_cases hm : m.val ≤ u
  · rw [if_pos hm, if_pos ((there ht hr).mpr hm)]; unfold mscore; rw [if_pos hm]; rfl
  · rw [if_neg hm, if_neg (fun h' => hm ((there ht hr).mp h'))]; exact Ideal.ofBits_zero_f32

/-- The sum of the weights. -/
theorem denom_at (b : Fin 2) (t : Fin 8192) (h : Fin 8) (ht : t.val = u * 1 + r) (hr : r < 1) :
    val_main_v43 (F := Ideal) x0 x1 (ix3 b t h) = denom (qs x0 b r u h) (ks x1 b r u h) u := by
  rw [val_main_v43_apply, val_main_cst_8_apply]
  have z : (FloatOps.ofBits .f32 0x00000000#32 : Ideal .f32) = 0 := Ideal.ofBits_zero_f32
  rw [z, zero_add]
  unfold denom
  refine Finset.sum_congr rfl fun m _ => ?_
  have e : idx_main_v43 (ix3 b t h) m = ix4 b t h m := funext fun a => by
    match a with | ⟨0, _⟩ => rfl | ⟨1, _⟩ => rfl | ⟨2, _⟩ => rfl | ⟨3, _⟩ => rfl
  rw [e, weight_at x0 x1 b t h m ht hr]

/-- The weighted sum of the values. -/
theorem mix_at (b : Fin 2) (t : Fin 8192) (h : Fin 8) (d : Fin 64) (ht : t.val = u * 1 + r) (hr : r < 1) :
    val_main_v45 (F := Ideal) x0 x1 (ix4 b t h d) = mix (qs x0 b r u h) (ks x1 b r u h) (vs x1 b r u h) u d.val := by
  rw [val_main_v45_apply]
  unfold mix
  refine Finset.sum_congr rfl fun m _ => ?_
  have el : lidx_main_v45 (ix4 b t h d) m = ix4 b t h m := funext fun a => by
    match a with | ⟨0, _⟩ => rfl | ⟨1, _⟩ => rfl | ⟨2, _⟩ => rfl | ⟨3, _⟩ => rfl
  have er : ridx_main_v45 (ix4 b t h d) m = ix5 b t m h d := funext fun a => by
    match a with | ⟨0, _⟩ => rfl | ⟨1, _⟩ => rfl | ⟨2, _⟩ => rfl | ⟨3, _⟩ => rfl | ⟨4, _⟩ => rfl
  rw [el, er, weight_at x0 x1 b t h m ht hr]
  by_cases hm : m.val ≤ u
  · rw [value_back x1 b t m h d ht hm]
  · have : weight (qs x0 b r u h) (ks x1 b r u h) u m.val = 0 := by unfold weight; rw [if_neg hm]
    rw [this, zero_mul, zero_mul]

/-! ## The results -/

/-- The attention's result. -/
theorem attn_at (i : S16384x512.Idx) : val_main_v50 (F := Ideal) x0 x1 i = attnRes 1 x0 x1 (i 0).val (i 1).val := by
  have h0 : (i 0).val < 16384 := (i 0).isLt
  have h1 : (i 1).val < 512 := (i 1).isLt
  generalize hR : (i 0).val = R at h0
  generalize hC : (i 1).val = C at h1
  have e : idx_main_v50 i = ix4 ⟨R / 8192, by omega⟩ ⟨R % 8192 * 1 + C / 512, by omega⟩ ⟨C % 512 / 64, by omega⟩ ⟨C % 64, by omega⟩ :=
    funext fun a => Fin.ext (by
      match a with
      | ⟨0, _⟩ => show ((i 0).val * 512 + (i 1).val) / 4194304 = R / 8192; rw [hR, hC]; omega
      | ⟨1, _⟩ => show ((i 0).val * 512 + (i 1).val) / 512 % 8192 = R % 8192 * 1 + C / 512; rw [hR, hC]; omega
      | ⟨2, _⟩ => show ((i 0).val * 512 + (i 1).val) / 64 % 8 = C % 512 / 64; rw [hR, hC]; omega
      | ⟨3, _⟩ => show ((i 0).val * 512 + (i 1).val) % 64 = C % 64; rw [hR, hC]; omega)
  rw [val_main_v50_apply, e, mix_at x0 x1 _ _ _ _ (u := R % 8192) (r := C / 512) rfl (by omega)]
  unfold attnRes attnAt
  have hd : C % 512 % 64 = C % 64 := by omega
  rw [hd]

/-- The statistics' result. -/
theorem stat_at (i : S16384x128.Idx) : val_main_v51 (F := Ideal) x0 x1 i = statRes 1 x0 x1 (i 0).val (i 1).val := by
  have h0 : (i 0).val < 16384 := (i 0).isLt
  have h1 : (i 1).val < 128 := (i 1).isLt
  generalize hR : (i 0).val = R at h0
  generalize hC : (i 1).val = C at h1
  have e : idx_main_v51 i = ix3 ⟨R / 8192, by omega⟩ ⟨R % 8192 * 1 + C / 128, by omega⟩ ⟨C % 128, by omega⟩ :=
    funext fun a => Fin.ext (by
      match a with
      | ⟨0, _⟩ => show ((i 0).val * 128 + (i 1).val) / 1048576 = R / 8192; rw [hR, hC]; omega
      | ⟨1, _⟩ => show ((i 0).val * 128 + (i 1).val) / 128 % 8192 = R % 8192 * 1 + C / 128; rw [hR, hC]; omega
      | ⟨2, _⟩ => show ((i 0).val * 128 + (i 1).val) % 128 = C % 128; rw [hR, hC]; omega)
  rw [val_main_v51_apply, e]
  refine (join_apply _ _ _ _ _ _ _).trans ?_
  unfold statRes statAt
  dsimp only
  by_cases h8 : C % 128 < 8
  · rw [dif_pos h8, if_pos h8, val_main_v46_apply, val_main_v38_apply]
    have e' : ∀ (b : Fin 2) (t : Fin 8192) (h : Fin 8), idx_main_v38 (idx_main_v46 (ix3 b t h)) = ix3 b t h := fun b t h =>
      funext fun a => Fin.ext (by
        match a with
        | ⟨0, _⟩ => show ((b.val * 8192 + t.val) * 8 + h.val) / 65536 = b.val; omega
        | ⟨1, _⟩ => show ((b.val * 8192 + t.val) * 8 + h.val) / 8 % 8192 = t.val; omega
        | ⟨2, _⟩ => show ((b.val * 8192 + t.val) * 8 + h.val) / 1 % 8 = h.val; omega)
    rw [e', smax_at x0 x1 _ _ _ (u := R % 8192) (r := C / 128) rfl (by omega)]
    rfl
  · rw [dif_neg h8, if_neg h8]
    by_cases h16 : C % 128 - 8 < 8
    · rw [dif_pos h16, if_pos (by omega), val_main_v47_apply, val_main_v44_apply]
      have e' : ∀ (b : Fin 2) (t : Fin 8192) (h : Fin 8), idx_main_v44 (idx_main_v47 (ix3 b t h)) = ix3 b t h := fun b t h =>
        funext fun a => Fin.ext (by
          match a with
          | ⟨0, _⟩ => show ((b.val * 8192 + t.val) * 8 + h.val) / 65536 = b.val; omega
          | ⟨1, _⟩ => show ((b.val * 8192 + t.val) * 8 + h.val) / 8 % 8192 = t.val; omega
          | ⟨2, _⟩ => show ((b.val * 8192 + t.val) * 8 + h.val) / 1 % 8 = h.val; omega)
      rw [e', denom_at x0 x1 _ _ _ (u := R % 8192) (r := C / 128) rfl (by omega)]
      rfl
    · rw [dif_neg h16, if_neg (by omega), val_main_v48_apply, val_main_cst_9_apply]
      exact Ideal.ofBits_zero_f32

/-- The run: the two results as the attention and its statistics, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v50) = (fun k => attnRes 1 (m ((c.tc : Thread nD τ).loc main_arg0)) (m ((c.tc : Thread nD τ).loc main_arg1)) (k 0).val (k 1).val)
      ∧ r.2.mem ((c.tc : Thread nD τ).loc main_v51) = (fun k => statRes 1 (m ((c.tc : Thread nD τ).loc main_arg0)) (m ((c.tc : Thread nD τ).loc main_arg1)) (k 0).val (k 1).val)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans ((val_main_v50_eq m c).trans (funext fun k => attn_at _ _ k)),
    (h c).2.1.trans ((val_main_v51_eq m c).trans (funext fun k => stat_at _ _ k)), (h c).2.2⟩) (Value.run m ρ)

end Cert.Ref1Ideal.Own

end
-- ==== Proof.PostSKernel.lean ====
/-
  The block that ends a layer, for the sampled tokens: what its result array holds after the run, at the ideal values, row by row as
  the mathematics of the argument arrays.
-/
module

public import proofs.«01_k».proof.Proof.Dil1Ref
public import proofs.«01_k».proof.Proof.Gen.PostSIdeal.Value

@[expose] public section

set_option maxRecDepth 16384

noncomputable section

/-- The block behind one mix for one row of `n`: project, channel block, gated embedding. -/
def Cert.Post.plainRow {n : ℕ} (h : (⟨2, ![n, 1024]⟩ : Idealize.ShloMosaic.Shape).Idx → EReal)
    (o : (⟨2, ![n, 512]⟩ : Idealize.ShloMosaic.Shape).Idx → EReal) (wo : (⟨2, ![512, 1024]⟩ : Idealize.ShloMosaic.Shape).Idx → EReal)
    (gm : (⟨2, ![1, 1024]⟩ : Idealize.ShloMosaic.Shape).Idx → EReal) (w1 : (⟨2, ![1024, 4096]⟩ : Idealize.ShloMosaic.Shape).Idx → EReal)
    (w2 : (⟨2, ![4096, 1024]⟩ : Idealize.ShloMosaic.Shape).Idx → EReal) (gp : (⟨2, ![1, 1024]⟩ : Idealize.ShloMosaic.Shape).Idx → EReal)
    (wg : (⟨2, ![1024, 1024]⟩ : Idealize.ShloMosaic.Shape).Idx → EReal) (p : (⟨2, ![n, 256]⟩ : Idealize.ShloMosaic.Shape).Idx → EReal)
    (wp : (⟨2, ![256, 1024]⟩ : Idealize.ShloMosaic.Shape).Idx → EReal) (r : Fin n) : Fin 1024 → EReal :=
  Cert.Post.tail (Cert.Post.mixed (Cert.Post.rowOf h r) (Cert.Post.rowOf o r) (Cert.Post.matOf wo)) (Cert.Post.rowOf gm 0)
    (Cert.Post.matOf w1) (Cert.Post.matOf w2) (Cert.Post.rowOf gp 0) (Cert.Post.matOf wg) (Cert.Post.rowOf p r) (Cert.Post.matOf wp)

namespace Cert.PostSIdeal.Own

open Idealize.ShloMosaic Idealize.ShloMosaic.TcCoe Idealize.SL.Sem
open Idealize.ShloMosaic.Pipeline (Dat)
open Cert.PostSIdeal Cert.PostSIdeal.Gen Cert.Post

/-- The offset of a whole block. -/
theorem hz : (![0, 0] : Fin 2 → Nat) = fun _ => 0 := funext fun a => by fin_cases a <;> rfl

variable (x0 : Vec Ideal S256x1024 .f32) (x1 : Vec Ideal S256x512 .f32) (x2 : Vec Ideal S512x1024 .bf16) (x3 : Vec Ideal S1x1024 .f32) (x4 : Vec Ideal S1024x4096 .bf16) (x5 : Vec Ideal S4096x1024 .bf16) (x6 : Vec Ideal S1x1024 .f32) (x7 : Vec Ideal S1024x1024 .bf16) (x8 : Vec Ideal S256x256 .f32) (x9 : Vec Ideal S256x1024 .bf16)

/-- A chunk of the first weights and one of the second. -/
def upW (o : ℕ) (h : ∀ a, (![0, o] : Fin 2 → Nat) a + S1024x1024.size a ≤ S1024x4096.size a) : FVec Ideal S1024x1024 .bf16 :=
  View.ld x4 (Rect.unit (s := S1024x4096) ![0, o] S1024x1024.size h)
def downW (o : ℕ) (h : ∀ a, (![o, 0] : Fin 2 → Nat) a + S1024x1024.size a ≤ S4096x1024.size a) : FVec Ideal S1024x1024 .bf16 :=
  View.ld x5 (Rect.unit (s := S4096x1024) ![o, 0] S1024x1024.size h)

/-- The residual with the projected mix. -/
def resid : FVec Ideal S256x1024 .f32 := mixedOp x0 (truncf .bf16 x1 bitsLt_bf16_f32) x2

/-- The staged block the body leaves. -/
def blockVal : FVec Ideal S256x1024 .f32 :=
  gatedOp (channelOp (resid x0 x1 x2) (rmsOp (resid x0 x1 x2) x3)
    (upW x4 0 (by decide)) (upW x4 1024 (by decide)) (upW x4 2048 (by decide)) (upW x4 3072 (by decide))
    (downW x5 0 (by decide)) (downW x5 1024 (by decide)) (downW x5 2048 (by decide)) (downW x5 3072 (by decide))) x6 x7 x8 x9

/-- The printed residual is the mixed one. -/
theorem mixed_eq (y : Vec Ideal S256x512 .f32) (w : Vec Ideal S512x1024 .bf16) (h : Vec Ideal S256x1024 .f32) :
    k0_pay2 y w h = mixedOp h (truncf .bf16 y bitsLt_bf16_f32) w := rfl

/-- The printed norm is that of the mixed residual. -/
theorem norm_eq (y : Vec Ideal S256x512 .f32) (w : Vec Ideal S512x1024 .bf16) (h : Vec Ideal S256x1024 .f32) (g : Vec Ideal S1x1024 .f32) :
    k0_pay3 y w h g = rmsOp (mixedOp h (truncf .bf16 y bitsLt_bf16_f32) w) g := rfl

/-- The printed channel block is the four chunks'. -/
theorem channel_eq (y : Vec Ideal S256x512 .f32) (w : Vec Ideal S512x1024 .bf16) (h : Vec Ideal S256x1024 .f32) (g : Vec Ideal S1x1024 .f32)
    (w0 w1 w2 w3 v0 v1 v2 v3 : Vec Ideal S1024x1024 .bf16) :
    k0_pay6 (k0_pay2 y w h) (k0_pay3 y w h g) (k0_pay4 y w h g w0 v0) (k0_pay5 y w h g w1) v1 w2 v2 w3 v3
      = channelOp (k0_pay2 y w h) (k0_pay3 y w h g) w0 w1 w2 w3 v0 v1 v2 v3 := rfl

/-- The printed end is the gated embedding. -/
theorem end_eq (h5 : FVec Ideal S256x1024 .f32) (n : FVec Ideal S256x1024 .bf16) (a b : FVec Ideal S256x1024 .f32)
    (v1 w2 v2 w3 v3 : Vec Ideal S1024x1024 .bf16) (g : Vec Ideal S1x1024 .f32) (wg : Vec Ideal S1024x1024 .bf16) (p : Vec Ideal S256x256 .f32)
    (wp : Vec Ideal S256x1024 .bf16) :
    k0_pay1 (k0_pay6 h5 n a b v1 w2 v2 w3 v3) (k0_pay7 h5 n a b v1 w2 v2 w3 v3 g) wg p wp
      = gatedOp (k0_pay6 h5 n a b v1 w2 v2 w3 v3) g wg p wp := rfl

/-- What the run leaves in the output's staging buffer is that block. -/
theorem out_eq : out0_10 x0 x1 x2 x3 x4 x5 x6 x7 x8 x9 = blockVal x0 x1 x2 x3 x4 x5 x6 x7 x8 x9 := by
  unfold out0_10
  rw [View.canon_unit_zero (S := S256x1024) hz, end_eq]
  unfold k0_pay8 k0_pay9 k0_pay10 k0_pay11
  rw [channel_eq, norm_eq, mixed_eq]
  simp only [View.ld_unit_zero (S := S256x1024) hz, View.ld_unit_zero (S := S256x512) hz, View.ld_unit_zero (S := S512x1024) hz, View.ld_unit_zero (S := S1x1024) hz,
    View.ld_unit_zero (S := S1024x1024) hz, View.ld_unit_zero (S := S256x256) hz]
  rfl

/-- A chunk of the first weights, read. -/
theorem upW_at (o : ℕ) (h) (ho : o + 1024 ≤ 4096) (k f : Fin 1024) : upW x4 o h (ix2 k f) = matOf x4 k (lane o ho f) := by
  refine congrArg x4 (funext fun z => Fin.ext ?_)
  match z with
  | ⟨0, _⟩ => show 0 + 1 * k.val = k.val; omega
  | ⟨1, _⟩ => show o + 1 * f.val = o + f.val; omega

/-- A chunk of the second weights, read. -/
theorem downW_at (o : ℕ) (h) (ho : o + 1024 ≤ 4096) (f k : Fin 1024) : downW x5 o h (ix2 f k) = matOf x5 (lane o ho f) k := by
  refine congrArg x5 (funext fun z => Fin.ext ?_)
  match z with
  | ⟨0, _⟩ => show o + 1 * f.val = o + f.val; omega
  | ⟨1, _⟩ => show 0 + 1 * k.val = k.val; omega

/-- The residual with the projected mix, read. -/
theorem resid_at (a : Fin 256) (j : Fin 1024) : resid x0 x1 x2 (ix2 a j) = mixed (rowOf x0 a) (rowOf x1 a) (matOf x2) j := by
  unfold resid
  rw [mixedOp_apply]
  rfl

/-- The staged block is the rows of the block. -/
theorem block_at (a : Fin 256) (j : Fin 1024) : blockVal x0 x1 x2 x3 x4 x5 x6 x7 x8 x9 (ix2 a j) = plainRow x0 x1 x2 x3 x4 x5 x6 x7 x8 x9 a j := by
  unfold blockVal plainRow tail
  rw [gatedOp_apply]
  congr 1
  refine funext fun k => ?_
  refine channelOp_apply _ _ _ _ _ _ _ _ _ _ a k _ (rowOf x3 0) (matOf x4) (matOf x5) (fun k => resid_at x0 x1 x2 a k) (fun k => ?_)
    (upW_at x4 _ _ _) (upW_at x4 _ _ _) (upW_at x4 _ _ _) (upW_at x4 _ _ _) (downW_at x5 _ _ _) (downW_at x5 _ _ _) (downW_at x5 _ _ _) (downW_at x5 _ _ _)
  rw [rmsOp_apply]
  simp only [resid_at]

/-! ## The result array -/

variable (m : (ℓ : Loc nD τ sig) → Buf (Elt Ideal) ℓ) (ρ : Dev nD → PrngReg) (c : Dev nD)

/-- The result: every row of the launched arrays through the block. -/
def res : S512x1024.Idx → EReal := fun k =>
  plainRow (n := 512) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (k 0) (k 1)

/-- Window 0's blocks are bands of 256 rows. -/
theorem index0 : ∀ t : Fin cfg0.N, win0_0.index t 0 = t.val ∧ win0_0.index t 1 = 0 :=
  by change ∀ t : Fin grid0.N, _; decide +kernel

/-- Window 1's blocks are bands of 256 rows. -/
theorem index1 : ∀ t : Fin cfg0.N, win0_1.index t 0 = t.val ∧ win0_1.index t 1 = 0 :=
  by change ∀ t : Fin grid0.N, _; decide +kernel

/-- Window 2 is its whole array. -/
theorem index2 : ∀ t : Fin cfg0.N, win0_2.index t 0 = 0 ∧ win0_2.index t 1 = 0 :=
  by change ∀ t : Fin grid0.N, _; decide +kernel

/-- Window 3 is its whole array. -/
theorem index3 : ∀ t : Fin cfg0.N, win0_3.index t 0 = 0 ∧ win0_3.index t 1 = 0 :=
  by change ∀ t : Fin grid0.N, _; decide +kernel

/-- Window 4 is its whole array. -/
theorem index4 : ∀ t : Fin cfg0.N, win0_4.index t 0 = 0 ∧ win0_4.index t 1 = 0 :=
  by change ∀ t : Fin grid0.N, _; decide +kernel

/-- Window 5 is its whole array. -/
theorem index5 : ∀ t : Fin cfg0.N, win0_5.index t 0 = 0 ∧ win0_5.index t 1 = 0 :=
  by change ∀ t : Fin grid0.N, _; decide +kernel

/-- Window 6 is its whole array. -/
theorem index6 : ∀ t : Fin cfg0.N, win0_6.index t 0 = 0 ∧ win0_6.index t 1 = 0 :=
  by change ∀ t : Fin grid0.N, _; decide +kernel

/-- Window 7 is its whole array. -/
theorem index7 : ∀ t : Fin cfg0.N, win0_7.index t 0 = 0 ∧ win0_7.index t 1 = 0 :=
  by change ∀ t : Fin grid0.N, _; decide +kernel

/-- Window 8's blocks are bands of 256 rows. -/
theorem index8 : ∀ t : Fin cfg0.N, win0_8.index t 0 = t.val ∧ win0_8.index t 1 = 0 :=
  by change ∀ t : Fin grid0.N, _; decide +kernel

/-- Window 9 is its whole array. -/
theorem index9 : ∀ t : Fin cfg0.N, win0_9.index t 0 = 0 ∧ win0_9.index t 1 = 0 :=
  by change ∀ t : Fin grid0.N, _; decide +kernel

/-- Window 10's blocks are bands of 256 rows. -/
theorem index10 : ∀ t : Fin cfg0.N, win0_10.index t 0 = t.val ∧ win0_10.index t 1 = 0 :=
  by change ∀ t : Fin grid0.N, _; decide +kernel

/-- The row of the array that row `a` of point `t`'s band is. -/
def rowAt (t : Fin cfg0.N) (a : Fin 256) : Fin 512 := ⟨t.val * 256 + a.val, by
  have h : t.val < 2 := lt_of_lt_of_eq t.isLt N_0
  omega⟩

/-- Window 0's block, read. -/
theorem blk0 (t : Fin cfg0.N) (a : Fin 256) (l : Fin 1024) :
    iblk m c 0 t (ix2 a l) = (m ((c : Thread nD τ).loc main_arg0) : S512x1024.Idx → EReal) (ix2 (rowAt t a) l) := by
  unfold iblk
  rw [View.read_apply]
  refine congrArg (m ((c : Thread nD τ).loc main_arg0)) (funext fun z => Fin.ext ?_)
  match z with
  | ⟨0, _⟩ =>
    show win0_0.index t 0 * 256 + 1 * a.val = t.val * 256 + a.val
    rw [(index0 t).1]; omega
  | ⟨1, _⟩ =>
    show win0_0.index t 1 * 1024 + 1 * l.val = l.val
    rw [(index0 t).2]; omega

/-- Window 1's block, read. -/
theorem blk1 (t : Fin cfg0.N) (a : Fin 256) (l : Fin 512) :
    iblk m c 1 t (ix2 a l) = (m ((c : Thread nD τ).loc main_arg1) : S512x512.Idx → EReal) (ix2 (rowAt t a) l) := by
  unfold iblk
  rw [View.read_apply]
  refine congrArg (m ((c : Thread nD τ).loc main_arg1)) (funext fun z => Fin.ext ?_)
  match z with
  | ⟨0, _⟩ =>
    show win0_1.index t 0 * 256 + 1 * a.val = t.val * 256 + a.val
    rw [(index1 t).1]; omega
  | ⟨1, _⟩ =>
    show win0_1.index t 1 * 512 + 1 * l.val = l.val
    rw [(index1 t).2]; omega

/-- Window 2's block, read. -/
theorem blk2 (t : Fin cfg0.N) (a : Fin 512) (l : Fin 1024) :
    iblk m c 2 t (ix2 a l) = (m ((c : Thread nD τ).loc main_arg2) : S512x1024.Idx → EReal) (ix2 a l) := by
  unfold iblk
  rw [View.read_apply]
  refine congrArg (m ((c : Thread nD τ).loc main_arg2)) (funext fun z => Fin.ext ?_)
  match z with
  | ⟨0, _⟩ =>
    show win0_2.index t 0 * 512 + 1 * a.val = a.val
    rw [(index2 t).1]; omega
  | ⟨1, _⟩ =>
    show win0_2.index t 1 * 1024 + 1 * l.val = l.val
    rw [(index2 t).2]; omega

/-- Window 3's block, read. -/
theorem blk3 (t : Fin cfg0.N) (a : Fin 1) (l : Fin 1024) :
    iblk m c 3 t (ix2 a l) = (m ((c : Thread nD τ).loc main_arg3) : S1x1024.Idx → EReal) (ix2 a l) := by
  unfold iblk
  rw [View.read_apply]
  refine congrArg (m ((c : Thread nD τ).loc main_arg3)) (funext fun z => Fin.ext ?_)
  match z with
  | ⟨0, _⟩ =>
    show win0_3.index t 0 * 1 + 1 * a.val = a.val
    rw [(index3 t).1]; omega
  | ⟨1, _⟩ =>
    show win0_3.index t 1 * 1024 + 1 * l.val = l.val
    rw [(index3 t).2]; omega

/-- Window 4's block, read. -/
theorem blk4 (t : Fin cfg0.N) (a : Fin 1024) (l : Fin 4096) :
    iblk m c 4 t (ix2 a l) = (m ((c : Thread nD τ).loc main_arg4) : S1024x4096.Idx → EReal) (ix2 a l) := by
  unfold iblk
  rw [View.read_apply]
  refine congrArg (m ((c : Thread nD τ).loc main_arg4)) (funext fun z => Fin.ext ?_)
  match z with
  | ⟨0, _⟩ =>
    show win0_4.index t 0 * 1024 + 1 * a.val = a.val
    rw [(index4 t).1]; omega
  | ⟨1, _⟩ =>
    show win0_4.index t 1 * 4096 + 1 * l.val = l.val
    rw [(index4 t).2]; omega

/-- Window 5's block, read. -/
theorem blk5 (t : Fin cfg0.N) (a : Fin 4096) (l : Fin 1024) :
    iblk m c 5 t (ix2 a l) = (m ((c : Thread nD τ).loc main_arg5) : S4096x1024.Idx → EReal) (ix2 a l) := by
  unfold iblk
  rw [View.read_apply]
  refine congrArg (m ((c : Thread nD τ).loc main_arg5)) (funext fun z => Fin.ext ?_)
  match z with
  | ⟨0, _⟩ =>
    show win0_5.index t 0 * 4096 + 1 * a.val = a.val
    rw [(index5 t).1]; omega
  | ⟨1, _⟩ =>
    show win0_5.index t 1 * 1024 + 1 * l.val = l.val
    rw [(index5 t).2]; omega

/-- Window 6's block, read. -/
theorem blk6 (t : Fin cfg0.N) (a : Fin 1) (l : Fin 1024) :
    iblk m c 6 t (ix2 a l) = (m ((c : Thread nD τ).loc main_arg6) : S1x1024.Idx → EReal) (ix2 a l) := by
  unfold iblk
  rw [View.read_apply]
  refine congrArg (m ((c : Thread nD τ).loc main_arg6)) (funext fun z => Fin.ext ?_)
  match z with
  | ⟨0, _⟩ =>
    show win0_6.index t 0 * 1 + 1 * a.val = a.val
    rw [(index6 t).1]; omega
  | ⟨1, _⟩ =>
    show win0_6.index t 1 * 1024 + 1 * l.val = l.val
    rw [(index6 t).2]; omega

/-- Window 7's block, read. -/
theorem blk7 (t : Fin cfg0.N) (a : Fin 1024) (l : Fin 1024) :
    iblk m c 7 t (ix2 a l) = (m ((c : Thread nD τ).loc main_arg7) : S1024x1024.Idx → EReal) (ix2 a l) := by
  unfold iblk
  rw [View.read_apply]
  refine congrArg (m ((c : Thread nD τ).loc main_arg7)) (funext fun z => Fin.ext ?_)
  match z with
  | ⟨0, _⟩ =>
    show win0_7.index t 0 * 1024 + 1 * a.val = a.val
    rw [(index7 t).1]; omega
  | ⟨1, _⟩ =>
    show win0_7.index t 1 * 1024 + 1 * l.val = l.val
    rw [(index7 t).2]; omega

/-- Window 8's block, read. -/
theorem blk8 (t : Fin cfg0.N) (a : Fin 256) (l : Fin 256) :
    iblk m c 8 t (ix2 a l) = (m ((c : Thread nD τ).loc main_arg8) : S512x256.Idx → EReal) (ix2 (rowAt t a) l) := by
  unfold iblk
  rw [View.read_apply]
  refine congrArg (m ((c : Thread nD τ).loc main_arg8)) (funext fun z => Fin.ext ?_)
  match z with
  | ⟨0, _⟩ =>
    show win0_8.index t 0 * 256 + 1 * a.val = t.val * 256 + a.val
    rw [(index8 t).1]; omega
  | ⟨1, _⟩ =>
    show win0_8.index t 1 * 256 + 1 * l.val = l.val
    rw [(index8 t).2]; omega

/-- Window 9's block, read. -/
theorem blk9 (t : Fin cfg0.N) (a : Fin 256) (l : Fin 1024) :
    iblk m c 9 t (ix2 a l) = (m ((c : Thread nD τ).loc main_arg9) : S256x1024.Idx → EReal) (ix2 a l) := by
  unfold iblk
  rw [View.read_apply]
  refine congrArg (m ((c : Thread nD τ).loc main_arg9)) (funext fun z => Fin.ext ?_)
  match z with
  | ⟨0, _⟩ =>
    show win0_9.index t 0 * 256 + 1 * a.val = a.val
    rw [(index9 t).1]; omega
  | ⟨1, _⟩ =>
    show win0_9.index t 1 * 1024 + 1 * l.val = l.val
    rw [(index9 t).2]; omega

/-- A row of the staged blocks through the block is a row of the arrays through it. -/
theorem rows_eq (t : Fin cfg0.N) (a : Fin 256) (j : Fin 1024) :
    plainRow (n := 256) (iblk m c 0 t) (iblk m c 1 t) (iblk m c 2 t) (iblk m c 3 t) (iblk m c 4 t) (iblk m c 5 t) (iblk m c 6 t) (iblk m c 7 t) (iblk m c 8 t) (iblk m c 9 t) a j
      = plainRow (n := 512) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (rowAt t a) j := by
  unfold plainRow rowOf matOf
  simp only [blk0, blk1, blk2, blk3, blk4, blk5, blk6, blk7, blk8, blk9]

/-- What a grid point writes back is its band of the result. -/
theorem flushed_eq (t : Fin cfg0.N) : (dats m 0 c).flushed 10 t = ((cfg0.win 10).blk t).view.read (Elt Ideal) (res m c) := by
  rw [Value.flushed10]
  refine funext fun y => ?_
  rw [View.read_apply]
  refine ((congrFun (out_eq _ _ _ _ _ _ _ _ _ _) y).trans
    ((congrArg (blockVal _ _ _ _ _ _ _ _ _ _) (eq_ix2 (n0 := 256) (n1 := 1024) y)).trans (block_at _ _ _ _ _ _ _ _ _ _ (y 0) (y 1)))).trans ?_
  have ek : ((cfg0.win 10).blk t).view.emb y = ix2 (rowAt t (y 0)) (y 1) := funext fun z => Fin.ext (by
    match z with
    | ⟨0, _⟩ =>
      show win0_10.index t 0 * 256 + 1 * (y 0).val = t.val * 256 + (y 0).val
      rw [(index10 t).1]; omega
    | ⟨1, _⟩ =>
      show win0_10.index t 1 * 1024 + 1 * (y 1).val = (y 1).val
      rw [(index10 t).2]; omega)
  rw [ek]
  unfold res
  exact rows_eq m c t (y 0) (y 1)

/-- Every grid point writes its block back. -/
theorem flush : ∀ t : Fin cfg0.N, (cfg0.win 10).flush t = true := (by decide +kernel : ∀ t : Fin grid0.N, win0_10.flush t = true)

/-- The result array after the run. -/
theorem final : (dats m 0 c).arrAt 10 cfg0.N = res m c :=
  (dats m 0 c).arrAt_eq_of_cover 10 (res m c) (fun t _ => flushed_eq m c t) fun k => by
    have h0 : (k 0).val < 512 := (k 0).isLt
    have h1 : (k 1).val < 1024 := (k 1).isLt
    have hN : cfg0.N = 2 := N_0
    refine ⟨⟨(k 0).val / 256, by omega⟩, flush _, ?_⟩
    have hi := index10 ⟨(k 0).val / 256, by omega⟩
    generalize ht : (⟨(k 0).val / 256, by omega⟩ : Fin cfg0.N) = t at hi ⊢
    have hv : t.val = (k 0).val / 256 := by rw [← ht]
    rw [hv] at hi
    show k ∈ ((View.whole main_v0).slice (win0_10.rect t)).set
    rw [View.set_slice_whole, Rect.mem_set_unit]
    intro a
    match a with
    | ⟨0, _⟩ =>
      show win0_10.index t 0 * 256 ≤ (k 0).val ∧ (k 0).val < win0_10.index t 0 * 256 + 256
      rw [hi.1]; omega
    | ⟨1, _⟩ =>
      show win0_10.index t 1 * 1024 ≤ (k 1).val ∧ (k 1).val < win0_10.index t 1 * 1024 + 1024
      rw [hi.2]; omega

/-- The run: the result array, the arguments unchanged. -/
theorem run : θ_run defs (onTc (τ := τ) (main (F := Ideal))) ⟨m, fun _ => 0, ρ⟩ fun r => ∀ c : Dev nD,
      r.2.mem ((c : Thread nD τ).loc main_v0) = res m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun _ h c => ⟨(h c).1.trans (final m c), (h c).2⟩) (Value.run_blocks m ρ)

end Cert.PostSIdeal.Own

end
-- ==== Proof.PostSRef.lean ====
/-
  The reference of the block that ends a layer, for the sampled tokens: its result, at the ideal values, as the block of each row of
  the argument arrays.
-/
module

public import proofs.«01_k».proof.Proof.PostSKernel
public import proofs.«01_k».proof.Proof.Gen.RefPostSIdeal.Run
public import proofs.«01_k».proof.Proof.Gen.RefPostSIdeal.Read

@[expose] public section

noncomputable section

namespace Cert.RefPostSIdeal.Own

open Idealize.ShloMosaic Idealize.ShloMosaic.TcCoe Idealize.SL.Sem
open Cert.RefPostSIdeal Cert.RefPostSIdeal.Gen Cert.RefPostSIdeal.Read Cert.Post

variable (x0 : (⟨S512x1024, .f32⟩ : BufTy).Contents (Elt Ideal)) (x1 : (⟨S512x512, .f32⟩ : BufTy).Contents (Elt Ideal)) (x2 : (⟨S512x1024, .bf16⟩ : BufTy).Contents (Elt Ideal)) (x3 : (⟨S1x1024, .f32⟩ : BufTy).Contents (Elt Ideal)) (x4 : (⟨S1024x4096, .bf16⟩ : BufTy).Contents (Elt Ideal)) (x5 : (⟨S4096x1024, .bf16⟩ : BufTy).Contents (Elt Ideal)) (x6 : (⟨S1x1024, .f32⟩ : BufTy).Contents (Elt Ideal)) (x7 : (⟨S1024x1024, .bf16⟩ : BufTy).Contents (Elt Ideal)) (x8 : (⟨S512x256, .f32⟩ : BufTy).Contents (Elt Ideal)) (x9 : (⟨S256x1024, .bf16⟩ : BufTy).Contents (Elt Ideal))

/-! ## The block -/

/-- The left place product 1 reads. -/
theorem left1 (r : Fin 512) (j : Fin 1024) (k : Fin 512) : lidx_main_v1 (ix2 r j) k = ix2 r k :=
  funext fun a => by match a with | ⟨0, _⟩ => rfl | ⟨1, _⟩ => rfl

/-- The right place product 1 reads. -/
theorem right1 (r : Fin 512) (j : Fin 1024) (k : Fin 512) : ridx_main_v1 (ix2 r j) k = ix2 k j :=
  funext fun a => by match a with | ⟨0, _⟩ => rfl | ⟨1, _⟩ => rfl

/-- The left place product 22 reads. -/
theorem left22 (r : Fin 512) (j : Fin 4096) (k : Fin 1024) : lidx_main_v22 (ix2 r j) k = ix2 r k :=
  funext fun a => by match a with | ⟨0, _⟩ => rfl | ⟨1, _⟩ => rfl

/-- The right place product 22 reads. -/
theorem right22 (r : Fin 512) (j : Fin 4096) (k : Fin 1024) : ridx_main_v22 (ix2 r j) k = ix2 k j :=
  funext fun a => by match a with | ⟨0, _⟩ => rfl | ⟨1, _⟩ => rfl

/-- The left place product 25 reads. -/
theorem left25 (r : Fin 512) (j : Fin 1024) (k : Fin 4096) : lidx_main_v25 (ix2 r j) k = ix2 r k :=
  funext fun a => by match a with | ⟨0, _⟩ => rfl | ⟨1, _⟩ => rfl

/-- The right place product 25 reads. -/
theorem right25 (r : Fin 512) (j : Fin 1024) (k : Fin 4096) : ridx_main_v25 (ix2 r j) k = ix2 k j :=
  funext fun a => by match a with | ⟨0, _⟩ => rfl | ⟨1, _⟩ => rfl

/-- The left place product 40 reads. -/
theorem left40 (r : Fin 512) (j : Fin 1024) (k : Fin 1024) : lidx_main_v40 (ix2 r j) k = ix2 r k :=
  funext fun a => by match a with | ⟨0, _⟩ => rfl | ⟨1, _⟩ => rfl

/-- The right place product 40 reads. -/
theorem right40 (r : Fin 512) (j : Fin 1024) (k : Fin 1024) : ridx_main_v40 (ix2 r j) k = ix2 k j :=
  funext fun a => by match a with | ⟨0, _⟩ => rfl | ⟨1, _⟩ => rfl

/-- The left place product 47 reads. -/
theorem left47 (r : Fin 512) (j : Fin 1024) (k : Fin 256) : lidx_main_v47 (ix2 r j) k = ix2 r k :=
  funext fun a => by match a with | ⟨0, _⟩ => rfl | ⟨1, _⟩ => rfl

/-- The right place product 47 reads. -/
theorem right47 (r : Fin 512) (j : Fin 1024) (k : Fin 256) : ridx_main_v47 (ix2 r j) k = ix2 k j :=
  funext fun a => by match a with | ⟨0, _⟩ => rfl | ⟨1, _⟩ => rfl

/-- The residual with the projected mix. -/
theorem mixed_at (r : Fin 512) (j : Fin 1024) :
    val_main_v2 (F := Ideal) x0 x1 x2 (ix2 r j) = mixed (rowOf x0 r) (rowOf x1 r) (matOf x2) j := by
  rw [val_main_v2_apply, val_main_v1_apply]
  refine congrArg (x0 (ix2 r j) + ·) (Finset.sum_congr rfl fun k _ => ?_)
  rw [left1, right1, val_main_v0_apply]
  rfl

/-- The sum of squares of a row, before the channel block. -/
theorem squares9_at (r : Fin 512) :
    val_main_v10 (F := Ideal) x0 x1 x2 (ix1 r)
      = ∑ k : Fin 1024, val_main_v2 (F := Ideal) x0 x1 x2 (ix2 r k) * val_main_v2 (F := Ideal) x0 x1 x2 (ix2 r k) := by
  rw [val_main_v10_apply, val_main_cst_apply]
  refine (congrArg (· + _) Ideal.ofBits_zero_f32).trans ((zero_add _).trans (Finset.sum_congr rfl fun k _ => ?_))
  have e : idx_main_v10 (ix1 r) k = ix2 r k := funext fun a => by match a with | ⟨0, _⟩ => rfl | ⟨1, _⟩ => rfl
  rw [val_main_v9_apply, e]
  rfl

/-- The gain of a lane, before the channel block. -/
theorem gain9_at (r : Fin 512) (k : Fin 1024) : val_main_v20 (F := Ideal) x3 (ix2 r k) = x3 (ix2 0 k) := by
  rw [val_main_v20_apply, val_main_v19_apply, val_main_v3_apply]
  refine congrArg x3 (funext fun a => Fin.ext ?_)
  match a with
  | ⟨0, _⟩ => rfl
  | ⟨1, _⟩ => show k.val % 1024 = k.val; omega

/-- The RMS norm of a row, before the channel block. -/
theorem norm_at (r : Fin 512) (k : Fin 1024) :
    val_main_v21 (F := Ideal) x0 x1 x2 x3 (ix2 r k) = rms (mixed (rowOf x0 r) (rowOf x1 r) (matOf x2)) (rowOf x3 0) k := by
  rw [val_main_v21_apply, gain9_at, val_main_v18_apply, val_main_v17_apply]
  have e : idx_main_v17 (ix2 r k) = ix2 r 0 := funext fun a => by match a with | ⟨0, _⟩ => rfl | ⟨1, _⟩ => rfl
  have e' : idx_main_v11 (ix2 r 0) = ix1 r := funext fun a => by match a with | ⟨0, _⟩ => rfl
  rw [e, val_main_v16_apply, val_main_v15_apply, val_main_v13_apply, val_main_v11_apply, val_main_v12_apply, val_main_v14_apply,
    val_main_cst_0_apply, val_main_cst_1_apply, e', squares9_at]
  simp only [mixed_at]
  rfl

/-- The hidden value of a row. -/
theorem hidden_at (r : Fin 512) (f : Fin 4096) :
    val_main_v23 (F := Ideal) x0 x1 x2 x3 x4 (ix2 r f) = hidden (mixed (rowOf x0 r) (rowOf x1 r) (matOf x2)) (rowOf x3 0) (matOf x4) f := by
  rw [val_main_v23_apply, val_main_v22_apply, val_main_call0_v0_apply, val_main_call0_cst_apply]
  refine congrArg₂ max (Finset.sum_congr rfl fun k _ => ?_) Ideal.ofBits_zero_f32
  rw [left22, right22, norm_at, val_main_v5_apply]
  rfl

/-- The residual with the channel block. -/
theorem channel_at (r : Fin 512) (j : Fin 1024) :
    val_main_v26 (F := Ideal) x0 x1 x2 x3 x4 x5 (ix2 r j) = channel (mixed (rowOf x0 r) (rowOf x1 r) (matOf x2)) (rowOf x3 0) (matOf x4) (matOf x5) j := by
  rw [val_main_v26_apply, mixed_at, val_main_v25_apply]
  refine congrArg₂ (· + ·) rfl (Finset.sum_congr rfl fun k _ => ?_)
  rw [left25, right25, val_main_v24_apply, hidden_at, val_main_v6_apply]
  rfl

/-- The sum of squares of a row, before the gate. -/
theorem squares27_at (r : Fin 512) :
    val_main_v28 (F := Ideal) x0 x1 x2 x3 x4 x5 (ix1 r)
      = ∑ k : Fin 1024, val_main_v26 (F := Ideal) x0 x1 x2 x3 x4 x5 (ix2 r k) * val_main_v26 (F := Ideal) x0 x1 x2 x3 x4 x5 (ix2 r k) := by
  rw [val_main_v28_apply, val_main_cst_2_apply]
  refine (congrArg (· + _) Ideal.ofBits_zero_f32).trans ((zero_add _).trans (Finset.sum_congr rfl fun k _ => ?_))
  have e : idx_main_v28 (ix1 r) k = ix2 r k := funext fun a => by match a with | ⟨0, _⟩ => rfl | ⟨1, _⟩ => rfl
  rw [val_main_v27_apply, e]
  rfl

/-- The gain of a lane, before the gate. -/
theorem gain27_at (r : Fin 512) (k : Fin 1024) : val_main_v38 (F := Ideal) x6 (ix2 r k) = x6 (ix2 0 k) := by
  rw [val_main_v38_apply, val_main_v37_apply, val_main_v4_apply]
  refine congrArg x6 (funext fun a => Fin.ext ?_)
  match a with
  | ⟨0, _⟩ => rfl
  | ⟨1, _⟩ => show k.val % 1024 = k.val; omega

/-- The RMS norm of a row, before the gate. -/
theorem norm2_at (r : Fin 512) (k : Fin 1024) :
    val_main_v39 (F := Ideal) x0 x1 x2 x3 x4 x5 x6 (ix2 r k) = rms (channel (mixed (rowOf x0 r) (rowOf x1 r) (matOf x2)) (rowOf x3 0) (matOf x4) (matOf x5)) (rowOf x6 0) k := by
  rw [val_main_v39_apply, gain27_at, val_main_v36_apply, val_main_v35_apply]
  have e : idx_main_v35 (ix2 r k) = ix2 r 0 := funext fun a => by match a with | ⟨0, _⟩ => rfl | ⟨1, _⟩ => rfl
  have e' : idx_main_v29 (ix2 r 0) = ix1 r := funext fun a => by match a with | ⟨0, _⟩ => rfl
  rw [e, val_main_v34_apply, val_main_v33_apply, val_main_v31_apply, val_main_v29_apply, val_main_v30_apply, val_main_v32_apply,
    val_main_cst_3_apply, val_main_cst_4_apply, e', squares27_at]
  simp only [channel_at]
  rfl

/-- The gate's argument. -/
theorem gate_at (r : Fin 512) (j : Fin 1024) :
    val_main_v40 (F := Ideal) x0 x1 x2 x3 x4 x5 x6 x7 (ix2 r j) = ∑ k, rms (channel (mixed (rowOf x0 r) (rowOf x1 r) (matOf x2)) (rowOf x3 0) (matOf x4) (matOf x5)) (rowOf x6 0) k * matOf x7 k j := by
  rw [val_main_v40_apply]
  refine Finset.sum_congr rfl fun k _ => ?_
  rw [left40, right40, norm2_at, val_main_v8_apply]
  rfl

/-- The embedding's product. -/
theorem embed_at (r : Fin 512) (j : Fin 1024) :
    val_main_v47 (F := Ideal) x8 x9 (ix2 r j) = ∑ k, rowOf x8 r k * matOf x9 k j := by
  rw [val_main_v47_apply]
  refine Finset.sum_congr rfl fun k _ => ?_
  rw [left47, right47, val_main_v7_apply]
  rfl

/-- The result by row and lane. -/
theorem result_at (r : Fin 512) (j : Fin 1024) :
    val_main_v49 (F := Ideal) x0 x1 x2 x3 x4 x5 x6 x7 x8 x9 (ix2 r j) = plainRow (n := 512) x0 x1 x2 x3 x4 x5 x6 x7 x8 x9 r j := by
  rw [val_main_v49_apply, channel_at, val_main_v48_apply, embed_at, val_main_v46_apply, val_main_v45_apply, val_main_cst_6_apply,
    val_main_v44_apply, val_main_v43_apply, val_main_cst_5_apply, val_main_v42_apply, val_main_v41_apply, gate_at]
  show _ + Ideal.div (Ideal.ofBits .f32 0x3F800000#32) (Ideal.ofBits .f32 0x3F800000#32 + Ideal.exp (- _)) * _ = _
  rw [Ideal.ofBits_one_f32]
  rfl

/-! ## The run -/

/-- The run: the result array, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v49) = (fun k => plainRow (n := 512) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (k 0) (k 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c).1.trans ((val_main_v49_eq _ _).trans (funext fun k =>
    (congrArg _ (eq_ix2 (n0 := 512) (n1 := 1024) k)).trans (result_at _ _ _ _ _ _ _ _ _ _ (k 0) (k 1)))), (h c).2⟩) (Value.run m ρ)

end Cert.RefPostSIdeal.Own

end
-- ==== Proof.ProjBlock.lean ====
/-
  The dilated attentions' input projection: one row of activations at the ideal values (projection behind the RMS norm, the RMS norm
  of each head, the rotary position embedding), and a block of 256 rows as the vector operations the kernel's body is made of, each
  of them read at an index as that row-wise mathematics.
-/
module

public import proofs.«01_k».proof.Proof.PostSRef

@[expose] public section

set_option maxRecDepth 16384

noncomputable section

namespace Cert.Proj

open Idealize.ShloMosaic
open Cert.Post (rms B1024 B512 B128 B1 V256 G1024 rmsOp rmsOp_apply)

/-! ## One row -/

/-- Lane `t` of the head that lane `c` belongs to. -/
abbrev headLane (c : Fin 512) (t : Fin 64) : Fin 512 := ⟨c.val / 64 * 64 + t.val, by omega⟩

/-- The RMS norm of each head of a row of eight, scaled by `g`. -/
def headNorm (z g : Fin 512 → EReal) (c : Fin 512) : EReal :=
  z c * Ideal.rsqrt (Ideal.div (∑ t : Fin 64, z (headLane c t) * z (headLane c t)) (Ideal.ofBits .f32 0x42800000#32)
    + Ideal.ofBits .f32 0x358637BD#32) * g c

/-- The rotary position embedding of each head, `cs` and `sn` the cosines and sines of the row's position. -/
def roped (y : Fin 512 → EReal) (cs sn : Fin 32 → EReal) (c : Fin 512) : EReal :=
  if h : c.val % 64 < 32 then y c * cs ⟨c.val % 32, by omega⟩ - y ⟨c.val + 32, by omega⟩ * sn ⟨c.val % 32, by omega⟩
  else y c * cs ⟨c.val % 32, by omega⟩ + y ⟨c.val - 32, by omega⟩ * sn ⟨c.val % 32, by omega⟩

/-- The pattern of 64. -/
theorem ofBits_64 : Ideal.ofBits .f32 0x42800000#32 = ((64 : ℝ) : EReal) := by
  simp [Ideal.ofBits, Ideal.ieee, -EReal.coe_mul]; norm_num

/-- The pattern of a sixty-fourth. -/
theorem ofBits_inv64 : Ideal.ofBits .f32 0x3C800000#32 = (((64 : ℝ)⁻¹ : ℝ) : EReal) := by
  simp [Ideal.ofBits, Ideal.ieee, -EReal.coe_mul]; norm_num

/-- Dividing by 64 is multiplying by a sixty-fourth. -/
theorem div_64 (x : EReal) : Ideal.div x (Ideal.ofBits .f32 0x42800000#32) = x * Ideal.ofBits .f32 0x3C800000#32 := by
  rw [ofBits_64, ofBits_inv64, Ideal.div, if_neg (by norm_cast), EReal.coe_inv]

/-- A sum over the lower half of 128 lanes. -/
theorem sum_low (f : Fin 128 → EReal) : (∑ l : Fin 128, if l.val < 64 then f l else 0) = ∑ t : Fin 64, f ⟨t.val, by omega⟩ := by
  refine (Fin.sum_univ_add (a := 64) (b := 64) fun l : Fin 128 => if l.val < 64 then f l else 0).trans ?_
  have h0 : (∑ t : Fin 64, if (Fin.natAdd 64 t : Fin 128).val < 64 then f (Fin.natAdd 64 t) else 0) = 0 :=
    Finset.sum_eq_zero fun t _ => if_neg (by show ¬ 64 + t.val < 64; omega)
  refine (congrArg _ h0).trans ((add_zero _).trans (Finset.sum_congr rfl fun t _ => ?_))
  exact if_pos (show t.val < 64 from t.isLt)

/-- A sum over the upper half of 128 lanes. -/
theorem sum_high (f : Fin 128 → EReal) : (∑ l : Fin 128, if l.val < 64 then 0 else f l) = ∑ t : Fin 64, f ⟨64 + t.val, by omega⟩ := by
  refine (Fin.sum_univ_add (a := 64) (b := 64) fun l : Fin 128 => if l.val < 64 then 0 else f l).trans ?_
  have h0 : (∑ t : Fin 64, if (Fin.castAdd 64 t : Fin 128).val < 64 then 0 else f (Fin.castAdd 64 t)) = 0 :=
    Finset.sum_eq_zero fun t _ => if_pos (show t.val < 64 from t.isLt)
  refine (congrArg (· + _) h0).trans ((zero_add _).trans (Finset.sum_congr rfl fun t _ => ?_))
  exact if_neg (show ¬ 64 + t.val < 64 by omega)

/-! ## A block of 256 rows -/

abbrev G512 : Shape := ⟨2, ![1, 512]⟩
abbrev G128 : Shape := ⟨2, ![1, 128]⟩
abbrev B1536 : Shape := ⟨2, ![256, 1536]⟩
abbrev M1536 : Shape := ⟨2, ![1024, 1536]⟩

/-- A block of 1024 lanes against a group's columns. -/
def dot1536 : DotDims B1024 M1536 B1536 where
  lhsContracting := [1]
  rhsContracting := [0]
  lhsNonContracting := [0]
  rhsNonContracting := [1]
  lhsBatch := []
  rhsBatch := []
  wf := by decide

/-- A group's projection. -/
def zOp (x : FVec Ideal B1024 .f32) (g : FVec Ideal G1024 .f32) (w : FVec Ideal M1536 .bf16) : FVec Ideal B1536 .f32 :=
  matmul dot1536 none (rmsOp x g) w (constant B1536 .f32 0x00000000#32)

/-- The lanes of a pair's first head. -/
def lowLanes : IVec B128 1 := cmpi .slt (iota .tc B128 32 [1] (by decide)) (broadcast B128 64#32)

/-- The lanes of the first half of a head. -/
def firstHalf : IVec B128 1 := cmpi .eq (andi (iota .tc B128 32 [1] (by decide)) (broadcast B128 32#32)) (broadcast B128 0#32)

/-- A row's sum down its lanes, as a column. -/
def sumOp (x : FVec Ideal B128 .f32) : FVec Ideal B1 .f32 :=
  shapeCast B1 (multiReduction .add [1] V256 x 0x00000000#32 (by decide) (.inl rfl) rfl) (by decide)

/-- The head norm of a pair of heads. -/
def normOp (x : FVec Ideal B128 .f32) (g : FVec Ideal G128 .f32) : FVec Ideal B128 .f32 :=
  mulf (mulf x (rsqrt (addf (mulf (select lowLanes
      (broadcastTo B128 (shapeCast B1 (sumOp (select lowLanes (mulf x x) (broadcast B128 (Scalar.ofBits (F := Ideal) .f32 0x00000000#32)))) (by decide)) (by decide))
      (broadcastTo B128 (shapeCast B1 (sumOp (select lowLanes (broadcast B128 (Scalar.ofBits (F := Ideal) .f32 0x00000000#32)) (mulf x x))) (by decide)) (by decide)))
    (broadcast B128 (Scalar.ofBits (F := Ideal) .f32 0x3C800000#32))) (broadcast B128 (Scalar.ofBits (F := Ideal) .f32 0x358637BD#32)))))
    (broadcastTo B128 g (by decide))

/-- The rotary embedding of a pair of heads, `cs` and `sn` the cosines and signed sines by row and lane. -/
def ropeOp (x cs sn : FVec Ideal B128 .f32) : FVec Ideal B128 .f32 :=
  addf (mulf x cs) (mulf (select firstHalf (dynamicRotate 1 96#32 none x (by decide)) (dynamicRotate 1 32#32 none x (by decide))) sn)

/-- Four pairs of heads make a row of eight. -/
theorem catFits : Shape.Concatenates [B128, B128, B128, B128] B512 1 := by decide

/-- Four pairs of heads side by side. -/
def catOp (a b c d : FVec Ideal B128 .f32) : FVec Ideal B512 .f32 :=
  concatenate B512 1 [⟨B128, a⟩, ⟨B128, b⟩, ⟨B128, c⟩, ⟨B128, d⟩] catFits

/-- The head norm of eight heads. -/
def normsOp (z : FVec Ideal B512 .f32) (g : FVec Ideal G512 .f32) : FVec Ideal B512 .f32 :=
  catOp (normOp (extractStridedSlice B128 ![0, 0] z (by decide)) (extractStridedSlice G128 ![0, 0] g (by decide)))
    (normOp (extractStridedSlice B128 ![0, 128] z (by decide)) (extractStridedSlice G128 ![0, 128] g (by decide)))
    (normOp (extractStridedSlice B128 ![0, 256] z (by decide)) (extractStridedSlice G128 ![0, 256] g (by decide)))
    (normOp (extractStridedSlice B128 ![0, 384] z (by decide)) (extractStridedSlice G128 ![0, 384] g (by decide)))

/-- The rotary embedding of eight heads. -/
def ropesOp (y : FVec Ideal B512 .f32) (cs sn : FVec Ideal B128 .f32) : FVec Ideal B512 .f32 :=
  catOp (ropeOp (extractStridedSlice B128 ![0, 0] y (by decide)) cs sn) (ropeOp (extractStridedSlice B128 ![0, 128] y (by decide)) cs sn)
    (ropeOp (extractStridedSlice B128 ![0, 256] y (by decide)) cs sn) (ropeOp (extractStridedSlice B128 ![0, 384] y (by decide)) cs sn)

/-- A group's scaled queries. -/
def queryOp (z : FVec Ideal B1536 .f32) (g : FVec Ideal G512 .f32) (cs sn : FVec Ideal B128 .f32) : FVec Ideal B512 .bf16 :=
  truncf .bf16 (mulf (ropesOp (normsOp (extractStridedSlice B512 ![0, 0] z (by decide)) (shapeCast G512 g (by decide)))
    (shapeCast B128 cs (by decide)) (shapeCast B128 sn (by decide))) (broadcast B512 (Scalar.ofBits (F := Ideal) .f32 0x3E000000#32))) (by decide)

/-- A group's keys. -/
def keyOp (z : FVec Ideal B1536 .f32) (g : FVec Ideal G512 .f32) (cs sn : FVec Ideal B128 .f32) : FVec Ideal B512 .f32 :=
  ropesOp (normsOp (extractStridedSlice B512 ![0, 512] z (by decide)) (shapeCast G512 g (by decide)))
    (shapeCast B128 cs (by decide)) (shapeCast B128 sn (by decide))

/-- A group's values. -/
def valueOp (z : FVec Ideal B1536 .f32) : FVec Ideal B512 .f32 := extractStridedSlice B512 ![0, 1024] z (by decide)

/-! ## Each of them at an index -/

/-- The input projection, per lane. -/
theorem zOp_apply (x : FVec Ideal B1024 .f32) (g : FVec Ideal G1024 .f32) (w : FVec Ideal M1536 .bf16) (a : Fin 256) (j : Fin 1536) :
    zOp x g w (ix2 a j) = ∑ k : Fin 1024, rms (fun k => x (ix2 a k)) (fun k => g (ix2 0 k)) k * w (ix2 k j) := by
  pointwise [zOp, dot1536]
  simp only [rmsOp_apply]

/-- The mask of the first head's lanes. -/
theorem lowLanes_apply (a : Fin 256) (j : Fin 128) : lowLanes (ix2 a j) = 1#1 ↔ j.val < 64 := by
  pointwise [lowLanes]
  have hj := j.isLt
  word_omega

/-- The lanes of the heads' first halves, decided one by one. -/
theorem firstHalf_lane : ∀ j : Fin 128, IntOp.cmpi .eq (IntOp.andi (BitVec.ofNat 32 j.val) 32#32) 0#32 = 1#1 ↔ j.val % 64 < 32 := by
  decide +kernel

/-- The mask of the heads' first halves. -/
theorem firstHalf_apply (a : Fin 256) (j : Fin 128) : firstHalf (ix2 a j) = 1#1 ↔ j.val % 64 < 32 := by
  pointwise [firstHalf]
  exact firstHalf_lane j

/-- The sum over 128 lanes. -/
theorem sumOp_apply (x : FVec Ideal B128 .f32) (a : Fin 256) (z : Fin 1) : sumOp x (ix2 a z) = ∑ l : Fin 128, x (ix2 a l) := by
  pointwise [sumOp]

/-- A selection by a mask, as a condition. -/
theorem select_ite {s : Shape} (m : IVec s 1) (x y : FVec Ideal s .f32) (i : s.Idx) : select m x y i = if m i = 1#1 then x i else y i := rfl

/-- The norm of two heads in 128 lanes, per lane. -/
theorem normOp_apply (x : FVec Ideal B128 .f32) (g : FVec Ideal G128 .f32) (a : Fin 256) (j : Fin 128) :
    normOp x g (ix2 a j) = x (ix2 a j) * Ideal.rsqrt ((if j.val < 64 then ∑ t : Fin 64, x (ix2 a ⟨t.val, by omega⟩) * x (ix2 a ⟨t.val, by omega⟩)
      else ∑ t : Fin 64, x (ix2 a ⟨64 + t.val, by omega⟩) * x (ix2 a ⟨64 + t.val, by omega⟩)) * Ideal.ofBits .f32 0x3C800000#32
      + Ideal.ofBits .f32 0x358637BD#32) * g (ix2 0 j) := by
  have hl := sum_low fun l : Fin 128 => x (ix2 a l) * x (ix2 a l)
  have hh := sum_high fun l : Fin 128 => x (ix2 a l) * x (ix2 a l)
  have e0 : sumOp (select lowLanes (mulf x x) (broadcast B128 (Scalar.ofBits (F := Ideal) .f32 0x00000000#32))) (ix2 a 0)
      = ∑ l : Fin 128, if l.val < 64 then x (ix2 a l) * x (ix2 a l) else 0 := by
    rw [sumOp_apply]
    refine Finset.sum_congr rfl fun l _ => (select_ite _ _ _ _).trans ?_
    exact if_congr (lowLanes_apply a l) rfl Ideal.ofBits_zero_f32
  have e1 : sumOp (select lowLanes (broadcast B128 (Scalar.ofBits (F := Ideal) .f32 0x00000000#32)) (mulf x x)) (ix2 a 0)
      = ∑ l : Fin 128, if l.val < 64 then 0 else x (ix2 a l) * x (ix2 a l) := by
    rw [sumOp_apply]
    refine Finset.sum_congr rfl fun l _ => (select_ite _ _ _ _).trans ?_
    exact if_congr (lowLanes_apply a l) Ideal.ofBits_zero_f32 rfl
  have h : normOp x g (ix2 a j) = x (ix2 a j) * Ideal.rsqrt ((if lowLanes (ix2 a j) = 1#1
      then sumOp (select lowLanes (mulf x x) (broadcast B128 (Scalar.ofBits (F := Ideal) .f32 0x00000000#32))) (ix2 a 0)
      else sumOp (select lowLanes (broadcast B128 (Scalar.ofBits (F := Ideal) .f32 0x00000000#32)) (mulf x x)) (ix2 a 0))
        * Ideal.ofBits .f32 0x3C800000#32 + Ideal.ofBits .f32 0x358637BD#32) * g (ix2 0 j) := by
    pointwise [normOp]
    rfl
  rw [h, e0, e1, hl, hh]
  exact congrArg (fun v => x (ix2 a j) * Ideal.rsqrt (v * Ideal.ofBits .f32 0x3C800000#32 + Ideal.ofBits .f32 0x358637BD#32) * g (ix2 0 j))
    (if_congr (lowLanes_apply a j) rfl rfl)

/-- The rotary turn of two heads in 128 lanes, per lane. -/
theorem ropeOp_apply (x cs sn : FVec Ideal B128 .f32) (a : Fin 256) (j : Fin 128) :
    ropeOp x cs sn (ix2 a j) = x (ix2 a j) * cs (ix2 a j)
      + (if h : j.val % 64 < 32 then x (ix2 a ⟨j.val + 32, by omega⟩) else x (ix2 a ⟨j.val - 32, by omega⟩)) * sn (ix2 a j) := by
  have hj := j.isLt
  have h : ropeOp x cs sn (ix2 a j) = x (ix2 a j) * cs (ix2 a j)
      + (if firstHalf (ix2 a j) = 1#1 then x (ix2 a ⟨(j.val + 128 - 96 % 128) % 128, by omega⟩)
        else x (ix2 a ⟨(j.val + 128 - 32 % 128) % 128, by omega⟩)) * sn (ix2 a j) := by
    pointwise [ropeOp]
    rfl
  rw [h]
  refine congrArg (fun v => x (ix2 a j) * cs (ix2 a j) + v * sn (ix2 a j)) ?_
  by_cases hf : j.val % 64 < 32
  · rw [dif_pos hf, if_pos ((firstHalf_apply a j).mpr hf)]
    exact congrArg (fun l => x (ix2 a l)) (Fin.ext (by show (j.val + 128 - 96 % 128) % 128 = j.val + 32; omega))
  · rw [dif_neg hf, if_neg fun e => hf ((firstHalf_apply a j).mp e)]
    exact congrArg (fun l => x (ix2 a l)) (Fin.ext (by show (j.val + 128 - 32 % 128) % 128 = j.val - 32; omega))

/-- Four pairs side by side, each of them known. -/
theorem catOp_apply (A B C D : FVec Ideal B128 .f32) (a : Fin 256) (G : Fin 512 → EReal)
    (hA : ∀ j : Fin 128, A (ix2 a j) = G ⟨j.val, by omega⟩) (hB : ∀ j : Fin 128, B (ix2 a j) = G ⟨128 + j.val, by omega⟩)
    (hC : ∀ j : Fin 128, C (ix2 a j) = G ⟨256 + j.val, by omega⟩) (hD : ∀ j : Fin 128, D (ix2 a j) = G ⟨384 + j.val, by omega⟩)
    (c : Fin 512) : catOp A B C D (ix2 a c) = G c := by
  have hc := c.isLt
  pointwise [catOp]
  split_ifs <;> first
    | exact hA _
    | (refine (hB _).trans (congrArg G (Fin.ext ?_)); dsimp only; omega)
    | (refine (hC _).trans (congrArg G (Fin.ext ?_)); dsimp only; omega)
    | (refine (hD _).trans (congrArg G (Fin.ext ?_)); dsimp only; omega)

/-- The head norm of a pair of heads that begins at lane `o` of a row. -/
theorem normOp_row (o : ℕ) (ho : o % 128 = 0) (hb : o + 128 ≤ 512) (x : FVec Ideal B128 .f32) (g : FVec Ideal G128 .f32) (a : Fin 256)
    (Z G : Fin 512 → EReal) (hx : ∀ j : Fin 128, x (ix2 a j) = Z ⟨o + j.val, by omega⟩) (hg : ∀ j : Fin 128, g (ix2 0 j) = G ⟨o + j.val, by omega⟩)
    (j : Fin 128) : normOp x g (ix2 a j) = headNorm Z G ⟨o + j.val, by omega⟩ := by
  have hj := j.isLt
  rw [normOp_apply, headNorm, div_64]
  simp only [hx, hg]
  refine congrArg (fun v => Z ⟨o + j.val, by omega⟩ * Ideal.rsqrt (v * Ideal.ofBits .f32 0x3C800000#32 + Ideal.ofBits .f32 0x358637BD#32)
    * G ⟨o + j.val, by omega⟩) ?_
  by_cases h : j.val < 64
  · rw [if_pos h]
    refine Finset.sum_congr rfl fun t _ => ?_
    have e : (⟨o + t.val, by omega⟩ : Fin 512) = headLane ⟨o + j.val, by omega⟩ t :=
      Fin.ext (by show o + t.val = (o + j.val) / 64 * 64 + t.val; omega)
    rw [e]
  · rw [if_neg h]
    refine Finset.sum_congr rfl fun t _ => ?_
    have e : (⟨o + (64 + t.val), by omega⟩ : Fin 512) = headLane ⟨o + j.val, by omega⟩ t :=
      Fin.ext (by show o + (64 + t.val) = (o + j.val) / 64 * 64 + t.val; omega)
    rw [e]

/-- The rotary embedding of a pair of heads that begins at lane `o` of a row. -/
theorem ropeOp_row (o : ℕ) (ho : o % 128 = 0) (hb : o + 128 ≤ 512) (x cs sn : FVec Ideal B128 .f32) (a : Fin 256) (Y : Fin 512 → EReal)
    (C S : Fin 32 → EReal) (hx : ∀ j : Fin 128, x (ix2 a j) = Y ⟨o + j.val, by omega⟩)
    (hc : ∀ j : Fin 128, cs (ix2 a j) = C ⟨j.val % 32, by omega⟩)
    (hs : ∀ j : Fin 128, sn (ix2 a j) = if j.val % 64 < 32 then -S ⟨j.val % 32, by omega⟩ else S ⟨j.val % 32, by omega⟩)
    (j : Fin 128) : ropeOp x cs sn (ix2 a j) = roped Y C S ⟨o + j.val, by omega⟩ := by
  have hj := j.isLt
  have em : (⟨(o + j.val) % 32, by omega⟩ : Fin 32) = ⟨j.val % 32, by omega⟩ := Fin.ext (by show (o + j.val) % 32 = j.val % 32; omega)
  rw [ropeOp_apply, roped]
  simp only [hx, hc, hs, em]
  by_cases h : j.val % 64 < 32
  · rw [dif_pos h, if_pos h, dif_pos (show (o + j.val) % 64 < 32 by omega), mul_neg, ← sub_eq_add_neg]
    exact congrArg (fun l => _ - Y l * _) (Fin.ext (by show o + (j.val + 32) = o + j.val + 32; omega))
  · rw [dif_neg h, if_neg h, dif_neg (show ¬ (o + j.val) % 64 < 32 by omega)]
    exact congrArg (fun l => _ + Y l * _) (Fin.ext (by show o + (j.val - 32) = o + j.val - 32; omega))

/-- The norm of eight heads, per lane. -/
theorem normsOp_apply (z : FVec Ideal B512 .f32) (g : FVec Ideal G512 .f32) (a : Fin 256) (c : Fin 512) :
    normsOp z g (ix2 a c) = headNorm (fun c => z (ix2 a c)) (fun c => g (ix2 0 c)) c := by
  unfold normsOp
  refine catOp_apply _ _ _ _ a _ (fun j => ?_) (fun j => ?_) (fun j => ?_) (fun j => ?_) c
  · refine (normOp_row 0 rfl (by decide) _ _ a (fun c => z (ix2 a c)) (fun c => g (ix2 0 c)) (fun j => ?_) (fun j => ?_) j).trans
      (congrArg _ (Fin.ext (by show 0 + j.val = j.val; omega))) <;> pointwise <;> simp
  · exact normOp_row 128 rfl (by decide) _ _ a _ _ (fun j => by pointwise) (fun j => by pointwise) j
  · exact normOp_row 256 rfl (by decide) _ _ a _ _ (fun j => by pointwise) (fun j => by pointwise) j
  · exact normOp_row 384 rfl (by decide) _ _ a _ _ (fun j => by pointwise) (fun j => by pointwise) j

/-- The rotary turn of eight heads, per lane. -/
theorem ropesOp_apply (y : FVec Ideal B512 .f32) (cs sn : FVec Ideal B128 .f32) (a : Fin 256) (C S : Fin 32 → EReal)
    (hc : ∀ j : Fin 128, cs (ix2 a j) = C ⟨j.val % 32, by omega⟩)
    (hs : ∀ j : Fin 128, sn (ix2 a j) = if j.val % 64 < 32 then -S ⟨j.val % 32, by omega⟩ else S ⟨j.val % 32, by omega⟩) (c : Fin 512) :
    ropesOp y cs sn (ix2 a c) = roped (fun c => y (ix2 a c)) C S c := by
  unfold ropesOp
  refine catOp_apply _ _ _ _ a _ (fun j => ?_) (fun j => ?_) (fun j => ?_) (fun j => ?_) c
  · refine (ropeOp_row 0 rfl (by decide) _ _ _ a (fun c => y (ix2 a c)) C S (fun j => ?_) hc hs j).trans
      (congrArg _ (Fin.ext (by show 0 + j.val = j.val; omega)))
    pointwise
  · exact ropeOp_row 128 rfl (by decide) _ _ _ a _ C S (fun j => by pointwise) hc hs j
  · exact ropeOp_row 256 rfl (by decide) _ _ _ a _ C S (fun j => by pointwise) hc hs j
  · exact ropeOp_row 384 rfl (by decide) _ _ _ a _ C S (fun j => by pointwise) hc hs j

end Cert.Proj

end
-- ==== Proof.ProjOut.lean ====
/-
  The input projection's kernel: what its body leaves in each output's staging buffer, at the ideal values, as the block's operations.
-/
module

public import proofs.«01_k».proof.Proof.ProjBlock
public import proofs.«01_k».proof.Proof.Gen.ProjCIdeal.Frame

@[expose] public section

set_option maxRecDepth 16384

noncomputable section

namespace Cert.ProjCIdeal.Own

open Idealize.ShloMosaic Idealize.ShloMosaic.TcCoe Idealize.SL.Sem
open Idealize.ShloMosaic.Pipeline (Dat)
open Cert.ProjCIdeal Cert.ProjCIdeal.Gen Cert.Post Cert.Proj

/-- The offset of a whole block. -/
theorem hz : (![0, 0] : Fin 2 → Nat) = fun _ => 0 := funext fun a => by fin_cases a <;> rfl

/-- The offset of a whole block of a stack. -/
theorem hz3 : (![0, 0, 0] : Fin 3 → Nat) = fun _ => 0 := funext fun a => by fin_cases a <;> rfl

/-- A load through a whole buffer that reads `X` reads `X` at the rectangle's indices. -/
theorem load {s : Shape} {e : EltTy} {m : Memref sig .tc .vmem s e} (h : m.IsWhole) (X : s.Idx → Elt Ideal e) (r : Rect s) :
    View.readAt (Elt Ideal) m.view r.toLoadRect (h.unread X) = View.ld X r := by
  rw [View.readAt_eq_ld, h.read_unread]

/-- What one store of a whole block leaves reads as the block. -/
theorem stored {S : Shape} {e : EltTy} {sg : RefSig} {κ : Kind} {sp : Space} (v : View sg κ sp S e) (f : v.ty.Contents (Elt Ideal))
    {off : Fin S.rank → Nat} (ho : off = fun _ => 0) (h : ∀ a, off a + S.size a ≤ S.size a) (P : S.Idx → Elt Ideal e) :
    v.read (Elt Ideal) (v.writes (Elt Ideal) f [(⟨Rect.unit off S.size h, P⟩ : View.Piece (Elt Ideal) S e)]) = P := by
  rw [View.read_writes_eq_canon v f _ (fun y => ⟨_, List.mem_singleton_self _, View.mem_set_unit_zero ho h y⟩), View.canon_unit_zero ho]

/-- A group's columns of the weights. -/
def groupW (x2 : Vec Ideal S1024x4608 .bf16) (o : ℕ) (h : ∀ a, (![0, o] : Fin 2 → Nat) a + S1024x1536.size a ≤ S1024x4608.size a) :
    FVec Ideal S1024x1536 .bf16 := View.ld x2 (Rect.unit (s := S1024x4608) ![0, o] S1024x1536.size h)

/-- A group's row of the gains. -/
def groupG (x3 : Vec Ideal S3x512 .f32) (g : ℕ) (h : ∀ a, (![g, 0] : Fin 2 → Nat) a + S1x512.size a ≤ S3x512.size a) :
    FVec Ideal S1x512 .f32 := View.ld x3 (Rect.unit (s := S3x512) ![g, 0] S1x512.size h)

/-- A group's rows in the making: the values stored beside the keys. -/
def rowsPieces (z : FVec Ideal S256x1536 .f32) (g : FVec Ideal S1x512 .f32) (cs sn : FVec Ideal S256x128 .f32) :
    List (View.Piece (Elt Ideal) S256x1024 .f32) :=
  [⟨Rect.unit (s := S256x1024) ![0, 512] S256x512.size (by decide), valueOp z⟩,
   ⟨Rect.unit (s := S256x1024) ![0, 0] S256x512.size (by decide), keyOp z g cs sn⟩]

/-- A group's rows. -/
def rowsVal (z : FVec Ideal S256x1536 .f32) (g : FVec Ideal S1x512 .f32) (cs sn : FVec Ideal S256x128 .f32) : FVec Ideal S256x1024 .f32 :=
  View.canon (rowsPieces z g cs sn)

/-- A load of what the stores before it left. -/
theorem covered {S : Shape} {e : EltTy} {sg : RefSig} {κ : Kind} {sp : Space} (v : View sg κ sp S e)
    (L : List (View.Piece (Elt Ideal) S e)) (r : Rect S) : v.readCov L r.toLoadRect = View.ld (View.canon L) r :=
  View.readAt_writes_junk_eq_canon v L _

variable (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1024x4608 .bf16) (harg3 : arg3.IsWhole) (arg4 : Memref sig .tc .vmem S3x512 .f32) (harg4 : arg4.IsWhole) (arg5 : Memref sig .tc .vmem S3x512 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S256x512 .bf16) (harg8 : arg8.IsWhole) (arg9 : Memref sig .tc .vmem S256x512 .bf16) (harg9 : arg9.IsWhole) (arg10 : Memref sig .tc .vmem S256x512 .bf16) (harg10 : arg10.IsWhole) (arg11 : Memref sig .tc .vmem S256x1024 .f32) (harg11 : arg11.IsWhole) (arg12 : Memref sig .tc .vmem S256x1024 .f32) (harg12 : arg12.IsWhole) (arg13 : Memref sig .tc .vmem S256x1024 .f32) (harg13 : arg13.IsWhole) (arg14 : Memref sig .tc .vmem S1x1024x128 .f32) (harg14 : arg14.IsWhole) (arg15 : Memref sig .tc .vmem S1x1024x256 .f32) (harg15 : arg15.IsWhole) (arg16 : Memref sig .tc .vmem S1x1024x256 .f32) (harg16 : arg16.IsWhole)
  (x0 : Vec Ideal S256x1024 .f32) (x1 : Vec Ideal S1x1024 .f32) (x2 : Vec Ideal S1024x4608 .bf16) (x3 : Vec Ideal S3x512 .f32) (x4 : Vec Ideal S3x512 .f32) (x5 : Vec Ideal S256x128 .f32) (x6 : Vec Ideal S256x128 .f32)

/-! ## Case A -/

open kernelRun0_A in
/-- The queries of group 0 in case A. -/
theorem out_A_7 (hc0 : ¬cond0_0 i) (hc1 : cond0_1 i) (hc2 : ¬cond0_2 i) (hc3 : cond0_3 i) (hc4 : ¬cond0_4 i) (hc5 : cond0_5 i) :
    out0_A_7 c i _ harg1 _ harg2 _ harg3 _ harg4 _ harg5 _ harg6 _ harg7 _ harg8 _ harg9 _ harg10 _ harg11 _ harg12 _ harg13 _ harg14 _ harg15 _ harg16 hc0 hc1 hc2 hc3 hc4 hc5 x0 x1 x2 x3 x4 x5 x6
      = queryOp (zOp x0 x1 (groupW x2 0 (by decide))) (groupG x3 0 (by decide)) x5 x6 := by
  unfold out0_A_7
  dsimp only [kernelRun0_A]
  refine (stored _ _ hz _ _).trans ?_
  simp only [sl.r, sl.r_1, sl.r_2, sl.r_3, sl.r_4, sl.r_5, sl.r_6, sl.r_7, sl.r_8, sl.r_9, sl.r_10, sl.r_11, sl.r_12, sl.r_13, sl.r_14, sl.r_15, sl.r_16, sl.r_17, sl.r_18, sl.r_19, sl.r_20, sl.r_21, sl.r_22, load]
  simp only [View.ld_unit_zero (S := S256x1024) hz, View.ld_unit_zero (S := S1x1024) hz, View.ld_unit_zero (S := S256x128) hz]
  rfl

open kernelRun0_A in
/-- The queries of group 1 in case A. -/
theorem out_A_8 (hc0 : ¬cond0_0 i) (hc1 : cond0_1 i) (hc2 : ¬cond0_2 i) (hc3 : cond0_3 i) (hc4 : ¬cond0_4 i) (hc5 : cond0_5 i) :
    out0_A_8 c i _ harg1 _ harg2 _ harg3 _ harg4 _ harg5 _ harg6 _ harg7 _ harg8 _ harg9 _ harg10 _ harg11 _ harg12 _ harg13 _ harg14 _ harg15 _ harg16 hc0 hc1 hc2 hc3 hc4 hc5 x0 x1 x2 x3 x4 x5 x6
      = queryOp (zOp x0 x1 (groupW x2 1536 (by decide))) (groupG x3 1 (by decide)) x5 x6 := by
  unfold out0_A_8
  dsimp only [kernelRun0_A]
  refine (stored _ _ hz _ _).trans ?_
  simp only [sl.r, sl.r_1, sl.r_2, sl.r_35, sl.r_36, sl.r_37, sl.r_38, sl.r_39, sl.r_40, sl.r_41, sl.r_42, sl.r_43, sl.r_44, sl.r_45, sl.r_46, sl.r_47, sl.r_48, sl.r_49, load]
  simp only [View.ld_unit_zero (S := S256x1024) hz, View.ld_unit_zero (S := S1x1024) hz, View.ld_unit_zero (S := S256x128) hz]
  rfl

open kernelRun0_A in
/-- The queries of group 2 in case A. -/
theorem out_A_9 (hc0 : ¬cond0_0 i) (hc1 : cond0_1 i) (hc2 : ¬cond0_2 i) (hc3 : cond0_3 i) (hc4 : ¬cond0_4 i) (hc5 : cond0_5 i) :
    out0_A_9 c i _ harg1 _ harg2 _ harg3 _ harg4 _ harg5 _ harg6 _ harg7 _ harg8 _ harg9 _ harg10 _ harg11 _ harg12 _ harg13 _ harg14 _ harg15 _ harg16 hc0 hc1 hc2 hc3 hc4 hc5 x0 x1 x2 x3 x4 x5 x6
      = queryOp (zOp x0 x1 (groupW x2 3072 (by decide))) (groupG x3 2 (by decide)) x5 x6 := by
  unfold out0_A_9
  dsimp only [kernelRun0_A]
  refine (stored _ _ hz _ _).trans ?_
  simp only [sl.r, sl.r_1, sl.r_2, sl.r_66, sl.r_67, sl.r_68, sl.r_69, sl.r_70, sl.r_71, sl.r_72, sl.r_73, sl.r_74, sl.r_75, sl.r_76, sl.r_77, sl.r_78, sl.r_79, sl.r_80, sl.r_81, load]
  simp only [View.ld_unit_zero (S := S256x1024) hz, View.ld_unit_zero (S := S1x1024) hz, View.ld_unit_zero (S := S256x128) hz]
  rfl

open kernelRun0_A in
/-- The rows of group 0 in case A. -/
theorem out_A_10 (hc0 : ¬cond0_0 i) (hc1 : cond0_1 i) (hc2 : ¬cond0_2 i) (hc3 : cond0_3 i) (hc4 : ¬cond0_4 i) (hc5 : cond0_5 i) :
    out0_A_10 c i _ harg1 _ harg2 _ harg3 _ harg4 _ harg5 _ harg6 _ harg7 _ harg8 _ harg9 _ harg10 _ harg11 _ harg12 _ harg13 _ harg14 _ harg15 _ harg16 hc0 hc1 hc2 hc3 hc4 hc5 x0 x1 x2 x3 x4 x5 x6
      = rowsVal (zOp x0 x1 (groupW x2 0 (by decide))) (groupG x4 0 (by decide)) x5 x6 := by
  unfold out0_A_10
  rw [View.read_writes_eq_canon _ _ _ (fun _ => cover0_A_10 ..)]
  dsimp only [kernelRun0_A]
  simp only [sl.r, sl.r_1, sl.r_2, sl.r_3, sl.r_23, sl.r_24, sl.r_25, sl.r_26, sl.r_27, sl.r_28, sl.r_29, sl.r_30, sl.r_31, sl.r_32, sl.r_33, sl.r_34, sl.v271, load]
  simp only [View.ld_unit_zero (S := S256x1024) hz, View.ld_unit_zero (S := S1x1024) hz, View.ld_unit_zero (S := S256x128) hz]
  rfl

open kernelRun0_A in
/-- The rows of group 1 in case A. -/
theorem out_A_11 (hc0 : ¬cond0_0 i) (hc1 : cond0_1 i) (hc2 : ¬cond0_2 i) (hc3 : cond0_3 i) (hc4 : ¬cond0_4 i) (hc5 : cond0_5 i) :
    out0_A_11 c i _ harg1 _ harg2 _ harg3 _ harg4 _ harg5 _ harg6 _ harg7 _ harg8 _ harg9 _ harg10 _ harg11 _ harg12 _ harg13 _ harg14 _ harg15 _ harg16 hc0 hc1 hc2 hc3 hc4 hc5 x0 x1 x2 x3 x4 x5 x6
      = rowsVal (zOp x0 x1 (groupW x2 1536 (by decide))) (groupG x4 1 (by decide)) x5 x6 := by
  unfold out0_A_11
  rw [View.read_writes_eq_canon _ _ _ (fun _ => cover0_A_11 ..)]
  dsimp only [kernelRun0_A]
  simp only [sl.r, sl.r_1, sl.r_2, sl.r_35, sl.r_50, sl.r_51, sl.r_52, sl.r_53, sl.r_54, sl.r_55, sl.r_56, sl.r_57, sl.r_58, sl.r_59, sl.r_60, sl.r_61, sl.r_62, sl.r_63, sl.r_64, sl.r_65, sl.cst_178, load]
  simp only [View.ld_unit_zero (S := S256x1024) hz, View.ld_unit_zero (S := S1x1024) hz, View.ld_unit_zero (S := S256x128) hz]
  rfl

open kernelRun0_A in
/-- The rows of group 2 in case A. -/
theorem out_A_12 (hc0 : ¬cond0_0 i) (hc1 : cond0_1 i) (hc2 : ¬cond0_2 i) (hc3 : cond0_3 i) (hc4 : ¬cond0_4 i) (hc5 : cond0_5 i) :
    out0_A_12 c i _ harg1 _ harg2 _ harg3 _ harg4 _ harg5 _ harg6 _ harg7 _ harg8 _ harg9 _ harg10 _ harg11 _ harg12 _ harg13 _ harg14 _ harg15 _ harg16 hc0 hc1 hc2 hc3 hc4 hc5 x0 x1 x2 x3 x4 x5 x6
      = rowsVal (zOp x0 x1 (groupW x2 3072 (by decide))) (groupG x4 2 (by decide)) x5 x6 := by
  unfold out0_A_12
  rw [View.read_writes_eq_canon _ _ _ (fun _ => cover0_A_12 ..)]
  dsimp only [kernelRun0_A]
  simp only [sl.r, sl.r_1, sl.r_2, sl.r_66, sl.r_82, sl.r_83, sl.r_84, sl.r_85, sl.r_86, sl.r_87, sl.r_88, sl.r_89, sl.r_90, sl.r_91, sl.r_92, sl.r_93, sl.r_94, sl.r_95, sl.r_96, sl.r_97, sl.r_98, sl.cst_278, load]
  simp only [View.ld_unit_zero (S := S256x1024) hz, View.ld_unit_zero (S := S1x1024) hz, View.ld_unit_zero (S := S256x128) hz]
  rfl

/-! ## Case B -/

open kernelRun0_B in
/-- The queries of group 0 in case B. -/
theorem out_B_7 (hc0 : ¬cond0_0 i) (hc1 : ¬cond0_1 i) (hc2 : ¬cond0_2 i) (hc3 : ¬cond0_3 i) (hc4 : ¬cond0_4 i) (hc5 : ¬cond0_5 i) :
    out0_B_7 c i _ harg1 _ harg2 _ harg3 _ harg4 _ harg5 _ harg6 _ harg7 _ harg8 _ harg9 _ harg10 _ harg11 _ harg12 _ harg13 _ harg14 _ harg15 _ harg16 hc0 hc1 hc2 hc3 hc4 hc5 x0 x1 x2 x3 x4 x5 x6
      = queryOp (zOp x0 x1 (groupW x2 0 (by decide))) (groupG x3 0 (by decide)) x5 x6 := by
  unfold out0_B_7
  dsimp only [kernelRun0_B]
  refine (stored _ _ hz _ _).trans ?_
  simp only [sl.r, sl.r_1, sl.r_2, sl.r_3, sl.r_4, sl.r_5, sl.r_6, sl.r_7, sl.r_8, sl.r_9, sl.r_10, sl.r_11, sl.r_12, sl.r_13, sl.r_14, sl.r_15, sl.r_16, sl.r_17, sl.r_18, sl.r_19, sl.r_20, sl.r_21, sl.r_22, load]
  simp only [View.ld_unit_zero (S := S256x1024) hz, View.ld_unit_zero (S := S1x1024) hz, View.ld_unit_zero (S := S256x128) hz]
  rfl

open kernelRun0_B in
/-- The queries of group 1 in case B. -/
theorem out_B_8 (hc0 : ¬cond0_0 i) (hc1 : ¬cond0_1 i) (hc2 : ¬cond0_2 i) (hc3 : ¬cond0_3 i) (hc4 : ¬cond0_4 i) (hc5 : ¬cond0_5 i) :
    out0_B_8 c i _ harg1 _ harg2 _ harg3 _ harg4 _ harg5 _ harg6 _ harg7 _ harg8 _ harg9 _ harg10 _ harg11 _ harg12 _ harg13 _ harg14 _ harg15 _ harg16 hc0 hc1 hc2 hc3 hc4 hc5 x0 x1 x2 x3 x4 x5 x6
      = queryOp (zOp x0 x1 (groupW x2 1536 (by decide))) (groupG x3 1 (by decide)) x5 x6 := by
  unfold out0_B_8
  dsimp only [kernelRun0_B]
  refine (stored _ _ hz _ _).trans ?_
  simp only [sl.r, sl.r_1, sl.r_2, sl.r_35, sl.r_36, sl.r_37, sl.r_38, sl.r_39, sl.r_40, sl.r_41, sl.r_42, sl.r_43, sl.r_44, sl.r_45, sl.r_46, sl.r_47, sl.r_48, sl.r_49, load]
  simp only [View.ld_unit_zero (S := S256x1024) hz, View.ld_unit_zero (S := S1x1024) hz, View.ld_unit_zero (S := S256x128) hz]
  rfl

open kernelRun0_B in
/-- The queries of group 2 in case B. -/
theorem out_B_9 (hc0 : ¬cond0_0 i) (hc1 : ¬cond0_1 i) (hc2 : ¬cond0_2 i) (hc3 : ¬cond0_3 i) (hc4 : ¬cond0_4 i) (hc5 : ¬cond0_5 i) :
    out0_B_9 c i _ harg1 _ harg2 _ harg3 _ harg4 _ harg5 _ harg6 _ harg7 _ harg8 _ harg9 _ harg10 _ harg11 _ harg12 _ harg13 _ harg14 _ harg15 _ harg16 hc0 hc1 hc2 hc3 hc4 hc5 x0 x1 x2 x3 x4 x5 x6
      = queryOp (zOp x0 x1 (groupW x2 3072 (by decide))) (groupG x3 2 (by decide)) x5 x6 := by
  unfold out0_B_9
  dsimp only [kernelRun0_B]
  refine (stored _ _ hz _ _).trans ?_
  simp only [sl.r, sl.r_1, sl.r_2, sl.r_66, sl.r_67, sl.r_68, sl.r_69, sl.r_70, sl.r_71, sl.r_72, sl.r_73, sl.r_74, sl.r_75, sl.r_76, sl.r_77, sl.r_78, sl.r_79, sl.r_80, sl.r_81, load]
  simp only [View.ld_unit_zero (S := S256x1024) hz, View.ld_unit_zero (S := S1x1024) hz, View.ld_unit_zero (S := S256x128) hz]
  rfl

open kernelRun0_B in
/-- The rows of group 0 in case B. -/
theorem out_B_10 (hc0 : ¬cond0_0 i) (hc1 : ¬cond0_1 i) (hc2 : ¬cond0_2 i) (hc3 : ¬cond0_3 i) (hc4 : ¬cond0_4 i) (hc5 : ¬cond0_5 i) :
    out0_B_10 c i _ harg1 _ harg2 _ harg3 _ harg4 _ harg5 _ harg6 _ harg7 _ harg8 _ harg9 _ harg10 _ harg11 _ harg12 _ harg13 _ harg14 _ harg15 _ harg16 hc0 hc1 hc2 hc3 hc4 hc5 x0 x1 x2 x3 x4 x5 x6
      = rowsVal (zOp x0 x1 (groupW x2 0 (by decide))) (groupG x4 0 (by decide)) x5 x6 := by
  unfold out0_B_10
  rw [View.read_writes_eq_canon _ _ _ (fun _ => cover0_B_10 ..)]
  dsimp only [kernelRun0_B]
  simp only [sl.r, sl.r_1, sl.r_2, sl.r_3, sl.r_23, sl.r_24, sl.r_25, sl.r_26, sl.r_27, sl.r_28, sl.r_29, sl.r_30, sl.r_31, sl.r_32, sl.r_33, sl.r_34, sl.v271, load]
  simp only [View.ld_unit_zero (S := S256x1024) hz, View.ld_unit_zero (S := S1x1024) hz, View.ld_unit_zero (S := S256x128) hz]
  rfl

open kernelRun0_B in
/-- The rows of group 1 in case B. -/
theorem out_B_11 (hc0 : ¬cond0_0 i) (hc1 : ¬cond0_1 i) (hc2 : ¬cond0_2 i) (hc3 : ¬cond0_3 i) (hc4 : ¬cond0_4 i) (hc5 : ¬cond0_5 i) :
    out0_B_11 c i _ harg1 _ harg2 _ harg3 _ harg4 _ harg5 _ harg6 _ harg7 _ harg8 _ harg9 _ harg10 _ harg11 _ harg12 _ harg13 _ harg14 _ harg15 _ harg16 hc0 hc1 hc2 hc3 hc4 hc5 x0 x1 x2 x3 x4 x5 x6
      = rowsVal (zOp x0 x1 (groupW x2 1536 (by decide))) (groupG x4 1 (by decide)) x5 x6 := by
  unfold out0_B_11
  rw [View.read_writes_eq_canon _ _ _ (fun _ => cover0_B_11 ..)]
  dsimp only [kernelRun0_B]
  simp only [sl.r, sl.r_1, sl.r_2, sl.r_35, sl.r_50, sl.r_51, sl.r_52, sl.r_53, sl.r_54, sl.r_55, sl.r_56, sl.r_57, sl.r_58, sl.r_59, sl.r_60, sl.r_61, sl.r_62, sl.r_63, sl.r_64, sl.r_65, sl.cst_178, load]
  simp only [View.ld_unit_zero (S := S256x1024) hz, View.ld_unit_zero (S := S1x1024) hz, View.ld_unit_zero (S := S256x128) hz]
  rfl

open kernelRun0_B in
/-- The rows of group 2 in case B. -/
theorem out_B_12 (hc0 : ¬cond0_0 i) (hc1 : ¬cond0_1 i) (hc2 : ¬cond0_2 i) (hc3 : ¬cond0_3 i) (hc4 : ¬cond0_4 i) (hc5 : ¬cond0_5 i) :
    out0_B_12 c i _ harg1 _ harg2 _ harg3 _ harg4 _ harg5 _ harg6 _ harg7 _ harg8 _ harg9 _ harg10 _ harg11 _ harg12 _ harg13 _ harg14 _ harg15 _ harg16 hc0 hc1 hc2 hc3 hc4 hc5 x0 x1 x2 x3 x4 x5 x6
      = rowsVal (zOp x0 x1 (groupW x2 3072 (by decide))) (groupG x4 2 (by decide)) x5 x6 := by
  unfold out0_B_12
  rw [View.read_writes_eq_canon _ _ _ (fun _ => cover0_B_12 ..)]
  dsimp only [kernelRun0_B]
  simp only [sl.r, sl.r_1, sl.r_2, sl.r_66, sl.r_82, sl.r_83, sl.r_84, sl.r_85, sl.r_86, sl.r_87, sl.r_88, sl.r_89, sl.r_90, sl.r_91, sl.r_92, sl.r_93, sl.r_94, sl.r_95, sl.r_96, sl.r_97, sl.r_98, sl.cst_278, load]
  simp only [View.ld_unit_zero (S := S256x1024) hz, View.ld_unit_zero (S := S1x1024) hz, View.ld_unit_zero (S := S256x128) hz]
  rfl

/-! ## Case C -/

open kernelRun0_C in
/-- The queries of group 0 in case C. -/
theorem out_C_7 (hc0 : ¬cond0_0 i) (hc1 : ¬cond0_1 i) (hc2 : ¬cond0_2 i) (hc3 : ¬cond0_3 i) (hc4 : cond0_4 i) (hc5 : ¬cond0_5 i) :
    out0_C_7 c i _ harg1 _ harg2 _ harg3 _ harg4 _ harg5 _ harg6 _ harg7 _ harg8 _ harg9 _ harg10 _ harg11 _ harg12 _ harg13 _ harg14 _ harg15 _ harg16 hc0 hc1 hc2 hc3 hc4 hc5 x0 x1 x2 x3 x4 x5 x6
      = queryOp (zOp x0 x1 (groupW x2 0 (by decide))) (groupG x3 0 (by decide)) x5 x6 := by
  unfold out0_C_7
  dsimp only [kernelRun0_C]
  refine (stored _ _ hz _ _).trans ?_
  simp only [sl.r, sl.r_1, sl.r_2, sl.r_3, sl.r_4, sl.r_5, sl.r_6, sl.r_7, sl.r_8, sl.r_9, sl.r_10, sl.r_11, sl.r_12, sl.r_13, sl.r_14, sl.r_15, sl.r_16, sl.r_17, sl.r_18, sl.r_19, sl.r_20, sl.r_21, sl.r_22, load]
  simp only [View.ld_unit_zero (S := S256x1024) hz, View.ld_unit_zero (S := S1x1024) hz, View.ld_unit_zero (S := S256x128) hz]
  rfl

open kernelRun0_C in
/-- The queries of group 1 in case C. -/
theorem out_C_8 (hc0 : ¬cond0_0 i) (hc1 : ¬cond0_1 i) (hc2 : ¬cond0_2 i) (hc3 : ¬cond0_3 i) (hc4 : cond0_4 i) (hc5 : ¬cond0_5 i) :
    out0_C_8 c i _ harg1 _ harg2 _ harg3 _ harg4 _ harg5 _ harg6 _ harg7 _ harg8 _ harg9 _ harg10 _ harg11 _ harg12 _ harg13 _ harg14 _ harg15 _ harg16 hc0 hc1 hc2 hc3 hc4 hc5 x0 x1 x2 x3 x4 x5 x6
      = queryOp (zOp x0 x1 (groupW x2 1536 (by decide))) (groupG x3 1 (by decide)) x5 x6 := by
  unfold out0_C_8
  dsimp only [kernelRun0_C]
  refine (stored _ _ hz _ _).trans ?_
  simp only [sl.r, sl.r_1, sl.r_2, sl.r_35, sl.r_36, sl.r_37, sl.r_38, sl.r_39, sl.r_40, sl.r_41, sl.r_42, sl.r_43, sl.r_44, sl.r_45, sl.r_46, sl.r_47, sl.r_48, sl.r_49, load]
  simp only [View.ld_unit_zero (S := S256x1024) hz, View.ld_unit_zero (S := S1x1024) hz, View.ld_unit_zero (S := S256x128) hz]
  rfl

open kernelRun0_C in
/-- The queries of group 2 in case C. -/
theorem out_C_9 (hc0 : ¬cond0_0 i) (hc1 : ¬cond0_1 i) (hc2 : ¬cond0_2 i) (hc3 : ¬cond0_3 i) (hc4 : cond0_4 i) (hc5 : ¬cond0_5 i) :
    out0_C_9 c i _ harg1 _ harg2 _ harg3 _ harg4 _ harg5 _ harg6 _ harg7 _ harg8 _ harg9 _ harg10 _ harg11 _ harg12 _ harg13 _ harg14 _ harg15 _ harg16 hc0 hc1 hc2 hc3 hc4 hc5 x0 x1 x2 x3 x4 x5 x6
      = queryOp (zOp x0 x1 (groupW x2 3072 (by decide))) (groupG x3 2 (by decide)) x5 x6 := by
  unfold out0_C_9
  dsimp only [kernelRun0_C]
  refine (stored _ _ hz _ _).trans ?_
  simp only [sl.r, sl.r_1, sl.r_2, sl.r_66, sl.r_67, sl.r_68, sl.r_69, sl.r_70, sl.r_71, sl.r_72, sl.r_73, sl.r_74, sl.r_75, sl.r_76, sl.r_77, sl.r_78, sl.r_79, sl.r_80, sl.r_81, load]
  simp only [View.ld_unit_zero (S := S256x1024) hz, View.ld_unit_zero (S := S1x1024) hz, View.ld_unit_zero (S := S256x128) hz]
  rfl

open kernelRun0_C in
/-- The rows of group 0 in case C. -/
theorem out_C_10 (hc0 : ¬cond0_0 i) (hc1 : ¬cond0_1 i) (hc2 : ¬cond0_2 i) (hc3 : ¬cond0_3 i) (hc4 : cond0_4 i) (hc5 : ¬cond0_5 i) :
    out0_C_10 c i _ harg1 _ harg2 _ harg3 _ harg4 _ harg5 _ harg6 _ harg7 _ harg8 _ harg9 _ harg10 _ harg11 _ harg12 _ harg13 _ harg14 _ harg15 _ harg16 hc0 hc1 hc2 hc3 hc4 hc5 x0 x1 x2 x3 x4 x5 x6
      = rowsVal (zOp x0 x1 (groupW x2 0 (by decide))) (groupG x4 0 (by decide)) x5 x6 := by
  unfold out0_C_10
  rw [View.read_writes_eq_canon _ _ _ (fun _ => cover0_C_10 ..)]
  dsimp only [kernelRun0_C]
  simp only [sl.r, sl.r_1, sl.r_2, sl.r_3, sl.r_23, sl.r_24, sl.r_25, sl.r_26, sl.r_27, sl.r_28, sl.r_29, sl.r_30, sl.r_31, sl.r_32, sl.r_33, sl.r_34, sl.v271, load]
  simp only [View.ld_unit_zero (S := S256x1024) hz, View.ld_unit_zero (S := S1x1024) hz, View.ld_unit_zero (S := S256x128) hz]
  rfl

open kernelRun0_C in
/-- The rows of group 1 in case C. -/
theorem out_C_11 (hc0 : ¬cond0_0 i) (hc1 : ¬cond0_1 i) (hc2 : ¬cond0_2 i) (hc3 : ¬cond0_3 i) (hc4 : cond0_4 i) (hc5 : ¬cond0_5 i) :
    out0_C_11 c i _ harg1 _ harg2 _ harg3 _ harg4 _ harg5 _ harg6 _ harg7 _ harg8 _ harg9 _ harg10 _ harg11 _ harg12 _ harg13 _ harg14 _ harg15 _ harg16 hc0 hc1 hc2 hc3 hc4 hc5 x0 x1 x2 x3 x4 x5 x6
      = rowsVal (zOp x0 x1 (groupW x2 1536 (by decide))) (groupG x4 1 (by decide)) x5 x6 := by
  unfold out0_C_11
  rw [View.read_writes_eq_canon _ _ _ (fun _ => cover0_C_11 ..)]
  dsimp only [kernelRun0_C]
  simp only [sl.r, sl.r_1, sl.r_2, sl.r_35, sl.r_50, sl.r_51, sl.r_52, sl.r_53, sl.r_54, sl.r_55, sl.r_56, sl.r_57, sl.r_58, sl.r_59, sl.r_60, sl.r_61, sl.r_62, sl.r_63, sl.r_64, sl.r_65, sl.cst_178, load]
  simp only [View.ld_unit_zero (S := S256x1024) hz, View.ld_unit_zero (S := S1x1024) hz, View.ld_unit_zero (S := S256x128) hz]
  rfl

open kernelRun0_C in
/-- The rows of group 2 in case C. -/
theorem out_C_12 (hc0 : ¬cond0_0 i) (hc1 : ¬cond0_1 i) (hc2 : ¬cond0_2 i) (hc3 : ¬cond0_3 i) (hc4 : cond0_4 i) (hc5 : ¬cond0_5 i) :
    out0_C_12 c i _ harg1 _ harg2 _ harg3 _ harg4 _ harg5 _ harg6 _ harg7 _ harg8 _ harg9 _ harg10 _ harg11 _ harg12 _ harg13 _ harg14 _ harg15 _ harg16 hc0 hc1 hc2 hc3 hc4 hc5 x0 x1 x2 x3 x4 x5 x6
      = rowsVal (zOp x0 x1 (groupW x2 3072 (by decide))) (groupG x4 2 (by decide)) x5 x6 := by
  unfold out0_C_12
  rw [View.read_writes_eq_canon _ _ _ (fun _ => cover0_C_12 ..)]
  dsimp only [kernelRun0_C]
  simp only [sl.r, sl.r_1, sl.r_2, sl.r_66, sl.r_82, sl.r_83, sl.r_84, sl.r_85, sl.r_86, sl.r_87, sl.r_88, sl.r_89, sl.r_90, sl.r_91, sl.r_92, sl.r_93, sl.r_94, sl.r_95, sl.r_96, sl.r_97, sl.r_98, sl.H12_2, sl.cst_278, load]
  simp only [View.ld_unit_zero (S := S256x1024) hz, View.ld_unit_zero (S := S1x1024) hz, View.ld_unit_zero (S := S256x128) hz]
  rfl

/-- The tail of group 2 in case C. -/
theorem out_C_15 (hc0 : ¬cond0_0 i) (hc1 : ¬cond0_1 i) (hc2 : ¬cond0_2 i) (hc3 : ¬cond0_3 i) (hc4 : cond0_4 i) (hc5 : ¬cond0_5 i) :
    out0_C_15 c i _ harg1 _ harg2 _ harg3 _ harg4 _ harg5 _ harg6 _ harg7 _ harg8 _ harg9 _ harg10 _ harg11 _ harg12 _ harg13 _ harg14 _ harg15 _ harg16 hc0 hc1 hc2 hc3 hc4 hc5 x0 x1 x2 x3 x4 x5 x6
      = k0_pay141 (F := Ideal) (rowsVal (zOp x0 x1 (groupW x2 3072 (by decide))) (groupG x4 2 (by decide)) x5 x6) := by
  unfold out0_C_15
  dsimp only [kernelRun0_C]
  refine (stored _ _ hz3 _ _).trans ?_
  have e := out_C_12 c i _ harg1 _ harg2 _ harg3 _ harg4 _ harg5 _ harg6 _ harg7 _ harg8 _ harg9 _ harg10 _ harg11 _ harg12 _ harg13 _ harg14 _ harg15 _ harg16 x0 x1 x2 x3 x4 x5 x6 hc0 hc1 hc2 hc3 hc4 hc5
  unfold out0_C_12 at e
  rw [View.read_writes_eq_canon _ _ _ (cover0_C_12 c i _ harg1 _ harg2 _ harg3 _ harg4 _ harg5 _ harg6 _ harg7 _ harg8 _ harg9 _ harg10 _ harg11 _ harg12 _ harg13 _ harg14 _ harg15 _ harg16 hc0 hc1 hc2 hc3 hc4 hc5 x0 x1 x2 x3 x4 x5 x6)] at e
  dsimp only [kernelRun0_C] at e
  rw [kernelRun0_C.sl.v1060, covered, e, View.ld_unit_zero (S := S256x1024) hz]

/-! ## Case D -/

open kernelRun0_D in
/-- The queries of group 0 in case D. -/
theorem out_D_7 (hc0 : ¬cond0_0 i) (hc1 : ¬cond0_1 i) (hc2 : cond0_2 i) (hc3 : ¬cond0_3 i) (hc4 : cond0_4 i) (hc5 : ¬cond0_5 i) :
    out0_D_7 c i _ harg1 _ harg2 _ harg3 _ harg4 _ harg5 _ harg6 _ harg7 _ harg8 _ harg9 _ harg10 _ harg11 _ harg12 _ harg13 _ harg14 _ harg15 _ harg16 hc0 hc1 hc2 hc3 hc4 hc5 x0 x1 x2 x3 x4 x5 x6
      = queryOp (zOp x0 x1 (groupW x2 0 (by decide))) (groupG x3 0 (by decide)) x5 x6 := by
  unfold out0_D_7
  dsimp only [kernelRun0_D]
  refine (stored _ _ hz _ _).trans ?_
  simp only [sl.r, sl.r_1, sl.r_2, sl.r_3, sl.r_4, sl.r_5, sl.r_6, sl.r_7, sl.r_8, sl.r_9, sl.r_10, sl.r_11, sl.r_12, sl.r_13, sl.r_14, sl.r_15, sl.r_16, sl.r_17, sl.r_18, sl.r_19, sl.r_20, sl.r_21, sl.r_22, load]
  simp only [View.ld_unit_zero (S := S256x1024) hz, View.ld_unit_zero (S := S1x1024) hz, View.ld_unit_zero (S := S256x128) hz]
  rfl

open kernelRun0_D in
/-- The queries of group 1 in case D. -/
theorem out_D_8 (hc0 : ¬cond0_0 i) (hc1 : ¬cond0_1 i) (hc2 : cond0_2 i) (hc3 : ¬cond0_3 i) (hc4 : cond0_4 i) (hc5 : ¬cond0_5 i) :
    out0_D_8 c i _ harg1 _ harg2 _ harg3 _ harg4 _ harg5 _ harg6 _ harg7 _ harg8 _ harg9 _ harg10 _ harg11 _ harg12 _ harg13 _ harg14 _ harg15 _ harg16 hc0 hc1 hc2 hc3 hc4 hc5 x0 x1 x2 x3 x4 x5 x6
      = queryOp (zOp x0 x1 (groupW x2 1536 (by decide))) (groupG x3 1 (by decide)) x5 x6 := by
  unfold out0_D_8
  dsimp only [kernelRun0_D]
  refine (stored _ _ hz _ _).trans ?_
  simp only [sl.r, sl.r_1, sl.r_2, sl.r_35, sl.r_36, sl.r_37, sl.r_38, sl.r_39, sl.r_40, sl.r_41, sl.r_42, sl.r_43, sl.r_44, sl.r_45, sl.r_46, sl.r_47, sl.r_48, sl.r_49, load]
  simp only [View.ld_unit_zero (S := S256x1024) hz, View.ld_unit_zero (S := S1x1024) hz, View.ld_unit_zero (S := S256x128) hz]
  rfl

open kernelRun0_D in
/-- The queries of group 2 in case D. -/
theorem out_D_9 (hc0 : ¬cond0_0 i) (hc1 : ¬cond0_1 i) (hc2 : cond0_2 i) (hc3 : ¬cond0_3 i) (hc4 : cond0_4 i) (hc5 : ¬cond0_5 i) :
    out0_D_9 c i _ harg1 _ harg2 _ harg3 _ harg4 _ harg5 _ harg6 _ harg7 _ harg8 _ harg9 _ harg10 _ harg11 _ harg12 _ harg13 _ harg14 _ harg15 _ harg16 hc0 hc1 hc2 hc3 hc4 hc5 x0 x1 x2 x3 x4 x5 x6
      = queryOp (zOp x0 x1 (groupW x2 3072 (by decide))) (groupG x3 2 (by decide)) x5 x6 := by
  unfold out0_D_9
  dsimp only [kernelRun0_D]
  refine (stored _ _ hz _ _).trans ?_
  simp only [sl.r, sl.r_1, sl.r_2, sl.r_66, sl.r_67, sl.r_68, sl.r_69, sl.r_70, sl.r_71, sl.r_72, sl.r_73, sl.r_74, sl.r_75, sl.r_76, sl.r_77, sl.r_78, sl.r_79, sl.r_80, sl.r_81, load]
  simp only [View.ld_unit_zero (S := S256x1024) hz, View.ld_unit_zero (S := S1x1024) hz, View.ld_unit_zero (S := S256x128) hz]
  rfl

open kernelRun0_D in
/-- The rows of group 0 in case D. -/
theorem out_D_10 (hc0 : ¬cond0_0 i) (hc1 : ¬cond0_1 i) (hc2 : cond0_2 i) (hc3 : ¬cond0_3 i) (hc4 : cond0_4 i) (hc5 : ¬cond0_5 i) :
    out0_D_10 c i _ harg1 _ harg2 _ harg3 _ harg4 _ harg5 _ harg6 _ harg7 _ harg8 _ harg9 _ harg10 _ harg11 _ harg12 _ harg13 _ harg14 _ harg15 _ harg16 hc0 hc1 hc2 hc3 hc4 hc5 x0 x1 x2 x3 x4 x5 x6
      = rowsVal (zOp x0 x1 (groupW x2 0 (by decide))) (groupG x4 0 (by decide)) x5 x6 := by
  unfold out0_D_10
  rw [View.read_writes_eq_canon _ _ _ (fun _ => cover0_D_10 ..)]
  dsimp only [kernelRun0_D]
  simp only [sl.r, sl.r_1, sl.r_2, sl.r_3, sl.r_23, sl.r_24, sl.r_25, sl.r_26, sl.r_27, sl.r_28, sl.r_29, sl.r_30, sl.r_31, sl.r_32, sl.r_33, sl.r_34, sl.v271, load]
  simp only [View.ld_unit_zero (S := S256x1024) hz, View.ld_unit_zero (S := S1x1024) hz, View.ld_unit_zero (S := S256x128) hz]
  rfl

open kernelRun0_D in
/-- The rows of group 1 in case D. -/
theorem out_D_11 (hc0 : ¬cond0_0 i) (hc1 : ¬cond0_1 i) (hc2 : cond0_2 i) (hc3 : ¬cond0_3 i) (hc4 : cond0_4 i) (hc5 : ¬cond0_5 i) :
    out0_D_11 c i _ harg1 _ harg2 _ harg3 _ harg4 _ harg5 _ harg6 _ harg7 _ harg8 _ harg9 _ harg10 _ harg11 _ harg12 _ harg13 _ harg14 _ harg15 _ harg16 hc0 hc1 hc2 hc3 hc4 hc5 x0 x1 x2 x3 x4 x5 x6
      = rowsVal (zOp x0 x1 (groupW x2 1536 (by decide))) (groupG x4 1 (by decide)) x5 x6 := by
  unfold out0_D_11
  rw [View.read_writes_eq_canon _ _ _ (fun _ => cover0_D_11 ..)]
  dsimp only [kernelRun0_D]
  simp only [sl.r, sl.r_1, sl.r_2, sl.r_35, sl.r_50, sl.r_51, sl.r_52, sl.r_53, sl.r_54, sl.r_55, sl.r_56, sl.r_57, sl.r_58, sl.r_59, sl.r_60, sl.r_61, sl.r_62, sl.r_63, sl.r_64, sl.r_65, sl.H11_2, sl.cst_178, load]
  simp only [View.ld_unit_zero (S := S256x1024) hz, View.ld_unit_zero (S := S1x1024) hz, View.ld_unit_zero (S := S256x128) hz]
  rfl

/-- The tail of group 1 in case D. -/
theorem out_D_14 (hc0 : ¬cond0_0 i) (hc1 : ¬cond0_1 i) (hc2 : cond0_2 i) (hc3 : ¬cond0_3 i) (hc4 : cond0_4 i) (hc5 : ¬cond0_5 i) :
    out0_D_14 c i _ harg1 _ harg2 _ harg3 _ harg4 _ harg5 _ harg6 _ harg7 _ harg8 _ harg9 _ harg10 _ harg11 _ harg12 _ harg13 _ harg14 _ harg15 _ harg16 hc0 hc1 hc2 hc3 hc4 hc5 x0 x1 x2 x3 x4 x5 x6
      = k0_pay93 (F := Ideal) (rowsVal (zOp x0 x1 (groupW x2 1536 (by decide))) (groupG x4 1 (by decide)) x5 x6) := by
  unfold out0_D_14
  dsimp only [kernelRun0_D]
  refine (stored _ _ hz3 _ _).trans ?_
  have e := out_D_11 c i _ harg1 _ harg2 _ harg3 _ harg4 _ harg5 _ harg6 _ harg7 _ harg8 _ harg9 _ harg10 _ harg11 _ harg12 _ harg13 _ harg14 _ harg15 _ harg16 x0 x1 x2 x3 x4 x5 x6 hc0 hc1 hc2 hc3 hc4 hc5
  unfold out0_D_11 at e
  rw [View.read_writes_eq_canon _ _ _ (cover0_D_11 c i _ harg1 _ harg2 _ harg3 _ harg4 _ harg5 _ harg6 _ harg7 _ harg8 _ harg9 _ harg10 _ harg11 _ harg12 _ harg13 _ harg14 _ harg15 _ harg16 hc0 hc1 hc2 hc3 hc4 hc5 x0 x1 x2 x3 x4 x5 x6)] at e
  dsimp only [kernelRun0_D] at e
  rw [kernelRun0_D.sl.v1060, covered, e, View.ld_unit_zero (S := S256x1024) hz]

open kernelRun0_D in
/-- The rows of group 2 in case D. -/
theorem out_D_12 (hc0 : ¬cond0_0 i) (hc1 : ¬cond0_1 i) (hc2 : cond0_2 i) (hc3 : ¬cond0_3 i) (hc4 : cond0_4 i) (hc5 : ¬cond0_5 i) :
    out0_D_12 c i _ harg1 _ harg2 _ harg3 _ harg4 _ harg5 _ harg6 _ harg7 _ harg8 _ harg9 _ harg10 _ harg11 _ harg12 _ harg13 _ harg14 _ harg15 _ harg16 hc0 hc1 hc2 hc3 hc4 hc5 x0 x1 x2 x3 x4 x5 x6
      = rowsVal (zOp x0 x1 (groupW x2 3072 (by decide))) (groupG x4 2 (by decide)) x5 x6 := by
  unfold out0_D_12
  rw [View.read_writes_eq_canon _ _ _ (fun _ => cover0_D_12 ..)]
  dsimp only [kernelRun0_D]
  simp only [sl.r, sl.r_1, sl.r_2, sl.r_66, sl.r_82, sl.r_83, sl.r_84, sl.r_85, sl.r_86, sl.r_87, sl.r_88, sl.r_89, sl.r_90, sl.r_91, sl.r_92, sl.r_93, sl.r_94, sl.r_95, sl.r_96, sl.r_97, sl.r_98, sl.H12_2, sl.cst_278, load]
  simp only [View.ld_unit_zero (S := S256x1024) hz, View.ld_unit_zero (S := S1x1024) hz, View.ld_unit_zero (S := S256x128) hz]
  rfl

/-- The tail of group 2 in case D. -/
theorem out_D_15 (hc0 : ¬cond0_0 i) (hc1 : ¬cond0_1 i) (hc2 : cond0_2 i) (hc3 : ¬cond0_3 i) (hc4 : cond0_4 i) (hc5 : ¬cond0_5 i) :
    out0_D_15 c i _ harg1 _ harg2 _ harg3 _ harg4 _ harg5 _ harg6 _ harg7 _ harg8 _ harg9 _ harg10 _ harg11 _ harg12 _ harg13 _ harg14 _ harg15 _ harg16 hc0 hc1 hc2 hc3 hc4 hc5 x0 x1 x2 x3 x4 x5 x6
      = k0_pay141 (F := Ideal) (rowsVal (zOp x0 x1 (groupW x2 3072 (by decide))) (groupG x4 2 (by decide)) x5 x6) := by
  unfold out0_D_15
  dsimp only [kernelRun0_D]
  refine (stored _ _ hz3 _ _).trans ?_
  have e := out_D_12 c i _ harg1 _ harg2 _ harg3 _ harg4 _ harg5 _ harg6 _ harg7 _ harg8 _ harg9 _ harg10 _ harg11 _ harg12 _ harg13 _ harg14 _ harg15 _ harg16 x0 x1 x2 x3 x4 x5 x6 hc0 hc1 hc2 hc3 hc4 hc5
  unfold out0_D_12 at e
  rw [View.read_writes_eq_canon _ _ _ (cover0_D_12 c i _ harg1 _ harg2 _ harg3 _ harg4 _ harg5 _ harg6 _ harg7 _ harg8 _ harg9 _ harg10 _ harg11 _ harg12 _ harg13 _ harg14 _ harg15 _ harg16 hc0 hc1 hc2 hc3 hc4 hc5 x0 x1 x2 x3 x4 x5 x6)] at e
  dsimp only [kernelRun0_D] at e
  rw [kernelRun0_D.sl.v1060_1, covered, e, View.ld_unit_zero (S := S256x1024) hz]

/-! ## Case E -/

open kernelRun0_E in
/-- The queries of group 0 in case E. -/
theorem out_E_7 (hc0 : cond0_0 i) (hc1 : ¬cond0_1 i) (hc2 : cond0_2 i) (hc3 : ¬cond0_3 i) (hc4 : cond0_4 i) (hc5 : ¬cond0_5 i) :
    out0_E_7 c i _ harg1 _ harg2 _ harg3 _ harg4 _ harg5 _ harg6 _ harg7 _ harg8 _ harg9 _ harg10 _ harg11 _ harg12 _ harg13 _ harg14 _ harg15 _ harg16 hc0 hc1 hc2 hc3 hc4 hc5 x0 x1 x2 x3 x4 x5 x6
      = queryOp (zOp x0 x1 (groupW x2 0 (by decide))) (groupG x3 0 (by decide)) x5 x6 := by
  unfold out0_E_7
  dsimp only [kernelRun0_E]
  refine (stored _ _ hz _ _).trans ?_
  simp only [sl.r, sl.r_1, sl.r_2, sl.r_3, sl.r_4, sl.r_5, sl.r_6, sl.r_7, sl.r_8, sl.r_9, sl.r_10, sl.r_11, sl.r_12, sl.r_13, sl.r_14, sl.r_15, sl.r_16, sl.r_17, sl.r_18, sl.r_19, sl.r_20, sl.r_21, sl.r_22, load]
  simp only [View.ld_unit_zero (S := S256x1024) hz, View.ld_unit_zero (S := S1x1024) hz, View.ld_unit_zero (S := S256x128) hz]
  rfl

open kernelRun0_E in
/-- The queries of group 1 in case E. -/
theorem out_E_8 (hc0 : cond0_0 i) (hc1 : ¬cond0_1 i) (hc2 : cond0_2 i) (hc3 : ¬cond0_3 i) (hc4 : cond0_4 i) (hc5 : ¬cond0_5 i) :
    out0_E_8 c i _ harg1 _ harg2 _ harg3 _ harg4 _ harg5 _ harg6 _ harg7 _ harg8 _ harg9 _ harg10 _ harg11 _ harg12 _ harg13 _ harg14 _ harg15 _ harg16 hc0 hc1 hc2 hc3 hc4 hc5 x0 x1 x2 x3 x4 x5 x6
      = queryOp (zOp x0 x1 (groupW x2 1536 (by decide))) (groupG x3 1 (by decide)) x5 x6 := by
  unfold out0_E_8
  dsimp only [kernelRun0_E]
  refine (stored _ _ hz _ _).trans ?_
  simp only [sl.r, sl.r_1, sl.r_2, sl.r_35, sl.r_36, sl.r_37, sl.r_38, sl.r_39, sl.r_40, sl.r_41, sl.r_42, sl.r_43, sl.r_44, sl.r_45, sl.r_46, sl.r_47, sl.r_48, sl.r_49, load]
  simp only [View.ld_unit_zero (S := S256x1024) hz, View.ld_unit_zero (S := S1x1024) hz, View.ld_unit_zero (S := S256x128) hz]
  rfl

open kernelRun0_E in
/-- The queries of group 2 in case E. -/
theorem out_E_9 (hc0 : cond0_0 i) (hc1 : ¬cond0_1 i) (hc2 : cond0_2 i) (hc3 : ¬cond0_3 i) (hc4 : cond0_4 i) (hc5 : ¬cond0_5 i) :
    out0_E_9 c i _ harg1 _ harg2 _ harg3 _ harg4 _ harg5 _ harg6 _ harg7 _ harg8 _ harg9 _ harg10 _ harg11 _ harg12 _ harg13 _ harg14 _ harg15 _ harg16 hc0 hc1 hc2 hc3 hc4 hc5 x0 x1 x2 x3 x4 x5 x6
      = queryOp (zOp x0 x1 (groupW x2 3072 (by decide))) (groupG x3 2 (by decide)) x5 x6 := by
  unfold out0_E_9
  dsimp only [kernelRun0_E]
  refine (stored _ _ hz _ _).trans ?_
  simp only [sl.r, sl.r_1, sl.r_2, sl.r_66, sl.r_67, sl.r_68, sl.r_69, sl.r_70, sl.r_71, sl.r_72, sl.r_73, sl.r_74, sl.r_75, sl.r_76, sl.r_77, sl.r_78, sl.r_79, sl.r_80, sl.r_81, load]
  simp only [View.ld_unit_zero (S := S256x1024) hz, View.ld_unit_zero (S := S1x1024) hz, View.ld_unit_zero (S := S256x128) hz]
  rfl

open kernelRun0_E in
/-- The rows of group 0 in case E. -/
theorem out_E_10 (hc0 : cond0_0 i) (hc1 : ¬cond0_1 i) (hc2 : cond0_2 i) (hc3 : ¬cond0_3 i) (hc4 : cond0_4 i) (hc5 : ¬cond0_5 i) :
    out0_E_10 c i _ harg1 _ harg2 _ harg3 _ harg4 _ harg5 _ harg6 _ harg7 _ harg8 _ harg9 _ harg10 _ harg11 _ harg12 _ harg13 _ harg14 _ harg15 _ harg16 hc0 hc1 hc2 hc3 hc4 hc5 x0 x1 x2 x3 x4 x5 x6
      = rowsVal (zOp x0 x1 (groupW x2 0 (by decide))) (groupG x4 0 (by decide)) x5 x6 := by
  unfold out0_E_10
  rw [View.read_writes_eq_canon _ _ _ (fun _ => cover0_E_10 ..)]
  dsimp only [kernelRun0_E]
  simp only [sl.r, sl.r_1, sl.r_2, sl.r_3, sl.r_23, sl.r_24, sl.r_25, sl.r_26, sl.r_27, sl.r_28, sl.r_29, sl.r_30, sl.r_31, sl.r_32, sl.r_33, sl.r_34, sl.H10_2, sl.v271, load]
  simp only [View.ld_unit_zero (S := S256x1024) hz, View.ld_unit_zero (S := S1x1024) hz, View.ld_unit_zero (S := S256x128) hz]
  rfl

/-- The tail of group 0 in case E. -/
theorem out_E_13 (hc0 : cond0_0 i) (hc1 : ¬cond0_1 i) (hc2 : cond0_2 i) (hc3 : ¬cond0_3 i) (hc4 : cond0_4 i) (hc5 : ¬cond0_5 i) :
    out0_E_13 c i _ harg1 _ harg2 _ harg3 _ harg4 _ harg5 _ harg6 _ harg7 _ harg8 _ harg9 _ harg10 _ harg11 _ harg12 _ harg13 _ harg14 _ harg15 _ harg16 hc0 hc1 hc2 hc3 hc4 hc5 x0 x1 x2 x3 x4 x5 x6
      = k0_pay50 (F := Ideal) (View.ld (rowsVal (zOp x0 x1 (groupW x2 0 (by decide))) (groupG x4 0 (by decide)) x5 x6) (Rect.unit (s := S256x1024) ![128, 0] S128x1024.size (by decide))) := by
  unfold out0_E_13
  dsimp only [kernelRun0_E]
  refine (stored _ _ hz3 _ _).trans ?_
  have e := out_E_10 c i _ harg1 _ harg2 _ harg3 _ harg4 _ harg5 _ harg6 _ harg7 _ harg8 _ harg9 _ harg10 _ harg11 _ harg12 _ harg13 _ harg14 _ harg15 _ harg16 x0 x1 x2 x3 x4 x5 x6 hc0 hc1 hc2 hc3 hc4 hc5
  unfold out0_E_10 at e
  rw [View.read_writes_eq_canon _ _ _ (cover0_E_10 c i _ harg1 _ harg2 _ harg3 _ harg4 _ harg5 _ harg6 _ harg7 _ harg8 _ harg9 _ harg10 _ harg11 _ harg12 _ harg13 _ harg14 _ harg15 _ harg16 hc0 hc1 hc2 hc3 hc4 hc5 x0 x1 x2 x3 x4 x5 x6)] at e
  dsimp only [kernelRun0_E] at e
  rw [kernelRun0_E.sl.v1060, covered, e]

open kernelRun0_E in
/-- The rows of group 1 in case E. -/
theorem out_E_11 (hc0 : cond0_0 i) (hc1 : ¬cond0_1 i) (hc2 : cond0_2 i) (hc3 : ¬cond0_3 i) (hc4 : cond0_4 i) (hc5 : ¬cond0_5 i) :
    out0_E_11 c i _ harg1 _ harg2 _ harg3 _ harg4 _ harg5 _ harg6 _ harg7 _ harg8 _ harg9 _ harg10 _ harg11 _ harg12 _ harg13 _ harg14 _ harg15 _ harg16 hc0 hc1 hc2 hc3 hc4 hc5 x0 x1 x2 x3 x4 x5 x6
      = rowsVal (zOp x0 x1 (groupW x2 1536 (by decide))) (groupG x4 1 (by decide)) x5 x6 := by
  unfold out0_E_11
  rw [View.read_writes_eq_canon _ _ _ (fun _ => cover0_E_11 ..)]
  dsimp only [kernelRun0_E]
  simp only [sl.r, sl.r_1, sl.r_2, sl.r_35, sl.r_50, sl.r_51, sl.r_52, sl.r_53, sl.r_54, sl.r_55, sl.r_56, sl.r_57, sl.r_58, sl.r_59, sl.r_60, sl.r_61, sl.r_62, sl.r_63, sl.r_64, sl.r_65, sl.H11_2, sl.cst_178, load]
  simp only [View.ld_unit_zero (S := S256x1024) hz, View.ld_unit_zero (S := S1x1024) hz, View.ld_unit_zero (S := S256x128) hz]
  rfl

/-- The tail of group 1 in case E. -/
theorem out_E_14 (hc0 : cond0_0 i) (hc1 : ¬cond0_1 i) (hc2 : cond0_2 i) (hc3 : ¬cond0_3 i) (hc4 : cond0_4 i) (hc5 : ¬cond0_5 i) :
    out0_E_14 c i _ harg1 _ harg2 _ harg3 _ harg4 _ harg5 _ harg6 _ harg7 _ harg8 _ harg9 _ harg10 _ harg11 _ harg12 _ harg13 _ harg14 _ harg15 _ harg16 hc0 hc1 hc2 hc3 hc4 hc5 x0 x1 x2 x3 x4 x5 x6
      = k0_pay93 (F := Ideal) (rowsVal (zOp x0 x1 (groupW x2 1536 (by decide))) (groupG x4 1 (by decide)) x5 x6) := by
  unfold out0_E_14
  dsimp only [kernelRun0_E]
  refine (stored _ _ hz3 _ _).trans ?_
  have e := out_E_11 c i _ harg1 _ harg2 _ harg3 _ harg4 _ harg5 _ harg6 _ harg7 _ harg8 _ harg9 _ harg10 _ harg11 _ harg12 _ harg13 _ harg14 _ harg15 _ harg16 x0 x1 x2 x3 x4 x5 x6 hc0 hc1 hc2 hc3 hc4 hc5
  unfold out0_E_11 at e
  rw [View.read_writes_eq_canon _ _ _ (cover0_E_11 c i _ harg1 _ harg2 _ harg3 _ harg4 _ harg5 _ harg6 _ harg7 _ harg8 _ harg9 _ harg10 _ harg11 _ harg12 _ harg13 _ harg14 _ harg15 _ harg16 hc0 hc1 hc2 hc3 hc4 hc5 x0 x1 x2 x3 x4 x5 x6)] at e
  dsimp only [kernelRun0_E] at e
  rw [kernelRun0_E.sl.v1060_1, covered, e, View.ld_unit_zero (S := S256x1024) hz]

open kernelRun0_E in
/-- The rows of group 2 in case E. -/
theorem out_E_12 (hc0 : cond0_0 i) (hc1 : ¬cond0_1 i) (hc2 : cond0_2 i) (hc3 : ¬cond0_3 i) (hc4 : cond0_4 i) (hc5 : ¬cond0_5 i) :
    out0_E_12 c i _ harg1 _ harg2 _ harg3 _ harg4 _ harg5 _ harg6 _ harg7 _ harg8 _ harg9 _ harg10 _ harg11 _ harg12 _ harg13 _ harg14 _ harg15 _ harg16 hc0 hc1 hc2 hc3 hc4 hc5 x0 x1 x2 x3 x4 x5 x6
      = rowsVal (zOp x0 x1 (groupW x2 3072 (by decide))) (groupG x4 2 (by decide)) x5 x6 := by
  unfold out0_E_12
  rw [View.read_writes_eq_canon _ _ _ (fun _ => cover0_E_12 ..)]
  dsimp only [kernelRun0_E]
  simp only [sl.r, sl.r_1, sl.r_2, sl.r_66, sl.r_82, sl.r_83, sl.r_84, sl.r_85, sl.r_86, sl.r_87, sl.r_88, sl.r_89, sl.r_90, sl.r_91, sl.r_92, sl.r_93, sl.r_94, sl.r_95, sl.r_96, sl.r_97, sl.r_98, sl.H12_2, sl.cst_278, load]
  simp only [View.ld_unit_zero (S := S256x1024) hz, View.ld_unit_zero (S := S1x1024) hz, View.ld_unit_zero (S := S256x128) hz]
  rfl

/-- The tail of group 2 in case E. -/
theorem out_E_15 (hc0 : cond0_0 i) (hc1 : ¬cond0_1 i) (hc2 : cond0_2 i) (hc3 : ¬cond0_3 i) (hc4 : cond0_4 i) (hc5 : ¬cond0_5 i) :
    out0_E_15 c i _ harg1 _ harg2 _ harg3 _ harg4 _ harg5 _ harg6 _ harg7 _ harg8 _ harg9 _ harg10 _ harg11 _ harg12 _ harg13 _ harg14 _ harg15 _ harg16 hc0 hc1 hc2 hc3 hc4 hc5 x0 x1 x2 x3 x4 x5 x6
      = k0_pay141 (F := Ideal) (rowsVal (zOp x0 x1 (groupW x2 3072 (by decide))) (groupG x4 2 (by decide)) x5 x6) := by
  unfold out0_E_15
  dsimp only [kernelRun0_E]
  refine (stored _ _ hz3 _ _).trans ?_
  have e := out_E_12 c i _ harg1 _ harg2 _ harg3 _ harg4 _ harg5 _ harg6 _ harg7 _ harg8 _ harg9 _ harg10 _ harg11 _ harg12 _ harg13 _ harg14 _ harg15 _ harg16 x0 x1 x2 x3 x4 x5 x6 hc0 hc1 hc2 hc3 hc4 hc5
  unfold out0_E_12 at e
  rw [View.read_writes_eq_canon _ _ _ (cover0_E_12 c i _ harg1 _ harg2 _ harg3 _ harg4 _ harg5 _ harg6 _ harg7 _ harg8 _ harg9 _ harg10 _ harg11 _ harg12 _ harg13 _ harg14 _ harg15 _ harg16 hc0 hc1 hc2 hc3 hc4 hc5 x0 x1 x2 x3 x4 x5 x6)] at e
  dsimp only [kernelRun0_E] at e
  rw [kernelRun0_E.sl.v1060_2, covered, e, View.ld_unit_zero (S := S256x1024) hz]

end Cert.ProjCIdeal.Own

end
-- ==== Proof.ProjRow.lean ====
/-
  The input projection of the layer, row by row: its queries, its rows and its tails as functions of the argument arrays, and the
  kernel's block operations as those functions of the rows the block stages.
-/
module

public import proofs.«01_k».proof.Proof.ProjOut

@[expose] public section

noncomputable section

namespace Cert.Proj

open Idealize.ShloMosaic Idealize.ShloMosaic.TcCoe Cert.Post

/-- The rotary angle of position `s` at frequency `i`. -/
def angle (s i : ℕ) : EReal :=
  FloatOps.sitofp (F := Ideal) .f32 (BitVec.ofNat 32 s) * Ideal.pow (Ideal.ofBits .f32 0x461C4000#32)
    (Ideal.div (-FloatOps.sitofp (F := Ideal) .f32 (BitVec.ofNat 32 i)) (Ideal.ofBits .f32 0x42000000#32))

/-- Its cosine. -/
def cosAt (s : ℕ) (i : Fin 32) : EReal := Ideal.cos (angle s i.val)

/-- Its sine. -/
def sinAt (s : ℕ) (i : Fin 32) : EReal := Ideal.sin (angle s i.val)

/-- Lane `c` of a group's queries, keys or values, `p` telling which of them. -/
abbrev lane3 (g p : Fin 3) (c : Fin 512) : Fin 4608 := ⟨1536 * g.val + 512 * p.val + c.val, by omega⟩

abbrev AX : Shape := ⟨2, ![16384, 1024]⟩
abbrev AG : Shape := ⟨2, ![1, 1024]⟩
abbrev AW : Shape := ⟨2, ![1024, 4608]⟩
abbrev AQ : Shape := ⟨3, ![3, 2, 64]⟩

variable (X : AX.Idx → EReal) (G : AG.Idx → EReal) (W : AW.Idx → EReal) (Q : AQ.Idx → EReal)

/-- A token's projection: its row's RMS norm through the weights. -/
def rowZ (r : Fin 16384) (j : Fin 4608) : EReal :=
  ∑ k : Fin 1024, rms (fun k => X (ix2 r k)) (fun k => G (ix2 0 k)) k * W (ix2 k j)

/-- A token's queries (`p = 0`) or keys (`p = 1`) of a group: each head normed, scaled and turned by its position. -/
def turned (g : Fin 3) (p : Fin 2) (r : Fin 16384) (c : Fin 512) : EReal :=
  roped (headNorm (fun c => rowZ X G W r (lane3 g p.castSucc c)) (fun c => Q (ix3 g p ⟨c.val % 64, by omega⟩)))
    (cosAt (r.val % 8192)) (sinAt (r.val % 8192)) c

/-- The scaled queries of a group. -/
def queryAt (g : Fin 3) (r : Fin 16384) (c : Fin 512) : EReal := turned X G W Q g 0 r c * Ideal.ofBits .f32 0x3E000000#32

/-- The rows of a group: a token's keys beside its values. -/
def rowsAt (g : Fin 3) (r : Fin 16384) (l : Fin 1024) : EReal :=
  if h : l.val < 512 then turned X G W Q g 1 r ⟨l.val, h⟩ else rowZ X G W r (lane3 g 2 ⟨l.val - 512, by omega⟩)

/-- The row of the token `u` places into the last `win` of sequence `b`. -/
abbrev lastRow (win : ℕ) (hw : win ≤ 8192) (b : Fin 2) (u : Fin win) : Fin 16384 := ⟨b.val * 8192 + (8192 - win) + u.val, by omega⟩

end Cert.Proj

namespace Cert.ProjCIdeal.Own

open Idealize.ShloMosaic Idealize.ShloMosaic.TcCoe Idealize.SL.Sem
open Cert.ProjCIdeal Cert.ProjCIdeal.Gen Cert.Post Cert.Proj

variable {X : AX.Idx → EReal} {G : AG.Idx → EReal} {W : AW.Idx → EReal} {Q : AQ.Idx → EReal} {row : Fin 256 → Fin 16384}
  {x0 : Vec Ideal S256x1024 .f32} {x1 : Vec Ideal S1x1024 .f32} {x2 : Vec Ideal S1024x4608 .bf16} {x3 : Vec Ideal S3x512 .f32}
  {x4 : Vec Ideal S3x512 .f32} {x5 : Vec Ideal S256x128 .f32} {x6 : Vec Ideal S256x128 .f32}

/-- The staged blocks are a band of the arrays, `row` telling the band's rows. -/
structure Staged (X : AX.Idx → EReal) (G : AG.Idx → EReal) (W : AW.Idx → EReal) (Q : AQ.Idx → EReal) (row : Fin 256 → Fin 16384)
    (x0 : Vec Ideal S256x1024 .f32) (x1 : Vec Ideal S1x1024 .f32) (x2 : Vec Ideal S1024x4608 .bf16) (x3 : Vec Ideal S3x512 .f32)
    (x4 : Vec Ideal S3x512 .f32) (x5 : Vec Ideal S256x128 .f32) (x6 : Vec Ideal S256x128 .f32) : Prop where
  x a k : x0 (ix2 a k) = X (ix2 (row a) k)
  gain k : x1 (ix2 0 k) = G (ix2 0 k)
  w k j : x2 (ix2 k j) = W (ix2 k j)
  gq g (c : Fin 512) : x3 (ix2 g c) = Q (ix3 g 0 ⟨c.val % 64, by omega⟩)
  gk g (c : Fin 512) : x4 (ix2 g c) = Q (ix3 g 1 ⟨c.val % 64, by omega⟩)
  cs a (j : Fin 128) : x5 (ix2 a j) = cosAt ((row a).val % 8192) ⟨j.val % 32, by omega⟩
  sn a (j : Fin 128) : x6 (ix2 a j) = if j.val % 64 < 32 then -sinAt ((row a).val % 8192) ⟨j.val % 32, by omega⟩
    else sinAt ((row a).val % 8192) ⟨j.val % 32, by omega⟩

/-- A group's columns, read. -/
theorem groupW_apply (x2 : Vec Ideal S1024x4608 .bf16) (o : ℕ) (h : ∀ a, (![0, o] : Fin 2 → Nat) a + S1024x1536.size a ≤ S1024x4608.size a)
    (k : Fin 1024) (j : Fin 1536) (hl : o + j.val < 4608) : groupW x2 o h (ix2 k j) = x2 (ix2 k ⟨o + j.val, hl⟩) := by
  refine congrArg x2 (funext fun z => Fin.ext ?_)
  match z with
  | ⟨0, _⟩ => show 0 + 1 * k.val = k.val; omega
  | ⟨1, _⟩ => show o + 1 * j.val = o + j.val; omega

/-- A group's gains, read. -/
theorem groupG_apply (x3 : Vec Ideal S3x512 .f32) (g : ℕ) (h : ∀ a, (![g, 0] : Fin 2 → Nat) a + S1x512.size a ≤ S3x512.size a)
    (c : Fin 512) (hg : g < 3) : groupG x3 g h (ix2 0 c) = x3 (ix2 ⟨g, hg⟩ c) := by
  refine congrArg x3 (funext fun z => Fin.ext ?_)
  match z with
  | ⟨0, _⟩ => show g + 1 * 0 = g; omega
  | ⟨1, _⟩ => show 0 + 1 * c.val = c.val; omega

/-- The block's projection is the projection of its rows. -/
theorem Staged.z (S : Staged X G W Q row x0 x1 x2 x3 x4 x5 x6) (o : ℕ)
    (h : ∀ a, (![0, o] : Fin 2 → Nat) a + S1024x1536.size a ≤ S1024x4608.size a) (a : Fin 256) (j : Fin 1536) (hl : o + j.val < 4608) :
    zOp x0 x1 (groupW x2 o h) (ix2 a j) = rowZ X G W (row a) ⟨o + j.val, hl⟩ := by
  rw [zOp_apply]
  unfold rowZ
  refine Finset.sum_congr rfl fun k _ => ?_
  rw [groupW_apply x2 o h k j hl, S.w]
  simp only [S.x, S.gain]

/-- The queries are normed, turned and scaled. -/
theorem queryOp_apply (z : FVec Ideal B1536 .f32) (g : FVec Ideal G512 .f32) (cs sn : FVec Ideal B128 .f32) (a : Fin 256) (c : Fin 512) :
    queryOp z g cs sn (ix2 a c) = ropesOp (normsOp (extractStridedSlice B512 ![0, 0] z (by decide)) g) cs sn (ix2 a c)
      * Ideal.ofBits .f32 0x3E000000#32 := by
  unfold queryOp
  rw [shapeCast_self, shapeCast_self, shapeCast_self]
  rfl

/-- The keys are normed and turned. -/
theorem keyOp_eq (z : FVec Ideal B1536 .f32) (g : FVec Ideal G512 .f32) (cs sn : FVec Ideal B128 .f32) :
    keyOp z g cs sn = ropesOp (normsOp (extractStridedSlice B512 ![0, 512] z (by decide)) g) cs sn := by
  unfold keyOp
  rw [shapeCast_self, shapeCast_self, shapeCast_self]

/-- The block's queries are the queries of its rows. -/
theorem Staged.query (S : Staged X G W Q row x0 x1 x2 x3 x4 x5 x6) (g : Fin 3) (o gi : ℕ) (ho : o = 1536 * g.val) (hg : gi = g.val)
    (h : ∀ a, (![0, o] : Fin 2 → Nat) a + S1024x1536.size a ≤ S1024x4608.size a)
    (h' : ∀ a, (![gi, 0] : Fin 2 → Nat) a + S1x512.size a ≤ S3x512.size a) (a : Fin 256) (c : Fin 512) :
    queryOp (zOp x0 x1 (groupW x2 o h)) (groupG x3 gi h') x5 x6 (ix2 a c) = queryAt X G W Q g (row a) c := by
  subst ho hg
  rw [queryOp_apply, ropesOp_apply _ _ _ a _ _ (S.cs a) (S.sn a)]
  unfold queryAt turned
  simp only [normsOp_apply, groupG_apply _ _ h' _ g.isLt, S.gq]
  have e : ∀ c : Fin 512, extractStridedSlice B512 ![0, 0] (zOp x0 x1 (groupW x2 (1536 * g.val) h)) (by decide) (ix2 a c)
      = rowZ X G W (row a) (lane3 g (Fin.castSucc 0) c) := fun c => by
    have e' : extractStridedSlice B512 ![0, 0] (zOp x0 x1 (groupW x2 (1536 * g.val) h)) (by decide) (ix2 a c)
        = zOp x0 x1 (groupW x2 (1536 * g.val) h) (ix2 a ⟨c.val, by omega⟩) := by pointwise
    rw [e', S.z _ h a _ (by dsimp only; omega)]
    exact congrArg _ (Fin.ext (by show 1536 * g.val + c.val = 1536 * g.val + 512 * 0 + c.val; omega))
  simp only [e]

/-- The block's keys are the keys of its rows. -/
theorem Staged.key (S : Staged X G W Q row x0 x1 x2 x3 x4 x5 x6) (g : Fin 3) (o gi : ℕ) (ho : o = 1536 * g.val) (hg : gi = g.val)
    (h : ∀ a, (![0, o] : Fin 2 → Nat) a + S1024x1536.size a ≤ S1024x4608.size a)
    (h' : ∀ a, (![gi, 0] : Fin 2 → Nat) a + S1x512.size a ≤ S3x512.size a) (a : Fin 256) (c : Fin 512) :
    keyOp (zOp x0 x1 (groupW x2 o h)) (groupG x4 gi h') x5 x6 (ix2 a c) = turned X G W Q g 1 (row a) c := by
  subst ho hg
  rw [keyOp_eq, ropesOp_apply _ _ _ a _ _ (S.cs a) (S.sn a)]
  unfold turned
  simp only [normsOp_apply, groupG_apply _ _ h' _ g.isLt, S.gk]
  have e : ∀ c : Fin 512, extractStridedSlice B512 ![0, 512] (zOp x0 x1 (groupW x2 (1536 * g.val) h)) (by decide) (ix2 a c)
      = rowZ X G W (row a) (lane3 g (Fin.castSucc 1) c) := fun c => by
    have e' : extractStridedSlice B512 ![0, 512] (zOp x0 x1 (groupW x2 (1536 * g.val) h)) (by decide) (ix2 a c)
        = zOp x0 x1 (groupW x2 (1536 * g.val) h) (ix2 a ⟨512 + c.val, by omega⟩) := by pointwise
    rw [e', S.z _ h a _ (by dsimp only; omega)]
    exact congrArg _ (Fin.ext (by show 1536 * g.val + (512 + c.val) = 1536 * g.val + 512 * 1 + c.val; omega))
  simp only [e]

/-- The block's values are the values of its rows. -/
theorem Staged.value (S : Staged X G W Q row x0 x1 x2 x3 x4 x5 x6) (g : Fin 3) (o : ℕ) (ho : o = 1536 * g.val)
    (h : ∀ a, (![0, o] : Fin 2 → Nat) a + S1024x1536.size a ≤ S1024x4608.size a) (a : Fin 256) (c : Fin 512) :
    valueOp (zOp x0 x1 (groupW x2 o h)) (ix2 a c) = rowZ X G W (row a) (lane3 g 2 c) := by
  subst ho
  have e' : valueOp (zOp x0 x1 (groupW x2 (1536 * g.val) h)) (ix2 a c)
      = zOp x0 x1 (groupW x2 (1536 * g.val) h) (ix2 a ⟨1024 + c.val, by omega⟩) := by pointwise [valueOp]
  rw [e', S.z _ h a _ (by dsimp only; omega)]
  exact congrArg _ (Fin.ext (by show 1536 * g.val + (1024 + c.val) = 1536 * g.val + 512 * 2 + c.val; omega))

/-- The rows' first half is the keys. -/
theorem rowsVal_low (z : FVec Ideal S256x1536 .f32) (g : FVec Ideal S1x512 .f32) (cs sn : FVec Ideal S256x128 .f32) (a : Fin 256)
    (l : Fin 1024) (hl : l.val < 512) : rowsVal z g cs sn (ix2 a l) = keyOp z g cs sn (ix2 a ⟨l.val, hl⟩) := by
  unfold rowsVal rowsPieces
  rw [View.canon_cons_of_not_mem]
  · have e : ix2 a l = (Rect.unit (s := S256x1024) ![0, 0] S256x512.size (by decide)).emb (ix2 a ⟨l.val, hl⟩) :=
      funext fun z => Fin.ext (by
        match z with
        | ⟨0, _⟩ => show a.val = 0 + 1 * a.val; omega
        | ⟨1, _⟩ => show l.val = 0 + 1 * l.val; omega)
    rw [e]
    exact View.canon_cons_emb _ _ _ _
  · rw [Rect.mem_set_unit]
    intro h
    have h1 := (h 1).1
    have h2 : 512 ≤ l.val := h1
    omega

/-- The rows' second half is the values. -/
theorem rowsVal_high (z : FVec Ideal S256x1536 .f32) (g : FVec Ideal S1x512 .f32) (cs sn : FVec Ideal S256x128 .f32) (a : Fin 256)
    (l : Fin 1024) (hl : ¬ l.val < 512) : rowsVal z g cs sn (ix2 a l) = valueOp z (ix2 a ⟨l.val - 512, by omega⟩) := by
  unfold rowsVal rowsPieces
  have e : ix2 a l = (Rect.unit (s := S256x1024) ![0, 512] S256x512.size (by decide)).emb (ix2 a ⟨l.val - 512, by omega⟩) :=
    funext fun z => Fin.ext (by
      match z with
      | ⟨0, _⟩ => show a.val = 0 + 1 * a.val; omega
      | ⟨1, _⟩ => show l.val = 512 + 1 * (l.val - 512); omega)
  rw [e]
  exact View.canon_cons_emb _ _ _ _

/-- The block's rows are the rows of its tokens. -/
theorem Staged.rows (S : Staged X G W Q row x0 x1 x2 x3 x4 x5 x6) (g : Fin 3) (o gi : ℕ) (ho : o = 1536 * g.val) (hg : gi = g.val)
    (h : ∀ a, (![0, o] : Fin 2 → Nat) a + S1024x1536.size a ≤ S1024x4608.size a)
    (h' : ∀ a, (![gi, 0] : Fin 2 → Nat) a + S1x512.size a ≤ S3x512.size a) (a : Fin 256) (l : Fin 1024) :
    rowsVal (zOp x0 x1 (groupW x2 o h)) (groupG x4 gi h') x5 x6 (ix2 a l) = rowsAt X G W Q g (row a) l := by
  unfold rowsAt
  by_cases hl : l.val < 512
  · rw [dif_pos hl, rowsVal_low _ _ _ _ a l hl]
    exact S.key g o gi ho hg h h' a _
  · rw [dif_neg hl, rowsVal_high _ _ _ _ a l hl]
    exact S.value g o ho h a _

/-- A band's tail, lanes first, read. -/
theorem pay93_apply (v : Vec Ideal S256x1024 .f32) (l : Fin 1024) (u : Fin 256) : k0_pay93 (F := Ideal) v (ix3 0 l u) = v (ix2 u l) := by
  pointwise [k0_pay93]

/-- A band's tail, lanes first. -/
theorem pay141_apply (v : Vec Ideal S256x1024 .f32) (l : Fin 1024) (u : Fin 256) : k0_pay141 (F := Ideal) v (ix3 0 l u) = v (ix2 u l) :=
  pay93_apply v l u

/-- Half a band's tail, lanes first, read. -/
theorem pay50_apply (v : Vec Ideal S128x1024 .f32) (l : Fin 1024) (u : Fin 128) : k0_pay50 (F := Ideal) v (ix3 0 l u) = v (ix2 u l) := by
  pointwise [k0_pay50]

/-- The lower half of a band, read. -/
theorem half_apply (v : Vec Ideal S256x1024 .f32) (h : ∀ a, (![128, 0] : Fin 2 → Nat) a + S128x1024.size a ≤ S256x1024.size a)
    (u : Fin 128) (l : Fin 1024) :
    View.ld v (Rect.unit (s := S256x1024) ![128, 0] S128x1024.size h) (ix2 u l) = v (ix2 ⟨128 + u.val, by omega⟩ l) := by
  refine congrArg v (funext fun z => Fin.ext ?_)
  match z with
  | ⟨0, _⟩ => show 128 + 1 * u.val = 128 + u.val; omega
  | ⟨1, _⟩ => show 0 + 1 * l.val = l.val; omega

end Cert.ProjCIdeal.Own

end
-- ==== Proof.ProjHost.lean ====
/-
  The input projection's kernel: the gains and the rotary tables its region finds, read.
-/
module

public import proofs.«01_k».proof.Proof.ProjRow
public import proofs.«01_k».proof.Proof.Gen.ProjCIdeal.Value

@[expose] public section

noncomputable section

namespace Cert.ProjCIdeal.Own

open Idealize.ShloMosaic Idealize.ShloMosaic.TcCoe Idealize.SL.Sem
open Idealize.ShloMosaic.Pipeline (Dat)
open Cert.ProjCIdeal Cert.ProjCIdeal.Gen Cert.Post Cert.Proj

variable (m : (ℓ : Loc nD τ sig) → Buf (Elt Ideal) ℓ) (c : Dev nD)

/-- The argument arrays. -/
abbrev aX : AX.Idx → EReal := m ((c : Thread nD τ).loc main_arg0)
abbrev aG : AG.Idx → EReal := m ((c : Thread nD τ).loc main_arg1)
abbrev aW : AW.Idx → EReal := m ((c : Thread nD τ).loc main_arg2)
abbrev aQ : AQ.Idx → EReal := m ((c : Thread nD τ).loc main_arg3)

/-- A row of gains repeated for eight heads. -/
theorem tiled_gain (p : Fin 2) (hs : S3x1x64.Idx → EReal) (h : ∀ (g : Fin 3) (d : Fin 64), hs (ix3 g 0 d) = aQ m c (ix3 g p d))
    (g : Fin 3) (j : Fin 512) :
    (shapeCast S3x512 (broadcastInDim S1x3x8x64 ![0, 1, 2, 3] bcast_S1x3x1x64_S1x3x8x64_0_1_2_3
      (shapeCast S1x3x1x64 (shapeCast S3x64 (hs : FVec Ideal S3x1x64 .f32) shapeCasts_S3x1x64_S3x64) shapeCasts_S3x64_S1x3x1x64))
      shapeCasts_S1x3x8x64_S3x512 : FVec Ideal S3x512 .f32) (ix2 g j)
      = aQ m c (ix3 g p ⟨j.val % 64, by omega⟩) := by
  refine Eq.trans ?_ (h g _)
  pointwise

/-- The queries' gains, repeated for each head. -/
theorem V_v4 (g : Fin 3) (j : Fin 512) : (V m c main_v4 : S3x512.Idx → EReal) (ix2 g j) = aQ m c (ix3 g 0 ⟨j.val % 64, by omega⟩) := by
  unfold V
  after_reads_simp
  exact tiled_gain m c 0 _ (fun g d => by pointwise) g j

/-- The keys' gains, repeated for each head. -/
theorem V_v9 (g : Fin 3) (j : Fin 512) : (V m c main_v9 : S3x512.Idx → EReal) (ix2 g j) = aQ m c (ix3 g 1 ⟨j.val % 64, by omega⟩) := by
  unfold V
  after_reads_simp
  exact tiled_gain m c 1 _ (fun g d => by pointwise) g j

/-- Two halves side by side, repeated for two heads. -/
theorem tiled_table (A B : FVec Ideal S8192x32 .f32) (s : Fin 8192) (j : Fin 128) :
    (shapeCast S8192x128 (broadcastInDim S1x8192x2x64 ![0, 1, 2, 3] bcast_S1x8192x1x64_S1x8192x2x64_0_1_2_3
      (shapeCast S1x8192x1x64 (concatenate S8192x64 1 [⟨S8192x32, A⟩, ⟨S8192x32, B⟩] concatenates_S8192x32_S8192x32_S8192x64_d1)
        shapeCasts_S8192x64_S1x8192x1x64)) shapeCasts_S1x8192x2x64_S8192x128 : FVec Ideal S8192x128 .f32) (ix2 s j)
      = if j.val % 64 < 32 then A (ix2 s ⟨j.val % 32, by omega⟩) else B (ix2 s ⟨j.val % 32, by omega⟩) := by
  have hj := j.isLt
  have hs := s.isLt
  have e : (shapeCast S8192x128 (broadcastInDim S1x8192x2x64 ![0, 1, 2, 3] bcast_S1x8192x1x64_S1x8192x2x64_0_1_2_3
      (shapeCast S1x8192x1x64 (concatenate S8192x64 1 [⟨S8192x32, A⟩, ⟨S8192x32, B⟩] concatenates_S8192x32_S8192x32_S8192x64_d1)
        shapeCasts_S8192x64_S1x8192x1x64)) shapeCasts_S1x8192x2x64_S8192x128 : FVec Ideal S8192x128 .f32) (ix2 s j)
      = concatenate S8192x64 1 [⟨S8192x32, A⟩, ⟨S8192x32, B⟩] concatenates_S8192x32_S8192x32_S8192x64_d1 (ix2 s ⟨j.val % 64, by omega⟩) := by
    generalize concatenate S8192x64 1 [⟨S8192x32, A⟩, ⟨S8192x32, B⟩] concatenates_S8192x32_S8192x32_S8192x64_d1 = T
    pointwise
  rw [e]
  by_cases h : j.val % 64 < 32
  · rw [if_pos h]
    have e1 : concatenate S8192x64 1 [⟨S8192x32, A⟩, ⟨S8192x32, B⟩] concatenates_S8192x32_S8192x32_S8192x64_d1 (ix2 s ⟨j.val % 64, by omega⟩)
      = A (ix2 s ⟨j.val % 64, h⟩) := by
      pointwise
      exact dif_pos h
    exact e1.trans (congrArg (fun l => A (ix2 s l)) (Fin.ext (by show j.val % 64 = j.val % 32; omega)))
  · rw [if_neg h]
    have e1 : concatenate S8192x64 1 [⟨S8192x32, A⟩, ⟨S8192x32, B⟩] concatenates_S8192x32_S8192x32_S8192x64_d1 (ix2 s ⟨j.val % 64, by omega⟩)
      = B (ix2 s ⟨j.val % 64 - 32, by omega⟩) := by
      pointwise
      exact dif_neg h
    exact e1.trans (congrArg (fun l => B (ix2 s l)) (Fin.ext (by show j.val % 64 - 32 = j.val % 32; omega)))

/-- The angles' table. -/
theorem angles_apply (s : Fin 8192) (i : Fin 32) :
    (mulf (broadcastInDim S8192x32 ![0, 1] bcast_S8192x1_S8192x32_0_1 (broadcastInDim S8192x1 ![0] bcast_S8192_S8192x1_0
        (sitofp .f32 (iotaInDim S8192 32 0) : FVec Ideal S8192 .f32)))
      (broadcastInDim S8192x32 ![0, 1] bcast_S1x32_S8192x32_0_1 (broadcastInDim S1x32 ![1] bcast_S32_S1x32_1
        (Host.powf (broadcastInDim S32 ![] bcast_S_S32 (constant S_ .f32 0x461C4000#32))
          (Host.divf (Host.negf (sitofp .f32 (iotaInDim S32 32 0) : FVec Ideal S32 .f32)) (broadcastInDim S32 ![] bcast_S_S32 (constant S_ .f32 0x42000000#32))))))
      : FVec Ideal S8192x32 .f32) (ix2 s i) = angle s.val i.val := by
  pointwise
  rfl

/-- The table of cosines. -/
theorem V_v28 (s : Fin 8192) (j : Fin 128) : (V m c main_v28 : S8192x128.Idx → EReal) (ix2 s j) = cosAt s.val ⟨j.val % 32, by omega⟩ := by
  unfold V
  after_reads_simp
  refine (tiled_table _ _ s j).trans ?_
  rw [ite_self]
  exact congrArg Ideal.cos (angles_apply s _)

/-- The table of signed sines. -/
theorem V_v33 (s : Fin 8192) (j : Fin 128) : (V m c main_v33 : S8192x128.Idx → EReal) (ix2 s j)
    = if j.val % 64 < 32 then -sinAt s.val ⟨j.val % 32, by omega⟩ else sinAt s.val ⟨j.val % 32, by omega⟩ := by
  unfold V
  after_reads_simp
  refine (tiled_table _ _ s j).trans ?_
  refine if_congr Iff.rfl ?_ ?_
  · exact congrArg (fun v => -Ideal.sin v) (angles_apply s _)
  · exact congrArg Ideal.sin (angles_apply s _)

end Cert.ProjCIdeal.Own

end
-- ==== Proof.ProjKernel.lean ====
/-
  The input projection's kernel: what its nine result arrays hold after the run, at the ideal values, row by row as the mathematics of
  the argument arrays.
-/
module

public import proofs.«01_k».proof.Proof.ProjHost

@[expose] public section

set_option maxRecDepth 16384

noncomputable section

namespace Cert.ProjCIdeal.Own

open Idealize.ShloMosaic Idealize.ShloMosaic.TcCoe Idealize.SL.Sem
open Idealize.ShloMosaic.Pipeline (Dat)
open Cert.ProjCIdeal Cert.ProjCIdeal.Gen Cert.Post Cert.Proj

variable (m : (ℓ : Loc nD τ sig) → Buf (Elt Ideal) ℓ) (ρ : Dev nD → PrngReg) (c : Dev nD)

/-! ## The staged blocks are a band of the arguments -/

/-- Where window 0's block of a grid point lies. -/
theorem index0 : ∀ t : Fin cfg0.N, win0_0.index t 0 = t.val ∧ win0_0.index t 1 = 0 :=
  by change ∀ t : Fin grid0.N, _; decide +kernel

/-- Where window 1's block of a grid point lies. -/
theorem index1 : ∀ t : Fin cfg0.N, win0_1.index t 0 = 0 ∧ win0_1.index t 1 = 0 :=
  by change ∀ t : Fin grid0.N, _; decide +kernel

/-- Where window 2's block of a grid point lies. -/
theorem index2 : ∀ t : Fin cfg0.N, win0_2.index t 0 = 0 ∧ win0_2.index t 1 = 0 :=
  by change ∀ t : Fin grid0.N, _; decide +kernel

/-- Where window 3's block of a grid point lies. -/
theorem index3 : ∀ t : Fin cfg0.N, win0_3.index t 0 = 0 ∧ win0_3.index t 1 = 0 :=
  by change ∀ t : Fin grid0.N, _; decide +kernel

/-- Where window 4's block of a grid point lies. -/
theorem index4 : ∀ t : Fin cfg0.N, win0_4.index t 0 = 0 ∧ win0_4.index t 1 = 0 :=
  by change ∀ t : Fin grid0.N, _; decide +kernel

/-- Where window 5's block of a grid point lies. -/
theorem index5 : ∀ t : Fin cfg0.N, win0_5.index t 0 = t.val % 32 ∧ win0_5.index t 1 = 0 :=
  by change ∀ t : Fin grid0.N, _; decide +kernel

/-- Where window 6's block of a grid point lies. -/
theorem index6 : ∀ t : Fin cfg0.N, win0_6.index t 0 = t.val % 32 ∧ win0_6.index t 1 = 0 :=
  by change ∀ t : Fin grid0.N, _; decide +kernel

/-- Where window 7's block of a grid point lies. -/
theorem index7 : ∀ t : Fin cfg0.N, win0_7.index t 0 = t.val ∧ win0_7.index t 1 = 0 :=
  by change ∀ t : Fin grid0.N, _; decide +kernel

/-- Where window 8's block of a grid point lies. -/
theorem index8 : ∀ t : Fin cfg0.N, win0_8.index t 0 = t.val ∧ win0_8.index t 1 = 0 :=
  by change ∀ t : Fin grid0.N, _; decide +kernel

/-- Where window 9's block of a grid point lies. -/
theorem index9 : ∀ t : Fin cfg0.N, win0_9.index t 0 = t.val ∧ win0_9.index t 1 = 0 :=
  by change ∀ t : Fin grid0.N, _; decide +kernel

/-- Where window 10's block of a grid point lies. -/
theorem index10 : ∀ t : Fin cfg0.N, win0_10.index t 0 = t.val ∧ win0_10.index t 1 = 0 :=
  by change ∀ t : Fin grid0.N, _; decide +kernel

/-- Where window 11's block of a grid point lies. -/
theorem index11 : ∀ t : Fin cfg0.N, win0_11.index t 0 = t.val ∧ win0_11.index t 1 = 0 :=
  by change ∀ t : Fin grid0.N, _; decide +kernel

/-- Where window 12's block of a grid point lies. -/
theorem index12 : ∀ t : Fin cfg0.N, win0_12.index t 0 = t.val ∧ win0_12.index t 1 = 0 :=
  by change ∀ t : Fin grid0.N, _; decide +kernel

/-- Where window 13's block of a grid point that writes it lies. -/
theorem index13 : ∀ t : Fin cfg0.N, 31 ≤ t.val % 32 → win0_13.index t 0 = t.val / 32 ∧ win0_13.index t 1 = 0 ∧ win0_13.index t 2 = t.val % 32 - 31 :=
  by change ∀ t : Fin grid0.N, _; decide +kernel

/-- Where window 14's block of a grid point that writes it lies. -/
theorem index14 : ∀ t : Fin cfg0.N, 30 ≤ t.val % 32 → win0_14.index t 0 = t.val / 32 ∧ win0_14.index t 1 = 0 ∧ win0_14.index t 2 = t.val % 32 - 30 :=
  by change ∀ t : Fin grid0.N, _; decide +kernel

/-- Where window 15's block of a grid point that writes it lies. -/
theorem index15 : ∀ t : Fin cfg0.N, 24 ≤ t.val % 32 → win0_15.index t 0 = t.val / 32 ∧ win0_15.index t 1 = 0 ∧ win0_15.index t 2 = t.val % 32 - 24 :=
  by change ∀ t : Fin grid0.N, _; decide +kernel

/-- The row of the arrays that row `a` of a grid point's band is. -/
def rowAt (t : Fin cfg0.N) (a : Fin 256) : Fin 16384 := ⟨t.val * 256 + a.val, by
  have h : t.val < 64 := lt_of_lt_of_eq t.isLt N_0
  omega⟩

/-- The row of the rotary tables that row `a` of a grid point's band meets. -/
theorem table_row (t : Fin cfg0.N) (a : Fin 256) : t.val % 32 * 256 + a.val < 8192 := by omega

/-- A row's place in its sequence. -/
theorem row_mod (t : Fin cfg0.N) (a : Fin 256) : (rowAt t a).val % 8192 = t.val % 32 * 256 + a.val := by
  show (t.val * 256 + a.val) % 8192 = _
  omega

/-- Window 0's block, read. -/
theorem blk0 (t : Fin cfg0.N) (a : Fin 256) (l : Fin 1024) :
    iblk m c 0 t (ix2 a l) = (m ((c : Thread nD τ).loc main_arg0) : S16384x1024.Idx → EReal) (ix2 (rowAt t a) l) := by
  unfold iblk
  rw [View.read_apply]
  refine congrArg (m ((c : Thread nD τ).loc main_arg0)) (funext fun z => Fin.ext ?_)
  match z with
  | ⟨0, _⟩ =>
    show win0_0.index t 0 * 256 + 1 * a.val = t.val * 256 + a.val
    rw [(index0 t).1]; omega
  | ⟨1, _⟩ =>
    show win0_0.index t 1 * 1024 + 1 * l.val = l.val
    rw [(index0 t).2]; omega

/-- Window 1's block, read. -/
theorem blk1 (t : Fin cfg0.N) (a : Fin 1) (l : Fin 1024) :
    iblk m c 1 t (ix2 a l) = (m ((c : Thread nD τ).loc main_arg1) : S1x1024.Idx → EReal) (ix2 (a) l) := by
  unfold iblk
  rw [View.read_apply]
  refine congrArg (m ((c : Thread nD τ).loc main_arg1)) (funext fun z => Fin.ext ?_)
  match z with
  | ⟨0, _⟩ =>
    show win0_1.index t 0 * 1 + 1 * a.val = a.val
    rw [(index1 t).1]; omega
  | ⟨1, _⟩ =>
    show win0_1.index t 1 * 1024 + 1 * l.val = l.val
    rw [(index1 t).2]; omega

/-- Window 2's block, read. -/
theorem blk2 (t : Fin cfg0.N) (a : Fin 1024) (l : Fin 4608) :
    iblk m c 2 t (ix2 a l) = (m ((c : Thread nD τ).loc main_arg2) : S1024x4608.Idx → EReal) (ix2 (a) l) := by
  unfold iblk
  rw [View.read_apply]
  refine congrArg (m ((c : Thread nD τ).loc main_arg2)) (funext fun z => Fin.ext ?_)
  match z with
  | ⟨0, _⟩ =>
    show win0_2.index t 0 * 1024 + 1 * a.val = a.val
    rw [(index2 t).1]; omega
  | ⟨1, _⟩ =>
    show win0_2.index t 1 * 4608 + 1 * l.val = l.val
    rw [(index2 t).2]; omega

/-- Window 3's block, read. -/
theorem blk3 (t : Fin cfg0.N) (a : Fin 3) (l : Fin 512) :
    iblk m c 3 t (ix2 a l) = (V m c main_v4 : S3x512.Idx → EReal) (ix2 a l) := by
  unfold iblk
  rw [View.read_apply]
  refine congrArg (V m c main_v4) (funext fun z => Fin.ext ?_)
  match z with
  | ⟨0, _⟩ =>
    show win0_3.index t 0 * 3 + 1 * a.val = a.val
    rw [(index3 t).1]; omega
  | ⟨1, _⟩ =>
    show win0_3.index t 1 * 512 + 1 * l.val = l.val
    rw [(index3 t).2]; omega

/-- Window 4's block, read. -/
theorem blk4 (t : Fin cfg0.N) (a : Fin 3) (l : Fin 512) :
    iblk m c 4 t (ix2 a l) = (V m c main_v9 : S3x512.Idx → EReal) (ix2 a l) := by
  unfold iblk
  rw [View.read_apply]
  refine congrArg (V m c main_v9) (funext fun z => Fin.ext ?_)
  match z with
  | ⟨0, _⟩ =>
    show win0_4.index t 0 * 3 + 1 * a.val = a.val
    rw [(index4 t).1]; omega
  | ⟨1, _⟩ =>
    show win0_4.index t 1 * 512 + 1 * l.val = l.val
    rw [(index4 t).2]; omega

/-- Window 5's block, read. -/
theorem blk5 (t : Fin cfg0.N) (a : Fin 256) (l : Fin 128) :
    iblk m c 5 t (ix2 a l) = (V m c main_v28 : S8192x128.Idx → EReal) (ix2 ⟨_, table_row t a⟩ l) := by
  unfold iblk
  rw [View.read_apply]
  refine congrArg (V m c main_v28) (funext fun z => Fin.ext ?_)
  match z with
  | ⟨0, _⟩ =>
    show win0_5.index t 0 * 256 + 1 * a.val = t.val % 32 * 256 + a.val
    rw [(index5 t).1]; omega
  | ⟨1, _⟩ =>
    show win0_5.index t 1 * 128 + 1 * l.val = l.val
    rw [(index5 t).2]; omega

/-- Window 6's block, read. -/
theorem blk6 (t : Fin cfg0.N) (a : Fin 256) (l : Fin 128) :
    iblk m c 6 t (ix2 a l) = (V m c main_v33 : S8192x128.Idx → EReal) (ix2 ⟨_, table_row t a⟩ l) := by
  unfold iblk
  rw [View.read_apply]
  refine congrArg (V m c main_v33) (funext fun z => Fin.ext ?_)
  match z with
  | ⟨0, _⟩ =>
    show win0_6.index t 0 * 256 + 1 * a.val = t.val % 32 * 256 + a.val
    rw [(index6 t).1]; omega
  | ⟨1, _⟩ =>
    show win0_6.index t 1 * 128 + 1 * l.val = l.val
    rw [(index6 t).2]; omega

/-- At every grid point the staged blocks are its band of the arguments. -/
theorem staged (t : Fin cfg0.N) : Staged (aX m c) (aG m c) (aW m c) (aQ m c) (rowAt t) (iblk m c 0 t) (iblk m c 1 t) (iblk m c 2 t) (iblk m c 3 t)
    (iblk m c 4 t) (iblk m c 5 t) (iblk m c 6 t) where
  x a k := blk0 m c t a k
  gain k := blk1 m c t 0 k
  w k j := blk2 m c t k j
  gq g j := (blk3 m c t g j).trans (V_v4 m c g j)
  gk g j := (blk4 m c t g j).trans (V_v9 m c g j)
  cs a j := by
    rw [row_mod]
    exact (blk5 m c t a j).trans (V_v28 m c _ j)
  sn a j := by
    rw [row_mod]
    exact (blk6 m c t a j).trans (V_v33 m c _ j)

/-! ## The result arrays -/

/-- The queries of group 0. -/
def res7 : S16384x512.Idx → EReal := fun k => queryAt (aX m c) (aG m c) (aW m c) (aQ m c) 0 (k 0) (k 1)

/-- The queries of group 1. -/
def res8 : S16384x512.Idx → EReal := fun k => queryAt (aX m c) (aG m c) (aW m c) (aQ m c) 1 (k 0) (k 1)

/-- The queries of group 2. -/
def res9 : S16384x512.Idx → EReal := fun k => queryAt (aX m c) (aG m c) (aW m c) (aQ m c) 2 (k 0) (k 1)

/-- The rows of group 0. -/
def res10 : S16384x1024.Idx → EReal := fun k => rowsAt (aX m c) (aG m c) (aW m c) (aQ m c) 0 (k 0) (k 1)

/-- The rows of group 1. -/
def res11 : S16384x1024.Idx → EReal := fun k => rowsAt (aX m c) (aG m c) (aW m c) (aQ m c) 1 (k 0) (k 1)

/-- The rows of group 2. -/
def res12 : S16384x1024.Idx → EReal := fun k => rowsAt (aX m c) (aG m c) (aW m c) (aQ m c) 2 (k 0) (k 1)

/-- The tail of group 0, lanes first. -/
def res13 : S2x1024x128.Idx → EReal := fun k => rowsAt (aX m c) (aG m c) (aW m c) (aQ m c) 0 (lastRow 128 (by decide) (k 0) (k 2)) (k 1)

/-- The tail of group 1, lanes first. -/
def res14 : S2x1024x512.Idx → EReal := fun k => rowsAt (aX m c) (aG m c) (aW m c) (aQ m c) 1 (lastRow 512 (by decide) (k 0) (k 2)) (k 1)

/-- The tail of group 2, lanes first. -/
def res15 : S2x1024x2048.Idx → EReal := fun k => rowsAt (aX m c) (aG m c) (aW m c) (aQ m c) 2 (lastRow 2048 (by decide) (k 0) (k 2)) (k 1)

/-! ## What each grid point writes back -/

/-- What a grid point writes back to window 7. -/
theorem flushed7_val (t : Fin cfg0.N) : (dats m 0 c).flushed 7 t = (cfg0.win 7).cut (grid0.coords t)
    (queryOp (zOp (iblk m c 0 t) (iblk m c 1 t) (groupW (iblk m c 2 t) 0 (by decide))) (groupG (iblk m c 3 t) 0 (by decide)) (iblk m c 5 t) (iblk m c 6 t)) := by
  have h : t.val % 32 = 0 ∨ (1 ≤ t.val % 32 ∧ t.val % 32 ≤ 23) ∨ (24 ≤ t.val % 32 ∧ t.val % 32 ≤ 29) ∨ t.val % 32 = 30 ∨ t.val % 32 = 31 := by omega
  rcases h with h | h | h | h | h
  · rw [Value.flushed7_A m c t (by omega) (by omega) (by omega) (by omega) (by omega) (by omega), out_A_7]
  · rw [Value.flushed7_B m c t (by omega) (by omega) (by omega) (by omega) (by omega) (by omega), out_B_7]
  · rw [Value.flushed7_C m c t (by omega) (by omega) (by omega) (by omega) (by omega) (by omega), out_C_7]
  · rw [Value.flushed7_D m c t (by omega) (by omega) (by omega) (by omega) (by omega) (by omega), out_D_7]
  · rw [Value.flushed7_E m c t (by omega) (by omega) (by omega) (by omega) (by omega) (by omega), out_E_7]

/-- It is its band of the result. -/
theorem flushed7_eq (t : Fin cfg0.N) : (dats m 0 c).flushed 7 t = ((cfg0.win 7).blk t).view.read (Elt Ideal) (res7 m c) := by
  rw [flushed7_val]
  refine funext fun y => ?_
  rw [View.read_apply]
  have ek : ((cfg0.win 7).blk t).view.emb y = ix2 (rowAt t (y 0)) (y 1) := funext fun z => Fin.ext (by
    match z with
    | ⟨0, _⟩ =>
      show win0_7.index t 0 * 256 + 1 * (y 0).val = t.val * 256 + (y 0).val
      rw [(index7 t).1]; omega
    | ⟨1, _⟩ =>
      show win0_7.index t 1 * 512 + 1 * (y 1).val = (y 1).val
      rw [(index7 t).2]; omega)
  rw [ek]
  refine (congrArg (queryOp (zOp (iblk m c 0 t) (iblk m c 1 t) (groupW (iblk m c 2 t) 0 (by decide))) (groupG (iblk m c 3 t) 0 (by decide)) (iblk m c 5 t) (iblk m c 6 t))
    (eq_ix2 (n0 := 256) (n1 := 512) y)).trans ?_
  exact (staged m c t).query 0 _ _ (by decide) rfl _ _ (y 0) (y 1)

/-- Every grid point writes it back. -/
theorem flush7 : ∀ t : Fin cfg0.N, (cfg0.win 7).flush t = true := (by decide +kernel : ∀ t : Fin grid0.N, win0_7.flush t = true)

/-- The array after the run. -/
theorem final7 : (dats m 0 c).arrAt 7 cfg0.N = res7 m c :=
  (dats m 0 c).arrAt_eq_of_cover 7 (res7 m c) (fun t _ => flushed7_eq m c t) fun k => by
    have h0 : (k 0).val < 16384 := (k 0).isLt
    have h1 : (k 1).val < 512 := (k 1).isLt
    have hN : cfg0.N = 64 := N_0
    refine ⟨⟨(k 0).val / 256, by omega⟩, flush7 _, ?_⟩
    have hi := index7 ⟨(k 0).val / 256, by omega⟩
    generalize ht : (⟨(k 0).val / 256, by omega⟩ : Fin cfg0.N) = t at hi ⊢
    have hv : t.val = (k 0).val / 256 := by rw [← ht]
    rw [hv] at hi
    show k ∈ ((View.whole main_v34_0).slice (win0_7.rect t)).set
    rw [View.set_slice_whole, Rect.mem_set_unit]
    intro a
    match a with
    | ⟨0, _⟩ =>
      show win0_7.index t 0 * 256 ≤ (k 0).val ∧ (k 0).val < win0_7.index t 0 * 256 + 256
      rw [hi.1]; omega
    | ⟨1, _⟩ =>
      show win0_7.index t 1 * 512 ≤ (k 1).val ∧ (k 1).val < win0_7.index t 1 * 512 + 512
      rw [hi.2]; omega

/-- What a grid point writes back to window 8. -/
theorem flushed8_val (t : Fin cfg0.N) : (dats m 0 c).flushed 8 t = (cfg0.win 8).cut (grid0.coords t)
    (queryOp (zOp (iblk m c 0 t) (iblk m c 1 t) (groupW (iblk m c 2 t) 1536 (by decide))) (groupG (iblk m c 3 t) 1 (by decide)) (iblk m c 5 t) (iblk m c 6 t)) := by
  have h : t.val % 32 = 0 ∨ (1 ≤ t.val % 32 ∧ t.val % 32 ≤ 23) ∨ (24 ≤ t.val % 32 ∧ t.val % 32 ≤ 29) ∨ t.val % 32 = 30 ∨ t.val % 32 = 31 := by omega
  rcases h with h | h | h | h | h
  · rw [Value.flushed8_A m c t (by omega) (by omega) (by omega) (by omega) (by omega) (by omega), out_A_8]
  · rw [Value.flushed8_B m c t (by omega) (by omega) (by omega) (by omega) (by omega) (by omega), out_B_8]
  · rw [Value.flushed8_C m c t (by omega) (by omega) (by omega) (by omega) (by omega) (by omega), out_C_8]
  · rw [Value.flushed8_D m c t (by omega) (by omega) (by omega) (by omega) (by omega) (by omega), out_D_8]
  · rw [Value.flushed8_E m c t (by omega) (by omega) (by omega) (by omega) (by omega) (by omega), out_E_8]

/-- It is its band of the result. -/
theorem flushed8_eq (t : Fin cfg0.N) : (dats m 0 c).flushed 8 t = ((cfg0.win 8).blk t).view.read (Elt Ideal) (res8 m c) := by
  rw [flushed8_val]
  refine funext fun y => ?_
  rw [View.read_apply]
  have ek : ((cfg0.win 8).blk t).view.emb y = ix2 (rowAt t (y 0)) (y 1) := funext fun z => Fin.ext (by
    match z with
    | ⟨0, _⟩ =>
      show win0_8.index t 0 * 256 + 1 * (y 0).val = t.val * 256 + (y 0).val
      rw [(index8 t).1]; omega
    | ⟨1, _⟩ =>
      show win0_8.index t 1 * 512 + 1 * (y 1).val = (y 1).val
      rw [(index8 t).2]; omega)
  rw [ek]
  refine (congrArg (queryOp (zOp (iblk m c 0 t) (iblk m c 1 t) (groupW (iblk m c 2 t) 1536 (by decide))) (groupG (iblk m c 3 t) 1 (by decide)) (iblk m c 5 t) (iblk m c 6 t))
    (eq_ix2 (n0 := 256) (n1 := 512) y)).trans ?_
  exact (staged m c t).query 1 _ _ (by decide) rfl _ _ (y 0) (y 1)

/-- Every grid point writes it back. -/
theorem flush8 : ∀ t : Fin cfg0.N, (cfg0.win 8).flush t = true := (by decide +kernel : ∀ t : Fin grid0.N, win0_8.flush t = true)

/-- The array after the run. -/
theorem final8 : (dats m 0 c).arrAt 8 cfg0.N = res8 m c :=
  (dats m 0 c).arrAt_eq_of_cover 8 (res8 m c) (fun t _ => flushed8_eq m c t) fun k => by
    have h0 : (k 0).val < 16384 := (k 0).isLt
    have h1 : (k 1).val < 512 := (k 1).isLt
    have hN : cfg0.N = 64 := N_0
    refine ⟨⟨(k 0).val / 256, by omega⟩, flush8 _, ?_⟩
    have hi := index8 ⟨(k 0).val / 256, by omega⟩
    generalize ht : (⟨(k 0).val / 256, by omega⟩ : Fin cfg0.N) = t at hi ⊢
    have hv : t.val = (k 0).val / 256 := by rw [← ht]
    rw [hv] at hi
    show k ∈ ((View.whole main_v34_1).slice (win0_8.rect t)).set
    rw [View.set_slice_whole, Rect.mem_set_unit]
    intro a
    match a with
    | ⟨0, _⟩ =>
      show win0_8.index t 0 * 256 ≤ (k 0).val ∧ (k 0).val < win0_8.index t 0 * 256 + 256
      rw [hi.1]; omega
    | ⟨1, _⟩ =>
      show win0_8.index t 1 * 512 ≤ (k 1).val ∧ (k 1).val < win0_8.index t 1 * 512 + 512
      rw [hi.2]; omega

/-- What a grid point writes back to window 9. -/
theorem flushed9_val (t : Fin cfg0.N) : (dats m 0 c).flushed 9 t = (cfg0.win 9).cut (grid0.coords t)
    (queryOp (zOp (iblk m c 0 t) (iblk m c 1 t) (groupW (iblk m c 2 t) 3072 (by decide))) (groupG (iblk m c 3 t) 2 (by decide)) (iblk m c 5 t) (iblk m c 6 t)) := by
  have h : t.val % 32 = 0 ∨ (1 ≤ t.val % 32 ∧ t.val % 32 ≤ 23) ∨ (24 ≤ t.val % 32 ∧ t.val % 32 ≤ 29) ∨ t.val % 32 = 30 ∨ t.val % 32 = 31 := by omega
  rcases h with h | h | h | h | h
  · rw [Value.flushed9_A m c t (by omega) (by omega) (by omega) (by omega) (by omega) (by omega), out_A_9]
  · rw [Value.flushed9_B m c t (by omega) (by omega) (by omega) (by omega) (by omega) (by omega), out_B_9]
  · rw [Value.flushed9_C m c t (by omega) (by omega) (by omega) (by omega) (by omega) (by omega), out_C_9]
  · rw [Value.flushed9_D m c t (by omega) (by omega) (by omega) (by omega) (by omega) (by omega), out_D_9]
  · rw [Value.flushed9_E m c t (by omega) (by omega) (by omega) (by omega) (by omega) (by omega), out_E_9]

/-- It is its band of the result. -/
theorem flushed9_eq (t : Fin cfg0.N) : (dats m 0 c).flushed 9 t = ((cfg0.win 9).blk t).view.read (Elt Ideal) (res9 m c) := by
  rw [flushed9_val]
  refine funext fun y => ?_
  rw [View.read_apply]
  have ek : ((cfg0.win 9).blk t).view.emb y = ix2 (rowAt t (y 0)) (y 1) := funext fun z => Fin.ext (by
    match z with
    | ⟨0, _⟩ =>
      show win0_9.index t 0 * 256 + 1 * (y 0).val = t.val * 256 + (y 0).val
      rw [(index9 t).1]; omega
    | ⟨1, _⟩ =>
      show win0_9.index t 1 * 512 + 1 * (y 1).val = (y 1).val
      rw [(index9 t).2]; omega)
  rw [ek]
  refine (congrArg (queryOp (zOp (iblk m c 0 t) (iblk m c 1 t) (groupW (iblk m c 2 t) 3072 (by decide))) (groupG (iblk m c 3 t) 2 (by decide)) (iblk m c 5 t) (iblk m c 6 t))
    (eq_ix2 (n0 := 256) (n1 := 512) y)).trans ?_
  exact (staged m c t).query 2 _ _ (by decide) rfl _ _ (y 0) (y 1)

/-- Every grid point writes it back. -/
theorem flush9 : ∀ t : Fin cfg0.N, (cfg0.win 9).flush t = true := (by decide +kernel : ∀ t : Fin grid0.N, win0_9.flush t = true)

/-- The array after the run. -/
theorem final9 : (dats m 0 c).arrAt 9 cfg0.N = res9 m c :=
  (dats m 0 c).arrAt_eq_of_cover 9 (res9 m c) (fun t _ => flushed9_eq m c t) fun k => by
    have h0 : (k 0).val < 16384 := (k 0).isLt
    have h1 : (k 1).val < 512 := (k 1).isLt
    have hN : cfg0.N = 64 := N_0
    refine ⟨⟨(k 0).val / 256, by omega⟩, flush9 _, ?_⟩
    have hi := index9 ⟨(k 0).val / 256, by omega⟩
    generalize ht : (⟨(k 0).val / 256, by omega⟩ : Fin cfg0.N) = t at hi ⊢
    have hv : t.val = (k 0).val / 256 := by rw [← ht]
    rw [hv] at hi
    show k ∈ ((View.whole main_v34_2).slice (win0_9.rect t)).set
    rw [View.set_slice_whole, Rect.mem_set_unit]
    intro a
    match a with
    | ⟨0, _⟩ =>
      show win0_9.index t 0 * 256 ≤ (k 0).val ∧ (k 0).val < win0_9.index t 0 * 256 + 256
      rw [hi.1]; omega
    | ⟨1, _⟩ =>
      show win0_9.index t 1 * 512 ≤ (k 1).val ∧ (k 1).val < win0_9.index t 1 * 512 + 512
      rw [hi.2]; omega

/-- What a grid point writes back to window 10. -/
theorem flushed10_val (t : Fin cfg0.N) : (dats m 0 c).flushed 10 t = (cfg0.win 10).cut (grid0.coords t)
    (rowsVal (zOp (iblk m c 0 t) (iblk m c 1 t) (groupW (iblk m c 2 t) 0 (by decide))) (groupG (iblk m c 4 t) 0 (by decide)) (iblk m c 5 t) (iblk m c 6 t)) := by
  have h : t.val % 32 = 0 ∨ (1 ≤ t.val % 32 ∧ t.val % 32 ≤ 23) ∨ (24 ≤ t.val % 32 ∧ t.val % 32 ≤ 29) ∨ t.val % 32 = 30 ∨ t.val % 32 = 31 := by omega
  rcases h with h | h | h | h | h
  · rw [Value.flushed10_A m c t (by omega) (by omega) (by omega) (by omega) (by omega) (by omega), out_A_10]
  · rw [Value.flushed10_B m c t (by omega) (by omega) (by omega) (by omega) (by omega) (by omega), out_B_10]
  · rw [Value.flushed10_C m c t (by omega) (by omega) (by omega) (by omega) (by omega) (by omega), out_C_10]
  · rw [Value.flushed10_D m c t (by omega) (by omega) (by omega) (by omega) (by omega) (by omega), out_D_10]
  · rw [Value.flushed10_E m c t (by omega) (by omega) (by omega) (by omega) (by omega) (by omega), out_E_10]

/-- It is its band of the result. -/
theorem flushed10_eq (t : Fin cfg0.N) : (dats m 0 c).flushed 10 t = ((cfg0.win 10).blk t).view.read (Elt Ideal) (res10 m c) := by
  rw [flushed10_val]
  refine funext fun y => ?_
  rw [View.read_apply]
  have ek : ((cfg0.win 10).blk t).view.emb y = ix2 (rowAt t (y 0)) (y 1) := funext fun z => Fin.ext (by
    match z with
    | ⟨0, _⟩ =>
      show win0_10.index t 0 * 256 + 1 * (y 0).val = t.val * 256 + (y 0).val
      rw [(index10 t).1]; omega
    | ⟨1, _⟩ =>
      show win0_10.index t 1 * 1024 + 1 * (y 1).val = (y 1).val
      rw [(index10 t).2]; omega)
  rw [ek]
  refine (congrArg (rowsVal (zOp (iblk m c 0 t) (iblk m c 1 t) (groupW (iblk m c 2 t) 0 (by decide))) (groupG (iblk m c 4 t) 0 (by decide)) (iblk m c 5 t) (iblk m c 6 t))
    (eq_ix2 (n0 := 256) (n1 := 1024) y)).trans ?_
  exact (staged m c t).rows 0 _ _ (by decide) rfl _ _ (y 0) (y 1)

/-- Every grid point writes it back. -/
theorem flush10 : ∀ t : Fin cfg0.N, (cfg0.win 10).flush t = true := (by decide +kernel : ∀ t : Fin grid0.N, win0_10.flush t = true)

/-- The array after the run. -/
theorem final10 : (dats m 0 c).arrAt 10 cfg0.N = res10 m c :=
  (dats m 0 c).arrAt_eq_of_cover 10 (res10 m c) (fun t _ => flushed10_eq m c t) fun k => by
    have h0 : (k 0).val < 16384 := (k 0).isLt
    have h1 : (k 1).val < 1024 := (k 1).isLt
    have hN : cfg0.N = 64 := N_0
    refine ⟨⟨(k 0).val / 256, by omega⟩, flush10 _, ?_⟩
    have hi := index10 ⟨(k 0).val / 256, by omega⟩
    generalize ht : (⟨(k 0).val / 256, by omega⟩ : Fin cfg0.N) = t at hi ⊢
    have hv : t.val = (k 0).val / 256 := by rw [← ht]
    rw [hv] at hi
    show k ∈ ((View.whole main_v34_3).slice (win0_10.rect t)).set
    rw [View.set_slice_whole, Rect.mem_set_unit]
    intro a
    match a with
    | ⟨0, _⟩ =>
      show win0_10.index t 0 * 256 ≤ (k 0).val ∧ (k 0).val < win0_10.index t 0 * 256 + 256
      rw [hi.1]; omega
    | ⟨1, _⟩ =>
      show win0_10.index t 1 * 1024 ≤ (k 1).val ∧ (k 1).val < win0_10.index t 1 * 1024 + 1024
      rw [hi.2]; omega

/-- What a grid point writes back to window 11. -/
theorem flushed11_val (t : Fin cfg0.N) : (dats m 0 c).flushed 11 t = (cfg0.win 11).cut (grid0.coords t)
    (rowsVal (zOp (iblk m c 0 t) (iblk m c 1 t) (groupW (iblk m c 2 t) 1536 (by decide))) (groupG (iblk m c 4 t) 1 (by decide)) (iblk m c 5 t) (iblk m c 6 t)) := by
  have h : t.val % 32 = 0 ∨ (1 ≤ t.val % 32 ∧ t.val % 32 ≤ 23) ∨ (24 ≤ t.val % 32 ∧ t.val % 32 ≤ 29) ∨ t.val % 32 = 30 ∨ t.val % 32 = 31 := by omega
  rcases h with h | h | h | h | h
  · rw [Value.flushed11_A m c t (by omega) (by omega) (by omega) (by omega) (by omega) (by omega), out_A_11]
  · rw [Value.flushed11_B m c t (by omega) (by omega) (by omega) (by omega) (by omega) (by omega), out_B_11]
  · rw [Value.flushed11_C m c t (by omega) (by omega) (by omega) (by omega) (by omega) (by omega), out_C_11]
  · rw [Value.flushed11_D m c t (by omega) (by omega) (by omega) (by omega) (by omega) (by omega), out_D_11]
  · rw [Value.flushed11_E m c t (by omega) (by omega) (by omega) (by omega) (by omega) (by omega), out_E_11]

/-- It is its band of the result. -/
theorem flushed11_eq (t : Fin cfg0.N) : (dats m 0 c).flushed 11 t = ((cfg0.win 11).blk t).view.read (Elt Ideal) (res11 m c) := by
  rw [flushed11_val]
  refine funext fun y => ?_
  rw [View.read_apply]
  have ek : ((cfg0.win 11).blk t).view.emb y = ix2 (rowAt t (y 0)) (y 1) := funext fun z => Fin.ext (by
    match z with
    | ⟨0, _⟩ =>
      show win0_11.index t 0 * 256 + 1 * (y 0).val = t.val * 256 + (y 0).val
      rw [(index11 t).1]; omega
    | ⟨1, _⟩ =>
      show win0_11.index t 1 * 1024 + 1 * (y 1).val = (y 1).val
      rw [(index11 t).2]; omega)
  rw [ek]
  refine (congrArg (rowsVal (zOp (iblk m c 0 t) (iblk m c 1 t) (groupW (iblk m c 2 t) 1536 (by decide))) (groupG (iblk m c 4 t) 1 (by decide)) (iblk m c 5 t) (iblk m c 6 t))
    (eq_ix2 (n0 := 256) (n1 := 1024) y)).trans ?_
  exact (staged m c t).rows 1 _ _ (by decide) rfl _ _ (y 0) (y 1)

/-- Every grid point writes it back. -/
theorem flush11 : ∀ t : Fin cfg0.N, (cfg0.win 11).flush t = true := (by decide +kernel : ∀ t : Fin grid0.N, win0_11.flush t = true)

/-- The array after the run. -/
theorem final11 : (dats m 0 c).arrAt 11 cfg0.N = res11 m c :=
  (dats m 0 c).arrAt_eq_of_cover 11 (res11 m c) (fun t _ => flushed11_eq m c t) fun k => by
    have h0 : (k 0).val < 16384 := (k 0).isLt
    have h1 : (k 1).val < 1024 := (k 1).isLt
    have hN : cfg0.N = 64 := N_0
    refine ⟨⟨(k 0).val / 256, by omega⟩, flush11 _, ?_⟩
    have hi := index11 ⟨(k 0).val / 256, by omega⟩
    generalize ht : (⟨(k 0).val / 256, by omega⟩ : Fin cfg0.N) = t at hi ⊢
    have hv : t.val = (k 0).val / 256 := by rw [← ht]
    rw [hv] at hi
    show k ∈ ((View.whole main_v34_4).slice (win0_11.rect t)).set
    rw [View.set_slice_whole, Rect.mem_set_unit]
    intro a
    match a with
    | ⟨0, _⟩ =>
      show win0_11.index t 0 * 256 ≤ (k 0).val ∧ (k 0).val < win0_11.index t 0 * 256 + 256
      rw [hi.1]; omega
    | ⟨1, _⟩ =>
      show win0_11.index t 1 * 1024 ≤ (k 1).val ∧ (k 1).val < win0_11.index t 1 * 1024 + 1024
      rw [hi.2]; omega

/-- What a grid point writes back to window 12. -/
theorem flushed12_val (t : Fin cfg0.N) : (dats m 0 c).flushed 12 t = (cfg0.win 12).cut (grid0.coords t)
    (rowsVal (zOp (iblk m c 0 t) (iblk m c 1 t) (groupW (iblk m c 2 t) 3072 (by decide))) (groupG (iblk m c 4 t) 2 (by decide)) (iblk m c 5 t) (iblk m c 6 t)) := by
  have h : t.val % 32 = 0 ∨ (1 ≤ t.val % 32 ∧ t.val % 32 ≤ 23) ∨ (24 ≤ t.val % 32 ∧ t.val % 32 ≤ 29) ∨ t.val % 32 = 30 ∨ t.val % 32 = 31 := by omega
  rcases h with h | h | h | h | h
  · rw [Value.flushed12_A m c t (by omega) (by omega) (by omega) (by omega) (by omega) (by omega), out_A_12]
  · rw [Value.flushed12_B m c t (by omega) (by omega) (by omega) (by omega) (by omega) (by omega), out_B_12]
  · rw [Value.flushed12_C m c t (by omega) (by omega) (by omega) (by omega) (by omega) (by omega), out_C_12]
  · rw [Value.flushed12_D m c t (by omega) (by omega) (by omega) (by omega) (by omega) (by omega), out_D_12]
  · rw [Value.flushed12_E m c t (by omega) (by omega) (by omega) (by omega) (by omega) (by omega), out_E_12]

/-- It is its band of the result. -/
theorem flushed12_eq (t : Fin cfg0.N) : (dats m 0 c).flushed 12 t = ((cfg0.win 12).blk t).view.read (Elt Ideal) (res12 m c) := by
  rw [flushed12_val]
  refine funext fun y => ?_
  rw [View.read_apply]
  have ek : ((cfg0.win 12).blk t).view.emb y = ix2 (rowAt t (y 0)) (y 1) := funext fun z => Fin.ext (by
    match z with
    | ⟨0, _⟩ =>
      show win0_12.index t 0 * 256 + 1 * (y 0).val = t.val * 256 + (y 0).val
      rw [(index12 t).1]; omega
    | ⟨1, _⟩ =>
      show win0_12.index t 1 * 1024 + 1 * (y 1).val = (y 1).val
      rw [(index12 t).2]; omega)
  rw [ek]
  refine (congrArg (rowsVal (zOp (iblk m c 0 t) (iblk m c 1 t) (groupW (iblk m c 2 t) 3072 (by decide))) (groupG (iblk m c 4 t) 2 (by decide)) (iblk m c 5 t) (iblk m c 6 t))
    (eq_ix2 (n0 := 256) (n1 := 1024) y)).trans ?_
  exact (staged m c t).rows 2 _ _ (by decide) rfl _ _ (y 0) (y 1)

/-- Every grid point writes it back. -/
theorem flush12 : ∀ t : Fin cfg0.N, (cfg0.win 12).flush t = true := (by decide +kernel : ∀ t : Fin grid0.N, win0_12.flush t = true)

/-- The array after the run. -/
theorem final12 : (dats m 0 c).arrAt 12 cfg0.N = res12 m c :=
  (dats m 0 c).arrAt_eq_of_cover 12 (res12 m c) (fun t _ => flushed12_eq m c t) fun k => by
    have h0 : (k 0).val < 16384 := (k 0).isLt
    have h1 : (k 1).val < 1024 := (k 1).isLt
    have hN : cfg0.N = 64 := N_0
    refine ⟨⟨(k 0).val / 256, by omega⟩, flush12 _, ?_⟩
    have hi := index12 ⟨(k 0).val / 256, by omega⟩
    generalize ht : (⟨(k 0).val / 256, by omega⟩ : Fin cfg0.N) = t at hi ⊢
    have hv : t.val = (k 0).val / 256 := by rw [← ht]
    rw [hv] at hi
    show k ∈ ((View.whole main_v34_5).slice (win0_12.rect t)).set
    rw [View.set_slice_whole, Rect.mem_set_unit]
    intro a
    match a with
    | ⟨0, _⟩ =>
      show win0_12.index t 0 * 256 ≤ (k 0).val ∧ (k 0).val < win0_12.index t 0 * 256 + 256
      rw [hi.1]; omega
    | ⟨1, _⟩ =>
      show win0_12.index t 1 * 1024 ≤ (k 1).val ∧ (k 1).val < win0_12.index t 1 * 1024 + 1024
      rw [hi.2]; omega

/-- What a grid point writes back to window 13, where it does. -/
theorem flushed13_val (t : Fin cfg0.N) (hf : 31 ≤ t.val % 32) : (dats m 0 c).flushed 13 t = (cfg0.win 13).cut (grid0.coords t)
    (k0_pay50 (F := Ideal) (View.ld (rowsVal (zOp (iblk m c 0 t) (iblk m c 1 t) (groupW (iblk m c 2 t) 0 (by decide))) (groupG (iblk m c 4 t) 0 (by decide)) (iblk m c 5 t) (iblk m c 6 t)) (Rect.unit (s := S256x1024) ![128, 0] S128x1024.size (by decide)))) := by
  have h : t.val % 32 = 31 := by omega
  rw [Value.flushed13_E m c t (by omega) (by omega) (by omega) (by omega) (by omega) (by omega), out_E_13]

/-- It is its block of the result. -/
theorem flushed13_eq (t : Fin cfg0.N) (hf : 31 ≤ t.val % 32) :
    (dats m 0 c).flushed 13 t = ((cfg0.win 13).blk t).view.read (Elt Ideal) (res13 m c) := by
  rw [flushed13_val m c t hf]
  refine funext fun y => ?_
  have hN : t.val < 64 := lt_of_lt_of_eq t.isLt N_0
  have hy0 : (y 0).val < 1 := (y 0).isLt
  have hy2 : (y 2).val < 128 := (y 2).isLt
  rw [View.read_apply]
  have ek : ((cfg0.win 13).blk t).view.emb y = ix3 ⟨t.val / 32, by omega⟩ (y 1) ⟨(t.val % 32 - 31) * 128 + (y 2).val, by omega⟩ := funext fun z => Fin.ext (by
    match z with
    | ⟨0, _⟩ =>
      show win0_13.index t 0 * 1 + 1 * (y 0).val = t.val / 32
      rw [(index13 t hf).1]; omega
    | ⟨1, _⟩ =>
      show win0_13.index t 1 * 1024 + 1 * (y 1).val = (y 1).val
      rw [(index13 t hf).2.1]; omega
    | ⟨2, _⟩ =>
      show win0_13.index t 2 * 128 + 1 * (y 2).val = (t.val % 32 - 31) * 128 + (y 2).val
      rw [(index13 t hf).2.2]; omega)
  rw [ek]
  have ey : y = ix3 (n0 := 1) (n1 := 1024) (n2 := 128) 0 (y 1) (y 2) := funext fun z => Fin.ext (by
    match z with
    | ⟨0, _⟩ => show (y 0).val = 0; omega
    | ⟨1, _⟩ => rfl
    | ⟨2, _⟩ => rfl)
  refine (congrArg (k0_pay50 (F := Ideal) (View.ld (rowsVal (zOp (iblk m c 0 t) (iblk m c 1 t) (groupW (iblk m c 2 t) 0 (by decide))) (groupG (iblk m c 4 t) 0 (by decide)) (iblk m c 5 t) (iblk m c 6 t)) (Rect.unit (s := S256x1024) ![128, 0] S128x1024.size (by decide)))) ey).trans ?_
  refine (pay50_apply _ (y 1) (y 2)).trans ((half_apply _ _ (y 2) (y 1)).trans ?_)
  refine ((staged m c t).rows 0 _ _ (by decide) rfl _ _ ⟨128 + (y 2).val, by omega⟩ (y 1)).trans ?_
  unfold res13
  refine congrArg (fun r => rowsAt (aX m c) (aG m c) (aW m c) (aQ m c) 0 r (y 1)) (Fin.ext ?_)
  show t.val * 256 + (128 + (y 2).val) = t.val / 32 * 8192 + (8192 - 128) + ((t.val % 32 - 31) * 128 + (y 2).val)
  omega

/-- The grid points that write it back. -/
theorem flush13 : ∀ t : Fin cfg0.N, (cfg0.win 13).flush t = true ↔ 31 ≤ t.val % 32 :=
  by change ∀ t : Fin grid0.N, _; decide +kernel

/-- The array after the run. -/
theorem final13 : (dats m 0 c).arrAt 13 cfg0.N = res13 m c :=
  (dats m 0 c).arrAt_eq_of_cover 13 (res13 m c) (fun t hf => flushed13_eq m c t ((flush13 t).mp hf)) fun k => by
    have h0 : (k 0).val < 2 := (k 0).isLt
    have h1 : (k 1).val < 1024 := (k 1).isLt
    have h2 : (k 2).val < 128 := (k 2).isLt
    have hN : cfg0.N = 64 := N_0
    have hp : (k 0).val * 32 + (31 + (k 2).val / 128) < cfg0.N := by omega
    generalize ht : (⟨(k 0).val * 32 + (31 + (k 2).val / 128), hp⟩ : Fin cfg0.N) = t
    have hv : t.val = (k 0).val * 32 + (31 + (k 2).val / 128) := by rw [← ht]
    have hf : 31 ≤ t.val % 32 := by omega
    have hi := index13 t hf
    refine ⟨t, (flush13 t).mpr hf, ?_⟩
    show k ∈ ((View.whole main_v34_6).slice (win0_13.rect t)).set
    rw [View.set_slice_whole, Rect.mem_set_unit]
    intro a
    match a with
    | ⟨0, _⟩ =>
      show win0_13.index t 0 * 1 ≤ (k 0).val ∧ (k 0).val < win0_13.index t 0 * 1 + 1
      rw [hi.1]; omega
    | ⟨1, _⟩ =>
      show win0_13.index t 1 * 1024 ≤ (k 1).val ∧ (k 1).val < win0_13.index t 1 * 1024 + 1024
      rw [hi.2.1]; omega
    | ⟨2, _⟩ =>
      show win0_13.index t 2 * 128 ≤ (k 2).val ∧ (k 2).val < win0_13.index t 2 * 128 + 128
      rw [hi.2.2]; omega

/-- What a grid point writes back to window 14, where it does. -/
theorem flushed14_val (t : Fin cfg0.N) (hf : 30 ≤ t.val % 32) : (dats m 0 c).flushed 14 t = (cfg0.win 14).cut (grid0.coords t)
    (k0_pay93 (F := Ideal) (rowsVal (zOp (iblk m c 0 t) (iblk m c 1 t) (groupW (iblk m c 2 t) 1536 (by decide))) (groupG (iblk m c 4 t) 1 (by decide)) (iblk m c 5 t) (iblk m c 6 t))) := by
  have h : t.val % 32 = 30 ∨ t.val % 32 = 31 := by omega
  rcases h with h | h
  · rw [Value.flushed14_D m c t (by omega) (by omega) (by omega) (by omega) (by omega) (by omega), out_D_14]
  · rw [Value.flushed14_E m c t (by omega) (by omega) (by omega) (by omega) (by omega) (by omega), out_E_14]

/-- It is its block of the result. -/
theorem flushed14_eq (t : Fin cfg0.N) (hf : 30 ≤ t.val % 32) :
    (dats m 0 c).flushed 14 t = ((cfg0.win 14).blk t).view.read (Elt Ideal) (res14 m c) := by
  rw [flushed14_val m c t hf]
  refine funext fun y => ?_
  have hN : t.val < 64 := lt_of_lt_of_eq t.isLt N_0
  have hy0 : (y 0).val < 1 := (y 0).isLt
  have hy2 : (y 2).val < 256 := (y 2).isLt
  rw [View.read_apply]
  have ek : ((cfg0.win 14).blk t).view.emb y = ix3 ⟨t.val / 32, by omega⟩ (y 1) ⟨(t.val % 32 - 30) * 256 + (y 2).val, by omega⟩ := funext fun z => Fin.ext (by
    match z with
    | ⟨0, _⟩ =>
      show win0_14.index t 0 * 1 + 1 * (y 0).val = t.val / 32
      rw [(index14 t hf).1]; omega
    | ⟨1, _⟩ =>
      show win0_14.index t 1 * 1024 + 1 * (y 1).val = (y 1).val
      rw [(index14 t hf).2.1]; omega
    | ⟨2, _⟩ =>
      show win0_14.index t 2 * 256 + 1 * (y 2).val = (t.val % 32 - 30) * 256 + (y 2).val
      rw [(index14 t hf).2.2]; omega)
  rw [ek]
  have ey : y = ix3 (n0 := 1) (n1 := 1024) (n2 := 256) 0 (y 1) (y 2) := funext fun z => Fin.ext (by
    match z with
    | ⟨0, _⟩ => show (y 0).val = 0; omega
    | ⟨1, _⟩ => rfl
    | ⟨2, _⟩ => rfl)
  refine (congrArg (k0_pay93 (F := Ideal) (rowsVal (zOp (iblk m c 0 t) (iblk m c 1 t) (groupW (iblk m c 2 t) 1536 (by decide))) (groupG (iblk m c 4 t) 1 (by decide)) (iblk m c 5 t) (iblk m c 6 t))) ey).trans ?_
  refine (pay93_apply _ (y 1) (y 2)).trans ?_
  refine ((staged m c t).rows 1 _ _ (by decide) rfl _ _ (y 2) (y 1)).trans ?_
  unfold res14
  refine congrArg (fun r => rowsAt (aX m c) (aG m c) (aW m c) (aQ m c) 1 r (y 1)) (Fin.ext ?_)
  show t.val * 256 + (y 2).val = t.val / 32 * 8192 + (8192 - 512) + ((t.val % 32 - 30) * 256 + (y 2).val)
  omega

/-- The grid points that write it back. -/
theorem flush14 : ∀ t : Fin cfg0.N, (cfg0.win 14).flush t = true ↔ 30 ≤ t.val % 32 :=
  by change ∀ t : Fin grid0.N, _; decide +kernel

/-- The array after the run. -/
theorem final14 : (dats m 0 c).arrAt 14 cfg0.N = res14 m c :=
  (dats m 0 c).arrAt_eq_of_cover 14 (res14 m c) (fun t hf => flushed14_eq m c t ((flush14 t).mp hf)) fun k => by
    have h0 : (k 0).val < 2 := (k 0).isLt
    have h1 : (k 1).val < 1024 := (k 1).isLt
    have h2 : (k 2).val < 512 := (k 2).isLt
    have hN : cfg0.N = 64 := N_0
    have hp : (k 0).val * 32 + (30 + (k 2).val / 256) < cfg0.N := by omega
    generalize ht : (⟨(k 0).val * 32 + (30 + (k 2).val / 256), hp⟩ : Fin cfg0.N) = t
    have hv : t.val = (k 0).val * 32 + (30 + (k 2).val / 256) := by rw [← ht]
    have hf : 30 ≤ t.val % 32 := by omega
    have hi := index14 t hf
    refine ⟨t, (flush14 t).mpr hf, ?_⟩
    show k ∈ ((View.whole main_v34_7).slice (win0_14.rect t)).set
    rw [View.set_slice_whole, Rect.mem_set_unit]
    intro a
    match a with
    | ⟨0, _⟩ =>
      show win0_14.index t 0 * 1 ≤ (k 0).val ∧ (k 0).val < win0_14.index t 0 * 1 + 1
      rw [hi.1]; omega
    | ⟨1, _⟩ =>
      show win0_14.index t 1 * 1024 ≤ (k 1).val ∧ (k 1).val < win0_14.index t 1 * 1024 + 1024
      rw [hi.2.1]; omega
    | ⟨2, _⟩ =>
      show win0_14.index t 2 * 256 ≤ (k 2).val ∧ (k 2).val < win0_14.index t 2 * 256 + 256
      rw [hi.2.2]; omega

/-- What a grid point writes back to window 15, where it does. -/
theorem flushed15_val (t : Fin cfg0.N) (hf : 24 ≤ t.val % 32) : (dats m 0 c).flushed 15 t = (cfg0.win 15).cut (grid0.coords t)
    (k0_pay141 (F := Ideal) (rowsVal (zOp (iblk m c 0 t) (iblk m c 1 t) (groupW (iblk m c 2 t) 3072 (by decide))) (groupG (iblk m c 4 t) 2 (by decide)) (iblk m c 5 t) (iblk m c 6 t))) := by
  have h : (24 ≤ t.val % 32 ∧ t.val % 32 ≤ 29) ∨ t.val % 32 = 30 ∨ t.val % 32 = 31 := by omega
  rcases h with h | h | h
  · rw [Value.flushed15_C m c t (by omega) (by omega) (by omega) (by omega) (by omega) (by omega), out_C_15]
  · rw [Value.flushed15_D m c t (by omega) (by omega) (by omega) (by omega) (by omega) (by omega), out_D_15]
  · rw [Value.flushed15_E m c t (by omega) (by omega) (by omega) (by omega) (by omega) (by omega), out_E_15]

/-- It is its block of the result. -/
theorem flushed15_eq (t : Fin cfg0.N) (hf : 24 ≤ t.val % 32) :
    (dats m 0 c).flushed 15 t = ((cfg0.win 15).blk t).view.read (Elt Ideal) (res15 m c) := by
  rw [flushed15_val m c t hf]
  refine funext fun y => ?_
  have hN : t.val < 64 := lt_of_lt_of_eq t.isLt N_0
  have hy0 : (y 0).val < 1 := (y 0).isLt
  have hy2 : (y 2).val < 256 := (y 2).isLt
  rw [View.read_apply]
  have ek : ((cfg0.win 15).blk t).view.emb y = ix3 ⟨t.val / 32, by omega⟩ (y 1) ⟨(t.val % 32 - 24) * 256 + (y 2).val, by omega⟩ := funext fun z => Fin.ext (by
    match z with
    | ⟨0, _⟩ =>
      show win0_15.index t 0 * 1 + 1 * (y 0).val = t.val / 32
      rw [(index15 t hf).1]; omega
    | ⟨1, _⟩ =>
      show win0_15.index t 1 * 1024 + 1 * (y 1).val = (y 1).val
      rw [(index15 t hf).2.1]; omega
    | ⟨2, _⟩ =>
      show win0_15.index t 2 * 256 + 1 * (y 2).val = (t.val % 32 - 24) * 256 + (y 2).val
      rw [(index15 t hf).2.2]; omega)
  rw [ek]
  have ey : y = ix3 (n0 := 1) (n1 := 1024) (n2 := 256) 0 (y 1) (y 2) := funext fun z => Fin.ext (by
    match z with
    | ⟨0, _⟩ => show (y 0).val = 0; omega
    | ⟨1, _⟩ => rfl
    | ⟨2, _⟩ => rfl)
  refine (congrArg (k0_pay141 (F := Ideal) (rowsVal (zOp (iblk m c 0 t) (iblk m c 1 t) (groupW (iblk m c 2 t) 3072 (by decide))) (groupG (iblk m c 4 t) 2 (by decide)) (iblk m c 5 t) (iblk m c 6 t))) ey).trans ?_
  refine (pay141_apply _ (y 1) (y 2)).trans ?_
  refine ((staged m c t).rows 2 _ _ (by decide) rfl _ _ (y 2) (y 1)).trans ?_
  unfold res15
  refine congrArg (fun r => rowsAt (aX m c) (aG m c) (aW m c) (aQ m c) 2 r (y 1)) (Fin.ext ?_)
  show t.val * 256 + (y 2).val = t.val / 32 * 8192 + (8192 - 2048) + ((t.val % 32 - 24) * 256 + (y 2).val)
  omega

/-- The grid points that write it back. -/
theorem flush15 : ∀ t : Fin cfg0.N, (cfg0.win 15).flush t = true ↔ 24 ≤ t.val % 32 :=
  by change ∀ t : Fin grid0.N, _; decide +kernel

/-- The array after the run. -/
theorem final15 : (dats m 0 c).arrAt 15 cfg0.N = res15 m c :=
  (dats m 0 c).arrAt_eq_of_cover 15 (res15 m c) (fun t hf => flushed15_eq m c t ((flush15 t).mp hf)) fun k => by
    have h0 : (k 0).val < 2 := (k 0).isLt
    have h1 : (k 1).val < 1024 := (k 1).isLt
    have h2 : (k 2).val < 2048 := (k 2).isLt
    have hN : cfg0.N = 64 := N_0
    have hp : (k 0).val * 32 + (24 + (k 2).val / 256) < cfg0.N := by omega
    generalize ht : (⟨(k 0).val * 32 + (24 + (k 2).val / 256), hp⟩ : Fin cfg0.N) = t
    have hv : t.val = (k 0).val * 32 + (24 + (k 2).val / 256) := by rw [← ht]
    have hf : 24 ≤ t.val % 32 := by omega
    have hi := index15 t hf
    refine ⟨t, (flush15 t).mpr hf, ?_⟩
    show k ∈ ((View.whole main_v34_8).slice (win0_15.rect t)).set
    rw [View.set_slice_whole, Rect.mem_set_unit]
    intro a
    match a with
    | ⟨0, _⟩ =>
      show win0_15.index t 0 * 1 ≤ (k 0).val ∧ (k 0).val < win0_15.index t 0 * 1 + 1
      rw [hi.1]; omega
    | ⟨1, _⟩ =>
      show win0_15.index t 1 * 1024 ≤ (k 1).val ∧ (k 1).val < win0_15.index t 1 * 1024 + 1024
      rw [hi.2.1]; omega
    | ⟨2, _⟩ =>
      show win0_15.index t 2 * 256 ≤ (k 2).val ∧ (k 2).val < win0_15.index t 2 * 256 + 256
      rw [hi.2.2]; omega

/-- The run: the result arrays, the arguments unchanged. -/
theorem run : θ_run defs (onTc (τ := τ) (main (F := Ideal))) ⟨m, fun _ => 0, ρ⟩ fun r => ∀ c : Dev nD,
      r.2.mem ((c : Thread nD τ).loc main_v34_0) = res7 m c
      ∧ r.2.mem ((c : Thread nD τ).loc main_v34_1) = res8 m c
      ∧ r.2.mem ((c : Thread nD τ).loc main_v34_2) = res9 m c
      ∧ r.2.mem ((c : Thread nD τ).loc main_v34_3) = res10 m c
      ∧ r.2.mem ((c : Thread nD τ).loc main_v34_4) = res11 m c
      ∧ r.2.mem ((c : Thread nD τ).loc main_v34_5) = res12 m c
      ∧ r.2.mem ((c : Thread nD τ).loc main_v34_6) = res13 m c
      ∧ r.2.mem ((c : Thread nD τ).loc main_v34_7) = res14 m c
      ∧ r.2.mem ((c : Thread nD τ).loc main_v34_8) = res15 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final7 m c), (h c).2.1.trans (final8 m c), (h c).2.2.1.trans (final9 m c), (h c).2.2.2.1.trans (final10 m c), (h c).2.2.2.2.1.trans (final11 m c), (h c).2.2.2.2.2.1.trans (final12 m c), (h c).2.2.2.2.2.2.1.trans (final13 m c), (h c).2.2.2.2.2.2.2.1.trans (final14 m c), (h c).2.2.2.2.2.2.2.2.1.trans (final15 m c), (h c).2.2.2.2.2.2.2.2.2⟩) (Value.run_blocks m ρ)

end Cert.ProjCIdeal.Own

end
-- ==== Proof.ProjRef.lean ====
/-
  The input projection's reference: its nine results, at the ideal values, row by row as the mathematics of the argument arrays.
-/
module

public import proofs.«01_k».proof.Proof.ProjKernel
public import proofs.«01_k».proof.Proof.Gen.RefProjCIdeal.Run
public import proofs.«01_k».proof.Proof.Gen.RefProjCIdeal.Read

@[expose] public section

noncomputable section

namespace Cert.RefProjCIdeal.Own

open Idealize.ShloMosaic Idealize.ShloMosaic.TcCoe Idealize.SL.Sem
open Cert.RefProjCIdeal Cert.RefProjCIdeal.Gen Cert.RefProjCIdeal.Read Cert.Post Cert.Proj

/-! ## The operations of a group -/

/-- The head norm of every token's eight heads. -/
def normsH (z : FVec Ideal S2x8192x8x64 .f32) (g : FVec Ideal S64 .f32) : FVec Ideal S2x8192x8x64 .f32 :=
  mulf (mulf z (broadcastInDim S2x8192x8x64 ![0, 1, 2, 3] bcast_S2x8192x8x1_S2x8192x8x64_0_1_2_3
      (Host.rsqrt (addf (Host.divf (broadcastInDim S2x8192x8x1 ![0, 1, 2] bcast_S2x8192x8_S2x8192x8x1_0_1_2
          (Host.reduceAdd (mulf z z) (constant S_ .f32 0x00000000#32) reducesTo_S2x8192x8x64_S2x8192x8_d3 h_S_))
        (broadcastInDim S2x8192x8x1 ![] bcast_S_S2x8192x8x1 (constant S_ .f32 0x42800000#32)))
        (broadcastInDim S2x8192x8x1 ![] bcast_S_S2x8192x8x1 (constant S_ .f32 0x358637BD#32))))))
    (broadcastInDim S2x8192x8x64 ![0, 1, 2, 3] bcast_S1x1x1x64_S2x8192x8x64_0_1_2_3 (broadcastInDim S1x1x1x64 ![3] bcast_S64_S1x1x1x64_3 g))

/-- The angles of every position. -/
def anglesH : FVec Ideal S8192x32 .f32 :=
  mulf (broadcastInDim S8192x32 ![0, 1] bcast_S8192x1_S8192x32_0_1 (broadcastInDim S8192x1 ![0] bcast_S8192_S8192x1_0
      (sitofp .f32 (iotaInDim S8192 32 0))))
    (broadcastInDim S8192x32 ![0, 1] bcast_S1x32_S8192x32_0_1 (broadcastInDim S1x32 ![1] bcast_S32_S1x32_1
      (Host.powf (broadcastInDim S32 ![] bcast_S_S32 (constant S_ .f32 0x461C4000#32))
        (Host.divf (Host.negf (sitofp .f32 (iotaInDim S32 32 0))) (broadcastInDim S32 ![] bcast_S_S32 (constant S_ .f32 0x42000000#32))))))

/-- A table of the positions, for every sequence and head. -/
def everyH (t : FVec Ideal S8192x32 .f32) : FVec Ideal S2x8192x8x32 .f32 :=
  broadcastInDim S2x8192x8x32 ![0, 1, 2, 3] bcast_S1x8192x1x32_S2x8192x8x32_0_1_2_3
    (broadcastInDim S1x8192x1x32 ![1, 2, 3] bcast_S8192x1x32_S1x8192x1x32_1_2_3 (broadcastInDim S8192x1x32 ![0, 2] bcast_S8192x32_S8192x1x32_0_2 t))

/-- The first and the second half of every head. -/
def firstH (y : FVec Ideal S2x8192x8x64 .f32) : FVec Ideal S2x8192x8x32 .f32 :=
  extractStridedSlice S2x8192x8x32 ![0, 0, 0, 0] y slices_S2x8192x8x64_S2x8192x8x32_0_0_0_0
def secondH (y : FVec Ideal S2x8192x8x64 .f32) : FVec Ideal S2x8192x8x32 .f32 :=
  extractStridedSlice S2x8192x8x32 ![0, 0, 0, 32] y slices_S2x8192x8x64_S2x8192x8x32_0_0_0_32

/-- The halves of every head side by side. -/
def joinH (a b : FVec Ideal S2x8192x8x32 .f32) : FVec Ideal S2x8192x8x64 .f32 :=
  concatenate S2x8192x8x64 3 [⟨S2x8192x8x32, a⟩, ⟨S2x8192x8x32, b⟩] concatenates_S2x8192x8x32_S2x8192x8x32_S2x8192x8x64_d3

/-- The rotary embedding of every token's eight heads. -/
def turnH (y : FVec Ideal S2x8192x8x64 .f32) : FVec Ideal S2x8192x8x64 .f32 :=
  joinH (subf (mulf (firstH y) (everyH (Host.cos anglesH))) (mulf (secondH y) (everyH (Host.sin anglesH))))
    (addf (mulf (secondH y) (everyH (Host.cos anglesH))) (mulf (firstH y) (everyH (Host.sin anglesH))))

/-- Keys and values stacked. -/
def stackH (k v : FVec Ideal S2x8192x8x64 .f32) : FVec Ideal S2x8192x2x8x64 .f32 :=
  concatenate S2x8192x2x8x64 2 [⟨S2x8192x1x8x64, broadcastInDim S2x8192x1x8x64 ![0, 1, 3, 4] bcast_S2x8192x8x64_S2x8192x1x8x64_0_1_3_4 k⟩,
    ⟨S2x8192x1x8x64, broadcastInDim S2x8192x1x8x64 ![0, 1, 3, 4] bcast_S2x8192x8x64_S2x8192x1x8x64_0_1_3_4 v⟩] concatenates_S2x8192x1x8x64_S2x8192x1x8x64_S2x8192x2x8x64_d2

/-- The lane of a head's entry. -/
abbrev headAt (h : Fin 8) (d : Fin 64) : Fin 512 := ⟨h.val * 64 + d.val, by omega⟩

/-- The row of a sequence's token. -/
abbrev rowOn (b : Fin 2) (s : Fin 8192) : Fin 16384 := ⟨b.val * 8192 + s.val, by omega⟩

/-- A table repeated for each head. -/
theorem everyH_apply (t : FVec Ideal S8192x32 .f32) (b : Fin 2) (s : Fin 8192) (h : Fin 8) (d : Fin 32) :
    everyH t (ix4 b s h d) = t (ix2 s d) := by
  pointwise [everyH]

/-- The table of angles. -/
theorem anglesH_apply (s : Fin 8192) (i : Fin 32) : anglesH (ix2 s i) = angle s.val i.val := by
  pointwise [anglesH]
  rfl

/-- A head's first half. -/
theorem firstH_apply (y : FVec Ideal S2x8192x8x64 .f32) (b : Fin 2) (s : Fin 8192) (h : Fin 8) (d : Fin 32) :
    firstH y (ix4 b s h d) = y (ix4 b s h ⟨d.val, by omega⟩) := by
  pointwise [firstH]

/-- A head's second half. -/
theorem secondH_apply (y : FVec Ideal S2x8192x8x64 .f32) (b : Fin 2) (s : Fin 8192) (h : Fin 8) (d : Fin 32) :
    secondH y (ix4 b s h d) = y (ix4 b s h ⟨32 + d.val, by omega⟩) := by
  pointwise [secondH]

/-- Two halves joined to a head. -/
theorem joinH_apply (u v : FVec Ideal S2x8192x8x32 .f32) (b : Fin 2) (s : Fin 8192) (h : Fin 8) (d : Fin 64) :
    joinH u v (ix4 b s h d) = if hd : d.val < 32 then u (ix4 b s h ⟨d.val, hd⟩) else v (ix4 b s h ⟨d.val - 32, by omega⟩) := by
  pointwise [joinH]

/-- The sum of a head's squares. -/
theorem sumH_apply (z : FVec Ideal S2x8192x8x64 .f32) (b : Fin 2) (s : Fin 8192) (h : Fin 8) :
    Host.reduceAdd (mulf z z) (constant S_ .f32 0x00000000#32) reducesTo_S2x8192x8x64_S2x8192x8_d3 h_S_ (ix3 b s h)
      = ∑ t : Fin 64, z (ix4 b s h t) * z (ix4 b s h t) := by
  simp only [Host.reduceAdd, Ideal.hostReduceAdd_def]
  rw [Ideal.hostReduceAdd_single reducesTo_S2x8192x8x64_S2x8192x8_d3 (by decide)]
  refine (congrArg (· + _) Ideal.ofBits_zero_f32).trans ((zero_add _).trans (Finset.sum_congr rfl fun t _ => ?_))
  refine congrArg (mulf z z) (funext fun a => ?_)
  match a with
  | ⟨0, _⟩ => rfl
  | ⟨1, _⟩ => rfl
  | ⟨2, _⟩ => rfl
  | ⟨3, _⟩ => rfl

/-- A head's norm. -/
theorem normsH_apply (z : FVec Ideal S2x8192x8x64 .f32) (g : FVec Ideal S64 .f32) (b : Fin 2) (s : Fin 8192) (Z G : Fin 512 → EReal)
    (hz : ∀ h d, z (ix4 b s h d) = Z (headAt h d)) (hg : ∀ h d, g (ix1 d) = G (headAt h d)) (h : Fin 8) (d : Fin 64) :
    normsH z g (ix4 b s h d) = headNorm Z G (headAt h d) := by
  have e : normsH z g (ix4 b s h d) = z (ix4 b s h d) * Ideal.rsqrt (Ideal.div
      (Host.reduceAdd (mulf z z) (constant S_ .f32 0x00000000#32) reducesTo_S2x8192x8x64_S2x8192x8_d3 h_S_ (ix3 b s h))
      (Ideal.ofBits .f32 0x42800000#32) + Ideal.ofBits .f32 0x358637BD#32) * g (ix1 d) := by
    unfold normsH
    generalize Host.reduceAdd (mulf z z) (constant S_ .f32 0x00000000#32) reducesTo_S2x8192x8x64_S2x8192x8_d3 h_S_ = R
    pointwise
  have el : ∀ t : Fin 64, headAt h t = headLane (headAt h d) t := fun t => Fin.ext (by
    show h.val * 64 + t.val = (h.val * 64 + d.val) / 64 * 64 + t.val; omega)
  have es : (∑ t : Fin 64, z (ix4 b s h t) * z (ix4 b s h t)) = ∑ t : Fin 64, Z (headLane (headAt h d) t) * Z (headLane (headAt h d) t) :=
    Finset.sum_congr rfl fun t _ => by rw [hz h t, el t]
  rw [e, sumH_apply, es, headNorm, hg h d, hz h d]

/-- A head, turned. -/
theorem turnH_apply (y : FVec Ideal S2x8192x8x64 .f32) (b : Fin 2) (s : Fin 8192) (Y : Fin 512 → EReal)
    (hy : ∀ h d, y (ix4 b s h d) = Y (headAt h d)) (h : Fin 8) (d : Fin 64) :
    turnH y (ix4 b s h d) = roped Y (cosAt s.val) (sinAt s.val) (headAt h d) := by
  have hc : ∀ d, everyH (Host.cos anglesH) (ix4 b s h d) = cosAt s.val d := fun d =>
    (everyH_apply _ b s h d).trans (congrArg Ideal.cos (anglesH_apply s d))
  have hs : ∀ d, everyH (Host.sin anglesH) (ix4 b s h d) = sinAt s.val d := fun d =>
    (everyH_apply _ b s h d).trans (congrArg Ideal.sin (anglesH_apply s d))
  unfold turnH roped
  rw [joinH_apply]
  by_cases hd : d.val < 32
  · rw [dif_pos hd, dif_pos (show (h.val * 64 + d.val) % 64 < 32 by omega)]
    show firstH y (ix4 b s h ⟨d.val, hd⟩) * everyH (Host.cos anglesH) (ix4 b s h ⟨d.val, hd⟩)
      - secondH y (ix4 b s h ⟨d.val, hd⟩) * everyH (Host.sin anglesH) (ix4 b s h ⟨d.val, hd⟩) = _
    rw [firstH_apply, secondH_apply, hc, hs, hy, hy]
    have e1 : (⟨d.val, hd⟩ : Fin 32) = ⟨(h.val * 64 + d.val) % 32, by omega⟩ := Fin.ext (by show d.val = (h.val * 64 + d.val) % 32; omega)
    have e2 : headAt h ⟨32 + d.val, by omega⟩ = ⟨h.val * 64 + d.val + 32, by omega⟩ := Fin.ext (by show h.val * 64 + (32 + d.val) = h.val * 64 + d.val + 32; omega)
    rw [e2, show cosAt s.val ⟨d.val, hd⟩ = _ from congrArg _ e1, show sinAt s.val ⟨d.val, hd⟩ = _ from congrArg _ e1]
  · have h0 := d.isLt
    rw [dif_neg hd, dif_neg (show ¬ (h.val * 64 + d.val) % 64 < 32 by omega)]
    show secondH y (ix4 b s h ⟨d.val - 32, by omega⟩) * everyH (Host.cos anglesH) (ix4 b s h ⟨d.val - 32, by omega⟩)
      + firstH y (ix4 b s h ⟨d.val - 32, by omega⟩) * everyH (Host.sin anglesH) (ix4 b s h ⟨d.val - 32, by omega⟩) = _
    rw [firstH_apply, secondH_apply, hc, hs, hy, hy]
    have e1 : (⟨d.val - 32, by omega⟩ : Fin 32) = ⟨(h.val * 64 + d.val) % 32, by omega⟩ := Fin.ext (by show d.val - 32 = (h.val * 64 + d.val) % 32; omega)
    have e2 : headAt h ⟨32 + (d.val - 32), by omega⟩ = headAt h d := Fin.ext (by show h.val * 64 + (32 + (d.val - 32)) = h.val * 64 + d.val; omega)
    have e3 : headAt h ⟨d.val - 32, by omega⟩ = ⟨h.val * 64 + d.val - 32, by omega⟩ := Fin.ext (by show h.val * 64 + (d.val - 32) = h.val * 64 + d.val - 32; omega)
    rw [e2, e3, e1]

/-- Keys and values stacked, read. -/
theorem stackH_apply (k v : FVec Ideal S2x8192x8x64 .f32) (b : Fin 2) (s : Fin 8192) (q : Fin 2) (h : Fin 8) (d : Fin 64) :
    stackH k v (ix5 b s q h d) = if q.val < 1 then k (ix4 b s h d) else v (ix4 b s h d) := by
  pointwise [stackH]
  rfl

/-! ## The stages -/

variable (x0 : (⟨S16384x1024, .f32⟩ : BufTy).Contents (Elt Ideal)) (x1 : (⟨S1x1024, .f32⟩ : BufTy).Contents (Elt Ideal)) (x2 : (⟨S1024x4608, .bf16⟩ : BufTy).Contents (Elt Ideal)) (x3 : (⟨S3x2x64, .f32⟩ : BufTy).Contents (Elt Ideal))

/-- A token's row of the argument. -/
theorem row_at (b : Fin 2) (s : Fin 8192) (k : Fin 1024) : val_main_v0 (F := Ideal) x0 (ix3 b s k) = x0 (ix2 (rowOn b s) k) := by
  pointwise [val_main_v0]

/-- The RMS norm of a token's row. -/
theorem norm_at (b : Fin 2) (s : Fin 8192) (k : Fin 1024) :
    val_main_v14 (F := Ideal) x0 x1 (ix3 b s k) = rms (fun k => x0 (ix2 (rowOn b s) k)) (fun k => x1 (ix2 0 k)) k := by
  have e3 : val_main_v3 (F := Ideal) x0 (ix2 b s) = ∑ k : Fin 1024, x0 (ix2 (rowOn b s) k) * x0 (ix2 (rowOn b s) k) := by
    rw [val_main_v3_apply, val_main_cst_apply]
    refine (congrArg (· + _) Ideal.ofBits_zero_f32).trans ((zero_add _).trans (Finset.sum_congr rfl fun k _ => ?_))
    have e : idx_main_v3 (ix2 b s) k = ix3 b s k := funext fun a => by match a with | ⟨0, _⟩ => rfl | ⟨1, _⟩ => rfl | ⟨2, _⟩ => rfl
    rw [val_main_v2_apply, e, row_at]
    rfl
  have eg : val_main_v13 (F := Ideal) x1 (ix3 b s k) = x1 (ix2 0 k) := by
    pointwise [val_main_v13, val_main_v12, val_main_v1]
  have e10 : idx_main_v10 (ix3 b s k) = ix3 b s 0 := funext fun a => by match a with | ⟨0, _⟩ => rfl | ⟨1, _⟩ => rfl | ⟨2, _⟩ => rfl
  have e4 : idx_main_v4 (ix3 b s 0) = ix2 b s := funext fun a => by match a with | ⟨0, _⟩ => rfl | ⟨1, _⟩ => rfl
  rw [val_main_v14_apply, eg, val_main_v11_apply, val_main_v10_apply, e10, val_main_v9_apply, val_main_v8_apply, val_main_v6_apply,
    val_main_v4_apply, e4, e3, val_main_v5_apply, val_main_v7_apply, val_main_cst_0_apply, val_main_cst_1_apply, row_at]
  rfl

/-- A token's projection. -/
theorem proj_at (b : Fin 2) (s : Fin 8192) (j : Fin 4608) :
    val_main_v17 (F := Ideal) x0 x1 x2 (ix3 b s j) = rowZ x0 x1 x2 (rowOn b s) j := by
  rw [val_main_v17_apply]
  refine Finset.sum_congr rfl fun k _ => ?_
  have el : lidx_main_v17 (ix3 b s j) k = ix3 b s k := funext fun a => by match a with | ⟨0, _⟩ => rfl | ⟨1, _⟩ => rfl | ⟨2, _⟩ => rfl
  have er : ridx_main_v17 (ix3 b s j) k = ix2 k j := funext fun a => by match a with | ⟨0, _⟩ => rfl | ⟨1, _⟩ => rfl
  rw [el, er, norm_at, val_main_v16_apply]
  rfl

/-- The projection's queries of group 0, by head. -/
theorem part00_at (b : Fin 2) (s : Fin 8192) (h : Fin 8) (d : Fin 64) :
    val_main_v20 (F := Ideal) x0 x1 x2 (ix4 b s h d) = rowZ x0 x1 x2 (rowOn b s) (lane3 0 0 (headAt h d)) := by
  refine Eq.trans ?_ (proj_at x0 x1 x2 b s _)
  unfold val_main_v20 val_main_v19 val_main_v18
  generalize val_main_v17 (F := Ideal) x0 x1 x2 = T
  have e : shapeCast S2x8192x8x64 (extractStridedSlice S2x8192x1x1x8x64 ![0, 0, 0, 0, 0, 0] (shapeCast S2x8192x3x3x8x64 T shapeCasts_S2x8192x4608_S2x8192x3x3x8x64)
      slices_S2x8192x3x3x8x64_S2x8192x1x1x8x64_0_0_0_0_0_0) shapeCasts_S2x8192x1x1x8x64_S2x8192x8x64 (ix4 b s h d)
      = T (ix3 b s ⟨h.val * 64 + d.val, by omega⟩) := by
    pointwise
  exact e.trans (congrArg (fun l => T (ix3 b s l)) (Fin.ext (by show h.val * 64 + d.val = 1536 * 0 + 512 * 0 + (h.val * 64 + d.val); omega)))

/-- The gains of the queries of group 0. -/
theorem gain00_at (d : Fin 64) : val_main_v22 (F := Ideal) x3 (ix1 d) = x3 (ix3 0 0 d) := by
  pointwise [val_main_v22, val_main_v21]

/-- The queries of group 0, as operations. -/
theorem turned00_eq : val_main_v68 (F := Ideal) x0 x1 x2 x3 = turnH (normsH (val_main_v20 (F := Ideal) x0 x1 x2) (val_main_v22 (F := Ideal) x3)) := rfl

/-- The queries of group 0, by head. -/
theorem turned00_at (b : Fin 2) (s : Fin 8192) (h : Fin 8) (d : Fin 64) :
    val_main_v68 (F := Ideal) x0 x1 x2 x3 (ix4 b s h d) = turned x0 x1 x2 x3 0 0 (rowOn b s) (headAt h d) := by
  rw [turned00_eq]
  unfold turned
  rw [show (rowOn b s).val % 8192 = s.val by show (b.val * 8192 + s.val) % 8192 = s.val; omega]
  refine turnH_apply _ b s _ (fun h d => normsH_apply _ _ b s _ _ (fun h d => part00_at x0 x1 x2 b s h d) (fun h d => ?_) h d) h d
  rw [gain00_at]
  exact congrArg (fun l => x3 (ix3 0 0 l)) (Fin.ext (by show d.val = (h.val * 64 + d.val) % 64; omega))

/-- The projection's keys of group 0, by head. -/
theorem part01_at (b : Fin 2) (s : Fin 8192) (h : Fin 8) (d : Fin 64) :
    val_main_v70 (F := Ideal) x0 x1 x2 (ix4 b s h d) = rowZ x0 x1 x2 (rowOn b s) (lane3 0 1 (headAt h d)) := by
  refine Eq.trans ?_ (proj_at x0 x1 x2 b s _)
  unfold val_main_v70 val_main_v69 val_main_v18
  generalize val_main_v17 (F := Ideal) x0 x1 x2 = T
  have e : shapeCast S2x8192x8x64 (extractStridedSlice S2x8192x1x1x8x64 ![0, 0, 0, 1, 0, 0] (shapeCast S2x8192x3x3x8x64 T shapeCasts_S2x8192x4608_S2x8192x3x3x8x64)
      slices_S2x8192x3x3x8x64_S2x8192x1x1x8x64_0_0_0_1_0_0) shapeCasts_S2x8192x1x1x8x64_S2x8192x8x64 (ix4 b s h d)
      = T (ix3 b s ⟨512 + h.val * 64 + d.val, by omega⟩) := by
    pointwise
  exact e.trans (congrArg (fun l => T (ix3 b s l)) (Fin.ext (by show 512 + h.val * 64 + d.val = 1536 * 0 + 512 * 1 + (h.val * 64 + d.val); omega)))

/-- The gains of the keys of group 0. -/
theorem gain01_at (d : Fin 64) : val_main_v72 (F := Ideal) x3 (ix1 d) = x3 (ix3 0 1 d) := by
  pointwise [val_main_v72, val_main_v71]

/-- The keys of group 0, as operations. -/
theorem turned01_eq : val_main_v118 (F := Ideal) x0 x1 x2 x3 = turnH (normsH (val_main_v70 (F := Ideal) x0 x1 x2) (val_main_v72 (F := Ideal) x3)) := rfl

/-- The keys of group 0, by head. -/
theorem turned01_at (b : Fin 2) (s : Fin 8192) (h : Fin 8) (d : Fin 64) :
    val_main_v118 (F := Ideal) x0 x1 x2 x3 (ix4 b s h d) = turned x0 x1 x2 x3 0 1 (rowOn b s) (headAt h d) := by
  rw [turned01_eq]
  unfold turned
  rw [show (rowOn b s).val % 8192 = s.val by show (b.val * 8192 + s.val) % 8192 = s.val; omega]
  refine turnH_apply _ b s _ (fun h d => normsH_apply _ _ b s _ _ (fun h d => part01_at x0 x1 x2 b s h d) (fun h d => ?_) h d) h d
  rw [gain01_at]
  exact congrArg (fun l => x3 (ix3 0 1 l)) (Fin.ext (by show d.val = (h.val * 64 + d.val) % 64; omega))

/-- The projection's values of group 0, by head. -/
theorem part02_at (b : Fin 2) (s : Fin 8192) (h : Fin 8) (d : Fin 64) :
    val_main_v120 (F := Ideal) x0 x1 x2 (ix4 b s h d) = rowZ x0 x1 x2 (rowOn b s) (lane3 0 2 (headAt h d)) := by
  refine Eq.trans ?_ (proj_at x0 x1 x2 b s _)
  unfold val_main_v120 val_main_v119 val_main_v18
  generalize val_main_v17 (F := Ideal) x0 x1 x2 = T
  have e : shapeCast S2x8192x8x64 (extractStridedSlice S2x8192x1x1x8x64 ![0, 0, 0, 2, 0, 0] (shapeCast S2x8192x3x3x8x64 T shapeCasts_S2x8192x4608_S2x8192x3x3x8x64)
      slices_S2x8192x3x3x8x64_S2x8192x1x1x8x64_0_0_0_2_0_0) shapeCasts_S2x8192x1x1x8x64_S2x8192x8x64 (ix4 b s h d)
      = T (ix3 b s ⟨1024 + h.val * 64 + d.val, by omega⟩) := by
    pointwise
  exact e.trans (congrArg (fun l => T (ix3 b s l)) (Fin.ext (by show 1024 + h.val * 64 + d.val = 1536 * 0 + 512 * 2 + (h.val * 64 + d.val); omega)))

/-- The projection's queries of group 1, by head. -/
theorem part10_at (b : Fin 2) (s : Fin 8192) (h : Fin 8) (d : Fin 64) :
    val_main_v125 (F := Ideal) x0 x1 x2 (ix4 b s h d) = rowZ x0 x1 x2 (rowOn b s) (lane3 1 0 (headAt h d)) := by
  refine Eq.trans ?_ (proj_at x0 x1 x2 b s _)
  unfold val_main_v125 val_main_v124 val_main_v18
  generalize val_main_v17 (F := Ideal) x0 x1 x2 = T
  have e : shapeCast S2x8192x8x64 (extractStridedSlice S2x8192x1x1x8x64 ![0, 0, 1, 0, 0, 0] (shapeCast S2x8192x3x3x8x64 T shapeCasts_S2x8192x4608_S2x8192x3x3x8x64)
      slices_S2x8192x3x3x8x64_S2x8192x1x1x8x64_0_0_1_0_0_0) shapeCasts_S2x8192x1x1x8x64_S2x8192x8x64 (ix4 b s h d)
      = T (ix3 b s ⟨1536 + h.val * 64 + d.val, by omega⟩) := by
    pointwise
  exact e.trans (congrArg (fun l => T (ix3 b s l)) (Fin.ext (by show 1536 + h.val * 64 + d.val = 1536 * 1 + 512 * 0 + (h.val * 64 + d.val); omega)))

/-- The gains of the queries of group 1. -/
theorem gain10_at (d : Fin 64) : val_main_v127 (F := Ideal) x3 (ix1 d) = x3 (ix3 1 0 d) := by
  pointwise [val_main_v127, val_main_v126]

/-- The queries of group 1, as operations. -/
theorem turned10_eq : val_main_v173 (F := Ideal) x0 x1 x2 x3 = turnH (normsH (val_main_v125 (F := Ideal) x0 x1 x2) (val_main_v127 (F := Ideal) x3)) := rfl

/-- The queries of group 1, by head. -/
theorem turned10_at (b : Fin 2) (s : Fin 8192) (h : Fin 8) (d : Fin 64) :
    val_main_v173 (F := Ideal) x0 x1 x2 x3 (ix4 b s h d) = turned x0 x1 x2 x3 1 0 (rowOn b s) (headAt h d) := by
  rw [turned10_eq]
  unfold turned
  rw [show (rowOn b s).val % 8192 = s.val by show (b.val * 8192 + s.val) % 8192 = s.val; omega]
  refine turnH_apply _ b s _ (fun h d => normsH_apply _ _ b s _ _ (fun h d => part10_at x0 x1 x2 b s h d) (fun h d => ?_) h d) h d
  rw [gain10_at]
  exact congrArg (fun l => x3 (ix3 1 0 l)) (Fin.ext (by show d.val = (h.val * 64 + d.val) % 64; omega))

/-- The projection's keys of group 1, by head. -/
theorem part11_at (b : Fin 2) (s : Fin 8192) (h : Fin 8) (d : Fin 64) :
    val_main_v175 (F := Ideal) x0 x1 x2 (ix4 b s h d) = rowZ x0 x1 x2 (rowOn b s) (lane3 1 1 (headAt h d)) := by
  refine Eq.trans ?_ (proj_at x0 x1 x2 b s _)
  unfold val_main_v175 val_main_v174 val_main_v18
  generalize val_main_v17 (F := Ideal) x0 x1 x2 = T
  have e : shapeCast S2x8192x8x64 (extractStridedSlice S2x8192x1x1x8x64 ![0, 0, 1, 1, 0, 0] (shapeCast S2x8192x3x3x8x64 T shapeCasts_S2x8192x4608_S2x8192x3x3x8x64)
      slices_S2x8192x3x3x8x64_S2x8192x1x1x8x64_0_0_1_1_0_0) shapeCasts_S2x8192x1x1x8x64_S2x8192x8x64 (ix4 b s h d)
      = T (ix3 b s ⟨2048 + h.val * 64 + d.val, by omega⟩) := by
    pointwise
  exact e.trans (congrArg (fun l => T (ix3 b s l)) (Fin.ext (by show 2048 + h.val * 64 + d.val = 1536 * 1 + 512 * 1 + (h.val * 64 + d.val); omega)))

/-- The gains of the keys of group 1. -/
theorem gain11_at (d : Fin 64) : val_main_v177 (F := Ideal) x3 (ix1 d) = x3 (ix3 1 1 d) := by
  pointwise [val_main_v177, val_main_v176]

/-- The keys of group 1, as operations. -/
theorem turned11_eq : val_main_v223 (F := Ideal) x0 x1 x2 x3 = turnH (normsH (val_main_v175 (F := Ideal) x0 x1 x2) (val_main_v177 (F := Ideal) x3)) := rfl

/-- The keys of group 1, by head. -/
theorem turned11_at (b : Fin 2) (s : Fin 8192) (h : Fin 8) (d : Fin 64) :
    val_main_v223 (F := Ideal) x0 x1 x2 x3 (ix4 b s h d) = turned x0 x1 x2 x3 1 1 (rowOn b s) (headAt h d) := by
  rw [turned11_eq]
  unfold turned
  rw [show (rowOn b s).val % 8192 = s.val by show (b.val * 8192 + s.val) % 8192 = s.val; omega]
  refine turnH_apply _ b s _ (fun h d => normsH_apply _ _ b s _ _ (fun h d => part11_at x0 x1 x2 b s h d) (fun h d => ?_) h d) h d
  rw [gain11_at]
  exact congrArg (fun l => x3 (ix3 1 1 l)) (Fin.ext (by show d.val = (h.val * 64 + d.val) % 64; omega))

/-- The projection's values of group 1, by head. -/
theorem part12_at (b : Fin 2) (s : Fin 8192) (h : Fin 8) (d : Fin 64) :
    val_main_v225 (F := Ideal) x0 x1 x2 (ix4 b s h d) = rowZ x0 x1 x2 (rowOn b s) (lane3 1 2 (headAt h d)) := by
  refine Eq.trans ?_ (proj_at x0 x1 x2 b s _)
  unfold val_main_v225 val_main_v224 val_main_v18
  generalize val_main_v17 (F := Ideal) x0 x1 x2 = T
  have e : shapeCast S2x8192x8x64 (extractStridedSlice S2x8192x1x1x8x64 ![0, 0, 1, 2, 0, 0] (shapeCast S2x8192x3x3x8x64 T shapeCasts_S2x8192x4608_S2x8192x3x3x8x64)
      slices_S2x8192x3x3x8x64_S2x8192x1x1x8x64_0_0_1_2_0_0) shapeCasts_S2x8192x1x1x8x64_S2x8192x8x64 (ix4 b s h d)
      = T (ix3 b s ⟨2560 + h.val * 64 + d.val, by omega⟩) := by
    pointwise
  exact e.trans (congrArg (fun l => T (ix3 b s l)) (Fin.ext (by show 2560 + h.val * 64 + d.val = 1536 * 1 + 512 * 2 + (h.val * 64 + d.val); omega)))

/-- The projection's queries of group 2, by head. -/
theorem part20_at (b : Fin 2) (s : Fin 8192) (h : Fin 8) (d : Fin 64) :
    val_main_v230 (F := Ideal) x0 x1 x2 (ix4 b s h d) = rowZ x0 x1 x2 (rowOn b s) (lane3 2 0 (headAt h d)) := by
  refine Eq.trans ?_ (proj_at x0 x1 x2 b s _)
  unfold val_main_v230 val_main_v229 val_main_v18
  generalize val_main_v17 (F := Ideal) x0 x1 x2 = T
  have e : shapeCast S2x8192x8x64 (extractStridedSlice S2x8192x1x1x8x64 ![0, 0, 2, 0, 0, 0] (shapeCast S2x8192x3x3x8x64 T shapeCasts_S2x8192x4608_S2x8192x3x3x8x64)
      slices_S2x8192x3x3x8x64_S2x8192x1x1x8x64_0_0_2_0_0_0) shapeCasts_S2x8192x1x1x8x64_S2x8192x8x64 (ix4 b s h d)
      = T (ix3 b s ⟨3072 + h.val * 64 + d.val, by omega⟩) := by
    pointwise
  exact e.trans (congrArg (fun l => T (ix3 b s l)) (Fin.ext (by show 3072 + h.val * 64 + d.val = 1536 * 2 + 512 * 0 + (h.val * 64 + d.val); omega)))

/-- The gains of the queries of group 2. -/
theorem gain20_at (d : Fin 64) : val_main_v232 (F := Ideal) x3 (ix1 d) = x3 (ix3 2 0 d) := by
  pointwise [val_main_v232, val_main_v231]

/-- The queries of group 2, as operations. -/
theorem turned20_eq : val_main_v278 (F := Ideal) x0 x1 x2 x3 = turnH (normsH (val_main_v230 (F := Ideal) x0 x1 x2) (val_main_v232 (F := Ideal) x3)) := rfl

/-- The queries of group 2, by head. -/
theorem turned20_at (b : Fin 2) (s : Fin 8192) (h : Fin 8) (d : Fin 64) :
    val_main_v278 (F := Ideal) x0 x1 x2 x3 (ix4 b s h d) = turned x0 x1 x2 x3 2 0 (rowOn b s) (headAt h d) := by
  rw [turned20_eq]
  unfold turned
  rw [show (rowOn b s).val % 8192 = s.val by show (b.val * 8192 + s.val) % 8192 = s.val; omega]
  refine turnH_apply _ b s _ (fun h d => normsH_apply _ _ b s _ _ (fun h d => part20_at x0 x1 x2 b s h d) (fun h d => ?_) h d) h d
  rw [gain20_at]
  exact congrArg (fun l => x3 (ix3 2 0 l)) (Fin.ext (by show d.val = (h.val * 64 + d.val) % 64; omega))

/-- The projection's keys of group 2, by head. -/
theorem part21_at (b : Fin 2) (s : Fin 8192) (h : Fin 8) (d : Fin 64) :
    val_main_v280 (F := Ideal) x0 x1 x2 (ix4 b s h d) = rowZ x0 x1 x2 (rowOn b s) (lane3 2 1 (headAt h d)) := by
  refine Eq.trans ?_ (proj_at x0 x1 x2 b s _)
  unfold val_main_v280 val_main_v279 val_main_v18
  generalize val_main_v17 (F := Ideal) x0 x1 x2 = T
  have e : shapeCast S2x8192x8x64 (extractStridedSlice S2x8192x1x1x8x64 ![0, 0, 2, 1, 0, 0] (shapeCast S2x8192x3x3x8x64 T shapeCasts_S2x8192x4608_S2x8192x3x3x8x64)
      slices_S2x8192x3x3x8x64_S2x8192x1x1x8x64_0_0_2_1_0_0) shapeCasts_S2x8192x1x1x8x64_S2x8192x8x64 (ix4 b s h d)
      = T (ix3 b s ⟨3584 + h.val * 64 + d.val, by omega⟩) := by
    pointwise
  exact e.trans (congrArg (fun l => T (ix3 b s l)) (Fin.ext (by show 3584 + h.val * 64 + d.val = 1536 * 2 + 512 * 1 + (h.val * 64 + d.val); omega)))

/-- The gains of the keys of group 2. -/
theorem gain21_at (d : Fin 64) : val_main_v282 (F := Ideal) x3 (ix1 d) = x3 (ix3 2 1 d) := by
  pointwise [val_main_v282, val_main_v281]

/-- The keys of group 2, as operations. -/
theorem turned21_eq : val_main_v328 (F := Ideal) x0 x1 x2 x3 = turnH (normsH (val_main_v280 (F := Ideal) x0 x1 x2) (val_main_v282 (F := Ideal) x3)) := rfl

/-- The keys of group 2, by head. -/
theorem turned21_at (b : Fin 2) (s : Fin 8192) (h : Fin 8) (d : Fin 64) :
    val_main_v328 (F := Ideal) x0 x1 x2 x3 (ix4 b s h d) = turned x0 x1 x2 x3 2 1 (rowOn b s) (headAt h d) := by
  rw [turned21_eq]
  unfold turned
  rw [show (rowOn b s).val % 8192 = s.val by show (b.val * 8192 + s.val) % 8192 = s.val; omega]
  refine turnH_apply _ b s _ (fun h d => normsH_apply _ _ b s _ _ (fun h d => part21_at x0 x1 x2 b s h d) (fun h d => ?_) h d) h d
  rw [gain21_at]
  exact congrArg (fun l => x3 (ix3 2 1 l)) (Fin.ext (by show d.val = (h.val * 64 + d.val) % 64; omega))

/-- The projection's values of group 2, by head. -/
theorem part22_at (b : Fin 2) (s : Fin 8192) (h : Fin 8) (d : Fin 64) :
    val_main_v330 (F := Ideal) x0 x1 x2 (ix4 b s h d) = rowZ x0 x1 x2 (rowOn b s) (lane3 2 2 (headAt h d)) := by
  refine Eq.trans ?_ (proj_at x0 x1 x2 b s _)
  unfold val_main_v330 val_main_v329 val_main_v18
  generalize val_main_v17 (F := Ideal) x0 x1 x2 = T
  have e : shapeCast S2x8192x8x64 (extractStridedSlice S2x8192x1x1x8x64 ![0, 0, 2, 2, 0, 0] (shapeCast S2x8192x3x3x8x64 T shapeCasts_S2x8192x4608_S2x8192x3x3x8x64)
      slices_S2x8192x3x3x8x64_S2x8192x1x1x8x64_0_0_2_2_0_0) shapeCasts_S2x8192x1x1x8x64_S2x8192x8x64 (ix4 b s h d)
      = T (ix3 b s ⟨4096 + h.val * 64 + d.val, by omega⟩) := by
    pointwise
  exact e.trans (congrArg (fun l => T (ix3 b s l)) (Fin.ext (by show 4096 + h.val * 64 + d.val = 1536 * 2 + 512 * 2 + (h.val * 64 + d.val); omega)))

/-- The rows of group 0, as operations. -/
theorem rows0_eq : val_main_v123 (F := Ideal) x0 x1 x2 x3 = stackH (val_main_v118 (F := Ideal) x0 x1 x2 x3) (val_main_v120 (F := Ideal) x0 x1 x2) := rfl

/-- The rows of group 0, by head. -/
theorem rows0_at (b : Fin 2) (s : Fin 8192) (q : Fin 2) (h : Fin 8) (d : Fin 64) :
    val_main_v123 (F := Ideal) x0 x1 x2 x3 (ix5 b s q h d) = rowsAt x0 x1 x2 x3 0 (rowOn b s) ⟨q.val * 512 + (h.val * 64 + d.val), by omega⟩ := by
  have hq := q.isLt
  rw [rows0_eq, stackH_apply]
  unfold rowsAt
  by_cases hl : q.val < 1
  · rw [if_pos hl, dif_pos (show q.val * 512 + (h.val * 64 + d.val) < 512 by omega), turned01_at]
    exact congrArg _ (Fin.ext (by show h.val * 64 + d.val = q.val * 512 + (h.val * 64 + d.val); omega))
  · rw [if_neg hl, dif_neg (show ¬ q.val * 512 + (h.val * 64 + d.val) < 512 by omega), part02_at]
    refine congrArg _ (Fin.ext ?_)
    show 1536 * 0 + 512 * 2 + (h.val * 64 + d.val) = 1536 * 0 + 512 * 2 + (q.val * 512 + (h.val * 64 + d.val) - 512)
    omega

/-- The rows of group 1, as operations. -/
theorem rows1_eq : val_main_v228 (F := Ideal) x0 x1 x2 x3 = stackH (val_main_v223 (F := Ideal) x0 x1 x2 x3) (val_main_v225 (F := Ideal) x0 x1 x2) := rfl

/-- The rows of group 1, by head. -/
theorem rows1_at (b : Fin 2) (s : Fin 8192) (q : Fin 2) (h : Fin 8) (d : Fin 64) :
    val_main_v228 (F := Ideal) x0 x1 x2 x3 (ix5 b s q h d) = rowsAt x0 x1 x2 x3 1 (rowOn b s) ⟨q.val * 512 + (h.val * 64 + d.val), by omega⟩ := by
  have hq := q.isLt
  rw [rows1_eq, stackH_apply]
  unfold rowsAt
  by_cases hl : q.val < 1
  · rw [if_pos hl, dif_pos (show q.val * 512 + (h.val * 64 + d.val) < 512 by omega), turned11_at]
    exact congrArg _ (Fin.ext (by show h.val * 64 + d.val = q.val * 512 + (h.val * 64 + d.val); omega))
  · rw [if_neg hl, dif_neg (show ¬ q.val * 512 + (h.val * 64 + d.val) < 512 by omega), part12_at]
    refine congrArg _ (Fin.ext ?_)
    show 1536 * 1 + 512 * 2 + (h.val * 64 + d.val) = 1536 * 1 + 512 * 2 + (q.val * 512 + (h.val * 64 + d.val) - 512)
    omega

/-- The rows of group 2, as operations. -/
theorem rows2_eq : val_main_v333 (F := Ideal) x0 x1 x2 x3 = stackH (val_main_v328 (F := Ideal) x0 x1 x2 x3) (val_main_v330 (F := Ideal) x0 x1 x2) := rfl

/-- The rows of group 2, by head. -/
theorem rows2_at (b : Fin 2) (s : Fin 8192) (q : Fin 2) (h : Fin 8) (d : Fin 64) :
    val_main_v333 (F := Ideal) x0 x1 x2 x3 (ix5 b s q h d) = rowsAt x0 x1 x2 x3 2 (rowOn b s) ⟨q.val * 512 + (h.val * 64 + d.val), by omega⟩ := by
  have hq := q.isLt
  rw [rows2_eq, stackH_apply]
  unfold rowsAt
  by_cases hl : q.val < 1
  · rw [if_pos hl, dif_pos (show q.val * 512 + (h.val * 64 + d.val) < 512 by omega), turned21_at]
    exact congrArg _ (Fin.ext (by show h.val * 64 + d.val = q.val * 512 + (h.val * 64 + d.val); omega))
  · rw [if_neg hl, dif_neg (show ¬ q.val * 512 + (h.val * 64 + d.val) < 512 by omega), part22_at]
    refine congrArg _ (Fin.ext ?_)
    show 1536 * 2 + 512 * 2 + (h.val * 64 + d.val) = 1536 * 2 + 512 * 2 + (q.val * 512 + (h.val * 64 + d.val) - 512)
    omega

/-! ## The results -/

/-- The queries of group 0, by row and lane. -/
theorem res340_at (r : Fin 16384) (l : Fin 512) :
    val_main_v340 (F := Ideal) x0 x1 x2 x3 (ix2 r l) = queryAt x0 x1 x2 x3 0 r l := by
  have e : idx_main_v340 (ix2 r l) = ix4 ⟨r.val / 8192, by omega⟩ ⟨r.val % 8192, by omega⟩ ⟨l.val / 64, by omega⟩ ⟨l.val % 64, by omega⟩ := by
    have h0 := r.isLt
    have h1 := l.isLt
    refine funext fun a => Fin.ext ?_
    match a with
    | ⟨0, _⟩ => show (r.val * 512 + l.val) / 4194304 = r.val / 8192; omega
    | ⟨1, _⟩ => show (r.val * 512 + l.val) / 512 % 8192 = r.val % 8192; omega
    | ⟨2, _⟩ => show (r.val * 512 + l.val) / 64 % 8 = l.val / 64; omega
    | ⟨3, _⟩ => show (r.val * 512 + l.val) % 64 = l.val % 64; omega
  rw [val_main_v340_apply, e, val_main_v339_apply, val_main_v338_apply, turned00_at, val_main_v337_apply, val_main_cst_32_apply]
  have er : rowOn ⟨r.val / 8192, by omega⟩ ⟨r.val % 8192, by omega⟩ = r := Fin.ext (by show r.val / 8192 * 8192 + r.val % 8192 = r.val; omega)
  have el : headAt ⟨l.val / 64, by omega⟩ ⟨l.val % 64, by omega⟩ = l := Fin.ext (by show l.val / 64 * 64 + l.val % 64 = l.val; omega)
  rw [er, el]
  rfl

/-- The queries of group 1, by row and lane. -/
theorem res344_at (r : Fin 16384) (l : Fin 512) :
    val_main_v344 (F := Ideal) x0 x1 x2 x3 (ix2 r l) = queryAt x0 x1 x2 x3 1 r l := by
  have e : idx_main_v344 (ix2 r l) = ix4 ⟨r.val / 8192, by omega⟩ ⟨r.val % 8192, by omega⟩ ⟨l.val / 64, by omega⟩ ⟨l.val % 64, by omega⟩ := by
    have h0 := r.isLt
    have h1 := l.isLt
    refine funext fun a => Fin.ext ?_
    match a with
    | ⟨0, _⟩ => show (r.val * 512 + l.val) / 4194304 = r.val / 8192; omega
    | ⟨1, _⟩ => show (r.val * 512 + l.val) / 512 % 8192 = r.val % 8192; omega
    | ⟨2, _⟩ => show (r.val * 512 + l.val) / 64 % 8 = l.val / 64; omega
    | ⟨3, _⟩ => show (r.val * 512 + l.val) % 64 = l.val % 64; omega
  rw [val_main_v344_apply, e, val_main_v343_apply, val_main_v342_apply, turned10_at, val_main_v341_apply, val_main_cst_33_apply]
  have er : rowOn ⟨r.val / 8192, by omega⟩ ⟨r.val % 8192, by omega⟩ = r := Fin.ext (by show r.val / 8192 * 8192 + r.val % 8192 = r.val; omega)
  have el : headAt ⟨l.val / 64, by omega⟩ ⟨l.val % 64, by omega⟩ = l := Fin.ext (by show l.val / 64 * 64 + l.val % 64 = l.val; omega)
  rw [er, el]
  rfl

/-- The queries of group 2, by row and lane. -/
theorem res348_at (r : Fin 16384) (l : Fin 512) :
    val_main_v348 (F := Ideal) x0 x1 x2 x3 (ix2 r l) = queryAt x0 x1 x2 x3 2 r l := by
  have e : idx_main_v348 (ix2 r l) = ix4 ⟨r.val / 8192, by omega⟩ ⟨r.val % 8192, by omega⟩ ⟨l.val / 64, by omega⟩ ⟨l.val % 64, by omega⟩ := by
    have h0 := r.isLt
    have h1 := l.isLt
    refine funext fun a => Fin.ext ?_
    match a with
    | ⟨0, _⟩ => show (r.val * 512 + l.val) / 4194304 = r.val / 8192; omega
    | ⟨1, _⟩ => show (r.val * 512 + l.val) / 512 % 8192 = r.val % 8192; omega
    | ⟨2, _⟩ => show (r.val * 512 + l.val) / 64 % 8 = l.val / 64; omega
    | ⟨3, _⟩ => show (r.val * 512 + l.val) % 64 = l.val % 64; omega
  rw [val_main_v348_apply, e, val_main_v347_apply, val_main_v346_apply, turned20_at, val_main_v345_apply, val_main_cst_34_apply]
  have er : rowOn ⟨r.val / 8192, by omega⟩ ⟨r.val % 8192, by omega⟩ = r := Fin.ext (by show r.val / 8192 * 8192 + r.val % 8192 = r.val; omega)
  have el : headAt ⟨l.val / 64, by omega⟩ ⟨l.val % 64, by omega⟩ = l := Fin.ext (by show l.val / 64 * 64 + l.val % 64 = l.val; omega)
  rw [er, el]
  rfl

/-- The rows of group 0, by row and lane. -/
theorem res349_at (r : Fin 16384) (l : Fin 1024) :
    val_main_v349 (F := Ideal) x0 x1 x2 x3 (ix2 r l) = rowsAt x0 x1 x2 x3 0 r l := by
  have e : idx_main_v349 (ix2 r l) = ix5 ⟨r.val / 8192, by omega⟩ ⟨r.val % 8192, by omega⟩ ⟨l.val / 512, by omega⟩ ⟨l.val / 64 % 8, by omega⟩ ⟨l.val % 64, by omega⟩ := by
    have h0 := r.isLt
    have h1 := l.isLt
    refine funext fun a => Fin.ext ?_
    match a with
    | ⟨0, _⟩ => show (r.val * 1024 + l.val) / 8388608 = r.val / 8192; omega
    | ⟨1, _⟩ => show (r.val * 1024 + l.val) / 1024 % 8192 = r.val % 8192; omega
    | ⟨2, _⟩ => show (r.val * 1024 + l.val) / 512 % 2 = l.val / 512; omega
    | ⟨3, _⟩ => show (r.val * 1024 + l.val) / 64 % 8 = l.val / 64 % 8; omega
    | ⟨4, _⟩ => show (r.val * 1024 + l.val) % 64 = l.val % 64; omega
  rw [val_main_v349_apply, e, rows0_at]
  have er : rowOn ⟨r.val / 8192, by omega⟩ ⟨r.val % 8192, by omega⟩ = r := Fin.ext (by show r.val / 8192 * 8192 + r.val % 8192 = r.val; omega)
  have el : (⟨l.val / 512 * 512 + (l.val / 64 % 8 * 64 + l.val % 64), by omega⟩ : Fin 1024) = l :=
    Fin.ext (by show l.val / 512 * 512 + (l.val / 64 % 8 * 64 + l.val % 64) = l.val; omega)
  rw [er]
  exact congrArg _ el

/-- The rows of group 1, by row and lane. -/
theorem res350_at (r : Fin 16384) (l : Fin 1024) :
    val_main_v350 (F := Ideal) x0 x1 x2 x3 (ix2 r l) = rowsAt x0 x1 x2 x3 1 r l := by
  have e : idx_main_v350 (ix2 r l) = ix5 ⟨r.val / 8192, by omega⟩ ⟨r.val % 8192, by omega⟩ ⟨l.val / 512, by omega⟩ ⟨l.val / 64 % 8, by omega⟩ ⟨l.val % 64, by omega⟩ := by
    have h0 := r.isLt
    have h1 := l.isLt
    refine funext fun a => Fin.ext ?_
    match a with
    | ⟨0, _⟩ => show (r.val * 1024 + l.val) / 8388608 = r.val / 8192; omega
    | ⟨1, _⟩ => show (r.val * 1024 + l.val) / 1024 % 8192 = r.val % 8192; omega
    | ⟨2, _⟩ => show (r.val * 1024 + l.val) / 512 % 2 = l.val / 512; omega
    | ⟨3, _⟩ => show (r.val * 1024 + l.val) / 64 % 8 = l.val / 64 % 8; omega
    | ⟨4, _⟩ => show (r.val * 1024 + l.val) % 64 = l.val % 64; omega
  rw [val_main_v350_apply, e, rows1_at]
  have er : rowOn ⟨r.val / 8192, by omega⟩ ⟨r.val % 8192, by omega⟩ = r := Fin.ext (by show r.val / 8192 * 8192 + r.val % 8192 = r.val; omega)
  have el : (⟨l.val / 512 * 512 + (l.val / 64 % 8 * 64 + l.val % 64), by omega⟩ : Fin 1024) = l :=
    Fin.ext (by show l.val / 512 * 512 + (l.val / 64 % 8 * 64 + l.val % 64) = l.val; omega)
  rw [er]
  exact congrArg _ el

/-- The rows of group 2, by row and lane. -/
theorem res351_at (r : Fin 16384) (l : Fin 1024) :
    val_main_v351 (F := Ideal) x0 x1 x2 x3 (ix2 r l) = rowsAt x0 x1 x2 x3 2 r l := by
  have e : idx_main_v351 (ix2 r l) = ix5 ⟨r.val / 8192, by omega⟩ ⟨r.val % 8192, by omega⟩ ⟨l.val / 512, by omega⟩ ⟨l.val / 64 % 8, by omega⟩ ⟨l.val % 64, by omega⟩ := by
    have h0 := r.isLt
    have h1 := l.isLt
    refine funext fun a => Fin.ext ?_
    match a with
    | ⟨0, _⟩ => show (r.val * 1024 + l.val) / 8388608 = r.val / 8192; omega
    | ⟨1, _⟩ => show (r.val * 1024 + l.val) / 1024 % 8192 = r.val % 8192; omega
    | ⟨2, _⟩ => show (r.val * 1024 + l.val) / 512 % 2 = l.val / 512; omega
    | ⟨3, _⟩ => show (r.val * 1024 + l.val) / 64 % 8 = l.val / 64 % 8; omega
    | ⟨4, _⟩ => show (r.val * 1024 + l.val) % 64 = l.val % 64; omega
  rw [val_main_v351_apply, e, rows2_at]
  have er : rowOn ⟨r.val / 8192, by omega⟩ ⟨r.val % 8192, by omega⟩ = r := Fin.ext (by show r.val / 8192 * 8192 + r.val % 8192 = r.val; omega)
  have el : (⟨l.val / 512 * 512 + (l.val / 64 % 8 * 64 + l.val % 64), by omega⟩ : Fin 1024) = l :=
    Fin.ext (by show l.val / 512 * 512 + (l.val / 64 % 8 * 64 + l.val % 64) = l.val; omega)
  rw [er]
  exact congrArg _ el

/-- The tail of group 0, by sequence, lane and token. -/
theorem res353_at (b : Fin 2) (l : Fin 1024) (u : Fin 128) :
    val_main_v353 (F := Ideal) x0 x1 x2 x3 (ix3 b l u) = rowsAt x0 x1 x2 x3 0 (lastRow 128 (by decide) b u) l := by
  have h0 := b.isLt
  have h1 := l.isLt
  have h2 := u.isLt
  have e : idx_main_v334 (idx_main_v352 (idx_main_v353 (ix3 b l u)))
      = ix5 b ⟨8064 + u.val, by omega⟩ ⟨l.val / 512, by omega⟩ ⟨l.val / 64 % 8, by omega⟩ ⟨l.val % 64, by omega⟩ := by
    refine funext fun a => Fin.ext ?_
    match a with
    | ⟨0, _⟩ => show ((b.val * 128 + u.val) * 1024 + l.val) / 131072 = b.val; omega
    | ⟨1, _⟩ => show 8064 + ((b.val * 128 + u.val) * 1024 + l.val) / 1024 % 128 = 8064 + u.val; omega
    | ⟨2, _⟩ => show ((b.val * 128 + u.val) * 1024 + l.val) / 512 % 2 = l.val / 512; omega
    | ⟨3, _⟩ => show ((b.val * 128 + u.val) * 1024 + l.val) / 64 % 8 = l.val / 64 % 8; omega
    | ⟨4, _⟩ => show ((b.val * 128 + u.val) * 1024 + l.val) % 64 = l.val % 64; omega
  rw [val_main_v353_apply, val_main_v352_apply, val_main_v334_apply, e, rows0_at]
  have er : rowOn b ⟨8064 + u.val, by omega⟩ = lastRow 128 (by decide) b u :=
    Fin.ext (by show b.val * 8192 + (8064 + u.val) = b.val * 8192 + (8192 - 128) + u.val; omega)
  have el : (⟨l.val / 512 * 512 + (l.val / 64 % 8 * 64 + l.val % 64), by omega⟩ : Fin 1024) = l :=
    Fin.ext (by show l.val / 512 * 512 + (l.val / 64 % 8 * 64 + l.val % 64) = l.val; omega)
  rw [er]
  exact congrArg _ el

/-- The tail of group 1, by sequence, lane and token. -/
theorem res355_at (b : Fin 2) (l : Fin 1024) (u : Fin 512) :
    val_main_v355 (F := Ideal) x0 x1 x2 x3 (ix3 b l u) = rowsAt x0 x1 x2 x3 1 (lastRow 512 (by decide) b u) l := by
  have h0 := b.isLt
  have h1 := l.isLt
  have h2 := u.isLt
  have e : idx_main_v335 (idx_main_v354 (idx_main_v355 (ix3 b l u)))
      = ix5 b ⟨7680 + u.val, by omega⟩ ⟨l.val / 512, by omega⟩ ⟨l.val / 64 % 8, by omega⟩ ⟨l.val % 64, by omega⟩ := by
    refine funext fun a => Fin.ext ?_
    match a with
    | ⟨0, _⟩ => show ((b.val * 512 + u.val) * 1024 + l.val) / 524288 = b.val; omega
    | ⟨1, _⟩ => show 7680 + ((b.val * 512 + u.val) * 1024 + l.val) / 1024 % 512 = 7680 + u.val; omega
    | ⟨2, _⟩ => show ((b.val * 512 + u.val) * 1024 + l.val) / 512 % 2 = l.val / 512; omega
    | ⟨3, _⟩ => show ((b.val * 512 + u.val) * 1024 + l.val) / 64 % 8 = l.val / 64 % 8; omega
    | ⟨4, _⟩ => show ((b.val * 512 + u.val) * 1024 + l.val) % 64 = l.val % 64; omega
  rw [val_main_v355_apply, val_main_v354_apply, val_main_v335_apply, e, rows1_at]
  have er : rowOn b ⟨7680 + u.val, by omega⟩ = lastRow 512 (by decide) b u :=
    Fin.ext (by show b.val * 8192 + (7680 + u.val) = b.val * 8192 + (8192 - 512) + u.val; omega)
  have el : (⟨l.val / 512 * 512 + (l.val / 64 % 8 * 64 + l.val % 64), by omega⟩ : Fin 1024) = l :=
    Fin.ext (by show l.val / 512 * 512 + (l.val / 64 % 8 * 64 + l.val % 64) = l.val; omega)
  rw [er]
  exact congrArg _ el

/-- The tail of group 2, by sequence, lane and token. -/
theorem res357_at (b : Fin 2) (l : Fin 1024) (u : Fin 2048) :
    val_main_v357 (F := Ideal) x0 x1 x2 x3 (ix3 b l u) = rowsAt x0 x1 x2 x3 2 (lastRow 2048 (by decide) b u) l := by
  have h0 := b.isLt
  have h1 := l.isLt
  have h2 := u.isLt
  have e : idx_main_v336 (idx_main_v356 (idx_main_v357 (ix3 b l u)))
      = ix5 b ⟨6144 + u.val, by omega⟩ ⟨l.val / 512, by omega⟩ ⟨l.val / 64 % 8, by omega⟩ ⟨l.val % 64, by omega⟩ := by
    refine funext fun a => Fin.ext ?_
    match a with
    | ⟨0, _⟩ => show ((b.val * 2048 + u.val) * 1024 + l.val) / 2097152 = b.val; omega
    | ⟨1, _⟩ => show 6144 + ((b.val * 2048 + u.val) * 1024 + l.val) / 1024 % 2048 = 6144 + u.val; omega
    | ⟨2, _⟩ => show ((b.val * 2048 + u.val) * 1024 + l.val) / 512 % 2 = l.val / 512; omega
    | ⟨3, _⟩ => show ((b.val * 2048 + u.val) * 1024 + l.val) / 64 % 8 = l.val / 64 % 8; omega
    | ⟨4, _⟩ => show ((b.val * 2048 + u.val) * 1024 + l.val) % 64 = l.val % 64; omega
  rw [val_main_v357_apply, val_main_v356_apply, val_main_v336_apply, e, rows2_at]
  have er : rowOn b ⟨6144 + u.val, by omega⟩ = lastRow 2048 (by decide) b u :=
    Fin.ext (by show b.val * 8192 + (6144 + u.val) = b.val * 8192 + (8192 - 2048) + u.val; omega)
  have el : (⟨l.val / 512 * 512 + (l.val / 64 % 8 * 64 + l.val % 64), by omega⟩ : Fin 1024) = l :=
    Fin.ext (by show l.val / 512 * 512 + (l.val / 64 % 8 * 64 + l.val % 64) = l.val; omega)
  rw [er]
  exact congrArg _ el

/-! ## The run -/

/-- The run: the result arrays, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v340) = (fun k => queryAt (m ((c.tc : Thread nD τ).loc main_arg0)) (m ((c.tc : Thread nD τ).loc main_arg1)) (m ((c.tc : Thread nD τ).loc main_arg2)) (m ((c.tc : Thread nD τ).loc main_arg3)) 0 (k 0) (k 1))
      ∧ r.2.mem ((c.tc : Thread nD τ).loc main_v344) = (fun k => queryAt (m ((c.tc : Thread nD τ).loc main_arg0)) (m ((c.tc : Thread nD τ).loc main_arg1)) (m ((c.tc : Thread nD τ).loc main_arg2)) (m ((c.tc : Thread nD τ).loc main_arg3)) 1 (k 0) (k 1))
      ∧ r.2.mem ((c.tc : Thread nD τ).loc main_v348) = (fun k => queryAt (m ((c.tc : Thread nD τ).loc main_arg0)) (m ((c.tc : Thread nD τ).loc main_arg1)) (m ((c.tc : Thread nD τ).loc main_arg2)) (m ((c.tc : Thread nD τ).loc main_arg3)) 2 (k 0) (k 1))
      ∧ r.2.mem ((c.tc : Thread nD τ).loc main_v349) = (fun k => rowsAt (m ((c.tc : Thread nD τ).loc main_arg0)) (m ((c.tc : Thread nD τ).loc main_arg1)) (m ((c.tc : Thread nD τ).loc main_arg2)) (m ((c.tc : Thread nD τ).loc main_arg3)) 0 (k 0) (k 1))
      ∧ r.2.mem ((c.tc : Thread nD τ).loc main_v350) = (fun k => rowsAt (m ((c.tc : Thread nD τ).loc main_arg0)) (m ((c.tc : Thread nD τ).loc main_arg1)) (m ((c.tc : Thread nD τ).loc main_arg2)) (m ((c.tc : Thread nD τ).loc main_arg3)) 1 (k 0) (k 1))
      ∧ r.2.mem ((c.tc : Thread nD τ).loc main_v351) = (fun k => rowsAt (m ((c.tc : Thread nD τ).loc main_arg0)) (m ((c.tc : Thread nD τ).loc main_arg1)) (m ((c.tc : Thread nD τ).loc main_arg2)) (m ((c.tc : Thread nD τ).loc main_arg3)) 2 (k 0) (k 1))
      ∧ r.2.mem ((c.tc : Thread nD τ).loc main_v353) = (fun k => rowsAt (m ((c.tc : Thread nD τ).loc main_arg0)) (m ((c.tc : Thread nD τ).loc main_arg1)) (m ((c.tc : Thread nD τ).loc main_arg2)) (m ((c.tc : Thread nD τ).loc main_arg3)) 0 (lastRow 128 (by decide) (k 0) (k 2)) (k 1))
      ∧ r.2.mem ((c.tc : Thread nD τ).loc main_v355) = (fun k => rowsAt (m ((c.tc : Thread nD τ).loc main_arg0)) (m ((c.tc : Thread nD τ).loc main_arg1)) (m ((c.tc : Thread nD τ).loc main_arg2)) (m ((c.tc : Thread nD τ).loc main_arg3)) 1 (lastRow 512 (by decide) (k 0) (k 2)) (k 1))
      ∧ r.2.mem ((c.tc : Thread nD τ).loc main_v357) = (fun k => rowsAt (m ((c.tc : Thread nD τ).loc main_arg0)) (m ((c.tc : Thread nD τ).loc main_arg1)) (m ((c.tc : Thread nD τ).loc main_arg2)) (m ((c.tc : Thread nD τ).loc main_arg3)) 2 (lastRow 2048 (by decide) (k 0) (k 2)) (k 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans ((val_main_v340_eq _).trans (funext fun k => (congrArg _ (eq_ix2 (n0 := 16384) (n1 := 512) k)).trans (res340_at _ _ _ _ (k 0) (k 1)))),
    (h c).2.1.trans ((val_main_v344_eq _).trans (funext fun k => (congrArg _ (eq_ix2 (n0 := 16384) (n1 := 512) k)).trans (res344_at _ _ _ _ (k 0) (k 1)))),
    (h c).2.2.1.trans ((val_main_v348_eq _).trans (funext fun k => (congrArg _ (eq_ix2 (n0 := 16384) (n1 := 512) k)).trans (res348_at _ _ _ _ (k 0) (k 1)))),
    (h c).2.2.2.1.trans ((val_main_v349_eq _).trans (funext fun k => (congrArg _ (eq_ix2 (n0 := 16384) (n1 := 1024) k)).trans (res349_at _ _ _ _ (k 0) (k 1)))),
    (h c).2.2.2.2.1.trans ((val_main_v350_eq _).trans (funext fun k => (congrArg _ (eq_ix2 (n0 := 16384) (n1 := 1024) k)).trans (res350_at _ _ _ _ (k 0) (k 1)))),
    (h c).2.2.2.2.2.1.trans ((val_main_v351_eq _).trans (funext fun k => (congrArg _ (eq_ix2 (n0 := 16384) (n1 := 1024) k)).trans (res351_at _ _ _ _ (k 0) (k 1)))),
    (h c).2.2.2.2.2.2.1.trans ((val_main_v353_eq _).trans (funext fun k => (congrArg _ (eq_ix3 (n0 := 2) (n1 := 1024) (n2 := 128) k)).trans (res353_at _ _ _ _ (k 0) (k 1) (k 2)))),
    (h c).2.2.2.2.2.2.2.1.trans ((val_main_v355_eq _).trans (funext fun k => (congrArg _ (eq_ix3 (n0 := 2) (n1 := 1024) (n2 := 512) k)).trans (res355_at _ _ _ _ (k 0) (k 1) (k 2)))),
    (h c).2.2.2.2.2.2.2.2.1.trans ((val_main_v357_eq _).trans (funext fun k => (congrArg _ (eq_ix3 (n0 := 2) (n1 := 1024) (n2 := 2048) k)).trans (res357_at _ _ _ _ (k 0) (k 1) (k 2)))),
    (h c).2.2.2.2.2.2.2.2.2⟩) (Value.run m ρ)

end Cert.RefProjCIdeal.Own

end
-- ==== Proof.ProjAOut.lean ====
/-
  The even layer's input projection: what its body leaves in each output's staging buffer, at the ideal values, as the block's operations.
-/
module

public import proofs.«01_k».proof.Proof.ProjRef
public import proofs.«01_k».proof.Proof.Gen.ProjAIdeal.Frame

@[expose] public section

set_option maxRecDepth 16384

noncomputable section

namespace Cert.ProjAIdeal.Own

open Idealize.ShloMosaic Idealize.ShloMosaic.TcCoe Idealize.SL.Sem
open Idealize.ShloMosaic.Pipeline (Dat)
open Cert.ProjAIdeal Cert.ProjAIdeal.Gen Cert.Post Cert.Proj
open Cert.ProjCIdeal.Own (hz hz3 stored covered)

/-- A load through a whole buffer that reads `X` reads `X` at the rectangle's indices. -/
theorem load {s : Shape} {e : EltTy} {m : Memref sig .tc .vmem s e} (h : m.IsWhole) (X : s.Idx → Elt Ideal e) (r : Rect s) :
    View.readAt (Elt Ideal) m.view r.toLoadRect (h.unread X) = View.ld X r := by
  rw [View.readAt_eq_ld, h.read_unread]

/-- A block of 1024 lanes against the padded weights. -/
def dotWide : DotDims S256x1024 S1024x3072 S256x3072 where
  lhsContracting := [1]
  rhsContracting := [0]
  lhsNonContracting := [0]
  rhsNonContracting := [1]
  lhsBatch := []
  rhsBatch := []
  wf := by decide

/-- The forget gate's low-rank lanes against the padded weights. -/
def dotLow : DotDims S256x128 S128x256 S256x256 where
  lhsContracting := [1]
  rhsContracting := [0]
  lhsNonContracting := [0]
  rhsNonContracting := [1]
  lhsBatch := []
  rhsBatch := []
  wf := by decide

/-- The block's projection, in the padded columns. -/
def zOpA (x : FVec Ideal S256x1024 .f32) (g : FVec Ideal S1x1024 .f32) (w : FVec Ideal S1024x3072 .bf16) : FVec Ideal S256x3072 .f32 :=
  matmul dotWide none (rmsOp x g) (shapeCast S1024x3072 w (by decide)) (constant S256x3072 .f32 0x00000000#32)

/-- The forget gate before its bias. -/
def preOp (z : FVec Ideal S256x3072 .f32) (w : FVec Ideal S128x256 .bf16) : FVec Ideal S256x256 .f32 :=
  matmul dotLow none (truncf .bf16 (extractStridedSlice S256x128 ![0, 1536] z (by decide)) (by decide)) (shapeCast S128x256 w (by decide))
    (constant S256x256 .f32 0x00000000#32)

/-- The linear attention's inputs in the making. -/
def glaPieces (z : FVec Ideal S256x3072 .f32) (w : FVec Ideal S128x256 .bf16) (b : FVec Ideal S1x256 .f32) :
    List (View.Piece (Elt Ideal) S256x1792 .f32) :=
  [⟨Rect.unit (s := S256x1792) ![0, 1536] S256x256.size (by decide), k0_pay7 (F := Ideal) (preOp z w) b⟩,
   ⟨Rect.unit (s := S256x1792) ![0, 256] S256x1280.size (by decide), extractStridedSlice S256x1280 ![0, 256] z (by decide)⟩,
   ⟨Rect.unit (s := S256x1792) ![0, 0] S256x256.size (by decide),
     mulf (extractStridedSlice S256x256 ![0, 0] z (by decide)) (broadcast S256x256 (Scalar.ofBits (F := Ideal) .f32 0x3E000000#32))⟩]

/-- The linear attention's inputs. -/
def glaVal (z : FVec Ideal S256x3072 .f32) (w : FVec Ideal S128x256 .bf16) (b : FVec Ideal S1x256 .f32) : FVec Ideal S256x1792 .f32 :=
  View.canon (glaPieces z w b)

/-- The gains of the queries. -/
def gainQ (g : Vec Ideal S4x512 .f32) : FVec Ideal S1x512 .f32 := View.ld g (Rect.unit (s := S4x512) ![0, 0] S1x512.size (by decide))

/-- The gains of a pair of heads. -/
def gainK (g : Vec Ideal S4x512 .f32) (i : ℕ) (h : ∀ a, (![i, 0] : Fin 2 → Nat) a + S1x128.size a ≤ S4x512.size a) : FVec Ideal S1x128 .f32 :=
  View.ld g (Rect.unit (s := S4x512) ![i, 0] S1x128.size h)

/-- The normed queries. -/
def qnOp (z : FVec Ideal S256x3072 .f32) (g : Vec Ideal S4x512 .f32) : FVec Ideal S256x512 .f32 :=
  normsOp (extractStridedSlice S256x512 ![0, 1664] z (by decide)) (gainQ g)

/-- The queries that are not turned, scaled. -/
def qcOp (z : FVec Ideal S256x3072 .f32) (g : Vec Ideal S4x512 .f32) : FVec Ideal S256x512 .bf16 :=
  truncf .bf16 (mulf (qnOp z g) (broadcast S256x512 (Scalar.ofBits (F := Ideal) .f32 0x3E000000#32))) (by decide)

/-- The turned queries, scaled. -/
def qrOp (z : FVec Ideal S256x3072 .f32) (g : Vec Ideal S4x512 .f32) (cs sn : FVec Ideal S256x128 .f32) : FVec Ideal S256x512 .bf16 :=
  truncf .bf16 (mulf (ropesOp (qnOp z g) (shapeCast S256x128 cs (by decide)) (shapeCast S256x128 sn (by decide)))
    (broadcast S256x512 (Scalar.ofBits (F := Ideal) .f32 0x3E000000#32))) (by decide)

/-- The gates. -/
def gatesOp (z : FVec Ideal S256x3072 .f32) : FVec Ideal S256x128 .f32 := logistic (extractStridedSlice S256x128 ![0, 2944] z (by decide))

/-- A pair of heads among the rows' columns. -/
def pairOp (z : FVec Ideal S256x3072 .f32) (o : ℕ) (h : S256x3072.Slices ![0, o] S256x128) : FVec Ideal S256x128 .f32 :=
  extractStridedSlice S256x128 ![0, o] z h

/-- Two pairs of heads side by side, in the making. -/
def rowsPieces {e : EltTy} (k v : S256x128.Idx → Elt Ideal e) : List (View.Piece (Elt Ideal) S256x256 e) :=
  [⟨Rect.unit (s := S256x256) ![0, 128] S256x128.size (by decide), v⟩, ⟨Rect.unit (s := S256x256) ![0, 0] S256x128.size (by decide), k⟩]

/-- Two pairs of heads side by side. -/
def rowsVal {e : EltTy} (k v : S256x128.Idx → Elt Ideal e) : S256x256.Idx → Elt Ideal e := View.canon (rowsPieces k v)

/-- The turned keys of a pair of heads. -/
def keyOp (z : FVec Ideal S256x3072 .f32) (o : ℕ) (h : S256x3072.Slices ![0, o] S256x128) (g : FVec Ideal S1x128 .f32)
    (cs sn : FVec Ideal S256x128 .f32) : FVec Ideal S256x128 .f32 :=
  ropeOp (normOp (pairOp z o h) g) (shapeCast S256x128 cs (by decide)) (shapeCast S256x128 sn (by decide))

variable (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1024x3072 .bf16) (harg3 : arg3.IsWhole) (arg4 : Memref sig .tc .vmem S128x256 .bf16) (harg4 : arg4.IsWhole) (arg5 : Memref sig .tc .vmem S1x256 .f32) (harg5 : arg5.IsWhole) (arg6 : Memref sig .tc .vmem S4x512 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S256x1792 .f32) (harg9 : arg9.IsWhole) (arg10 : Memref sig .tc .vmem S256x512 .bf16) (harg10 : arg10.IsWhole) (arg11 : Memref sig .tc .vmem S256x512 .bf16) (harg11 : arg11.IsWhole) (arg12 : Memref sig .tc .vmem S256x128 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .bf16) (harg16 : arg16.IsWhole) (arg17 : Memref sig .tc .vmem S256x256 .bf16) (harg17 : arg17.IsWhole) (arg18 : Memref sig .tc .vmem S1x256x256 .f32) (harg18 : arg18.IsWhole) (arg19 : Memref sig .tc .vmem S1x256x256 .f32) (harg19 : arg19.IsWhole) (arg20 : Memref sig .tc .vmem S1x256x256 .f32) (harg20 : arg20.IsWhole)
  (x0 : Vec Ideal S256x1024 .f32) (x1 : Vec Ideal S1x1024 .f32) (x2 : Vec Ideal S1024x3072 .bf16) (x3 : Vec Ideal S128x256 .bf16) (x4 : Vec Ideal S1x256 .f32) (x5 : Vec Ideal S4x512 .f32) (x6 : Vec Ideal S256x128 .f32) (x7 : Vec Ideal S256x128 .f32)

open kernelRun0_A in
/-- The linear attention's inputs. -/
theorem out_8 : out0_A_8 c i _ harg1 _ harg2 _ harg3 _ harg4 _ harg5 _ harg6 _ harg7 _ harg8 _ harg9 _ harg10 _ harg11 _ harg12 _ harg13 _ harg14 _ harg15 _ harg16 _ harg17 _ harg18 _ harg19 _ harg20 x0 x1 x2 x3 x4 x5 x6 x7
      = glaVal (zOpA x0 x1 x2) x3 x4 := by
  unfold out0_A_8
  rw [View.read_writes_eq_canon _ _ _ (fun _ => cover0_A_8 ..)]
  dsimp only [kernelRun0_A]
  simp only [sl.r, sl.r_1, sl.r_2, sl.r_3, sl.r_4, sl.r_5, sl.r_6, sl.r_7, sl.r_8, sl.r_9, sl.r_10, sl.r_11, sl.r_12, sl.r_13, sl.r_14, sl.r_15, sl.r_16, sl.r_17, sl.r_18, sl.r_19, sl.r_20, sl.r_21, sl.r_22, sl.r_23, sl.r_24, sl.r_25, sl.r_26, sl.r_27, sl.r_28, sl.r_29, sl.r_30, sl.r_31, load]
  simp only [View.ld_unit_zero (S := S256x1024) hz, View.ld_unit_zero (S := S1x1024) hz, View.ld_unit_zero (S := S1024x3072) hz,
    View.ld_unit_zero (S := S128x256) hz, View.ld_unit_zero (S := S1x256) hz, View.ld_unit_zero (S := S256x128) hz]
  rfl

open kernelRun0_A in
/-- The queries that are not turned. -/
theorem out_9 : out0_A_9 c i _ harg1 _ harg2 _ harg3 _ harg4 _ harg5 _ harg6 _ harg7 _ harg8 _ harg9 _ harg10 _ harg11 _ harg12 _ harg13 _ harg14 _ harg15 _ harg16 _ harg17 _ harg18 _ harg19 _ harg20 x0 x1 x2 x3 x4 x5 x6 x7
      = qcOp (zOpA x0 x1 x2) x5 := by
  unfold out0_A_9
  dsimp only [kernelRun0_A]
  refine (stored _ _ hz _ _).trans ?_
  simp only [sl.r, sl.r_1, sl.r_2, sl.r_3, sl.r_4, sl.r_5, sl.r_6, sl.r_7, sl.r_8, sl.r_9, sl.r_10, sl.r_11, sl.r_12, sl.r_13, sl.r_14, sl.r_15, sl.r_16, sl.r_17, sl.r_18, sl.r_19, sl.r_20, sl.r_21, sl.r_22, sl.r_23, sl.r_24, sl.r_25, sl.r_26, sl.r_27, sl.r_28, sl.r_29, sl.r_30, sl.r_31, load]
  simp only [View.ld_unit_zero (S := S256x1024) hz, View.ld_unit_zero (S := S1x1024) hz, View.ld_unit_zero (S := S1024x3072) hz,
    View.ld_unit_zero (S := S128x256) hz, View.ld_unit_zero (S := S1x256) hz, View.ld_unit_zero (S := S256x128) hz]
  rfl

open kernelRun0_A in
/-- The turned queries. -/
theorem out_10 : out0_A_10 c i _ harg1 _ harg2 _ harg3 _ harg4 _ harg5 _ harg6 _ harg7 _ harg8 _ harg9 _ harg10 _ harg11 _ harg12 _ harg13 _ harg14 _ harg15 _ harg16 _ harg17 _ harg18 _ harg19 _ harg20 x0 x1 x2 x3 x4 x5 x6 x7
      = qrOp (zOpA x0 x1 x2) x5 x6 x7 := by
  unfold out0_A_10
  dsimp only [kernelRun0_A]
  refine (stored _ _ hz _ _).trans ?_
  simp only [sl.r, sl.r_1, sl.r_2, sl.r_3, sl.r_4, sl.r_5, sl.r_6, sl.r_7, sl.r_8, sl.r_9, sl.r_10, sl.r_11, sl.r_12, sl.r_13, sl.r_14, sl.r_15, sl.r_16, sl.r_17, sl.r_18, sl.r_19, sl.r_20, sl.r_21, sl.r_22, sl.r_23, sl.r_24, sl.r_25, sl.r_26, sl.r_27, sl.r_28, sl.r_29, sl.r_30, sl.r_31, load]
  simp only [View.ld_unit_zero (S := S256x1024) hz, View.ld_unit_zero (S := S1x1024) hz, View.ld_unit_zero (S := S1024x3072) hz,
    View.ld_unit_zero (S := S128x256) hz, View.ld_unit_zero (S := S1x256) hz, View.ld_unit_zero (S := S256x128) hz]
  rfl

open kernelRun0_A in
/-- The gates. -/
theorem out_11 : out0_A_11 c i _ harg1 _ harg2 _ harg3 _ harg4 _ harg5 _ harg6 _ harg7 _ harg8 _ harg9 _ harg10 _ harg11 _ harg12 _ harg13 _ harg14 _ harg15 _ harg16 _ harg17 _ harg18 _ harg19 _ harg20 x0 x1 x2 x3 x4 x5 x6 x7
      = gatesOp (zOpA x0 x1 x2) := by
  unfold out0_A_11
  dsimp only [kernelRun0_A]
  refine (stored _ _ hz _ _).trans ?_
  simp only [sl.r, sl.r_1, sl.r_2, sl.r_3, sl.r_4, sl.r_5, sl.r_6, sl.r_7, sl.r_8, sl.r_9, sl.r_10, sl.r_11, sl.r_12, sl.r_13, sl.r_14, sl.r_15, sl.r_16, sl.r_17, sl.r_18, sl.r_19, sl.r_20, sl.r_21, sl.r_22, sl.r_23, sl.r_24, sl.r_25, sl.r_26, sl.r_27, sl.r_28, sl.r_29, sl.r_30, sl.r_31, load]
  simp only [View.ld_unit_zero (S := S256x1024) hz, View.ld_unit_zero (S := S1x1024) hz, View.ld_unit_zero (S := S1024x3072) hz,
    View.ld_unit_zero (S := S128x256) hz, View.ld_unit_zero (S := S1x256) hz, View.ld_unit_zero (S := S256x128) hz]
  rfl

open kernelRun0_A in
/-- The compressed rows. -/
theorem out_12 : out0_A_12 c i _ harg1 _ harg2 _ harg3 _ harg4 _ harg5 _ harg6 _ harg7 _ harg8 _ harg9 _ harg10 _ harg11 _ harg12 _ harg13 _ harg14 _ harg15 _ harg16 _ harg17 _ harg18 _ harg19 _ harg20 x0 x1 x2 x3 x4 x5 x6 x7
      = rowsVal (e := .f32) (normOp (pairOp (zOpA x0 x1 x2) 2176 (by decide)) (gainK x5 1 (by decide))) (pairOp (zOpA x0 x1 x2) 2304 (by decide)) := by
  unfold out0_A_12
  rw [View.read_writes_eq_canon _ _ _ (fun _ => cover0_A_12 ..)]
  dsimp only [kernelRun0_A]
  simp only [sl.r, sl.r_1, sl.r_2, sl.r_3, sl.r_4, sl.r_5, sl.r_6, sl.r_7, sl.r_8, sl.r_9, sl.r_10, sl.r_11, sl.r_12, sl.r_13, sl.r_14, sl.r_15, sl.r_16, sl.r_17, sl.r_18, sl.r_19, sl.r_20, sl.r_21, sl.r_22, sl.r_23, sl.r_24, sl.r_25, sl.r_26, sl.r_27, sl.r_28, sl.r_29, sl.r_30, sl.r_31, sl.H12_2, load]
  simp only [View.ld_unit_zero (S := S256x1024) hz, View.ld_unit_zero (S := S1x1024) hz, View.ld_unit_zero (S := S1024x3072) hz,
    View.ld_unit_zero (S := S128x256) hz, View.ld_unit_zero (S := S1x256) hz, View.ld_unit_zero (S := S256x128) hz]
  rfl

open kernelRun0_A in
/-- The selected rows. -/
theorem out_13 : out0_A_13 c i _ harg1 _ harg2 _ harg3 _ harg4 _ harg5 _ harg6 _ harg7 _ harg8 _ harg9 _ harg10 _ harg11 _ harg12 _ harg13 _ harg14 _ harg15 _ harg16 _ harg17 _ harg18 _ harg19 _ harg20 x0 x1 x2 x3 x4 x5 x6 x7
      = rowsVal (e := .f32) (keyOp (zOpA x0 x1 x2) 2432 (by decide) (gainK x5 2 (by decide)) x6 x7) (pairOp (zOpA x0 x1 x2) 2560 (by decide)) := by
  unfold out0_A_13
  rw [View.read_writes_eq_canon _ _ _ (fun _ => cover0_A_13 ..)]
  dsimp only [kernelRun0_A]
  simp only [sl.r, sl.r_1, sl.r_2, sl.r_3, sl.r_4, sl.r_5, sl.r_6, sl.r_7, sl.r_8, sl.r_9, sl.r_10, sl.r_11, sl.r_12, sl.r_13, sl.r_14, sl.r_15, sl.r_16, sl.r_17, sl.r_18, sl.r_19, sl.r_20, sl.r_21, sl.r_22, sl.r_23, sl.r_24, sl.r_25, sl.r_26, sl.r_27, sl.r_28, sl.r_29, sl.r_30, sl.r_31, sl.H13_2, load]
  simp only [View.ld_unit_zero (S := S256x1024) hz, View.ld_unit_zero (S := S1x1024) hz, View.ld_unit_zero (S := S1024x3072) hz,
    View.ld_unit_zero (S := S128x256) hz, View.ld_unit_zero (S := S1x256) hz, View.ld_unit_zero (S := S256x128) hz]
  rfl

open kernelRun0_A in
/-- The window rows. -/
theorem out_14 : out0_A_14 c i _ harg1 _ harg2 _ harg3 _ harg4 _ harg5 _ harg6 _ harg7 _ harg8 _ harg9 _ harg10 _ harg11 _ harg12 _ harg13 _ harg14 _ harg15 _ harg16 _ harg17 _ harg18 _ harg19 _ harg20 x0 x1 x2 x3 x4 x5 x6 x7
      = rowsVal (e := .f32) (keyOp (zOpA x0 x1 x2) 2688 (by decide) (gainK x5 3 (by decide)) x6 x7) (pairOp (zOpA x0 x1 x2) 2816 (by decide)) := by
  unfold out0_A_14
  rw [View.read_writes_eq_canon _ _ _ (fun _ => cover0_A_14 ..)]
  dsimp only [kernelRun0_A]
  simp only [sl.r, sl.r_1, sl.r_2, sl.r_3, sl.r_4, sl.r_5, sl.r_6, sl.r_7, sl.r_8, sl.r_9, sl.r_10, sl.r_11, sl.r_12, sl.r_13, sl.r_14, sl.r_15, sl.r_16, sl.r_17, sl.r_18, sl.r_19, sl.r_20, sl.r_21, sl.r_22, sl.r_23, sl.r_24, sl.r_25, sl.r_26, sl.r_27, sl.r_28, sl.r_29, sl.r_30, sl.r_31, sl.H14_2, load]
  simp only [View.ld_unit_zero (S := S256x1024) hz, View.ld_unit_zero (S := S1x1024) hz, View.ld_unit_zero (S := S1024x3072) hz,
    View.ld_unit_zero (S := S128x256) hz, View.ld_unit_zero (S := S1x256) hz, View.ld_unit_zero (S := S256x128) hz]
  rfl

open kernelRun0_A in
/-- The selected rows, rounded. -/
theorem out_15 : out0_A_15 c i _ harg1 _ harg2 _ harg3 _ harg4 _ harg5 _ harg6 _ harg7 _ harg8 _ harg9 _ harg10 _ harg11 _ harg12 _ harg13 _ harg14 _ harg15 _ harg16 _ harg17 _ harg18 _ harg19 _ harg20 x0 x1 x2 x3 x4 x5 x6 x7
      = rowsVal (e := .bf16) (truncf .bf16 (keyOp (zOpA x0 x1 x2) 2432 (by decide) (gainK x5 2 (by decide)) x6 x7) (by decide)) (truncf .bf16 (pairOp (zOpA x0 x1 x2) 2560 (by decide)) (by decide)) := by
  unfold out0_A_15
  rw [View.read_writes_eq_canon _ _ _ (fun _ => cover0_A_15 ..)]
  dsimp only [kernelRun0_A]
  simp only [sl.r, sl.r_1, sl.r_2, sl.r_3, sl.r_4, sl.r_5, sl.r_6, sl.r_7, sl.r_8, sl.r_9, sl.r_10, sl.r_11, sl.r_12, sl.r_13, sl.r_14, sl.r_15, sl.r_16, sl.r_17, sl.r_18, sl.r_19, sl.r_20, sl.r_21, sl.r_22, sl.r_23, sl.r_24, sl.r_25, sl.r_26, sl.r_27, sl.r_28, sl.r_29, sl.r_30, sl.r_31, load]
  simp only [View.ld_unit_zero (S := S256x1024) hz, View.ld_unit_zero (S := S1x1024) hz, View.ld_unit_zero (S := S1024x3072) hz,
    View.ld_unit_zero (S := S128x256) hz, View.ld_unit_zero (S := S1x256) hz, View.ld_unit_zero (S := S256x128) hz]
  rfl

open kernelRun0_A in
/-- The window rows, rounded. -/
theorem out_16 : out0_A_16 c i _ harg1 _ harg2 _ harg3 _ harg4 _ harg5 _ harg6 _ harg7 _ harg8 _ harg9 _ harg10 _ harg11 _ harg12 _ harg13 _ harg14 _ harg15 _ harg16 _ harg17 _ harg18 _ harg19 _ harg20 x0 x1 x2 x3 x4 x5 x6 x7
      = rowsVal (e := .bf16) (truncf .bf16 (keyOp (zOpA x0 x1 x2) 2688 (by decide) (gainK x5 3 (by decide)) x6 x7) (by decide)) (truncf .bf16 (pairOp (zOpA x0 x1 x2) 2816 (by decide)) (by decide)) := by
  unfold out0_A_16
  rw [View.read_writes_eq_canon _ _ _ (fun _ => cover0_A_16 ..)]
  dsimp only [kernelRun0_A]
  simp only [sl.r, sl.r_1, sl.r_2, sl.r_3, sl.r_4, sl.r_5, sl.r_6, sl.r_7, sl.r_8, sl.r_9, sl.r_10, sl.r_11, sl.r_12, sl.r_13, sl.r_14, sl.r_15, sl.r_16, sl.r_17, sl.r_18, sl.r_19, sl.r_20, sl.r_21, sl.r_22, sl.r_23, sl.r_24, sl.r_25, sl.r_26, sl.r_27, sl.r_28, sl.r_29, sl.r_30, sl.r_31, load]
  simp only [View.ld_unit_zero (S := S256x1024) hz, View.ld_unit_zero (S := S1x1024) hz, View.ld_unit_zero (S := S1024x3072) hz,
    View.ld_unit_zero (S := S128x256) hz, View.ld_unit_zero (S := S1x256) hz, View.ld_unit_zero (S := S256x128) hz]
  rfl

/-- The compressed rows, lanes first. -/
theorem out_17 : out0_A_17 c i _ harg1 _ harg2 _ harg3 _ harg4 _ harg5 _ harg6 _ harg7 _ harg8 _ harg9 _ harg10 _ harg11 _ harg12 _ harg13 _ harg14 _ harg15 _ harg16 _ harg17 _ harg18 _ harg19 _ harg20 x0 x1 x2 x3 x4 x5 x6 x7
      = k0_pay47 (F := Ideal) (rowsVal (e := .f32) (normOp (pairOp (zOpA x0 x1 x2) 2176 (by decide)) (gainK x5 1 (by decide))) (pairOp (zOpA x0 x1 x2) 2304 (by decide))) := by
  unfold out0_A_17
  dsimp only [kernelRun0_A]
  refine (stored _ _ hz3 _ _).trans ?_
  have e := out_12 c i _ harg1 _ harg2 _ harg3 _ harg4 _ harg5 _ harg6 _ harg7 _ harg8 _ harg9 _ harg10 _ harg11 _ harg12 _ harg13 _ harg14 _ harg15 _ harg16 _ harg17 _ harg18 _ harg19 _ harg20 x0 x1 x2 x3 x4 x5 x6 x7
  unfold out0_A_12 at e
  rw [View.read_writes_eq_canon _ _ _ (cover0_A_12 c i _ harg1 _ harg2 _ harg3 _ harg4 _ harg5 _ harg6 _ harg7 _ harg8 _ harg9 _ harg10 _ harg11 _ harg12 _ harg13 _ harg14 _ harg15 _ harg16 _ harg17 _ harg18 _ harg19 _ harg20 x0 x1 x2 x3 x4 x5 x6 x7)] at e
  dsimp only [kernelRun0_A] at e
  rw [kernelRun0_A.sl.v348, covered, e, View.ld_unit_zero (S := S256x256) hz]

/-- The selected rows, lanes first. -/
theorem out_18 : out0_A_18 c i _ harg1 _ harg2 _ harg3 _ harg4 _ harg5 _ harg6 _ harg7 _ harg8 _ harg9 _ harg10 _ harg11 _ harg12 _ harg13 _ harg14 _ harg15 _ harg16 _ harg17 _ harg18 _ harg19 _ harg20 x0 x1 x2 x3 x4 x5 x6 x7
      = k0_pay48 (F := Ideal) (rowsVal (e := .f32) (keyOp (zOpA x0 x1 x2) 2432 (by decide) (gainK x5 2 (by decide)) x6 x7) (pairOp (zOpA x0 x1 x2) 2560 (by decide))) := by
  unfold out0_A_18
  dsimp only [kernelRun0_A]
  refine (stored _ _ hz3 _ _).trans ?_
  have e := out_13 c i _ harg1 _ harg2 _ harg3 _ harg4 _ harg5 _ harg6 _ harg7 _ harg8 _ harg9 _ harg10 _ harg11 _ harg12 _ harg13 _ harg14 _ harg15 _ harg16 _ harg17 _ harg18 _ harg19 _ harg20 x0 x1 x2 x3 x4 x5 x6 x7
  unfold out0_A_13 at e
  rw [View.read_writes_eq_canon _ _ _ (cover0_A_13 c i _ harg1 _ harg2 _ harg3 _ harg4 _ harg5 _ harg6 _ harg7 _ harg8 _ harg9 _ harg10 _ harg11 _ harg12 _ harg13 _ harg14 _ harg15 _ harg16 _ harg17 _ harg18 _ harg19 _ harg20 x0 x1 x2 x3 x4 x5 x6 x7)] at e
  dsimp only [kernelRun0_A] at e
  rw [kernelRun0_A.sl.v354, covered, e, View.ld_unit_zero (S := S256x256) hz]

/-- The window rows, lanes first. -/
theorem out_19 : out0_A_19 c i _ harg1 _ harg2 _ harg3 _ harg4 _ harg5 _ harg6 _ harg7 _ harg8 _ harg9 _ harg10 _ harg11 _ harg12 _ harg13 _ harg14 _ harg15 _ harg16 _ harg17 _ harg18 _ harg19 _ harg20 x0 x1 x2 x3 x4 x5 x6 x7
      = k0_pay49 (F := Ideal) (rowsVal (e := .f32) (keyOp (zOpA x0 x1 x2) 2688 (by decide) (gainK x5 3 (by decide)) x6 x7) (pairOp (zOpA x0 x1 x2) 2816 (by decide))) := by
  unfold out0_A_19
  dsimp only [kernelRun0_A]
  refine (stored _ _ hz3 _ _).trans ?_
  have e := out_14 c i _ harg1 _ harg2 _ harg3 _ harg4 _ harg5 _ harg6 _ harg7 _ harg8 _ harg9 _ harg10 _ harg11 _ harg12 _ harg13 _ harg14 _ harg15 _ harg16 _ harg17 _ harg18 _ harg19 _ harg20 x0 x1 x2 x3 x4 x5 x6 x7
  unfold out0_A_14 at e
  rw [View.read_writes_eq_canon _ _ _ (cover0_A_14 c i _ harg1 _ harg2 _ harg3 _ harg4 _ harg5 _ harg6 _ harg7 _ harg8 _ harg9 _ harg10 _ harg11 _ harg12 _ harg13 _ harg14 _ harg15 _ harg16 _ harg17 _ harg18 _ harg19 _ harg20 x0 x1 x2 x3 x4 x5 x6 x7)] at e
  dsimp only [kernelRun0_A] at e
  rw [kernelRun0_A.sl.r_31, kernelRun0_A.sl.v360, covered, e, View.ld_unit_zero (S := S256x256) hz]

end Cert.ProjAIdeal.Own

end
-- ==== Proof.ProjARow.lean ====
/-
  The even layer's input projection, row by row: the linear attention's inputs, the queries, the gates and the rows of the sparse
  attention as functions of the argument arrays, and the kernel's block operations as those functions of the rows the block stages.
-/
module

public import proofs.«01_k».proof.Proof.ProjAOut

@[expose] public section

noncomputable section

namespace Cert.ProjA

open Idealize.ShloMosaic Idealize.ShloMosaic.TcCoe Cert.Post
open Cert.Proj (AX AG headNorm roped cosAt sinAt)

/-- The forget gate's logarithm: the log-sigmoid of `x`, over 16. -/
def logSig (x : EReal) : EReal :=
  Ideal.div (-(max (-x) 0 + Ideal.log1p (Ideal.exp (-(max (-x) (-(-x))))))) (Ideal.ofBits .f32 0x41800000#32)

abbrev AW : Shape := ⟨2, ![1024, 2856]⟩
abbrev AL : Shape := ⟨2, ![16, 256]⟩
abbrev AB : Shape := ⟨2, ![1, 256]⟩
abbrev AQ : Shape := ⟨2, ![4, 64]⟩

variable (X : AX.Idx → EReal) (G : AG.Idx → EReal) (W : AW.Idx → EReal) (A : AL.Idx → EReal) (B : AB.Idx → EReal) (Q : AQ.Idx → EReal)

/-- A token's projection: its row's RMS norm through the weights. -/
def rowZ (r : Fin 16384) (j : Fin 2856) : EReal :=
  ∑ k : Fin 1024, rms (fun k => X (ix2 r k)) (fun k => G (ix2 0 k)) k * W (ix2 k j)

/-- The forget gate's logarithm of a lane: its low-rank columns through their weights, with the bias. -/
def gateLog (r : Fin 16384) (l : Fin 256) : EReal :=
  logSig ((∑ t : Fin 16, rowZ X G W r ⟨1536 + t.val, by omega⟩ * A (ix2 t l)) + B (ix2 0 l))

/-- The linear attention's inputs: scaled queries, then keys, values and output gate, then the forget gate's logarithm. -/
def glaAt (r : Fin 16384) (l : Fin 1792) : EReal :=
  if l.val < 256 then rowZ X G W r ⟨l.val, by omega⟩ * Ideal.ofBits .f32 0x3E000000#32
  else if h : l.val < 1536 then rowZ X G W r ⟨l.val, by omega⟩ else gateLog X G W A B r ⟨l.val - 1536, by omega⟩

/-- The normed queries. -/
def normed (r : Fin 16384) : Fin 512 → EReal :=
  headNorm (fun c => rowZ X G W r ⟨1552 + c.val, by omega⟩) (fun c => Q (ix2 0 ⟨c.val % 64, by omega⟩))

/-- The queries that are not turned, scaled. -/
def plainAt (r : Fin 16384) (c : Fin 512) : EReal := normed X G W Q r c * Ideal.ofBits .f32 0x3E000000#32

/-- The queries turned by the token's position, scaled. -/
def turnedAt (r : Fin 16384) (c : Fin 512) : EReal :=
  roped (normed X G W Q r) (cosAt (r.val % 8192)) (sinAt (r.val % 8192)) c * Ideal.ofBits .f32 0x3E000000#32

/-- The gates, a half where there is none. -/
def gateAt (r : Fin 16384) (l : Fin 128) : EReal :=
  if h : l.val < 24 then Ideal.logistic (rowZ X G W r ⟨2832 + l.val, by omega⟩) else Ideal.ofBits .f32 0x3F000000#32

/-- The normed keys of pair `i` of heads, `g` the row of their gains. -/
def keyN (i : Fin 6) (g : Fin 4) (r : Fin 16384) : Fin 512 → EReal :=
  headNorm (fun c => rowZ X G W r ⟨2064 + 128 * i.val + c.val % 128, by omega⟩) (fun c => Q (ix2 g ⟨c.val % 64, by omega⟩))

/-- The same, turned by the token's position. -/
def keyT (i : Fin 6) (g : Fin 4) (r : Fin 16384) : Fin 512 → EReal := roped (keyN X G W Q i g r) (cosAt (r.val % 8192)) (sinAt (r.val % 8192))

/-- The compressed rows: normed keys beside values. -/
def rowsC (r : Fin 16384) (l : Fin 256) : EReal :=
  if l.val < 128 then keyN X G W Q 0 1 r ⟨l.val, by omega⟩ else rowZ X G W r ⟨2064 + 128 + (l.val - 128), by omega⟩

/-- The selected rows: normed and turned keys beside values. -/
def rowsS (r : Fin 16384) (l : Fin 256) : EReal :=
  if l.val < 128 then keyT X G W Q 2 2 r ⟨l.val, by omega⟩ else rowZ X G W r ⟨2064 + 384 + (l.val - 128), by omega⟩

/-- The window rows: normed and turned keys beside values. -/
def rowsW (r : Fin 16384) (l : Fin 256) : EReal :=
  if l.val < 128 then keyT X G W Q 4 3 r ⟨l.val, by omega⟩ else rowZ X G W r ⟨2064 + 640 + (l.val - 128), by omega⟩

/-- The sigmoid of zero is a half. -/
theorem logistic_zero : Ideal.logistic 0 = Ideal.ofBits .f32 0x3F000000#32 := by
  have h : Ideal.ofBits .f32 0x3F000000#32 = ((2⁻¹ : ℝ) : EReal) := by
    simp [Ideal.ofBits, Ideal.ieee, -EReal.coe_mul]; norm_num
  have e : Ideal.exp (-(0 : EReal)) = ((1 : ℝ) : EReal) := by
    rw [neg_zero]
    exact congrArg (fun r : ℝ => (r : EReal)) Real.exp_zero
  have e2 : (1 : EReal) + ((1 : ℝ) : EReal) = ((2 : ℝ) : EReal) := by
    rw [← EReal.coe_one, ← EReal.coe_add]
    norm_num
  rw [Ideal.logistic, e, e2, h, Ideal.div, if_neg (by norm_cast), one_mul, EReal.coe_inv]

end Cert.ProjA

namespace Cert.ProjAIdeal.Own

open Idealize.ShloMosaic Idealize.ShloMosaic.TcCoe Idealize.SL.Sem
open Cert.ProjAIdeal Cert.ProjAIdeal.Gen Cert.Post Cert.ProjA
open Cert.Proj (AX AG headNorm roped cosAt sinAt normOp ropeOp normsOp ropesOp normOp_row ropeOp_row normsOp_apply ropesOp_apply)

variable {X : AX.Idx → EReal} {G : AG.Idx → EReal} {W : AW.Idx → EReal} {A : AL.Idx → EReal} {B : AB.Idx → EReal} {Q : AQ.Idx → EReal}
  {row : Fin 256 → Fin 16384} {x0 : Vec Ideal S256x1024 .f32} {x1 : Vec Ideal S1x1024 .f32} {x2 : Vec Ideal S1024x3072 .bf16}
  {x3 : Vec Ideal S128x256 .bf16} {x4 : Vec Ideal S1x256 .f32} {x5 : Vec Ideal S4x512 .f32} {x6 : Vec Ideal S256x128 .f32}
  {x7 : Vec Ideal S256x128 .f32}

/-- The staged blocks are a band of the arrays, `row` telling the band's rows; the weights' columns lie in the padded ones. -/
structure Staged (X : AX.Idx → EReal) (G : AG.Idx → EReal) (W : AW.Idx → EReal) (A : AL.Idx → EReal) (B : AB.Idx → EReal) (Q : AQ.Idx → EReal)
    (row : Fin 256 → Fin 16384) (x0 : Vec Ideal S256x1024 .f32) (x1 : Vec Ideal S1x1024 .f32) (x2 : Vec Ideal S1024x3072 .bf16)
    (x3 : Vec Ideal S128x256 .bf16) (x4 : Vec Ideal S1x256 .f32) (x5 : Vec Ideal S4x512 .f32) (x6 : Vec Ideal S256x128 .f32)
    (x7 : Vec Ideal S256x128 .f32) : Prop where
  x a k : x0 (ix2 a k) = X (ix2 (row a) k)
  gain k : x1 (ix2 0 k) = G (ix2 0 k)
  wLow k (j : Fin 1552) : x2 (ix2 k ⟨j.val, by omega⟩) = W (ix2 k ⟨j.val, by omega⟩)
  wMid k (j : Fin 1304) : x2 (ix2 k ⟨1664 + j.val, by omega⟩) = W (ix2 k ⟨1552 + j.val, by omega⟩)
  wPad k (j : Fin 104) : x2 (ix2 k ⟨2968 + j.val, by omega⟩) = 0
  a2 (t : Fin 16) l : x3 (ix2 ⟨t.val, by omega⟩ l) = A (ix2 t l)
  a2Pad (t : Fin 112) l : x3 (ix2 ⟨16 + t.val, by omega⟩ l) = 0
  bias l : x4 (ix2 0 l) = B (ix2 0 l)
  gq g (c : Fin 512) : x5 (ix2 g c) = Q (ix2 g ⟨c.val % 64, by omega⟩)
  cs a (j : Fin 128) : x6 (ix2 a j) = cosAt ((row a).val % 8192) ⟨j.val % 32, by omega⟩
  sn a (j : Fin 128) : x7 (ix2 a j) = if j.val % 64 < 32 then -sinAt ((row a).val % 8192) ⟨j.val % 32, by omega⟩
    else sinAt ((row a).val % 8192) ⟨j.val % 32, by omega⟩

/-- The input projection, per lane. -/
theorem zOpA_apply (x : FVec Ideal S256x1024 .f32) (g : FVec Ideal S1x1024 .f32) (w : FVec Ideal S1024x3072 .bf16) (a : Fin 256) (j : Fin 3072) :
    zOpA x g w (ix2 a j) = ∑ k : Fin 1024, rms (fun k => x (ix2 a k)) (fun k => g (ix2 0 k)) k * w (ix2 k j) := by
  unfold zOpA
  rw [shapeCast_self]
  pointwise [dotWide]
  simp only [rmsOp_apply]

/-- The padded projection's columns before the padding. -/
theorem Staged.zLow (S : Staged X G W A B Q row x0 x1 x2 x3 x4 x5 x6 x7) (a : Fin 256) (j : Fin 3072) (hj : j.val < 1552) :
    zOpA x0 x1 x2 (ix2 a j) = rowZ X G W (row a) ⟨j.val, by omega⟩ := by
  rw [zOpA_apply]
  unfold rowZ
  refine Finset.sum_congr rfl fun k _ => ?_
  have e := S.wLow k ⟨j.val, hj⟩
  dsimp only at e
  rw [e]
  simp only [S.x, S.gain]

/-- The padded projection's columns after the first padding. -/
theorem Staged.zMid (S : Staged X G W A B Q row x0 x1 x2 x3 x4 x5 x6 x7) (a : Fin 256) (j : Fin 1304) (c : Fin 3072) (hc : c.val = 1664 + j.val) :
    zOpA x0 x1 x2 (ix2 a c) = rowZ X G W (row a) ⟨1552 + j.val, by omega⟩ := by
  have ec : zOpA x0 x1 x2 (ix2 a c) = zOpA x0 x1 x2 (ix2 a ⟨1664 + j.val, by omega⟩) := congrArg (fun c => zOpA x0 x1 x2 (ix2 a c)) (Fin.ext hc)
  rw [ec, zOpA_apply]
  unfold rowZ
  refine Finset.sum_congr rfl fun k _ => ?_
  rw [S.wMid k j]
  simp only [S.x, S.gain]

/-- The padded projection is zero in the last padding. -/
theorem Staged.zPad (S : Staged X G W A B Q row x0 x1 x2 x3 x4 x5 x6 x7) (a : Fin 256) (j : Fin 104) (c : Fin 3072) (hc : c.val = 2968 + j.val) :
    zOpA x0 x1 x2 (ix2 a c) = 0 := by
  have ec : zOpA x0 x1 x2 (ix2 a c) = zOpA x0 x1 x2 (ix2 a ⟨2968 + j.val, by omega⟩) := congrArg (fun c => zOpA x0 x1 x2 (ix2 a c)) (Fin.ext hc)
  rw [ec, zOpA_apply]
  refine Finset.sum_eq_zero fun k _ => ?_
  rw [S.wPad k j, mul_zero]

/-! ## The linear attention's inputs -/

/-- The forget gate's low-rank product. -/
theorem preOp_apply (z : FVec Ideal S256x3072 .f32) (w : FVec Ideal S128x256 .bf16) (a l : Fin 256) :
    preOp z w (ix2 a l) = ∑ t : Fin 128, z (ix2 a ⟨1536 + t.val, by omega⟩) * w (ix2 t l) := by
  unfold preOp
  rw [shapeCast_self]
  pointwise [dotLow]

/-- The kernel's log-sigmoid, read. -/
theorem pay7_apply (p : FVec Ideal S256x256 .f32) (b : Vec Ideal S1x256 .f32) (a l : Fin 256) :
    k0_pay7 (F := Ideal) p b (ix2 a l) = logSig (p (ix2 a l) + b (ix2 0 l)) := by
  unfold logSig
  pointwise [k0_pay7]
  simp [Ideal.cmp, -neg_neg]
  rfl

/-- The block's forget gates are those of its rows. -/
theorem Staged.log (S : Staged X G W A B Q row x0 x1 x2 x3 x4 x5 x6 x7) (a l : Fin 256) :
    k0_pay7 (F := Ideal) (preOp (zOpA x0 x1 x2) x3) x4 (ix2 a l) = gateLog X G W A B (row a) l := by
  rw [pay7_apply, preOp_apply, S.bias]
  unfold gateLog
  refine congrArg (fun v => logSig (v + B (ix2 0 l))) ?_
  refine (Fin.sum_univ_add (a := 16) (b := 112) fun t : Fin 128 => zOpA x0 x1 x2 (ix2 a ⟨1536 + t.val, by omega⟩) * x3 (ix2 t l)).trans ?_
  have h0 : (∑ t : Fin 112, zOpA x0 x1 x2 (ix2 a ⟨1536 + (Fin.natAdd 16 t : Fin 128).val, by omega⟩) * x3 (ix2 (Fin.natAdd 16 t : Fin 128) l)) = 0 :=
    Finset.sum_eq_zero fun t _ => by
      have e := S.a2Pad t l
      exact (congrArg (zOpA x0 x1 x2 (ix2 a ⟨1536 + (Fin.natAdd 16 t : Fin 128).val, by omega⟩) * ·) e).trans (mul_zero _)
  refine (congrArg _ h0).trans ((add_zero _).trans (Finset.sum_congr rfl fun t _ => ?_))
  have e := S.a2 t l
  have ez := S.zLow a ⟨1536 + t.val, by omega⟩ (by show 1536 + t.val < 1552; omega)
  exact congr (congrArg _ ez) e

/-- The linear attention's scaled queries. -/
theorem glaVal_low (z : FVec Ideal S256x3072 .f32) (w : FVec Ideal S128x256 .bf16) (b : FVec Ideal S1x256 .f32) (a : Fin 256) (l : Fin 1792)
    (hl : l.val < 256) : glaVal z w b (ix2 a l) = z (ix2 a ⟨l.val, by omega⟩) * Ideal.ofBits .f32 0x3E000000#32 := by
  unfold glaVal glaPieces
  rw [View.canon_cons_of_not_mem, View.canon_cons_of_not_mem]
  · have e : ix2 a l = (Rect.unit (s := S256x1792) ![0, 0] S256x256.size (by decide)).emb (ix2 a ⟨l.val, hl⟩) :=
      funext fun z => Fin.ext (by
        match z with
        | ⟨0, _⟩ => show a.val = 0 + 1 * a.val; omega
        | ⟨1, _⟩ => show l.val = 0 + 1 * l.val; omega)
    rw [e]
    refine (View.canon_cons_emb _ _ _ _).trans ?_
    have e2 : extractStridedSlice S256x256 ![0, 0] z (by decide) (ix2 a ⟨l.val, hl⟩) = z (ix2 a ⟨l.val, by omega⟩) := by pointwise
    exact congrArg (· * Ideal.ofBits .f32 0x3E000000#32) e2
  · rw [Rect.mem_set_unit]
    intro h
    have h2 : 256 ≤ l.val := (h 1).1
    omega
  · rw [Rect.mem_set_unit]
    intro h
    have h2 : 1536 ≤ l.val := (h 1).1
    omega

/-- The linear attention's keys, values and gates. -/
theorem glaVal_mid (z : FVec Ideal S256x3072 .f32) (w : FVec Ideal S128x256 .bf16) (b : FVec Ideal S1x256 .f32) (a : Fin 256) (l : Fin 1792)
    (h0 : ¬ l.val < 256) (hl : l.val < 1536) : glaVal z w b (ix2 a l) = z (ix2 a ⟨l.val, by omega⟩) := by
  unfold glaVal glaPieces
  rw [View.canon_cons_of_not_mem]
  · have e : ix2 a l = (Rect.unit (s := S256x1792) ![0, 256] S256x1280.size (by decide)).emb (ix2 a ⟨l.val - 256, by omega⟩) :=
      funext fun z => Fin.ext (by
        match z with
        | ⟨0, _⟩ => show a.val = 0 + 1 * a.val; omega
        | ⟨1, _⟩ => show l.val = 256 + 1 * (l.val - 256); omega)
    rw [e]
    refine (View.canon_cons_emb _ _ _ _).trans ?_
    have e2 : extractStridedSlice S256x1280 ![0, 256] z (by decide) (ix2 a ⟨l.val - 256, by omega⟩) = z (ix2 a ⟨256 + (l.val - 256), by omega⟩) := by
      pointwise
    exact e2.trans (congrArg (fun l => z (ix2 a l)) (Fin.ext (by show 256 + (l.val - 256) = l.val; omega)))
  · rw [Rect.mem_set_unit]
    intro h
    have h2 : 1536 ≤ l.val := (h 1).1
    omega

/-- The forget gate's lanes. -/
theorem glaVal_high (z : FVec Ideal S256x3072 .f32) (w : FVec Ideal S128x256 .bf16) (b : FVec Ideal S1x256 .f32) (a : Fin 256) (l : Fin 1792)
    (hl : ¬ l.val < 1536) : glaVal z w b (ix2 a l) = k0_pay7 (F := Ideal) (preOp z w) b (ix2 a ⟨l.val - 1536, by omega⟩) := by
  unfold glaVal glaPieces
  have e : ix2 a l = (Rect.unit (s := S256x1792) ![0, 1536] S256x256.size (by decide)).emb (ix2 a ⟨l.val - 1536, by omega⟩) :=
    funext fun z => Fin.ext (by
      match z with
      | ⟨0, _⟩ => show a.val = 0 + 1 * a.val; omega
      | ⟨1, _⟩ => show l.val = 1536 + 1 * (l.val - 1536); omega)
  rw [e]
  exact View.canon_cons_emb _ _ _ _

/-- The block's inputs of the linear attention are those of its rows. -/
theorem Staged.gla (S : Staged X G W A B Q row x0 x1 x2 x3 x4 x5 x6 x7) (a : Fin 256) (l : Fin 1792) :
    glaVal (zOpA x0 x1 x2) x3 x4 (ix2 a l) = glaAt X G W A B (row a) l := by
  unfold glaAt
  by_cases h0 : l.val < 256
  · rw [if_pos h0, glaVal_low _ _ _ a l h0, S.zLow a _ (by show l.val < 1552; omega)]
  · rw [if_neg h0]
    by_cases h1 : l.val < 1536
    · rw [dif_pos h1, glaVal_mid _ _ _ a l h0 h1, S.zLow a _ (by show l.val < 1552; omega)]
    · rw [dif_neg h1, glaVal_high _ _ _ a l h1, S.log]

/-! ## The queries and the gates -/

/-- The queries' gains, read. -/
theorem gainQ_apply (g : Vec Ideal S4x512 .f32) (c : Fin 512) : gainQ g (ix2 0 c) = g (ix2 0 c) := by
  refine congrArg g (funext fun z => Fin.ext ?_)
  match z with
  | ⟨0, _⟩ => rfl
  | ⟨1, _⟩ => show 0 + 1 * c.val = c.val; omega

/-- A key's gains, read. -/
theorem gainK_apply (g : Vec Ideal S4x512 .f32) (i : ℕ) (h : ∀ a, (![i, 0] : Fin 2 → Nat) a + S1x128.size a ≤ S4x512.size a) (hi : i < 4)
    (j : Fin 128) : gainK g i h (ix2 0 j) = g (ix2 ⟨i, hi⟩ ⟨j.val, by omega⟩) := by
  refine congrArg g (funext fun z => Fin.ext ?_)
  match z with
  | ⟨0, _⟩ => show i + 1 * 0 = i; omega
  | ⟨1, _⟩ => show 0 + 1 * j.val = j.val; omega

/-- The block's normed queries are those of its rows. -/
theorem Staged.norm (S : Staged X G W A B Q row x0 x1 x2 x3 x4 x5 x6 x7) (a : Fin 256) (c : Fin 512) :
    qnOp (zOpA x0 x1 x2) x5 (ix2 a c) = normed X G W Q (row a) c := by
  unfold qnOp normed
  refine (normsOp_apply _ _ a c).trans ?_
  have e : ∀ c : Fin 512, extractStridedSlice S256x512 ![0, 1664] (zOpA x0 x1 x2) (by decide) (ix2 a c)
      = rowZ X G W (row a) ⟨1552 + c.val, by omega⟩ := fun c => by
    have e' : extractStridedSlice S256x512 ![0, 1664] (zOpA x0 x1 x2) (by decide) (ix2 a c)
        = zOpA x0 x1 x2 (ix2 a ⟨1664 + c.val, by omega⟩) := by pointwise
    exact e'.trans (S.zMid a ⟨c.val, by omega⟩ _ rfl)
  simp only [e, gainQ_apply, S.gq]

/-- The block's plain queries are those of its rows. -/
theorem Staged.plain (S : Staged X G W A B Q row x0 x1 x2 x3 x4 x5 x6 x7) (a : Fin 256) (c : Fin 512) :
    qcOp (zOpA x0 x1 x2) x5 (ix2 a c) = plainAt X G W Q (row a) c :=
  congrArg (· * Ideal.ofBits .f32 0x3E000000#32) (S.norm a c)

/-- The block's turned queries are those of its rows. -/
theorem Staged.turn (S : Staged X G W A B Q row x0 x1 x2 x3 x4 x5 x6 x7) (a : Fin 256) (c : Fin 512) :
    qrOp (zOpA x0 x1 x2) x5 x6 x7 (ix2 a c) = turnedAt X G W Q (row a) c := by
  unfold qrOp turnedAt
  rw [shapeCast_self, shapeCast_self]
  refine congrArg (· * Ideal.ofBits .f32 0x3E000000#32) ((ropesOp_apply _ _ _ a _ _ (S.cs a) (S.sn a) c).trans ?_)
  simp only [S.norm]

/-- The block's gates are those of its rows. -/
theorem Staged.gates (S : Staged X G W A B Q row x0 x1 x2 x3 x4 x5 x6 x7) (a : Fin 256) (l : Fin 128) :
    gatesOp (zOpA x0 x1 x2) (ix2 a l) = gateAt X G W (row a) l := by
  have e : gatesOp (zOpA x0 x1 x2) (ix2 a l) = Ideal.logistic (zOpA x0 x1 x2 (ix2 a ⟨2944 + l.val, by omega⟩)) := by
    unfold gatesOp
    generalize zOpA x0 x1 x2 = z
    pointwise
  rw [e]
  unfold gateAt
  by_cases h : l.val < 24
  · rw [dif_pos h, S.zMid a ⟨1280 + l.val, by omega⟩ _ (by show 2944 + l.val = 1664 + (1280 + l.val); omega)]
    exact congrArg (fun j => Ideal.logistic (rowZ X G W (row a) j)) (Fin.ext (by show 1552 + (1280 + l.val) = 2832 + l.val; omega))
  · rw [dif_neg h, S.zPad a ⟨l.val - 24, by omega⟩ _ (by show 2944 + l.val = 2968 + (l.val - 24); omega), logistic_zero]

/-! ## The rows -/

/-- A pair of heads' columns are those of the block's rows. -/
theorem Staged.pair (S : Staged X G W A B Q row x0 x1 x2 x3 x4 x5 x6 x7) (o : ℕ) (h : S256x3072.Slices ![0, o] S256x128) (p : ℕ)
    (ho : o = 2176 + p) (hp : p ≤ 640) (a : Fin 256) (j : Fin 128) :
    pairOp (zOpA x0 x1 x2) o h (ix2 a j) = rowZ X G W (row a) ⟨2064 + p + j.val, by omega⟩ := by
  subst ho
  have e' : pairOp (zOpA x0 x1 x2) (2176 + p) h (ix2 a j) = zOpA x0 x1 x2 (ix2 a ⟨2176 + p + j.val, by omega⟩) := by
    unfold pairOp
    generalize zOpA x0 x1 x2 = z
    pointwise
  rw [e', S.zMid a ⟨512 + p + j.val, by omega⟩ _ (by show 2176 + p + j.val = 1664 + (512 + p + j.val); omega)]
  exact congrArg _ (Fin.ext (by show 1552 + (512 + p + j.val) = 2064 + p + j.val; omega))

/-- A pair of heads, normed. -/
theorem Staged.keyNorm (S : Staged X G W A B Q row x0 x1 x2 x3 x4 x5 x6 x7) (i : Fin 6) (g : Fin 4) (o gi : ℕ) (ho : o = 2176 + 128 * i.val)
    (hg : gi = g.val) (h : S256x3072.Slices ![0, o] S256x128) (h' : ∀ a, (![gi, 0] : Fin 2 → Nat) a + S1x128.size a ≤ S4x512.size a)
    (a : Fin 256) (j : Fin 128) :
    normOp (pairOp (zOpA x0 x1 x2) o h) (gainK x5 gi h') (ix2 a j) = keyN X G W Q i g (row a) ⟨j.val, by omega⟩ := by
  subst hg
  unfold keyN
  refine (normOp_row 0 rfl (by decide) _ _ a (fun c => rowZ X G W (row a) ⟨2064 + 128 * i.val + c.val % 128, by omega⟩)
    (fun c => Q (ix2 g ⟨c.val % 64, by omega⟩)) (fun j => ?_) (fun j => ?_) j).trans (congrArg _ (Fin.ext (by show 0 + j.val = j.val; omega)))
  · refine (S.pair o h (128 * i.val) ho (by omega) a j).trans (congrArg _ (Fin.ext ?_))
    show 2064 + 128 * i.val + j.val = 2064 + 128 * i.val + (0 + j.val) % 128
    omega
  · refine (gainK_apply x5 g.val h' g.isLt j).trans ((S.gq g _).trans (congrArg (fun l => Q (ix2 g l)) (Fin.ext ?_)))
    show j.val % 64 = (0 + j.val) % 64
    omega

/-- A pair of heads, normed and turned. -/
theorem Staged.keyTurn (S : Staged X G W A B Q row x0 x1 x2 x3 x4 x5 x6 x7) (i : Fin 6) (g : Fin 4) (o gi : ℕ) (ho : o = 2176 + 128 * i.val)
    (hg : gi = g.val) (h : S256x3072.Slices ![0, o] S256x128) (h' : ∀ a, (![gi, 0] : Fin 2 → Nat) a + S1x128.size a ≤ S4x512.size a)
    (a : Fin 256) (j : Fin 128) :
    keyOp (zOpA x0 x1 x2) o h (gainK x5 gi h') x6 x7 (ix2 a j) = keyT X G W Q i g (row a) ⟨j.val, by omega⟩ := by
  unfold keyOp keyT
  rw [shapeCast_self, shapeCast_self]
  refine (ropeOp_row 0 rfl (by decide) _ _ _ a (keyN X G W Q i g (row a)) _ _ (fun j => ?_) (S.cs a) (S.sn a) j).trans
    (congrArg _ (Fin.ext (by show 0 + j.val = j.val; omega)))
  exact (S.keyNorm i g o gi ho hg h h' a j).trans (congrArg _ (Fin.ext (by show j.val = 0 + j.val; omega)))

/-- The first half of two pairs side by side. -/
theorem rowsVal_low {e : EltTy} (k v : S256x128.Idx → Elt Ideal e) (a l : Fin 256) (hl : l.val < 128) :
    rowsVal k v (ix2 a l) = k (ix2 a ⟨l.val, hl⟩) := by
  unfold rowsVal rowsPieces
  rw [View.canon_cons_of_not_mem]
  · have e : ix2 a l = (Rect.unit (s := S256x256) ![0, 0] S256x128.size (by decide)).emb (ix2 a ⟨l.val, hl⟩) :=
      funext fun z => Fin.ext (by
        match z with
        | ⟨0, _⟩ => show a.val = 0 + 1 * a.val; omega
        | ⟨1, _⟩ => show l.val = 0 + 1 * l.val; omega)
    rw [e]
    exact View.canon_cons_emb _ _ _ _
  · rw [Rect.mem_set_unit]
    intro h
    have h2 : 128 ≤ l.val := (h 1).1
    omega

/-- The second half of two pairs side by side. -/
theorem rowsVal_high {e : EltTy} (k v : S256x128.Idx → Elt Ideal e) (a l : Fin 256) (hl : ¬ l.val < 128) :
    rowsVal k v (ix2 a l) = v (ix2 a ⟨l.val - 128, by omega⟩) := by
  unfold rowsVal rowsPieces
  have e : ix2 a l = (Rect.unit (s := S256x256) ![0, 128] S256x128.size (by decide)).emb (ix2 a ⟨l.val - 128, by omega⟩) :=
    funext fun z => Fin.ext (by
      match z with
      | ⟨0, _⟩ => show a.val = 0 + 1 * a.val; omega
      | ⟨1, _⟩ => show l.val = 128 + 1 * (l.val - 128); omega)
  rw [e]
  exact View.canon_cons_emb _ _ _ _

/-- The block's compressed rows are those of its tokens. -/
theorem Staged.compressed (S : Staged X G W A B Q row x0 x1 x2 x3 x4 x5 x6 x7) (h0 : S256x3072.Slices ![0, 2176] S256x128)
    (h1 : S256x3072.Slices ![0, 2304] S256x128) (h' : ∀ a, (![1, 0] : Fin 2 → Nat) a + S1x128.size a ≤ S4x512.size a) (a l : Fin 256) :
    rowsVal (e := .f32) (normOp (pairOp (zOpA x0 x1 x2) 2176 h0) (gainK x5 1 h')) (pairOp (zOpA x0 x1 x2) 2304 h1) (ix2 a l)
      = rowsC X G W Q (row a) l := by
  unfold rowsC
  by_cases hl : l.val < 128
  · rw [if_pos hl]
    exact (rowsVal_low _ _ a l hl).trans (S.keyNorm 0 1 _ _ rfl rfl h0 h' a _)
  · rw [if_neg hl]
    exact (rowsVal_high _ _ a l hl).trans (S.pair _ h1 128 rfl (by decide) a _)

/-- The block's selected rows are those of its tokens. -/
theorem Staged.selected (S : Staged X G W A B Q row x0 x1 x2 x3 x4 x5 x6 x7) (h0 : S256x3072.Slices ![0, 2432] S256x128)
    (h1 : S256x3072.Slices ![0, 2560] S256x128) (h' : ∀ a, (![2, 0] : Fin 2 → Nat) a + S1x128.size a ≤ S4x512.size a) (a l : Fin 256) :
    rowsVal (e := .f32) (keyOp (zOpA x0 x1 x2) 2432 h0 (gainK x5 2 h') x6 x7) (pairOp (zOpA x0 x1 x2) 2560 h1) (ix2 a l)
      = rowsS X G W Q (row a) l := by
  unfold rowsS
  by_cases hl : l.val < 128
  · rw [if_pos hl]
    exact (rowsVal_low _ _ a l hl).trans (S.keyTurn 2 2 _ _ rfl rfl h0 h' a _)
  · rw [if_neg hl]
    exact (rowsVal_high _ _ a l hl).trans (S.pair _ h1 384 rfl (by decide) a _)

/-- The block's window rows are those of its tokens. -/
theorem Staged.window (S : Staged X G W A B Q row x0 x1 x2 x3 x4 x5 x6 x7) (h0 : S256x3072.Slices ![0, 2688] S256x128)
    (h1 : S256x3072.Slices ![0, 2816] S256x128) (h' : ∀ a, (![3, 0] : Fin 2 → Nat) a + S1x128.size a ≤ S4x512.size a) (a l : Fin 256) :
    rowsVal (e := .f32) (keyOp (zOpA x0 x1 x2) 2688 h0 (gainK x5 3 h') x6 x7) (pairOp (zOpA x0 x1 x2) 2816 h1) (ix2 a l)
      = rowsW X G W Q (row a) l := by
  unfold rowsW
  by_cases hl : l.val < 128
  · rw [if_pos hl]
    exact (rowsVal_low _ _ a l hl).trans (S.keyTurn 4 3 _ _ rfl rfl h0 h' a _)
  · rw [if_neg hl]
    exact (rowsVal_high _ _ a l hl).trans (S.pair _ h1 640 rfl (by decide) a _)

/-- The rounded rows are the rows. -/
theorem rowsVal_round (k v : FVec Ideal S256x128 .f32) (a l : Fin 256) :
    (rowsVal (e := .bf16) (truncf .bf16 k (by decide)) (truncf .bf16 v (by decide)) (ix2 a l) : EReal) = rowsVal (e := .f32) k v (ix2 a l) := by
  by_cases hl : l.val < 128
  · exact (rowsVal_low _ _ a l hl).trans (rowsVal_low (e := .f32) k v a l hl).symm
  · exact (rowsVal_high _ _ a l hl).trans (rowsVal_high (e := .f32) k v a l hl).symm

/-- A band's rows, lanes first, read. -/
theorem pay47_apply (v : Vec Ideal S256x256 .f32) (l u : Fin 256) : k0_pay47 (F := Ideal) v (ix3 0 l u) = v (ix2 u l) := by
  pointwise [k0_pay47]

/-- The selected rows' block, lanes first. -/
theorem pay48_apply (v : Vec Ideal S256x256 .f32) (l u : Fin 256) : k0_pay48 (F := Ideal) v (ix3 0 l u) = v (ix2 u l) := pay47_apply v l u

/-- The window rows' block, lanes first. -/
theorem pay49_apply (v : Vec Ideal S256x256 .f32) (l u : Fin 256) : k0_pay49 (F := Ideal) v (ix3 0 l u) = v (ix2 u l) := pay47_apply v l u

end Cert.ProjAIdeal.Own

end
-- ==== Proof.ProjAHost.lean ====
/-
  The even layer's input projection: the padded weights, the repeated gains and the rotary tables its region finds, read.
-/
module

public import proofs.«01_k».proof.Proof.ProjARow
public import proofs.«01_k».proof.Proof.ProjHost
public import proofs.«01_k».proof.Proof.Gen.ProjAIdeal.Value

@[expose] public section

noncomputable section

namespace Cert.ProjAIdeal.Own

open Idealize.ShloMosaic Idealize.ShloMosaic.TcCoe Idealize.SL.Sem
open Idealize.ShloMosaic.Pipeline (Dat)
open Cert.ProjAIdeal Cert.ProjAIdeal.Gen Cert.Post Cert.ProjA
open Cert.Proj (AX AG cosAt sinAt angle)

variable (m : (ℓ : Loc nD τ sig) → Buf (Elt Ideal) ℓ) (c : Dev nD)

/-- The argument arrays. -/
abbrev aX : AX.Idx → EReal := m ((c : Thread nD τ).loc main_arg0)
abbrev aG : AG.Idx → EReal := m ((c : Thread nD τ).loc main_arg1)
abbrev aW : AW.Idx → EReal := m ((c : Thread nD τ).loc main_arg2)
abbrev aA : AL.Idx → EReal := m ((c : Thread nD τ).loc main_arg3)
abbrev aB : AB.Idx → EReal := m ((c : Thread nD τ).loc main_arg4)
abbrev aQ : AQ.Idx → EReal := m ((c : Thread nD τ).loc main_arg5)

/-- The gains, repeated for eight heads. -/
theorem V_v12 (g : Fin 4) (j : Fin 512) : (V m c main_v12 : S4x512.Idx → EReal) (ix2 g j) = aQ m c (ix2 g ⟨j.val % 64, by omega⟩) := by
  unfold V
  after_reads_simp
  pointwise

/-- The padding's value is zero. -/
theorem zero_apply (i : S_.Idx) : (sitofp .f32 (constantI S_ 32 0#32) : FVec Ideal S_ .f32) i = 0 := by
  show (((0#32).toInt : ℝ) : EReal) = 0
  simp

/-- A padded array, read. -/
theorem pad16Cols_apply (x : FVec Ideal S1024x16 .f32) (k : Fin 1024) (j : Fin 128) :
    pad S1024x128 ![0, 0] ![0, 112] ![0, 0] x (sitofp .f32 (constantI S_ 32 0#32) : FVec Ideal S_ .f32) pads_S1024x16_S1024x128_000_01120 h_S_ (ix2 k j)
      = if h : j.val < 16 then x (ix2 k ⟨j.val, h⟩) else 0 := by
  have hz : ∀ i, (sitofp .f32 (constantI S_ 32 0#32) : FVec Ideal S_ .f32) i = 0 := zero_apply
  generalize (sitofp .f32 (constantI S_ 32 0#32) : FVec Ideal S_ .f32) = v at hz ⊢
  pointwise
  simp only [hz]

/-- A padded array, read. -/
theorem pad24Cols_apply (x : FVec Ideal S1024x24 .f32) (k : Fin 1024) (j : Fin 128) :
    pad S1024x128 ![0, 0] ![0, 104] ![0, 0] x (sitofp .f32 (constantI S_ 32 0#32) : FVec Ideal S_ .f32) pads_S1024x24_S1024x128_000_01040 h_S_ (ix2 k j)
      = if h : j.val < 24 then x (ix2 k ⟨j.val, h⟩) else 0 := by
  have hz : ∀ i, (sitofp .f32 (constantI S_ 32 0#32) : FVec Ideal S_ .f32) i = 0 := zero_apply
  generalize (sitofp .f32 (constantI S_ 32 0#32) : FVec Ideal S_ .f32) = v at hz ⊢
  pointwise
  simp only [hz]

/-- A padded array, read. -/
theorem padRows_apply (x : FVec Ideal S16x256 .f32) (k : Fin 128) (j : Fin 256) :
    pad S128x256 ![0, 0] ![112, 0] ![0, 0] x (sitofp .f32 (constantI S_ 32 0#32) : FVec Ideal S_ .f32) pads_S16x256_S128x256_01120_000 h_S_ (ix2 k j)
      = if h : k.val < 16 then x (ix2 ⟨k.val, h⟩ j) else 0 := by
  have hz : ∀ i, (sitofp .f32 (constantI S_ 32 0#32) : FVec Ideal S_ .f32) i = 0 := zero_apply
  generalize (sitofp .f32 (constantI S_ 32 0#32) : FVec Ideal S_ .f32) = v at hz ⊢
  pointwise
  simp only [hz]

/-- The padded low-rank weights' own rows. -/
theorem V_v9_low (t : Fin 16) (l : Fin 256) : (V m c main_v9 : S128x256.Idx → EReal) (ix2 ⟨t.val, by omega⟩ l) = aA m c (ix2 t l) := by
  unfold V
  after_reads_simp
  show pad S128x256 ![0, 0] ![112, 0] ![0, 0] (m (c, Proc.tc.devRef main_arg3)) (sitofp .f32 (constantI S_ 32 0#32) : FVec Ideal S_ .f32)
    pads_S16x256_S128x256_01120_000 h_S_ (ix2 ⟨t.val, by omega⟩ l) = aA m c (ix2 t l)
  exact (padRows_apply _ _ l).trans (dif_pos t.isLt)

/-- The padded low-rank weights' padding. -/
theorem V_v9_pad (t : Fin 112) (l : Fin 256) : (V m c main_v9 : S128x256.Idx → EReal) (ix2 ⟨16 + t.val, by omega⟩ l) = (0 : EReal) := by
  unfold V
  after_reads_simp
  show pad S128x256 ![0, 0] ![112, 0] ![0, 0] (m (c, Proc.tc.devRef main_arg3)) (sitofp .f32 (constantI S_ 32 0#32) : FVec Ideal S_ .f32)
    pads_S16x256_S128x256_01120_000 h_S_ (ix2 ⟨16 + t.val, by omega⟩ l) = (0 : EReal)
  exact (padRows_apply _ _ l).trans (dif_neg (by show ¬ 16 + t.val < 16; omega))

/-- The padded weights' columns before the first padding. -/
theorem V_v7_low (k : Fin 1024) (j : Fin 1552) :
    (V m c main_v7 : S1024x3072.Idx → EReal) (ix2 k ⟨j.val, by omega⟩) = aW m c (ix2 k ⟨j.val, by omega⟩) := by
  have hj := j.isLt
  unfold V
  after_reads_simp
  pointwise
  by_cases h : j.val < 1536
  · rw [dif_pos h]
    after_reads_simp
    pointwise
  · rw [dif_neg h, dif_pos (by omega)]
    after_reads_simp
    show pad S1024x128 ![0, 0] ![0, 112] ![0, 0] (extractStridedSlice S1024x16 ![0, 1536] (m (c, Proc.tc.devRef main_arg2)) slices_S1024x2856_S1024x16_0_1536)
      (sitofp .f32 (constantI S_ 32 0#32) : FVec Ideal S_ .f32) pads_S1024x16_S1024x128_000_01120 h_S_ (ix2 k ⟨j.val - 1536, by omega⟩)
      = aW m c (ix2 k ⟨j.val, by omega⟩)
    refine (pad16Cols_apply _ k _).trans ((dif_pos (show j.val - 1536 < 16 by omega)).trans ?_)
    have e : extractStridedSlice S1024x16 ![0, 1536] (aW m c) slices_S1024x2856_S1024x16_0_1536 (ix2 k ⟨j.val - 1536, by omega⟩)
        = aW m c (ix2 k ⟨1536 + (j.val - 1536), by omega⟩) := by pointwise
    exact e.trans (congrArg (fun l => aW m c (ix2 k l)) (Fin.ext (by show 1536 + (j.val - 1536) = j.val; omega)))

/-- The padded weights' columns after the first padding. -/
theorem V_v7_mid (k : Fin 1024) (j : Fin 1304) :
    (V m c main_v7 : S1024x3072.Idx → EReal) (ix2 k ⟨1664 + j.val, by omega⟩) = aW m c (ix2 k ⟨1552 + j.val, by omega⟩) := by
  have hj := j.isLt
  unfold V
  after_reads_simp
  pointwise
  rw [dif_neg (by omega), dif_neg (by omega)]
  by_cases h : j.val < 1280
  · rw [dif_pos (by omega)]
    after_reads_simp
    have e : extractStridedSlice S1024x1280 ![0, 1552] (aW m c) slices_S1024x2856_S1024x1280_0_1552 (ix2 k ⟨1664 + j.val - 1536 - 128, by omega⟩)
        = aW m c (ix2 k ⟨1552 + (1664 + j.val - 1536 - 128), by omega⟩) := by pointwise
    exact e.trans (congrArg (fun l => aW m c (ix2 k l)) (Fin.ext (by show 1552 + (1664 + j.val - 1536 - 128) = 1552 + j.val; omega)))
  · rw [dif_neg (by omega)]
    after_reads_simp
    show pad S1024x128 ![0, 0] ![0, 104] ![0, 0] (extractStridedSlice S1024x24 ![0, 2832] (m (c, Proc.tc.devRef main_arg2)) slices_S1024x2856_S1024x24_0_2832)
      (sitofp .f32 (constantI S_ 32 0#32) : FVec Ideal S_ .f32) pads_S1024x24_S1024x128_000_01040 h_S_ (ix2 k ⟨1664 + j.val - 1536 - 128 - 1280, by omega⟩)
      = aW m c (ix2 k ⟨1552 + j.val, by omega⟩)
    refine (pad24Cols_apply _ k _).trans ((dif_pos (show 1664 + j.val - 1536 - 128 - 1280 < 24 by omega)).trans ?_)
    have e : extractStridedSlice S1024x24 ![0, 2832] (aW m c) slices_S1024x2856_S1024x24_0_2832 (ix2 k ⟨1664 + j.val - 1536 - 128 - 1280, by omega⟩)
        = aW m c (ix2 k ⟨2832 + (1664 + j.val - 1536 - 128 - 1280), by omega⟩) := by pointwise
    exact e.trans (congrArg (fun l => aW m c (ix2 k l)) (Fin.ext (by show 2832 + (1664 + j.val - 1536 - 128 - 1280) = 1552 + j.val; omega)))

/-- The padded weights' last padding. -/
theorem V_v7_pad (k : Fin 1024) (j : Fin 104) : (V m c main_v7 : S1024x3072.Idx → EReal) (ix2 k ⟨2968 + j.val, by omega⟩) = (0 : EReal) := by
  have hj := j.isLt
  unfold V
  after_reads_simp
  pointwise
  rw [dif_neg (by omega), dif_neg (by omega), dif_neg (by omega)]
  after_reads_simp
  show pad S1024x128 ![0, 0] ![0, 104] ![0, 0] (extractStridedSlice S1024x24 ![0, 2832] (m (c, Proc.tc.devRef main_arg2)) slices_S1024x2856_S1024x24_0_2832)
    (sitofp .f32 (constantI S_ 32 0#32) : FVec Ideal S_ .f32) pads_S1024x24_S1024x128_000_01040 h_S_ (ix2 k ⟨2968 + j.val - 1536 - 128 - 1280, by omega⟩)
    = (0 : EReal)
  exact (pad24Cols_apply _ k _).trans (dif_neg (show ¬ 2968 + j.val - 1536 - 128 - 1280 < 24 by omega))

/-- The cosine table. -/
theorem V_v31 (s : Fin 8192) (j : Fin 128) : (V m c main_v31 : S8192x128.Idx → EReal) (ix2 s j) = cosAt s.val ⟨j.val % 32, by omega⟩ := by
  unfold V
  after_reads_simp
  refine (Cert.ProjCIdeal.Own.tiled_table _ _ s j).trans ?_
  rw [ite_self]
  exact congrArg Ideal.cos (Cert.ProjCIdeal.Own.angles_apply s _)

/-- The sine table, its first halves negated. -/
theorem V_v36 (s : Fin 8192) (j : Fin 128) : (V m c main_v36 : S8192x128.Idx → EReal) (ix2 s j)
    = if j.val % 64 < 32 then -sinAt s.val ⟨j.val % 32, by omega⟩ else sinAt s.val ⟨j.val % 32, by omega⟩ := by
  unfold V
  after_reads_simp
  refine (Cert.ProjCIdeal.Own.tiled_table _ _ s j).trans ?_
  refine if_congr Iff.rfl ?_ ?_
  · exact congrArg (fun v => -Ideal.sin v) (Cert.ProjCIdeal.Own.angles_apply s _)
  · exact congrArg Ideal.sin (Cert.ProjCIdeal.Own.angles_apply s _)

end Cert.ProjAIdeal.Own

end
-- ==== Proof.ProjAKernel.lean ====
/-
  The even layer's input projection: what its twelve result arrays hold after the run, at the ideal values, row by row as the mathematics
  of the argument arrays.
-/
module

public import proofs.«01_k».proof.Proof.ProjAHost

@[expose] public section

set_option maxRecDepth 16384

noncomputable section

namespace Cert.ProjA

/-- The row of a sequence's token. -/
abbrev tokenRow (b : Fin 2) (s : Fin 8192) : Fin 16384 := ⟨b.val * 8192 + s.val, by omega⟩

open Idealize.ShloMosaic in
/-- Rows written lanes first, sequence by sequence. -/
def lanesOf (f : Fin 16384 → Fin 256 → EReal) : (⟨3, ![2, 256, 8192]⟩ : Shape).Idx → EReal := fun k => f (tokenRow (k 0) (k 2)) (k 1)

end Cert.ProjA

namespace Cert.ProjAIdeal.Own

open Idealize.ShloMosaic Idealize.ShloMosaic.TcCoe Idealize.SL.Sem
open Idealize.ShloMosaic.Pipeline (Dat)
open Cert.ProjAIdeal Cert.ProjAIdeal.Gen Cert.Post Cert.ProjA
open Cert.Proj (AX AG cosAt sinAt normOp)

variable (m : (ℓ : Loc nD τ sig) → Buf (Elt Ideal) ℓ) (ρ : Dev nD → PrngReg) (c : Dev nD)

/-! ## The staged blocks are a band of the arguments -/

/-- Where window 0's block of a grid point lies. -/
theorem index0 : ∀ t : Fin cfg0.N, win0_0.index t 0 = t.val ∧ win0_0.index t 1 = 0 :=
  by change ∀ t : Fin grid0.N, _; decide +kernel

/-- Where window 1's block of a grid point lies. -/
theorem index1 : ∀ t : Fin cfg0.N, win0_1.index t 0 = 0 ∧ win0_1.index t 1 = 0 :=
  by change ∀ t : Fin grid0.N, _; decide +kernel

/-- Where window 2's block of a grid point lies. -/
theorem index2 : ∀ t : Fin cfg0.N, win0_2.index t 0 = 0 ∧ win0_2.index t 1 = 0 :=
  by change ∀ t : Fin grid0.N, _; decide +kernel

/-- Where window 3's block of a grid point lies. -/
theorem index3 : ∀ t : Fin cfg0.N, win0_3.index t 0 = 0 ∧ win0_3.index t 1 = 0 :=
  by change ∀ t : Fin grid0.N, _; decide +kernel

/-- Where window 4's block of a grid point lies. -/
theorem index4 : ∀ t : Fin cfg0.N, win0_4.index t 0 = 0 ∧ win0_4.index t 1 = 0 :=
  by change ∀ t : Fin grid0.N, _; decide +kernel

/-- Where window 5's block of a grid point lies. -/
theorem index5 : ∀ t : Fin cfg0.N, win0_5.index t 0 = 0 ∧ win0_5.index t 1 = 0 :=
  by change ∀ t : Fin grid0.N, _; decide +kernel

/-- Where window 6's block of a grid point lies. -/
theorem index6 : ∀ t : Fin cfg0.N, win0_6.index t 0 = t.val % 32 ∧ win0_6.index t 1 = 0 :=
  by change ∀ t : Fin grid0.N, _; decide +kernel

/-- Where window 7's block of a grid point lies. -/
theorem index7 : ∀ t : Fin cfg0.N, win0_7.index t 0 = t.val % 32 ∧ win0_7.index t 1 = 0 :=
  by change ∀ t : Fin grid0.N, _; decide +kernel

/-- Where window 8's block of a grid point lies. -/
theorem index8 : ∀ t : Fin cfg0.N, win0_8.index t 0 = t.val ∧ win0_8.index t 1 = 0 :=
  by change ∀ t : Fin grid0.N, _; decide +kernel

/-- Where window 9's block of a grid point lies. -/
theorem index9 : ∀ t : Fin cfg0.N, win0_9.index t 0 = t.val ∧ win0_9.index t 1 = 0 :=
  by change ∀ t : Fin grid0.N, _; decide +kernel

/-- Where window 10's block of a grid point lies. -/
theorem index10 : ∀ t : Fin cfg0.N, win0_10.index t 0 = t.val ∧ win0_10.index t 1 = 0 :=
  by change ∀ t : Fin grid0.N, _; decide +kernel

/-- Where window 11's block of a grid point lies. -/
theorem index11 : ∀ t : Fin cfg0.N, win0_11.index t 0 = t.val ∧ win0_11.index t 1 = 0 :=
  by change ∀ t : Fin grid0.N, _; decide +kernel

/-- Where window 12's block of a grid point lies. -/
theorem index12 : ∀ t : Fin cfg0.N, win0_12.index t 0 = t.val ∧ win0_12.index t 1 = 0 :=
  by change ∀ t : Fin grid0.N, _; decide +kernel

/-- Where window 13's block of a grid point lies. -/
theorem index13 : ∀ t : Fin cfg0.N, win0_13.index t 0 = t.val ∧ win0_13.index t 1 = 0 :=
  by change ∀ t : Fin grid0.N, _; decide +kernel

/-- Where window 14's block of a grid point lies. -/
theorem index14 : ∀ t : Fin cfg0.N, win0_14.index t 0 = t.val ∧ win0_14.index t 1 = 0 :=
  by change ∀ t : Fin grid0.N, _; decide +kernel

/-- Where window 15's block of a grid point lies. -/
theorem index15 : ∀ t : Fin cfg0.N, win0_15.index t 0 = t.val ∧ win0_15.index t 1 = 0 :=
  by change ∀ t : Fin grid0.N, _; decide +kernel

/-- Where window 16's block of a grid point lies. -/
theorem index16 : ∀ t : Fin cfg0.N, win0_16.index t 0 = t.val ∧ win0_16.index t 1 = 0 :=
  by change ∀ t : Fin grid0.N, _; decide +kernel

/-- Where window 17's block of a grid point lies. -/
theorem index17 : ∀ t : Fin cfg0.N, win0_17.index t 0 = t.val / 32 ∧ win0_17.index t 1 = 0 ∧ win0_17.index t 2 = t.val % 32 :=
  by change ∀ t : Fin grid0.N, _; decide +kernel

/-- Where window 18's block of a grid point lies. -/
theorem index18 : ∀ t : Fin cfg0.N, win0_18.index t 0 = t.val / 32 ∧ win0_18.index t 1 = 0 ∧ win0_18.index t 2 = t.val % 32 :=
  by change ∀ t : Fin grid0.N, _; decide +kernel

/-- Where window 19's block of a grid point lies. -/
theorem index19 : ∀ t : Fin cfg0.N, win0_19.index t 0 = t.val / 32 ∧ win0_19.index t 1 = 0 ∧ win0_19.index t 2 = t.val % 32 :=
  by change ∀ t : Fin grid0.N, _; decide +kernel

/-- The row of the arrays that row `a` of a grid point's band is. -/
def rowAt (t : Fin cfg0.N) (a : Fin 256) : Fin 16384 := ⟨t.val * 256 + a.val, by
  have h : t.val < 64 := lt_of_lt_of_eq t.isLt N_0
  omega⟩

/-- The row of the rotary tables that row `a` of a grid point's band meets. -/
theorem table_row (t : Fin cfg0.N) (a : Fin 256) : t.val % 32 * 256 + a.val < 8192 := by omega

/-- A row's place in its sequence. -/
theorem row_mod (t : Fin cfg0.N) (a : Fin 256) : (rowAt t a).val % 8192 = t.val % 32 * 256 + a.val := by
  show (t.val * 256 + a.val) % 8192 = _
  omega

/-- Window 0's block, read. -/
theorem blk0 (t : Fin cfg0.N) (a : Fin 256) (l : Fin 1024) :
    iblk m c 0 t (ix2 a l) = (m ((c : Thread nD τ).loc main_arg0) : S16384x1024.Idx → EReal) (ix2 (rowAt t a) l) := by
  unfold iblk
  rw [View.read_apply]
  refine congrArg (m ((c : Thread nD τ).loc main_arg0)) (funext fun z => Fin.ext ?_)
  match z with
  | ⟨0, _⟩ =>
    show win0_0.index t 0 * 256 + 1 * a.val = t.val * 256 + a.val
    rw [(index0 t).1]; omega
  | ⟨1, _⟩ =>
    show win0_0.index t 1 * 1024 + 1 * l.val = l.val
    rw [(index0 t).2]; omega

/-- Window 1's block, read. -/
theorem blk1 (t : Fin cfg0.N) (a : Fin 1) (l : Fin 1024) :
    iblk m c 1 t (ix2 a l) = (m ((c : Thread nD τ).loc main_arg1) : S1x1024.Idx → EReal) (ix2 a l) := by
  unfold iblk
  rw [View.read_apply]
  refine congrArg (m ((c : Thread nD τ).loc main_arg1)) (funext fun z => Fin.ext ?_)
  match z with
  | ⟨0, _⟩ =>
    show win0_1.index t 0 * 1 + 1 * a.val = a.val
    rw [(index1 t).1]; omega
  | ⟨1, _⟩ =>
    show win0_1.index t 1 * 1024 + 1 * l.val = l.val
    rw [(index1 t).2]; omega

/-- Window 2's block, read. -/
theorem blk2 (t : Fin cfg0.N) (a : Fin 1024) (l : Fin 3072) :
    iblk m c 2 t (ix2 a l) = (V m c main_v7 : S1024x3072.Idx → EReal) (ix2 a l) := by
  unfold iblk
  rw [View.read_apply]
  refine congrArg (V m c main_v7) (funext fun z => Fin.ext ?_)
  match z with
  | ⟨0, _⟩ =>
    show win0_2.index t 0 * 1024 + 1 * a.val = a.val
    rw [(index2 t).1]; omega
  | ⟨1, _⟩ =>
    show win0_2.index t 1 * 3072 + 1 * l.val = l.val
    rw [(index2 t).2]; omega

/-- Window 3's block, read. -/
theorem blk3 (t : Fin cfg0.N) (a : Fin 128) (l : Fin 256) :
    iblk m c 3 t (ix2 a l) = (V m c main_v9 : S128x256.Idx → EReal) (ix2 a l) := by
  unfold iblk
  rw [View.read_apply]
  refine congrArg (V m c main_v9) (funext fun z => Fin.ext ?_)
  match z with
  | ⟨0, _⟩ =>
    show win0_3.index t 0 * 128 + 1 * a.val = a.val
    rw [(index3 t).1]; omega
  | ⟨1, _⟩ =>
    show win0_3.index t 1 * 256 + 1 * l.val = l.val
    rw [(index3 t).2]; omega

/-- Window 4's block, read. -/
theorem blk4 (t : Fin cfg0.N) (a : Fin 1) (l : Fin 256) :
    iblk m c 4 t (ix2 a l) = (m ((c : Thread nD τ).loc main_arg4) : S1x256.Idx → EReal) (ix2 a l) := by
  unfold iblk
  rw [View.read_apply]
  refine congrArg (m ((c : Thread nD τ).loc main_arg4)) (funext fun z => Fin.ext ?_)
  match z with
  | ⟨0, _⟩ =>
    show win0_4.index t 0 * 1 + 1 * a.val = a.val
    rw [(index4 t).1]; omega
  | ⟨1, _⟩ =>
    show win0_4.index t 1 * 256 + 1 * l.val = l.val
    rw [(index4 t).2]; omega

/-- Window 5's block, read. -/
theorem blk5 (t : Fin cfg0.N) (a : Fin 4) (l : Fin 512) :
    iblk m c 5 t (ix2 a l) = (V m c main_v12 : S4x512.Idx → EReal) (ix2 a l) := by
  unfold iblk
  rw [View.read_apply]
  refine congrArg (V m c main_v12) (funext fun z => Fin.ext ?_)
  match z with
  | ⟨0, _⟩ =>
    show win0_5.index t 0 * 4 + 1 * a.val = a.val
    rw [(index5 t).1]; omega
  | ⟨1, _⟩ =>
    show win0_5.index t 1 * 512 + 1 * l.val = l.val
    rw [(index5 t).2]; omega

/-- Window 6's block, read. -/
theorem blk6 (t : Fin cfg0.N) (a : Fin 256) (l : Fin 128) :
    iblk m c 6 t (ix2 a l) = (V m c main_v31 : S8192x128.Idx → EReal) (ix2 ⟨_, table_row t a⟩ l) := by
  unfold iblk
  rw [View.read_apply]
  refine congrArg (V m c main_v31) (funext fun z => Fin.ext ?_)
  match z with
  | ⟨0, _⟩ =>
    show win0_6.index t 0 * 256 + 1 * a.val = t.val % 32 * 256 + a.val
    rw [(index6 t).1]; omega
  | ⟨1, _⟩ =>
    show win0_6.index t 1 * 128 + 1 * l.val = l.val
    rw [(index6 t).2]; omega

/-- Window 7's block, read. -/
theorem blk7 (t : Fin cfg0.N) (a : Fin 256) (l : Fin 128) :
    iblk m c 7 t (ix2 a l) = (V m c main_v36 : S8192x128.Idx → EReal) (ix2 ⟨_, table_row t a⟩ l) := by
  unfold iblk
  rw [View.read_apply]
  refine congrArg (V m c main_v36) (funext fun z => Fin.ext ?_)
  match z with
  | ⟨0, _⟩ =>
    show win0_7.index t 0 * 256 + 1 * a.val = t.val % 32 * 256 + a.val
    rw [(index7 t).1]; omega
  | ⟨1, _⟩ =>
    show win0_7.index t 1 * 128 + 1 * l.val = l.val
    rw [(index7 t).2]; omega

/-- At every grid point the staged blocks are its band of the arguments. -/
theorem staged (t : Fin cfg0.N) : Staged (aX m c) (aG m c) (aW m c) (aA m c) (aB m c) (aQ m c) (rowAt t) (iblk m c 0 t) (iblk m c 1 t) (iblk m c 2 t)
    (iblk m c 3 t) (iblk m c 4 t) (iblk m c 5 t) (iblk m c 6 t) (iblk m c 7 t) where
  x a k := blk0 m c t a k
  gain k := blk1 m c t 0 k
  wLow k j := (blk2 m c t k _).trans (V_v7_low m c k j)
  wMid k j := (blk2 m c t k _).trans (V_v7_mid m c k j)
  wPad k j := (blk2 m c t k _).trans (V_v7_pad m c k j)
  a2 r l := (blk3 m c t _ l).trans (V_v9_low m c r l)
  a2Pad r l := (blk3 m c t _ l).trans (V_v9_pad m c r l)
  bias l := blk4 m c t 0 l
  gq g j := (blk5 m c t g j).trans (V_v12 m c g j)
  cs a j := by
    rw [row_mod]
    exact (blk6 m c t a j).trans (V_v31 m c _ j)
  sn a j := by
    rw [row_mod]
    exact (blk7 m c t a j).trans (V_v36 m c _ j)

/-! ## The result arrays -/

/-- The linear attention's inputs. -/
def res8 : S16384x1792.Idx → EReal := fun k => glaAt (aX m c) (aG m c) (aW m c) (aA m c) (aB m c) (k 0) (k 1)

/-- The queries that are not turned. -/
def res9 : S16384x512.Idx → EReal := fun k => plainAt (aX m c) (aG m c) (aW m c) (aQ m c) (k 0) (k 1)

/-- The turned queries. -/
def res10 : S16384x512.Idx → EReal := fun k => turnedAt (aX m c) (aG m c) (aW m c) (aQ m c) (k 0) (k 1)

/-- The gates. -/
def res11 : S16384x128.Idx → EReal := fun k => gateAt (aX m c) (aG m c) (aW m c) (k 0) (k 1)

/-- The compressed rows. -/
def res12 : S16384x256.Idx → EReal := fun k => rowsC (aX m c) (aG m c) (aW m c) (aQ m c) (k 0) (k 1)

/-- The selected rows. -/
def res13 : S16384x256.Idx → EReal := fun k => rowsS (aX m c) (aG m c) (aW m c) (aQ m c) (k 0) (k 1)

/-- The window rows. -/
def res14 : S16384x256.Idx → EReal := fun k => rowsW (aX m c) (aG m c) (aW m c) (aQ m c) (k 0) (k 1)

/-- The selected rows, rounded. -/
def res15 : S16384x256.Idx → EReal := fun k => rowsS (aX m c) (aG m c) (aW m c) (aQ m c) (k 0) (k 1)

/-- The window rows, rounded. -/
def res16 : S16384x256.Idx → EReal := fun k => rowsW (aX m c) (aG m c) (aW m c) (aQ m c) (k 0) (k 1)

/-- The compressed rows, lanes first. -/
def res17 : S2x256x8192.Idx → EReal := fun k => rowsC (aX m c) (aG m c) (aW m c) (aQ m c) (tokenRow (k 0) (k 2)) (k 1)

/-- The selected rows, lanes first. -/
def res18 : S2x256x8192.Idx → EReal := fun k => rowsS (aX m c) (aG m c) (aW m c) (aQ m c) (tokenRow (k 0) (k 2)) (k 1)

/-- The window rows, lanes first. -/
def res19 : S2x256x8192.Idx → EReal := fun k => rowsW (aX m c) (aG m c) (aW m c) (aQ m c) (tokenRow (k 0) (k 2)) (k 1)

/-! ## What each grid point writes back -/

/-- What a grid point writes back to window 8. -/
theorem flushed8_val (t : Fin cfg0.N) : (dats m 0 c).flushed 8 t = (cfg0.win 8).cut (grid0.coords t)
    (glaVal (zOpA (iblk m c 0 t) (iblk m c 1 t) (iblk m c 2 t)) (iblk m c 3 t) (iblk m c 4 t)) := by
  rw [Value.flushed8_A m c t, out_8]

/-- It is its band of the result. -/
theorem flushed8_eq (t : Fin cfg0.N) : (dats m 0 c).flushed 8 t = ((cfg0.win 8).blk t).view.read (Elt Ideal) (res8 m c) := by
  rw [flushed8_val]
  refine funext fun y => ?_
  rw [View.read_apply]
  have ek : ((cfg0.win 8).blk t).view.emb y = ix2 (rowAt t (y 0)) (y 1) := funext fun z => Fin.ext (by
    match z with
    | ⟨0, _⟩ =>
      show win0_8.index t 0 * 256 + 1 * (y 0).val = t.val * 256 + (y 0).val
      rw [(index8 t).1]; omega
    | ⟨1, _⟩ =>
      show win0_8.index t 1 * 1792 + 1 * (y 1).val = (y 1).val
      rw [(index8 t).2]; omega)
  rw [ek]
  refine (congrArg (glaVal (zOpA (iblk m c 0 t) (iblk m c 1 t) (iblk m c 2 t)) (iblk m c 3 t) (iblk m c 4 t))
    (eq_ix2 (n0 := 256) (n1 := 1792) y)).trans ?_
  exact (staged m c t).gla (y 0) (y 1)

/-- Every grid point writes it back. -/
theorem flush8 : ∀ t : Fin cfg0.N, (cfg0.win 8).flush t = true := (by decide +kernel : ∀ t : Fin grid0.N, win0_8.flush t = true)

/-- The array after the run. -/
theorem final8 : (dats m 0 c).arrAt 8 cfg0.N = res8 m c :=
  (dats m 0 c).arrAt_eq_of_cover 8 (res8 m c) (fun t _ => flushed8_eq m c t) fun k => by
    have h0 : (k 0).val < 16384 := (k 0).isLt
    have h1 : (k 1).val < 1792 := (k 1).isLt
    have hN : cfg0.N = 64 := N_0
    refine ⟨⟨(k 0).val / 256, by omega⟩, flush8 _, ?_⟩
    have hi := index8 ⟨(k 0).val / 256, by omega⟩
    generalize ht : (⟨(k 0).val / 256, by omega⟩ : Fin cfg0.N) = t at hi ⊢
    have hv : t.val = (k 0).val / 256 := by rw [← ht]
    rw [hv] at hi
    show k ∈ ((View.whole main_v37_0).slice (win0_8.rect t)).set
    rw [View.set_slice_whole, Rect.mem_set_unit]
    intro a
    match a with
    | ⟨0, _⟩ =>
      show win0_8.index t 0 * 256 ≤ (k 0).val ∧ (k 0).val < win0_8.index t 0 * 256 + 256
      rw [hi.1]; omega
    | ⟨1, _⟩ =>
      show win0_8.index t 1 * 1792 ≤ (k 1).val ∧ (k 1).val < win0_8.index t 1 * 1792 + 1792
      rw [hi.2]; omega

/-- What a grid point writes back to window 9. -/
theorem flushed9_val (t : Fin cfg0.N) : (dats m 0 c).flushed 9 t = (cfg0.win 9).cut (grid0.coords t)
    (qcOp (zOpA (iblk m c 0 t) (iblk m c 1 t) (iblk m c 2 t)) (iblk m c 5 t)) := by
  rw [Value.flushed9_A m c t, out_9]

/-- It is its band of the result. -/
theorem flushed9_eq (t : Fin cfg0.N) : (dats m 0 c).flushed 9 t = ((cfg0.win 9).blk t).view.read (Elt Ideal) (res9 m c) := by
  rw [flushed9_val]
  refine funext fun y => ?_
  rw [View.read_apply]
  have ek : ((cfg0.win 9).blk t).view.emb y = ix2 (rowAt t (y 0)) (y 1) := funext fun z => Fin.ext (by
    match z with
    | ⟨0, _⟩ =>
      show win0_9.index t 0 * 256 + 1 * (y 0).val = t.val * 256 + (y 0).val
      rw [(index9 t).1]; omega
    | ⟨1, _⟩ =>
      show win0_9.index t 1 * 512 + 1 * (y 1).val = (y 1).val
      rw [(index9 t).2]; omega)
  rw [ek]
  refine (congrArg (qcOp (zOpA (iblk m c 0 t) (iblk m c 1 t) (iblk m c 2 t)) (iblk m c 5 t))
    (eq_ix2 (n0 := 256) (n1 := 512) y)).trans ?_
  exact (staged m c t).plain (y 0) (y 1)

/-- Every grid point writes it back. -/
theorem flush9 : ∀ t : Fin cfg0.N, (cfg0.win 9).flush t = true := (by decide +kernel : ∀ t : Fin grid0.N, win0_9.flush t = true)

/-- The array after the run. -/
theorem final9 : (dats m 0 c).arrAt 9 cfg0.N = res9 m c :=
  (dats m 0 c).arrAt_eq_of_cover 9 (res9 m c) (fun t _ => flushed9_eq m c t) fun k => by
    have h0 : (k 0).val < 16384 := (k 0).isLt
    have h1 : (k 1).val < 512 := (k 1).isLt
    have hN : cfg0.N = 64 := N_0
    refine ⟨⟨(k 0).val / 256, by omega⟩, flush9 _, ?_⟩
    have hi := index9 ⟨(k 0).val / 256, by omega⟩
    generalize ht : (⟨(k 0).val / 256, by omega⟩ : Fin cfg0.N) = t at hi ⊢
    have hv : t.val = (k 0).val / 256 := by rw [← ht]
    rw [hv] at hi
    show k ∈ ((View.whole main_v37_1).slice (win0_9.rect t)).set
    rw [View.set_slice_whole, Rect.mem_set_unit]
    intro a
    match a with
    | ⟨0, _⟩ =>
      show win0_9.index t 0 * 256 ≤ (k 0).val ∧ (k 0).val < win0_9.index t 0 * 256 + 256
      rw [hi.1]; omega
    | ⟨1, _⟩ =>
      show win0_9.index t 1 * 512 ≤ (k 1).val ∧ (k 1).val < win0_9.index t 1 * 512 + 512
      rw [hi.2]; omega

/-- What a grid point writes back to window 10. -/
theorem flushed10_val (t : Fin cfg0.N) : (dats m 0 c).flushed 10 t = (cfg0.win 10).cut (grid0.coords t)
    (qrOp (zOpA (iblk m c 0 t) (iblk m c 1 t) (iblk m c 2 t)) (iblk m c 5 t) (iblk m c 6 t) (iblk m c 7 t)) := by
  rw [Value.flushed10_A m c t, out_10]

/-- It is its band of the result. -/
theorem flushed10_eq (t : Fin cfg0.N) : (dats m 0 c).flushed 10 t = ((cfg0.win 10).blk t).view.read (Elt Ideal) (res10 m c) := by
  rw [flushed10_val]
  refine funext fun y => ?_
  rw [View.read_apply]
  have ek : ((cfg0.win 10).blk t).view.emb y = ix2 (rowAt t (y 0)) (y 1) := funext fun z => Fin.ext (by
    match z with
    | ⟨0, _⟩ =>
      show win0_10.index t 0 * 256 + 1 * (y 0).val = t.val * 256 + (y 0).val
      rw [(index10 t).1]; omega
    | ⟨1, _⟩ =>
      show win0_10.index t 1 * 512 + 1 * (y 1).val = (y 1).val
      rw [(index10 t).2]; omega)
  rw [ek]
  refine (congrArg (qrOp (zOpA (iblk m c 0 t) (iblk m c 1 t) (iblk m c 2 t)) (iblk m c 5 t) (iblk m c 6 t) (iblk m c 7 t))
    (eq_ix2 (n0 := 256) (n1 := 512) y)).trans ?_
  exact (staged m c t).turn (y 0) (y 1)

/-- Every grid point writes it back. -/
theorem flush10 : ∀ t : Fin cfg0.N, (cfg0.win 10).flush t = true := (by decide +kernel : ∀ t : Fin grid0.N, win0_10.flush t = true)

/-- The array after the run. -/
theorem final10 : (dats m 0 c).arrAt 10 cfg0.N = res10 m c :=
  (dats m 0 c).arrAt_eq_of_cover 10 (res10 m c) (fun t _ => flushed10_eq m c t) fun k => by
    have h0 : (k 0).val < 16384 := (k 0).isLt
    have h1 : (k 1).val < 512 := (k 1).isLt
    have hN : cfg0.N = 64 := N_0
    refine ⟨⟨(k 0).val / 256, by omega⟩, flush10 _, ?_⟩
    have hi := index10 ⟨(k 0).val / 256, by omega⟩
    generalize ht : (⟨(k 0).val / 256, by omega⟩ : Fin cfg0.N) = t at hi ⊢
    have hv : t.val = (k 0).val / 256 := by rw [← ht]
    rw [hv] at hi
    show k ∈ ((View.whole main_v37_2).slice (win0_10.rect t)).set
    rw [View.set_slice_whole, Rect.mem_set_unit]
    intro a
    match a with
    | ⟨0, _⟩ =>
      show win0_10.index t 0 * 256 ≤ (k 0).val ∧ (k 0).val < win0_10.index t 0 * 256 + 256
      rw [hi.1]; omega
    | ⟨1, _⟩ =>
      show win0_10.index t 1 * 512 ≤ (k 1).val ∧ (k 1).val < win0_10.index t 1 * 512 + 512
      rw [hi.2]; omega

/-- What a grid point writes back to window 11. -/
theorem flushed11_val (t : Fin cfg0.N) : (dats m 0 c).flushed 11 t = (cfg0.win 11).cut (grid0.coords t)
    (gatesOp (zOpA (iblk m c 0 t) (iblk m c 1 t) (iblk m c 2 t))) := by
  rw [Value.flushed11_A m c t, out_11]

/-- It is its band of the result. -/
theorem flushed11_eq (t : Fin cfg0.N) : (dats m 0 c).flushed 11 t = ((cfg0.win 11).blk t).view.read (Elt Ideal) (res11 m c) := by
  rw [flushed11_val]
  refine funext fun y => ?_
  rw [View.read_apply]
  have ek : ((cfg0.win 11).blk t).view.emb y = ix2 (rowAt t (y 0)) (y 1) := funext fun z => Fin.ext (by
    match z with
    | ⟨0, _⟩ =>
      show win0_11.index t 0 * 256 + 1 * (y 0).val = t.val * 256 + (y 0).val
      rw [(index11 t).1]; omega
    | ⟨1, _⟩ =>
      show win0_11.index t 1 * 128 + 1 * (y 1).val = (y 1).val
      rw [(index11 t).2]; omega)
  rw [ek]
  refine (congrArg (gatesOp (zOpA (iblk m c 0 t) (iblk m c 1 t) (iblk m c 2 t)))
    (eq_ix2 (n0 := 256) (n1 := 128) y)).trans ?_
  exact (staged m c t).gates (y 0) (y 1)

/-- Every grid point writes it back. -/
theorem flush11 : ∀ t : Fin cfg0.N, (cfg0.win 11).flush t = true := (by decide +kernel : ∀ t : Fin grid0.N, win0_11.flush t = true)

/-- The array after the run. -/
theorem final11 : (dats m 0 c).arrAt 11 cfg0.N = res11 m c :=
  (dats m 0 c).arrAt_eq_of_cover 11 (res11 m c) (fun t _ => flushed11_eq m c t) fun k => by
    have h0 : (k 0).val < 16384 := (k 0).isLt
    have h1 : (k 1).val < 128 := (k 1).isLt
    have hN : cfg0.N = 64 := N_0
    refine ⟨⟨(k 0).val / 256, by omega⟩, flush11 _, ?_⟩
    have hi := index11 ⟨(k 0).val / 256, by omega⟩
    generalize ht : (⟨(k 0).val / 256, by omega⟩ : Fin cfg0.N) = t at hi ⊢
    have hv : t.val = (k 0).val / 256 := by rw [← ht]
    rw [hv] at hi
    show k ∈ ((View.whole main_v37_3).slice (win0_11.rect t)).set
    rw [View.set_slice_whole, Rect.mem_set_unit]
    intro a
    match a with
    | ⟨0, _⟩ =>
      show win0_11.index t 0 * 256 ≤ (k 0).val ∧ (k 0).val < win0_11.index t 0 * 256 + 256
      rw [hi.1]; omega
    | ⟨1, _⟩ =>
      show win0_11.index t 1 * 128 ≤ (k 1).val ∧ (k 1).val < win0_11.index t 1 * 128 + 128
      rw [hi.2]; omega

/-- What a grid point writes back to window 12. -/
theorem flushed12_val (t : Fin cfg0.N) : (dats m 0 c).flushed 12 t = (cfg0.win 12).cut (grid0.coords t)
    (rowsVal (e := .f32) (normOp (pairOp (zOpA (iblk m c 0 t) (iblk m c 1 t) (iblk m c 2 t)) 2176 (by decide)) (gainK (iblk m c 5 t) 1 (by decide))) (pairOp (zOpA (iblk m c 0 t) (iblk m c 1 t) (iblk m c 2 t)) 2304 (by decide))) := by
  rw [Value.flushed12_A m c t, out_12]

/-- It is its band of the result. -/
theorem flushed12_eq (t : Fin cfg0.N) : (dats m 0 c).flushed 12 t = ((cfg0.win 12).blk t).view.read (Elt Ideal) (res12 m c) := by
  rw [flushed12_val]
  refine funext fun y => ?_
  rw [View.read_apply]
  have ek : ((cfg0.win 12).blk t).view.emb y = ix2 (rowAt t (y 0)) (y 1) := funext fun z => Fin.ext (by
    match z with
    | ⟨0, _⟩ =>
      show win0_12.index t 0 * 256 + 1 * (y 0).val = t.val * 256 + (y 0).val
      rw [(index12 t).1]; omega
    | ⟨1, _⟩ =>
      show win0_12.index t 1 * 256 + 1 * (y 1).val = (y 1).val
      rw [(index12 t).2]; omega)
  rw [ek]
  refine (congrArg (rowsVal (e := .f32) (normOp (pairOp (zOpA (iblk m c 0 t) (iblk m c 1 t) (iblk m c 2 t)) 2176 (by decide)) (gainK (iblk m c 5 t) 1 (by decide))) (pairOp (zOpA (iblk m c 0 t) (iblk m c 1 t) (iblk m c 2 t)) 2304 (by decide)))
    (eq_ix2 (n0 := 256) (n1 := 256) y)).trans ?_
  exact (staged m c t).compressed (by decide) (by decide) (by decide) (y 0) (y 1)

/-- Every grid point writes it back. -/
theorem flush12 : ∀ t : Fin cfg0.N, (cfg0.win 12).flush t = true := (by decide +kernel : ∀ t : Fin grid0.N, win0_12.flush t = true)

/-- The array after the run. -/
theorem final12 : (dats m 0 c).arrAt 12 cfg0.N = res12 m c :=
  (dats m 0 c).arrAt_eq_of_cover 12 (res12 m c) (fun t _ => flushed12_eq m c t) fun k => by
    have h0 : (k 0).val < 16384 := (k 0).isLt
    have h1 : (k 1).val < 256 := (k 1).isLt
    have hN : cfg0.N = 64 := N_0
    refine ⟨⟨(k 0).val / 256, by omega⟩, flush12 _, ?_⟩
    have hi := index12 ⟨(k 0).val / 256, by omega⟩
    generalize ht : (⟨(k 0).val / 256, by omega⟩ : Fin cfg0.N) = t at hi ⊢
    have hv : t.val = (k 0).val / 256 := by rw [← ht]
    rw [hv] at hi
    show k ∈ ((View.whole main_v37_4).slice (win0_12.rect t)).set
    rw [View.set_slice_whole, Rect.mem_set_unit]
    intro a
    match a with
    | ⟨0, _⟩ =>
      show win0_12.index t 0 * 256 ≤ (k 0).val ∧ (k 0).val < win0_12.index t 0 * 256 + 256
      rw [hi.1]; omega
    | ⟨1, _⟩ =>
      show win0_12.index t 1 * 256 ≤ (k 1).val ∧ (k 1).val < win0_12.index t 1 * 256 + 256
      rw [hi.2]; omega

/-- What a grid point writes back to window 13. -/
theorem flushed13_val (t : Fin cfg0.N) : (dats m 0 c).flushed 13 t = (cfg0.win 13).cut (grid0.coords t)
    (rowsVal (e := .f32) (keyOp (zOpA (iblk m c 0 t) (iblk m c 1 t) (iblk m c 2 t)) 2432 (by decide) (gainK (iblk m c 5 t) 2 (by decide)) (iblk m c 6 t) (iblk m c 7 t)) (pairOp (zOpA (iblk m c 0 t) (iblk m c 1 t) (iblk m c 2 t)) 2560 (by decide))) := by
  rw [Value.flushed13_A m c t, out_13]

/-- It is its band of the result. -/
theorem flushed13_eq (t : Fin cfg0.N) : (dats m 0 c).flushed 13 t = ((cfg0.win 13).blk t).view.read (Elt Ideal) (res13 m c) := by
  rw [flushed13_val]
  refine funext fun y => ?_
  rw [View.read_apply]
  have ek : ((cfg0.win 13).blk t).view.emb y = ix2 (rowAt t (y 0)) (y 1) := funext fun z => Fin.ext (by
    match z with
    | ⟨0, _⟩ =>
      show win0_13.index t 0 * 256 + 1 * (y 0).val = t.val * 256 + (y 0).val
      rw [(index13 t).1]; omega
    | ⟨1, _⟩ =>
      show win0_13.index t 1 * 256 + 1 * (y 1).val = (y 1).val
      rw [(index13 t).2]; omega)
  rw [ek]
  refine (congrArg (rowsVal (e := .f32) (keyOp (zOpA (iblk m c 0 t) (iblk m c 1 t) (iblk m c 2 t)) 2432 (by decide) (gainK (iblk m c 5 t) 2 (by decide)) (iblk m c 6 t) (iblk m c 7 t)) (pairOp (zOpA (iblk m c 0 t) (iblk m c 1 t) (iblk m c 2 t)) 2560 (by decide)))
    (eq_ix2 (n0 := 256) (n1 := 256) y)).trans ?_
  exact (staged m c t).selected (by decide) (by decide) (by decide) (y 0) (y 1)

/-- Every grid point writes it back. -/
theorem flush13 : ∀ t : Fin cfg0.N, (cfg0.win 13).flush t = true := (by decide +kernel : ∀ t : Fin grid0.N, win0_13.flush t = true)

/-- The array after the run. -/
theorem final13 : (dats m 0 c).arrAt 13 cfg0.N = res13 m c :=
  (dats m 0 c).arrAt_eq_of_cover 13 (res13 m c) (fun t _ => flushed13_eq m c t) fun k => by
    have h0 : (k 0).val < 16384 := (k 0).isLt
    have h1 : (k 1).val < 256 := (k 1).isLt
    have hN : cfg0.N = 64 := N_0
    refine ⟨⟨(k 0).val / 256, by omega⟩, flush13 _, ?_⟩
    have hi := index13 ⟨(k 0).val / 256, by omega⟩
    generalize ht : (⟨(k 0).val / 256, by omega⟩ : Fin cfg0.N) = t at hi ⊢
    have hv : t.val = (k 0).val / 256 := by rw [← ht]
    rw [hv] at hi
    show k ∈ ((View.whole main_v37_5).slice (win0_13.rect t)).set
    rw [View.set_slice_whole, Rect.mem_set_unit]
    intro a
    match a with
    | ⟨0, _⟩ =>
      show win0_13.index t 0 * 256 ≤ (k 0).val ∧ (k 0).val < win0_13.index t 0 * 256 + 256
      rw [hi.1]; omega
    | ⟨1, _⟩ =>
      show win0_13.index t 1 * 256 ≤ (k 1).val ∧ (k 1).val < win0_13.index t 1 * 256 + 256
      rw [hi.2]; omega

/-- What a grid point writes back to window 14. -/
theorem flushed14_val (t : Fin cfg0.N) : (dats m 0 c).flushed 14 t = (cfg0.win 14).cut (grid0.coords t)
    (rowsVal (e := .f32) (keyOp (zOpA (iblk m c 0 t) (iblk m c 1 t) (iblk m c 2 t)) 2688 (by decide) (gainK (iblk m c 5 t) 3 (by decide)) (iblk m c 6 t) (iblk m c 7 t)) (pairOp (zOpA (iblk m c 0 t) (iblk m c 1 t) (iblk m c 2 t)) 2816 (by decide))) := by
  rw [Value.flushed14_A m c t, out_14]

/-- It is its band of the result. -/
theorem flushed14_eq (t : Fin cfg0.N) : (dats m 0 c).flushed 14 t = ((cfg0.win 14).blk t).view.read (Elt Ideal) (res14 m c) := by
  rw [flushed14_val]
  refine funext fun y => ?_
  rw [View.read_apply]
  have ek : ((cfg0.win 14).blk t).view.emb y = ix2 (rowAt t (y 0)) (y 1) := funext fun z => Fin.ext (by
    match z with
    | ⟨0, _⟩ =>
      show win0_14.index t 0 * 256 + 1 * (y 0).val = t.val * 256 + (y 0).val
      rw [(index14 t).1]; omega
    | ⟨1, _⟩ =>
      show win0_14.index t 1 * 256 + 1 * (y 1).val = (y 1).val
      rw [(index14 t).2]; omega)
  rw [ek]
  refine (congrArg (rowsVal (e := .f32) (keyOp (zOpA (iblk m c 0 t) (iblk m c 1 t) (iblk m c 2 t)) 2688 (by decide) (gainK (iblk m c 5 t) 3 (by decide)) (iblk m c 6 t) (iblk m c 7 t)) (pairOp (zOpA (iblk m c 0 t) (iblk m c 1 t) (iblk m c 2 t)) 2816 (by decide)))
    (eq_ix2 (n0 := 256) (n1 := 256) y)).trans ?_
  exact (staged m c t).window (by decide) (by decide) (by decide) (y 0) (y 1)

/-- Every grid point writes it back. -/
theorem flush14 : ∀ t : Fin cfg0.N, (cfg0.win 14).flush t = true := (by decide +kernel : ∀ t : Fin grid0.N, win0_14.flush t = true)

/-- The array after the run. -/
theorem final14 : (dats m 0 c).arrAt 14 cfg0.N = res14 m c :=
  (dats m 0 c).arrAt_eq_of_cover 14 (res14 m c) (fun t _ => flushed14_eq m c t) fun k => by
    have h0 : (k 0).val < 16384 := (k 0).isLt
    have h1 : (k 1).val < 256 := (k 1).isLt
    have hN : cfg0.N = 64 := N_0
    refine ⟨⟨(k 0).val / 256, by omega⟩, flush14 _, ?_⟩
    have hi := index14 ⟨(k 0).val / 256, by omega⟩
    generalize ht : (⟨(k 0).val / 256, by omega⟩ : Fin cfg0.N) = t at hi ⊢
    have hv : t.val = (k 0).val / 256 := by rw [← ht]
    rw [hv] at hi
    show k ∈ ((View.whole main_v37_6).slice (win0_14.rect t)).set
    rw [View.set_slice_whole, Rect.mem_set_unit]
    intro a
    match a with
    | ⟨0, _⟩ =>
      show win0_14.index t 0 * 256 ≤ (k 0).val ∧ (k 0).val < win0_14.index t 0 * 256 + 256
      rw [hi.1]; omega
    | ⟨1, _⟩ =>
      show win0_14.index t 1 * 256 ≤ (k 1).val ∧ (k 1).val < win0_14.index t 1 * 256 + 256
      rw [hi.2]; omega

/-- What a grid point writes back to window 15. -/
theorem flushed15_val (t : Fin cfg0.N) : (dats m 0 c).flushed 15 t = (cfg0.win 15).cut (grid0.coords t)
    (rowsVal (e := .bf16) (truncf .bf16 (keyOp (zOpA (iblk m c 0 t) (iblk m c 1 t) (iblk m c 2 t)) 2432 (by decide) (gainK (iblk m c 5 t) 2 (by decide)) (iblk m c 6 t) (iblk m c 7 t)) (by decide)) (truncf .bf16 (pairOp (zOpA (iblk m c 0 t) (iblk m c 1 t) (iblk m c 2 t)) 2560 (by decide)) (by decide))) := by
  rw [Value.flushed15_A m c t, out_15]

/-- It is its band of the result. -/
theorem flushed15_eq (t : Fin cfg0.N) : (dats m 0 c).flushed 15 t = ((cfg0.win 15).blk t).view.read (Elt Ideal) (res15 m c) := by
  rw [flushed15_val]
  refine funext fun y => ?_
  rw [View.read_apply]
  have ek : ((cfg0.win 15).blk t).view.emb y = ix2 (rowAt t (y 0)) (y 1) := funext fun z => Fin.ext (by
    match z with
    | ⟨0, _⟩ =>
      show win0_15.index t 0 * 256 + 1 * (y 0).val = t.val * 256 + (y 0).val
      rw [(index15 t).1]; omega
    | ⟨1, _⟩ =>
      show win0_15.index t 1 * 256 + 1 * (y 1).val = (y 1).val
      rw [(index15 t).2]; omega)
  rw [ek]
  refine (congrArg (rowsVal (e := .bf16) (truncf .bf16 (keyOp (zOpA (iblk m c 0 t) (iblk m c 1 t) (iblk m c 2 t)) 2432 (by decide) (gainK (iblk m c 5 t) 2 (by decide)) (iblk m c 6 t) (iblk m c 7 t)) (by decide)) (truncf .bf16 (pairOp (zOpA (iblk m c 0 t) (iblk m c 1 t) (iblk m c 2 t)) 2560 (by decide)) (by decide)))
    (eq_ix2 (n0 := 256) (n1 := 256) y)).trans ?_
  exact (rowsVal_round (keyOp (zOpA (iblk m c 0 t) (iblk m c 1 t) (iblk m c 2 t)) 2432 (by decide) (gainK (iblk m c 5 t) 2 (by decide)) (iblk m c 6 t) (iblk m c 7 t)) (pairOp (zOpA (iblk m c 0 t) (iblk m c 1 t) (iblk m c 2 t)) 2560 (by decide)) (y 0) (y 1)).trans ((staged m c t).selected (by decide) (by decide) (by decide) (y 0) (y 1))

/-- Every grid point writes it back. -/
theorem flush15 : ∀ t : Fin cfg0.N, (cfg0.win 15).flush t = true := (by decide +kernel : ∀ t : Fin grid0.N, win0_15.flush t = true)

/-- The array after the run. -/
theorem final15 : (dats m 0 c).arrAt 15 cfg0.N = res15 m c :=
  (dats m 0 c).arrAt_eq_of_cover 15 (res15 m c) (fun t _ => flushed15_eq m c t) fun k => by
    have h0 : (k 0).val < 16384 := (k 0).isLt
    have h1 : (k 1).val < 256 := (k 1).isLt
    have hN : cfg0.N = 64 := N_0
    refine ⟨⟨(k 0).val / 256, by omega⟩, flush15 _, ?_⟩
    have hi := index15 ⟨(k 0).val / 256, by omega⟩
    generalize ht : (⟨(k 0).val / 256, by omega⟩ : Fin cfg0.N) = t at hi ⊢
    have hv : t.val = (k 0).val / 256 := by rw [← ht]
    rw [hv] at hi
    show k ∈ ((View.whole main_v37_7).slice (win0_15.rect t)).set
    rw [View.set_slice_whole, Rect.mem_set_unit]
    intro a
    match a with
    | ⟨0, _⟩ =>
      show win0_15.index t 0 * 256 ≤ (k 0).val ∧ (k 0).val < win0_15.index t 0 * 256 + 256
      rw [hi.1]; omega
    | ⟨1, _⟩ =>
      show win0_15.index t 1 * 256 ≤ (k 1).val ∧ (k 1).val < win0_15.index t 1 * 256 + 256
      rw [hi.2]; omega

/-- What a grid point writes back to window 16. -/
theorem flushed16_val (t : Fin cfg0.N) : (dats m 0 c).flushed 16 t = (cfg0.win 16).cut (grid0.coords t)
    (rowsVal (e := .bf16) (truncf .bf16 (keyOp (zOpA (iblk m c 0 t) (iblk m c 1 t) (iblk m c 2 t)) 2688 (by decide) (gainK (iblk m c 5 t) 3 (by decide)) (iblk m c 6 t) (iblk m c 7 t)) (by decide)) (truncf .bf16 (pairOp (zOpA (iblk m c 0 t) (iblk m c 1 t) (iblk m c 2 t)) 2816 (by decide)) (by decide))) := by
  rw [Value.flushed16_A m c t, out_16]

/-- It is its band of the result. -/
theorem flushed16_eq (t : Fin cfg0.N) : (dats m 0 c).flushed 16 t = ((cfg0.win 16).blk t).view.read (Elt Ideal) (res16 m c) := by
  rw [flushed16_val]
  refine funext fun y => ?_
  rw [View.read_apply]
  have ek : ((cfg0.win 16).blk t).view.emb y = ix2 (rowAt t (y 0)) (y 1) := funext fun z => Fin.ext (by
    match z with
    | ⟨0, _⟩ =>
      show win0_16.index t 0 * 256 + 1 * (y 0).val = t.val * 256 + (y 0).val
      rw [(index16 t).1]; omega
    | ⟨1, _⟩ =>
      show win0_16.index t 1 * 256 + 1 * (y 1).val = (y 1).val
      rw [(index16 t).2]; omega)
  rw [ek]
  refine (congrArg (rowsVal (e := .bf16) (truncf .bf16 (keyOp (zOpA (iblk m c 0 t) (iblk m c 1 t) (iblk m c 2 t)) 2688 (by decide) (gainK (iblk m c 5 t) 3 (by decide)) (iblk m c 6 t) (iblk m c 7 t)) (by decide)) (truncf .bf16 (pairOp (zOpA (iblk m c 0 t) (iblk m c 1 t) (iblk m c 2 t)) 2816 (by decide)) (by decide)))
    (eq_ix2 (n0 := 256) (n1 := 256) y)).trans ?_
  exact (rowsVal_round (keyOp (zOpA (iblk m c 0 t) (iblk m c 1 t) (iblk m c 2 t)) 2688 (by decide) (gainK (iblk m c 5 t) 3 (by decide)) (iblk m c 6 t) (iblk m c 7 t)) (pairOp (zOpA (iblk m c 0 t) (iblk m c 1 t) (iblk m c 2 t)) 2816 (by decide)) (y 0) (y 1)).trans ((staged m c t).window (by decide) (by decide) (by decide) (y 0) (y 1))

/-- Every grid point writes it back. -/
theorem flush16 : ∀ t : Fin cfg0.N, (cfg0.win 16).flush t = true := (by decide +kernel : ∀ t : Fin grid0.N, win0_16.flush t = true)

/-- The array after the run. -/
theorem final16 : (dats m 0 c).arrAt 16 cfg0.N = res16 m c :=
  (dats m 0 c).arrAt_eq_of_cover 16 (res16 m c) (fun t _ => flushed16_eq m c t) fun k => by
    have h0 : (k 0).val < 16384 := (k 0).isLt
    have h1 : (k 1).val < 256 := (k 1).isLt
    have hN : cfg0.N = 64 := N_0
    refine ⟨⟨(k 0).val / 256, by omega⟩, flush16 _, ?_⟩
    have hi := index16 ⟨(k 0).val / 256, by omega⟩
    generalize ht : (⟨(k 0).val / 256, by omega⟩ : Fin cfg0.N) = t at hi ⊢
    have hv : t.val = (k 0).val / 256 := by rw [← ht]
    rw [hv] at hi
    show k ∈ ((View.whole main_v37_8).slice (win0_16.rect t)).set
    rw [View.set_slice_whole, Rect.mem_set_unit]
    intro a
    match a with
    | ⟨0, _⟩ =>
      show win0_16.index t 0 * 256 ≤ (k 0).val ∧ (k 0).val < win0_16.index t 0 * 256 + 256
      rw [hi.1]; omega
    | ⟨1, _⟩ =>
      show win0_16.index t 1 * 256 ≤ (k 1).val ∧ (k 1).val < win0_16.index t 1 * 256 + 256
      rw [hi.2]; omega

/-- What a grid point writes back to window 17. -/
theorem flushed17_val (t : Fin cfg0.N) : (dats m 0 c).flushed 17 t = (cfg0.win 17).cut (grid0.coords t)
    (k0_pay47 (F := Ideal) (rowsVal (e := .f32) (normOp (pairOp (zOpA (iblk m c 0 t) (iblk m c 1 t) (iblk m c 2 t)) 2176 (by decide)) (gainK (iblk m c 5 t) 1 (by decide))) (pairOp (zOpA (iblk m c 0 t) (iblk m c 1 t) (iblk m c 2 t)) 2304 (by decide)))) := by
  rw [Value.flushed17_A m c t, out_17]

/-- It is its block of the result. -/
theorem flushed17_eq (t : Fin cfg0.N) : (dats m 0 c).flushed 17 t = ((cfg0.win 17).blk t).view.read (Elt Ideal) (res17 m c) := by
  rw [flushed17_val m c t]
  refine funext fun y => ?_
  have hN : t.val < 64 := lt_of_lt_of_eq t.isLt N_0
  have hy0 : (y 0).val < 1 := (y 0).isLt
  have hy2 : (y 2).val < 256 := (y 2).isLt
  rw [View.read_apply]
  have ek : ((cfg0.win 17).blk t).view.emb y = ix3 ⟨t.val / 32, by omega⟩ (y 1) ⟨t.val % 32 * 256 + (y 2).val, by omega⟩ := funext fun z => Fin.ext (by
    match z with
    | ⟨0, _⟩ =>
      show win0_17.index t 0 * 1 + 1 * (y 0).val = t.val / 32
      rw [(index17 t).1]; omega
    | ⟨1, _⟩ =>
      show win0_17.index t 1 * 256 + 1 * (y 1).val = (y 1).val
      rw [(index17 t).2.1]; omega
    | ⟨2, _⟩ =>
      show win0_17.index t 2 * 256 + 1 * (y 2).val = t.val % 32 * 256 + (y 2).val
      rw [(index17 t).2.2]; omega)
  rw [ek]
  have ey : y = ix3 (n0 := 1) (n1 := 256) (n2 := 256) 0 (y 1) (y 2) := funext fun z => Fin.ext (by
    match z with
    | ⟨0, _⟩ => show (y 0).val = 0; omega
    | ⟨1, _⟩ => rfl
    | ⟨2, _⟩ => rfl)
  refine (congrArg (k0_pay47 (F := Ideal) (rowsVal (e := .f32) (normOp (pairOp (zOpA (iblk m c 0 t) (iblk m c 1 t) (iblk m c 2 t)) 2176 (by decide)) (gainK (iblk m c 5 t) 1 (by decide))) (pairOp (zOpA (iblk m c 0 t) (iblk m c 1 t) (iblk m c 2 t)) 2304 (by decide)))) ey).trans ?_
  refine (pay47_apply _ (y 1) (y 2)).trans ?_
  refine ((staged m c t).compressed (by decide) (by decide) (by decide) (y 2) (y 1)).trans ?_
  unfold res17
  refine congrArg (fun r => rowsC (aX m c) (aG m c) (aW m c) (aQ m c) r (y 1)) (Fin.ext ?_)
  show t.val * 256 + (y 2).val = t.val / 32 * 8192 + (t.val % 32 * 256 + (y 2).val)
  omega

/-- Every grid point writes it back. -/
theorem flush17 : ∀ t : Fin cfg0.N, (cfg0.win 17).flush t = true := (by decide +kernel : ∀ t : Fin grid0.N, win0_17.flush t = true)

/-- The array after the run. -/
theorem final17 : (dats m 0 c).arrAt 17 cfg0.N = res17 m c :=
  (dats m 0 c).arrAt_eq_of_cover 17 (res17 m c) (fun t _ => flushed17_eq m c t) fun k => by
    have h0 : (k 0).val < 2 := (k 0).isLt
    have h1 : (k 1).val < 256 := (k 1).isLt
    have h2 : (k 2).val < 8192 := (k 2).isLt
    have hN : cfg0.N = 64 := N_0
    have hp : (k 0).val * 32 + (k 2).val / 256 < cfg0.N := by omega
    generalize ht : (⟨(k 0).val * 32 + (k 2).val / 256, hp⟩ : Fin cfg0.N) = t
    have hv : t.val = (k 0).val * 32 + (k 2).val / 256 := by rw [← ht]
    have hi := index17 t
    refine ⟨t, flush17 t, ?_⟩
    show k ∈ ((View.whole main_v37_9).slice (win0_17.rect t)).set
    rw [View.set_slice_whole, Rect.mem_set_unit]
    intro a
    match a with
    | ⟨0, _⟩ =>
      show win0_17.index t 0 * 1 ≤ (k 0).val ∧ (k 0).val < win0_17.index t 0 * 1 + 1
      rw [hi.1]; omega
    | ⟨1, _⟩ =>
      show win0_17.index t 1 * 256 ≤ (k 1).val ∧ (k 1).val < win0_17.index t 1 * 256 + 256
      rw [hi.2.1]; omega
    | ⟨2, _⟩ =>
      show win0_17.index t 2 * 256 ≤ (k 2).val ∧ (k 2).val < win0_17.index t 2 * 256 + 256
      rw [hi.2.2]; omega

/-- What a grid point writes back to window 18. -/
theorem flushed18_val (t : Fin cfg0.N) : (dats m 0 c).flushed 18 t = (cfg0.win 18).cut (grid0.coords t)
    (k0_pay48 (F := Ideal) (rowsVal (e := .f32) (keyOp (zOpA (iblk m c 0 t) (iblk m c 1 t) (iblk m c 2 t)) 2432 (by decide) (gainK (iblk m c 5 t) 2 (by decide)) (iblk m c 6 t) (iblk m c 7 t)) (pairOp (zOpA (iblk m c 0 t) (iblk m c 1 t) (iblk m c 2 t)) 2560 (by decide)))) := by
  rw [Value.flushed18_A m c t, out_18]

/-- It is its block of the result. -/
theorem flushed18_eq (t : Fin cfg0.N) : (dats m 0 c).flushed 18 t = ((cfg0.win 18).blk t).view.read (Elt Ideal) (res18 m c) := by
  rw [flushed18_val m c t]
  refine funext fun y => ?_
  have hN : t.val < 64 := lt_of_lt_of_eq t.isLt N_0
  have hy0 : (y 0).val < 1 := (y 0).isLt
  have hy2 : (y 2).val < 256 := (y 2).isLt
  rw [View.read_apply]
  have ek : ((cfg0.win 18).blk t).view.emb y = ix3 ⟨t.val / 32, by omega⟩ (y 1) ⟨t.val % 32 * 256 + (y 2).val, by omega⟩ := funext fun z => Fin.ext (by
    match z with
    | ⟨0, _⟩ =>
      show win0_18.index t 0 * 1 + 1 * (y 0).val = t.val / 32
      rw [(index18 t).1]; omega
    | ⟨1, _⟩ =>
      show win0_18.index t 1 * 256 + 1 * (y 1).val = (y 1).val
      rw [(index18 t).2.1]; omega
    | ⟨2, _⟩ =>
      show win0_18.index t 2 * 256 + 1 * (y 2).val = t.val % 32 * 256 + (y 2).val
      rw [(index18 t).2.2]; omega)
  rw [ek]
  have ey : y = ix3 (n0 := 1) (n1 := 256) (n2 := 256) 0 (y 1) (y 2) := funext fun z => Fin.ext (by
    match z with
    | ⟨0, _⟩ => show (y 0).val = 0; omega
    | ⟨1, _⟩ => rfl
    | ⟨2, _⟩ => rfl)
  refine (congrArg (k0_pay48 (F := Ideal) (rowsVal (e := .f32) (keyOp (zOpA (iblk m c 0 t) (iblk m c 1 t) (iblk m c 2 t)) 2432 (by decide) (gainK (iblk m c 5 t) 2 (by decide)) (iblk m c 6 t) (iblk m c 7 t)) (pairOp (zOpA (iblk m c 0 t) (iblk m c 1 t) (iblk m c 2 t)) 2560 (by decide)))) ey).trans ?_
  refine (pay48_apply _ (y 1) (y 2)).trans ?_
  refine ((staged m c t).selected (by decide) (by decide) (by decide) (y 2) (y 1)).trans ?_
  unfold res18
  refine congrArg (fun r => rowsS (aX m c) (aG m c) (aW m c) (aQ m c) r (y 1)) (Fin.ext ?_)
  show t.val * 256 + (y 2).val = t.val / 32 * 8192 + (t.val % 32 * 256 + (y 2).val)
  omega

/-- Every grid point writes it back. -/
theorem flush18 : ∀ t : Fin cfg0.N, (cfg0.win 18).flush t = true := (by decide +kernel : ∀ t : Fin grid0.N, win0_18.flush t = true)

/-- The array after the run. -/
theorem final18 : (dats m 0 c).arrAt 18 cfg0.N = res18 m c :=
  (dats m 0 c).arrAt_eq_of_cover 18 (res18 m c) (fun t _ => flushed18_eq m c t) fun k => by
    have h0 : (k 0).val < 2 := (k 0).isLt
    have h1 : (k 1).val < 256 := (k 1).isLt
    have h2 : (k 2).val < 8192 := (k 2).isLt
    have hN : cfg0.N = 64 := N_0
    have hp : (k 0).val * 32 + (k 2).val / 256 < cfg0.N := by omega
    generalize ht : (⟨(k 0).val * 32 + (k 2).val / 256, hp⟩ : Fin cfg0.N) = t
    have hv : t.val = (k 0).val * 32 + (k 2).val / 256 := by rw [← ht]
    have hi := index18 t
    refine ⟨t, flush18 t, ?_⟩
    show k ∈ ((View.whole main_v37_10).slice (win0_18.rect t)).set
    rw [View.set_slice_whole, Rect.mem_set_unit]
    intro a
    match a with
    | ⟨0, _⟩ =>
      show win0_18.index t 0 * 1 ≤ (k 0).val ∧ (k 0).val < win0_18.index t 0 * 1 + 1
      rw [hi.1]; omega
    | ⟨1, _⟩ =>
      show win0_18.index t 1 * 256 ≤ (k 1).val ∧ (k 1).val < win0_18.index t 1 * 256 + 256
      rw [hi.2.1]; omega
    | ⟨2, _⟩ =>
      show win0_18.index t 2 * 256 ≤ (k 2).val ∧ (k 2).val < win0_18.index t 2 * 256 + 256
      rw [hi.2.2]; omega

/-- What a grid point writes back to window 19. -/
theorem flushed19_val (t : Fin cfg0.N) : (dats m 0 c).flushed 19 t = (cfg0.win 19).cut (grid0.coords t)
    (k0_pay49 (F := Ideal) (rowsVal (e := .f32) (keyOp (zOpA (iblk m c 0 t) (iblk m c 1 t) (iblk m c 2 t)) 2688 (by decide) (gainK (iblk m c 5 t) 3 (by decide)) (iblk m c 6 t) (iblk m c 7 t)) (pairOp (zOpA (iblk m c 0 t) (iblk m c 1 t) (iblk m c 2 t)) 2816 (by decide)))) := by
  rw [Value.flushed19_A m c t, out_19]

/-- It is its block of the result. -/
theorem flushed19_eq (t : Fin cfg0.N) : (dats m 0 c).flushed 19 t = ((cfg0.win 19).blk t).view.read (Elt Ideal) (res19 m c) := by
  rw [flushed19_val m c t]
  refine funext fun y => ?_
  have hN : t.val < 64 := lt_of_lt_of_eq t.isLt N_0
  have hy0 : (y 0).val < 1 := (y 0).isLt
  have hy2 : (y 2).val < 256 := (y 2).isLt
  rw [View.read_apply]
  have ek : ((cfg0.win 19).blk t).view.emb y = ix3 ⟨t.val / 32, by omega⟩ (y 1) ⟨t.val % 32 * 256 + (y 2).val, by omega⟩ := funext fun z => Fin.ext (by
    match z with
    | ⟨0, _⟩ =>
      show win0_19.index t 0 * 1 + 1 * (y 0).val = t.val / 32
      rw [(index19 t).1]; omega
    | ⟨1, _⟩ =>
      show win0_19.index t 1 * 256 + 1 * (y 1).val = (y 1).val
      rw [(index19 t).2.1]; omega
    | ⟨2, _⟩ =>
      show win0_19.index t 2 * 256 + 1 * (y 2).val = t.val % 32 * 256 + (y 2).val
      rw [(index19 t).2.2]; omega)
  rw [ek]
  have ey : y = ix3 (n0 := 1) (n1 := 256) (n2 := 256) 0 (y 1) (y 2) := funext fun z => Fin.ext (by
    match z with
    | ⟨0, _⟩ => show (y 0).val = 0; omega
    | ⟨1, _⟩ => rfl
    | ⟨2, _⟩ => rfl)
  refine (congrArg (k0_pay49 (F := Ideal) (rowsVal (e := .f32) (keyOp (zOpA (iblk m c 0 t) (iblk m c 1 t) (iblk m c 2 t)) 2688 (by decide) (gainK (iblk m c 5 t) 3 (by decide)) (iblk m c 6 t) (iblk m c 7 t)) (pairOp (zOpA (iblk m c 0 t) (iblk m c 1 t) (iblk m c 2 t)) 2816 (by decide)))) ey).trans ?_
  refine (pay49_apply _ (y 1) (y 2)).trans ?_
  refine ((staged m c t).window (by decide) (by decide) (by decide) (y 2) (y 1)).trans ?_
  unfold res19
  refine congrArg (fun r => rowsW (aX m c) (aG m c) (aW m c) (aQ m c) r (y 1)) (Fin.ext ?_)
  show t.val * 256 + (y 2).val = t.val / 32 * 8192 + (t.val % 32 * 256 + (y 2).val)
  omega

/-- Every grid point writes it back. -/
theorem flush19 : ∀ t : Fin cfg0.N, (cfg0.win 19).flush t = true := (by decide +kernel : ∀ t : Fin grid0.N, win0_19.flush t = true)

/-- The array after the run. -/
theorem final19 : (dats m 0 c).arrAt 19 cfg0.N = res19 m c :=
  (dats m 0 c).arrAt_eq_of_cover 19 (res19 m c) (fun t _ => flushed19_eq m c t) fun k => by
    have h0 : (k 0).val < 2 := (k 0).isLt
    have h1 : (k 1).val < 256 := (k 1).isLt
    have h2 : (k 2).val < 8192 := (k 2).isLt
    have hN : cfg0.N = 64 := N_0
    have hp : (k 0).val * 32 + (k 2).val / 256 < cfg0.N := by omega
    generalize ht : (⟨(k 0).val * 32 + (k 2).val / 256, hp⟩ : Fin cfg0.N) = t
    have hv : t.val = (k 0).val * 32 + (k 2).val / 256 := by rw [← ht]
    have hi := index19 t
    refine ⟨t, flush19 t, ?_⟩
    show k ∈ ((View.whole main_v37_11).slice (win0_19.rect t)).set
    rw [View.set_slice_whole, Rect.mem_set_unit]
    intro a
    match a with
    | ⟨0, _⟩ =>
      show win0_19.index t 0 * 1 ≤ (k 0).val ∧ (k 0).val < win0_19.index t 0 * 1 + 1
      rw [hi.1]; omega
    | ⟨1, _⟩ =>
      show win0_19.index t 1 * 256 ≤ (k 1).val ∧ (k 1).val < win0_19.index t 1 * 256 + 256
      rw [hi.2.1]; omega
    | ⟨2, _⟩ =>
      show win0_19.index t 2 * 256 ≤ (k 2).val ∧ (k 2).val < win0_19.index t 2 * 256 + 256
      rw [hi.2.2]; omega

/-- The run: the result arrays, the arguments unchanged. -/
theorem run : θ_run defs (onTc (τ := τ) (main (F := Ideal))) ⟨m, fun _ => 0, ρ⟩ fun r => ∀ c : Dev nD,
      r.2.mem ((c : Thread nD τ).loc main_v37_0) = res8 m c
      ∧ r.2.mem ((c : Thread nD τ).loc main_v37_1) = res9 m c
      ∧ r.2.mem ((c : Thread nD τ).loc main_v37_2) = res10 m c
      ∧ r.2.mem ((c : Thread nD τ).loc main_v37_3) = res11 m c
      ∧ r.2.mem ((c : Thread nD τ).loc main_v37_4) = res12 m c
      ∧ r.2.mem ((c : Thread nD τ).loc main_v37_5) = res13 m c
      ∧ r.2.mem ((c : Thread nD τ).loc main_v37_6) = res14 m c
      ∧ r.2.mem ((c : Thread nD τ).loc main_v37_7) = res15 m c
      ∧ r.2.mem ((c : Thread nD τ).loc main_v37_8) = res16 m c
      ∧ r.2.mem ((c : Thread nD τ).loc main_v37_9) = res17 m c
      ∧ r.2.mem ((c : Thread nD τ).loc main_v37_10) = res18 m c
      ∧ r.2.mem ((c : Thread nD τ).loc main_v37_11) = res19 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (final8 m c), (h c).2.1.trans (final9 m c), (h c).2.2.1.trans (final10 m c), (h c).2.2.2.1.trans (final11 m c), (h c).2.2.2.2.1.trans (final12 m c), (h c).2.2.2.2.2.1.trans (final13 m c), (h c).2.2.2.2.2.2.1.trans (final14 m c), (h c).2.2.2.2.2.2.2.1.trans (final15 m c), (h c).2.2.2.2.2.2.2.2.1.trans (final16 m c), (h c).2.2.2.2.2.2.2.2.2.1.trans (final17 m c), (h c).2.2.2.2.2.2.2.2.2.2.1.trans (final18 m c), (h c).2.2.2.2.2.2.2.2.2.2.2.1.trans (final19 m c), (h c).2.2.2.2.2.2.2.2.2.2.2.2⟩) (Value.run_blocks m ρ)

end Cert.ProjAIdeal.Own

end
-- ==== Proof.ProjARef.lean ====
/-
  The even layer's input projection's reference: its twelve results, at the ideal values, row by row as the mathematics of the argument
  arrays.
-/
module

public import proofs.«01_k».proof.Proof.ProjAKernel
public import proofs.«01_k».proof.Proof.Gen.RefProjAIdeal.Run
public import proofs.«01_k».proof.Proof.Gen.RefProjAIdeal.Read

@[expose] public section

noncomputable section

namespace Cert.RefProjAIdeal.Own

open Idealize.ShloMosaic Idealize.ShloMosaic.TcCoe Idealize.SL.Sem
open Cert.RefProjAIdeal Cert.RefProjAIdeal.Gen Cert.RefProjAIdeal.Read Cert.Post Cert.ProjA
open Cert.Proj (headNorm headLane roped cosAt sinAt angle)
open Cert.RefProjCIdeal.Own (anglesH anglesH_apply normsH normsH_apply turnH turnH_apply headAt)

/-! ## The operations of the heads -/

/-- The head norm of every token's 2 heads. -/
def norms2 (z : FVec Ideal S2x8192x2x64 .f32) (g : FVec Ideal S64 .f32) : FVec Ideal S2x8192x2x64 .f32 :=
  mulf (mulf z (broadcastInDim S2x8192x2x64 ![0, 1, 2, 3] bcast_S2x8192x2x1_S2x8192x2x64_0_1_2_3
      (Host.rsqrt (addf (Host.divf (broadcastInDim S2x8192x2x1 ![0, 1, 2] bcast_S2x8192x2_S2x8192x2x1_0_1_2
          (Host.reduceAdd (mulf z z) (constant S_ .f32 0x00000000#32) reducesTo_S2x8192x2x64_S2x8192x2_d3 h_S_))
        (broadcastInDim S2x8192x2x1 ![] bcast_S_S2x8192x2x1 (constant S_ .f32 0x42800000#32)))
        (broadcastInDim S2x8192x2x1 ![] bcast_S_S2x8192x2x1 (constant S_ .f32 0x358637BD#32))))))
    (broadcastInDim S2x8192x2x64 ![0, 1, 2, 3] bcast_S1x1x1x64_S2x8192x2x64_0_1_2_3 (broadcastInDim S1x1x1x64 ![3] bcast_S64_S1x1x1x64_3 g))

/-- A table of the positions, for every sequence and head. -/
def every2 (t : FVec Ideal S8192x32 .f32) : FVec Ideal S2x8192x2x32 .f32 :=
  broadcastInDim S2x8192x2x32 ![0, 1, 2, 3] bcast_S1x8192x1x32_S2x8192x2x32_0_1_2_3
    (broadcastInDim S1x8192x1x32 ![1, 2, 3] bcast_S8192x1x32_S1x8192x1x32_1_2_3 (broadcastInDim S8192x1x32 ![0, 2] bcast_S8192x32_S8192x1x32_0_2 t))

/-- The first and the second half of every head. -/
def first2 (y : FVec Ideal S2x8192x2x64 .f32) : FVec Ideal S2x8192x2x32 .f32 :=
  extractStridedSlice S2x8192x2x32 ![0, 0, 0, 0] y slices_S2x8192x2x64_S2x8192x2x32_0_0_0_0
def second2 (y : FVec Ideal S2x8192x2x64 .f32) : FVec Ideal S2x8192x2x32 .f32 :=
  extractStridedSlice S2x8192x2x32 ![0, 0, 0, 32] y slices_S2x8192x2x64_S2x8192x2x32_0_0_0_32

/-- The halves of every head side by side. -/
def join2 (a b : FVec Ideal S2x8192x2x32 .f32) : FVec Ideal S2x8192x2x64 .f32 :=
  concatenate S2x8192x2x64 3 [⟨S2x8192x2x32, a⟩, ⟨S2x8192x2x32, b⟩] concatenates_S2x8192x2x32_S2x8192x2x32_S2x8192x2x64_d3

/-- The rotary embedding of every token's 2 heads. -/
def turn2 (y : FVec Ideal S2x8192x2x64 .f32) : FVec Ideal S2x8192x2x64 .f32 :=
  join2 (subf (mulf (first2 y) (every2 (Host.cos anglesH))) (mulf (second2 y) (every2 (Host.sin anglesH))))
    (addf (mulf (second2 y) (every2 (Host.cos anglesH))) (mulf (first2 y) (every2 (Host.sin anglesH))))

/-- The lane of a head's entry. -/
abbrev head2 (h : Fin 2) (d : Fin 64) : Fin 512 := ⟨h.val * 64 + d.val, by omega⟩

/-- A table repeated for each head. -/
theorem every2_apply (t : FVec Ideal S8192x32 .f32) (b : Fin 2) (s : Fin 8192) (h : Fin 2) (d : Fin 32) :
    every2 t (ix4 b s h d) = t (ix2 s d) := by
  pointwise [every2]

/-- A head's first half. -/
theorem first2_apply (y : FVec Ideal S2x8192x2x64 .f32) (b : Fin 2) (s : Fin 8192) (h : Fin 2) (d : Fin 32) :
    first2 y (ix4 b s h d) = y (ix4 b s h ⟨d.val, by omega⟩) := by
  pointwise [first2]

/-- A head's second half. -/
theorem second2_apply (y : FVec Ideal S2x8192x2x64 .f32) (b : Fin 2) (s : Fin 8192) (h : Fin 2) (d : Fin 32) :
    second2 y (ix4 b s h d) = y (ix4 b s h ⟨32 + d.val, by omega⟩) := by
  pointwise [second2]

/-- Two halves joined to a head. -/
theorem join2_apply (u v : FVec Ideal S2x8192x2x32 .f32) (b : Fin 2) (s : Fin 8192) (h : Fin 2) (d : Fin 64) :
    join2 u v (ix4 b s h d) = if hd : d.val < 32 then u (ix4 b s h ⟨d.val, hd⟩) else v (ix4 b s h ⟨d.val - 32, by omega⟩) := by
  pointwise [join2]

/-- The sum of a head's squares. -/
theorem sum2_apply (z : FVec Ideal S2x8192x2x64 .f32) (b : Fin 2) (s : Fin 8192) (h : Fin 2) :
    Host.reduceAdd (mulf z z) (constant S_ .f32 0x00000000#32) reducesTo_S2x8192x2x64_S2x8192x2_d3 h_S_ (ix3 b s h)
      = ∑ t : Fin 64, z (ix4 b s h t) * z (ix4 b s h t) := by
  simp only [Host.reduceAdd, Ideal.hostReduceAdd_def]
  rw [Ideal.hostReduceAdd_single reducesTo_S2x8192x2x64_S2x8192x2_d3 (by decide)]
  refine (congrArg (· + _) Ideal.ofBits_zero_f32).trans ((zero_add _).trans (Finset.sum_congr rfl fun t _ => ?_))
  refine congrArg (mulf z z) (funext fun a => ?_)
  match a with
  | ⟨0, _⟩ => rfl
  | ⟨1, _⟩ => rfl
  | ⟨2, _⟩ => rfl
  | ⟨3, _⟩ => rfl

/-- A head's norm. -/
theorem norms2_apply (z : FVec Ideal S2x8192x2x64 .f32) (g : FVec Ideal S64 .f32) (b : Fin 2) (s : Fin 8192) (Z G : Fin 512 → EReal)
    (hz : ∀ h d, z (ix4 b s h d) = Z (head2 h d)) (hg : ∀ h d, g (ix1 d) = G (head2 h d)) (h : Fin 2) (d : Fin 64) :
    norms2 z g (ix4 b s h d) = headNorm Z G (head2 h d) := by
  have e : norms2 z g (ix4 b s h d) = z (ix4 b s h d) * Ideal.rsqrt (Ideal.div
      (Host.reduceAdd (mulf z z) (constant S_ .f32 0x00000000#32) reducesTo_S2x8192x2x64_S2x8192x2_d3 h_S_ (ix3 b s h))
      (Ideal.ofBits .f32 0x42800000#32) + Ideal.ofBits .f32 0x358637BD#32) * g (ix1 d) := by
    unfold norms2
    generalize Host.reduceAdd (mulf z z) (constant S_ .f32 0x00000000#32) reducesTo_S2x8192x2x64_S2x8192x2_d3 h_S_ = R
    pointwise
  have el : ∀ t : Fin 64, head2 h t = headLane (head2 h d) t := fun t => Fin.ext (by
    show h.val * 64 + t.val = (h.val * 64 + d.val) / 64 * 64 + t.val; omega)
  have es : (∑ t : Fin 64, z (ix4 b s h t) * z (ix4 b s h t)) = ∑ t : Fin 64, Z (headLane (head2 h d) t) * Z (headLane (head2 h d) t) :=
    Finset.sum_congr rfl fun t _ => by rw [hz h t, el t]
  rw [e, sum2_apply, es, headNorm, hg h d, hz h d]

/-- A head, turned. -/
theorem turn2_apply (y : FVec Ideal S2x8192x2x64 .f32) (b : Fin 2) (s : Fin 8192) (Y : Fin 512 → EReal)
    (hy : ∀ h d, y (ix4 b s h d) = Y (head2 h d)) (h : Fin 2) (d : Fin 64) :
    turn2 y (ix4 b s h d) = roped Y (cosAt s.val) (sinAt s.val) (head2 h d) := by
  have hc : ∀ d, every2 (Host.cos anglesH) (ix4 b s h d) = cosAt s.val d := fun d =>
    (every2_apply _ b s h d).trans (congrArg Ideal.cos (anglesH_apply s d))
  have hs : ∀ d, every2 (Host.sin anglesH) (ix4 b s h d) = sinAt s.val d := fun d =>
    (every2_apply _ b s h d).trans (congrArg Ideal.sin (anglesH_apply s d))
  unfold turn2 roped
  rw [join2_apply]
  by_cases hd : d.val < 32
  · rw [dif_pos hd, dif_pos (show (h.val * 64 + d.val) % 64 < 32 by omega)]
    show first2 y (ix4 b s h ⟨d.val, hd⟩) * every2 (Host.cos anglesH) (ix4 b s h ⟨d.val, hd⟩)
      - second2 y (ix4 b s h ⟨d.val, hd⟩) * every2 (Host.sin anglesH) (ix4 b s h ⟨d.val, hd⟩) = _
    rw [first2_apply, second2_apply, hc, hs, hy, hy]
    have e1 : (⟨d.val, hd⟩ : Fin 32) = ⟨(h.val * 64 + d.val) % 32, by omega⟩ := Fin.ext (by show d.val = (h.val * 64 + d.val) % 32; omega)
    have e2 : head2 h ⟨32 + d.val, by omega⟩ = ⟨h.val * 64 + d.val + 32, by omega⟩ := Fin.ext (by show h.val * 64 + (32 + d.val) = h.val * 64 + d.val + 32; omega)
    rw [e2, show cosAt s.val ⟨d.val, hd⟩ = _ from congrArg _ e1, show sinAt s.val ⟨d.val, hd⟩ = _ from congrArg _ e1]
  · have h0 := d.isLt
    rw [dif_neg hd, dif_neg (show ¬ (h.val * 64 + d.val) % 64 < 32 by omega)]
    show second2 y (ix4 b s h ⟨d.val - 32, by omega⟩) * every2 (Host.cos anglesH) (ix4 b s h ⟨d.val - 32, by omega⟩)
      + first2 y (ix4 b s h ⟨d.val - 32, by omega⟩) * every2 (Host.sin anglesH) (ix4 b s h ⟨d.val - 32, by omega⟩) = _
    rw [first2_apply, second2_apply, hc, hs, hy, hy]
    have e1 : (⟨d.val - 32, by omega⟩ : Fin 32) = ⟨(h.val * 64 + d.val) % 32, by omega⟩ := Fin.ext (by show d.val - 32 = (h.val * 64 + d.val) % 32; omega)
    have e2 : head2 h ⟨32 + (d.val - 32), by omega⟩ = head2 h d := Fin.ext (by show h.val * 64 + (32 + (d.val - 32)) = h.val * 64 + d.val; omega)
    have e3 : head2 h ⟨d.val - 32, by omega⟩ = ⟨h.val * 64 + d.val - 32, by omega⟩ := Fin.ext (by show h.val * 64 + (d.val - 32) = h.val * 64 + d.val - 32; omega)
    rw [e2, e3, e1]

/-- Keys and values stacked. -/
def stackH (k v : FVec Ideal S2x8192x2x64 .f32) : FVec Ideal S2x8192x2x2x64 .f32 :=
  concatenate S2x8192x2x2x64 2 [⟨S2x8192x1x2x64, broadcastInDim S2x8192x1x2x64 ![0, 1, 3, 4] bcast_S2x8192x2x64_S2x8192x1x2x64_0_1_3_4 k⟩,
    ⟨S2x8192x1x2x64, broadcastInDim S2x8192x1x2x64 ![0, 1, 3, 4] bcast_S2x8192x2x64_S2x8192x1x2x64_0_1_3_4 v⟩] concatenates_S2x8192x1x2x64_S2x8192x1x2x64_S2x8192x2x2x64_d2

/-- Keys and values stacked, read. -/
theorem stackH_apply (k v : FVec Ideal S2x8192x2x64 .f32) (b : Fin 2) (s : Fin 8192) (q : Fin 2) (h : Fin 2) (d : Fin 64) :
    stackH k v (ix5 b s q h d) = if q.val < 1 then k (ix4 b s h d) else v (ix4 b s h d) := by
  pointwise [stackH]
  rfl

/-- The log-sigmoid over 16. -/
def logH (p : FVec Ideal S2x8192x256 .f32) : FVec Ideal S2x8192x256 .f32 :=
  let z := broadcastInDim S2x8192x256 ![] bcast_S_S2x8192x256 (constant (F := Ideal) S_ .f32 0x00000000#32)
  let n := Host.negf p
  Host.divf (Host.negf (select (cmpf .une (subf n z) (subf n z)) (addf n z)
      (addf (maximumf n z) (Host.log1p (Host.exp (Host.negf (Host.absf (subf n z))))))))
    (broadcastInDim S2x8192x256 ![] bcast_S_S2x8192x256 (constant S_ .f32 0x41800000#32))

/-- The log-sigmoid over 16, read. -/
theorem logH_apply (p : FVec Ideal S2x8192x256 .f32) (b : Fin 2) (s : Fin 8192) (l : Fin 256) :
    logH p (ix3 b s l) = logSig (p (ix3 b s l)) := by
  unfold logSig
  pointwise [logH]
  simp [Ideal.cmp, -neg_neg]
  rfl

/-- Five arrays side by side, read. -/
theorem cat_apply (p q u : FVec Ideal S2x8192x256 .f32) (v w : FVec Ideal S2x8192x512 .f32) (b : Fin 2) (s : Fin 8192) (l : Fin 1792) :
    concatenate S2x8192x1792 2 [⟨S2x8192x256, p⟩, ⟨S2x8192x256, q⟩, ⟨S2x8192x512, v⟩, ⟨S2x8192x512, w⟩, ⟨S2x8192x256, u⟩]
        concatenates_S2x8192x256_S2x8192x256_S2x8192x512_S2x8192x512_S2x8192x256_S2x8192x1792_d2 (ix3 b s l)
      = if h : l.val < 256 then p (ix3 b s ⟨l.val, h⟩) else if h : l.val - 256 < 256 then q (ix3 b s ⟨l.val - 256, h⟩)
        else if h : l.val - 256 - 256 < 512 then v (ix3 b s ⟨l.val - 256 - 256, h⟩)
        else if h : l.val - 256 - 256 - 512 < 512 then w (ix3 b s ⟨l.val - 256 - 256 - 512, h⟩)
        else u (ix3 b s ⟨l.val - 256 - 256 - 512 - 512, by omega⟩) := by
  pointwise

/-- The padded gates, read. -/
theorem padH_apply (x : FVec Ideal S2x8192x24 .f32) (v : FVec Ideal S_ .f32) (y : EReal) (hv : ∀ i, v i = y) (b : Fin 2) (s : Fin 8192) (l : Fin 128) :
    pad S2x8192x128 ![0, 0, 0] ![0, 0, 104] ![0, 0, 0] x v pads_S2x8192x24_S2x8192x128_000_000_01040 h_S_ (ix3 b s l)
      = if h : l.val < 24 then x (ix3 b s ⟨l.val, h⟩) else y := by
  pointwise
  simp only [hv]

/-! ## The stages -/

variable (x0 : (⟨S16384x1024, .f32⟩ : BufTy).Contents (Elt Ideal)) (x1 : (⟨S1x1024, .f32⟩ : BufTy).Contents (Elt Ideal))
  (x2 : (⟨S1024x2856, .f32⟩ : BufTy).Contents (Elt Ideal)) (x3 : (⟨S16x256, .f32⟩ : BufTy).Contents (Elt Ideal))
  (x4 : (⟨S1x256, .f32⟩ : BufTy).Contents (Elt Ideal)) (x5 : (⟨S4x64, .f32⟩ : BufTy).Contents (Elt Ideal))

/-- A token's row of the argument. -/
theorem row_at (b : Fin 2) (s : Fin 8192) (k : Fin 1024) : val_main_v1 (F := Ideal) x0 (ix3 b s k) = x0 (ix2 (tokenRow b s) k) := by
  pointwise [val_main_v1]

/-- The RMS norm of a token's row. -/
theorem norm_at (b : Fin 2) (s : Fin 8192) (k : Fin 1024) :
    val_main_v15 (F := Ideal) x0 x1 (ix3 b s k) = rms (fun k => x0 (ix2 (tokenRow b s) k)) (fun k => x1 (ix2 0 k)) k := by
  have e4 : val_main_v4 (F := Ideal) x0 (ix2 b s) = ∑ k : Fin 1024, x0 (ix2 (tokenRow b s) k) * x0 (ix2 (tokenRow b s) k) := by
    rw [val_main_v4_apply, val_main_cst_apply]
    refine (congrArg (· + _) Ideal.ofBits_zero_f32).trans ((zero_add _).trans (Finset.sum_congr rfl fun k _ => ?_))
    have e : idx_main_v4 (ix2 b s) k = ix3 b s k := funext fun a => by match a with | ⟨0, _⟩ => rfl | ⟨1, _⟩ => rfl | ⟨2, _⟩ => rfl
    rw [val_main_v3_apply, e, row_at]
    rfl
  have eg : val_main_v14 (F := Ideal) x1 (ix3 b s k) = x1 (ix2 0 k) := by
    pointwise [val_main_v14, val_main_v13, val_main_v2]
  have e11 : idx_main_v11 (ix3 b s k) = ix3 b s 0 := funext fun a => by match a with | ⟨0, _⟩ => rfl | ⟨1, _⟩ => rfl | ⟨2, _⟩ => rfl
  have e5 : idx_main_v5 (ix3 b s 0) = ix2 b s := funext fun a => by match a with | ⟨0, _⟩ => rfl | ⟨1, _⟩ => rfl
  rw [val_main_v15_apply, eg, val_main_v12_apply, val_main_v11_apply, e11, val_main_v10_apply, val_main_v9_apply, val_main_v7_apply,
    val_main_v5_apply, e5, e4, val_main_v6_apply, val_main_v8_apply, val_main_cst_0_apply, val_main_cst_1_apply, row_at]
  rfl

/-- A token's projection. -/
theorem proj_at (b : Fin 2) (s : Fin 8192) (j : Fin 2856) :
    val_main_v16 (F := Ideal) x0 x1 x2 (ix3 b s j) = rowZ x0 x1 x2 (tokenRow b s) j := by
  rw [val_main_v16_apply]
  refine Finset.sum_congr rfl fun k _ => ?_
  have el : lidx_main_v16 (ix3 b s j) k = ix3 b s k := funext fun a => by match a with | ⟨0, _⟩ => rfl | ⟨1, _⟩ => rfl | ⟨2, _⟩ => rfl
  have er : ridx_main_v16 (ix3 b s j) k = ix2 k j := funext fun a => by match a with | ⟨0, _⟩ => rfl | ⟨1, _⟩ => rfl
  rw [el, er, norm_at]

/-- The projection's columns: the linear queries. -/
theorem col17_at (b : Fin 2) (s : Fin 8192) (l : Fin 256) :
    val_main_v17 (F := Ideal) x0 x1 x2 (ix3 b s l) = rowZ x0 x1 x2 (tokenRow b s) ⟨l.val, by omega⟩ := by
  refine Eq.trans ?_ (proj_at x0 x1 x2 b s _)
  unfold val_main_v17
  generalize val_main_v16 (F := Ideal) x0 x1 x2 = T
  pointwise

/-- The projection's columns: the linear keys. -/
theorem col18_at (b : Fin 2) (s : Fin 8192) (l : Fin 256) :
    val_main_v18 (F := Ideal) x0 x1 x2 (ix3 b s l) = rowZ x0 x1 x2 (tokenRow b s) ⟨256 + l.val, by omega⟩ := by
  refine Eq.trans ?_ (proj_at x0 x1 x2 b s _)
  unfold val_main_v18
  generalize val_main_v16 (F := Ideal) x0 x1 x2 = T
  pointwise

/-- The projection's columns: the linear values. -/
theorem col19_at (b : Fin 2) (s : Fin 8192) (l : Fin 512) :
    val_main_v19 (F := Ideal) x0 x1 x2 (ix3 b s l) = rowZ x0 x1 x2 (tokenRow b s) ⟨512 + l.val, by omega⟩ := by
  refine Eq.trans ?_ (proj_at x0 x1 x2 b s _)
  unfold val_main_v19
  generalize val_main_v16 (F := Ideal) x0 x1 x2 = T
  pointwise

/-- The projection's columns: the output gate. -/
theorem col20_at (b : Fin 2) (s : Fin 8192) (l : Fin 512) :
    val_main_v20 (F := Ideal) x0 x1 x2 (ix3 b s l) = rowZ x0 x1 x2 (tokenRow b s) ⟨1024 + l.val, by omega⟩ := by
  refine Eq.trans ?_ (proj_at x0 x1 x2 b s _)
  unfold val_main_v20
  generalize val_main_v16 (F := Ideal) x0 x1 x2 = T
  pointwise

/-- The projection's columns: the low-rank columns. -/
theorem col21_at (b : Fin 2) (s : Fin 8192) (l : Fin 16) :
    val_main_v21 (F := Ideal) x0 x1 x2 (ix3 b s l) = rowZ x0 x1 x2 (tokenRow b s) ⟨1536 + l.val, by omega⟩ := by
  refine Eq.trans ?_ (proj_at x0 x1 x2 b s _)
  unfold val_main_v21
  generalize val_main_v16 (F := Ideal) x0 x1 x2 = T
  pointwise

/-- The projection's columns: the gates before their sigmoid. -/
theorem col24_at (b : Fin 2) (s : Fin 8192) (l : Fin 24) :
    val_main_v24 (F := Ideal) x0 x1 x2 (ix3 b s l) = rowZ x0 x1 x2 (tokenRow b s) ⟨2832 + l.val, by omega⟩ := by
  refine Eq.trans ?_ (proj_at x0 x1 x2 b s _)
  unfold val_main_v24
  generalize val_main_v16 (F := Ideal) x0 x1 x2 = T
  pointwise

/-! ## The linear attention's inputs and the gates -/

/-- The forget gate before its log-sigmoid. -/
theorem pre_at (b : Fin 2) (s : Fin 8192) (l : Fin 256) : val_main_v184 (F := Ideal) x0 x1 x2 x3 x4 (ix3 b s l)
    = (∑ t : Fin 16, rowZ x0 x1 x2 (tokenRow b s) ⟨1536 + t.val, by omega⟩ * x3 (ix2 t l)) + x4 (ix2 0 l) := by
  have eb : val_main_v183 (F := Ideal) x4 (ix3 b s l) = x4 (ix2 0 l) := by
    pointwise [val_main_v183, val_main_v182, val_main_v181]
  have ed : val_main_v180 (F := Ideal) x0 x1 x2 x3 (ix3 b s l)
      = ∑ t : Fin 16, rowZ x0 x1 x2 (tokenRow b s) ⟨1536 + t.val, by omega⟩ * x3 (ix2 t l) := by
    rw [val_main_v180_apply]
    refine Finset.sum_congr rfl fun t _ => ?_
    have el : lidx_main_v180 (ix3 b s l) t = ix3 b s t := funext fun a => by match a with | ⟨0, _⟩ => rfl | ⟨1, _⟩ => rfl | ⟨2, _⟩ => rfl
    have er : ridx_main_v180 (ix3 b s l) t = ix2 t l := funext fun a => by match a with | ⟨0, _⟩ => rfl | ⟨1, _⟩ => rfl
    rw [el, er, col21_at]
  rw [val_main_v184_apply, eb, ed]
  rfl

/-- The forget gate's logarithm is the log-sigmoid over 16. -/
theorem log_eq : val_main_v187 (F := Ideal) x0 x1 x2 x3 x4 = logH (val_main_v184 (F := Ideal) x0 x1 x2 x3 x4) := rfl

/-- The forget gate's logarithm. -/
theorem log_at (b : Fin 2) (s : Fin 8192) (l : Fin 256) :
    val_main_v187 (F := Ideal) x0 x1 x2 x3 x4 (ix3 b s l) = gateLog x0 x1 x2 x3 x4 (tokenRow b s) l := by
  rw [log_eq, logH_apply, pre_at]
  rfl

/-- The scaled queries of the linear attention. -/
theorem scaled_at (b : Fin 2) (s : Fin 8192) (l : Fin 256) :
    val_main_v189 (F := Ideal) x0 x1 x2 (ix3 b s l) = rowZ x0 x1 x2 (tokenRow b s) ⟨l.val, by omega⟩ * Ideal.ofBits .f32 0x3E000000#32 := by
  rw [val_main_v189_apply, col17_at, val_main_v188_apply, val_main_cst_21_apply]
  rfl

/-- The linear attention's inputs. -/
theorem gla_at (b : Fin 2) (s : Fin 8192) (l : Fin 1792) :
    val_main_v190 (F := Ideal) x0 x1 x2 x3 x4 (ix3 b s l) = glaAt x0 x1 x2 x3 x4 (tokenRow b s) l := by
  refine (cat_apply _ _ _ _ _ b s l).trans ?_
  unfold glaAt
  have hl := l.isLt
  by_cases h0 : l.val < 256
  · rw [dif_pos h0, if_pos h0, scaled_at]
  · rw [dif_neg h0, if_neg h0]
    by_cases h1 : l.val < 1536
    · rw [dif_pos h1]
      by_cases h2 : l.val - 256 < 256
      · rw [dif_pos h2, col18_at]
        exact congrArg _ (Fin.ext (by show 256 + (l.val - 256) = l.val; omega))
      · rw [dif_neg h2]
        by_cases h3 : l.val - 256 - 256 < 512
        · rw [dif_pos h3, col19_at]
          exact congrArg _ (Fin.ext (by show 512 + (l.val - 256 - 256) = l.val; omega))
        · rw [dif_neg h3, dif_pos (by omega), col20_at]
          exact congrArg _ (Fin.ext (by show 1024 + (l.val - 256 - 256 - 512) = l.val; omega))
    · rw [dif_neg h1, dif_neg (by omega), dif_neg (by omega), dif_neg (by omega), log_at]
      exact congrArg _ (Fin.ext (by show l.val - 256 - 256 - 512 - 512 = l.val - 1536; omega))

/-- A gate. -/
theorem sigmoid_at (b : Fin 2) (s : Fin 8192) (l : Fin 24) :
    val_main_v179 (F := Ideal) x0 x1 x2 (ix3 b s l) = Ideal.logistic (rowZ x0 x1 x2 (tokenRow b s) ⟨2832 + l.val, by omega⟩) := by
  rw [val_main_v179_apply, val_main_v178_apply, val_main_v177_apply, val_main_v176_apply, val_main_v175_apply, val_main_v174_apply, col24_at,
    val_main_cst_18_apply, val_main_cst_19_apply]
  unfold Ideal.logistic
  exact congrArg (fun o => Ideal.div o (o + Ideal.exp (-rowZ x0 x1 x2 (tokenRow b s) ⟨2832 + l.val, by omega⟩))) Ideal.ofBits_one_f32

/-- The padded gates. -/
theorem gates_at (b : Fin 2) (s : Fin 8192) (l : Fin 128) :
    val_main_v191 (F := Ideal) x0 x1 x2 (ix3 b s l) = gateAt x0 x1 x2 (tokenRow b s) l := by
  refine (padH_apply _ _ (Ideal.ofBits .f32 0x3F000000#32) (fun _ => rfl) b s l).trans ?_
  unfold gateAt
  by_cases h : l.val < 24
  · rw [dif_pos h, dif_pos h, sigmoid_at]
  · rw [dif_neg h, dif_neg h]

/-! ## The queries -/

/-- The queries' columns, by head. -/
theorem query_at (b : Fin 2) (s : Fin 8192) (h : Fin 8) (d : Fin 64) :
    val_main_v25 (F := Ideal) x0 x1 x2 (ix4 b s h d) = rowZ x0 x1 x2 (tokenRow b s) ⟨1552 + (headAt h d).val, by omega⟩ := by
  refine Eq.trans ?_ (proj_at x0 x1 x2 b s _)
  unfold val_main_v25 val_main_v22
  generalize val_main_v16 (F := Ideal) x0 x1 x2 = T
  pointwise

/-- Row 0 of the gains. -/
theorem gain0_at (d : Fin 64) : val_main_v27 (F := Ideal) x5 (ix1 d) = x5 (ix2 0 d) := by
  pointwise [val_main_v27, val_main_v26]

/-- Row 1 of the gains. -/
theorem gain1_at (d : Fin 64) : val_main_v45 (F := Ideal) x5 (ix1 d) = x5 (ix2 1 d) := by
  pointwise [val_main_v45, val_main_v44]

/-- Row 2 of the gains. -/
theorem gain2_at (d : Fin 64) : val_main_v62 (F := Ideal) x5 (ix1 d) = x5 (ix2 2 d) := by
  pointwise [val_main_v62, val_main_v61]

/-- Row 3 of the gains. -/
theorem gain3_at (d : Fin 64) : val_main_v112 (F := Ideal) x5 (ix1 d) = x5 (ix2 3 d) := by
  pointwise [val_main_v112, val_main_v111]

/-- The queries are normed by head. -/
theorem normed_eq : val_main_v40 (F := Ideal) x0 x1 x2 x5 = normsH (val_main_v25 (F := Ideal) x0 x1 x2) (val_main_v27 (F := Ideal) x5) := rfl

/-- The normed queries, by head. -/
theorem normed_at (b : Fin 2) (s : Fin 8192) (h : Fin 8) (d : Fin 64) :
    val_main_v40 (F := Ideal) x0 x1 x2 x5 (ix4 b s h d) = normed x0 x1 x2 x5 (tokenRow b s) (headAt h d) := by
  rw [normed_eq]
  unfold normed
  refine normsH_apply _ _ b s _ _ (fun h d => query_at x0 x1 x2 b s h d) (fun h d => ?_) h d
  rw [gain0_at]
  exact congrArg (fun l => x5 (ix2 0 l)) (Fin.ext (by show d.val = (h.val * 64 + d.val) % 64; omega))

/-- A token's place in its sequence. -/
theorem token_mod (b : Fin 2) (s : Fin 8192) : (tokenRow b s).val % 8192 = s.val := by
  show (b.val * 8192 + s.val) % 8192 = s.val
  omega

/-- The queries are turned by head. -/
theorem turned_eq : val_main_v224 (F := Ideal) x0 x1 x2 x5 = turnH (val_main_v40 (F := Ideal) x0 x1 x2 x5) := rfl

/-- The turned queries, by head. -/
theorem turned_at (b : Fin 2) (s : Fin 8192) (h : Fin 8) (d : Fin 64) : val_main_v224 (F := Ideal) x0 x1 x2 x5 (ix4 b s h d)
    = roped (normed x0 x1 x2 x5 (tokenRow b s)) (cosAt ((tokenRow b s).val % 8192)) (sinAt ((tokenRow b s).val % 8192)) (headAt h d) := by
  rw [turned_eq, token_mod]
  exact turnH_apply _ b s _ (fun h d => normed_at x0 x1 x2 x5 b s h d) h d

/-! ## The rows -/

/-- Pair 0 of heads. -/
theorem pair0_at (b : Fin 2) (s : Fin 8192) (h : Fin 2) (d : Fin 64) :
    val_main_v43 (F := Ideal) x0 x1 x2 (ix4 b s h d) = rowZ x0 x1 x2 (tokenRow b s) ⟨2064 + 128 * 0 + (head2 h d).val % 128, by omega⟩ := by
  refine Eq.trans ?_ (proj_at x0 x1 x2 b s _)
  unfold val_main_v43 val_main_v42 val_main_v41 val_main_v23
  generalize val_main_v16 (F := Ideal) x0 x1 x2 = T
  have e : shapeCast S2x8192x2x64 (extractStridedSlice S2x8192x1x2x64 ![0, 0, 0, 0, 0] (shapeCast S2x8192x6x2x64
      (extractStridedSlice S2x8192x768 ![0, 0, 2064] T slices_S2x8192x2856_S2x8192x768_0_0_2064) shapeCasts_S2x8192x768_S2x8192x6x2x64)
      slices_S2x8192x6x2x64_S2x8192x1x2x64_0_0_0_0_0) shapeCasts_S2x8192x1x2x64_S2x8192x2x64 (ix4 b s h d)
      = T (ix3 b s ⟨2064 + (h.val * 64 + d.val), by omega⟩) := by
    pointwise
  refine e.trans (congrArg (fun l => T (ix3 b s l)) (Fin.ext ?_))
  show 2064 + (h.val * 64 + d.val) = 2064 + 128 * 0 + (h.val * 64 + d.val) % 128
  omega

/-- Pair 2 of heads. -/
theorem pair2_at (b : Fin 2) (s : Fin 8192) (h : Fin 2) (d : Fin 64) :
    val_main_v60 (F := Ideal) x0 x1 x2 (ix4 b s h d) = rowZ x0 x1 x2 (tokenRow b s) ⟨2064 + 128 * 2 + (head2 h d).val % 128, by omega⟩ := by
  refine Eq.trans ?_ (proj_at x0 x1 x2 b s _)
  unfold val_main_v60 val_main_v59 val_main_v41 val_main_v23
  generalize val_main_v16 (F := Ideal) x0 x1 x2 = T
  have e : shapeCast S2x8192x2x64 (extractStridedSlice S2x8192x1x2x64 ![0, 0, 2, 0, 0] (shapeCast S2x8192x6x2x64
      (extractStridedSlice S2x8192x768 ![0, 0, 2064] T slices_S2x8192x2856_S2x8192x768_0_0_2064) shapeCasts_S2x8192x768_S2x8192x6x2x64)
      slices_S2x8192x6x2x64_S2x8192x1x2x64_0_0_2_0_0) shapeCasts_S2x8192x1x2x64_S2x8192x2x64 (ix4 b s h d)
      = T (ix3 b s ⟨2064 + (256 + h.val * 64 + d.val), by omega⟩) := by
    pointwise
  refine e.trans (congrArg (fun l => T (ix3 b s l)) (Fin.ext ?_))
  show 2064 + (256 + h.val * 64 + d.val) = 2064 + 128 * 2 + (h.val * 64 + d.val) % 128
  omega

/-- Pair 4 of heads. -/
theorem pair4_at (b : Fin 2) (s : Fin 8192) (h : Fin 2) (d : Fin 64) :
    val_main_v110 (F := Ideal) x0 x1 x2 (ix4 b s h d) = rowZ x0 x1 x2 (tokenRow b s) ⟨2064 + 128 * 4 + (head2 h d).val % 128, by omega⟩ := by
  refine Eq.trans ?_ (proj_at x0 x1 x2 b s _)
  unfold val_main_v110 val_main_v109 val_main_v41 val_main_v23
  generalize val_main_v16 (F := Ideal) x0 x1 x2 = T
  have e : shapeCast S2x8192x2x64 (extractStridedSlice S2x8192x1x2x64 ![0, 0, 4, 0, 0] (shapeCast S2x8192x6x2x64
      (extractStridedSlice S2x8192x768 ![0, 0, 2064] T slices_S2x8192x2856_S2x8192x768_0_0_2064) shapeCasts_S2x8192x768_S2x8192x6x2x64)
      slices_S2x8192x6x2x64_S2x8192x1x2x64_0_0_4_0_0) shapeCasts_S2x8192x1x2x64_S2x8192x2x64 (ix4 b s h d)
      = T (ix3 b s ⟨2064 + (512 + h.val * 64 + d.val), by omega⟩) := by
    pointwise
  refine e.trans (congrArg (fun l => T (ix3 b s l)) (Fin.ext ?_))
  show 2064 + (512 + h.val * 64 + d.val) = 2064 + 128 * 4 + (h.val * 64 + d.val) % 128
  omega

/-- Pair 1 of heads. -/
theorem pair1_at (b : Fin 2) (s : Fin 8192) (h : Fin 2) (d : Fin 64) :
    val_main_v160 (F := Ideal) x0 x1 x2 (ix4 b s h d) = rowZ x0 x1 x2 (tokenRow b s) ⟨2064 + 128 * 1 + (head2 h d).val % 128, by omega⟩ := by
  refine Eq.trans ?_ (proj_at x0 x1 x2 b s _)
  unfold val_main_v160 val_main_v159 val_main_v41 val_main_v23
  generalize val_main_v16 (F := Ideal) x0 x1 x2 = T
  have e : shapeCast S2x8192x2x64 (extractStridedSlice S2x8192x1x2x64 ![0, 0, 1, 0, 0] (shapeCast S2x8192x6x2x64
      (extractStridedSlice S2x8192x768 ![0, 0, 2064] T slices_S2x8192x2856_S2x8192x768_0_0_2064) shapeCasts_S2x8192x768_S2x8192x6x2x64)
      slices_S2x8192x6x2x64_S2x8192x1x2x64_0_0_1_0_0) shapeCasts_S2x8192x1x2x64_S2x8192x2x64 (ix4 b s h d)
      = T (ix3 b s ⟨2064 + (128 + h.val * 64 + d.val), by omega⟩) := by
    pointwise
  refine e.trans (congrArg (fun l => T (ix3 b s l)) (Fin.ext ?_))
  show 2064 + (128 + h.val * 64 + d.val) = 2064 + 128 * 1 + (h.val * 64 + d.val) % 128
  omega

/-- Pair 3 of heads. -/
theorem pair3_at (b : Fin 2) (s : Fin 8192) (h : Fin 2) (d : Fin 64) :
    val_main_v165 (F := Ideal) x0 x1 x2 (ix4 b s h d) = rowZ x0 x1 x2 (tokenRow b s) ⟨2064 + 128 * 3 + (head2 h d).val % 128, by omega⟩ := by
  refine Eq.trans ?_ (proj_at x0 x1 x2 b s _)
  unfold val_main_v165 val_main_v164 val_main_v41 val_main_v23
  generalize val_main_v16 (F := Ideal) x0 x1 x2 = T
  have e : shapeCast S2x8192x2x64 (extractStridedSlice S2x8192x1x2x64 ![0, 0, 3, 0, 0] (shapeCast S2x8192x6x2x64
      (extractStridedSlice S2x8192x768 ![0, 0, 2064] T slices_S2x8192x2856_S2x8192x768_0_0_2064) shapeCasts_S2x8192x768_S2x8192x6x2x64)
      slices_S2x8192x6x2x64_S2x8192x1x2x64_0_0_3_0_0) shapeCasts_S2x8192x1x2x64_S2x8192x2x64 (ix4 b s h d)
      = T (ix3 b s ⟨2064 + (384 + h.val * 64 + d.val), by omega⟩) := by
    pointwise
  refine e.trans (congrArg (fun l => T (ix3 b s l)) (Fin.ext ?_))
  show 2064 + (384 + h.val * 64 + d.val) = 2064 + 128 * 3 + (h.val * 64 + d.val) % 128
  omega

/-- Pair 5 of heads. -/
theorem pair5_at (b : Fin 2) (s : Fin 8192) (h : Fin 2) (d : Fin 64) :
    val_main_v170 (F := Ideal) x0 x1 x2 (ix4 b s h d) = rowZ x0 x1 x2 (tokenRow b s) ⟨2064 + 128 * 5 + (head2 h d).val % 128, by omega⟩ := by
  refine Eq.trans ?_ (proj_at x0 x1 x2 b s _)
  unfold val_main_v170 val_main_v169 val_main_v41 val_main_v23
  generalize val_main_v16 (F := Ideal) x0 x1 x2 = T
  have e : shapeCast S2x8192x2x64 (extractStridedSlice S2x8192x1x2x64 ![0, 0, 5, 0, 0] (shapeCast S2x8192x6x2x64
      (extractStridedSlice S2x8192x768 ![0, 0, 2064] T slices_S2x8192x2856_S2x8192x768_0_0_2064) shapeCasts_S2x8192x768_S2x8192x6x2x64)
      slices_S2x8192x6x2x64_S2x8192x1x2x64_0_0_5_0_0) shapeCasts_S2x8192x1x2x64_S2x8192x2x64 (ix4 b s h d)
      = T (ix3 b s ⟨2064 + (640 + h.val * 64 + d.val), by omega⟩) := by
    pointwise
  refine e.trans (congrArg (fun l => T (ix3 b s l)) (Fin.ext ?_))
  show 2064 + (640 + h.val * 64 + d.val) = 2064 + 128 * 5 + (h.val * 64 + d.val) % 128
  omega

/-- The keys of pair 0 are normed by head. -/
theorem key0_eq : val_main_v58 (F := Ideal) x0 x1 x2 x5 = norms2 (val_main_v43 (F := Ideal) x0 x1 x2) (val_main_v45 (F := Ideal) x5) := rfl

/-- The normed keys of pair 0. -/
theorem key0_at (b : Fin 2) (s : Fin 8192) (h : Fin 2) (d : Fin 64) :
    val_main_v58 (F := Ideal) x0 x1 x2 x5 (ix4 b s h d) = keyN x0 x1 x2 x5 0 1 (tokenRow b s) (head2 h d) := by
  rw [key0_eq]
  unfold keyN
  refine norms2_apply _ _ b s _ _ (fun h d => pair0_at x0 x1 x2 b s h d) (fun h d => ?_) h d
  rw [gain1_at]
  exact congrArg (fun l => x5 (ix2 1 l)) (Fin.ext (by show d.val = (h.val * 64 + d.val) % 64; omega))

/-- The keys of pair 2 are normed by head. -/
theorem key2_eq : val_main_v75 (F := Ideal) x0 x1 x2 x5 = norms2 (val_main_v60 (F := Ideal) x0 x1 x2) (val_main_v62 (F := Ideal) x5) := rfl

/-- The normed keys of pair 2. -/
theorem key2_at (b : Fin 2) (s : Fin 8192) (h : Fin 2) (d : Fin 64) :
    val_main_v75 (F := Ideal) x0 x1 x2 x5 (ix4 b s h d) = keyN x0 x1 x2 x5 2 2 (tokenRow b s) (head2 h d) := by
  rw [key2_eq]
  unfold keyN
  refine norms2_apply _ _ b s _ _ (fun h d => pair2_at x0 x1 x2 b s h d) (fun h d => ?_) h d
  rw [gain2_at]
  exact congrArg (fun l => x5 (ix2 2 l)) (Fin.ext (by show d.val = (h.val * 64 + d.val) % 64; omega))

/-- The keys of pair 4 are normed by head. -/
theorem key4_eq : val_main_v125 (F := Ideal) x0 x1 x2 x5 = norms2 (val_main_v110 (F := Ideal) x0 x1 x2) (val_main_v112 (F := Ideal) x5) := rfl

/-- The normed keys of pair 4. -/
theorem key4_at (b : Fin 2) (s : Fin 8192) (h : Fin 2) (d : Fin 64) :
    val_main_v125 (F := Ideal) x0 x1 x2 x5 (ix4 b s h d) = keyN x0 x1 x2 x5 4 3 (tokenRow b s) (head2 h d) := by
  rw [key4_eq]
  unfold keyN
  refine norms2_apply _ _ b s _ _ (fun h d => pair4_at x0 x1 x2 b s h d) (fun h d => ?_) h d
  rw [gain3_at]
  exact congrArg (fun l => x5 (ix2 3 l)) (Fin.ext (by show d.val = (h.val * 64 + d.val) % 64; omega))

/-- The keys of pair 2 are turned by head. -/
theorem turnedKey2_eq : val_main_v108 (F := Ideal) x0 x1 x2 x5 = turn2 (val_main_v75 (F := Ideal) x0 x1 x2 x5) := rfl

/-- The turned keys of pair 2. -/
theorem turnedKey2_at (b : Fin 2) (s : Fin 8192) (h : Fin 2) (d : Fin 64) :
    val_main_v108 (F := Ideal) x0 x1 x2 x5 (ix4 b s h d) = keyT x0 x1 x2 x5 2 2 (tokenRow b s) (head2 h d) := by
  rw [turnedKey2_eq]
  unfold keyT
  rw [token_mod]
  exact turn2_apply _ b s _ (fun h d => key2_at x0 x1 x2 x5 b s h d) h d

/-- The keys of pair 4 are turned by head. -/
theorem turnedKey4_eq : val_main_v158 (F := Ideal) x0 x1 x2 x5 = turn2 (val_main_v125 (F := Ideal) x0 x1 x2 x5) := rfl

/-- The turned keys of pair 4. -/
theorem turnedKey4_at (b : Fin 2) (s : Fin 8192) (h : Fin 2) (d : Fin 64) :
    val_main_v158 (F := Ideal) x0 x1 x2 x5 (ix4 b s h d) = keyT x0 x1 x2 x5 4 3 (tokenRow b s) (head2 h d) := by
  rw [turnedKey4_eq]
  unfold keyT
  rw [token_mod]
  exact turn2_apply _ b s _ (fun h d => key4_at x0 x1 x2 x5 b s h d) h d

/-- The compressed rows are keys beside values. -/
theorem compressed_eq : val_main_v163 (F := Ideal) x0 x1 x2 x5 = stackH (val_main_v58 (F := Ideal) x0 x1 x2 x5) (val_main_v160 (F := Ideal) x0 x1 x2) := rfl

/-- The compressed rows, by head. -/
theorem compressed_at (b : Fin 2) (s : Fin 8192) (q : Fin 2) (h : Fin 2) (d : Fin 64) :
    val_main_v163 (F := Ideal) x0 x1 x2 x5 (ix5 b s q h d) = rowsC x0 x1 x2 x5 (tokenRow b s) ⟨q.val * 128 + (h.val * 64 + d.val), by omega⟩ := by
  have hq := q.isLt
  rw [compressed_eq, stackH_apply]
  unfold rowsC
  by_cases hl : q.val < 1
  · rw [if_pos hl, if_pos (show q.val * 128 + (h.val * 64 + d.val) < 128 by omega), key0_at]
    exact congrArg _ (Fin.ext (by show h.val * 64 + d.val = q.val * 128 + (h.val * 64 + d.val); omega))
  · rw [if_neg hl, if_neg (show ¬ q.val * 128 + (h.val * 64 + d.val) < 128 by omega), pair1_at]
    refine congrArg _ (Fin.ext ?_)
    show 2064 + 128 * 1 + (h.val * 64 + d.val) % 128 = 2064 + 128 + (q.val * 128 + (h.val * 64 + d.val) - 128)
    omega

/-- The compressed rows, by row and lane. -/
theorem res233_at (r : Fin 16384) (l : Fin 256) : val_main_v233 (F := Ideal) x0 x1 x2 x5 (ix2 r l) = rowsC x0 x1 x2 x5 r l := by
  have e : idx_main_v233 (ix2 r l) = ix5 ⟨r.val / 8192, by omega⟩ ⟨r.val % 8192, by omega⟩ ⟨l.val / 128, by omega⟩ ⟨l.val / 64 % 2, by omega⟩ ⟨l.val % 64, by omega⟩ := by
    have h0 := r.isLt
    have h1 := l.isLt
    refine funext fun a => Fin.ext ?_
    match a with
    | ⟨0, _⟩ => show (r.val * 256 + l.val) / 2097152 = r.val / 8192; omega
    | ⟨1, _⟩ => show (r.val * 256 + l.val) / 256 % 8192 = r.val % 8192; omega
    | ⟨2, _⟩ => show (r.val * 256 + l.val) / 128 % 2 = l.val / 128; omega
    | ⟨3, _⟩ => show (r.val * 256 + l.val) / 64 % 2 = l.val / 64 % 2; omega
    | ⟨4, _⟩ => show (r.val * 256 + l.val) % 64 = l.val % 64; omega
  rw [val_main_v233_apply, e, compressed_at]
  have er : tokenRow ⟨r.val / 8192, by omega⟩ ⟨r.val % 8192, by omega⟩ = r := Fin.ext (by show r.val / 8192 * 8192 + r.val % 8192 = r.val; omega)
  have el : (⟨l.val / 128 * 128 + (l.val / 64 % 2 * 64 + l.val % 64), by omega⟩ : Fin 256) = l :=
    Fin.ext (by show l.val / 128 * 128 + (l.val / 64 % 2 * 64 + l.val % 64) = l.val; omega)
  rw [er]
  exact congrArg _ el

/-- The selected rows are keys beside values. -/
theorem selected_eq : val_main_v168 (F := Ideal) x0 x1 x2 x5 = stackH (val_main_v108 (F := Ideal) x0 x1 x2 x5) (val_main_v165 (F := Ideal) x0 x1 x2) := rfl

/-- The selected rows, by head. -/
theorem selected_at (b : Fin 2) (s : Fin 8192) (q : Fin 2) (h : Fin 2) (d : Fin 64) :
    val_main_v168 (F := Ideal) x0 x1 x2 x5 (ix5 b s q h d) = rowsS x0 x1 x2 x5 (tokenRow b s) ⟨q.val * 128 + (h.val * 64 + d.val), by omega⟩ := by
  have hq := q.isLt
  rw [selected_eq, stackH_apply]
  unfold rowsS
  by_cases hl : q.val < 1
  · rw [if_pos hl, if_pos (show q.val * 128 + (h.val * 64 + d.val) < 128 by omega), turnedKey2_at]
    exact congrArg _ (Fin.ext (by show h.val * 64 + d.val = q.val * 128 + (h.val * 64 + d.val); omega))
  · rw [if_neg hl, if_neg (show ¬ q.val * 128 + (h.val * 64 + d.val) < 128 by omega), pair3_at]
    refine congrArg _ (Fin.ext ?_)
    show 2064 + 128 * 3 + (h.val * 64 + d.val) % 128 = 2064 + 384 + (q.val * 128 + (h.val * 64 + d.val) - 128)
    omega

/-- The selected rows, by row and lane. -/
theorem res234_at (r : Fin 16384) (l : Fin 256) : val_main_v234 (F := Ideal) x0 x1 x2 x5 (ix2 r l) = rowsS x0 x1 x2 x5 r l := by
  have e : idx_main_v234 (ix2 r l) = ix5 ⟨r.val / 8192, by omega⟩ ⟨r.val % 8192, by omega⟩ ⟨l.val / 128, by omega⟩ ⟨l.val / 64 % 2, by omega⟩ ⟨l.val % 64, by omega⟩ := by
    have h0 := r.isLt
    have h1 := l.isLt
    refine funext fun a => Fin.ext ?_
    match a with
    | ⟨0, _⟩ => show (r.val * 256 + l.val) / 2097152 = r.val / 8192; omega
    | ⟨1, _⟩ => show (r.val * 256 + l.val) / 256 % 8192 = r.val % 8192; omega
    | ⟨2, _⟩ => show (r.val * 256 + l.val) / 128 % 2 = l.val / 128; omega
    | ⟨3, _⟩ => show (r.val * 256 + l.val) / 64 % 2 = l.val / 64 % 2; omega
    | ⟨4, _⟩ => show (r.val * 256 + l.val) % 64 = l.val % 64; omega
  rw [val_main_v234_apply, e, selected_at]
  have er : tokenRow ⟨r.val / 8192, by omega⟩ ⟨r.val % 8192, by omega⟩ = r := Fin.ext (by show r.val / 8192 * 8192 + r.val % 8192 = r.val; omega)
  have el : (⟨l.val / 128 * 128 + (l.val / 64 % 2 * 64 + l.val % 64), by omega⟩ : Fin 256) = l :=
    Fin.ext (by show l.val / 128 * 128 + (l.val / 64 % 2 * 64 + l.val % 64) = l.val; omega)
  rw [er]
  exact congrArg _ el

/-- The window rows are keys beside values. -/
theorem window_eq : val_main_v173 (F := Ideal) x0 x1 x2 x5 = stackH (val_main_v158 (F := Ideal) x0 x1 x2 x5) (val_main_v170 (F := Ideal) x0 x1 x2) := rfl

/-- The window rows, by head. -/
theorem window_at (b : Fin 2) (s : Fin 8192) (q : Fin 2) (h : Fin 2) (d : Fin 64) :
    val_main_v173 (F := Ideal) x0 x1 x2 x5 (ix5 b s q h d) = rowsW x0 x1 x2 x5 (tokenRow b s) ⟨q.val * 128 + (h.val * 64 + d.val), by omega⟩ := by
  have hq := q.isLt
  rw [window_eq, stackH_apply]
  unfold rowsW
  by_cases hl : q.val < 1
  · rw [if_pos hl, if_pos (show q.val * 128 + (h.val * 64 + d.val) < 128 by omega), turnedKey4_at]
    exact congrArg _ (Fin.ext (by show h.val * 64 + d.val = q.val * 128 + (h.val * 64 + d.val); omega))
  · rw [if_neg hl, if_neg (show ¬ q.val * 128 + (h.val * 64 + d.val) < 128 by omega), pair5_at]
    refine congrArg _ (Fin.ext ?_)
    show 2064 + 128 * 5 + (h.val * 64 + d.val) % 128 = 2064 + 640 + (q.val * 128 + (h.val * 64 + d.val) - 128)
    omega

/-- The window rows, by row and lane. -/
theorem res235_at (r : Fin 16384) (l : Fin 256) : val_main_v235 (F := Ideal) x0 x1 x2 x5 (ix2 r l) = rowsW x0 x1 x2 x5 r l := by
  have e : idx_main_v235 (ix2 r l) = ix5 ⟨r.val / 8192, by omega⟩ ⟨r.val % 8192, by omega⟩ ⟨l.val / 128, by omega⟩ ⟨l.val / 64 % 2, by omega⟩ ⟨l.val % 64, by omega⟩ := by
    have h0 := r.isLt
    have h1 := l.isLt
    refine funext fun a => Fin.ext ?_
    match a with
    | ⟨0, _⟩ => show (r.val * 256 + l.val) / 2097152 = r.val / 8192; omega
    | ⟨1, _⟩ => show (r.val * 256 + l.val) / 256 % 8192 = r.val % 8192; omega
    | ⟨2, _⟩ => show (r.val * 256 + l.val) / 128 % 2 = l.val / 128; omega
    | ⟨3, _⟩ => show (r.val * 256 + l.val) / 64 % 2 = l.val / 64 % 2; omega
    | ⟨4, _⟩ => show (r.val * 256 + l.val) % 64 = l.val % 64; omega
  rw [val_main_v235_apply, e, window_at]
  have er : tokenRow ⟨r.val / 8192, by omega⟩ ⟨r.val % 8192, by omega⟩ = r := Fin.ext (by show r.val / 8192 * 8192 + r.val % 8192 = r.val; omega)
  have el : (⟨l.val / 128 * 128 + (l.val / 64 % 2 * 64 + l.val % 64), by omega⟩ : Fin 256) = l :=
    Fin.ext (by show l.val / 128 * 128 + (l.val / 64 % 2 * 64 + l.val % 64) = l.val; omega)
  rw [er]
  exact congrArg _ el

/-- The selected rows, rounded. -/
theorem res238_at (r : Fin 16384) (l : Fin 256) : (val_main_v238 (F := Ideal) x0 x1 x2 x5 (ix2 r l) : EReal) = rowsS x0 x1 x2 x5 r l := by
  rw [val_main_v238_apply]
  exact res234_at x0 x1 x2 x5 r l

/-- The window rows, rounded. -/
theorem res239_at (r : Fin 16384) (l : Fin 256) : (val_main_v239 (F := Ideal) x0 x1 x2 x5 (ix2 r l) : EReal) = rowsW x0 x1 x2 x5 r l := by
  rw [val_main_v239_apply]
  exact res235_at x0 x1 x2 x5 r l

/-- The compressed rows, lanes first. -/
theorem res241_at (b : Fin 2) (l : Fin 256) (u : Fin 8192) :
    val_main_v241 (F := Ideal) x0 x1 x2 x5 (ix3 b l u) = rowsC x0 x1 x2 x5 (tokenRow b u) l := by
  have h0 := b.isLt
  have h1 := l.isLt
  have h2 := u.isLt
  have e : idx_main_v240 (idx_main_v241 (ix3 b l u)) = ix2 (tokenRow b u) l := by
    refine funext fun a => Fin.ext ?_
    match a with
    | ⟨0, _⟩ => show ((b.val * 8192 + u.val) * 256 + l.val) / 256 = b.val * 8192 + u.val; omega
    | ⟨1, _⟩ => show ((b.val * 8192 + u.val) * 256 + l.val) % 256 = l.val; omega
  rw [val_main_v241_apply, val_main_v240_apply, e]
  exact res233_at x0 x1 x2 x5 _ l

/-- The selected rows, lanes first. -/
theorem res243_at (b : Fin 2) (l : Fin 256) (u : Fin 8192) :
    val_main_v243 (F := Ideal) x0 x1 x2 x5 (ix3 b l u) = rowsS x0 x1 x2 x5 (tokenRow b u) l := by
  have h0 := b.isLt
  have h1 := l.isLt
  have h2 := u.isLt
  have e : idx_main_v242 (idx_main_v243 (ix3 b l u)) = ix2 (tokenRow b u) l := by
    refine funext fun a => Fin.ext ?_
    match a with
    | ⟨0, _⟩ => show ((b.val * 8192 + u.val) * 256 + l.val) / 256 = b.val * 8192 + u.val; omega
    | ⟨1, _⟩ => show ((b.val * 8192 + u.val) * 256 + l.val) % 256 = l.val; omega
  rw [val_main_v243_apply, val_main_v242_apply, e]
  exact res234_at x0 x1 x2 x5 _ l

/-- The window rows, lanes first. -/
theorem res245_at (b : Fin 2) (l : Fin 256) (u : Fin 8192) :
    val_main_v245 (F := Ideal) x0 x1 x2 x5 (ix3 b l u) = rowsW x0 x1 x2 x5 (tokenRow b u) l := by
  have h0 := b.isLt
  have h1 := l.isLt
  have h2 := u.isLt
  have e : idx_main_v244 (idx_main_v245 (ix3 b l u)) = ix2 (tokenRow b u) l := by
    refine funext fun a => Fin.ext ?_
    match a with
    | ⟨0, _⟩ => show ((b.val * 8192 + u.val) * 256 + l.val) / 256 = b.val * 8192 + u.val; omega
    | ⟨1, _⟩ => show ((b.val * 8192 + u.val) * 256 + l.val) % 256 = l.val; omega
  rw [val_main_v245_apply, val_main_v244_apply, e]
  exact res235_at x0 x1 x2 x5 _ l

/-- The normed queries, scaled, by row and lane. -/
theorem res228_at (r : Fin 16384) (l : Fin 512) :
    (val_main_v228 (F := Ideal) x0 x1 x2 x5 (ix2 r l) : EReal) = plainAt x0 x1 x2 x5 r l := by
  have e : idx_main_v228 (ix2 r l) = ix4 ⟨r.val / 8192, by omega⟩ ⟨r.val % 8192, by omega⟩ ⟨l.val / 64, by omega⟩ ⟨l.val % 64, by omega⟩ := by
    have h0 := r.isLt
    have h1 := l.isLt
    refine funext fun a => Fin.ext ?_
    match a with
    | ⟨0, _⟩ => show (r.val * 512 + l.val) / 4194304 = r.val / 8192; omega
    | ⟨1, _⟩ => show (r.val * 512 + l.val) / 512 % 8192 = r.val % 8192; omega
    | ⟨2, _⟩ => show (r.val * 512 + l.val) / 64 % 8 = l.val / 64; omega
    | ⟨3, _⟩ => show (r.val * 512 + l.val) % 64 = l.val % 64; omega
  rw [val_main_v228_apply, e, val_main_v227_apply, val_main_v226_apply, normed_at, val_main_v225_apply, val_main_cst_25_apply]
  have er : tokenRow ⟨r.val / 8192, by omega⟩ ⟨r.val % 8192, by omega⟩ = r := Fin.ext (by show r.val / 8192 * 8192 + r.val % 8192 = r.val; omega)
  have el : headAt ⟨l.val / 64, by omega⟩ ⟨l.val % 64, by omega⟩ = l := Fin.ext (by show l.val / 64 * 64 + l.val % 64 = l.val; omega)
  rw [er, el]
  rfl

/-- The turned queries, scaled, by row and lane. -/
theorem res232_at (r : Fin 16384) (l : Fin 512) :
    (val_main_v232 (F := Ideal) x0 x1 x2 x5 (ix2 r l) : EReal) = turnedAt x0 x1 x2 x5 r l := by
  have e : idx_main_v232 (ix2 r l) = ix4 ⟨r.val / 8192, by omega⟩ ⟨r.val % 8192, by omega⟩ ⟨l.val / 64, by omega⟩ ⟨l.val % 64, by omega⟩ := by
    have h0 := r.isLt
    have h1 := l.isLt
    refine funext fun a => Fin.ext ?_
    match a with
    | ⟨0, _⟩ => show (r.val * 512 + l.val) / 4194304 = r.val / 8192; omega
    | ⟨1, _⟩ => show (r.val * 512 + l.val) / 512 % 8192 = r.val % 8192; omega
    | ⟨2, _⟩ => show (r.val * 512 + l.val) / 64 % 8 = l.val / 64; omega
    | ⟨3, _⟩ => show (r.val * 512 + l.val) % 64 = l.val % 64; omega
  rw [val_main_v232_apply, e, val_main_v231_apply, val_main_v230_apply, turned_at, val_main_v229_apply, val_main_cst_26_apply]
  have er : tokenRow ⟨r.val / 8192, by omega⟩ ⟨r.val % 8192, by omega⟩ = r := Fin.ext (by show r.val / 8192 * 8192 + r.val % 8192 = r.val; omega)
  have el : headAt ⟨l.val / 64, by omega⟩ ⟨l.val % 64, by omega⟩ = l := Fin.ext (by show l.val / 64 * 64 + l.val % 64 = l.val; omega)
  rw [er, el]
  rfl

/-- The linear attention's inputs. -/
theorem res236_at (r : Fin 16384) (l : Fin 1792) : val_main_v236 (F := Ideal) x0 x1 x2 x3 x4 (ix2 r l) = glaAt x0 x1 x2 x3 x4 r l := by
  have e : idx_main_v236 (ix2 r l) = ix3 ⟨r.val / 8192, by omega⟩ ⟨r.val % 8192, by omega⟩ l := by
    have h0 := r.isLt
    have h1 := l.isLt
    refine funext fun a => Fin.ext ?_
    match a with
    | ⟨0, _⟩ => show (r.val * 1792 + l.val) / 14680064 = r.val / 8192; omega
    | ⟨1, _⟩ => show (r.val * 1792 + l.val) / 1792 % 8192 = r.val % 8192; omega
    | ⟨2, _⟩ => show (r.val * 1792 + l.val) % 1792 = l.val; omega
  rw [val_main_v236_apply, e, gla_at]
  have er : tokenRow ⟨r.val / 8192, by omega⟩ ⟨r.val % 8192, by omega⟩ = r := Fin.ext (by show r.val / 8192 * 8192 + r.val % 8192 = r.val; omega)
  rw [er]

/-- The gates. -/
theorem res237_at (r : Fin 16384) (l : Fin 128) : val_main_v237 (F := Ideal) x0 x1 x2 (ix2 r l) = gateAt x0 x1 x2 r l := by
  have e : idx_main_v237 (ix2 r l) = ix3 ⟨r.val / 8192, by omega⟩ ⟨r.val % 8192, by omega⟩ l := by
    have h0 := r.isLt
    have h1 := l.isLt
    refine funext fun a => Fin.ext ?_
    match a with
    | ⟨0, _⟩ => show (r.val * 128 + l.val) / 1048576 = r.val / 8192; omega
    | ⟨1, _⟩ => show (r.val * 128 + l.val) / 128 % 8192 = r.val % 8192; omega
    | ⟨2, _⟩ => show (r.val * 128 + l.val) % 128 = l.val; omega
  rw [val_main_v237_apply, e, gates_at]
  have er : tokenRow ⟨r.val / 8192, by omega⟩ ⟨r.val % 8192, by omega⟩ = r := Fin.ext (by show r.val / 8192 * 8192 + r.val % 8192 = r.val; omega)
  rw [er]

/-! ## The run -/

/-- The run: the result arrays, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v236) = (fun k => glaAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (k 0) (k 1))
      ∧ r.2.mem ((c.tc : Thread nD τ).loc main_v228) = (fun k => plainAt (m ((c.tc : Thread nD τ).loc main_arg0)) (m ((c.tc : Thread nD τ).loc main_arg1)) (m ((c.tc : Thread nD τ).loc main_arg2)) (m ((c.tc : Thread nD τ).loc main_arg5)) (k 0) (k 1))
      ∧ r.2.mem ((c.tc : Thread nD τ).loc main_v232) = (fun k => turnedAt (m ((c.tc : Thread nD τ).loc main_arg0)) (m ((c.tc : Thread nD τ).loc main_arg1)) (m ((c.tc : Thread nD τ).loc main_arg2)) (m ((c.tc : Thread nD τ).loc main_arg5)) (k 0) (k 1))
      ∧ r.2.mem ((c.tc : Thread nD τ).loc main_v237) = (fun k => gateAt (m ((c.tc : Thread nD τ).loc main_arg0)) (m ((c.tc : Thread nD τ).loc main_arg1)) (m ((c.tc : Thread nD τ).loc main_arg2)) (k 0) (k 1))
      ∧ r.2.mem ((c.tc : Thread nD τ).loc main_v233) = (fun k => rowsC (m ((c.tc : Thread nD τ).loc main_arg0)) (m ((c.tc : Thread nD τ).loc main_arg1)) (m ((c.tc : Thread nD τ).loc main_arg2)) (m ((c.tc : Thread nD τ).loc main_arg5)) (k 0) (k 1))
      ∧ r.2.mem ((c.tc : Thread nD τ).loc main_v234) = (fun k => rowsS (m ((c.tc : Thread nD τ).loc main_arg0)) (m ((c.tc : Thread nD τ).loc main_arg1)) (m ((c.tc : Thread nD τ).loc main_arg2)) (m ((c.tc : Thread nD τ).loc main_arg5)) (k 0) (k 1))
      ∧ r.2.mem ((c.tc : Thread nD τ).loc main_v235) = (fun k => rowsW (m ((c.tc : Thread nD τ).loc main_arg0)) (m ((c.tc : Thread nD τ).loc main_arg1)) (m ((c.tc : Thread nD τ).loc main_arg2)) (m ((c.tc : Thread nD τ).loc main_arg5)) (k 0) (k 1))
      ∧ r.2.mem ((c.tc : Thread nD τ).loc main_v238) = (fun k => rowsS (m ((c.tc : Thread nD τ).loc main_arg0)) (m ((c.tc : Thread nD τ).loc main_arg1)) (m ((c.tc : Thread nD τ).loc main_arg2)) (m ((c.tc : Thread nD τ).loc main_arg5)) (k 0) (k 1))
      ∧ r.2.mem ((c.tc : Thread nD τ).loc main_v239) = (fun k => rowsW (m ((c.tc : Thread nD τ).loc main_arg0)) (m ((c.tc : Thread nD τ).loc main_arg1)) (m ((c.tc : Thread nD τ).loc main_arg2)) (m ((c.tc : Thread nD τ).loc main_arg5)) (k 0) (k 1))
      ∧ r.2.mem ((c.tc : Thread nD τ).loc main_v241) = (lanesOf (rowsC (m ((c.tc : Thread nD τ).loc main_arg0)) (m ((c.tc : Thread nD τ).loc main_arg1)) (m ((c.tc : Thread nD τ).loc main_arg2)) (m ((c.tc : Thread nD τ).loc main_arg5))))
      ∧ r.2.mem ((c.tc : Thread nD τ).loc main_v243) = (lanesOf (rowsS (m ((c.tc : Thread nD τ).loc main_arg0)) (m ((c.tc : Thread nD τ).loc main_arg1)) (m ((c.tc : Thread nD τ).loc main_arg2)) (m ((c.tc : Thread nD τ).loc main_arg5))))
      ∧ r.2.mem ((c.tc : Thread nD τ).loc main_v245) = (lanesOf (rowsW (m ((c.tc : Thread nD τ).loc main_arg0)) (m ((c.tc : Thread nD τ).loc main_arg1)) (m ((c.tc : Thread nD τ).loc main_arg2)) (m ((c.tc : Thread nD τ).loc main_arg5))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans ((val_main_v236_eq _).trans (funext fun k => (congrArg _ (eq_ix2 (n0 := 16384) (n1 := 1792) k)).trans (res236_at _ _ _ _ _ (k 0) (k 1)))),
    (h c).2.1.trans ((val_main_v228_eq _).trans (funext fun k => (congrArg _ (eq_ix2 (n0 := 16384) (n1 := 512) k)).trans (res228_at _ _ _ _ (k 0) (k 1)))),
    (h c).2.2.1.trans ((val_main_v232_eq _).trans (funext fun k => (congrArg _ (eq_ix2 (n0 := 16384) (n1 := 512) k)).trans (res232_at _ _ _ _ (k 0) (k 1)))),
    (h c).2.2.2.1.trans ((val_main_v237_eq _).trans (funext fun k => (congrArg _ (eq_ix2 (n0 := 16384) (n1 := 128) k)).trans (res237_at _ _ _ (k 0) (k 1)))),
    (h c).2.2.2.2.1.trans ((val_main_v233_eq _).trans (funext fun k => (congrArg _ (eq_ix2 (n0 := 16384) (n1 := 256) k)).trans (res233_at _ _ _ _ (k 0) (k 1)))),
    (h c).2.2.2.2.2.1.trans ((val_main_v234_eq _).trans (funext fun k => (congrArg _ (eq_ix2 (n0 := 16384) (n1 := 256) k)).trans (res234_at _ _ _ _ (k 0) (k 1)))),
    (h c).2.2.2.2.2.2.1.trans ((val_main_v235_eq _).trans (funext fun k => (congrArg _ (eq_ix2 (n0 := 16384) (n1 := 256) k)).trans (res235_at _ _ _ _ (k 0) (k 1)))),
    (h c).2.2.2.2.2.2.2.1.trans ((val_main_v238_eq _).trans (funext fun k => (congrArg _ (eq_ix2 (n0 := 16384) (n1 := 256) k)).trans (res238_at _ _ _ _ (k 0) (k 1)))),
    (h c).2.2.2.2.2.2.2.2.1.trans ((val_main_v239_eq _).trans (funext fun k => (congrArg _ (eq_ix2 (n0 := 16384) (n1 := 256) k)).trans (res239_at _ _ _ _ (k 0) (k 1)))),
    (h c).2.2.2.2.2.2.2.2.2.1.trans ((val_main_v241_eq _).trans (funext fun k => (congrArg _ (eq_ix3 (n0 := 2) (n1 := 256) (n2 := 8192) k)).trans (res241_at _ _ _ _ (k 0) (k 1) (k 2)))),
    (h c).2.2.2.2.2.2.2.2.2.2.1.trans ((val_main_v243_eq _).trans (funext fun k => (congrArg _ (eq_ix3 (n0 := 2) (n1 := 256) (n2 := 8192) k)).trans (res243_at _ _ _ _ (k 0) (k 1) (k 2)))),
    (h c).2.2.2.2.2.2.2.2.2.2.2.1.trans ((val_main_v245_eq _).trans (funext fun k => (congrArg _ (eq_ix3 (n0 := 2) (n1 := 256) (n2 := 8192) k)).trans (res245_at _ _ _ _ (k 0) (k 1) (k 2)))),
    (h c).2.2.2.2.2.2.2.2.2.2.2.2⟩) (Value.run m ρ)

end Cert.RefProjAIdeal.Own

end
-- ==== Proof.lean ====
/-
  The claims of the certificate: for each dilation of the attention and for the dense blocks the frames of the kernel, its
  idealization and the reference, the idealization's rewrites, and the equality of the idealized kernel's results with the
  reference's.
-/
module

public import proofs.«01_k».proof.Proof.ProjARef
public import proofs.«01_k».proof.Proof.Gen.Dil1Ideal.Value
public import proofs.«01_k».proof.Proof.Gen.Ref1Ideal.Run
public import proofs.«01_k».proof.Proof.Gen.Ref1Ideal.Read
public import proofs.«01_k».proof.Proof.Gen.Dil4Ideal.Value
public import proofs.«01_k».proof.Proof.Gen.Ref4Ideal.Run
public import proofs.«01_k».proof.Proof.Gen.Ref4Ideal.Read
public import proofs.«01_k».proof.Proof.Gen.Dil16Ideal.Value
public import proofs.«01_k».proof.Proof.Gen.Ref16Ideal.Run
public import proofs.«01_k».proof.Proof.Gen.Ref16Ideal.Read
public import proofs.«01_k».proof.Proof.Gen.PostIdeal.Value
public import proofs.«01_k».proof.Proof.Gen.RefPostIdeal.Run
public import proofs.«01_k».proof.Proof.Gen.RefPostIdeal.Read
public import proofs.«01_k».proof.Proof.Gen.PostSIdeal.Value
public import proofs.«01_k».proof.Proof.Gen.RefPostSIdeal.Run
public import proofs.«01_k».proof.Proof.Gen.RefPostSIdeal.Read
public import proofs.«01_k».proof.Proof.Gen.ProjCIdeal.Value
public import proofs.«01_k».proof.Proof.Gen.RefProjCIdeal.Run
public import proofs.«01_k».proof.Proof.Gen.RefProjCIdeal.Read
public import proofs.«01_k».proof.Proof.Gen.ProjAIdeal.Value
public import proofs.«01_k».proof.Proof.Gen.RefProjAIdeal.Run
public import proofs.«01_k».proof.Proof.Gen.RefProjAIdeal.Read
public import proofs.«01_k».proof.Defs
public import proofs.«01_k».proof.Proof.Gen.Dil1
public import proofs.«01_k».proof.Proof.Gen.Dil1.Skeleton
public import proofs.«01_k».proof.Proof.Gen.Dil1.Launch
public import proofs.«01_k».proof.Proof.Gen.Dil1.Points
public import proofs.«01_k».proof.Proof.Gen.Dil1.Frame
public import proofs.«01_k».proof.Proof.Gen.Dil1Ideal
public import proofs.«01_k».proof.Proof.Gen.Dil1Ideal.Skeleton
public import proofs.«01_k».proof.Proof.Gen.Dil1Ideal.Launch
public import proofs.«01_k».proof.Proof.Gen.Dil1Ideal.Points
public import proofs.«01_k».proof.Proof.Gen.Dil1Ideal.Frame
public import proofs.«01_k».proof.Proof.Gen.Ref1Ideal
public import proofs.«01_k».proof.Proof.Gen.Dil4
public import proofs.«01_k».proof.Proof.Gen.Dil4.Skeleton
public import proofs.«01_k».proof.Proof.Gen.Dil4.Launch
public import proofs.«01_k».proof.Proof.Gen.Dil4.Points
public import proofs.«01_k».proof.Proof.Gen.Dil4.Frame
public import proofs.«01_k».proof.Proof.Gen.Dil4Ideal
public import proofs.«01_k».proof.Proof.Gen.Dil4Ideal.Skeleton
public import proofs.«01_k».proof.Proof.Gen.Dil4Ideal.Launch
public import proofs.«01_k».proof.Proof.Gen.Dil4Ideal.Points
public import proofs.«01_k».proof.Proof.Gen.Dil4Ideal.Frame
public import proofs.«01_k».proof.Proof.Gen.Ref4Ideal
public import proofs.«01_k».proof.Proof.Gen.Dil16
public import proofs.«01_k».proof.Proof.Gen.Dil16.Skeleton
public import proofs.«01_k».proof.Proof.Gen.Dil16.Launch
public import proofs.«01_k».proof.Proof.Gen.Dil16.Points
public import proofs.«01_k».proof.Proof.Gen.Dil16.Frame
public import proofs.«01_k».proof.Proof.Gen.Dil16Ideal
public import proofs.«01_k».proof.Proof.Gen.Dil16Ideal.Skeleton
public import proofs.«01_k».proof.Proof.Gen.Dil16Ideal.Launch
public import proofs.«01_k».proof.Proof.Gen.Dil16Ideal.Points
public import proofs.«01_k».proof.Proof.Gen.Dil16Ideal.Frame
public import proofs.«01_k».proof.Proof.Gen.Ref16Ideal
public import proofs.«01_k».proof.Proof.Gen.Post
public import proofs.«01_k».proof.Proof.Gen.Post.Skeleton
public import proofs.«01_k».proof.Proof.Gen.Post.Launch
public import proofs.«01_k».proof.Proof.Gen.Post.Points
public import proofs.«01_k».proof.Proof.Gen.Post.Frame
public import proofs.«01_k».proof.Proof.Gen.PostIdeal
public import proofs.«01_k».proof.Proof.Gen.PostIdeal.Skeleton
public import proofs.«01_k».proof.Proof.Gen.PostIdeal.Launch
public import proofs.«01_k».proof.Proof.Gen.PostIdeal.Points
public import proofs.«01_k».proof.Proof.Gen.PostIdeal.Frame
public import proofs.«01_k».proof.Proof.Gen.RefPostIdeal
public import proofs.«01_k».proof.Proof.Gen.PostS
public import proofs.«01_k».proof.Proof.Gen.PostS.Skeleton
public import proofs.«01_k».proof.Proof.Gen.PostS.Launch
public import proofs.«01_k».proof.Proof.Gen.PostS.Points
public import proofs.«01_k».proof.Proof.Gen.PostS.Frame
public import proofs.«01_k».proof.Proof.Gen.PostSIdeal
public import proofs.«01_k».proof.Proof.Gen.PostSIdeal.Skeleton
public import proofs.«01_k».proof.Proof.Gen.PostSIdeal.Launch
public import proofs.«01_k».proof.Proof.Gen.PostSIdeal.Points
public import proofs.«01_k».proof.Proof.Gen.PostSIdeal.Frame
public import proofs.«01_k».proof.Proof.Gen.RefPostSIdeal
public import proofs.«01_k».proof.Proof.Gen.ProjC
public import proofs.«01_k».proof.Proof.Gen.ProjC.Skeleton
public import proofs.«01_k».proof.Proof.Gen.ProjC.Launch
public import proofs.«01_k».proof.Proof.Gen.ProjC.Points
public import proofs.«01_k».proof.Proof.Gen.ProjC.Frame
public import proofs.«01_k».proof.Proof.Gen.ProjCIdeal
public import proofs.«01_k».proof.Proof.Gen.ProjCIdeal.Skeleton
public import proofs.«01_k».proof.Proof.Gen.ProjCIdeal.Launch
public import proofs.«01_k».proof.Proof.Gen.ProjCIdeal.Points
public import proofs.«01_k».proof.Proof.Gen.ProjCIdeal.Frame
public import proofs.«01_k».proof.Proof.Gen.RefProjCIdeal
public import proofs.«01_k».proof.Proof.Gen.ProjA
public import proofs.«01_k».proof.Proof.Gen.ProjA.Skeleton
public import proofs.«01_k».proof.Proof.Gen.ProjA.Launch
public import proofs.«01_k».proof.Proof.Gen.ProjA.Points
public import proofs.«01_k».proof.Proof.Gen.ProjA.Frame
public import proofs.«01_k».proof.Proof.Gen.ProjAIdeal
public import proofs.«01_k».proof.Proof.Gen.ProjAIdeal.Skeleton
public import proofs.«01_k».proof.Proof.Gen.ProjAIdeal.Launch
public import proofs.«01_k».proof.Proof.Gen.ProjAIdeal.Points
public import proofs.«01_k».proof.Proof.Gen.ProjAIdeal.Frame
public import proofs.«01_k».proof.Proof.Gen.RefProjAIdeal
public import Idealize.ShloMosaic.Adequacy
public import Idealize.ShloMosaic.Init

@[expose] public section

noncomputable section

namespace Cert.Proof

open Idealize.ShloMosaic Idealize.SL.Sem

/-- Dilation 1: the reference runs, leaves its arguments, and uses no semaphore. -/
theorem frame_ref1 : Cert.quiescent_Ref1Ideal (hRef1Ideal := Cert.Ref1Ideal.Gen.facts) := fun m ρ _ =>
  (θ_run Cert.Ref1Ideal.defs _ _).mono (fun r h => ⟨fun c => (h c).2.2, Idealize.ShloMosaic.sem_eq_zero_of_no_sems (by decide) r.2⟩)
    (Cert.Ref1Ideal.Own.run m ρ)

/-- Dilation 1: the masked scores' constant stands for `-∞`. -/
theorem preserves1 : Cert.preserves_Dil1_Dil1Ideal := IdealRules.named_const.statement Cert.Dil1Ideal.κ "mask" .f32 0xF149F2CA#32 ⊥ rfl

/-- Dilation 1: the kernel's two arrays are the reference's. -/
theorem algebraic1 : Cert.algebraic_Dil1Ideal_Ref1Ideal (hDil1Ideal := Cert.Dil1Ideal.Gen.facts) (hRef1Ideal := Cert.Ref1Ideal.Gen.facts) := by
  intro m g m' g' _ hag
  refine ⟨Cert.Dil1Ideal.Own.res5 m, Cert.Dil1Ideal.Own.res6 m, Cert.Dil1Ideal.Own.run m g, ?_⟩
  refine (θ_run Cert.Ref1Ideal.defs _ _).mono (fun r h c => ⟨(h c).1.trans ?_, (h c).2.1.trans ?_, (h c).2.2⟩) (Cert.Ref1Ideal.Own.run m' g')
  · rw [(hag c).1, (hag c).2]; rfl
  · rw [(hag c).1, (hag c).2]; rfl

/-- Dilation 4: the reference runs, leaves its arguments, and uses no semaphore. -/
theorem frame_ref4 : Cert.quiescent_Ref4Ideal (hRef4Ideal := Cert.Ref4Ideal.Gen.facts) := fun m ρ _ =>
  (θ_run Cert.Ref4Ideal.defs _ _).mono (fun r h => ⟨fun c => (h c).2.2, Idealize.ShloMosaic.sem_eq_zero_of_no_sems (by decide) r.2⟩)
    (Cert.Ref4Ideal.Own.run m ρ)

/-- Dilation 4: the masked scores' constant stands for `-∞`. -/
theorem preserves4 : Cert.preserves_Dil4_Dil4Ideal := IdealRules.named_const.statement Cert.Dil4Ideal.κ "mask" .f32 0xF149F2CA#32 ⊥ rfl

/-- Dilation 4: the kernel's two arrays are the reference's. -/
theorem algebraic4 : Cert.algebraic_Dil4Ideal_Ref4Ideal (hDil4Ideal := Cert.Dil4Ideal.Gen.facts) (hRef4Ideal := Cert.Ref4Ideal.Gen.facts) := by
  intro m g m' g' _ hag
  refine ⟨Cert.Dil4Ideal.Own.res5 m, Cert.Dil4Ideal.Own.res6 m, Cert.Dil4Ideal.Own.run m g, ?_⟩
  refine (θ_run Cert.Ref4Ideal.defs _ _).mono (fun r h c => ⟨(h c).1.trans ?_, (h c).2.1.trans ?_, (h c).2.2⟩) (Cert.Ref4Ideal.Own.run m' g')
  · rw [(hag c).1, (hag c).2]; rfl
  · rw [(hag c).1, (hag c).2]; rfl

/-- Dilation 16: the reference runs, leaves its arguments, and uses no semaphore. -/
theorem frame_ref16 : Cert.quiescent_Ref16Ideal (hRef16Ideal := Cert.Ref16Ideal.Gen.facts) := fun m ρ _ =>
  (θ_run Cert.Ref16Ideal.defs _ _).mono (fun r h => ⟨fun c => (h c).2.2, Idealize.ShloMosaic.sem_eq_zero_of_no_sems (by decide) r.2⟩)
    (Cert.Ref16Ideal.Own.run m ρ)

/-- Dilation 16: the masked scores' constant stands for `-∞`. -/
theorem preserves16 : Cert.preserves_Dil16_Dil16Ideal := IdealRules.named_const.statement Cert.Dil16Ideal.κ "mask" .f32 0xF149F2CA#32 ⊥ rfl

/-- Dilation 16: the kernel's two arrays are the reference's. -/
theorem algebraic16 : Cert.algebraic_Dil16Ideal_Ref16Ideal (hDil16Ideal := Cert.Dil16Ideal.Gen.facts) (hRef16Ideal := Cert.Ref16Ideal.Gen.facts) := by
  intro m g m' g' _ hag
  refine ⟨Cert.Dil16Ideal.Own.res5 m, Cert.Dil16Ideal.Own.res6 m, Cert.Dil16Ideal.Own.run m g, ?_⟩
  refine (θ_run Cert.Ref16Ideal.defs _ _).mono (fun r h c => ⟨(h c).1.trans ?_, (h c).2.1.trans ?_, (h c).2.2⟩) (Cert.Ref16Ideal.Own.run m' g')
  · rw [(hag c).1, (hag c).2]; rfl
  · rw [(hag c).1, (hag c).2]; rfl

/-- The block that ends the odd layer: the reference runs, leaves its arguments, and uses no semaphore. -/
theorem frameRefPost : Cert.quiescent_RefPostIdeal (hRefPostIdeal := Cert.RefPostIdeal.Gen.facts) := fun m ρ _ =>
  (θ_run Cert.RefPostIdeal.defs _ _).mono (fun r h => ⟨fun c => (h c).2, Idealize.ShloMosaic.sem_eq_zero_of_no_sems (by decide) r.2⟩)
    (Cert.RefPostIdeal.Own.run m ρ)

/-- The block that ends the odd layer: nothing is rewritten. -/
theorem preservesPost : Cert.preserves_Post_PostIdeal := trivial

/-- The block that ends the odd layer: the kernel's array is the reference's. -/
theorem algebraicPost : Cert.algebraic_PostIdeal_RefPostIdeal (hPostIdeal := Cert.PostIdeal.Gen.facts) (hRefPostIdeal := Cert.RefPostIdeal.Gen.facts) := by
  intro m g m' g' _ hag
  refine ⟨Cert.PostIdeal.Own.res m, Cert.PostIdeal.Own.run m g, ?_⟩
  refine (θ_run Cert.RefPostIdeal.defs _ _).mono (fun r h c => ⟨(h c).1.trans ?_, (h c).2⟩) (Cert.RefPostIdeal.Own.run m' g')
  obtain ⟨e0, e1, e2, e3, e4, e5, e6, e7, e8, e9, e10, e11, e12, e13, e14⟩ := hag c
  rw [e0, e1, e2, e3, e4, e5, e6, e7, e8, e9, e10, e11, e12, e13, e14]
  rfl

/-- The block that ends the odd layer for the sampled tokens: the reference runs, leaves its arguments, and uses no semaphore. -/
theorem frameRefPostS : Cert.quiescent_RefPostSIdeal (hRefPostSIdeal := Cert.RefPostSIdeal.Gen.facts) := fun m ρ _ =>
  (θ_run Cert.RefPostSIdeal.defs _ _).mono (fun r h => ⟨fun c => (h c).2, Idealize.ShloMosaic.sem_eq_zero_of_no_sems (by decide) r.2⟩)
    (Cert.RefPostSIdeal.Own.run m ρ)

/-- The block that ends the odd layer for the sampled tokens: nothing is rewritten. -/
theorem preservesPostS : Cert.preserves_PostS_PostSIdeal := trivial

/-- The block that ends the odd layer for the sampled tokens: the kernel's array is the reference's. -/
theorem algebraicPostS : Cert.algebraic_PostSIdeal_RefPostSIdeal (hPostSIdeal := Cert.PostSIdeal.Gen.facts) (hRefPostSIdeal := Cert.RefPostSIdeal.Gen.facts) := by
  intro m g m' g' _ hag
  refine ⟨Cert.PostSIdeal.Own.res m, Cert.PostSIdeal.Own.run m g, ?_⟩
  refine (θ_run Cert.RefPostSIdeal.defs _ _).mono (fun r h c => ⟨(h c).1.trans ?_, (h c).2⟩) (Cert.RefPostSIdeal.Own.run m' g')
  obtain ⟨e0, e1, e2, e3, e4, e5, e6, e7, e8, e9⟩ := hag c
  rw [e0, e1, e2, e3, e4, e5, e6, e7, e8, e9]
  rfl

/-- The odd layer's input projection: the reference runs, leaves its arguments, and uses no semaphore. -/
theorem frameRefProjC : Cert.quiescent_RefProjCIdeal (hRefProjCIdeal := Cert.RefProjCIdeal.Gen.facts) := fun m ρ _ =>
  (θ_run Cert.RefProjCIdeal.defs _ _).mono (fun r h => ⟨fun c => (h c).2.2.2.2.2.2.2.2.2, Idealize.ShloMosaic.sem_eq_zero_of_no_sems (by decide) r.2⟩)
    (Cert.RefProjCIdeal.Own.run m ρ)

/-- The odd layer's input projection: nothing is rewritten. -/
theorem preservesProjC : Cert.preserves_ProjC_ProjCIdeal := trivial

/-- The odd layer's input projection: the kernel's nine arrays (queries, rows and last rows of each dilation) are the reference's. -/
theorem algebraicProjC : Cert.algebraic_ProjCIdeal_RefProjCIdeal (hProjCIdeal := Cert.ProjCIdeal.Gen.facts) (hRefProjCIdeal := Cert.RefProjCIdeal.Gen.facts) := by
  intro m g m' g' _ hag
  refine ⟨Cert.ProjCIdeal.Own.res7 m, Cert.ProjCIdeal.Own.res8 m, Cert.ProjCIdeal.Own.res9 m, Cert.ProjCIdeal.Own.res10 m, Cert.ProjCIdeal.Own.res11 m, Cert.ProjCIdeal.Own.res12 m, Cert.ProjCIdeal.Own.res13 m, Cert.ProjCIdeal.Own.res14 m, Cert.ProjCIdeal.Own.res15 m, Cert.ProjCIdeal.Own.run m g, ?_⟩
  refine (θ_run Cert.RefProjCIdeal.defs _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2.1.trans ?_, (h c).2.2.2.2.2.2.2.2.2⟩) (Cert.RefProjCIdeal.Own.run m' g')
  all_goals
    obtain ⟨e0, e1, e2, e3⟩ := hag c
    rw [e0, e1, e2, e3]
    rfl

/-- The even layer's input projection: the reference runs, leaves its arguments, and uses no semaphore. -/
theorem frameRefProjA : Cert.quiescent_RefProjAIdeal (hRefProjAIdeal := Cert.RefProjAIdeal.Gen.facts) := fun m ρ _ =>
  (θ_run Cert.RefProjAIdeal.defs _ _).mono (fun r h => ⟨fun c => (h c).2.2.2.2.2.2.2.2.2.2.2.2, Idealize.ShloMosaic.sem_eq_zero_of_no_sems (by decide) r.2⟩)
    (Cert.RefProjAIdeal.Own.run m ρ)

/-- The even layer's input projection: nothing is rewritten. -/
theorem preservesProjA : Cert.preserves_ProjA_ProjAIdeal := trivial

/-- The even layer's input projection: the kernel's twelve arrays (the linear attention's inputs, the queries, the gates and the rows) are the reference's. -/
theorem algebraicProjA : Cert.algebraic_ProjAIdeal_RefProjAIdeal (hProjAIdeal := Cert.ProjAIdeal.Gen.facts) (hRefProjAIdeal := Cert.RefProjAIdeal.Gen.facts) := by
  intro m g m' g' _ hag
  refine ⟨Cert.ProjAIdeal.Own.res8 m, Cert.ProjAIdeal.Own.res9 m, Cert.ProjAIdeal.Own.res10 m, Cert.ProjAIdeal.Own.res11 m, Cert.ProjAIdeal.Own.res12 m, Cert.ProjAIdeal.Own.res13 m, Cert.ProjAIdeal.Own.res14 m, Cert.ProjAIdeal.Own.res15 m, Cert.ProjAIdeal.Own.res16 m, Cert.ProjAIdeal.Own.res17 m, Cert.ProjAIdeal.Own.res18 m, Cert.ProjAIdeal.Own.res19 m, Cert.ProjAIdeal.Own.run m g, ?_⟩
  refine (θ_run Cert.RefProjAIdeal.defs _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2.1.trans ?_, (h c).2.2.2.2.2.2.2.2.2.1.trans ?_, (h c).2.2.2.2.2.2.2.2.2.2.1.trans ?_, (h c).2.2.2.2.2.2.2.2.2.2.2.1.trans ?_, (h c).2.2.2.2.2.2.2.2.2.2.2.2⟩) (Cert.RefProjAIdeal.Own.run m' g')
  all_goals
    obtain ⟨e0, e1, e2, e3, e4, e5⟩ := hag c
    first | rw [e0, e1, e2, e3, e4] | rw [e0, e1, e2, e5] | rw [e0, e1, e2]
    rfl

/-- The certificate's claim. -/
theorem claim : Cert.Claim := ⟨Cert.Dil1.Gen.facts, Cert.Dil1Ideal.Gen.facts, Cert.Ref1Ideal.Gen.facts, Cert.Dil4.Gen.facts, Cert.Dil4Ideal.Gen.facts, Cert.Ref4Ideal.Gen.facts, Cert.Dil16.Gen.facts, Cert.Dil16Ideal.Gen.facts, Cert.Ref16Ideal.Gen.facts, Cert.Post.Gen.facts, Cert.PostIdeal.Gen.facts, Cert.RefPostIdeal.Gen.facts, Cert.PostS.Gen.facts, Cert.PostSIdeal.Gen.facts, Cert.RefPostSIdeal.Gen.facts, Cert.ProjC.Gen.facts, Cert.ProjCIdeal.Gen.facts, Cert.RefProjCIdeal.Gen.facts, Cert.ProjA.Gen.facts, Cert.ProjAIdeal.Gen.facts, Cert.RefProjAIdeal.Gen.facts,
  fun m ρ _ => Cert.Dil1.Gen.frame m ρ, fun m ρ _ => Cert.Dil1Ideal.Gen.frame m ρ, frame_ref1,
  fun m ρ _ => Cert.Dil4.Gen.frame m ρ, fun m ρ _ => Cert.Dil4Ideal.Gen.frame m ρ, frame_ref4,
  fun m ρ _ => Cert.Dil16.Gen.frame m ρ, fun m ρ _ => Cert.Dil16Ideal.Gen.frame m ρ, frame_ref16,
  fun m ρ _ => Cert.Post.Gen.frame m ρ, fun m ρ _ => Cert.PostIdeal.Gen.frame m ρ, frameRefPost,
  fun m ρ _ => Cert.PostS.Gen.frame m ρ, fun m ρ _ => Cert.PostSIdeal.Gen.frame m ρ, frameRefPostS,
  fun m ρ _ => Cert.ProjC.Gen.frame m ρ, fun m ρ _ => Cert.ProjCIdeal.Gen.frame m ρ, frameRefProjC,
  fun m ρ _ => Cert.ProjA.Gen.frame m ρ, fun m ρ _ => Cert.ProjAIdeal.Gen.frame m ρ, frameRefProjA,
  preserves1, algebraic1, preserves4, algebraic4, preserves16, algebraic16, preservesPost, algebraicPost, preservesPostS, algebraicPostS, preservesProjC, algebraicProjC, preservesProjA, algebraicProjA⟩

end Cert.Proof

end
